-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v60) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v18) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)) (v3 : (c : Dev Cert.Kernel6Ideal.nD) → Buf (Elt Ideal) ((c.tc : Thread Cert.Kernel6Ideal.nD Cert.Kernel6Ideal.τ).loc Cert.Kernel6Ideal.main_v1_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_v1_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_v16) = v1 c
          ∧ r.2.mem ((c.tc : Thread Cert.Reference6Ideal.nD Cert.Reference6Ideal.τ).loc Cert.Reference6Ideal.main_v17) = v2 c
          ∧ r.2.mem ((c.tc : Thread Cert.Reference6Ideal.nD Cert.Reference6Ideal.τ).loc Cert.Reference6Ideal.main_v18) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)) (v3 : (c : Dev Cert.Kernel7Ideal.nD) → Buf (Elt Ideal) ((c.tc : Thread Cert.Kernel7Ideal.nD Cert.Kernel7Ideal.τ).loc Cert.Kernel7Ideal.main_v2_3)) (v4 : (c : Dev Cert.Kernel7Ideal.nD) → Buf (Elt Ideal) ((c.tc : Thread Cert.Kernel7Ideal.nD Cert.Kernel7Ideal.τ).loc Cert.Kernel7Ideal.main_v2_4)) (v5 : (c : Dev Cert.Kernel7Ideal.nD) → Buf (Elt Ideal) ((c.tc : Thread Cert.Kernel7Ideal.nD Cert.Kernel7Ideal.τ).loc Cert.Kernel7Ideal.main_v2_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_v2_3) = v3 c
          ∧ r.2.mem ((c.tc : Thread Cert.Kernel7Ideal.nD Cert.Kernel7Ideal.τ).loc Cert.Kernel7Ideal.main_v2_4) = v4 c
          ∧ r.2.mem ((c.tc : Thread Cert.Kernel7Ideal.nD Cert.Kernel7Ideal.τ).loc Cert.Kernel7Ideal.main_v2_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v60) = v0 c
          ∧ r.2.mem ((c.tc : Thread Cert.Reference7Ideal.nD Cert.Reference7Ideal.τ).loc Cert.Reference7Ideal.main_v68) = v1 c
          ∧ r.2.mem ((c.tc : Thread Cert.Reference7Ideal.nD Cert.Reference7Ideal.τ).loc Cert.Reference7Ideal.main_v69) = v2 c
          ∧ r.2.mem ((c.tc : Thread Cert.Reference7Ideal.nD Cert.Reference7Ideal.τ).loc Cert.Reference7Ideal.main_v70) = v3 c
          ∧ r.2.mem ((c.tc : Thread Cert.Reference7Ideal.nD Cert.Reference7Ideal.τ).loc Cert.Reference7Ideal.main_v72) = v4 c
          ∧ r.2.mem ((c.tc : Thread Cert.Reference7Ideal.nD Cert.Reference7Ideal.τ).loc Cert.Reference7Ideal.main_v73) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v85) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite3 : Cert.Pre_finite3.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
-- ==== Pre_finite.lean ====
abbrev S32768x6144 : Shape := ⟨2, ![32768, 6144]⟩
abbrev S32768x128 : Shape := ⟨2, ![32768, 128]⟩
abbrev S16x1024 : Shape := ⟨2, ![16, 1024]⟩
abbrev S1024 : Shape := ⟨1, ![1024]⟩
abbrev S_ : Shape := ⟨0, ![]⟩

class Facts : Prop where
  bitsLt_bf16_f32 : FTy.bits .bf16 < FTy.bits .f32
  bcast_S_S32768x6144 : S_.BroadcastsInDim S32768x6144 (![] : Fin 0 → Fin S32768x6144.rank)
  reducesTo_S32768x6144_S_d0_1 : S32768x6144.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_
  bcast_S_S16x1024 : S_.BroadcastsInDim S16x1024 (![] : Fin 0 → Fin S16x1024.rank)
  reducesTo_S16x1024_S_d0_1 : S16x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  main_v20

def fn {F : FTy → Type} [FloatOps F] (main_arg0 : FVec F S32768x6144 .bf16) (main_arg1 : FVec F S32768x128 .bf16) (main_arg2 : FVec F S16x1024 .f32) (main_arg3 : FVec F S1024 .f32) : IVec S_ 1 :=
  let main_v0 : FVec F S32768x6144 .f32 := (extf .f32 · bitsLt_bf16_f32) main_arg0
  let main_v1 : FVec F S32768x6144 .f32 := Host.absf main_v0
  let main_cst : FVec F S_ .f32 := constant S_ .f32 0x7F800000#32
  let main_v2 : FVec F S32768x6144 .f32 := broadcastInDim S32768x6144 ![] bcast_S_S32768x6144 main_cst
  let main_v3 : IVec S32768x6144 1 := cmpf .olt main_v1 main_v2
  let main_c : IVec S_ 1 := constantI S_ 1 1#1
  let main_v4 : IVec S_ 1 := (fun x v => Host.reduce IntOp.andi x v reducesTo_S32768x6144_S_d0_1 h_S_) main_v3 main_c
  let main_v5 : FVec F S32768x128 .f32 := (extf .f32 · bitsLt_bf16_f32) main_arg1
  let main_v6 : FVec F S32768x128 .f32 := Host.absf main_v5
  let main_cst_0 : FVec F S_ .f32 := constant S_ .f32 0x7F800000#32
  let main_v7 : FVec F S32768x128 .f32 := broadcastInDim S32768x128 ![] bcast_S_S32768x128 main_cst_0
  let main_v8 : IVec S32768x128 1 := cmpf .olt main_v6 main_v7
  let main_c_1 : IVec S_ 1 := constantI S_ 1 1#1
  let main_v9 : IVec S_ 1 := (fun x v => Host.reduce IntOp.andi x v reducesTo_S32768x128_S_d0_1 h_S_) main_v8 main_c_1
  let main_v10 : IVec S_ 1 := andi main_v4 main_v9
  let main_v11 : FVec F S16x1024 .f32 := Host.absf main_arg2
  let main_cst_2 : FVec F S_ .f32 := constant S_ .f32 0x7F800000#32
  let main_v12 : FVec F S16x1024 .f32 := broadcastInDim S16x1024 ![] bcast_S_S16x1024 main_cst_2
  let main_v13 : IVec S16x1024 1 := cmpf .olt main_v11 main_v12
  let main_c_3 : IVec S_ 1 := constantI S_ 1 1#1
  let main_v14 : IVec S_ 1 := (fun x v => Host.reduce IntOp.andi x v reducesTo_S16x1024_S_d0_1 h_S_) main_v13 main_c_3
  let main_v15 : IVec S_ 1 := andi main_v10 main_v14
  let main_v16 : FVec F S1024 .f32 := Host.absf main_arg3
  let main_cst_4 : FVec F S_ .f32 := constant S_ .f32 0x7F800000#32
  fn_part1 (F := F) main_v15 main_v16 main_cst_4
-- ==== Pre_finite3.lean ====
abbrev S32768x2048 : Shape := ⟨2, ![32768, 2048]⟩
abbrev S2048 : Shape := ⟨1, ![2048]⟩
abbrev S2x2048x2048 : Shape := ⟨3, ![2, 2048, 2048]⟩
abbrev S2x512x2048 : Shape := ⟨3, ![2, 512, 2048]⟩
abbrev S_ : Shape := ⟨0, ![]⟩
abbrev S1x2048x2048 : Shape := ⟨3, ![1, 2048, 2048]⟩
abbrev S2048x2048 : Shape := ⟨2, ![2048, 2048]⟩
abbrev S1x512x2048 : Shape := ⟨3, ![1, 512, 2048]⟩
abbrev S512x2048 : Shape := ⟨2, ![512, 2048]⟩

class Facts : Prop where
  bcast_S_S2048 : S_.BroadcastsInDim S2048 (![] : Fin 0 → Fin S2048.rank)
  reducesTo_S2048_S_d0 : S2048.ReducesTo [0] S_
  h_S_ : 0 < S_.numel
  slices_S2x2048x2048_S1x2048x2048_1_0_0 : S2x2048x2048.Slices ![1, 0, 0] S1x2048x2048
  shapeCasts_S1x2048x2048_S2048x2048 : S1x2048x2048.ShapeCasts S2048x2048
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  slices_S2x512x2048_S1x512x2048_1_0_0 : S2x512x2048.Slices ![1, 0, 0] S1x512x2048
  shapeCasts_S1x512x2048_S512x2048 : S1x512x2048.ShapeCasts S512x2048
  bcast_S_S512x2048 : S_.BroadcastsInDim S512x2048 (![] : Fin 0 → Fin S512x2048.rank)
  reducesTo_S512x2048_S_d0_1 : S512x2048.ReducesTo [0, 1] S_

variable [Facts]

def fn_part1 {F : FTy → Type} [FloatOps F] (main_v11 : IVec S_ 1) (main_v17 : IVec S512x2048 1) (main_c_3 : IVec S_ 1) : IVec S_ 1 :=
  let main_v18 : IVec S_ 1 := (fun x v => Host.reduce IntOp.andi x v reducesTo_S512x2048_S_d0_1 h_S_) main_v17 main_c_3
  let main_v19 : IVec S_ 1 := andi main_v11 main_v18
  main_v19

def fn {F : FTy → Type} [FloatOps F] (main_arg0 : FVec F S32768x2048 .f32) (main_arg1 : FVec F S2048 .f32) (main_arg2 : FVec F S2x2048x2048 .bf16) (main_arg3 : FVec F S2x512x2048 .bf16) (main_arg4 : FVec F S2x512x2048 .bf16) (main_arg5 : FVec F S2x2048x2048 .bf16) (main_arg6 : FVec F S2048 .f32) : IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S1x2048x2048 .bf16 := (extractStridedSlice S1x2048x2048 ![1, 0, 0] · slices_S2x2048x2048_S1x2048x2048_1_0_0) main_arg2
  let main_v5 : FVec F S2048x2048 .bf16 := shapeCast S2048x2048 main_v4 shapeCasts_S1x2048x2048_S2048x2048
  let main_v6 : FVec F S2048x2048 .f32 := (extf .f32 · bitsLt_bf16_f32) main_v5
  let main_v7 : FVec F S2048x2048 .f32 := Host.absf main_v6
  let main_cst_0 : FVec F S_ .f32 := constant S_ .f32 0x7F800000#32
  let main_v8 : FVec F S2048x2048 .f32 := broadcastInDim S2048x2048 ![] bcast_S_S2048x2048 main_cst_0
  let main_v9 : IVec S2048x2048 1 := cmpf .olt main_v7 main_v8
  let main_c_1 : IVec S_ 1 := constantI S_ 1 1#1
  let main_v10 : IVec S_ 1 := (fun x v => Host.reduce IntOp.andi x v reducesTo_S2048x2048_S_d0_1 h_S_) main_v9 main_c_1
  let main_v11 : IVec S_ 1 := andi main_v3 main_v10
  let main_v12 : FVec F S1x512x2048 .bf16 := (extractStridedSlice S1x512x2048 ![1, 0, 0] · slices_S2x512x2048_S1x512x2048_1_0_0) main_arg3
  let main_v13 : FVec F S512x2048 .bf16 := shapeCast S512x2048 main_v12 shapeCasts_S1x512x2048_S512x2048
  let main_v14 : FVec F S512x2048 .f32 := (extf .f32 · bitsLt_bf16_f32) main_v13
  let main_v15 : FVec F S512x2048 .f32 := Host.absf main_v14
  let main_cst_2 : FVec F S_ .f32 := constant S_ .f32 0x7F800000#32
  let main_v16 : FVec F S512x2048 .f32 := broadcastInDim S512x2048 ![] bcast_S_S512x2048 main_cst_2
  let main_v17 : IVec S512x2048 1 := cmpf .olt main_v15 main_v16
  let main_c_3 : IVec S_ 1 := constantI S_ 1 1#1
  fn_part1 (F := F) main_v11 main_v17 main_c_3
-- ==== Pre_finite7.lean ====
abbrev S32768x2048 : Shape := ⟨2, ![32768, 2048]⟩
abbrev S2048 : Shape := ⟨1, ![2048]⟩
abbrev S2x2048x2048 : Shape := ⟨3, ![2, 2048, 2048]⟩
abbrev S2x512x2048 : Shape := ⟨3, ![2, 512, 2048]⟩
abbrev S2x2048x5632 : Shape := ⟨3, ![2, 2048, 5632]⟩
abbrev S2x5632x2048 : Shape := ⟨3, ![2, 5632, 2048]⟩
abbrev S1x2048x6160 : Shape := ⟨3, ![1, 2048, 6160]⟩
abbrev S1x2048x2048 : Shape := ⟨3, ![1, 2048, 2048]⟩
abbrev S_ : Shape := ⟨0, ![]⟩
abbrev S2048x2048 : Shape := ⟨2, ![2048, 2048]⟩
abbrev S1x512x2048 : Shape := ⟨3, ![1, 512, 2048]⟩
abbrev S512x2048 : Shape := ⟨2, ![512, 2048]⟩

class Facts : Prop where
  bcast_S_S2048 : S_.BroadcastsInDim S2048 (![] : Fin 0 → Fin S2048.rank)
  reducesTo_S2048_S_d0 : S2048.ReducesTo [0] S_
  h_S_ : 0 < S_.numel
  slices_S2x2048x2048_S1x2048x2048_0_0_0 : S2x2048x2048.Slices ![0, 0, 0] S1x2048x2048
  shapeCasts_S1x2048x2048_S2048x2048 : S1x2048x2048.ShapeCasts S2048x2048
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  slices_S2x512x2048_S1x512x2048_0_0_0 : S2x512x2048.Slices ![0, 0, 0] S1x512x2048
  shapeCasts_S1x512x2048_S512x2048 : S1x512x2048.ShapeCasts S512x2048
  bcast_S_S512x2048 : S_.BroadcastsInDim S512x2048 (![] : Fin 0 → Fin S512x2048.rank)
  reducesTo_S512x2048_S_d0_1 : S512x2048.ReducesTo [0, 1] S_

variable [Facts]

def fn_part1 {F : FTy → Type} [FloatOps F] (main_v11 : IVec S_ 1) (main_v17 : IVec S512x2048 1) (main_c_3 : IVec S_ 1) : IVec S_ 1 :=
  let main_v18 : IVec S_ 1 := (fun x v => Host.reduce IntOp.andi x v reducesTo_S512x2048_S_d0_1 h_S_) main_v17 main_c_3
  let main_v19 : IVec S_ 1 := andi main_v11 main_v18
  main_v19

def fn {F : FTy → Type} [FloatOps F] (main_arg0 : FVec F S32768x2048 .f32) (main_arg1 : FVec F S2048 .f32) (main_arg2 : FVec F S2x2048x2048 .bf16) (main_arg3 : FVec F S2x512x2048 .bf16) (main_arg4 : FVec F S2x512x2048 .bf16) (main_arg5 : FVec F S2x2048x2048 .bf16) (main_arg6 : FVec F S2048 .f32) (main_arg7 : FVec F S2x2048x5632 .f32) (main_arg8 : FVec F S2x2048x5632 .f32) (main_arg9 : FVec F S2x5632x2048 .f32) (main_arg10 : FVec F S1x2048x6160 .f32) (main_arg11 : FVec F S1x2048x2048 .f32) : IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S1x2048x2048 .bf16 := (extractStridedSlice S1x2048x2048 ![0, 0, 0] · slices_S2x2048x2048_S1x2048x2048_0_0_0) main_arg2
  let main_v5 : FVec F S2048x2048 .bf16 := shapeCast S2048x2048 main_v4 shapeCasts_S1x2048x2048_S2048x2048
  let main_v6 : FVec F S2048x2048 .f32 := (extf .f32 · bitsLt_bf16_f32) main_v5
  let main_v7 : FVec F S2048x2048 .f32 := Host.absf main_v6
  let main_cst_0 : FVec F S_ .f32 := constant S_ .f32 0x7F800000#32
  let main_v8 : FVec F S2048x2048 .f32 := broadcastInDim S2048x2048 ![] bcast_S_S2048x2048 main_cst_0
  let main_v9 : IVec S2048x2048 1 := cmpf .olt main_v7 main_v8
  let main_c_1 : IVec S_ 1 := constantI S_ 1 1#1
  let main_v10 : IVec S_ 1 := (fun x v => Host.reduce IntOp.andi x v reducesTo_S2048x2048_S_d0_1 h_S_) main_v9 main_c_1
  let main_v11 : IVec S_ 1 := andi main_v3 main_v10
  let main_v12 : FVec F S1x512x2048 .bf16 := (extractStridedSlice S1x512x2048 ![0, 0, 0] · slices_S2x512x2048_S1x512x2048_0_0_0) main_arg3
  let main_v13 : FVec F S512x2048 .bf16 := shapeCast S512x2048 main_v12 shapeCasts_S1x512x2048_S512x2048
  let main_v14 : FVec F S512x2048 .f32 := (extf .f32 · bitsLt_bf16_f32) main_v13
  let main_v15 : FVec F S512x2048 .f32 := Host.absf main_v14
  let main_cst_2 : FVec F S_ .f32 := constant S_ .f32 0x7F800000#32
  let main_v16 : FVec F S512x2048 .f32 := broadcastInDim S512x2048 ![] bcast_S_S512x2048 main_cst_2
  let main_v17 : IVec S512x2048 1 := cmpf .olt main_v15 main_v16
  let main_c_3 : IVec S_ 1 := constantI S_ 1 1#1
  fn_part1 (F := F) main_v11 main_v17 main_c_3
-- ==== Kernel.lean ====
abbrev S32768x6144 : Shape := ⟨2, ![32768, 6144]⟩
abbrev S32768x128 : Shape := ⟨2, ![32768, 128]⟩
abbrev S16x1024 : Shape := ⟨2, ![16, 1024]⟩
abbrev S1024 : Shape := ⟨1, ![1024]⟩
abbrev S_ : Shape := ⟨0, ![]⟩
abbrev S128x1024 : Shape := ⟨2, ![128, 1024]⟩
abbrev S1x1024 : Shape := ⟨2, ![1, 1024]⟩
abbrev S32768x2048 : Shape := ⟨2, ![32768, 2048]⟩
abbrev S1024x512 : Shape := ⟨2, ![1024, 512]⟩
abbrev S1024x1024 : Shape := ⟨2, ![1024, 1024]⟩
abbrev S1024x128 : Shape := ⟨2, ![1024, 128]⟩
abbrev S128x512 : Shape := ⟨2, ![128, 512]⟩
abbrev S1x512 : Shape := ⟨2, ![1, 512]⟩
abbrev S2x256x512 : Shape := ⟨3, ![2, 256, 512]⟩
abbrev S64x64 : Shape := ⟨2, ![64, 64]⟩
abbrev S64x128 : Shape := ⟨2, ![64, 128]⟩
abbrev S1x256x512 : Shape := ⟨3, ![1, 256, 512]⟩
abbrev S256x512 : Shape := ⟨2, ![256, 512]⟩
abbrev S64x256 : Shape := ⟨2, ![64, 256]⟩
abbrev S128x256 : Shape := ⟨2, ![128, 256]⟩
abbrev S1x256 : Shape := ⟨2, ![1, 256]⟩
abbrev S64x512 : Shape := ⟨2, ![64, 512]⟩
abbrev S256x128 : Shape := ⟨2, ![256, 128]⟩
abbrev S256x1 : Shape := ⟨2, ![256, 1]⟩

abbrev nBuf : Space → Nat
  | .hbm => 10
  | .vmem => 15
  | .smem => 0
  | _ => 0

abbrev bufTy : (tb : Table) → Fin (tcTables nBuf tb) → BufTy
  | .hbm, ⟨0, _⟩ => ⟨S32768x6144, .bf16⟩
  | .hbm, ⟨1, _⟩ => ⟨S32768x128, .bf16⟩
  | .hbm, ⟨2, _⟩ => ⟨S16x1024, .f32⟩
  | .hbm, ⟨3, _⟩ => ⟨S1024, .f32⟩
  | .hbm, ⟨4, _⟩ => ⟨S16x1024, .bf16⟩
  | .hbm, ⟨5, _⟩ => ⟨S_, .i32⟩
  | .hbm, ⟨6, _⟩ => ⟨S_, .bf16⟩
  | .hbm, ⟨7, _⟩ => ⟨S128x1024, .bf16⟩
  | .hbm, ⟨8, _⟩ => ⟨S1x1024, .f32⟩
  | .hbm, ⟨9, _⟩ => ⟨S32768x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x128, .bf16⟩
  | .local _ .vmem, ⟨7, _⟩ => ⟨S1024x128, .bf16⟩
  | .local _ .vmem, ⟨8, _⟩ => ⟨S128x512, .bf16⟩
  | .local _ .vmem, ⟨9, _⟩ => ⟨S128x512, .bf16⟩
  | .local _ .vmem, ⟨10, _⟩ => ⟨S1x512, .f32⟩
  | .local _ .vmem, ⟨11, _⟩ => ⟨S1x512, .f32⟩
  | .local _ .vmem, ⟨12, _⟩ => ⟨S1024x1024, .bf16⟩
  | .local _ .vmem, ⟨13, _⟩ => ⟨S1024x1024, .bf16⟩
  | .local _ .vmem, ⟨14, _⟩ => ⟨S2x256x512, .f32⟩
  | _, _ => ⟨S32768x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S32768x6144 : Shape := ⟨2, ![32768, 6144]⟩
abbrev S32768x128 : Shape := ⟨2, ![32768, 128]⟩
abbrev S16x1024 : Shape := ⟨2, ![16, 1024]⟩
abbrev S1024 : Shape := ⟨1, ![1024]⟩
abbrev S32768x1024 : Shape := ⟨2, ![32768, 1024]⟩
abbrev S32768x2048 : Shape := ⟨2, ![32768, 2048]⟩
abbrev S32768x16 : Shape := ⟨2, ![32768, 16]⟩
abbrev S1x1024 : Shape := ⟨2, ![1, 1024]⟩
abbrev S_ : Shape := ⟨0, ![]⟩
abbrev S2x256x64x4x256 : Shape := ⟨5, ![2, 256, 64, 4, 256]⟩
abbrev S256x2x4x64x256 : Shape := ⟨5, ![256, 2, 4, 64, 256]⟩
abbrev S2x256x64x4x512 : Shape := ⟨5, ![2, 256, 64, 4, 512]⟩
abbrev S256x2x4x64x512 : Shape := ⟨5, ![256, 2, 4, 64, 512]⟩
abbrev S256x2x4x1x256 : Shape := ⟨5, ![256, 2, 4, 1, 256]⟩
abbrev S256x2x4x64x64 : Shape := ⟨5, ![256, 2, 4, 64, 64]⟩
abbrev S64x64 : Shape := ⟨2, ![64, 64]⟩
abbrev S256x2x4x256 : Shape := ⟨4, ![256, 2, 4, 256]⟩
abbrev S2x4x256x512 : Shape := ⟨4, ![2, 4, 256, 512]⟩
abbrev S1x2x4x64x256 : Shape := ⟨5, ![1, 2, 4, 64, 256]⟩
abbrev S2x4x64x256 : Shape := ⟨4, ![2, 4, 64, 256]⟩
abbrev S1x2x4x64x512 : Shape := ⟨5, ![1, 2, 4, 64, 512]⟩
abbrev S2x4x64x512 : Shape := ⟨4, ![2, 4, 64, 512]⟩
abbrev S1x2x4x256 : Shape := ⟨4, ![1, 2, 4, 256]⟩
abbrev S2x4x256 : Shape := ⟨3, ![2, 4, 256]⟩
abbrev S2x4x256x1 : Shape := ⟨4, ![2, 4, 256, 1]⟩

abbrev nBuf : Space → Nat
  | .hbm => 147
  | .vmem => 0
  | .smem => 0
  | _ => 0

abbrev hbmTy0_0 (i : Nat) : BufTy := match i % 128 with
  | 0 => ⟨S32768x6144, .bf16⟩
  | 1 => ⟨S32768x128, .bf16⟩
  | 2 => ⟨S16x1024, .f32⟩
  | 3 => ⟨S1024, .f32⟩
  | 4 => ⟨S32768x1024, .bf16⟩
  | 5 => ⟨S32768x1024, .bf16⟩
  | 6 => ⟨S32768x2048, .bf16⟩
  | 7 => ⟨S32768x16, .bf16⟩
  | 8 => ⟨S32768x16, .f32⟩
  | 9 => ⟨S32768x1024, .f32⟩
  | 10 => ⟨S1x1024, .f32⟩
  | 11 => ⟨S32768x1024, .f32⟩
  | 12 => ⟨S32768x1024, .f32⟩
  | 13 => ⟨S32768x1024, .f32⟩
  | 14 => ⟨S_, .f32⟩
  | 15 => ⟨S32768x1024, .f32⟩
  | 16 => ⟨S32768x1024, .f32⟩
  | 17 => ⟨S32768x1024, .f32⟩
  | 18 => ⟨S32768x1024, .f32⟩
  | 19 => ⟨S32768x1024, .i1⟩
  | 20 => ⟨S32768x1024, .f32⟩
  | 21 => ⟨S32768x1024, .f32⟩
  | 22 => ⟨S32768x1024, .f32⟩
  | 23 => ⟨S32768x1024, .f32⟩
  | 24 => ⟨S32768x1024, .f32⟩
  | 25 => ⟨S32768x1024, .f32⟩
  | 26 => ⟨S32768x1024, .f32⟩
  | 27 => ⟨S32768x1024, .f32⟩
  | 28 => ⟨S32768x1024, .f32⟩
  | 29 => ⟨S_, .f32⟩
  | 30 => ⟨S32768x1024, .f32⟩
  | 31 => ⟨S32768x1024, .f32⟩
  | 32 => ⟨S32768x1024, .f32⟩
  | 33 => ⟨S2x256x64x4x256, .f32⟩
  | 34 => ⟨S256x2x4x64x256, .f32⟩
  | 35 => ⟨S_, .f32⟩
  | 36 => ⟨S256x2x4x64x256, .f32⟩
  | 37 => ⟨S256x2x4x64x256, .f32⟩
  | 38 => ⟨S32768x1024, .f32⟩
  | 39 => ⟨S2x256x64x4x256, .f32⟩
  | 40 => ⟨S256x2x4x64x256, .f32⟩
  | 41 => ⟨S32768x2048, .f32⟩
  | 42 => ⟨S2x256x64x4x512, .f32⟩
  | 43 => ⟨S256x2x4x64x512, .f32⟩
  | 44 => ⟨S2x256x64x4x256, .f32⟩
  | 45 => ⟨S256x2x4x64x256, .f32⟩
  | 46 => ⟨S_, .f32⟩
  | 47 => ⟨S_, .f32⟩
  | 48 => ⟨S256x2x4x64x256, .f32⟩
  | 49 => ⟨S256x2x4x1x256, .f32⟩
  | 50 => ⟨S256x2x4x1x256, .f32⟩
  | 51 => ⟨S256x2x4x64x256, .f32⟩
  | 52 => ⟨S256x2x4x64x256, .f32⟩
  | 53 => ⟨S256x2x4x64x256, .f32⟩
  | 54 => ⟨S256x2x4x64x256, .f32⟩
  | 55 => ⟨S256x2x4x64x256, .f32⟩
  | 56 => ⟨S256x2x4x64x256, .f32⟩
  | 57 => ⟨S256x2x4x64x256, .f32⟩
  | 58 => ⟨S256x2x4x64x256, .f32⟩
  | 59 => ⟨S256x2x4x64x64, .f32⟩
  | 60 => ⟨S_, .i1⟩
  | 61 => ⟨S64x64, .i1⟩
  | 62 => ⟨S64x64, .i32⟩
  | 63 => ⟨S_, .i32⟩
  | 64 => ⟨S64x64, .i32⟩
  | 65 => ⟨S64x64, .i32⟩
  | 66 => ⟨S64x64, .i32⟩
  | 67 => ⟨S64x64, .i1⟩
  | 68 => ⟨S_, .i1⟩
  | 69 => ⟨S64x64, .i1⟩
  | 70 => ⟨S64x64, .i1⟩
  | 71 => ⟨S_, .f32⟩
  | 72 => ⟨S_, .f32⟩
  | 73 => ⟨S256x2x4x64x64, .i1⟩
  | 74 => ⟨S256x2x4x64x64, .f32⟩
  | 75 => ⟨S256x2x4x64x64, .f32⟩
  | 76 => ⟨S256x2x4x64x512, .f32⟩
  | 77 => ⟨S256x2x4x64x256, .f32⟩
  | 78 => ⟨S256x2x4x64x256, .f32⟩
  | 79 => ⟨S256x2x4x64x256, .f32⟩
  | 80 => ⟨S256x2x4x64x256, .f32⟩
  | 81 => ⟨S256x2x4x64x256, .f32⟩
  | 82 => ⟨S256x2x4x64x256, .f32⟩
  | 83 => ⟨S256x2x4x256, .f32⟩
  | 84 => ⟨S256x2x4x256, .f32⟩
  | 85 => ⟨S_, .f32⟩
  | 86 => ⟨S2x4x256x512, .f32⟩
  | 87 => ⟨S_, .f32⟩
  | 88 => ⟨S256x2x4x64x512, .f32⟩
  | 89 => ⟨S_, .i32⟩
  | 90 => ⟨S256x2x4x64x256, .f32⟩
  | 91 => ⟨S256x2x4x64x256, .f32⟩
  | 92 => ⟨S256x2x4x64x512, .f32⟩
  | 93 => ⟨S256x2x4x256, .f32⟩
  | 94 => ⟨S256x2x4x64x512, .f32⟩
  | 95 => ⟨S_, .i32⟩
  | 96 => ⟨S2x4x256x512, .f32⟩
  | 97 => ⟨S256x2x4x64x512, .f32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S1x2x4x64x256, .f32⟩
  | 105 => ⟨S2x4x64x256, .f32⟩
  | 106 => ⟨S_, .i32⟩
  | 107 => ⟨S_, .i32⟩
  | 108 => ⟨S_, .i32⟩
  | 109 => ⟨S_, .i32⟩
  | 110 => ⟨S1x2x4x64x256, .f32⟩
  | 111 => ⟨S2x4x64x256, .f32⟩
  | 112 => ⟨S_, .i32⟩
  | 113 => ⟨S_, .i32⟩
  | 114 => ⟨S_, .i32⟩
  | 115 => ⟨S_, .i32⟩
  | 116 => ⟨S1x2x4x64x512, .f32⟩
  | 117 => ⟨S2x4x64x512, .f32⟩
  | 118 => ⟨S_, .i32⟩
  | 119 => ⟨S_, .i32⟩
  | 120 => ⟨S_, .i32⟩
  | 121 => ⟨S1x2x4x256, .f32⟩
  | 122 => ⟨S2x4x256, .f32⟩
  | 123 => ⟨S_, .i32⟩
  | 124 => ⟨S_, .i32⟩
  | 125 => ⟨S_, .i32⟩
  | 126 => ⟨S_, .i32⟩
  | 127 => ⟨S1x2x4x64x512, .f32⟩
  | _ => ⟨S32768x6144, .bf16⟩

abbrev hbmTy0_1 (i : Nat) : BufTy := match i % 128 with
  | 0 => ⟨S2x4x64x512, .f32⟩
  | 1 => ⟨S2x4x64x512, .f32⟩
  | 2 => ⟨S2x4x64x512, .f32⟩
  | 3 => ⟨S2x4x256x1, .f32⟩
  | 4 => ⟨S2x4x256x512, .f32⟩
  | 5 => ⟨S2x4x256x512, .f32⟩
  | 6 => ⟨S2x4x256x512, .f32⟩
  | 7 => ⟨S2x4x256x512, .f32⟩
  | 8 => ⟨S1x2x4x64x512, .f32⟩
  | 9 => ⟨S_, .i32⟩
  | 10 => ⟨S_, .i32⟩
  | 11 => ⟨S_, .i32⟩
  | 12 => ⟨S_, .i32⟩
  | 13 => ⟨S256x2x4x64x512, .f32⟩
  | 14 => ⟨S_, .i32⟩
  | 15 => ⟨S_, .i32⟩
  | 16 => ⟨S2x256x64x4x512, .f32⟩
  | 17 => ⟨S32768x2048, .f32⟩
  | 18 => ⟨S32768x2048, .bf16⟩
  | _ => ⟨S32768x6144, .bf16⟩

abbrev hbmTy (i : Nat) : BufTy := match i / 128 with
  | 0 => hbmTy0_0 i
  | 1 => hbmTy0_1 i
  | _ => ⟨S32768x6144, .bf16⟩

abbrev bufTy : (tb : Table) → Fin (tcTables nBuf tb) → BufTy
  | .hbm, ⟨i, _⟩ => hbmTy i
  | _, _ => ⟨S32768x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call1_call0_cst : Ref sig .tc := ⟨.hbm, 46, rfl⟩
abbrev main_call1_call0_v0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c : Ref sig .tc := ⟨.hbm, 60, rfl⟩
abbrev main_v39 : Ref sig .tc := ⟨.hbm, 61, rfl⟩
abbrev main_call2_v0 : Ref sig .tc := ⟨.hbm, 62, rfl⟩
abbrev main_call2_c : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_c_0 : Ref sig .tc := ⟨.hbm, 68, rfl⟩
abbrev main_call2_v5 : Ref sig .tc := ⟨.hbm, 69, rfl⟩
abbrev main_v40 : Ref sig .tc := ⟨.hbm, 70, rfl⟩
abbrev main_cst_1 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_2 : Ref sig .tc := ⟨.hbm, 85, rfl⟩
abbrev main_v51 : Ref sig .tc := ⟨.hbm, 86, rfl⟩
abbrev main_cst_3 : Ref sig .tc := ⟨.hbm, 87, rfl⟩
abbrev main_v52 : Ref sig .tc := ⟨.hbm, 88, rfl⟩
abbrev main_c_4 : Ref sig .tc := ⟨.hbm, 89, rfl⟩
abbrev main_v53_0 : Ref sig .tc := ⟨.hbm, 90, rfl⟩
abbrev main_v53_1 : Ref sig .tc := ⟨.hbm, 91, rfl⟩
abbrev main_v53_2 : Ref sig .tc := ⟨.hbm, 92, rfl⟩
abbrev main_v53_3 : Ref sig .tc := ⟨.hbm, 93, rfl⟩
abbrev main_v53_4 : Ref sig .tc := ⟨.hbm, 94, rfl⟩
abbrev main_v53_5 : Ref sig .tc := ⟨.hbm, 95, rfl⟩
abbrev main_v53_6 : Ref sig .tc := ⟨.hbm, 96, rfl⟩
abbrev main_v53_7 : Ref sig .tc := ⟨.hbm, 97, rfl⟩
abbrev main_while0c_c_12 : Ref sig .tc := ⟨.hbm, 98, rfl⟩
abbrev main_while0c_v57 : Ref sig .tc := ⟨.hbm, 99, rfl⟩
abbrev main_while0b_call4_c : Ref sig .tc := ⟨.hbm, 100, rfl⟩
abbrev main_while0b_call4_c_0 : Ref sig .tc := ⟨.hbm, 101, rfl⟩
abbrev main_while0b_call4_c_1 : Ref sig .tc := ⟨.hbm, 102, rfl⟩
abbrev main_while0b_call4_c_2 : Ref sig .tc := ⟨.hbm, 103, rfl⟩
abbrev main_while0b_call4_v0 : Ref sig .tc := ⟨.hbm, 104, rfl⟩
abbrev main_while0b_v57 : Ref sig .tc := ⟨.hbm, 105, rfl⟩
abbrev main_while0b_call5_c : Ref sig .tc := ⟨.hbm, 106, rfl⟩
abbrev main_while0b_call5_c_0 : Ref sig .tc := ⟨.hbm, 107, rfl⟩
abbrev main_while0b_call5_c_1 : Ref sig .tc := ⟨.hbm, 108, rfl⟩
abbrev main_while0b_call5_c_2 : Ref sig .tc := ⟨.hbm, 109, rfl⟩
abbrev main_while0b_call5_v0 : Ref sig .tc := ⟨.hbm, 110, rfl⟩
abbrev main_while0b_v58 : Ref sig .tc := ⟨.hbm, 111, rfl⟩
abbrev main_while0b_call6_c : Ref sig .tc := ⟨.hbm, 112, rfl⟩
abbrev main_while0b_call6_c_0 : Ref sig .tc := ⟨.hbm, 113, rfl⟩
abbrev main_while0b_call6_c_1 : Ref sig .tc := ⟨.hbm, 114, rfl⟩
abbrev main_while0b_call6_c_2 : Ref sig .tc := ⟨.hbm, 115, rfl⟩
abbrev main_while0b_call6_v0 : Ref sig .tc := ⟨.hbm, 116, rfl⟩
abbrev main_while0b_v59 : Ref sig .tc := ⟨.hbm, 117, rfl⟩
abbrev main_while0b_call7_c : Ref sig .tc := ⟨.hbm, 118, rfl⟩
abbrev main_while0b_call7_c_0 : Ref sig .tc := ⟨.hbm, 119, rfl⟩
abbrev main_while0b_call7_c_1 : Ref sig .tc := ⟨.hbm, 120, rfl⟩
abbrev main_while0b_call7_v0 : Ref sig .tc := ⟨.hbm, 121, rfl⟩
abbrev main_while0b_v60 : Ref sig .tc := ⟨.hbm, 122, rfl⟩
abbrev main_while0b_call8_c : Ref sig .tc := ⟨.hbm, 123, rfl⟩
abbrev main_while0b_call8_c_0 : Ref sig .tc := ⟨.hbm, 124, rfl⟩
abbrev main_while0b_call8_c_1 : Ref sig .tc := ⟨.hbm, 125, rfl⟩
abbrev main_while0b_call8_c_2 : Ref sig .tc := ⟨.hbm, 126, rfl⟩
abbrev main_while0b_call8_v0 : Ref sig .tc := ⟨.hbm, 127, rfl⟩
abbrev main_while0b_v61 : Ref sig .tc := ⟨.hbm, 128, rfl⟩
abbrev main_while0b_v62 : Ref sig .tc := ⟨.hbm, 129, rfl⟩
abbrev main_while0b_v63 : Ref sig .tc := ⟨.hbm, 130, rfl⟩
abbrev main_while0b_v64 : Ref sig .tc := ⟨.hbm, 131, rfl⟩
abbrev main_while0b_v65 : Ref sig .tc := ⟨.hbm, 132, rfl⟩
abbrev main_while0b_v66 : Ref sig .tc := ⟨.hbm, 133, rfl⟩
abbrev main_while0b_v67 : Ref sig .tc := ⟨.hbm, 134, rfl⟩
abbrev main_while0b_v68 : Ref sig .tc := ⟨.hbm, 135, rfl⟩
abbrev main_while0b_call9_v0 : Ref sig .tc := ⟨.hbm, 136, rfl⟩
abbrev main_while0b_call9_c : Ref sig .tc := ⟨.hbm, 137, rfl⟩
abbrev main_while0b_call9_c_0 : Ref sig .tc := ⟨.hbm, 138, rfl⟩
abbrev main_while0b_call9_c_1 : Ref sig .tc := ⟨.hbm, 139, rfl⟩
abbrev main_while0b_call9_c_2 : Ref sig .tc := ⟨.hbm, 140, rfl⟩
abbrev main_while0b_v69 : Ref sig .tc := ⟨.hbm, 141, rfl⟩
abbrev main_while0b_c_12 : Ref sig .tc := ⟨.hbm, 142, rfl⟩
abbrev main_while0b_v70 : Ref sig .tc := ⟨.hbm, 143, rfl⟩
abbrev main_v54 : Ref sig .tc := ⟨.hbm, 144, rfl⟩
abbrev main_v55 : Ref sig .tc := ⟨.hbm, 145, rfl⟩
abbrev main_v56 : Ref sig .tc := ⟨.hbm, 146, rfl⟩

abbrev nD : Nat := 1
abbrev τ : Topo := Topo.v7x

variable {F : FTy → Type} [FloatOps F]

abbrev main_while0_count : Scf.Loop 32 := ⟨0#32, 256#32, 1#32⟩
-- ==== Kernel2.lean ====
abbrev S32768x2048 : Shape := ⟨2, ![32768, 2048]⟩
abbrev S2048 : Shape := ⟨1, ![2048]⟩
abbrev S2x11x2048x1024 : Shape := ⟨4, ![2, 11, 2048, 1024]⟩
abbrev S2x5632x2048 : Shape := ⟨3, ![2, 5632, 2048]⟩
abbrev S1x2048 : Shape := ⟨2, ![1, 2048]⟩
abbrev S1024x2048 : Shape := ⟨2, ![1024, 2048]⟩
abbrev S1x1x2048x1024 : Shape := ⟨4, ![1, 1, 2048, 1024]⟩
abbrev S1x512x2048 : Shape := ⟨3, ![1, 512, 2048]⟩
abbrev S512x2048 : Shape := ⟨2, ![512, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S512x512 : Shape := ⟨2, ![512, 512]⟩

abbrev nBuf : Space → Nat
  | .hbm => 8
  | .vmem => 11
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2x11x2048x1024, .bf16⟩
  | .hbm, ⟨3, _⟩ => ⟨S2x5632x2048, .bf16⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048x1024, .bf16⟩
  | .local _ .vmem, ⟨4, _⟩ => ⟨S1x1x2048x1024, .bf16⟩
  | .local _ .vmem, ⟨5, _⟩ => ⟨S1x512x2048, .bf16⟩
  | .local _ .vmem, ⟨6, _⟩ => ⟨S1x512x2048, .bf16⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S32768x2048 : Shape := ⟨2, ![32768, 2048]⟩
abbrev S2048 : Shape := ⟨1, ![2048]⟩
abbrev S2x11x2048x1024 : Shape := ⟨4, ![2, 11, 2048, 1024]⟩
abbrev S2x5632x2048 : Shape := ⟨3, ![2, 5632, 2048]⟩
abbrev S1x11x2048x1024 : Shape := ⟨4, ![1, 11, 2048, 1024]⟩
abbrev S11x2048x1024 : Shape := ⟨3, ![11, 2048, 1024]⟩
abbrev S11x2048x512 : Shape := ⟨3, ![11, 2048, 512]⟩
abbrev S2048x11x512 : Shape := ⟨3, ![2048, 11, 512]⟩
abbrev S2048x5632 : Shape := ⟨2, ![2048, 5632]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x5632 : Shape := ⟨2, ![32768, 5632]⟩
abbrev S1x5632x2048 : Shape := ⟨3, ![1, 5632, 2048]⟩
abbrev S5632x2048 : Shape := ⟨2, ![5632, 2048]⟩

abbrev nBuf : Space → Nat
  | .hbm => 63
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2x11x2048x1024, .bf16⟩
  | .hbm, ⟨3, _⟩ => ⟨S2x5632x2048, .bf16⟩
  | .hbm, ⟨4, _⟩ => ⟨S2048, .f32⟩
  | .hbm, ⟨5, _⟩ => ⟨S1x11x2048x1024, .bf16⟩
  | .hbm, ⟨6, _⟩ => ⟨S11x2048x1024, .bf16⟩
  | .hbm, ⟨7, _⟩ => ⟨S11x2048x1024, .f32⟩
  | .hbm, ⟨8, _⟩ => ⟨S11x2048x512, .f32⟩
  | .hbm, ⟨9, _⟩ => ⟨S2048x11x512, .f32⟩
  | .hbm, ⟨10, _⟩ => ⟨S2048x5632, .f32⟩
  | .hbm, ⟨11, _⟩ => ⟨S11x2048x512, .f32⟩
  | .hbm, ⟨12, _⟩ => ⟨S2048x11x512, .f32⟩
  | .hbm, ⟨13, _⟩ => ⟨S2048x5632, .f32⟩
  | .hbm, ⟨14, _⟩ => ⟨S32768x2048, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x2048, .f32⟩
  | .hbm, ⟨26, _⟩ => ⟨S32768x2048, .f32⟩
  | .hbm, ⟨27, _⟩ => ⟨S1x2048, .f32⟩
  | .hbm, ⟨28, _⟩ => ⟨S32768x2048, .f32⟩
  | .hbm, ⟨29, _⟩ => ⟨S32768x2048, .f32⟩
  | .hbm, ⟨30, _⟩ => ⟨S32768x5632, .f32⟩
  | .hbm, ⟨31, _⟩ => ⟨S32768x5632, .f32⟩
  | .hbm, ⟨32, _⟩ => ⟨S32768x5632, .f32⟩
  | .hbm, ⟨33, _⟩ => ⟨S_, .f32⟩
  | .hbm, ⟨34, _⟩ => ⟨S32768x5632, .f32⟩
  | .hbm, ⟨35, _⟩ => ⟨S32768x5632, .f32⟩
  | .hbm, ⟨36, _⟩ => ⟨S_, .f32⟩
  | .hbm, ⟨37, _⟩ => ⟨S32768x5632, .f32⟩
  | .hbm, ⟨38, _⟩ => ⟨S32768x5632, .f32⟩
  | .hbm, ⟨39, _⟩ => ⟨S32768x5632, .f32⟩
  | .hbm, ⟨40, _⟩ => ⟨S32768x5632, .f32⟩
  | .hbm, ⟨41, _⟩ => ⟨S32768x5632, .f32⟩
  | .hbm, ⟨42, _⟩ => ⟨S1x5632x2048, .bf16⟩
  | .hbm, ⟨43, _⟩ => ⟨S5632x2048, .bf16⟩
  | .hbm, ⟨44, _⟩ => ⟨S5632x2048, .f32⟩
  | .hbm, ⟨45, _⟩ => ⟨S32768x2048, .f32⟩
  | .hbm, ⟨46, _⟩ => ⟨S32768x2048, .f32⟩
  | .hbm, ⟨47, _⟩ => ⟨S_, .f32⟩
  | .hbm, ⟨48, _⟩ => ⟨S32768, .f32⟩
  | .hbm, ⟨49, _⟩ => ⟨S32768x1, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S32768x1, .f32⟩
  | .hbm, ⟨57, _⟩ => ⟨S32768x2048, .f32⟩
  | .hbm, ⟨58, _⟩ => ⟨S32768x2048, .f32⟩
  | .hbm, ⟨59, _⟩ => ⟨S1x2048, .f32⟩
  | .hbm, ⟨60, _⟩ => ⟨S32768x2048, .f32⟩
  | .hbm, ⟨61, _⟩ => ⟨S32768x2048, .f32⟩
  | .hbm, ⟨62, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== Kernel3.lean ====
abbrev S32768x2048 : Shape := ⟨2, ![32768, 2048]⟩
abbrev S2048 : Shape := ⟨1, ![2048]⟩
abbrev S2x2048x2048 : Shape := ⟨3, ![2, 2048, 2048]⟩
abbrev S2x512x2048 : Shape := ⟨3, ![2, 512, 2048]⟩
abbrev S1x2048 : Shape := ⟨2, ![1, 2048]⟩
abbrev S512x2048 : Shape := ⟨2, ![512, 2048]⟩
abbrev S1x2048x2048 : Shape := ⟨3, ![1, 2048, 2048]⟩
abbrev S1x256x2048 : Shape := ⟨3, ![1, 256, 2048]⟩
abbrev S512 : Shape := ⟨1, ![512]⟩
abbrev S512x1 : Shape := ⟨2, ![512, 1]⟩
abbrev S2048x2048 : Shape := ⟨2, ![2048, 2048]⟩
abbrev S512x512 : Shape := ⟨2, ![512, 512]⟩
abbrev S1x256x512 : Shape := ⟨3, ![1, 256, 512]⟩
abbrev S256x512 : Shape := ⟨2, ![256, 512]⟩
abbrev S512x256 : Shape := ⟨2, ![512, 256]⟩
abbrev S1x512x2048 : Shape := ⟨3, ![1, 512, 2048]⟩

abbrev nBuf : Space → Nat
  | .hbm => 10
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2x2048x2048, .bf16⟩
  | .hbm, ⟨3, _⟩ => ⟨S2x512x2048, .bf16⟩
  | .hbm, ⟨4, _⟩ => ⟨S2x512x2048, .bf16⟩
  | .hbm, ⟨5, _⟩ => ⟨S2x2048x2048, .bf16⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S32768x2048 : Shape := ⟨2, ![32768, 2048]⟩
abbrev S2048 : Shape := ⟨1, ![2048]⟩
abbrev S2x2048x2048 : Shape := ⟨3, ![2, 2048, 2048]⟩
abbrev S2x512x2048 : Shape := ⟨3, ![2, 512, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S1x2048x2048 : Shape := ⟨3, ![1, 2048, 2048]⟩
abbrev S2048x2048 : Shape := ⟨2, ![2048, 2048]⟩
abbrev S2x16384x4x512 : Shape := ⟨4, ![2, 16384, 4, 512]⟩
abbrev S1x512x2048 : Shape := ⟨3, ![1, 512, 2048]⟩
abbrev S512x2048 : Shape := ⟨2, ![512, 2048]⟩
abbrev S2x256x4x512 : Shape := ⟨4, ![2, 256, 4, 512]⟩
abbrev S2x4x16384x256 : Shape := ⟨4, ![2, 4, 16384, 256]⟩
abbrev S2x4x16384 : Shape := ⟨3, ![2, 4, 16384]⟩
abbrev S2x4x16384x1 : Shape := ⟨4, ![2, 4, 16384, 1]⟩
abbrev S2x4x512x16384 : Shape := ⟨4, ![2, 4, 512, 16384]⟩

abbrev nBuf : Space → Nat
  | .hbm => 78
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2x2048x2048, .bf16⟩
  | .hbm, ⟨3, _⟩ => ⟨S2x512x2048, .bf16⟩
  | .hbm, ⟨4, _⟩ => ⟨S2x512x2048, .bf16⟩
  | .hbm, ⟨5, _⟩ => ⟨S2x2048x2048, .bf16⟩
  | .hbm, ⟨6, _⟩ => ⟨S2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S1x2048, .f32⟩
  | .hbm, ⟨21, _⟩ => ⟨S32768x2048, .f32⟩
  | .hbm, ⟨22, _⟩ => ⟨S32768x2048, .f32⟩
  | .hbm, ⟨23, _⟩ => ⟨S1x2048x2048, .bf16⟩
  | .hbm, ⟨24, _⟩ => ⟨S2048x2048, .bf16⟩
  | .hbm, ⟨25, _⟩ => ⟨S2048x2048, .f32⟩
  | .hbm, ⟨26, _⟩ => ⟨S32768x2048, .f32⟩
  | .hbm, ⟨27, _⟩ => ⟨S2x16384x4x512, .f32⟩
  | .hbm, ⟨28, _⟩ => ⟨S1x512x2048, .bf16⟩
  | .hbm, ⟨29, _⟩ => ⟨S512x2048, .bf16⟩
  | .hbm, ⟨30, _⟩ => ⟨S512x2048, .f32⟩
  | .hbm, ⟨31, _⟩ => ⟨S2x256x4x512, .f32⟩
  | .hbm, ⟨32, _⟩ => ⟨S1x512x2048, .bf16⟩
  | .hbm, ⟨33, _⟩ => ⟨S512x2048, .bf16⟩
  | .hbm, ⟨34, _⟩ => ⟨S512x2048, .f32⟩
  | .hbm, ⟨35, _⟩ => ⟨S2x256x4x512, .f32⟩
  | .hbm, ⟨36, _⟩ => ⟨S2x4x16384x256, .f32⟩
  | .hbm, ⟨37, _⟩ => ⟨S_, .f32⟩
  | .hbm, ⟨38, _⟩ => ⟨S2x4x16384x256, .f32⟩
  | .hbm, ⟨39, _⟩ => ⟨S2x4x16384x256, .f32⟩
  | .hbm, ⟨40, _⟩ => ⟨S_, .f32⟩
  | .hbm, ⟨41, _⟩ => ⟨S2x4x16384, .f32⟩
  | .hbm, ⟨42, _⟩ => ⟨S_, .f32⟩
  | .hbm, ⟨43, _⟩ => ⟨S2x4x16384, .f32⟩
  | .hbm, ⟨44, _⟩ => ⟨S2x4x16384, .f32⟩
  | .hbm, ⟨45, _⟩ => ⟨S2x4x16384x1, .f32⟩
  | .hbm, ⟨46, _⟩ => ⟨S2x4x16384x256, .f32⟩
  | .hbm, ⟨47, _⟩ => ⟨S2x4x16384x256, .f32⟩
  | .hbm, ⟨48, _⟩ => ⟨S2x4x16384x256, .f32⟩
  | .hbm, ⟨49, _⟩ => ⟨S_, .f32⟩
  | .hbm, ⟨50, _⟩ => ⟨S2x4x16384, .f32⟩
  | .hbm, ⟨51, _⟩ => ⟨S2x4x16384x1, .f32⟩
  | .hbm, ⟨52, _⟩ => ⟨S2x4x16384x256, .f32⟩
  | .hbm, ⟨53, _⟩ => ⟨S2x4x16384x256, .f32⟩
  | .hbm, ⟨54, _⟩ => ⟨S2x4x512x16384, .f32⟩
  | .hbm, ⟨55, _⟩ => ⟨S2x16384x4x512, .f32⟩
  | .hbm, ⟨56, _⟩ => ⟨S32768x2048, .f32⟩
  | .hbm, ⟨57, _⟩ => ⟨S1x2048x2048, .bf16⟩
  | .hbm, ⟨58, _⟩ => ⟨S2048x2048, .bf16⟩
  | .hbm, ⟨59, _⟩ => ⟨S2048x2048, .f32⟩
  | .hbm, ⟨60, _⟩ => ⟨S32768x2048, .f32⟩
  | .hbm, ⟨61, _⟩ => ⟨S32768x2048, .f32⟩
  | .hbm, ⟨62, _⟩ => ⟨S_, .f32⟩
  | .hbm, ⟨63, _⟩ => ⟨S32768, .f32⟩
  | .hbm, ⟨64, _⟩ => ⟨S32768x1, .f32⟩
  | .hbm, ⟨65, _⟩ => ⟨S_, .f32⟩
  | .hbm, ⟨66, _⟩ => ⟨S32768x1, .f32⟩
  | .hbm, ⟨67, _⟩ => ⟨S32768x1, .f32⟩
  | .hbm, ⟨68, _⟩ => ⟨S_, .f32⟩
  | .hbm, ⟨69, _⟩ => ⟨S32768x1, .f32⟩
  | .hbm, ⟨70, _⟩ => ⟨S32768x1, .f32⟩
  | .hbm, ⟨71, _⟩ => ⟨S32768x1, .f32⟩
  | .hbm, ⟨72, _⟩ => ⟨S32768x2048, .f32⟩
  | .hbm, ⟨73, _⟩ => ⟨S32768x2048, .f32⟩
  | .hbm, ⟨74, _⟩ => ⟨S1x2048, .f32⟩
  | .hbm, ⟨75, _⟩ => ⟨S32768x2048, .f32⟩
  | .hbm, ⟨76, _⟩ => ⟨S32768x2048, .f32⟩
  | .hbm, ⟨77, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩

abbrev nD : Nat := 1
abbrev τ : Topo := Topo.v7x

variable {F : FTy → Type} [FloatOps F]
-- ==== Kernel4.lean ====
abbrev S32768x2048 : Shape := ⟨2, ![32768, 2048]⟩
abbrev S2048 : Shape := ⟨1, ![2048]⟩
abbrev S2048x6144 : Shape := ⟨2, ![2048, 6144]⟩
abbrev S2048x128 : Shape := ⟨2, ![2048, 128]⟩
abbrev S1x2048 : Shape := ⟨2, ![1, 2048]⟩
abbrev S32768x6144 : Shape := ⟨2, ![32768, 6144]⟩
abbrev S32768x128 : Shape := ⟨2, ![32768, 128]⟩
abbrev S512x2048 : Shape := ⟨2, ![512, 2048]⟩
abbrev S512x6144 : Shape := ⟨2, ![512, 6144]⟩
abbrev S512x128 : Shape := ⟨2, ![512, 128]⟩
abbrev S256x2048 : Shape := ⟨2, ![256, 2048]⟩
abbrev S256 : Shape := ⟨1, ![256]⟩
abbrev S256x1 : Shape := ⟨2, ![256, 1]⟩
abbrev S256x6144 : Shape := ⟨2, ![256, 6144]⟩
abbrev S256x128 : Shape := ⟨2, ![256, 128]⟩

abbrev nBuf : Space → Nat
  | .hbm => 7
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x6144, .bf16⟩
  | .hbm, ⟨3, _⟩ => ⟨S2048x128, .bf16⟩
  | .hbm, ⟨4, _⟩ => ⟨S1x2048, .f32⟩
  | .hbm, ⟨5, _⟩ => ⟨S32768x6144, .bf16⟩
  | .hbm, ⟨6, _⟩ => ⟨S32768x128, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x6144, .bf16⟩
  | .local _ .vmem, ⟨4, _⟩ => ⟨S2048x128, .bf16⟩
  | .local _ .vmem, ⟨5, _⟩ => ⟨S512x6144, .bf16⟩
  | .local _ .vmem, ⟨6, _⟩ => ⟨S512x6144, .bf16⟩
  | .local _ .vmem, ⟨7, _⟩ => ⟨S512x128, .bf16⟩
  | .local _ .vmem, ⟨8, _⟩ => ⟨S512x128, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S32768x2048 : Shape := ⟨2, ![32768, 2048]⟩
abbrev S2048 : Shape := ⟨1, ![2048]⟩
abbrev S2048x6144 : Shape := ⟨2, ![2048, 6144]⟩
abbrev S2048x128 : Shape := ⟨2, ![2048, 128]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x6144 : Shape := ⟨2, ![32768, 6144]⟩
abbrev S32768x128 : Shape := ⟨2, ![32768, 128]⟩

abbrev nBuf : Space → Nat
  | .hbm => 26
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x6144, .bf16⟩
  | .hbm, ⟨3, _⟩ => ⟨S2048x128, .bf16⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S2048x6144, .f32⟩
  | .hbm, ⟨21, _⟩ => ⟨S32768x6144, .f32⟩
  | .hbm, ⟨22, _⟩ => ⟨S32768x6144, .bf16⟩
  | .hbm, ⟨23, _⟩ => ⟨S2048x128, .f32⟩
  | .hbm, ⟨24, _⟩ => ⟨S32768x128, .f32⟩
  | .hbm, ⟨25, _⟩ => ⟨S32768x128, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel5.lean ====
abbrev S32768x2048 : Shape := ⟨2, ![32768, 2048]⟩
abbrev S32768x6144 : Shape := ⟨2, ![32768, 6144]⟩
abbrev S512 : Shape := ⟨1, ![512]⟩
abbrev S2048x2048 : Shape := ⟨2, ![2048, 2048]⟩
abbrev S2048 : Shape := ⟨1, ![2048]⟩
abbrev S1x512 : Shape := ⟨2, ![1, 512]⟩
abbrev S1x2048 : Shape := ⟨2, ![1, 2048]⟩
abbrev S512x2048 : Shape := ⟨2, ![512, 2048]⟩
abbrev S256x512 : Shape := ⟨2, ![256, 512]⟩
abbrev S256 : Shape := ⟨1, ![256]⟩
abbrev S256x1 : Shape := ⟨2, ![256, 1]⟩
abbrev S256x2048 : Shape := ⟨2, ![256, 2048]⟩

abbrev nBuf : Space → Nat
  | .hbm => 9
  | .vmem => 11
  | .smem => 0
  | _ => 0

abbrev bufTy : (tb : Table) → Fin (tcTables nBuf tb) → BufTy
  | .hbm, ⟨0, _⟩ => ⟨S32768x2048, .bf16⟩
  | .hbm, ⟨1, _⟩ => ⟨S32768x6144, .bf16⟩
  | .hbm, ⟨2, _⟩ => ⟨S512, .f32⟩
  | .hbm, ⟨3, _⟩ => ⟨S2048x2048, .bf16⟩
  | .hbm, ⟨4, _⟩ => ⟨S2048, .f32⟩
  | .hbm, ⟨5, _⟩ => ⟨S32768x2048, .f32⟩
  | .hbm, ⟨6, _⟩ => ⟨S1x512, .f32⟩
  | .hbm, ⟨7, _⟩ => ⟨S1x2048, .f32⟩
  | .hbm, ⟨8, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x512, .f32⟩
  | .local _ .vmem, ⟨5, _⟩ => ⟨S2048x2048, .bf16⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S32768x2048 : Shape := ⟨2, ![32768, 2048]⟩
abbrev S32768x6144 : Shape := ⟨2, ![32768, 6144]⟩
abbrev S512 : Shape := ⟨1, ![512]⟩
abbrev S2048x2048 : Shape := ⟨2, ![2048, 2048]⟩
abbrev S2048 : Shape := ⟨1, ![2048]⟩
abbrev S32768x4x512 : Shape := ⟨3, ![32768, 4, 512]⟩
abbrev S_ : Shape := ⟨0, ![]⟩
abbrev S32768x4 : Shape := ⟨2, ![32768, 4]⟩
abbrev S32768x4x1 : Shape := ⟨3, ![32768, 4, 1]⟩
abbrev S1x1x512 : Shape := ⟨3, ![1, 1, 512]⟩
abbrev S32768 : Shape := ⟨1, ![32768]⟩
abbrev S32768x1 : Shape := ⟨2, ![32768, 1]⟩
abbrev S1x2048 : Shape := ⟨2, ![1, 2048]⟩

abbrev nBuf : Space → Nat
  | .hbm => 57
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x6144, .bf16⟩
  | .hbm, ⟨2, _⟩ => ⟨S512, .f32⟩
  | .hbm, ⟨3, _⟩ => ⟨S2048x2048, .bf16⟩
  | .hbm, ⟨4, _⟩ => ⟨S2048, .f32⟩
  | .hbm, ⟨5, _⟩ => ⟨S32768x2048, .f32⟩
  | .hbm, ⟨6, _⟩ => ⟨S32768x2048, .bf16⟩
  | .hbm, ⟨7, _⟩ => ⟨S32768x2048, .f32⟩
  | .hbm, ⟨8, _⟩ => ⟨S32768x4x512, .f32⟩
  | .hbm, ⟨9, _⟩ => ⟨S32768x2048, .f32⟩
  | .hbm, ⟨10, _⟩ => ⟨S32768x4x512, .f32⟩
  | .hbm, ⟨11, _⟩ => ⟨S32768x4x512, .f32⟩
  | .hbm, ⟨12, _⟩ => ⟨S_, .f32⟩
  | .hbm, ⟨13, _⟩ => ⟨S32768x4, .f32⟩
  | .hbm, ⟨14, _⟩ => ⟨S32768x4x1, .f32⟩
  | .hbm, ⟨15, _⟩ => ⟨S_, .f32⟩
  | .hbm, ⟨16, _⟩ => ⟨S32768x4x1, .f32⟩
  | .hbm, ⟨17, _⟩ => ⟨S32768x4x1, .f32⟩
  | .hbm, ⟨18, _⟩ => ⟨S_, .f32⟩
  | .hbm, ⟨19, _⟩ => ⟨S32768x4x1, .f32⟩
  | .hbm, ⟨20, _⟩ => ⟨S32768x4x1, .f32⟩
  | .hbm, ⟨21, _⟩ => ⟨S32768x4x1, .f32⟩
  | .hbm, ⟨22, _⟩ => ⟨S32768x4x512, .f32⟩
  | .hbm, ⟨23, _⟩ => ⟨S32768x4x512, .f32⟩
  | .hbm, ⟨24, _⟩ => ⟨S1x1x512, .f32⟩
  | .hbm, ⟨25, _⟩ => ⟨S32768x4x512, .f32⟩
  | .hbm, ⟨26, _⟩ => ⟨S32768x4x512, .f32⟩
  | .hbm, ⟨27, _⟩ => ⟨S32768x4x512, .f32⟩
  | .hbm, ⟨28, _⟩ => ⟨S32768x4x512, .f32⟩
  | .hbm, ⟨29, _⟩ => ⟨S_, .f32⟩
  | .hbm, ⟨30, _⟩ => ⟨S32768x4x512, .f32⟩
  | .hbm, ⟨31, _⟩ => ⟨S32768x4x512, .f32⟩
  | .hbm, ⟨32, _⟩ => ⟨S_, .f32⟩
  | .hbm, ⟨33, _⟩ => ⟨S32768x4x512, .f32⟩
  | .hbm, ⟨34, _⟩ => ⟨S32768x4x512, .f32⟩
  | .hbm, ⟨35, _⟩ => ⟨S32768x4x512, .f32⟩
  | .hbm, ⟨36, _⟩ => ⟨S32768x4x512, .f32⟩
  | .hbm, ⟨37, _⟩ => ⟨S32768x2048, .f32⟩
  | .hbm, ⟨38, _⟩ => ⟨S2048x2048, .f32⟩
  | .hbm, ⟨39, _⟩ => ⟨S32768x2048, .f32⟩
  | .hbm, ⟨40, _⟩ => ⟨S32768x2048, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x1, .f32⟩
  | .hbm, ⟨51, _⟩ => ⟨S32768x2048, .f32⟩
  | .hbm, ⟨52, _⟩ => ⟨S32768x2048, .f32⟩
  | .hbm, ⟨53, _⟩ => ⟨S1x2048, .f32⟩
  | .hbm, ⟨54, _⟩ => ⟨S32768x2048, .f32⟩
  | .hbm, ⟨55, _⟩ => ⟨S32768x2048, .f32⟩
  | .hbm, ⟨56, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Kernel6.lean ====
abbrev S32768x2048 : Shape := ⟨2, ![32768, 2048]⟩
abbrev S2048 : Shape := ⟨1, ![2048]⟩
abbrev S2048x4096 : Shape := ⟨2, ![2048, 4096]⟩
abbrev S2x2048x2048 : Shape := ⟨3, ![2, 2048, 2048]⟩
abbrev S1x2048x2048 : Shape := ⟨3, ![1, 2048, 2048]⟩
abbrev S1x2048 : Shape := ⟨2, ![1, 2048]⟩
abbrev S32768x4096 : Shape := ⟨2, ![32768, 4096]⟩
abbrev S1024x2048 : Shape := ⟨2, ![1024, 2048]⟩
abbrev S1x128x2048 : Shape := ⟨3, ![1, 128, 2048]⟩
abbrev S1x64x2048 : Shape := ⟨3, ![1, 64, 2048]⟩
abbrev S1024x4096 : Shape := ⟨2, ![1024, 4096]⟩
abbrev S256x2048 : Shape := ⟨2, ![256, 2048]⟩
abbrev S256 : Shape := ⟨1, ![256]⟩
abbrev S256x1 : Shape := ⟨2, ![256, 1]⟩
abbrev S256x4096 : Shape := ⟨2, ![256, 4096]⟩
abbrev S128x2048 : Shape := ⟨2, ![128, 2048]⟩
abbrev S64x2048 : Shape := ⟨2, ![64, 2048]⟩

abbrev nBuf : Space → Nat
  | .hbm => 11
  | .vmem => 18
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x4096, .bf16⟩
  | .hbm, ⟨3, _⟩ => ⟨S2x2048x2048, .f32⟩
  | .hbm, ⟨4, _⟩ => ⟨S2x2048x2048, .f32⟩
  | .hbm, ⟨5, _⟩ => ⟨S1x2048x2048, .f32⟩
  | .hbm, ⟨6, _⟩ => ⟨S1x2048, .f32⟩
  | .hbm, ⟨7, _⟩ => ⟨S32768x4096, .bf16⟩
  | .hbm, ⟨8, _⟩ => ⟨S2x2048x2048, .bf16⟩
  | .hbm, ⟨9, _⟩ => ⟨S2x2048x2048, .bf16⟩
  | .hbm, ⟨10, _⟩ => ⟨S1x2048x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x4096, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x64x2048, .f32⟩
  | .local _ .vmem, ⟨9, _⟩ => ⟨S1x64x2048, .f32⟩
  | .local _ .vmem, ⟨10, _⟩ => ⟨S1024x4096, .bf16⟩
  | .local _ .vmem, ⟨11, _⟩ => ⟨S1024x4096, .bf16⟩
  | .local _ .vmem, ⟨12, _⟩ => ⟨S1x128x2048, .bf16⟩
  | .local _ .vmem, ⟨13, _⟩ => ⟨S1x128x2048, .bf16⟩
  | .local _ .vmem, ⟨14, _⟩ => ⟨S1x128x2048, .bf16⟩
  | .local _ .vmem, ⟨15, _⟩ => ⟨S1x128x2048, .bf16⟩
  | .local _ .vmem, ⟨16, _⟩ => ⟨S1x64x2048, .bf16⟩
  | .local _ .vmem, ⟨17, _⟩ => ⟨S1x64x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S32768x2048 : Shape := ⟨2, ![32768, 2048]⟩
abbrev S2048 : Shape := ⟨1, ![2048]⟩
abbrev S2048x4096 : Shape := ⟨2, ![2048, 4096]⟩
abbrev S2x2048x2048 : Shape := ⟨3, ![2, 2048, 2048]⟩
abbrev S1x2048x2048 : Shape := ⟨3, ![1, 2048, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x4096 : Shape := ⟨2, ![32768, 4096]⟩

abbrev nBuf : Space → Nat
  | .hbm => 28
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x4096, .bf16⟩
  | .hbm, ⟨3, _⟩ => ⟨S2x2048x2048, .f32⟩
  | .hbm, ⟨4, _⟩ => ⟨S2x2048x2048, .f32⟩
  | .hbm, ⟨5, _⟩ => ⟨S1x2048x2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S1x2048, .f32⟩
  | .hbm, ⟨20, _⟩ => ⟨S32768x2048, .f32⟩
  | .hbm, ⟨21, _⟩ => ⟨S32768x2048, .f32⟩
  | .hbm, ⟨22, _⟩ => ⟨S2048x4096, .f32⟩
  | .hbm, ⟨23, _⟩ => ⟨S32768x4096, .f32⟩
  | .hbm, ⟨24, _⟩ => ⟨S32768x4096, .bf16⟩
  | .hbm, ⟨25, _⟩ => ⟨S2x2048x2048, .bf16⟩
  | .hbm, ⟨26, _⟩ => ⟨S2x2048x2048, .bf16⟩
  | .hbm, ⟨27, _⟩ => ⟨S1x2048x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel7.lean ====
abbrev S32768x2048 : Shape := ⟨2, ![32768, 2048]⟩
abbrev S2048 : Shape := ⟨1, ![2048]⟩
abbrev S2x2048x2048 : Shape := ⟨3, ![2, 2048, 2048]⟩
abbrev S2x512x2048 : Shape := ⟨3, ![2, 512, 2048]⟩
abbrev S2x2048x5632 : Shape := ⟨3, ![2, 2048, 5632]⟩
abbrev S2x5632x2048 : Shape := ⟨3, ![2, 5632, 2048]⟩
abbrev S1x2048x6160 : Shape := ⟨3, ![1, 2048, 6160]⟩
abbrev S1x2048x2048 : Shape := ⟨3, ![1, 2048, 2048]⟩
abbrev S1x2048 : Shape := ⟨2, ![1, 2048]⟩
abbrev S2x11x2048x1024 : Shape := ⟨4, ![2, 11, 2048, 1024]⟩
abbrev S1x2048x6144 : Shape := ⟨3, ![1, 2048, 6144]⟩
abbrev S1x2048x128 : Shape := ⟨3, ![1, 2048, 128]⟩
abbrev S512x2048 : Shape := ⟨2, ![512, 2048]⟩
abbrev S1x256x2048 : Shape := ⟨3, ![1, 256, 2048]⟩
abbrev S1x64x5632 : Shape := ⟨3, ![1, 64, 5632]⟩
abbrev S1x176x2048 : Shape := ⟨3, ![1, 176, 2048]⟩
abbrev S1x32x6160 : Shape := ⟨3, ![1, 32, 6160]⟩
abbrev S1x32x2048 : Shape := ⟨3, ![1, 32, 2048]⟩
abbrev S1x11x64x1024 : Shape := ⟨4, ![1, 11, 64, 1024]⟩
abbrev S1x32x6144 : Shape := ⟨3, ![1, 32, 6144]⟩
abbrev S1x32x128 : Shape := ⟨3, ![1, 32, 128]⟩
abbrev S512 : Shape := ⟨1, ![512]⟩
abbrev S512x1 : Shape := ⟨2, ![512, 1]⟩
abbrev S2048x2048 : Shape := ⟨2, ![2048, 2048]⟩
abbrev S512x512 : Shape := ⟨2, ![512, 512]⟩
abbrev S1x256x512 : Shape := ⟨3, ![1, 256, 512]⟩
abbrev S256x512 : Shape := ⟨2, ![256, 512]⟩
abbrev S512x256 : Shape := ⟨2, ![512, 256]⟩
abbrev S1x512x2048 : Shape := ⟨3, ![1, 512, 2048]⟩
abbrev S1x64x512 : Shape := ⟨3, ![1, 64, 512]⟩
abbrev S64x512 : Shape := ⟨2, ![64, 512]⟩
abbrev S1x1x64x512 : Shape := ⟨4, ![1, 1, 64, 512]⟩
abbrev S176x2048 : Shape := ⟨2, ![176, 2048]⟩
abbrev S32x6144 : Shape := ⟨2, ![32, 6144]⟩
abbrev S32x128 : Shape := ⟨2, ![32, 128]⟩
abbrev S1x32x16 : Shape := ⟨3, ![1, 32, 16]⟩
abbrev S32x16 : Shape := ⟨2, ![32, 16]⟩
abbrev S32x2048 : Shape := ⟨2, ![32, 2048]⟩

abbrev nBuf : Space → Nat
  | .hbm => 20
  | .vmem => 30
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2x2048x2048, .bf16⟩
  | .hbm, ⟨3, _⟩ => ⟨S2x512x2048, .bf16⟩
  | .hbm, ⟨4, _⟩ => ⟨S2x512x2048, .bf16⟩
  | .hbm, ⟨5, _⟩ => ⟨S2x2048x2048, .bf16⟩
  | .hbm, ⟨6, _⟩ => ⟨S2048, .f32⟩
  | .hbm, ⟨7, _⟩ => ⟨S2x2048x5632, .f32⟩
  | .hbm, ⟨8, _⟩ => ⟨S2x2048x5632, .f32⟩
  | .hbm, ⟨9, _⟩ => ⟨S2x5632x2048, .f32⟩
  | .hbm, ⟨10, _⟩ => ⟨S1x2048x6160, .f32⟩
  | .hbm, ⟨11, _⟩ => ⟨S1x2048x2048, .f32⟩
  | .hbm, ⟨12, _⟩ => ⟨S1x2048, .f32⟩
  | .hbm, ⟨13, _⟩ => ⟨S1x2048, .f32⟩
  | .hbm, ⟨14, _⟩ => ⟨S32768x2048, .f32⟩
  | .hbm, ⟨15, _⟩ => ⟨S2x11x2048x1024, .bf16⟩
  | .hbm, ⟨16, _⟩ => ⟨S2x5632x2048, .bf16⟩
  | .hbm, ⟨17, _⟩ => ⟨S1x2048x6144, .bf16⟩
  | .hbm, ⟨18, _⟩ => ⟨S1x2048x128, .bf16⟩
  | .hbm, ⟨19, _⟩ => ⟨S1x2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x2048x2048, .bf16⟩
  | .local _ .vmem, ⟨7, _⟩ => ⟨S1x2048, .f32⟩
  | .local _ .vmem, ⟨8, _⟩ => ⟨S1x64x5632, .f32⟩
  | .local _ .vmem, ⟨9, _⟩ => ⟨S1x64x5632, .f32⟩
  | .local _ .vmem, ⟨10, _⟩ => ⟨S1x64x5632, .f32⟩
  | .local _ .vmem, ⟨11, _⟩ => ⟨S1x64x5632, .f32⟩
  | .local _ .vmem, ⟨12, _⟩ => ⟨S1x176x2048, .f32⟩
  | .local _ .vmem, ⟨13, _⟩ => ⟨S1x176x2048, .f32⟩
  | .local _ .vmem, ⟨14, _⟩ => ⟨S1x32x6160, .f32⟩
  | .local _ .vmem, ⟨15, _⟩ => ⟨S1x32x6160, .f32⟩
  | .local _ .vmem, ⟨16, _⟩ => ⟨S1x32x2048, .f32⟩
  | .local _ .vmem, ⟨17, _⟩ => ⟨S1x32x2048, .f32⟩
  | .local _ .vmem, ⟨18, _⟩ => ⟨S512x2048, .f32⟩
  | .local _ .vmem, ⟨19, _⟩ => ⟨S512x2048, .f32⟩
  | .local _ .vmem, ⟨20, _⟩ => ⟨S1x11x64x1024, .bf16⟩
  | .local _ .vmem, ⟨21, _⟩ => ⟨S1x11x64x1024, .bf16⟩
  | .local _ .vmem, ⟨22, _⟩ => ⟨S1x176x2048, .bf16⟩
  | .local _ .vmem, ⟨23, _⟩ => ⟨S1x176x2048, .bf16⟩
  | .local _ .vmem, ⟨24, _⟩ => ⟨S1x32x6144, .bf16⟩
  | .local _ .vmem, ⟨25, _⟩ => ⟨S1x32x6144, .bf16⟩
  | .local _ .vmem, ⟨26, _⟩ => ⟨S1x32x128, .bf16⟩
  | .local _ .vmem, ⟨27, _⟩ => ⟨S1x32x128, .bf16⟩
  | .local _ .vmem, ⟨28, _⟩ => ⟨S1x32x2048, .bf16⟩
  | .local _ .vmem, ⟨29, _⟩ => ⟨S1x32x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v2_2 : Ref sig .tc := ⟨.hbm, 16, rfl⟩
abbrev main_v2_3 : Ref sig .tc := ⟨.hbm, 17, rfl⟩
abbrev main_v2_4 : Ref sig .tc := ⟨.hbm, 18, rfl⟩
abbrev main_v2_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let v20 : BitVec 32 := Scalar.addi v19 arg1
  let c32_i32_6 : BitVec 32 := 32#32
  let c0_i32_7 : BitVec 32 := 0#32
  let v21 : BitVec 1 := Scalar.cmpi .eq c32_i32_6 c0_i32_7
  let c1_i32_8 : BitVec 32 := 1#32
  let v22 : BitVec 32 := Scalar.select v21 c1_i32_8 c32_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  ![v18.toNat, v30.toNat, c0_i32_12.toNat]

def cc0_transform_8 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let v20 : BitVec 32 := Scalar.addi v19 arg1
  let c32_i32_6 : BitVec 32 := 32#32
  let c0_i32_7 : BitVec 32 := 0#32
  let v21 : BitVec 1 := Scalar.cmpi .eq c32_i32_6 c0_i32_7
  let c1_i32_8 : BitVec 32 := 1#32
  let v22 : BitVec 32 := Scalar.select v21 c1_i32_8 c32_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  ![v18.toNat, v30.toNat, c0_i32_12.toNat]

def cc0_transform_9 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let v20 : BitVec 32 := Scalar.addi v19 arg1
  let c32_i32_6 : BitVec 32 := 32#32
  let c0_i32_7 : BitVec 32 := 0#32
  let v21 : BitVec 1 := Scalar.cmpi .eq c32_i32_6 c0_i32_7
  let c1_i32_8 : BitVec 32 := 1#32
  let v22 : BitVec 32 := Scalar.select v21 c1_i32_8 c32_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  ![v18.toNat, v30.toNat, c0_i32_12.toNat]

def cc0_transform_10 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c64_i32 : BitVec 32 := 64#32
  let v2 : BitVec 32 := Scalar.divsi v1 c64_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c64_i32 c0_i32_1
  let v9 : BitVec 32 := Scalar.extui v8
  let c0_i32_2 : BitVec 32 := 0#32
  let v10 : BitVec 1 := Scalar.cmpi .slt c64_i32 c0_i32_2
  let v11 : BitVec 32 := Scalar.extui v10
  let v12 : BitVec 32 := Scalar.subi v9 v11
  let v13 : BitVec 1 := Scalar.cmpi .ne v7 v12
  let v14 : BitVec 32 := Scalar.remsi v1 c64_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c32_i32_4 : BitVec 32 := 32#32
  let v19 : BitVec 32 := Scalar.muli arg0 c32_i32_4
  let v20 : BitVec 32 := Scalar.addi v19 arg1
  let c64_i32_5 : BitVec 32 := 64#32
  let c0_i32_6 : BitVec 32 := 0#32
  let v21 : BitVec 1 := Scalar.cmpi .eq c64_i32_5 c0_i32_6
  let c1_i32_7 : BitVec 32 := 1#32
  let v22 : BitVec 32 := Scalar.select v21 c1_i32_7 c64_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_11 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c64_i32 : BitVec 32 := 64#32
  let v2 : BitVec 32 := Scalar.divsi v1 c64_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c64_i32 c0_i32_1
  let v9 : BitVec 32 := Scalar.extui v8
  let c0_i32_2 : BitVec 32 := 0#32
  let v10 : BitVec 1 := Scalar.cmpi .slt c64_i32 c0_i32_2
  let v11 : BitVec 32 := Scalar.extui v10
  let v12 : BitVec 32 := Scalar.subi v9 v11
  let v13 : BitVec 1 := Scalar.cmpi .ne v7 v12
  let v14 : BitVec 32 := Scalar.remsi v1 c64_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c32_i32_4 : BitVec 32 := 32#32
  let v19 : BitVec 32 := Scalar.muli arg0 c32_i32_4
  let v20 : BitVec 32 := Scalar.addi v19 arg1
  let c64_i32_5 : BitVec 32 := 64#32
  let c0_i32_6 : BitVec 32 := 0#32
  let v21 : BitVec 1 := Scalar.cmpi .eq c64_i32_5 c0_i32_6
  let c1_i32_7 : BitVec 32 := 1#32
  let v22 : BitVec 32 := Scalar.select v21 c1_i32_7 c64_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let v20 : BitVec 32 := Scalar.addi v19 arg1
  let c32_i32_6 : BitVec 32 := 32#32
  let c0_i32_7 : BitVec 32 := 0#32
  let v21 : BitVec 1 := Scalar.cmpi .eq c32_i32_6 c0_i32_7
  let c1_i32_8 : BitVec 32 := 1#32
  let v22 : BitVec 32 := Scalar.select v21 c1_i32_8 c32_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  let c0_i32_14 : BitVec 32 := 0#32
  ![v18.toNat, c0_i32_12.toNat, v30.toNat, c0_i32_13.toNat]

def cc0_transform_14 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.divsi v1 c32_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32_0 c0_i32_2
  let v9 : BitVec 32 := Scalar.extui v8
  let c0_i32_3 : BitVec 32 := 0#32
  let v10 : BitVec 1 := Scalar.cmpi .slt c32_i32_0 c0_i32_3
  let v11 : BitVec 32 := Scalar.extui v10
  let v12 : BitVec 32 := Scalar.subi v9 v11
  let v13 : BitVec 1 := Scalar.cmpi .ne v7 v12
  let v14 : BitVec 32 := Scalar.remsi v1 c32_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli arg0 c32_i32_5
  let v20 : BitVec 32 := Scalar.addi v19 arg1
  let c32_i32_6 : BitVec 32 := 32#32
  let c0_i32_7 : BitVec 32 := 0#32
  let v21 : BitVec 1 := Scalar.cmpi .eq c32_i32_6 c0_i32_7
  let c1_i32_8 : BitVec 32 := 1#32
  let v22 : BitVec 32 := Scalar.select v21 c1_i32_8 c32_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  ![v18.toNat, v30.toNat, c0_i32_12.toNat]

def cc0_transform_15 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c64_i32 : BitVec 32 := 64#32
  let v2 : BitVec 32 := Scalar.divsi v1 c64_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c64_i32 c0_i32_1
  let v9 : BitVec 32 := Scalar.extui v8
  let c0_i32_2 : BitVec 32 := 0#32
  let v10 : BitVec 1 := Scalar.cmpi .slt c64_i32 c0_i32_2
  let v11 : BitVec 32 := Scalar.extui v10
  let v12 : BitVec 32 := Scalar.subi v9 v11
  let v13 : BitVec 1 := Scalar.cmpi .ne v7 v12
  let v14 : BitVec 32 := Scalar.remsi v1 c64_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c32_i32_4 : BitVec 32 := 32#32
  let v19 : BitVec 32 := Scalar.muli arg0 c32_i32_4
  let v20 : BitVec 32 := Scalar.addi v19 arg1
  let c64_i32_5 : BitVec 32 := 64#32
  let c0_i32_6 : BitVec 32 := 0#32
  let v21 : BitVec 1 := Scalar.cmpi .eq c64_i32_5 c0_i32_6
  let c1_i32_7 : BitVec 32 := 1#32
  let v22 : BitVec 32 := Scalar.select v21 c1_i32_7 c64_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_16 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c64_i32 : BitVec 32 := 64#32
  let v2 : BitVec 32 := Scalar.divsi v1 c64_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c64_i32 c0_i32_1
  let v9 : BitVec 32 := Scalar.extui v8
  let c0_i32_2 : BitVec 32 := 0#32
  let v10 : BitVec 1 := Scalar.cmpi .slt c64_i32 c0_i32_2
  let v11 : BitVec 32 := Scalar.extui v10
  let v12 : BitVec 32 := Scalar.subi v9 v11
  let v13 : BitVec 1 := Scalar.cmpi .ne v7 v12
  let v14 : BitVec 32 := Scalar.remsi v1 c64_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c32_i32_4 : BitVec 32 := 32#32
  let v19 : BitVec 32 := Scalar.muli arg0 c32_i32_4
  let v20 : BitVec 32 := Scalar.addi v19 arg1
  let c64_i32_5 : BitVec 32 := 64#32
  let c0_i32_6 : BitVec 32 := 0#32
  let v21 : BitVec 1 := Scalar.cmpi .eq c64_i32_5 c0_i32_6
  let c1_i32_7 : BitVec 32 := 1#32
  let v22 : BitVec 32 := Scalar.select v21 c1_i32_7 c64_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_17 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c64_i32 : BitVec 32 := 64#32
  let v2 : BitVec 32 := Scalar.divsi v1 c64_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c64_i32 c0_i32_1
  let v9 : BitVec 32 := Scalar.extui v8
  let c0_i32_2 : BitVec 32 := 0#32
  let v10 : BitVec 1 := Scalar.cmpi .slt c64_i32 c0_i32_2
  let v11 : BitVec 32 := Scalar.extui v10
  let v12 : BitVec 32 := Scalar.subi v9 v11
  let v13 : BitVec 1 := Scalar.cmpi .ne v7 v12
  let v14 : BitVec 32 := Scalar.remsi v1 c64_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c32_i32_4 : BitVec 32 := 32#32
  let v19 : BitVec 32 := Scalar.muli arg0 c32_i32_4
  let v20 : BitVec 32 := Scalar.addi v19 arg1
  let c64_i32_5 : BitVec 32 := 64#32
  let c0_i32_6 : BitVec 32 := 0#32
  let v21 : BitVec 1 := Scalar.cmpi .eq c64_i32_5 c0_i32_6
  let c1_i32_7 : BitVec 32 := 1#32
  let v22 : BitVec 32 := Scalar.select v21 c1_i32_7 c64_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x64x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x176x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x6160 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x32x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x11x64x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x176x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x32x6144 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x32x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x32x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference7Ideal.lean ====
abbrev S32768x2048 : Shape := ⟨2, ![32768, 2048]⟩
abbrev S2048 : Shape := ⟨1, ![2048]⟩
abbrev S2x2048x2048 : Shape := ⟨3, ![2, 2048, 2048]⟩
abbrev S2x512x2048 : Shape := ⟨3, ![2, 512, 2048]⟩
abbrev S2x2048x5632 : Shape := ⟨3, ![2, 2048, 5632]⟩
abbrev S2x5632x2048 : Shape := ⟨3, ![2, 5632, 2048]⟩
abbrev S1x2048x6160 : Shape := ⟨3, ![1, 2048, 6160]⟩
abbrev S1x2048x2048 : Shape := ⟨3, ![1, 2048, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S2048x2048 : Shape := ⟨2, ![2048, 2048]⟩
abbrev S2x16384x4x512 : Shape := ⟨4, ![2, 16384, 4, 512]⟩
abbrev S1x512x2048 : Shape := ⟨3, ![1, 512, 2048]⟩
abbrev S512x2048 : Shape := ⟨2, ![512, 2048]⟩
abbrev S2x256x4x512 : Shape := ⟨4, ![2, 256, 4, 512]⟩
abbrev S2x4x16384x256 : Shape := ⟨4, ![2, 4, 16384, 256]⟩
abbrev S2x4x16384 : Shape := ⟨3, ![2, 4, 16384]⟩
abbrev S2x4x16384x1 : Shape := ⟨4, ![2, 4, 16384, 1]⟩
abbrev S2x4x512x16384 : Shape := ⟨4, ![2, 4, 512, 16384]⟩
abbrev S2x2048x11x512 : Shape := ⟨4, ![2, 2048, 11, 512]⟩
abbrev S2x11x2048x512 : Shape := ⟨4, ![2, 11, 2048, 512]⟩
abbrev S2x11x2048x1024 : Shape := ⟨4, ![2, 11, 2048, 1024]⟩
abbrev S1x2048x6144 : Shape := ⟨3, ![1, 2048, 6144]⟩
abbrev S1x2048x16 : Shape := ⟨3, ![1, 2048, 16]⟩
abbrev S1x2048x128 : Shape := ⟨3, ![1, 2048, 128]⟩

abbrev nBuf : Space → Nat
  | .hbm => 98
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2x2048x2048, .bf16⟩
  | .hbm, ⟨3, _⟩ => ⟨S2x512x2048, .bf16⟩
  | .hbm, ⟨4, _⟩ => ⟨S2x512x2048, .bf16⟩
  | .hbm, ⟨5, _⟩ => ⟨S2x2048x2048, .bf16⟩
  | .hbm, ⟨6, _⟩ => ⟨S2048, .f32⟩
  | .hbm, ⟨7, _⟩ => ⟨S2x2048x5632, .f32⟩
  | .hbm, ⟨8, _⟩ => ⟨S2x2048x5632, .f32⟩
  | .hbm, ⟨9, _⟩ => ⟨S2x5632x2048, .f32⟩
  | .hbm, ⟨10, _⟩ => ⟨S1x2048x6160, .f32⟩
  | .hbm, ⟨11, _⟩ => ⟨S1x2048x2048, .f32⟩
  | .hbm, ⟨12, _⟩ => ⟨S32768x2048, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S32768x2048, .f32⟩
  | .hbm, ⟨24, _⟩ => ⟨S32768x2048, .f32⟩
  | .hbm, ⟨25, _⟩ => ⟨S1x2048, .f32⟩
  | .hbm, ⟨26, _⟩ => ⟨S32768x2048, .f32⟩
  | .hbm, ⟨27, _⟩ => ⟨S32768x2048, .f32⟩
  | .hbm, ⟨28, _⟩ => ⟨S1x2048x2048, .bf16⟩
  | .hbm, ⟨29, _⟩ => ⟨S2048x2048, .bf16⟩
  | .hbm, ⟨30, _⟩ => ⟨S2048x2048, .f32⟩
  | .hbm, ⟨31, _⟩ => ⟨S32768x2048, .f32⟩
  | .hbm, ⟨32, _⟩ => ⟨S2x16384x4x512, .f32⟩
  | .hbm, ⟨33, _⟩ => ⟨S1x512x2048, .bf16⟩
  | .hbm, ⟨34, _⟩ => ⟨S512x2048, .bf16⟩
  | .hbm, ⟨35, _⟩ => ⟨S512x2048, .f32⟩
  | .hbm, ⟨36, _⟩ => ⟨S2x256x4x512, .f32⟩
  | .hbm, ⟨37, _⟩ => ⟨S1x512x2048, .bf16⟩
  | .hbm, ⟨38, _⟩ => ⟨S512x2048, .bf16⟩
  | .hbm, ⟨39, _⟩ => ⟨S512x2048, .f32⟩
  | .hbm, ⟨40, _⟩ => ⟨S2x256x4x512, .f32⟩
  | .hbm, ⟨41, _⟩ => ⟨S2x4x16384x256, .f32⟩
  | .hbm, ⟨42, _⟩ => ⟨S_, .f32⟩
  | .hbm, ⟨43, _⟩ => ⟨S2x4x16384x256, .f32⟩
  | .hbm, ⟨44, _⟩ => ⟨S2x4x16384x256, .f32⟩
  | .hbm, ⟨45, _⟩ => ⟨S_, .f32⟩
  | .hbm, ⟨46, _⟩ => ⟨S2x4x16384, .f32⟩
  | .hbm, ⟨47, _⟩ => ⟨S_, .f32⟩
  | .hbm, ⟨48, _⟩ => ⟨S2x4x16384, .f32⟩
  | .hbm, ⟨49, _⟩ => ⟨S2x4x16384, .f32⟩
  | .hbm, ⟨50, _⟩ => ⟨S2x4x16384x1, .f32⟩
  | .hbm, ⟨51, _⟩ => ⟨S2x4x16384x256, .f32⟩
  | .hbm, ⟨52, _⟩ => ⟨S2x4x16384x256, .f32⟩
  | .hbm, ⟨53, _⟩ => ⟨S2x4x16384x256, .f32⟩
  | .hbm, ⟨54, _⟩ => ⟨S_, .f32⟩
  | .hbm, ⟨55, _⟩ => ⟨S2x4x16384, .f32⟩
  | .hbm, ⟨56, _⟩ => ⟨S2x4x16384x1, .f32⟩
  | .hbm, ⟨57, _⟩ => ⟨S2x4x16384x256, .f32⟩
  | .hbm, ⟨58, _⟩ => ⟨S2x4x16384x256, .f32⟩
  | .hbm, ⟨59, _⟩ => ⟨S2x4x512x16384, .f32⟩
  | .hbm, ⟨60, _⟩ => ⟨S2x16384x4x512, .f32⟩
  | .hbm, ⟨61, _⟩ => ⟨S32768x2048, .f32⟩
  | .hbm, ⟨62, _⟩ => ⟨S1x2048x2048, .bf16⟩
  | .hbm, ⟨63, _⟩ => ⟨S2048x2048, .bf16⟩
  | .hbm, ⟨64, _⟩ => ⟨S2048x2048, .f32⟩
  | .hbm, ⟨65, _⟩ => ⟨S32768x2048, .f32⟩
  | .hbm, ⟨66, _⟩ => ⟨S32768x2048, .f32⟩
  | .hbm, ⟨67, _⟩ => ⟨S_, .f32⟩
  | .hbm, ⟨68, _⟩ => ⟨S32768, .f32⟩
  | .hbm, ⟨69, _⟩ => ⟨S32768x1, .f32⟩
  | .hbm, ⟨70, _⟩ => ⟨S_, .f32⟩
  | .hbm, ⟨71, _⟩ => ⟨S32768x1, .f32⟩
  | .hbm, ⟨72, _⟩ => ⟨S32768x1, .f32⟩
  | .hbm, ⟨73, _⟩ => ⟨S_, .f32⟩
  | .hbm, ⟨74, _⟩ => ⟨S32768x1, .f32⟩
  | .hbm, ⟨75, _⟩ => ⟨S32768x1, .f32⟩
  | .hbm, ⟨76, _⟩ => ⟨S32768x1, .f32⟩
  | .hbm, ⟨77, _⟩ => ⟨S32768x2048, .f32⟩
  | .hbm, ⟨78, _⟩ => ⟨S32768x2048, .f32⟩
  | .hbm, ⟨79, _⟩ => ⟨S1x2048, .f32⟩
  | .hbm, ⟨80, _⟩ => ⟨S32768x2048, .f32⟩
  | .hbm, ⟨81, _⟩ => ⟨S32768x2048, .f32⟩
  | .hbm, ⟨82, _⟩ => ⟨S32768x2048, .f32⟩
  | .hbm, ⟨83, _⟩ => ⟨S2x2048x5632, .bf16⟩
  | .hbm, ⟨84, _⟩ => ⟨S2x2048x11x512, .bf16⟩
  | .hbm, ⟨85, _⟩ => ⟨S2x11x2048x512, .bf16⟩
  | .hbm, ⟨86, _⟩ => ⟨S2x2048x5632, .bf16⟩
  | .hbm, ⟨87, _⟩ => ⟨S2x2048x11x512, .bf16⟩
  | .hbm, ⟨88, _⟩ => ⟨S2x11x2048x512, .bf16⟩
  | .hbm, ⟨89, _⟩ => ⟨S1x2048x6160, .bf16⟩
  | .hbm, ⟨90, _⟩ => ⟨S2x11x2048x1024, .bf16⟩
  | .hbm, ⟨91, _⟩ => ⟨S2x5632x2048, .bf16⟩
  | .hbm, ⟨92, _⟩ => ⟨S1x2048x6144, .bf16⟩
  | .hbm, ⟨93, _⟩ => ⟨S1x2048x16, .bf16⟩
  | .hbm, ⟨94, _⟩ => ⟨S_, .i32⟩
  | .hbm, ⟨95, _⟩ => ⟨S_, .bf16⟩
  | .hbm, ⟨96, _⟩ => ⟨S1x2048x128, .bf16⟩
  | .hbm, ⟨97, _⟩ => ⟨S1x2048x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_6 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_c : Ref sig .tc := ⟨.hbm, 94, rfl⟩
abbrev main_call0_v0 : Ref sig .tc := ⟨.hbm, 95, rfl⟩
abbrev main_v72 : Ref sig .tc := ⟨.hbm, 96, rfl⟩
abbrev main_v73 : Ref sig .tc := ⟨.hbm, 97, rfl⟩

abbrev nD : Nat := 1
abbrev τ : Topo := Topo.v7x

variable {F : FTy → Type} [FloatOps F]
-- ==== Kernel8.lean ====
abbrev S32768x1024 : Shape := ⟨2, ![32768, 1024]⟩
abbrev S32768x4096 : Shape := ⟨2, ![32768, 4096]⟩
abbrev S4x256x256 : Shape := ⟨3, ![4, 256, 256]⟩
abbrev S1024 : Shape := ⟨1, ![1024]⟩
abbrev S2048x2048 : Shape := ⟨2, ![2048, 2048]⟩
abbrev S2048 : Shape := ⟨1, ![2048]⟩
abbrev S32768x2048 : Shape := ⟨2, ![32768, 2048]⟩
abbrev S1x1024 : Shape := ⟨2, ![1, 1024]⟩
abbrev S1x2048 : Shape := ⟨2, ![1, 2048]⟩
abbrev S1024x1024 : Shape := ⟨2, ![1024, 1024]⟩
abbrev S16x1024 : Shape := ⟨2, ![16, 1024]⟩
abbrev S1024x2048 : Shape := ⟨2, ![1024, 2048]⟩
abbrev S512x1 : Shape := ⟨2, ![512, 1]⟩
abbrev S512x1024 : Shape := ⟨2, ![512, 1024]⟩
abbrev S512x2048 : Shape := ⟨2, ![512, 2048]⟩
abbrev S512x256 : Shape := ⟨2, ![512, 256]⟩
abbrev S16x256 : Shape := ⟨2, ![16, 256]⟩
abbrev S528x256 : Shape := ⟨2, ![528, 256]⟩
abbrev S527x256 : Shape := ⟨2, ![527, 256]⟩
abbrev S1x256x256 : Shape := ⟨3, ![1, 256, 256]⟩
abbrev S256x256 : Shape := ⟨2, ![256, 256]⟩
abbrev S1x256 : Shape := ⟨2, ![1, 256]⟩
abbrev S256x2048 : Shape := ⟨2, ![256, 2048]⟩
abbrev S525x256 : Shape := ⟨2, ![525, 256]⟩
abbrev S521x256 : Shape := ⟨2, ![521, 256]⟩
abbrev S513x256 : Shape := ⟨2, ![513, 256]⟩
abbrev S512 : Shape := ⟨1, ![512]⟩

abbrev nBuf : Space → Nat
  | .hbm => 10
  | .vmem => 14
  | .smem => 0
  | _ => 0

abbrev bufTy : (tb : Table) → Fin (tcTables nBuf tb) → BufTy
  | .hbm, ⟨0, _⟩ => ⟨S32768x1024, .bf16⟩
  | .hbm, ⟨1, _⟩ => ⟨S32768x4096, .bf16⟩
  | .hbm, ⟨2, _⟩ => ⟨S4x256x256, .bf16⟩
  | .hbm, ⟨3, _⟩ => ⟨S1024, .f32⟩
  | .hbm, ⟨4, _⟩ => ⟨S2048x2048, .bf16⟩
  | .hbm, ⟨5, _⟩ => ⟨S2048, .f32⟩
  | .hbm, ⟨6, _⟩ => ⟨S32768x2048, .f32⟩
  | .hbm, ⟨7, _⟩ => ⟨S1x1024, .f32⟩
  | .hbm, ⟨8, _⟩ => ⟨S1x2048, .f32⟩
  | .hbm, ⟨9, _⟩ => ⟨S32768x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S16x1024, .bf16⟩
  | .local _ .vmem, ⟨5, _⟩ => ⟨S16x1024, .bf16⟩
  | .local _ .vmem, ⟨6, _⟩ => ⟨S4x256x256, .bf16⟩
  | .local _ .vmem, ⟨7, _⟩ => ⟨S1x1024, .f32⟩
  | .local _ .vmem, ⟨8, _⟩ => ⟨S2048x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .f32⟩
  | .local _ .vmem, ⟨13, _⟩ => ⟨S1024x2048, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S32768x1024 : Shape := ⟨2, ![32768, 1024]⟩
abbrev S32768x4096 : Shape := ⟨2, ![32768, 4096]⟩
abbrev S4x256x256 : Shape := ⟨3, ![4, 256, 256]⟩
abbrev S1024 : Shape := ⟨1, ![1024]⟩
abbrev S2048x2048 : Shape := ⟨2, ![2048, 2048]⟩
abbrev S2048 : Shape := ⟨1, ![2048]⟩
abbrev S32768x2048 : Shape := ⟨2, ![32768, 2048]⟩
abbrev S2x16384x4x256 : Shape := ⟨4, ![2, 16384, 4, 256]⟩
abbrev S16384 : Shape := ⟨1, ![16384]⟩
abbrev S2x16384x1x256 : Shape := ⟨4, ![2, 16384, 1, 256]⟩
abbrev S2x16384x256 : Shape := ⟨3, ![2, 16384, 256]⟩
abbrev S_ : Shape := ⟨0, ![]⟩
abbrev S1x16384x1 : Shape := ⟨3, ![1, 16384, 1]⟩
abbrev S4x256x2x16384 : Shape := ⟨4, ![4, 256, 2, 16384]⟩
abbrev S1x1024 : Shape := ⟨2, ![1, 1024]⟩
abbrev S32768 : Shape := ⟨1, ![32768]⟩
abbrev S32768x1 : Shape := ⟨2, ![32768, 1]⟩
abbrev S1x2048 : Shape := ⟨2, ![1, 2048]⟩

abbrev nBuf : Space → Nat
  | .hbm => 108
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x4096, .bf16⟩
  | .hbm, ⟨2, _⟩ => ⟨S4x256x256, .bf16⟩
  | .hbm, ⟨3, _⟩ => ⟨S1024, .f32⟩
  | .hbm, ⟨4, _⟩ => ⟨S2048x2048, .bf16⟩
  | .hbm, ⟨5, _⟩ => ⟨S2048, .f32⟩
  | .hbm, ⟨6, _⟩ => ⟨S32768x2048, .f32⟩
  | .hbm, ⟨7, _⟩ => ⟨S32768x1024, .bf16⟩
  | .hbm, ⟨8, _⟩ => ⟨S32768x1024, .f32⟩
  | .hbm, ⟨9, _⟩ => ⟨S2x16384x4x256, .f32⟩
  | .hbm, ⟨10, _⟩ => ⟨S16384, .i32⟩
  | .hbm, ⟨11, _⟩ => ⟨S2x16384x1x256, .f32⟩
  | .hbm, ⟨12, _⟩ => ⟨S2x16384x256, .f32⟩
  | .hbm, ⟨13, _⟩ => ⟨S_, .f32⟩
  | .hbm, ⟨14, _⟩ => ⟨S_, .f32⟩
  | .hbm, ⟨15, _⟩ => ⟨S2x16384x256, .f32⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S16384, .f32⟩
  | .hbm, ⟨23, _⟩ => ⟨S1x16384x1, .f32⟩
  | .hbm, ⟨24, _⟩ => ⟨S2x16384x256, .f32⟩
  | .hbm, ⟨25, _⟩ => ⟨S2x16384x256, .f32⟩
  | .hbm, ⟨26, _⟩ => ⟨S2x16384x256, .f32⟩
  | .hbm, ⟨27, _⟩ => ⟨S2x16384x1x256, .f32⟩
  | .hbm, ⟨28, _⟩ => ⟨S2x16384x256, .f32⟩
  | .hbm, ⟨29, _⟩ => ⟨S_, .f32⟩
  | .hbm, ⟨30, _⟩ => ⟨S_, .f32⟩
  | .hbm, ⟨31, _⟩ => ⟨S2x16384x256, .f32⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S16384, .f32⟩
  | .hbm, ⟨39, _⟩ => ⟨S1x16384x1, .f32⟩
  | .hbm, ⟨40, _⟩ => ⟨S2x16384x256, .f32⟩
  | .hbm, ⟨41, _⟩ => ⟨S2x16384x256, .f32⟩
  | .hbm, ⟨42, _⟩ => ⟨S2x16384x256, .f32⟩
  | .hbm, ⟨43, _⟩ => ⟨S2x16384x1x256, .f32⟩
  | .hbm, ⟨44, _⟩ => ⟨S2x16384x256, .f32⟩
  | .hbm, ⟨45, _⟩ => ⟨S_, .f32⟩
  | .hbm, ⟨46, _⟩ => ⟨S_, .f32⟩
  | .hbm, ⟨47, _⟩ => ⟨S2x16384x256, .f32⟩
  | .hbm, ⟨48, _⟩ => ⟨S_, .i32⟩
  | .hbm, ⟨49, _⟩ => ⟨S16384, .i32⟩
  | .hbm, ⟨50, _⟩ => ⟨S16384, .i32⟩
  | .hbm, ⟨51, _⟩ => ⟨S_, .i32⟩
  | .hbm, ⟨52, _⟩ => ⟨S16384, .i32⟩
  | .hbm, ⟨53, _⟩ => ⟨S16384, .i32⟩
  | .hbm, ⟨54, _⟩ => ⟨S16384, .f32⟩
  | .hbm, ⟨55, _⟩ => ⟨S1x16384x1, .f32⟩
  | .hbm, ⟨56, _⟩ => ⟨S2x16384x256, .f32⟩
  | .hbm, ⟨57, _⟩ => ⟨S2x16384x256, .f32⟩
  | .hbm, ⟨58, _⟩ => ⟨S2x16384x256, .f32⟩
  | .hbm, ⟨59, _⟩ => ⟨S2x16384x1x256, .f32⟩
  | .hbm, ⟨60, _⟩ => ⟨S2x16384x256, .f32⟩
  | .hbm, ⟨61, _⟩ => ⟨S_, .f32⟩
  | .hbm, ⟨62, _⟩ => ⟨S_, .f32⟩
  | .hbm, ⟨63, _⟩ => ⟨S2x16384x256, .f32⟩
  | .hbm, ⟨64, _⟩ => ⟨S_, .i32⟩
  | .hbm, ⟨65, _⟩ => ⟨S16384, .i32⟩
  | .hbm, ⟨66, _⟩ => ⟨S16384, .i32⟩
  | .hbm, ⟨67, _⟩ => ⟨S_, .i32⟩
  | .hbm, ⟨68, _⟩ => ⟨S16384, .i32⟩
  | .hbm, ⟨69, _⟩ => ⟨S16384, .i32⟩
  | .hbm, ⟨70, _⟩ => ⟨S16384, .f32⟩
  | .hbm, ⟨71, _⟩ => ⟨S1x16384x1, .f32⟩
  | .hbm, ⟨72, _⟩ => ⟨S2x16384x256, .f32⟩
  | .hbm, ⟨73, _⟩ => ⟨S2x16384x256, .f32⟩
  | .hbm, ⟨74, _⟩ => ⟨S2x16384x256, .f32⟩
  | .hbm, ⟨75, _⟩ => ⟨S2x16384x1x256, .f32⟩
  | .hbm, ⟨76, _⟩ => ⟨S2x16384x1x256, .f32⟩
  | .hbm, ⟨77, _⟩ => ⟨S2x16384x1x256, .f32⟩
  | .hbm, ⟨78, _⟩ => ⟨S2x16384x1x256, .f32⟩
  | .hbm, ⟨79, _⟩ => ⟨S2x16384x4x256, .f32⟩
  | .hbm, ⟨80, _⟩ => ⟨S4x256x256, .f32⟩
  | .hbm, ⟨81, _⟩ => ⟨S4x256x2x16384, .f32⟩
  | .hbm, ⟨82, _⟩ => ⟨S2x16384x4x256, .f32⟩
  | .hbm, ⟨83, _⟩ => ⟨S32768x1024, .f32⟩
  | .hbm, ⟨84, _⟩ => ⟨S1x1024, .f32⟩
  | .hbm, ⟨85, _⟩ => ⟨S32768x1024, .f32⟩
  | .hbm, ⟨86, _⟩ => ⟨S32768x1024, .f32⟩
  | .hbm, ⟨87, _⟩ => ⟨S32768x1024, .f32⟩
  | .hbm, ⟨88, _⟩ => ⟨S32768x2048, .f32⟩
  | .hbm, ⟨89, _⟩ => ⟨S2048x2048, .f32⟩
  | .hbm, ⟨90, _⟩ => ⟨S32768x2048, .f32⟩
  | .hbm, ⟨91, _⟩ => ⟨S32768x2048, .f32⟩
  | .hbm, ⟨92, _⟩ => ⟨S_, .f32⟩
  | .hbm, ⟨93, _⟩ => ⟨S32768, .f32⟩
  | .hbm, ⟨94, _⟩ => ⟨S32768x1, .f32⟩
  | .hbm, ⟨95, _⟩ => ⟨S_, .f32⟩
  | .hbm, ⟨96, _⟩ => ⟨S32768x1, .f32⟩
  | .hbm, ⟨97, _⟩ => ⟨S32768x1, .f32⟩
  | .hbm, ⟨98, _⟩ => ⟨S_, .f32⟩
  | .hbm, ⟨99, _⟩ => ⟨S32768x1, .f32⟩
  | .hbm, ⟨100, _⟩ => ⟨S32768x1, .f32⟩
  | .hbm, ⟨101, _⟩ => ⟨S32768x1, .f32⟩
  | .hbm, ⟨102, _⟩ => ⟨S32768x2048, .f32⟩
  | .hbm, ⟨103, _⟩ => ⟨S32768x2048, .f32⟩
  | .hbm, ⟨104, _⟩ => ⟨S1x2048, .f32⟩
  | .hbm, ⟨105, _⟩ => ⟨S32768x2048, .f32⟩
  | .hbm, ⟨106, _⟩ => ⟨S32768x2048, .f32⟩
  | .hbm, ⟨107, _⟩ => ⟨S32768x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_c_8 : Ref sig .tc := ⟨.hbm, 64, rfl⟩
abbrev main_v47 : Ref sig .tc := ⟨.hbm, 65, rfl⟩
abbrev main_v48 : Ref sig .tc := ⟨.hbm, 66, rfl⟩
abbrev main_c_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_10 : Ref sig .tc := ⟨.hbm, 92, rfl⟩
abbrev main_v73 : Ref sig .tc := ⟨.hbm, 93, rfl⟩
abbrev main_v74 : Ref sig .tc := ⟨.hbm, 94, rfl⟩
abbrev main_cst_11 : Ref sig .tc := ⟨.hbm, 95, rfl⟩
abbrev main_v75 : Ref sig .tc := ⟨.hbm, 96, rfl⟩
abbrev main_v76 : Ref sig .tc := ⟨.hbm, 97, rfl⟩
abbrev main_cst_12 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩

abbrev nD : Nat := 1
abbrev τ : Topo := Topo.v7x

variable {F : FTy → Type} [FloatOps F]
-- ==== Proof.Gla.Model.lean ====
/- The chunked recurrence over the real numbers: the state before every chunk and the output of every row. -/
module

public import Mathlib.Analysis.SpecialFunctions.Pow.Real

@[expose] public section

noncomputable section

namespace Cert.Gla

/-- The state before chunk `n`: it decays by the chunk's whole decay and takes in the chunk's keys and values. -/
def state (k b : ℕ → Fin 64 → Fin 256 → ℝ) (v : ℕ → Fin 64 → Fin 512 → ℝ) : ℕ → Fin 256 → Fin 512 → ℝ
  | 0 => fun _ _ => 0
  | n + 1 => fun d e => Real.exp (b n 63 d) * state k b v n d e + ∑ l : Fin 64, k n l d * Real.exp (b n 63 d - b n l d) * v n l e

/-- What row `l` of a chunk reads from the rows of its own chunk up to itself. -/
def intraR (q k b : Fin 64 → Fin 256 → ℝ) (v : Fin 64 → Fin 512 → ℝ) (l : Fin 64) (e : Fin 512) : ℝ :=
  ∑ m : Fin 64, (if m ≤ l then ∑ d : Fin 256, q l d * Real.exp (b l d - b 32 d) * (k m d * Real.exp (b 32 d - b m d)) else 0) * v m e

/-- The output of row `l` of chunk `n`. -/
def row (q k b : ℕ → Fin 64 → Fin 256 → ℝ) (v : ℕ → Fin 64 → Fin 512 → ℝ) (n : ℕ) (l : Fin 64) (e : Fin 512) : ℝ :=
  intraR (q n) (k n) (b n) (v n) l e + ∑ d : Fin 256, q n l d * Real.exp (b n l d) * state k b v n d e

/-- Two chunks at once: the state after both from the state before both. -/
theorem state_two (k b : ℕ → Fin 64 → Fin 256 → ℝ) (v : ℕ → Fin 64 → Fin 512 → ℝ) (n : ℕ) (d : Fin 256) (e : Fin 512) :
    Real.exp (b n 63 d + b (n + 1) 63 d) * state k b v n d e
      + (∑ l : Fin 64, k n l d * Real.exp (b n 63 d - b n l d) * Real.exp (b n 63 d + b (n + 1) 63 d - b n 63 d) * v n l e
        + ∑ l : Fin 64, k (n + 1) l d * Real.exp (b (n + 1) 63 d - b (n + 1) l d) * v (n + 1) l e)
      = state k b v (n + 2) d e := by
  show _ = Real.exp (b (n + 1) 63 d) * (Real.exp (b n 63 d) * state k b v n d e + ∑ l : Fin 64, k n l d * Real.exp (b n 63 d - b n l d) * v n l e) + _
  rw [Real.exp_add, mul_add, Finset.mul_sum, add_assoc, ← mul_assoc, mul_comm (Real.exp (b n 63 d))]
  congr 2
  refine Finset.sum_congr rfl fun l _ => ?_
  rw [show b n 63 d + b (n + 1) 63 d - b n 63 d = b (n + 1) 63 d by ring]
  ring

/-- The second of two chunks, from the state before both. -/
theorem row_two (q k b : ℕ → Fin 64 → Fin 256 → ℝ) (v : ℕ → Fin 64 → Fin 512 → ℝ) (n : ℕ) (l : Fin 64) (e : Fin 512) :
    intraR (q (n + 1)) (k (n + 1)) (b (n + 1)) (v (n + 1)) l e
      + ∑ m : Fin 64, (∑ d : Fin 256, q (n + 1) l d * Real.exp (b (n + 1) l d) * (k n m d * Real.exp (b n 63 d - b n m d))) * v n m e
      + ∑ d : Fin 256, q (n + 1) l d * Real.exp (b (n + 1) l d) * Real.exp (b n 63 d) * state k b v n d e
      = row q k b v (n + 1) l e := by
  unfold row
  rw [add_assoc]
  congr 1
  simp only [state, mul_add, Finset.sum_add_distrib, Finset.mul_sum, Finset.sum_mul]
  rw [Finset.sum_comm, add_comm]
  congr 1
  · exact Finset.sum_congr rfl fun d _ => by ring
  · exact Finset.sum_congr rfl fun d _ => Finset.sum_congr rfl fun m _ => by ring

end Cert.Gla

end
-- ==== Proof.Gla.Data.lean ====
/- The recurrence's real inputs, read off the four argument arrays, and the result array they determine. -/
module

public import proofs.«01_k».proof.Proof.Gla.Model
public import Idealize.ShloMosaic.Lib.Pointwise

@[expose] public section

set_option maxRecDepth 16384

noncomputable section

namespace Cert.Gla

open Idealize.ShloMosaic

/-- The cumulative sum down a chunk. -/
def cumR (g : Fin 64 → Fin 256 → ℝ) (l : Fin 64) (d : Fin 256) : ℝ := ∑ m : Fin 64, if m ≤ l then g m d else 0

/-- An entry of a matrix as a real number. -/
def re2 {n m : ℕ} [NeZero n] [NeZero m] (X : (⟨2, ![n, m]⟩ : Shape).Idx → EReal) (r c : ℕ) : ℝ := (X (ix2 (Fin.ofNat n r) (Fin.ofNat m c))).toReal

/-- An entry of a vector as a real number. -/
def re1 {n : ℕ} [NeZero n] (X : (⟨1, ![n]⟩ : Shape).Idx → EReal) (c : ℕ) : ℝ := (X (ix1 (Fin.ofNat n c))).toReal

/-- Every entry of an array is a real number. -/
def Fin' {s : Shape} (X : s.Idx → EReal) : Prop := ∀ i, ∃ x : ℝ, X i = (x : EReal)

/-- The real matrix of a finite one at a row and a column given by their numbers. -/
theorem re2_eq {n m : ℕ} [NeZero n] [NeZero m] {X : (⟨2, ![n, m]⟩ : Shape).Idx → EReal} (h : Fin' X) (i : Fin n) (j : Fin m) (r c : ℕ)
    (hr : i.val = r) (hc : j.val = c) : X (ix2 i j) = ((re2 X r c : ℝ) : EReal) := by
  subst hr; subst hc
  obtain ⟨x, hx⟩ := h (ix2 i j)
  unfold re2
  rw [show Fin.ofNat n i.val = i from Fin.ext (Nat.mod_eq_of_lt i.isLt), show Fin.ofNat m j.val = j from Fin.ext (Nat.mod_eq_of_lt j.isLt), hx, EReal.toReal_coe]

/-- The real vector of a finite one at an entry given by its number. -/
theorem re1_eq {n : ℕ} [NeZero n] {X : (⟨1, ![n]⟩ : Shape).Idx → EReal} (h : Fin' X) (j : Fin n) (c : ℕ)
    (hc : j.val = c) : X (ix1 j) = ((re1 X c : ℝ) : EReal) := by
  subst hc
  obtain ⟨x, hx⟩ := h (ix1 j)
  unfold re1
  rw [show Fin.ofNat n j.val = j from Fin.ext (Nat.mod_eq_of_lt j.isLt), hx, EReal.toReal_coe]

/-- The logarithm of the sigmoid, over sixteen. -/
def gR (z : ℝ) : ℝ := -(max (-z) 0 + Real.log (1 + Real.exp (-|z|))) / 16

section

variable (X : (⟨2, ![32768, 6144]⟩ : Shape).Idx → EReal) (A : (⟨2, ![32768, 128]⟩ : Shape).Idx → EReal)
variable (W : (⟨2, ![16, 1024]⟩ : Shape).Idx → EReal) (B : (⟨1, ![1024]⟩ : Shape).Idx → EReal)

/-- The gate's argument at a row and a key column. -/
def gateZ (r c : ℕ) : ℝ := ∑ j : Fin 16, re2 A r j.val * re2 W j.val c + re1 B c

/-- The scaled queries of sequence `β`, head `h`. -/
def qM (β h : ℕ) (n : ℕ) (l : Fin 64) (d : Fin 256) : ℝ := re2 X (16384 * β + 64 * n + l.val) (256 * h + d.val) / 16

/-- The keys of sequence `β`, head `h`. -/
def kM (β h : ℕ) (n : ℕ) (l : Fin 64) (d : Fin 256) : ℝ := re2 X (16384 * β + 64 * n + l.val) (1024 + 256 * h + d.val)

/-- The values of sequence `β`, head `h`. -/
def vM (β h : ℕ) (n : ℕ) (l : Fin 64) (e : Fin 512) : ℝ := re2 X (16384 * β + 64 * n + l.val) (2048 + 512 * h + e.val)

/-- The cumulative log decay of sequence `β`, head `h`, within a chunk. -/
def bM (β h : ℕ) (n : ℕ) : Fin 64 → Fin 256 → ℝ := cumR fun l d => gR (gateZ A W B (16384 * β + 64 * n + l.val) (256 * h + d.val))

/-- The state of sequence `β`, head `h`, before chunk `n`. -/
def stM (β h n : ℕ) : Fin 256 → Fin 512 → ℝ := state (kM X β h) (bM A W B β h) (vM X β h) n

/-- The output rows of sequence `β`, head `h`, chunk `n`. -/
def rowM (β h n : ℕ) : Fin 64 → Fin 512 → ℝ := row (qM X β h) (kM X β h) (bM A W B β h) (vM X β h) n

/-- The result array. -/
def result (r c : ℕ) : ℝ := rowM X A W B (r / 16384) (c / 512) (r % 16384 / 64) (Fin.ofNat 64 r) (Fin.ofNat 512 c)

end

end Cert.Gla

end
-- ==== Proof.Gla.Finite.lean ====
/- The precondition: every entry of every argument is a real number. -/
module

public import proofs.«01_k».proof.Pre_finite
public import proofs.«01_k».proof.Proof.Gla.Data
public import Idealize.ShloMosaic.Lib.ReduceAll

@[expose] public section

set_option maxRecDepth 16384

noncomputable section

namespace Cert.Pre_finite

open Idealize.ShloMosaic Cert.Gla

/-- The shape relations the precondition names. -/
theorem facts : Facts := by
  constructor <;> decide

attribute [local instance] facts

instance : Subsingleton S_.Idx := ⟨fun a b => funext fun i => i.elim0⟩

/-- A number whose absolute value is below infinity is a real number. -/
theorem real_of_lt (x : EReal) (h : FloatOps.cmpf (F := Ideal) (φ := .f32) CmpFPredicate.olt (max x (-x)) (Ideal.ofBits .f32 0x7F800000#32) = 1#1) : ∃ r : ℝ, x = (r : EReal) := by
  rw [show Ideal.ofBits .f32 0x7F800000#32 = (⊤ : EReal) by simp [Ideal.ofBits, Ideal.ieee]] at h
  induction x using EReal.rec with
  | coe r => exact ⟨r, rfl⟩
  | bot => exact absurd h (by simp [FloatOps.cmpf, Ideal.cmp])
  | top => exact absurd h (by simp [FloatOps.cmpf, Ideal.cmp])

/-- An array all of whose entries compare so is an array of real numbers. -/
theorem all_of {s : Shape} {axes : List (Fin s.rank)} (p : s.Idx → BitVec 1) (init : S_.Idx → BitVec 1) (hr : s.ReducesTo axes S_) (hu : 0 < S_.numel) (X : s.Idx → EReal)
    (hp : ∀ i, p i = FloatOps.cmpf (F := Ideal) (φ := .f32) CmpFPredicate.olt (max (X i) (-X i)) (Ideal.ofBits .f32 0x7F800000#32)) (j : S_.Idx)
    (e : Host.reduce IntOp.andi p init hr hu j = 1#1) : Fin' X := fun i =>
  real_of_lt _ ((hp i).symm.trans (Host.reduce_andi_all p init hr hu j e i))

/-- What the precondition says. -/
theorem reals {X : FVec Ideal S32768x6144 .bf16} {A : FVec Ideal S32768x128 .bf16} {W : FVec Ideal S16x1024 .f32} {B : FVec Ideal S1024 .f32}
    (h : fn (F := Ideal) X A W B = fun _ => 1#1) : Fin' X ∧ Fin' A ∧ Fin' W ∧ Fin' B := by
  have h0 := congrFun h (fun i => i.elim0)
  unfold fn fn_part1 at h0
  dsimp only at h0
  obtain ⟨h0, hb⟩ := IntOp.andi_eq_one.1 h0
  obtain ⟨h0, hw⟩ := IntOp.andi_eq_one.1 h0
  obtain ⟨hx, ha⟩ := IntOp.andi_eq_one.1 h0
  exact ⟨all_of _ _ _ _ X (fun i => rfl) _ hx, all_of _ _ _ _ A (fun i => rfl) _ ha, all_of _ _ _ _ W (fun i => rfl) _ hw, all_of _ _ _ _ B (fun i => rfl) _ hb⟩

end Cert.Pre_finite

end
-- ==== Proof.Gla.Group.lean ====
/- One step of the chunked recurrence as the kernel computes it: two chunks of 64 rows of one head, written once over the vectors the body
   slices out of its blocks. -/
module

public import proofs.«01_k».proof.Proof.Gen.KernelIdeal.Value

@[expose] public section

set_option maxRecDepth 16384

noncomputable section

namespace Cert.KernelIdeal.Gla

open Cert.KernelIdeal Cert.KernelIdeal.Gen Idealize.ShloMosaic

variable {F : FTy → Type} [FloatOps F] [Named F]

/-- The cumulative log decay of one chunk: the lower triangular sum of the gates, as one product with the mask twice. -/
def cum (g : FVec F S64x256 .f32) : FVec F S64x256 .f32 :=
  matmul dot_S64x128_S128x256_S64x256_1_0_0_1_n_n none k0_pay4
    (concatenate S128x256 0 [⟨S64x256, truncf .bf16 g bitsLt_bf16_f32⟩,
      ⟨S64x256, truncf .bf16 (subf g (extf .f32 (truncf .bf16 g bitsLt_bf16_f32) bitsLt_bf16_f32)) bitsLt_bf16_f32⟩]
      concatenates_S64x256_S64x256_S128x256_d0)
    (constant S64x256 .f32 0x00000000#32)

/-- Row 32 of a chunk's cumulative decay. -/
def mid (b : FVec F S64x256 .f32) : FVec F S1x256 .f32 := extractStridedSlice S1x256 ![32, 0] b slices_S64x256_o32_0_S1x256

/-- Row 63 of a chunk's cumulative decay. -/
def last (b : FVec F S64x256 .f32) : FVec F S1x256 .f32 := extractStridedSlice S1x256 ![63, 0] b slices_S64x256_o63_0_S1x256

/-- The queries, scaled. -/
def qf (q : Vec F S64x256 .bf16) : FVec F S64x256 .f32 :=
  mulf (extf .f32 q bitsLt_bf16_f32) (broadcast S64x256 (Scalar.ofBits .f32 0x3D800000#32))

/-- The keys, widened. -/
def kf (k : Vec F S64x256 .bf16) : FVec F S64x256 .f32 := extf .f32 k bitsLt_bf16_f32

/-- A row repeated over the chunk. -/
def rep (r : FVec F S1x256 .f32) : FVec F S64x256 .f32 := broadcastTo S64x256 r broadcasts_S1x256_S64x256

/-- What a chunk's queries read from its own keys and values. -/
def intra (b : FVec F S64x256 .f32) (q k : Vec F S64x256 .bf16) (v : Vec F S64x512 .bf16) : FVec F S64x512 .f32 :=
  matmul dot_S64x64_S64x512_S64x512_1_0_0_1_n_n none
    (truncf .bf16 (select k0_pay3
      (matmul dot_S64x256_S64x256_S64x64_1_1_0_0_n_n none
        (truncf .bf16 (mulf (qf q) (exp2 (subf b (rep (mid b))))) bitsLt_bf16_f32)
        (truncf .bf16 (mulf (kf k) (exp2 (subf (rep (mid b)) b))) bitsLt_bf16_f32)
        (constant S64x64 .f32 0x00000000#32))
      (broadcast S64x64 (Scalar.ofBits .f32 0x00000000#32))) bitsLt_bf16_f32)
    v (constant S64x512 .f32 0x00000000#32)

/-- The queries decayed from the chunk's start. -/
def qloc (b : FVec F S64x256 .f32) (q : Vec F S64x256 .bf16) : FVec F S64x256 .f32 := mulf (qf q) (exp2 b)

/-- The keys decayed to the chunk's end. -/
def kloc (b : FVec F S64x256 .f32) (k : Vec F S64x256 .bf16) : FVec F S64x256 .f32 := mulf (kf k) (exp2 (subf (rep (last b)) b))

/-- What the second chunk's queries read from the first chunk's keys and values. -/
def cross (b0 b1 : FVec F S64x256 .f32) (q1 k0 : Vec F S64x256 .bf16) (v0 : Vec F S64x512 .bf16) : FVec F S64x512 .f32 :=
  matmul dot_S64x64_S64x512_S64x512_1_0_0_1_n_n none
    (truncf .bf16 (matmul dot_S64x256_S64x256_S64x64_1_1_0_0_n_n none (truncf .bf16 (qloc b1 q1) bitsLt_bf16_f32)
      (truncf .bf16 (kloc b0 k0) bitsLt_bf16_f32) (constant S64x64 .f32 0x00000000#32)) bitsLt_bf16_f32)
    v0 (constant S64x512 .f32 0x00000000#32)

/-- What both chunks' queries read from the state the pair starts with. -/
def inter (S : FVec F S256x512 .f32) (b0 b1 : FVec F S64x256 .f32) (q0 q1 : Vec F S64x256 .bf16) : FVec F S128x512 .f32 :=
  matmul dot_S128x256_S256x512_S128x512_1_0_0_1_n_n none
    (concatenate S128x256 0 [⟨S64x256, truncf .bf16 (qloc b0 q0) bitsLt_bf16_f32⟩,
      ⟨S64x256, truncf .bf16 (mulf (qloc b1 q1) (rep (exp2 (last b0)))) bitsLt_bf16_f32⟩] concatenates_S64x256_S64x256_S128x256_d0)
    (truncf .bf16 S bitsLt_bf16_f32) (constant S128x512 .f32 0x00000000#32)

/-- The two chunks' whole log decay. -/
def tot (b0 b1 : FVec F S64x256 .f32) : FVec F S1x256 .f32 := addf (last b0) (last b1)

/-- The state after the pair. -/
def next (S : FVec F S256x512 .f32) (b0 b1 : FVec F S64x256 .f32) (k0 k1 : Vec F S64x256 .bf16) (v0 v1 : Vec F S64x512 .bf16) :
    FVec F S256x512 .f32 :=
  addf
    (mulf (broadcastTo S256x512 (extractStridedSlice S256x1 ![0, 0]
        (transpose S256x128 [1, 0] (broadcastTo S128x256 (shapeCast S1x256 (exp2 (tot b0 b1)) shapeCasts_S1x256_S1x256)
          broadcasts_S1x256_S128x256) transposes_S128x256_p1_0_S256x128) slices_S256x128_o0_0_S256x1) broadcasts_S256x1_S256x512) S)
    (matmul dot_S128x256_S128x512_S256x512_0_0_1_1_n_n none
      (concatenate S128x256 0 [⟨S64x256, truncf .bf16 (mulf (kloc b0 k0) (rep (exp2 (subf (tot b0 b1) (last b0))))) bitsLt_bf16_f32⟩,
        ⟨S64x256, truncf .bf16 (kloc b1 k1) bitsLt_bf16_f32⟩] concatenates_S64x256_S64x256_S128x256_d0)
      (concatenate S128x512 0 [⟨S64x512, v0⟩, ⟨S64x512, v1⟩] concatenates_S64x512_S64x512_S128x512_d0)
      (constant S256x512 .f32 0x00000000#32))

/-- The first chunk's output. -/
def outA (S : FVec F S256x512 .f32) (b0 b1 : FVec F S64x256 .f32) (q0 q1 k0 : Vec F S64x256 .bf16) (v0 : Vec F S64x512 .bf16) :
    FVec F S64x512 .bf16 :=
  truncf .bf16 (addf (intra b0 q0 k0 v0) (extractStridedSlice S64x512 ![0, 0] (inter S b0 b1 q0 q1) slices_S128x512_o0_0_S64x512)) bitsLt_bf16_f32

/-- The second chunk's output. -/
def outB (S : FVec F S256x512 .f32) (b0 b1 : FVec F S64x256 .f32) (q0 q1 k0 k1 : Vec F S64x256 .bf16) (v0 v1 : Vec F S64x512 .bf16) :
    FVec F S64x512 .bf16 :=
  truncf .bf16 (addf (addf (intra b1 q1 k1 v1) (cross b0 b1 q1 k0 v0))
    (extractStridedSlice S64x512 ![64, 0] (inter S b0 b1 q0 q1) slices_S128x512_o64_0_S64x512)) bitsLt_bf16_f32

end Cert.KernelIdeal.Gla

end
-- ==== Proof.Gla.Cut.lean ====
/- Reading a part of a block: the loads and slices of the kernel's body as one function of the block and the part's corner. -/
module

public import proofs.«01_k».proof.Proof.Gla.Group
public import Idealize.ShloMosaic.Lib.Pointwise
public import Idealize.ShloMosaic.Lib.Pipeline.ReadBack

@[expose] public section

set_option maxRecDepth 16384

noncomputable section

namespace Cert.KernelIdeal.Gla

open Cert.KernelIdeal Cert.KernelIdeal.Gen Idealize.ShloMosaic Idealize.ShloMosaic.TcCoe Idealize.SL.Sem

/-- The part of a matrix that starts at row `r` and column `e`. -/
def cut {α : Type} {R C n m : ℕ} [NeZero R] [NeZero C] (x : (⟨2, ![R, C]⟩ : Shape).Idx → α) (r e : ℕ) : (⟨2, ![n, m]⟩ : Shape).Idx → α :=
  fun i => x (ix2 (Fin.ofNat R (r + (i 0).val)) (Fin.ofNat C (e + (i 1).val)))

/-- A cut at an index whose coordinates are in range. -/
theorem cut_apply {α : Type} {R C n m : ℕ} [NeZero R] [NeZero C] (x : (⟨2, ![R, C]⟩ : Shape).Idx → α) (r e : ℕ) (i : Fin n) (j : Fin m)
    (hr : r + i.val < R) (he : e + j.val < C) : cut x r e (ix2 i j) = x (ix2 ⟨r + i.val, hr⟩ ⟨e + j.val, he⟩) := by
  show x (ix2 (Fin.ofNat R (r + i.val)) (Fin.ofNat C (e + j.val))) = _
  congr 2
  · exact Fin.ext (Nat.mod_eq_of_lt hr)
  · exact Fin.ext (Nat.mod_eq_of_lt he)

variable {F : FTy → Type} [FloatOps F]

/-- A slice of a matrix is a cut. -/
theorem slice_cut {φ : FTy} (x : FVec F S1024x512 φ) (r e : ℕ) (h : S1024x512.Slices ![r, e] S64x256) :
    extractStridedSlice S64x256 ![r, e] x h = cut x r e := by
  funext i
  have h0 := h.2 0
  have h1 := h.2 1
  have i0 := (i 0).isLt
  have i1 := (i 1).isLt
  refine extractStridedSlice_apply _ x h i _ fun a => ?_
  match a with
  | ⟨0, _⟩ => exact Nat.mod_eq_of_lt (by simp at h0 i0; omega)
  | ⟨1, _⟩ => exact Nat.mod_eq_of_lt (by simp at h1 i1; omega)

/-- A load of part of a query or key block. -/
def loadQ (arg : Memref sig .tc .vmem S1024x512 .bf16) (hw : arg.IsWhole) (x : Vec F S1024x512 .bf16) (r e : ℕ)
    (inb : ∀ a, (![r, e] : Fin 2 → ℕ) a + S64x256.size a ≤ S1024x512.size a) : Vec F S64x256 .bf16 :=
  View.readAt (Elt F) arg.view (Rect.unit (s := S1024x512) ![r, e] S64x256.size inb).toLoadRect (hw.unread x)

/-- A load of part of a value block. -/
def loadV (arg : Memref sig .tc .vmem S1024x1024 .bf16) (hw : arg.IsWhole) (x : Vec F S1024x1024 .bf16) (r e : ℕ)
    (inb : ∀ a, (![r, e] : Fin 2 → ℕ) a + S64x512.size a ≤ S1024x1024.size a) : Vec F S64x512 .bf16 :=
  View.readAt (Elt F) arg.view (Rect.unit (s := S1024x1024) ![r, e] S64x512.size inb).toLoadRect (hw.unread x)

/-- A load of a whole matrix block. -/
def loadW {R C : ℕ} {e : EltTy} (arg : Memref sig .tc .vmem ⟨2, ![R, C]⟩ e) (hw : arg.IsWhole) (x : Vec F ⟨2, ![R, C]⟩ e)
    (inb : ∀ a, (![0, 0] : Fin 2 → ℕ) a + (⟨2, ![R, C]⟩ : Shape).size a ≤ (⟨2, ![R, C]⟩ : Shape).size a) : Vec F ⟨2, ![R, C]⟩ e :=
  View.readAt (Elt F) arg.view (Rect.unit (s := ⟨2, ![R, C]⟩) ![0, 0] (⟨2, ![R, C]⟩ : Shape).size inb).toLoadRect (hw.unread x)

/-- A load of one head's state. -/
def loadS (arg : Memref sig .tc .vmem S2x256x512 .f32) (hw : arg.IsWhole) (x : Vec F S2x256x512 .f32) (h : ℕ)
    (inb : ∀ a, (![h, 0, 0] : Fin 3 → ℕ) a + S1x256x512.size a ≤ S2x256x512.size a) : Vec F S1x256x512 .f32 :=
  View.readAt (Elt F) arg.view (Rect.unit (s := S2x256x512) ![h, 0, 0] S1x256x512.size inb).toLoadRect (hw.unread x)

/-- A state as the scratch holds it read as a matrix. -/
abbrev sq {F : FTy → Type} [FloatOps F] (y : Vec F S1x256x512 .f32) : FVec F S256x512 .f32 := shapeCast S256x512 y shapeCasts_S1x256x512_S256x512

/-- A state matrix as the scratch holds it. -/
abbrev usq {F : FTy → Type} [FloatOps F] (y : FVec F S256x512 .f32) : FVec F S1x256x512 .f32 := shapeCast S1x256x512 y shapeCasts_S256x512_S1x256x512

/-- A load of part of a query or key block is a cut of it. -/
theorem readQ (arg : Memref sig .tc .vmem S1024x512 .bf16) (hw : arg.IsWhole) (x : Vec F S1024x512 .bf16) (r e : ℕ)
    (inb : ∀ a, (![r, e] : Fin 2 → ℕ) a + S64x256.size a ≤ S1024x512.size a) :
    loadQ arg hw x r e inb = cut x r e := by
  unfold loadQ
  rw [View.readAt_eq_ld, hw.read_unread]
  funext i
  have h0 := inb 0
  have h1 := inb 1
  have i0 := (i 0).isLt
  have i1 := (i 1).isLt
  refine congrArg x (funext fun a => Fin.ext ?_)
  match a with
  | ⟨0, _⟩ => exact (by show r + 1 * (i 0).val = (r + (i 0).val) % 1024; rw [Nat.mod_eq_of_lt (by simp at h0 i0; omega)]; omega)
  | ⟨1, _⟩ => exact (by show e + 1 * (i 1).val = (e + (i 1).val) % 512; rw [Nat.mod_eq_of_lt (by simp at h1 i1; omega)]; omega)

/-- A load of part of a value block is a cut of it. -/
theorem readV (arg : Memref sig .tc .vmem S1024x1024 .bf16) (hw : arg.IsWhole) (x : Vec F S1024x1024 .bf16) (r e : ℕ)
    (inb : ∀ a, (![r, e] : Fin 2 → ℕ) a + S64x512.size a ≤ S1024x1024.size a) :
    loadV arg hw x r e inb = cut x r e := by
  unfold loadV
  rw [View.readAt_eq_ld, hw.read_unread]
  funext i
  have h0 := inb 0
  have h1 := inb 1
  have i0 := (i 0).isLt
  have i1 := (i 1).isLt
  refine congrArg x (funext fun a => Fin.ext ?_)
  match a with
  | ⟨0, _⟩ => exact (by show r + 1 * (i 0).val = (r + (i 0).val) % 1024; rw [Nat.mod_eq_of_lt (by simp at h0 i0; omega)]; omega)
  | ⟨1, _⟩ => exact (by show e + 1 * (i 1).val = (e + (i 1).val) % 1024; rw [Nat.mod_eq_of_lt (by simp at h1 i1; omega)]; omega)

/-- A load of a whole matrix block is the block. -/
theorem readW {R C : ℕ} {e : EltTy} (arg : Memref sig .tc .vmem ⟨2, ![R, C]⟩ e) (hw : arg.IsWhole) (x : Vec F ⟨2, ![R, C]⟩ e)
    (inb : ∀ a, (![0, 0] : Fin 2 → ℕ) a + (⟨2, ![R, C]⟩ : Shape).size a ≤ (⟨2, ![R, C]⟩ : Shape).size a) :
    loadW arg hw x inb = x := by
  unfold loadW
  rw [View.readAt_eq_ld, hw.read_unread]
  have hz : (![0, 0] : Fin 2 → ℕ) = fun _ => 0 := by funext a; match a with | ⟨0, _⟩ => rfl | ⟨1, _⟩ => rfl
  exact View.ld_unit_zero (S := ⟨2, ![R, C]⟩) hz inb x

/-- Head `h`'s state of the two the scratch holds. -/
def headOf (x : Vec F S2x256x512 .f32) (h : ℕ) : FVec F S256x512 .f32 := fun i => x (ix3 (Fin.ofNat 2 h) (i 0) (i 1))

/-- A state read without its unit axis. -/
theorem squeeze {α : Type} (y : S1x256x512.Idx → α) (h : S1x256x512.ShapeCasts S256x512) (i : S256x512.Idx) :
    shapeCast S256x512 y h i = y (ix3 0 (i 0) (i 1)) := by pointwise

/-- A state given a unit axis. -/
theorem unsqueeze {α : Type} (y : S256x512.Idx → α) (h : S256x512.ShapeCasts S1x256x512) (i : S1x256x512.Idx) :
    shapeCast S1x256x512 y h i = y (ix2 (i 1) (i 2)) := by pointwise

/-- Giving a state a unit axis and taking it away changes nothing. -/
theorem squeeze_unsqueeze {α : Type} (y : S256x512.Idx → α) :
    shapeCast S256x512 (shapeCast S1x256x512 y shapeCasts_S256x512_S1x256x512) shapeCasts_S1x256x512_S256x512 = y := by
  funext i
  rw [squeeze, unsqueeze]
  exact congrArg y (ix2_eta i)

/-- A load of one head's state. -/
theorem readS (arg : Memref sig .tc .vmem S2x256x512 .f32) (hw : arg.IsWhole) (x : Vec F S2x256x512 .f32) (h : ℕ)
    (inb : ∀ a, (![h, 0, 0] : Fin 3 → ℕ) a + S1x256x512.size a ≤ S2x256x512.size a) :
    sq (loadS arg hw x h inb) = headOf x h := by
  unfold loadS
  rw [View.readAt_eq_ld, hw.read_unread]
  funext i
  have h0 := inb 0
  refine (squeeze _ _ i).trans ?_
  refine congrArg x (funext fun a => Fin.ext ?_)
  match a with
  | ⟨0, _⟩ => exact (by show h + 1 * 0 = h % 2; rw [Nat.mod_eq_of_lt (by simp at h0; omega)]; omega)
  | ⟨1, _⟩ => exact (by show 0 + 1 * (i 0).val = (i 0).val; omega)
  | ⟨2, _⟩ => exact (by show 0 + 1 * (i 1).val = (i 1).val; omega)

/-- A head's state read back from a scratch just filled with one value. -/
theorem readFill (arg : Memref sig .tc .vmem S2x256x512 .f32) (Z : Vec F S2x256x512 .f32) (h : ℕ)
    (inb : ∀ a, (![h, 0, 0] : Fin 3 → ℕ) a + S1x256x512.size a ≤ S2x256x512.size a)
    (inb0 : ∀ a, (![0, 0, 0] : Fin 3 → ℕ) a + S2x256x512.size a ≤ S2x256x512.size a) :
    sq (arg.view.readCov [⟨Rect.unit (s := S2x256x512) ![0, 0, 0] S2x256x512.size inb0, Z⟩] (Rect.unit (s := S2x256x512) ![h, 0, 0] S1x256x512.size inb).toLoadRect) = headOf Z h := by
  rw [View.readCov_fill arg.view inb0 Z [] _ (fun a => by match a with | ⟨0, _⟩ => rfl | ⟨1, _⟩ => rfl | ⟨2, _⟩ => rfl)]
  funext i
  have h0 := inb 0
  refine (squeeze _ _ i).trans ?_
  refine congrArg Z (funext fun a => Fin.ext ?_)
  match a with
  | ⟨0, _⟩ => exact (by show h + 1 * 0 = h % 2; rw [Nat.mod_eq_of_lt (by simp at h0; omega)]; omega)
  | ⟨1, _⟩ => exact (by show 0 + 1 * (i 0).val = (i 0).val; omega)
  | ⟨2, _⟩ => exact (by show 0 + 1 * (i 1).val = (i 1).val; omega)

variable [Named F]

/-- The gate of a block as the body computes it from its loads. -/
def gateL (arg6 : Memref sig .tc .vmem S1024x128 .bf16) (harg6 : arg6.IsWhole) (arg7 : Memref sig .tc .vmem S128x512 .bf16) (harg7 : arg7.IsWhole)
    (arg8 : Memref sig .tc .vmem S1x512 .f32) (harg8 : arg8.IsWhole) (x3 : Vec F S1024x128 .bf16) (x4 : Vec F S128x512 .bf16) (x5 : Vec F S1x512 .f32) :
    FVec F S1024x512 .f32 :=
  k0_pay2 (loadW arg6 harg6 x3 inb_S1024x128_S1024x128_0_0) (loadW arg7 harg7 x4 inb_S128x512_S128x512_0_0) (loadW arg8 harg8 x5 inb_S1x512_S1x512_0_0)

/-- The gate of a block is a function of the blocks alone. -/
theorem gateL_eq (arg6 : Memref sig .tc .vmem S1024x128 .bf16) (harg6 : arg6.IsWhole) (arg7 : Memref sig .tc .vmem S128x512 .bf16) (harg7 : arg7.IsWhole)
    (arg8 : Memref sig .tc .vmem S1x512 .f32) (harg8 : arg8.IsWhole) (x3 : Vec F S1024x128 .bf16) (x4 : Vec F S128x512 .bf16) (x5 : Vec F S1x512 .f32) :
    gateL arg6 harg6 arg7 harg7 arg8 harg8 x3 x4 x5 = k0_pay2 x3 x4 x5 := by
  unfold gateL
  rw [readW, readW, readW]

/-- Head `h`'s state after `c` pairs of chunks of the block. -/
def stt (x1 : Vec F S1024x512 .bf16) (x2 : Vec F S1024x1024 .bf16) (g : FVec F S1024x512 .f32) (h : ℕ) (S : FVec F S256x512 .f32) :
    ℕ → FVec F S256x512 .f32
  | 0 => S
  | c + 1 => next (stt x1 x2 g h S c) (cum (cut g (128 * c) (256 * h))) (cum (cut g (128 * c + 64) (256 * h)))
      (cut x1 (128 * c) (256 * h)) (cut x1 (128 * c + 64) (256 * h)) (cut x2 (128 * c) (512 * h)) (cut x2 (128 * c + 64) (512 * h))

/-- Head `h`'s output of the first chunk of pair `c`. -/
def oA (x0 x1 : Vec F S1024x512 .bf16) (x2 : Vec F S1024x1024 .bf16) (g : FVec F S1024x512 .f32) (h : ℕ) (S : FVec F S256x512 .f32)
    (c : ℕ) : FVec F S64x512 .bf16 :=
  outA (stt x1 x2 g h S c) (cum (cut g (128 * c) (256 * h))) (cum (cut g (128 * c + 64) (256 * h)))
    (cut x0 (128 * c) (256 * h)) (cut x0 (128 * c + 64) (256 * h)) (cut x1 (128 * c) (256 * h)) (cut x2 (128 * c) (512 * h))

/-- Head `h`'s output of the second chunk of pair `c`. -/
def oB (x0 x1 : Vec F S1024x512 .bf16) (x2 : Vec F S1024x1024 .bf16) (g : FVec F S1024x512 .f32) (h : ℕ) (S : FVec F S256x512 .f32)
    (c : ℕ) : FVec F S64x512 .bf16 :=
  outB (stt x1 x2 g h S c) (cum (cut g (128 * c) (256 * h))) (cum (cut g (128 * c + 64) (256 * h)))
    (cut x0 (128 * c) (256 * h)) (cut x0 (128 * c + 64) (256 * h)) (cut x1 (128 * c) (256 * h)) (cut x1 (128 * c + 64) (256 * h))
    (cut x2 (128 * c) (512 * h)) (cut x2 (128 * c + 64) (512 * h))

end Cert.KernelIdeal.Gla

end
-- ==== Proof.Gla.CaseA.lean ====
/- Case A of the kernel's body: every value it stores is the pair step of the head it belongs to. -/
module

public import proofs.«01_k».proof.Proof.Gla.Cut

@[expose] public section

set_option maxRecDepth 16384

noncomputable section

namespace Cert.KernelIdeal.Gla.CaseA

open Cert.KernelIdeal Cert.KernelIdeal.Gen Idealize.ShloMosaic Idealize.ShloMosaic.TcCoe Idealize.SL.Sem

variable {F : FTy → Type} [FloatOps F] [Named F]
variable (c : Dev nD) (arg3 : Memref sig .tc .vmem S1024x512 .bf16) (harg3 : arg3.IsWhole) (arg4 : Memref sig .tc .vmem S1024x512 .bf16) (harg4 : arg4.IsWhole) (arg5 : Memref sig .tc .vmem S1024x1024 .bf16) (harg5 : arg5.IsWhole) (arg6 : Memref sig .tc .vmem S1024x128 .bf16) (harg6 : arg6.IsWhole) (arg7 : Memref sig .tc .vmem S128x512 .bf16) (harg7 : arg7.IsWhole) (arg8 : Memref sig .tc .vmem S1x512 .f32) (harg8 : arg8.IsWhole) (arg10 : Memref sig .tc .vmem S2x256x512 .f32) (harg10 : arg10.IsWhole)
variable (x0 : Vec F S1024x512 .bf16) (x1 : Vec F S1024x512 .bf16) (x2 : Vec F S1024x1024 .bf16) (x3 : Vec F S1024x128 .bf16) (x4 : Vec F S128x512 .bf16) (x5 : Vec F S1x512 .f32)

include c arg3 harg3 arg4 harg4 arg5 harg5 arg6 harg6 arg7 harg7 arg8 harg8 arg10 harg10 x0 x1 x2 x3 x4 x5

/-- The state pair 0 of head 0 starts from. -/
theorem v0 : sq (kernelRun0_A.sl.v34 c arg10) = stt x1 x2 (k0_pay2 x3 x4 x5) 0 (headOf k0_pay1 0) 0 :=
  readFill _ _ _ _ _

/-- The state pair 0 of head 0 leaves. -/
theorem s0 : (k0_pay28 (kernelRun0_A.sl.r_1 c arg10) (kernelRun0_A.sl.r_5 c arg5 harg5 x2) (kernelRun0_A.sl.r_14 c arg5 harg5 x2) (kernelRun0_A.sl.r_15 c arg4 harg4 arg6 harg6 arg7 harg7 arg8 harg8 x1 x3 x4 x5) (kernelRun0_A.sl.r_16 c arg4 harg4 arg6 harg6 arg7 harg7 arg8 harg8 x1 x3 x4 x5) (kernelRun0_A.sl.r_19 c arg6 harg6 arg7 harg7 arg8 harg8 x3 x4 x5) : FVec F S1x256x512 .f32) = usq (stt x1 x2 (k0_pay2 x3 x4 x5) 0 (headOf k0_pay1 0) 1) := by
  refine (show _ = usq (next (sq (kernelRun0_A.sl.v34 c arg10)) (cum (extractStridedSlice S64x256 ![0, 0] (gateL arg6 harg6 arg7 harg7 arg8 harg8 x3 x4 x5) slices_S1024x512_o0_0_S64x256)) (cum (extractStridedSlice S64x256 ![64, 0] (gateL arg6 harg6 arg7 harg7 arg8 harg8 x3 x4 x5) slices_S1024x512_o64_0_S64x256)) (loadQ arg4 harg4 x1 0 0 inb_S1024x512_S64x256_0_0) (loadQ arg4 harg4 x1 64 0 inb_S1024x512_S64x256_64_0) (loadV arg5 harg5 x2 0 0 inb_S1024x1024_S64x512_0_0) (loadV arg5 harg5 x2 64 0 inb_S1024x1024_S64x512_64_0)) from rfl).trans ?_
  rw [v0 c arg3 harg3 arg4 harg4 arg5 harg5 arg6 harg6 arg7 harg7 arg8 harg8 arg10 harg10 x0 x1 x2 x3 x4 x5]
  simp only [readQ, readV, gateL_eq, slice_cut]
  rfl

/-- What pair 0 of head 0 stores for its first chunk. -/
theorem a0 : (k0_pay29 (kernelRun0_A.sl.r_6 c arg3 harg3 arg4 harg4 arg5 harg5 arg6 harg6 arg7 harg7 arg8 harg8 x0 x1 x2 x3 x4 x5) (kernelRun0_A.sl.r_18 c arg3 harg3 arg6 harg6 arg7 harg7 arg8 harg8 arg10 x0 x3 x4 x5) : FVec F S64x512 .bf16) = oA x0 x1 x2 (k0_pay2 x3 x4 x5) 0 (headOf k0_pay1 0) 0 := by
  refine (show _ = outA (sq (kernelRun0_A.sl.v34 c arg10)) (cum (extractStridedSlice S64x256 ![0, 0] (gateL arg6 harg6 arg7 harg7 arg8 harg8 x3 x4 x5) slices_S1024x512_o0_0_S64x256)) (cum (extractStridedSlice S64x256 ![64, 0] (gateL arg6 harg6 arg7 harg7 arg8 harg8 x3 x4 x5) slices_S1024x512_o64_0_S64x256)) (loadQ arg3 harg3 x0 0 0 inb_S1024x512_S64x256_0_0) (loadQ arg3 harg3 x0 64 0 inb_S1024x512_S64x256_64_0) (loadQ arg4 harg4 x1 0 0 inb_S1024x512_S64x256_0_0) (loadV arg5 harg5 x2 0 0 inb_S1024x1024_S64x512_0_0) from rfl).trans ?_
  rw [v0 c arg3 harg3 arg4 harg4 arg5 harg5 arg6 harg6 arg7 harg7 arg8 harg8 arg10 harg10 x0 x1 x2 x3 x4 x5]
  simp only [readQ, readV, gateL_eq, slice_cut]
  rfl

/-- What pair 0 of head 0 stores for its second chunk. -/
theorem b0 : (k0_pay30 (kernelRun0_A.sl.r_17 c arg3 harg3 arg4 harg4 arg5 harg5 arg6 harg6 arg7 harg7 arg8 harg8 x0 x1 x2 x3 x4 x5) (kernelRun0_A.sl.r_18 c arg3 harg3 arg6 harg6 arg7 harg7 arg8 harg8 arg10 x0 x3 x4 x5) : FVec F S64x512 .bf16) = oB x0 x1 x2 (k0_pay2 x3 x4 x5) 0 (headOf k0_pay1 0) 0 := by
  refine (show _ = outB (sq (kernelRun0_A.sl.v34 c arg10)) (cum (extractStridedSlice S64x256 ![0, 0] (gateL arg6 harg6 arg7 harg7 arg8 harg8 x3 x4 x5) slices_S1024x512_o0_0_S64x256)) (cum (extractStridedSlice S64x256 ![64, 0] (gateL arg6 harg6 arg7 harg7 arg8 harg8 x3 x4 x5) slices_S1024x512_o64_0_S64x256)) (loadQ arg3 harg3 x0 0 0 inb_S1024x512_S64x256_0_0) (loadQ arg3 harg3 x0 64 0 inb_S1024x512_S64x256_64_0) (loadQ arg4 harg4 x1 0 0 inb_S1024x512_S64x256_0_0) (loadQ arg4 harg4 x1 64 0 inb_S1024x512_S64x256_64_0) (loadV arg5 harg5 x2 0 0 inb_S1024x1024_S64x512_0_0) (loadV arg5 harg5 x2 64 0 inb_S1024x1024_S64x512_64_0) from rfl).trans ?_
  rw [v0 c arg3 harg3 arg4 harg4 arg5 harg5 arg6 harg6 arg7 harg7 arg8 harg8 arg10 harg10 x0 x1 x2 x3 x4 x5]
  simp only [readQ, readV, gateL_eq, slice_cut]
  rfl

/-- The state pair 0 of head 1 starts from. -/
theorem v1 : sq (kernelRun0_A.sl.v153 c arg4 harg4 arg5 harg5 arg6 harg6 arg7 harg7 arg8 harg8 arg10 x1 x2 x3 x4 x5) = stt x1 x2 (k0_pay2 x3 x4 x5) 1 (headOf k0_pay1 1) 0 :=
  (congrArg sq (View.readCov_skip _ _ _ _ _ (by decide +kernel))).trans (readFill _ _ _ _ _)

/-- The state pair 0 of head 1 leaves. -/
theorem s1 : (k0_pay51 (kernelRun0_A.sl.r_20 c arg4 harg4 arg5 harg5 arg6 harg6 arg7 harg7 arg8 harg8 arg10 x1 x2 x3 x4 x5) (kernelRun0_A.sl.r_23 c arg6 harg6 arg7 harg7 arg8 harg8 x3 x4 x5) (kernelRun0_A.sl.r_26 c arg5 harg5 x2) (kernelRun0_A.sl.r_29 c arg4 harg4 arg6 harg6 arg7 harg7 arg8 harg8 x1 x3 x4 x5) (kernelRun0_A.sl.r_31 c arg6 harg6 arg7 harg7 arg8 harg8 x3 x4 x5) (kernelRun0_A.sl.r_32 c arg6 harg6 arg7 harg7 arg8 harg8 x3 x4 x5) (kernelRun0_A.sl.r_34 c arg4 harg4 x1) (kernelRun0_A.sl.r_35 c arg5 harg5 x2) : FVec F S1x256x512 .f32) = usq (stt x1 x2 (k0_pay2 x3 x4 x5) 1 (headOf k0_pay1 1) 1) := by
  refine (show _ = usq (next (sq (kernelRun0_A.sl.v153 c arg4 harg4 arg5 harg5 arg6 harg6 arg7 harg7 arg8 harg8 arg10 x1 x2 x3 x4 x5)) (cum (extractStridedSlice S64x256 ![0, 256] (gateL arg6 harg6 arg7 harg7 arg8 harg8 x3 x4 x5) slices_S1024x512_o0_256_S64x256)) (cum (extractStridedSlice S64x256 ![64, 256] (gateL arg6 harg6 arg7 harg7 arg8 harg8 x3 x4 x5) slices_S1024x512_o64_256_S64x256)) (loadQ arg4 harg4 x1 0 256 inb_S1024x512_S64x256_0_256) (loadQ arg4 harg4 x1 64 256 inb_S1024x512_S64x256_64_256) (loadV arg5 harg5 x2 0 512 inb_S1024x1024_S64x512_0_512) (loadV arg5 harg5 x2 64 512 inb_S1024x1024_S64x512_64_512)) from rfl).trans ?_
  rw [v1 c arg3 harg3 arg4 harg4 arg5 harg5 arg6 harg6 arg7 harg7 arg8 harg8 arg10 harg10 x0 x1 x2 x3 x4 x5]
  simp only [readQ, readV, gateL_eq, slice_cut]
  rfl

/-- What pair 0 of head 1 stores for its first chunk. -/
theorem a1 : (kernelRun0_A.sl.r_40 c arg3 harg3 arg4 harg4 arg5 harg5 arg6 harg6 arg7 harg7 arg8 harg8 arg10 x0 x1 x2 x3 x4 x5 : FVec F S64x512 .bf16) = oA x0 x1 x2 (k0_pay2 x3 x4 x5) 1 (headOf k0_pay1 1) 0 := by
  refine (show _ = outA (sq (kernelRun0_A.sl.v153 c arg4 harg4 arg5 harg5 arg6 harg6 arg7 harg7 arg8 harg8 arg10 x1 x2 x3 x4 x5)) (cum (extractStridedSlice S64x256 ![0, 256] (gateL arg6 harg6 arg7 harg7 arg8 harg8 x3 x4 x5) slices_S1024x512_o0_256_S64x256)) (cum (extractStridedSlice S64x256 ![64, 256] (gateL arg6 harg6 arg7 harg7 arg8 harg8 x3 x4 x5) slices_S1024x512_o64_256_S64x256)) (loadQ arg3 harg3 x0 0 256 inb_S1024x512_S64x256_0_256) (loadQ arg3 harg3 x0 64 256 inb_S1024x512_S64x256_64_256) (loadQ arg4 harg4 x1 0 256 inb_S1024x512_S64x256_0_256) (loadV arg5 harg5 x2 0 512 inb_S1024x1024_S64x512_0_512) from rfl).trans ?_
  rw [v1 c arg3 harg3 arg4 harg4 arg5 harg5 arg6 harg6 arg7 harg7 arg8 harg8 arg10 harg10 x0 x1 x2 x3 x4 x5]
  simp only [readQ, readV, gateL_eq, slice_cut]
  rfl

/-- What pair 0 of head 1 stores for its second chunk. -/
theorem b1 : (k0_pay53 (kernelRun0_A.sl.r_38 c arg3 harg3 arg4 harg4 arg5 harg5 arg6 harg6 arg7 harg7 arg8 harg8 x0 x1 x2 x3 x4 x5) (kernelRun0_A.sl.r_39 c arg3 harg3 arg4 harg4 arg5 harg5 arg6 harg6 arg7 harg7 arg8 harg8 arg10 x0 x1 x2 x3 x4 x5) : FVec F S64x512 .bf16) = oB x0 x1 x2 (k0_pay2 x3 x4 x5) 1 (headOf k0_pay1 1) 0 := by
  refine (show _ = outB (sq (kernelRun0_A.sl.v153 c arg4 harg4 arg5 harg5 arg6 harg6 arg7 harg7 arg8 harg8 arg10 x1 x2 x3 x4 x5)) (cum (extractStridedSlice S64x256 ![0, 256] (gateL arg6 harg6 arg7 harg7 arg8 harg8 x3 x4 x5) slices_S1024x512_o0_256_S64x256)) (cum (extractStridedSlice S64x256 ![64, 256] (gateL arg6 harg6 arg7 harg7 arg8 harg8 x3 x4 x5) slices_S1024x512_o64_256_S64x256)) (loadQ arg3 harg3 x0 0 256 inb_S1024x512_S64x256_0_256) (loadQ arg3 harg3 x0 64 256 inb_S1024x512_S64x256_64_256) (loadQ arg4 harg4 x1 0 256 inb_S1024x512_S64x256_0_256) (loadQ arg4 harg4 x1 64 256 inb_S1024x512_S64x256_64_256) (loadV arg5 harg5 x2 0 512 inb_S1024x1024_S64x512_0_512) (loadV arg5 harg5 x2 64 512 inb_S1024x1024_S64x512_64_512) from rfl).trans ?_
  rw [v1 c arg3 harg3 arg4 harg4 arg5 harg5 arg6 harg6 arg7 harg7 arg8 harg8 arg10 harg10 x0 x1 x2 x3 x4 x5]
  simp only [readQ, readV, gateL_eq, slice_cut]
  rfl

/-- The state pair 1 of head 0 starts from. -/
theorem v2 : sq (kernelRun0_A.sl.v272 c arg4 harg4 arg5 harg5 arg6 harg6 arg7 harg7 arg8 harg8 arg10 x1 x2 x3 x4 x5) = stt x1 x2 (k0_pay2 x3 x4 x5) 0 (headOf k0_pay1 0) 1 :=
  (congrArg sq (((View.readCov_skip _ _ _ _ _ (by decide +kernel)).trans (View.readCov_cons_toLoadRect _ _ _ _)).trans (s0 c arg3 harg3 arg4 harg4 arg5 harg5 arg6 harg6 arg7 harg7 arg8 harg8 arg10 harg10 x0 x1 x2 x3 x4 x5))).trans (squeeze_unsqueeze _)

/-- The state pair 1 of head 0 leaves. -/
theorem s2 : (k0_pay76 (kernelRun0_A.sl.r_41 c arg4 harg4 arg5 harg5 arg6 harg6 arg7 harg7 arg8 harg8 arg10 x1 x2 x3 x4 x5) (kernelRun0_A.sl.r_44 c arg5 harg5 x2) (kernelRun0_A.sl.r_49 c arg5 harg5 x2) (kernelRun0_A.sl.r_52 c arg4 harg4 arg6 harg6 arg7 harg7 arg8 harg8 x1 x3 x4 x5) (kernelRun0_A.sl.r_53 c arg6 harg6 arg7 harg7 arg8 harg8 x3 x4 x5) (kernelRun0_A.sl.r_55 c arg4 harg4 arg6 harg6 arg7 harg7 arg8 harg8 x1 x3 x4 x5) : FVec F S1x256x512 .f32) = usq (stt x1 x2 (k0_pay2 x3 x4 x5) 0 (headOf k0_pay1 0) 2) := by
  refine (show _ = usq (next (sq (kernelRun0_A.sl.v272 c arg4 harg4 arg5 harg5 arg6 harg6 arg7 harg7 arg8 harg8 arg10 x1 x2 x3 x4 x5)) (cum (extractStridedSlice S64x256 ![128, 0] (gateL arg6 harg6 arg7 harg7 arg8 harg8 x3 x4 x5) slices_S1024x512_o128_0_S64x256)) (cum (extractStridedSlice S64x256 ![192, 0] (gateL arg6 harg6 arg7 harg7 arg8 harg8 x3 x4 x5) slices_S1024x512_o192_0_S64x256)) (loadQ arg4 harg4 x1 128 0 inb_S1024x512_S64x256_128_0) (loadQ arg4 harg4 x1 192 0 inb_S1024x512_S64x256_192_0) (loadV arg5 harg5 x2 128 0 inb_S1024x1024_S64x512_128_0) (loadV arg5 harg5 x2 192 0 inb_S1024x1024_S64x512_192_0)) from rfl).trans ?_
  rw [v2 c arg3 harg3 arg4 harg4 arg5 harg5 arg6 harg6 arg7 harg7 arg8 harg8 arg10 harg10 x0 x1 x2 x3 x4 x5]
  simp only [readQ, readV, gateL_eq, slice_cut]
  rfl

/-- What pair 1 of head 0 stores for its first chunk. -/
theorem a2 : (k0_pay77 (kernelRun0_A.sl.r_41 c arg4 harg4 arg5 harg5 arg6 harg6 arg7 harg7 arg8 harg8 arg10 x1 x2 x3 x4 x5) (kernelRun0_A.sl.r_45 c arg3 harg3 arg4 harg4 arg5 harg5 arg6 harg6 arg7 harg7 arg8 harg8 x0 x1 x2 x3 x4 x5) (kernelRun0_A.sl.r_51 c arg3 harg3 arg6 harg6 arg7 harg7 arg8 harg8 x0 x3 x4 x5) (kernelRun0_A.sl.r_54 c arg3 harg3 arg6 harg6 arg7 harg7 arg8 harg8 x0 x3 x4 x5) (kernelRun0_A.sl.r_56 c arg6 harg6 arg7 harg7 arg8 harg8 x3 x4 x5) : FVec F S64x512 .bf16) = oA x0 x1 x2 (k0_pay2 x3 x4 x5) 0 (headOf k0_pay1 0) 1 := by
  refine (show _ = outA (sq (kernelRun0_A.sl.v272 c arg4 harg4 arg5 harg5 arg6 harg6 arg7 harg7 arg8 harg8 arg10 x1 x2 x3 x4 x5)) (cum (extractStridedSlice S64x256 ![128, 0] (gateL arg6 harg6 arg7 harg7 arg8 harg8 x3 x4 x5) slices_S1024x512_o128_0_S64x256)) (cum (extractStridedSlice S64x256 ![192, 0] (gateL arg6 harg6 arg7 harg7 arg8 harg8 x3 x4 x5) slices_S1024x512_o192_0_S64x256)) (loadQ arg3 harg3 x0 128 0 inb_S1024x512_S64x256_128_0) (loadQ arg3 harg3 x0 192 0 inb_S1024x512_S64x256_192_0) (loadQ arg4 harg4 x1 128 0 inb_S1024x512_S64x256_128_0) (loadV arg5 harg5 x2 128 0 inb_S1024x1024_S64x512_128_0) from rfl).trans ?_
  rw [v2 c arg3 harg3 arg4 harg4 arg5 harg5 arg6 harg6 arg7 harg7 arg8 harg8 arg10 harg10 x0 x1 x2 x3 x4 x5]
  simp only [readQ, readV, gateL_eq, slice_cut]
  rfl

/-- What pair 1 of head 0 stores for its second chunk. -/
theorem b2 : (k0_pay78 (kernelRun0_A.sl.r_41 c arg4 harg4 arg5 harg5 arg6 harg6 arg7 harg7 arg8 harg8 arg10 x1 x2 x3 x4 x5) (kernelRun0_A.sl.r_44 c arg5 harg5 x2) (kernelRun0_A.sl.r_48 c arg4 harg4 arg6 harg6 arg7 harg7 arg8 harg8 x1 x3 x4 x5) (kernelRun0_A.sl.r_50 c arg3 harg3 arg4 harg4 arg5 harg5 arg6 harg6 arg7 harg7 arg8 harg8 x0 x1 x2 x3 x4 x5) (kernelRun0_A.sl.r_51 c arg3 harg3 arg6 harg6 arg7 harg7 arg8 harg8 x0 x3 x4 x5) (kernelRun0_A.sl.r_54 c arg3 harg3 arg6 harg6 arg7 harg7 arg8 harg8 x0 x3 x4 x5) (kernelRun0_A.sl.r_56 c arg6 harg6 arg7 harg7 arg8 harg8 x3 x4 x5) : FVec F S64x512 .bf16) = oB x0 x1 x2 (k0_pay2 x3 x4 x5) 0 (headOf k0_pay1 0) 1 := by
  refine (show _ = outB (sq (kernelRun0_A.sl.v272 c arg4 harg4 arg5 harg5 arg6 harg6 arg7 harg7 arg8 harg8 arg10 x1 x2 x3 x4 x5)) (cum (extractStridedSlice S64x256 ![128, 0] (gateL arg6 harg6 arg7 harg7 arg8 harg8 x3 x4 x5) slices_S1024x512_o128_0_S64x256)) (cum (extractStridedSlice S64x256 ![192, 0] (gateL arg6 harg6 arg7 harg7 arg8 harg8 x3 x4 x5) slices_S1024x512_o192_0_S64x256)) (loadQ arg3 harg3 x0 128 0 inb_S1024x512_S64x256_128_0) (loadQ arg3 harg3 x0 192 0 inb_S1024x512_S64x256_192_0) (loadQ arg4 harg4 x1 128 0 inb_S1024x512_S64x256_128_0) (loadQ arg4 harg4 x1 192 0 inb_S1024x512_S64x256_192_0) (loadV arg5 harg5 x2 128 0 inb_S1024x1024_S64x512_128_0) (loadV arg5 harg5 x2 192 0 inb_S1024x1024_S64x512_192_0) from rfl).trans ?_
  rw [v2 c arg3 harg3 arg4 harg4 arg5 harg5 arg6 harg6 arg7 harg7 arg8 harg8 arg10 harg10 x0 x1 x2 x3 x4 x5]
  simp only [readQ, readV, gateL_eq, slice_cut]
  rfl

/-- The state pair 1 of head 1 starts from. -/
theorem v3 : sq (kernelRun0_A.sl.v391 c arg4 harg4 arg5 harg5 arg6 harg6 arg7 harg7 arg8 harg8 arg10 x1 x2 x3 x4 x5) = stt x1 x2 (k0_pay2 x3 x4 x5) 1 (headOf k0_pay1 1) 1 :=
  (congrArg sq (((View.readCov_skip _ _ _ _ _ (by decide +kernel)).trans (View.readCov_cons_toLoadRect _ _ _ _)).trans (s1 c arg3 harg3 arg4 harg4 arg5 harg5 arg6 harg6 arg7 harg7 arg8 harg8 arg10 harg10 x0 x1 x2 x3 x4 x5))).trans (squeeze_unsqueeze _)

/-- The state pair 1 of head 1 leaves. -/
theorem s3 : (k0_pay99 (kernelRun0_A.sl.r_60 c arg5 harg5 x2) (kernelRun0_A.sl.r_69 c arg5 harg5 x2) (kernelRun0_A.sl.r_72 c arg4 harg4 arg5 harg5 arg6 harg6 arg7 harg7 arg8 harg8 arg10 x1 x2 x3 x4 x5) (kernelRun0_A.sl.r_73 c arg4 harg4 arg6 harg6 arg7 harg7 arg8 harg8 x1 x3 x4 x5) : FVec F S1x256x512 .f32) = usq (stt x1 x2 (k0_pay2 x3 x4 x5) 1 (headOf k0_pay1 1) 2) := by
  refine (show _ = usq (next (sq (kernelRun0_A.sl.v391 c arg4 harg4 arg5 harg5 arg6 harg6 arg7 harg7 arg8 harg8 arg10 x1 x2 x3 x4 x5)) (cum (extractStridedSlice S64x256 ![128, 256] (gateL arg6 harg6 arg7 harg7 arg8 harg8 x3 x4 x5) slices_S1024x512_o128_256_S64x256)) (cum (extractStridedSlice S64x256 ![192, 256] (gateL arg6 harg6 arg7 harg7 arg8 harg8 x3 x4 x5) slices_S1024x512_o192_256_S64x256)) (loadQ arg4 harg4 x1 128 256 inb_S1024x512_S64x256_128_256) (loadQ arg4 harg4 x1 192 256 inb_S1024x512_S64x256_192_256) (loadV arg5 harg5 x2 128 512 inb_S1024x1024_S64x512_128_512) (loadV arg5 harg5 x2 192 512 inb_S1024x1024_S64x512_192_512)) from rfl).trans ?_
  rw [v3 c arg3 harg3 arg4 harg4 arg5 harg5 arg6 harg6 arg7 harg7 arg8 harg8 arg10 harg10 x0 x1 x2 x3 x4 x5]
  simp only [readQ, readV, gateL_eq, slice_cut]
  rfl

/-- What pair 1 of head 1 stores for its first chunk. -/
theorem a3 : (k0_pay100 (kernelRun0_A.sl.r_61 c arg3 harg3 arg4 harg4 arg5 harg5 arg6 harg6 arg7 harg7 arg8 harg8 x0 x1 x2 x3 x4 x5) (kernelRun0_A.sl.r_71 c arg3 harg3 arg4 harg4 arg5 harg5 arg6 harg6 arg7 harg7 arg8 harg8 arg10 x0 x1 x2 x3 x4 x5) : FVec F S64x512 .bf16) = oA x0 x1 x2 (k0_pay2 x3 x4 x5) 1 (headOf k0_pay1 1) 1 := by
  refine (show _ = outA (sq (kernelRun0_A.sl.v391 c arg4 harg4 arg5 harg5 arg6 harg6 arg7 harg7 arg8 harg8 arg10 x1 x2 x3 x4 x5)) (cum (extractStridedSlice S64x256 ![128, 256] (gateL arg6 harg6 arg7 harg7 arg8 harg8 x3 x4 x5) slices_S1024x512_o128_256_S64x256)) (cum (extractStridedSlice S64x256 ![192, 256] (gateL arg6 harg6 arg7 harg7 arg8 harg8 x3 x4 x5) slices_S1024x512_o192_256_S64x256)) (loadQ arg3 harg3 x0 128 256 inb_S1024x512_S64x256_128_256) (loadQ arg3 harg3 x0 192 256 inb_S1024x512_S64x256_192_256) (loadQ arg4 harg4 x1 128 256 inb_S1024x512_S64x256_128_256) (loadV arg5 harg5 x2 128 512 inb_S1024x1024_S64x512_128_512) from rfl).trans ?_
  rw [v3 c arg3 harg3 arg4 harg4 arg5 harg5 arg6 harg6 arg7 harg7 arg8 harg8 arg10 harg10 x0 x1 x2 x3 x4 x5]
  simp only [readQ, readV, gateL_eq, slice_cut]
  rfl

/-- What pair 1 of head 1 stores for its second chunk. -/
theorem b3 : (k0_pay101 (kernelRun0_A.sl.r_70 c arg3 harg3 arg4 harg4 arg5 harg5 arg6 harg6 arg7 harg7 arg8 harg8 x0 x1 x2 x3 x4 x5) (kernelRun0_A.sl.r_71 c arg3 harg3 arg4 harg4 arg5 harg5 arg6 harg6 arg7 harg7 arg8 harg8 arg10 x0 x1 x2 x3 x4 x5) : FVec F S64x512 .bf16) = oB x0 x1 x2 (k0_pay2 x3 x4 x5) 1 (headOf k0_pay1 1) 1 := by
  refine (show _ = outB (sq (kernelRun0_A.sl.v391 c arg4 harg4 arg5 harg5 arg6 harg6 arg7 harg7 arg8 harg8 arg10 x1 x2 x3 x4 x5)) (cum (extractStridedSlice S64x256 ![128, 256] (gateL arg6 harg6 arg7 harg7 arg8 harg8 x3 x4 x5) slices_S1024x512_o128_256_S64x256)) (cum (extractStridedSlice S64x256 ![192, 256] (gateL arg6 harg6 arg7 harg7 arg8 harg8 x3 x4 x5) slices_S1024x512_o192_256_S64x256)) (loadQ arg3 harg3 x0 128 256 inb_S1024x512_S64x256_128_256) (loadQ arg3 harg3 x0 192 256 inb_S1024x512_S64x256_192_256) (loadQ arg4 harg4 x1 128 256 inb_S1024x512_S64x256_128_256) (loadQ arg4 harg4 x1 192 256 inb_S1024x512_S64x256_192_256) (loadV arg5 harg5 x2 128 512 inb_S1024x1024_S64x512_128_512) (loadV arg5 harg5 x2 192 512 inb_S1024x1024_S64x512_192_512) from rfl).trans ?_
  rw [v3 c arg3 harg3 arg4 harg4 arg5 harg5 arg6 harg6 arg7 harg7 arg8 harg8 arg10 harg10 x0 x1 x2 x3 x4 x5]
  simp only [readQ, readV, gateL_eq, slice_cut]
  rfl

/-- The state pair 2 of head 0 starts from. -/
theorem v4 : sq (kernelRun0_A.sl.v510 c arg4 harg4 arg5 harg5 arg6 harg6 arg7 harg7 arg8 harg8 arg10 x1 x2 x3 x4 x5) = stt x1 x2 (k0_pay2 x3 x4 x5) 0 (headOf k0_pay1 0) 2 :=
  (congrArg sq (((View.readCov_skip _ _ _ _ _ (by decide +kernel)).trans (View.readCov_cons_toLoadRect _ _ _ _)).trans (s2 c arg3 harg3 arg4 harg4 arg5 harg5 arg6 harg6 arg7 harg7 arg8 harg8 arg10 harg10 x0 x1 x2 x3 x4 x5))).trans (squeeze_unsqueeze _)

/-- The state pair 2 of head 0 leaves. -/
theorem s4 : (k0_pay121 (kernelRun0_A.sl.r_74 c arg4 harg4 arg5 harg5 arg6 harg6 arg7 harg7 arg8 harg8 arg10 x1 x2 x3 x4 x5) (kernelRun0_A.sl.r_76 c arg6 harg6 arg7 harg7 arg8 harg8 x3 x4 x5) (kernelRun0_A.sl.r_79 c arg5 harg5 x2) (kernelRun0_A.sl.r_84 c arg4 harg4 arg6 harg6 arg7 harg7 arg8 harg8 x1 x3 x4 x5) (kernelRun0_A.sl.r_86 c arg6 harg6 arg7 harg7 arg8 harg8 x3 x4 x5) (kernelRun0_A.sl.r_87 c arg6 harg6 arg7 harg7 arg8 harg8 x3 x4 x5) (kernelRun0_A.sl.r_89 c arg4 harg4 x1) (kernelRun0_A.sl.r_90 c arg5 harg5 x2) : FVec F S1x256x512 .f32) = usq (stt x1 x2 (k0_pay2 x3 x4 x5) 0 (headOf k0_pay1 0) 3) := by
  refine (show _ = usq (next (sq (kernelRun0_A.sl.v510 c arg4 harg4 arg5 harg5 arg6 harg6 arg7 harg7 arg8 harg8 arg10 x1 x2 x3 x4 x5)) (cum (extractStridedSlice S64x256 ![256, 0] (gateL arg6 harg6 arg7 harg7 arg8 harg8 x3 x4 x5) slices_S1024x512_o256_0_S64x256)) (cum (extractStridedSlice S64x256 ![320, 0] (gateL arg6 harg6 arg7 harg7 arg8 harg8 x3 x4 x5) slices_S1024x512_o320_0_S64x256)) (loadQ arg4 harg4 x1 256 0 inb_S1024x512_S64x256_256_0) (loadQ arg4 harg4 x1 320 0 inb_S1024x512_S64x256_320_0) (loadV arg5 harg5 x2 256 0 inb_S1024x1024_S64x512_256_0) (loadV arg5 harg5 x2 320 0 inb_S1024x1024_S64x512_320_0)) from rfl).trans ?_
  rw [v4 c arg3 harg3 arg4 harg4 arg5 harg5 arg6 harg6 arg7 harg7 arg8 harg8 arg10 harg10 x0 x1 x2 x3 x4 x5]
  simp only [readQ, readV, gateL_eq, slice_cut]
  rfl

/-- What pair 2 of head 0 stores for its first chunk. -/
theorem a4 : (k0_pay122 (kernelRun0_A.sl.r_74 c arg4 harg4 arg5 harg5 arg6 harg6 arg7 harg7 arg8 harg8 arg10 x1 x2 x3 x4 x5) (kernelRun0_A.sl.r_76 c arg6 harg6 arg7 harg7 arg8 harg8 x3 x4 x5) (kernelRun0_A.sl.r_82 c arg3 harg3 arg4 harg4 arg5 harg5 arg6 harg6 arg7 harg7 arg8 harg8 x0 x1 x2 x3 x4 x5) (kernelRun0_A.sl.r_83 c arg3 harg3 arg6 harg6 arg7 harg7 arg8 harg8 x0 x3 x4 x5) (kernelRun0_A.sl.r_86 c arg6 harg6 arg7 harg7 arg8 harg8 x3 x4 x5) (kernelRun0_A.sl.r_88 c arg3 harg3 x0) : FVec F S64x512 .bf16) = oA x0 x1 x2 (k0_pay2 x3 x4 x5) 0 (headOf k0_pay1 0) 2 := by
  refine (show _ = outA (sq (kernelRun0_A.sl.v510 c arg4 harg4 arg5 harg5 arg6 harg6 arg7 harg7 arg8 harg8 arg10 x1 x2 x3 x4 x5)) (cum (extractStridedSlice S64x256 ![256, 0] (gateL arg6 harg6 arg7 harg7 arg8 harg8 x3 x4 x5) slices_S1024x512_o256_0_S64x256)) (cum (extractStridedSlice S64x256 ![320, 0] (gateL arg6 harg6 arg7 harg7 arg8 harg8 x3 x4 x5) slices_S1024x512_o320_0_S64x256)) (loadQ arg3 harg3 x0 256 0 inb_S1024x512_S64x256_256_0) (loadQ arg3 harg3 x0 320 0 inb_S1024x512_S64x256_320_0) (loadQ arg4 harg4 x1 256 0 inb_S1024x512_S64x256_256_0) (loadV arg5 harg5 x2 256 0 inb_S1024x1024_S64x512_256_0) from rfl).trans ?_
  rw [v4 c arg3 harg3 arg4 harg4 arg5 harg5 arg6 harg6 arg7 harg7 arg8 harg8 arg10 harg10 x0 x1 x2 x3 x4 x5]
  simp only [readQ, readV, gateL_eq, slice_cut]
  rfl

/-- What pair 2 of head 0 stores for its second chunk. -/
theorem b4 : (kernelRun0_A.sl.r_92 c arg3 harg3 arg4 harg4 arg5 harg5 arg6 harg6 arg7 harg7 arg8 harg8 arg10 x0 x1 x2 x3 x4 x5 : FVec F S64x512 .bf16) = oB x0 x1 x2 (k0_pay2 x3 x4 x5) 0 (headOf k0_pay1 0) 2 := by
  refine (show _ = outB (sq (kernelRun0_A.sl.v510 c arg4 harg4 arg5 harg5 arg6 harg6 arg7 harg7 arg8 harg8 arg10 x1 x2 x3 x4 x5)) (cum (extractStridedSlice S64x256 ![256, 0] (gateL arg6 harg6 arg7 harg7 arg8 harg8 x3 x4 x5) slices_S1024x512_o256_0_S64x256)) (cum (extractStridedSlice S64x256 ![320, 0] (gateL arg6 harg6 arg7 harg7 arg8 harg8 x3 x4 x5) slices_S1024x512_o320_0_S64x256)) (loadQ arg3 harg3 x0 256 0 inb_S1024x512_S64x256_256_0) (loadQ arg3 harg3 x0 320 0 inb_S1024x512_S64x256_320_0) (loadQ arg4 harg4 x1 256 0 inb_S1024x512_S64x256_256_0) (loadQ arg4 harg4 x1 320 0 inb_S1024x512_S64x256_320_0) (loadV arg5 harg5 x2 256 0 inb_S1024x1024_S64x512_256_0) (loadV arg5 harg5 x2 320 0 inb_S1024x1024_S64x512_320_0) from rfl).trans ?_
  rw [v4 c arg3 harg3 arg4 harg4 arg5 harg5 arg6 harg6 arg7 harg7 arg8 harg8 arg10 harg10 x0 x1 x2 x3 x4 x5]
  simp only [readQ, readV, gateL_eq, slice_cut]
  rfl

/-- The state pair 2 of head 1 starts from. -/
theorem v5 : sq (kernelRun0_A.sl.v629 c arg4 harg4 arg5 harg5 arg6 harg6 arg7 harg7 arg8 harg8 arg10 x1 x2 x3 x4 x5) = stt x1 x2 (k0_pay2 x3 x4 x5) 1 (headOf k0_pay1 1) 2 :=
  (congrArg sq (((View.readCov_skip _ _ _ _ _ (by decide +kernel)).trans (View.readCov_cons_toLoadRect _ _ _ _)).trans (s3 c arg3 harg3 arg4 harg4 arg5 harg5 arg6 harg6 arg7 harg7 arg8 harg8 arg10 harg10 x0 x1 x2 x3 x4 x5))).trans (squeeze_unsqueeze _)

/-- The state pair 2 of head 1 leaves. -/
theorem s5 : (k0_pay149 (kernelRun0_A.sl.r_93 c arg4 harg4 arg5 harg5 arg6 harg6 arg7 harg7 arg8 harg8 arg10 x1 x2 x3 x4 x5) (kernelRun0_A.sl.r_95 c arg5 harg5 x2) (kernelRun0_A.sl.r_103 c arg5 harg5 x2) (kernelRun0_A.sl.r_105 c arg4 harg4 arg6 harg6 arg7 harg7 arg8 harg8 x1 x3 x4 x5) (kernelRun0_A.sl.r_106 c arg6 harg6 arg7 harg7 arg8 harg8 x3 x4 x5) (kernelRun0_A.sl.r_108 c arg4 harg4 arg6 harg6 arg7 harg7 arg8 harg8 x1 x3 x4 x5) : FVec F S1x256x512 .f32) = usq (stt x1 x2 (k0_pay2 x3 x4 x5) 1 (headOf k0_pay1 1) 3) := by
  refine (show _ = usq (next (sq (kernelRun0_A.sl.v629 c arg4 harg4 arg5 harg5 arg6 harg6 arg7 harg7 arg8 harg8 arg10 x1 x2 x3 x4 x5)) (cum (extractStridedSlice S64x256 ![256, 256] (gateL arg6 harg6 arg7 harg7 arg8 harg8 x3 x4 x5) slices_S1024x512_o256_256_S64x256)) (cum (extractStridedSlice S64x256 ![320, 256] (gateL arg6 harg6 arg7 harg7 arg8 harg8 x3 x4 x5) slices_S1024x512_o320_256_S64x256)) (loadQ arg4 harg4 x1 256 256 inb_S1024x512_S64x256_256_256) (loadQ arg4 harg4 x1 320 256 inb_S1024x512_S64x256_320_256) (loadV arg5 harg5 x2 256 512 inb_S1024x1024_S64x512_256_512) (loadV arg5 harg5 x2 320 512 inb_S1024x1024_S64x512_320_512)) from rfl).trans ?_
  rw [v5 c arg3 harg3 arg4 harg4 arg5 harg5 arg6 harg6 arg7 harg7 arg8 harg8 arg10 harg10 x0 x1 x2 x3 x4 x5]
  simp only [readQ, readV, gateL_eq, slice_cut]
  rfl

/-- What pair 2 of head 1 stores for its first chunk. -/
theorem a5 : (k0_pay150 (kernelRun0_A.sl.r_93 c arg4 harg4 arg5 harg5 arg6 harg6 arg7 harg7 arg8 harg8 arg10 x1 x2 x3 x4 x5) (kernelRun0_A.sl.r_96 c arg3 harg3 arg4 harg4 arg5 harg5 arg6 harg6 arg7 harg7 arg8 harg8 x0 x1 x2 x3 x4 x5) (kernelRun0_A.sl.r_107 c arg3 harg3 arg6 harg6 arg7 harg7 arg8 harg8 x0 x3 x4 x5) (kernelRun0_A.sl.r_109 c arg3 harg3 arg6 harg6 arg7 harg7 arg8 harg8 x0 x3 x4 x5) : FVec F S64x512 .bf16) = oA x0 x1 x2 (k0_pay2 x3 x4 x5) 1 (headOf k0_pay1 1) 2 := by
  refine (show _ = outA (sq (kernelRun0_A.sl.v629 c arg4 harg4 arg5 harg5 arg6 harg6 arg7 harg7 arg8 harg8 arg10 x1 x2 x3 x4 x5)) (cum (extractStridedSlice S64x256 ![256, 256] (gateL arg6 harg6 arg7 harg7 arg8 harg8 x3 x4 x5) slices_S1024x512_o256_256_S64x256)) (cum (extractStridedSlice S64x256 ![320, 256] (gateL arg6 harg6 arg7 harg7 arg8 harg8 x3 x4 x5) slices_S1024x512_o320_256_S64x256)) (loadQ arg3 harg3 x0 256 256 inb_S1024x512_S64x256_256_256) (loadQ arg3 harg3 x0 320 256 inb_S1024x512_S64x256_320_256) (loadQ arg4 harg4 x1 256 256 inb_S1024x512_S64x256_256_256) (loadV arg5 harg5 x2 256 512 inb_S1024x1024_S64x512_256_512) from rfl).trans ?_
  rw [v5 c arg3 harg3 arg4 harg4 arg5 harg5 arg6 harg6 arg7 harg7 arg8 harg8 arg10 harg10 x0 x1 x2 x3 x4 x5]
  simp only [readQ, readV, gateL_eq, slice_cut]
  rfl

/-- What pair 2 of head 1 stores for its second chunk. -/
theorem b5 : (k0_pay151 (kernelRun0_A.sl.r_93 c arg4 harg4 arg5 harg5 arg6 harg6 arg7 harg7 arg8 harg8 arg10 x1 x2 x3 x4 x5) (kernelRun0_A.sl.r_95 c arg5 harg5 x2) (kernelRun0_A.sl.r_104 c arg3 harg3 arg4 harg4 arg5 harg5 arg6 harg6 arg7 harg7 arg8 harg8 x0 x1 x2 x3 x4 x5) (kernelRun0_A.sl.r_107 c arg3 harg3 arg6 harg6 arg7 harg7 arg8 harg8 x0 x3 x4 x5) (kernelRun0_A.sl.r_109 c arg3 harg3 arg6 harg6 arg7 harg7 arg8 harg8 x0 x3 x4 x5) (kernelRun0_A.sl.r_110 c arg3 harg3 arg4 harg4 arg6 harg6 arg7 harg7 arg8 harg8 x0 x1 x3 x4 x5) : FVec F S64x512 .bf16) = oB x0 x1 x2 (k0_pay2 x3 x4 x5) 1 (headOf k0_pay1 1) 2 := by
  refine (show _ = outB (sq (kernelRun0_A.sl.v629 c arg4 harg4 arg5 harg5 arg6 harg6 arg7 harg7 arg8 harg8 arg10 x1 x2 x3 x4 x5)) (cum (extractStridedSlice S64x256 ![256, 256] (gateL arg6 harg6 arg7 harg7 arg8 harg8 x3 x4 x5) slices_S1024x512_o256_256_S64x256)) (cum (extractStridedSlice S64x256 ![320, 256] (gateL arg6 harg6 arg7 harg7 arg8 harg8 x3 x4 x5) slices_S1024x512_o320_256_S64x256)) (loadQ arg3 harg3 x0 256 256 inb_S1024x512_S64x256_256_256) (loadQ arg3 harg3 x0 320 256 inb_S1024x512_S64x256_320_256) (loadQ arg4 harg4 x1 256 256 inb_S1024x512_S64x256_256_256) (loadQ arg4 harg4 x1 320 256 inb_S1024x512_S64x256_320_256) (loadV arg5 harg5 x2 256 512 inb_S1024x1024_S64x512_256_512) (loadV arg5 harg5 x2 320 512 inb_S1024x1024_S64x512_320_512) from rfl).trans ?_
  rw [v5 c arg3 harg3 arg4 harg4 arg5 harg5 arg6 harg6 arg7 harg7 arg8 harg8 arg10 harg10 x0 x1 x2 x3 x4 x5]
  simp only [readQ, readV, gateL_eq, slice_cut]
  rfl

/-- The state pair 3 of head 0 starts from. -/
theorem v6 : sq (kernelRun0_A.sl.v748 c arg4 harg4 arg5 harg5 arg6 harg6 arg7 harg7 arg8 harg8 arg10 x1 x2 x3 x4 x5) = stt x1 x2 (k0_pay2 x3 x4 x5) 0 (headOf k0_pay1 0) 3 :=
  (congrArg sq (((View.readCov_skip _ _ _ _ _ (by decide +kernel)).trans (View.readCov_cons_toLoadRect _ _ _ _)).trans (s4 c arg3 harg3 arg4 harg4 arg5 harg5 arg6 harg6 arg7 harg7 arg8 harg8 arg10 harg10 x0 x1 x2 x3 x4 x5))).trans (squeeze_unsqueeze _)

/-- The state pair 3 of head 0 leaves. -/
theorem s6 : (k0_pay173 (kernelRun0_A.sl.r_130 c arg4 harg4 arg5 harg5 arg6 harg6 arg7 harg7 arg8 harg8 arg10 x1 x2 x3 x4 x5) : FVec F S1x256x512 .f32) = usq (stt x1 x2 (k0_pay2 x3 x4 x5) 0 (headOf k0_pay1 0) 4) := by
  refine (show _ = usq (next (sq (kernelRun0_A.sl.v748 c arg4 harg4 arg5 harg5 arg6 harg6 arg7 harg7 arg8 harg8 arg10 x1 x2 x3 x4 x5)) (cum (extractStridedSlice S64x256 ![384, 0] (gateL arg6 harg6 arg7 harg7 arg8 harg8 x3 x4 x5) slices_S1024x512_o384_0_S64x256)) (cum (extractStridedSlice S64x256 ![448, 0] (gateL arg6 harg6 arg7 harg7 arg8 harg8 x3 x4 x5) slices_S1024x512_o448_0_S64x256)) (loadQ arg4 harg4 x1 384 0 inb_S1024x512_S64x256_384_0) (loadQ arg4 harg4 x1 448 0 inb_S1024x512_S64x256_448_0) (loadV arg5 harg5 x2 384 0 inb_S1024x1024_S64x512_384_0) (loadV arg5 harg5 x2 448 0 inb_S1024x1024_S64x512_448_0)) from rfl).trans ?_
  rw [v6 c arg3 harg3 arg4 harg4 arg5 harg5 arg6 harg6 arg7 harg7 arg8 harg8 arg10 harg10 x0 x1 x2 x3 x4 x5]
  simp only [readQ, readV, gateL_eq, slice_cut]
  rfl

/-- What pair 3 of head 0 stores for its first chunk. -/
theorem a6 : (k0_pay174 (kernelRun0_A.sl.r_117 c arg3 harg3 arg4 harg4 arg5 harg5 arg6 harg6 arg7 harg7 arg8 harg8 x0 x1 x2 x3 x4 x5) (kernelRun0_A.sl.r_129 c arg3 harg3 arg4 harg4 arg5 harg5 arg6 harg6 arg7 harg7 arg8 harg8 arg10 x0 x1 x2 x3 x4 x5) : FVec F S64x512 .bf16) = oA x0 x1 x2 (k0_pay2 x3 x4 x5) 0 (headOf k0_pay1 0) 3 := by
  refine (show _ = outA (sq (kernelRun0_A.sl.v748 c arg4 harg4 arg5 harg5 arg6 harg6 arg7 harg7 arg8 harg8 arg10 x1 x2 x3 x4 x5)) (cum (extractStridedSlice S64x256 ![384, 0] (gateL arg6 harg6 arg7 harg7 arg8 harg8 x3 x4 x5) slices_S1024x512_o384_0_S64x256)) (cum (extractStridedSlice S64x256 ![448, 0] (gateL arg6 harg6 arg7 harg7 arg8 harg8 x3 x4 x5) slices_S1024x512_o448_0_S64x256)) (loadQ arg3 harg3 x0 384 0 inb_S1024x512_S64x256_384_0) (loadQ arg3 harg3 x0 448 0 inb_S1024x512_S64x256_448_0) (loadQ arg4 harg4 x1 384 0 inb_S1024x512_S64x256_384_0) (loadV arg5 harg5 x2 384 0 inb_S1024x1024_S64x512_384_0) from rfl).trans ?_
  rw [v6 c arg3 harg3 arg4 harg4 arg5 harg5 arg6 harg6 arg7 harg7 arg8 harg8 arg10 harg10 x0 x1 x2 x3 x4 x5]
  simp only [readQ, readV, gateL_eq, slice_cut]
  rfl

/-- What pair 3 of head 0 stores for its second chunk. -/
theorem b6 : (k0_pay175 (kernelRun0_A.sl.r_128 c arg3 harg3 arg4 harg4 arg5 harg5 arg6 harg6 arg7 harg7 arg8 harg8 x0 x1 x2 x3 x4 x5) (kernelRun0_A.sl.r_129 c arg3 harg3 arg4 harg4 arg5 harg5 arg6 harg6 arg7 harg7 arg8 harg8 arg10 x0 x1 x2 x3 x4 x5) : FVec F S64x512 .bf16) = oB x0 x1 x2 (k0_pay2 x3 x4 x5) 0 (headOf k0_pay1 0) 3 := by
  refine (show _ = outB (sq (kernelRun0_A.sl.v748 c arg4 harg4 arg5 harg5 arg6 harg6 arg7 harg7 arg8 harg8 arg10 x1 x2 x3 x4 x5)) (cum (extractStridedSlice S64x256 ![384, 0] (gateL arg6 harg6 arg7 harg7 arg8 harg8 x3 x4 x5) slices_S1024x512_o384_0_S64x256)) (cum (extractStridedSlice S64x256 ![448, 0] (gateL arg6 harg6 arg7 harg7 arg8 harg8 x3 x4 x5) slices_S1024x512_o448_0_S64x256)) (loadQ arg3 harg3 x0 384 0 inb_S1024x512_S64x256_384_0) (loadQ arg3 harg3 x0 448 0 inb_S1024x512_S64x256_448_0) (loadQ arg4 harg4 x1 384 0 inb_S1024x512_S64x256_384_0) (loadQ arg4 harg4 x1 448 0 inb_S1024x512_S64x256_448_0) (loadV arg5 harg5 x2 384 0 inb_S1024x1024_S64x512_384_0) (loadV arg5 harg5 x2 448 0 inb_S1024x1024_S64x512_448_0) from rfl).trans ?_
  rw [v6 c arg3 harg3 arg4 harg4 arg5 harg5 arg6 harg6 arg7 harg7 arg8 harg8 arg10 harg10 x0 x1 x2 x3 x4 x5]
  simp only [readQ, readV, gateL_eq, slice_cut]
  rfl

/-- The state pair 3 of head 1 starts from. -/
theorem v7 : sq (kernelRun0_A.sl.v867 c arg4 harg4 arg5 harg5 arg6 harg6 arg7 harg7 arg8 harg8 arg10 x1 x2 x3 x4 x5) = stt x1 x2 (k0_pay2 x3 x4 x5) 1 (headOf k0_pay1 1) 3 :=
  (congrArg sq (((View.readCov_skip _ _ _ _ _ (by decide +kernel)).trans (View.readCov_cons_toLoadRect _ _ _ _)).trans (s5 c arg3 harg3 arg4 harg4 arg5 harg5 arg6 harg6 arg7 harg7 arg8 harg8 arg10 harg10 x0 x1 x2 x3 x4 x5))).trans (squeeze_unsqueeze _)

/-- The state pair 3 of head 1 leaves. -/
theorem s7 : (k0_pay194 (kernelRun0_A.sl.r_131 c arg4 harg4 arg5 harg5 arg6 harg6 arg7 harg7 arg8 harg8 arg10 x1 x2 x3 x4 x5) (kernelRun0_A.sl.r_133 c arg6 harg6 arg7 harg7 arg8 harg8 x3 x4 x5) (kernelRun0_A.sl.r_136 c arg5 harg5 x2) (kernelRun0_A.sl.r_140 c arg4 harg4 arg6 harg6 arg7 harg7 arg8 harg8 x1 x3 x4 x5) (kernelRun0_A.sl.r_142 c arg6 harg6 arg7 harg7 arg8 harg8 x3 x4 x5) (kernelRun0_A.sl.r_143 c arg4 harg4 x1) (kernelRun0_A.sl.r_144 c arg5 harg5 x2) (kernelRun0_A.sl.r_147 c arg6 harg6 arg7 harg7 arg8 harg8 x3 x4 x5) : FVec F S1x256x512 .f32) = usq (stt x1 x2 (k0_pay2 x3 x4 x5) 1 (headOf k0_pay1 1) 4) := by
  refine (show _ = usq (next (sq (kernelRun0_A.sl.v867 c arg4 harg4 arg5 harg5 arg6 harg6 arg7 harg7 arg8 harg8 arg10 x1 x2 x3 x4 x5)) (cum (extractStridedSlice S64x256 ![384, 256] (gateL arg6 harg6 arg7 harg7 arg8 harg8 x3 x4 x5) slices_S1024x512_o384_256_S64x256)) (cum (extractStridedSlice S64x256 ![448, 256] (gateL arg6 harg6 arg7 harg7 arg8 harg8 x3 x4 x5) slices_S1024x512_o448_256_S64x256)) (loadQ arg4 harg4 x1 384 256 inb_S1024x512_S64x256_384_256) (loadQ arg4 harg4 x1 448 256 inb_S1024x512_S64x256_448_256) (loadV arg5 harg5 x2 384 512 inb_S1024x1024_S64x512_384_512) (loadV arg5 harg5 x2 448 512 inb_S1024x1024_S64x512_448_512)) from rfl).trans ?_
  rw [v7 c arg3 harg3 arg4 harg4 arg5 harg5 arg6 harg6 arg7 harg7 arg8 harg8 arg10 harg10 x0 x1 x2 x3 x4 x5]
  simp only [readQ, readV, gateL_eq, slice_cut]
  rfl

/-- What pair 3 of head 1 stores for its first chunk. -/
theorem a7 : (k0_pay195 (kernelRun0_A.sl.r_131 c arg4 harg4 arg5 harg5 arg6 harg6 arg7 harg7 arg8 harg8 arg10 x1 x2 x3 x4 x5) (kernelRun0_A.sl.r_133 c arg6 harg6 arg7 harg7 arg8 harg8 x3 x4 x5) (kernelRun0_A.sl.r_138 c arg3 harg3 arg4 harg4 arg5 harg5 arg6 harg6 arg7 harg7 arg8 harg8 x0 x1 x2 x3 x4 x5) (kernelRun0_A.sl.r_139 c arg3 harg3 arg6 harg6 arg7 harg7 arg8 harg8 x0 x3 x4 x5) (kernelRun0_A.sl.r_146 c arg3 harg3 arg6 harg6 arg7 harg7 arg8 harg8 x0 x3 x4 x5) : FVec F S64x512 .bf16) = oA x0 x1 x2 (k0_pay2 x3 x4 x5) 1 (headOf k0_pay1 1) 3 := by
  refine (show _ = outA (sq (kernelRun0_A.sl.v867 c arg4 harg4 arg5 harg5 arg6 harg6 arg7 harg7 arg8 harg8 arg10 x1 x2 x3 x4 x5)) (cum (extractStridedSlice S64x256 ![384, 256] (gateL arg6 harg6 arg7 harg7 arg8 harg8 x3 x4 x5) slices_S1024x512_o384_256_S64x256)) (cum (extractStridedSlice S64x256 ![448, 256] (gateL arg6 harg6 arg7 harg7 arg8 harg8 x3 x4 x5) slices_S1024x512_o448_256_S64x256)) (loadQ arg3 harg3 x0 384 256 inb_S1024x512_S64x256_384_256) (loadQ arg3 harg3 x0 448 256 inb_S1024x512_S64x256_448_256) (loadQ arg4 harg4 x1 384 256 inb_S1024x512_S64x256_384_256) (loadV arg5 harg5 x2 384 512 inb_S1024x1024_S64x512_384_512) from rfl).trans ?_
  rw [v7 c arg3 harg3 arg4 harg4 arg5 harg5 arg6 harg6 arg7 harg7 arg8 harg8 arg10 harg10 x0 x1 x2 x3 x4 x5]
  simp only [readQ, readV, gateL_eq, slice_cut]
  rfl

/-- What pair 3 of head 1 stores for its second chunk. -/
theorem b7 : (k0_pay196 (kernelRun0_A.sl.r_131 c arg4 harg4 arg5 harg5 arg6 harg6 arg7 harg7 arg8 harg8 arg10 x1 x2 x3 x4 x5) (kernelRun0_A.sl.r_133 c arg6 harg6 arg7 harg7 arg8 harg8 x3 x4 x5) (kernelRun0_A.sl.r_136 c arg5 harg5 x2) (kernelRun0_A.sl.r_139 c arg3 harg3 arg6 harg6 arg7 harg7 arg8 harg8 x0 x3 x4 x5) (kernelRun0_A.sl.r_141 c arg4 harg4 arg6 harg6 arg7 harg7 arg8 harg8 x1 x3 x4 x5) (kernelRun0_A.sl.r_145 c arg3 harg3 arg4 harg4 arg5 harg5 arg6 harg6 arg7 harg7 arg8 harg8 x0 x1 x2 x3 x4 x5) (kernelRun0_A.sl.r_146 c arg3 harg3 arg6 harg6 arg7 harg7 arg8 harg8 x0 x3 x4 x5) : FVec F S64x512 .bf16) = oB x0 x1 x2 (k0_pay2 x3 x4 x5) 1 (headOf k0_pay1 1) 3 := by
  refine (show _ = outB (sq (kernelRun0_A.sl.v867 c arg4 harg4 arg5 harg5 arg6 harg6 arg7 harg7 arg8 harg8 arg10 x1 x2 x3 x4 x5)) (cum (extractStridedSlice S64x256 ![384, 256] (gateL arg6 harg6 arg7 harg7 arg8 harg8 x3 x4 x5) slices_S1024x512_o384_256_S64x256)) (cum (extractStridedSlice S64x256 ![448, 256] (gateL arg6 harg6 arg7 harg7 arg8 harg8 x3 x4 x5) slices_S1024x512_o448_256_S64x256)) (loadQ arg3 harg3 x0 384 256 inb_S1024x512_S64x256_384_256) (loadQ arg3 harg3 x0 448 256 inb_S1024x512_S64x256_448_256) (loadQ arg4 harg4 x1 384 256 inb_S1024x512_S64x256_384_256) (loadQ arg4 harg4 x1 448 256 inb_S1024x512_S64x256_448_256) (loadV arg5 harg5 x2 384 512 inb_S1024x1024_S64x512_384_512) (loadV arg5 harg5 x2 448 512 inb_S1024x1024_S64x512_448_512) from rfl).trans ?_
  rw [v7 c arg3 harg3 arg4 harg4 arg5 harg5 arg6 harg6 arg7 harg7 arg8 harg8 arg10 harg10 x0 x1 x2 x3 x4 x5]
  simp only [readQ, readV, gateL_eq, slice_cut]
  rfl

/-- The state pair 4 of head 0 starts from. -/
theorem v8 : sq (kernelRun0_A.sl.v986 c arg4 harg4 arg5 harg5 arg6 harg6 arg7 harg7 arg8 harg8 arg10 x1 x2 x3 x4 x5) = stt x1 x2 (k0_pay2 x3 x4 x5) 0 (headOf k0_pay1 0) 4 :=
  (congrArg sq (((View.readCov_skip _ _ _ _ _ (by decide +kernel)).trans (View.readCov_cons_toLoadRect _ _ _ _)).trans (s6 c arg3 harg3 arg4 harg4 arg5 harg5 arg6 harg6 arg7 harg7 arg8 harg8 arg10 harg10 x0 x1 x2 x3 x4 x5))).trans (squeeze_unsqueeze _)

/-- The state pair 4 of head 0 leaves. -/
theorem s8 : (k0_pay219 (kernelRun0_A.sl.r_148 c arg4 harg4 arg5 harg5 arg6 harg6 arg7 harg7 arg8 harg8 arg10 x1 x2 x3 x4 x5) (kernelRun0_A.sl.r_150 c arg5 harg5 x2) (kernelRun0_A.sl.r_157 c arg5 harg5 x2) (kernelRun0_A.sl.r_158 c arg4 harg4 arg6 harg6 arg7 harg7 arg8 harg8 x1 x3 x4 x5) (kernelRun0_A.sl.r_159 c arg6 harg6 arg7 harg7 arg8 harg8 x3 x4 x5) (kernelRun0_A.sl.r_160 c arg4 harg4 arg6 harg6 arg7 harg7 arg8 harg8 x1 x3 x4 x5) : FVec F S1x256x512 .f32) = usq (stt x1 x2 (k0_pay2 x3 x4 x5) 0 (headOf k0_pay1 0) 5) := by
  refine (show _ = usq (next (sq (kernelRun0_A.sl.v986 c arg4 harg4 arg5 harg5 arg6 harg6 arg7 harg7 arg8 harg8 arg10 x1 x2 x3 x4 x5)) (cum (extractStridedSlice S64x256 ![512, 0] (gateL arg6 harg6 arg7 harg7 arg8 harg8 x3 x4 x5) slices_S1024x512_o512_0_S64x256)) (cum (extractStridedSlice S64x256 ![576, 0] (gateL arg6 harg6 arg7 harg7 arg8 harg8 x3 x4 x5) slices_S1024x512_o576_0_S64x256)) (loadQ arg4 harg4 x1 512 0 inb_S1024x512_S64x256_512_0) (loadQ arg4 harg4 x1 576 0 inb_S1024x512_S64x256_576_0) (loadV arg5 harg5 x2 512 0 inb_S1024x1024_S64x512_512_0) (loadV arg5 harg5 x2 576 0 inb_S1024x1024_S64x512_576_0)) from rfl).trans ?_
  rw [v8 c arg3 harg3 arg4 harg4 arg5 harg5 arg6 harg6 arg7 harg7 arg8 harg8 arg10 harg10 x0 x1 x2 x3 x4 x5]
  simp only [readQ, readV, gateL_eq, slice_cut]
  rfl

/-- What pair 4 of head 0 stores for its first chunk. -/
theorem a8 : (k0_pay220 (kernelRun0_A.sl.r_151 c arg3 harg3 arg4 harg4 arg5 harg5 arg6 harg6 arg7 harg7 arg8 harg8 x0 x1 x2 x3 x4 x5) (kernelRun0_A.sl.r_162 c arg3 harg3 arg6 harg6 arg7 harg7 arg8 harg8 x0 x3 x4 x5) (kernelRun0_A.sl.r_163 c arg4 harg4 arg5 harg5 arg6 harg6 arg7 harg7 arg8 harg8 arg10 x1 x2 x3 x4 x5) : FVec F S64x512 .bf16) = oA x0 x1 x2 (k0_pay2 x3 x4 x5) 0 (headOf k0_pay1 0) 4 := by
  refine (show _ = outA (sq (kernelRun0_A.sl.v986 c arg4 harg4 arg5 harg5 arg6 harg6 arg7 harg7 arg8 harg8 arg10 x1 x2 x3 x4 x5)) (cum (extractStridedSlice S64x256 ![512, 0] (gateL arg6 harg6 arg7 harg7 arg8 harg8 x3 x4 x5) slices_S1024x512_o512_0_S64x256)) (cum (extractStridedSlice S64x256 ![576, 0] (gateL arg6 harg6 arg7 harg7 arg8 harg8 x3 x4 x5) slices_S1024x512_o576_0_S64x256)) (loadQ arg3 harg3 x0 512 0 inb_S1024x512_S64x256_512_0) (loadQ arg3 harg3 x0 576 0 inb_S1024x512_S64x256_576_0) (loadQ arg4 harg4 x1 512 0 inb_S1024x512_S64x256_512_0) (loadV arg5 harg5 x2 512 0 inb_S1024x1024_S64x512_512_0) from rfl).trans ?_
  rw [v8 c arg3 harg3 arg4 harg4 arg5 harg5 arg6 harg6 arg7 harg7 arg8 harg8 arg10 harg10 x0 x1 x2 x3 x4 x5]
  simp only [readQ, readV, gateL_eq, slice_cut]
  rfl

/-- What pair 4 of head 0 stores for its second chunk. -/
theorem b8 : (k0_pay221 (kernelRun0_A.sl.r_161 c arg3 harg3 arg4 harg4 arg5 harg5 arg6 harg6 arg7 harg7 arg8 harg8 x0 x1 x2 x3 x4 x5) (kernelRun0_A.sl.r_162 c arg3 harg3 arg6 harg6 arg7 harg7 arg8 harg8 x0 x3 x4 x5) (kernelRun0_A.sl.r_163 c arg4 harg4 arg5 harg5 arg6 harg6 arg7 harg7 arg8 harg8 arg10 x1 x2 x3 x4 x5) : FVec F S64x512 .bf16) = oB x0 x1 x2 (k0_pay2 x3 x4 x5) 0 (headOf k0_pay1 0) 4 := by
  refine (show _ = outB (sq (kernelRun0_A.sl.v986 c arg4 harg4 arg5 harg5 arg6 harg6 arg7 harg7 arg8 harg8 arg10 x1 x2 x3 x4 x5)) (cum (extractStridedSlice S64x256 ![512, 0] (gateL arg6 harg6 arg7 harg7 arg8 harg8 x3 x4 x5) slices_S1024x512_o512_0_S64x256)) (cum (extractStridedSlice S64x256 ![576, 0] (gateL arg6 harg6 arg7 harg7 arg8 harg8 x3 x4 x5) slices_S1024x512_o576_0_S64x256)) (loadQ arg3 harg3 x0 512 0 inb_S1024x512_S64x256_512_0) (loadQ arg3 harg3 x0 576 0 inb_S1024x512_S64x256_576_0) (loadQ arg4 harg4 x1 512 0 inb_S1024x512_S64x256_512_0) (loadQ arg4 harg4 x1 576 0 inb_S1024x512_S64x256_576_0) (loadV arg5 harg5 x2 512 0 inb_S1024x1024_S64x512_512_0) (loadV arg5 harg5 x2 576 0 inb_S1024x1024_S64x512_576_0) from rfl).trans ?_
  rw [v8 c arg3 harg3 arg4 harg4 arg5 harg5 arg6 harg6 arg7 harg7 arg8 harg8 arg10 harg10 x0 x1 x2 x3 x4 x5]
  simp only [readQ, readV, gateL_eq, slice_cut]
  rfl

/-- The state pair 4 of head 1 starts from. -/
theorem v9 : sq (kernelRun0_A.sl.v1105 c arg4 harg4 arg5 harg5 arg6 harg6 arg7 harg7 arg8 harg8 arg10 x1 x2 x3 x4 x5) = stt x1 x2 (k0_pay2 x3 x4 x5) 1 (headOf k0_pay1 1) 4 :=
  (congrArg sq (((View.readCov_skip _ _ _ _ _ (by decide +kernel)).trans (View.readCov_cons_toLoadRect _ _ _ _)).trans (s7 c arg3 harg3 arg4 harg4 arg5 harg5 arg6 harg6 arg7 harg7 arg8 harg8 arg10 harg10 x0 x1 x2 x3 x4 x5))).trans (squeeze_unsqueeze _)

/-- The state pair 4 of head 1 leaves. -/
theorem s9 : (k0_pay242 (kernelRun0_A.sl.r_164 c arg4 harg4 arg5 harg5 arg6 harg6 arg7 harg7 arg8 harg8 arg10 x1 x2 x3 x4 x5) (kernelRun0_A.sl.r_167 c arg6 harg6 arg7 harg7 arg8 harg8 x3 x4 x5) (kernelRun0_A.sl.r_170 c arg5 harg5 x2) (kernelRun0_A.sl.r_173 c arg4 harg4 arg6 harg6 arg7 harg7 arg8 harg8 x1 x3 x4 x5) (kernelRun0_A.sl.r_175 c arg6 harg6 arg7 harg7 arg8 harg8 x3 x4 x5) (kernelRun0_A.sl.r_176 c arg6 harg6 arg7 harg7 arg8 harg8 x3 x4 x5) (kernelRun0_A.sl.r_178 c arg4 harg4 x1) (kernelRun0_A.sl.r_179 c arg5 harg5 x2) : FVec F S1x256x512 .f32) = usq (stt x1 x2 (k0_pay2 x3 x4 x5) 1 (headOf k0_pay1 1) 5) := by
  refine (show _ = usq (next (sq (kernelRun0_A.sl.v1105 c arg4 harg4 arg5 harg5 arg6 harg6 arg7 harg7 arg8 harg8 arg10 x1 x2 x3 x4 x5)) (cum (extractStridedSlice S64x256 ![512, 256] (gateL arg6 harg6 arg7 harg7 arg8 harg8 x3 x4 x5) slices_S1024x512_o512_256_S64x256)) (cum (extractStridedSlice S64x256 ![576, 256] (gateL arg6 harg6 arg7 harg7 arg8 harg8 x3 x4 x5) slices_S1024x512_o576_256_S64x256)) (loadQ arg4 harg4 x1 512 256 inb_S1024x512_S64x256_512_256) (loadQ arg4 harg4 x1 576 256 inb_S1024x512_S64x256_576_256) (loadV arg5 harg5 x2 512 512 inb_S1024x1024_S64x512_512_512) (loadV arg5 harg5 x2 576 512 inb_S1024x1024_S64x512_576_512)) from rfl).trans ?_
  rw [v9 c arg3 harg3 arg4 harg4 arg5 harg5 arg6 harg6 arg7 harg7 arg8 harg8 arg10 harg10 x0 x1 x2 x3 x4 x5]
  simp only [readQ, readV, gateL_eq, slice_cut]
  rfl

/-- What pair 4 of head 1 stores for its first chunk. -/
theorem a9 : (k0_pay244 (kernelRun0_A.sl.r_171 c arg3 harg3 arg4 harg4 arg5 harg5 arg6 harg6 arg7 harg7 arg8 harg8 x0 x1 x2 x3 x4 x5) (kernelRun0_A.sl.r_184 c arg3 harg3 arg4 harg4 arg5 harg5 arg6 harg6 arg7 harg7 arg8 harg8 arg10 x0 x1 x2 x3 x4 x5) : FVec F S64x512 .bf16) = oA x0 x1 x2 (k0_pay2 x3 x4 x5) 1 (headOf k0_pay1 1) 4 := by
  refine (show _ = outA (sq (kernelRun0_A.sl.v1105 c arg4 harg4 arg5 harg5 arg6 harg6 arg7 harg7 arg8 harg8 arg10 x1 x2 x3 x4 x5)) (cum (extractStridedSlice S64x256 ![512, 256] (gateL arg6 harg6 arg7 harg7 arg8 harg8 x3 x4 x5) slices_S1024x512_o512_256_S64x256)) (cum (extractStridedSlice S64x256 ![576, 256] (gateL arg6 harg6 arg7 harg7 arg8 harg8 x3 x4 x5) slices_S1024x512_o576_256_S64x256)) (loadQ arg3 harg3 x0 512 256 inb_S1024x512_S64x256_512_256) (loadQ arg3 harg3 x0 576 256 inb_S1024x512_S64x256_576_256) (loadQ arg4 harg4 x1 512 256 inb_S1024x512_S64x256_512_256) (loadV arg5 harg5 x2 512 512 inb_S1024x1024_S64x512_512_512) from rfl).trans ?_
  rw [v9 c arg3 harg3 arg4 harg4 arg5 harg5 arg6 harg6 arg7 harg7 arg8 harg8 arg10 harg10 x0 x1 x2 x3 x4 x5]
  simp only [readQ, readV, gateL_eq, slice_cut]
  rfl

/-- What pair 4 of head 1 stores for its second chunk. -/
theorem b9 : (k0_pay245 (kernelRun0_A.sl.r_182 c arg3 harg3 arg4 harg4 arg5 harg5 arg6 harg6 arg7 harg7 arg8 harg8 x0 x1 x2 x3 x4 x5) (kernelRun0_A.sl.r_183 c arg3 harg3 arg4 harg4 arg5 harg5 arg6 harg6 arg7 harg7 arg8 harg8 arg10 x0 x1 x2 x3 x4 x5) : FVec F S64x512 .bf16) = oB x0 x1 x2 (k0_pay2 x3 x4 x5) 1 (headOf k0_pay1 1) 4 := by
  refine (show _ = outB (sq (kernelRun0_A.sl.v1105 c arg4 harg4 arg5 harg5 arg6 harg6 arg7 harg7 arg8 harg8 arg10 x1 x2 x3 x4 x5)) (cum (extractStridedSlice S64x256 ![512, 256] (gateL arg6 harg6 arg7 harg7 arg8 harg8 x3 x4 x5) slices_S1024x512_o512_256_S64x256)) (cum (extractStridedSlice S64x256 ![576, 256] (gateL arg6 harg6 arg7 harg7 arg8 harg8 x3 x4 x5) slices_S1024x512_o576_256_S64x256)) (loadQ arg3 harg3 x0 512 256 inb_S1024x512_S64x256_512_256) (loadQ arg3 harg3 x0 576 256 inb_S1024x512_S64x256_576_256) (loadQ arg4 harg4 x1 512 256 inb_S1024x512_S64x256_512_256) (loadQ arg4 harg4 x1 576 256 inb_S1024x512_S64x256_576_256) (loadV arg5 harg5 x2 512 512 inb_S1024x1024_S64x512_512_512) (loadV arg5 harg5 x2 576 512 inb_S1024x1024_S64x512_576_512) from rfl).trans ?_
  rw [v9 c arg3 harg3 arg4 harg4 arg5 harg5 arg6 harg6 arg7 harg7 arg8 harg8 arg10 harg10 x0 x1 x2 x3 x4 x5]
  simp only [readQ, readV, gateL_eq, slice_cut]
  rfl

/-- The state pair 5 of head 0 starts from. -/
theorem v10 : sq (kernelRun0_A.sl.v1224 c arg4 harg4 arg5 harg5 arg6 harg6 arg7 harg7 arg8 harg8 arg10 x1 x2 x3 x4 x5) = stt x1 x2 (k0_pay2 x3 x4 x5) 0 (headOf k0_pay1 0) 5 :=
  (congrArg sq (((View.readCov_skip _ _ _ _ _ (by decide +kernel)).trans (View.readCov_cons_toLoadRect _ _ _ _)).trans (s8 c arg3 harg3 arg4 harg4 arg5 harg5 arg6 harg6 arg7 harg7 arg8 harg8 arg10 harg10 x0 x1 x2 x3 x4 x5))).trans (squeeze_unsqueeze _)

/-- The state pair 5 of head 0 leaves. -/
theorem s10 : (k0_pay265 (kernelRun0_A.sl.r_185 c arg4 harg4 arg5 harg5 arg6 harg6 arg7 harg7 arg8 harg8 arg10 x1 x2 x3 x4 x5) (kernelRun0_A.sl.r_190 c arg5 harg5 x2) (kernelRun0_A.sl.r_192 c arg4 harg4 arg6 harg6 arg7 harg7 arg8 harg8 x1 x3 x4 x5) (kernelRun0_A.sl.r_194 c arg5 harg5 x2) (kernelRun0_A.sl.r_197 c arg4 harg4 arg6 harg6 arg7 harg7 arg8 harg8 x1 x3 x4 x5) (kernelRun0_A.sl.r_198 c arg6 harg6 arg7 harg7 arg8 harg8 x3 x4 x5) (kernelRun0_A.sl.r_200 c arg6 harg6 arg7 harg7 arg8 harg8 x3 x4 x5) : FVec F S1x256x512 .f32) = usq (stt x1 x2 (k0_pay2 x3 x4 x5) 0 (headOf k0_pay1 0) 6) := by
  refine (show _ = usq (next (sq (kernelRun0_A.sl.v1224 c arg4 harg4 arg5 harg5 arg6 harg6 arg7 harg7 arg8 harg8 arg10 x1 x2 x3 x4 x5)) (cum (extractStridedSlice S64x256 ![640, 0] (gateL arg6 harg6 arg7 harg7 arg8 harg8 x3 x4 x5) slices_S1024x512_o640_0_S64x256)) (cum (extractStridedSlice S64x256 ![704, 0] (gateL arg6 harg6 arg7 harg7 arg8 harg8 x3 x4 x5) slices_S1024x512_o704_0_S64x256)) (loadQ arg4 harg4 x1 640 0 inb_S1024x512_S64x256_640_0) (loadQ arg4 harg4 x1 704 0 inb_S1024x512_S64x256_704_0) (loadV arg5 harg5 x2 640 0 inb_S1024x1024_S64x512_640_0) (loadV arg5 harg5 x2 704 0 inb_S1024x1024_S64x512_704_0)) from rfl).trans ?_
  rw [v10 c arg3 harg3 arg4 harg4 arg5 harg5 arg6 harg6 arg7 harg7 arg8 harg8 arg10 harg10 x0 x1 x2 x3 x4 x5]
  simp only [readQ, readV, gateL_eq, slice_cut]
  rfl

/-- What pair 5 of head 0 stores for its first chunk. -/
theorem a10 : (k0_pay266 (kernelRun0_A.sl.r_185 c arg4 harg4 arg5 harg5 arg6 harg6 arg7 harg7 arg8 harg8 arg10 x1 x2 x3 x4 x5) (kernelRun0_A.sl.r_187 c arg6 harg6 arg7 harg7 arg8 harg8 x3 x4 x5) (kernelRun0_A.sl.r_191 c arg3 harg3 arg4 harg4 arg5 harg5 arg6 harg6 arg7 harg7 arg8 harg8 x0 x1 x2 x3 x4 x5) (kernelRun0_A.sl.r_196 c arg3 harg3 arg6 harg6 arg7 harg7 arg8 harg8 x0 x3 x4 x5) (kernelRun0_A.sl.r_199 c arg3 harg3 arg6 harg6 arg7 harg7 arg8 harg8 x0 x3 x4 x5) : FVec F S64x512 .bf16) = oA x0 x1 x2 (k0_pay2 x3 x4 x5) 0 (headOf k0_pay1 0) 5 := by
  refine (show _ = outA (sq (kernelRun0_A.sl.v1224 c arg4 harg4 arg5 harg5 arg6 harg6 arg7 harg7 arg8 harg8 arg10 x1 x2 x3 x4 x5)) (cum (extractStridedSlice S64x256 ![640, 0] (gateL arg6 harg6 arg7 harg7 arg8 harg8 x3 x4 x5) slices_S1024x512_o640_0_S64x256)) (cum (extractStridedSlice S64x256 ![704, 0] (gateL arg6 harg6 arg7 harg7 arg8 harg8 x3 x4 x5) slices_S1024x512_o704_0_S64x256)) (loadQ arg3 harg3 x0 640 0 inb_S1024x512_S64x256_640_0) (loadQ arg3 harg3 x0 704 0 inb_S1024x512_S64x256_704_0) (loadQ arg4 harg4 x1 640 0 inb_S1024x512_S64x256_640_0) (loadV arg5 harg5 x2 640 0 inb_S1024x1024_S64x512_640_0) from rfl).trans ?_
  rw [v10 c arg3 harg3 arg4 harg4 arg5 harg5 arg6 harg6 arg7 harg7 arg8 harg8 arg10 harg10 x0 x1 x2 x3 x4 x5]
  simp only [readQ, readV, gateL_eq, slice_cut]
  rfl

/-- What pair 5 of head 0 stores for its second chunk. -/
theorem b10 : (k0_pay267 (kernelRun0_A.sl.r_185 c arg4 harg4 arg5 harg5 arg6 harg6 arg7 harg7 arg8 harg8 arg10 x1 x2 x3 x4 x5) (kernelRun0_A.sl.r_187 c arg6 harg6 arg7 harg7 arg8 harg8 x3 x4 x5) (kernelRun0_A.sl.r_190 c arg5 harg5 x2) (kernelRun0_A.sl.r_193 c arg4 harg4 arg6 harg6 arg7 harg7 arg8 harg8 x1 x3 x4 x5) (kernelRun0_A.sl.r_195 c arg3 harg3 arg4 harg4 arg5 harg5 arg6 harg6 arg7 harg7 arg8 harg8 x0 x1 x2 x3 x4 x5) (kernelRun0_A.sl.r_196 c arg3 harg3 arg6 harg6 arg7 harg7 arg8 harg8 x0 x3 x4 x5) (kernelRun0_A.sl.r_199 c arg3 harg3 arg6 harg6 arg7 harg7 arg8 harg8 x0 x3 x4 x5) : FVec F S64x512 .bf16) = oB x0 x1 x2 (k0_pay2 x3 x4 x5) 0 (headOf k0_pay1 0) 5 := by
  refine (show _ = outB (sq (kernelRun0_A.sl.v1224 c arg4 harg4 arg5 harg5 arg6 harg6 arg7 harg7 arg8 harg8 arg10 x1 x2 x3 x4 x5)) (cum (extractStridedSlice S64x256 ![640, 0] (gateL arg6 harg6 arg7 harg7 arg8 harg8 x3 x4 x5) slices_S1024x512_o640_0_S64x256)) (cum (extractStridedSlice S64x256 ![704, 0] (gateL arg6 harg6 arg7 harg7 arg8 harg8 x3 x4 x5) slices_S1024x512_o704_0_S64x256)) (loadQ arg3 harg3 x0 640 0 inb_S1024x512_S64x256_640_0) (loadQ arg3 harg3 x0 704 0 inb_S1024x512_S64x256_704_0) (loadQ arg4 harg4 x1 640 0 inb_S1024x512_S64x256_640_0) (loadQ arg4 harg4 x1 704 0 inb_S1024x512_S64x256_704_0) (loadV arg5 harg5 x2 640 0 inb_S1024x1024_S64x512_640_0) (loadV arg5 harg5 x2 704 0 inb_S1024x1024_S64x512_704_0) from rfl).trans ?_
  rw [v10 c arg3 harg3 arg4 harg4 arg5 harg5 arg6 harg6 arg7 harg7 arg8 harg8 arg10 harg10 x0 x1 x2 x3 x4 x5]
  simp only [readQ, readV, gateL_eq, slice_cut]
  rfl

/-- The state pair 5 of head 1 starts from. -/
theorem v11 : sq (kernelRun0_A.sl.v1343 c arg4 harg4 arg5 harg5 arg6 harg6 arg7 harg7 arg8 harg8 arg10 x1 x2 x3 x4 x5) = stt x1 x2 (k0_pay2 x3 x4 x5) 1 (headOf k0_pay1 1) 5 :=
  (congrArg sq (((View.readCov_skip _ _ _ _ _ (by decide +kernel)).trans (View.readCov_cons_toLoadRect _ _ _ _)).trans (s9 c arg3 harg3 arg4 harg4 arg5 harg5 arg6 harg6 arg7 harg7 arg8 harg8 arg10 harg10 x0 x1 x2 x3 x4 x5))).trans (squeeze_unsqueeze _)

/-- The state pair 5 of head 1 leaves. -/
theorem s11 : (k0_pay293 (kernelRun0_A.sl.r_201 c arg4 harg4 arg5 harg5 arg6 harg6 arg7 harg7 arg8 harg8 arg10 x1 x2 x3 x4 x5) (kernelRun0_A.sl.r_205 c arg5 harg5 x2) (kernelRun0_A.sl.r_214 c arg5 harg5 x2) (kernelRun0_A.sl.r_215 c arg4 harg4 arg6 harg6 arg7 harg7 arg8 harg8 x1 x3 x4 x5) (kernelRun0_A.sl.r_216 c arg4 harg4 arg6 harg6 arg7 harg7 arg8 harg8 x1 x3 x4 x5) (kernelRun0_A.sl.r_219 c arg6 harg6 arg7 harg7 arg8 harg8 x3 x4 x5) : FVec F S1x256x512 .f32) = usq (stt x1 x2 (k0_pay2 x3 x4 x5) 1 (headOf k0_pay1 1) 6) := by
  refine (show _ = usq (next (sq (kernelRun0_A.sl.v1343 c arg4 harg4 arg5 harg5 arg6 harg6 arg7 harg7 arg8 harg8 arg10 x1 x2 x3 x4 x5)) (cum (extractStridedSlice S64x256 ![640, 256] (gateL arg6 harg6 arg7 harg7 arg8 harg8 x3 x4 x5) slices_S1024x512_o640_256_S64x256)) (cum (extractStridedSlice S64x256 ![704, 256] (gateL arg6 harg6 arg7 harg7 arg8 harg8 x3 x4 x5) slices_S1024x512_o704_256_S64x256)) (loadQ arg4 harg4 x1 640 256 inb_S1024x512_S64x256_640_256) (loadQ arg4 harg4 x1 704 256 inb_S1024x512_S64x256_704_256) (loadV arg5 harg5 x2 640 512 inb_S1024x1024_S64x512_640_512) (loadV arg5 harg5 x2 704 512 inb_S1024x1024_S64x512_704_512)) from rfl).trans ?_
  rw [v11 c arg3 harg3 arg4 harg4 arg5 harg5 arg6 harg6 arg7 harg7 arg8 harg8 arg10 harg10 x0 x1 x2 x3 x4 x5]
  simp only [readQ, readV, gateL_eq, slice_cut]
  rfl

/-- What pair 5 of head 1 stores for its first chunk. -/
theorem a11 : (k0_pay294 (kernelRun0_A.sl.r_206 c arg3 harg3 arg4 harg4 arg5 harg5 arg6 harg6 arg7 harg7 arg8 harg8 x0 x1 x2 x3 x4 x5) (kernelRun0_A.sl.r_218 c arg3 harg3 arg4 harg4 arg5 harg5 arg6 harg6 arg7 harg7 arg8 harg8 arg10 x0 x1 x2 x3 x4 x5) : FVec F S64x512 .bf16) = oA x0 x1 x2 (k0_pay2 x3 x4 x5) 1 (headOf k0_pay1 1) 5 := by
  refine (show _ = outA (sq (kernelRun0_A.sl.v1343 c arg4 harg4 arg5 harg5 arg6 harg6 arg7 harg7 arg8 harg8 arg10 x1 x2 x3 x4 x5)) (cum (extractStridedSlice S64x256 ![640, 256] (gateL arg6 harg6 arg7 harg7 arg8 harg8 x3 x4 x5) slices_S1024x512_o640_256_S64x256)) (cum (extractStridedSlice S64x256 ![704, 256] (gateL arg6 harg6 arg7 harg7 arg8 harg8 x3 x4 x5) slices_S1024x512_o704_256_S64x256)) (loadQ arg3 harg3 x0 640 256 inb_S1024x512_S64x256_640_256) (loadQ arg3 harg3 x0 704 256 inb_S1024x512_S64x256_704_256) (loadQ arg4 harg4 x1 640 256 inb_S1024x512_S64x256_640_256) (loadV arg5 harg5 x2 640 512 inb_S1024x1024_S64x512_640_512) from rfl).trans ?_
  rw [v11 c arg3 harg3 arg4 harg4 arg5 harg5 arg6 harg6 arg7 harg7 arg8 harg8 arg10 harg10 x0 x1 x2 x3 x4 x5]
  simp only [readQ, readV, gateL_eq, slice_cut]
  rfl

/-- What pair 5 of head 1 stores for its second chunk. -/
theorem b11 : (k0_pay295 (kernelRun0_A.sl.r_217 c arg3 harg3 arg4 harg4 arg5 harg5 arg6 harg6 arg7 harg7 arg8 harg8 x0 x1 x2 x3 x4 x5) (kernelRun0_A.sl.r_218 c arg3 harg3 arg4 harg4 arg5 harg5 arg6 harg6 arg7 harg7 arg8 harg8 arg10 x0 x1 x2 x3 x4 x5) : FVec F S64x512 .bf16) = oB x0 x1 x2 (k0_pay2 x3 x4 x5) 1 (headOf k0_pay1 1) 5 := by
  refine (show _ = outB (sq (kernelRun0_A.sl.v1343 c arg4 harg4 arg5 harg5 arg6 harg6 arg7 harg7 arg8 harg8 arg10 x1 x2 x3 x4 x5)) (cum (extractStridedSlice S64x256 ![640, 256] (gateL arg6 harg6 arg7 harg7 arg8 harg8 x3 x4 x5) slices_S1024x512_o640_256_S64x256)) (cum (extractStridedSlice S64x256 ![704, 256] (gateL arg6 harg6 arg7 harg7 arg8 harg8 x3 x4 x5) slices_S1024x512_o704_256_S64x256)) (loadQ arg3 harg3 x0 640 256 inb_S1024x512_S64x256_640_256) (loadQ arg3 harg3 x0 704 256 inb_S1024x512_S64x256_704_256) (loadQ arg4 harg4 x1 640 256 inb_S1024x512_S64x256_640_256) (loadQ arg4 harg4 x1 704 256 inb_S1024x512_S64x256_704_256) (loadV arg5 harg5 x2 640 512 inb_S1024x1024_S64x512_640_512) (loadV arg5 harg5 x2 704 512 inb_S1024x1024_S64x512_704_512) from rfl).trans ?_
  rw [v11 c arg3 harg3 arg4 harg4 arg5 harg5 arg6 harg6 arg7 harg7 arg8 harg8 arg10 harg10 x0 x1 x2 x3 x4 x5]
  simp only [readQ, readV, gateL_eq, slice_cut]
  rfl

/-- The state pair 6 of head 0 starts from. -/
theorem v12 : sq (kernelRun0_A.sl.v1462 c arg4 harg4 arg5 harg5 arg6 harg6 arg7 harg7 arg8 harg8 arg10 x1 x2 x3 x4 x5) = stt x1 x2 (k0_pay2 x3 x4 x5) 0 (headOf k0_pay1 0) 6 :=
  (congrArg sq (((View.readCov_skip _ _ _ _ _ (by decide +kernel)).trans (View.readCov_cons_toLoadRect _ _ _ _)).trans (s10 c arg3 harg3 arg4 harg4 arg5 harg5 arg6 harg6 arg7 harg7 arg8 harg8 arg10 harg10 x0 x1 x2 x3 x4 x5))).trans (squeeze_unsqueeze _)

/-- The state pair 6 of head 0 leaves. -/
theorem s12 : (k0_pay315 (kernelRun0_A.sl.r_220 c arg4 harg4 arg5 harg5 arg6 harg6 arg7 harg7 arg8 harg8 arg10 x1 x2 x3 x4 x5) (kernelRun0_A.sl.r_223 c arg6 harg6 arg7 harg7 arg8 harg8 x3 x4 x5) (kernelRun0_A.sl.r_226 c arg5 harg5 x2) (kernelRun0_A.sl.r_230 c arg4 harg4 arg6 harg6 arg7 harg7 arg8 harg8 x1 x3 x4 x5) (kernelRun0_A.sl.r_232 c arg6 harg6 arg7 harg7 arg8 harg8 x3 x4 x5) (kernelRun0_A.sl.r_233 c arg6 harg6 arg7 harg7 arg8 harg8 x3 x4 x5) (kernelRun0_A.sl.r_235 c arg4 harg4 x1) (kernelRun0_A.sl.r_236 c arg5 harg5 x2) : FVec F S1x256x512 .f32) = usq (stt x1 x2 (k0_pay2 x3 x4 x5) 0 (headOf k0_pay1 0) 7) := by
  refine (show _ = usq (next (sq (kernelRun0_A.sl.v1462 c arg4 harg4 arg5 harg5 arg6 harg6 arg7 harg7 arg8 harg8 arg10 x1 x2 x3 x4 x5)) (cum (extractStridedSlice S64x256 ![768, 0] (gateL arg6 harg6 arg7 harg7 arg8 harg8 x3 x4 x5) slices_S1024x512_o768_0_S64x256)) (cum (extractStridedSlice S64x256 ![832, 0] (gateL arg6 harg6 arg7 harg7 arg8 harg8 x3 x4 x5) slices_S1024x512_o832_0_S64x256)) (loadQ arg4 harg4 x1 768 0 inb_S1024x512_S64x256_768_0) (loadQ arg4 harg4 x1 832 0 inb_S1024x512_S64x256_832_0) (loadV arg5 harg5 x2 768 0 inb_S1024x1024_S64x512_768_0) (loadV arg5 harg5 x2 832 0 inb_S1024x1024_S64x512_832_0)) from rfl).trans ?_
  rw [v12 c arg3 harg3 arg4 harg4 arg5 harg5 arg6 harg6 arg7 harg7 arg8 harg8 arg10 harg10 x0 x1 x2 x3 x4 x5]
  simp only [readQ, readV, gateL_eq, slice_cut]
  rfl

/-- What pair 6 of head 0 stores for its first chunk. -/
theorem a12 : (k0_pay316 (kernelRun0_A.sl.r_220 c arg4 harg4 arg5 harg5 arg6 harg6 arg7 harg7 arg8 harg8 arg10 x1 x2 x3 x4 x5) (kernelRun0_A.sl.r_223 c arg6 harg6 arg7 harg7 arg8 harg8 x3 x4 x5) (kernelRun0_A.sl.r_228 c arg3 harg3 arg4 harg4 arg5 harg5 arg6 harg6 arg7 harg7 arg8 harg8 x0 x1 x2 x3 x4 x5) (kernelRun0_A.sl.r_229 c arg3 harg3 arg6 harg6 arg7 harg7 arg8 harg8 x0 x3 x4 x5) (kernelRun0_A.sl.r_232 c arg6 harg6 arg7 harg7 arg8 harg8 x3 x4 x5) (kernelRun0_A.sl.r_234 c arg3 harg3 x0) : FVec F S64x512 .bf16) = oA x0 x1 x2 (k0_pay2 x3 x4 x5) 0 (headOf k0_pay1 0) 6 := by
  refine (show _ = outA (sq (kernelRun0_A.sl.v1462 c arg4 harg4 arg5 harg5 arg6 harg6 arg7 harg7 arg8 harg8 arg10 x1 x2 x3 x4 x5)) (cum (extractStridedSlice S64x256 ![768, 0] (gateL arg6 harg6 arg7 harg7 arg8 harg8 x3 x4 x5) slices_S1024x512_o768_0_S64x256)) (cum (extractStridedSlice S64x256 ![832, 0] (gateL arg6 harg6 arg7 harg7 arg8 harg8 x3 x4 x5) slices_S1024x512_o832_0_S64x256)) (loadQ arg3 harg3 x0 768 0 inb_S1024x512_S64x256_768_0) (loadQ arg3 harg3 x0 832 0 inb_S1024x512_S64x256_832_0) (loadQ arg4 harg4 x1 768 0 inb_S1024x512_S64x256_768_0) (loadV arg5 harg5 x2 768 0 inb_S1024x1024_S64x512_768_0) from rfl).trans ?_
  rw [v12 c arg3 harg3 arg4 harg4 arg5 harg5 arg6 harg6 arg7 harg7 arg8 harg8 arg10 harg10 x0 x1 x2 x3 x4 x5]
  simp only [readQ, readV, gateL_eq, slice_cut]
  rfl

/-- What pair 6 of head 0 stores for its second chunk. -/
theorem b12 : (k0_pay317 (kernelRun0_A.sl.r_238 c arg3 harg3 arg4 harg4 arg5 harg5 arg6 harg6 arg7 harg7 arg8 harg8 x0 x1 x2 x3 x4 x5) (kernelRun0_A.sl.r_239 c arg3 harg3 arg4 harg4 arg5 harg5 arg6 harg6 arg7 harg7 arg8 harg8 arg10 x0 x1 x2 x3 x4 x5) : FVec F S64x512 .bf16) = oB x0 x1 x2 (k0_pay2 x3 x4 x5) 0 (headOf k0_pay1 0) 6 := by
  refine (show _ = outB (sq (kernelRun0_A.sl.v1462 c arg4 harg4 arg5 harg5 arg6 harg6 arg7 harg7 arg8 harg8 arg10 x1 x2 x3 x4 x5)) (cum (extractStridedSlice S64x256 ![768, 0] (gateL arg6 harg6 arg7 harg7 arg8 harg8 x3 x4 x5) slices_S1024x512_o768_0_S64x256)) (cum (extractStridedSlice S64x256 ![832, 0] (gateL arg6 harg6 arg7 harg7 arg8 harg8 x3 x4 x5) slices_S1024x512_o832_0_S64x256)) (loadQ arg3 harg3 x0 768 0 inb_S1024x512_S64x256_768_0) (loadQ arg3 harg3 x0 832 0 inb_S1024x512_S64x256_832_0) (loadQ arg4 harg4 x1 768 0 inb_S1024x512_S64x256_768_0) (loadQ arg4 harg4 x1 832 0 inb_S1024x512_S64x256_832_0) (loadV arg5 harg5 x2 768 0 inb_S1024x1024_S64x512_768_0) (loadV arg5 harg5 x2 832 0 inb_S1024x1024_S64x512_832_0) from rfl).trans ?_
  rw [v12 c arg3 harg3 arg4 harg4 arg5 harg5 arg6 harg6 arg7 harg7 arg8 harg8 arg10 harg10 x0 x1 x2 x3 x4 x5]
  simp only [readQ, readV, gateL_eq, slice_cut]
  rfl

/-- The state pair 6 of head 1 starts from. -/
theorem v13 : sq (kernelRun0_A.sl.v1581 c arg4 harg4 arg5 harg5 arg6 harg6 arg7 harg7 arg8 harg8 arg10 x1 x2 x3 x4 x5) = stt x1 x2 (k0_pay2 x3 x4 x5) 1 (headOf k0_pay1 1) 6 :=
  (congrArg sq (((View.readCov_skip _ _ _ _ _ (by decide +kernel)).trans (View.readCov_cons_toLoadRect _ _ _ _)).trans (s11 c arg3 harg3 arg4 harg4 arg5 harg5 arg6 harg6 arg7 harg7 arg8 harg8 arg10 harg10 x0 x1 x2 x3 x4 x5))).trans (squeeze_unsqueeze _)

/-- The state pair 6 of head 1 leaves. -/
theorem s13 : (k0_pay339 (kernelRun0_A.sl.r_240 c arg4 harg4 arg5 harg5 arg6 harg6 arg7 harg7 arg8 harg8 arg10 x1 x2 x3 x4 x5) (kernelRun0_A.sl.r_242 c arg5 harg5 x2) (kernelRun0_A.sl.r_247 c arg5 harg5 x2) (kernelRun0_A.sl.r_250 c arg4 harg4 arg6 harg6 arg7 harg7 arg8 harg8 x1 x3 x4 x5) (kernelRun0_A.sl.r_251 c arg6 harg6 arg7 harg7 arg8 harg8 x3 x4 x5) (kernelRun0_A.sl.r_253 c arg4 harg4 arg6 harg6 arg7 harg7 arg8 harg8 x1 x3 x4 x5) : FVec F S1x256x512 .f32) = usq (stt x1 x2 (k0_pay2 x3 x4 x5) 1 (headOf k0_pay1 1) 7) := by
  refine (show _ = usq (next (sq (kernelRun0_A.sl.v1581 c arg4 harg4 arg5 harg5 arg6 harg6 arg7 harg7 arg8 harg8 arg10 x1 x2 x3 x4 x5)) (cum (extractStridedSlice S64x256 ![768, 256] (gateL arg6 harg6 arg7 harg7 arg8 harg8 x3 x4 x5) slices_S1024x512_o768_256_S64x256)) (cum (extractStridedSlice S64x256 ![832, 256] (gateL arg6 harg6 arg7 harg7 arg8 harg8 x3 x4 x5) slices_S1024x512_o832_256_S64x256)) (loadQ arg4 harg4 x1 768 256 inb_S1024x512_S64x256_768_256) (loadQ arg4 harg4 x1 832 256 inb_S1024x512_S64x256_832_256) (loadV arg5 harg5 x2 768 512 inb_S1024x1024_S64x512_768_512) (loadV arg5 harg5 x2 832 512 inb_S1024x1024_S64x512_832_512)) from rfl).trans ?_
  rw [v13 c arg3 harg3 arg4 harg4 arg5 harg5 arg6 harg6 arg7 harg7 arg8 harg8 arg10 harg10 x0 x1 x2 x3 x4 x5]
  simp only [readQ, readV, gateL_eq, slice_cut]
  rfl

/-- What pair 6 of head 1 stores for its first chunk. -/
theorem a13 : (k0_pay340 (kernelRun0_A.sl.r_240 c arg4 harg4 arg5 harg5 arg6 harg6 arg7 harg7 arg8 harg8 arg10 x1 x2 x3 x4 x5) (kernelRun0_A.sl.r_243 c arg3 harg3 arg4 harg4 arg5 harg5 arg6 harg6 arg7 harg7 arg8 harg8 x0 x1 x2 x3 x4 x5) (kernelRun0_A.sl.r_252 c arg3 harg3 arg6 harg6 arg7 harg7 arg8 harg8 x0 x3 x4 x5) (kernelRun0_A.sl.r_254 c arg3 harg3 arg6 harg6 arg7 harg7 arg8 harg8 x0 x3 x4 x5) : FVec F S64x512 .bf16) = oA x0 x1 x2 (k0_pay2 x3 x4 x5) 1 (headOf k0_pay1 1) 6 := by
  refine (show _ = outA (sq (kernelRun0_A.sl.v1581 c arg4 harg4 arg5 harg5 arg6 harg6 arg7 harg7 arg8 harg8 arg10 x1 x2 x3 x4 x5)) (cum (extractStridedSlice S64x256 ![768, 256] (gateL arg6 harg6 arg7 harg7 arg8 harg8 x3 x4 x5) slices_S1024x512_o768_256_S64x256)) (cum (extractStridedSlice S64x256 ![832, 256] (gateL arg6 harg6 arg7 harg7 arg8 harg8 x3 x4 x5) slices_S1024x512_o832_256_S64x256)) (loadQ arg3 harg3 x0 768 256 inb_S1024x512_S64x256_768_256) (loadQ arg3 harg3 x0 832 256 inb_S1024x512_S64x256_832_256) (loadQ arg4 harg4 x1 768 256 inb_S1024x512_S64x256_768_256) (loadV arg5 harg5 x2 768 512 inb_S1024x1024_S64x512_768_512) from rfl).trans ?_
  rw [v13 c arg3 harg3 arg4 harg4 arg5 harg5 arg6 harg6 arg7 harg7 arg8 harg8 arg10 harg10 x0 x1 x2 x3 x4 x5]
  simp only [readQ, readV, gateL_eq, slice_cut]
  rfl

/-- What pair 6 of head 1 stores for its second chunk. -/
theorem b13 : (k0_pay341 (kernelRun0_A.sl.r_240 c arg4 harg4 arg5 harg5 arg6 harg6 arg7 harg7 arg8 harg8 arg10 x1 x2 x3 x4 x5) (kernelRun0_A.sl.r_242 c arg5 harg5 x2) (kernelRun0_A.sl.r_246 c arg4 harg4 arg6 harg6 arg7 harg7 arg8 harg8 x1 x3 x4 x5) (kernelRun0_A.sl.r_248 c arg3 harg3 arg4 harg4 arg5 harg5 arg6 harg6 arg7 harg7 arg8 harg8 x0 x1 x2 x3 x4 x5) (kernelRun0_A.sl.r_249 c arg3 harg3 arg6 harg6 arg7 harg7 arg8 harg8 x0 x3 x4 x5) (kernelRun0_A.sl.r_252 c arg3 harg3 arg6 harg6 arg7 harg7 arg8 harg8 x0 x3 x4 x5) (kernelRun0_A.sl.r_254 c arg3 harg3 arg6 harg6 arg7 harg7 arg8 harg8 x0 x3 x4 x5) : FVec F S64x512 .bf16) = oB x0 x1 x2 (k0_pay2 x3 x4 x5) 1 (headOf k0_pay1 1) 6 := by
  refine (show _ = outB (sq (kernelRun0_A.sl.v1581 c arg4 harg4 arg5 harg5 arg6 harg6 arg7 harg7 arg8 harg8 arg10 x1 x2 x3 x4 x5)) (cum (extractStridedSlice S64x256 ![768, 256] (gateL arg6 harg6 arg7 harg7 arg8 harg8 x3 x4 x5) slices_S1024x512_o768_256_S64x256)) (cum (extractStridedSlice S64x256 ![832, 256] (gateL arg6 harg6 arg7 harg7 arg8 harg8 x3 x4 x5) slices_S1024x512_o832_256_S64x256)) (loadQ arg3 harg3 x0 768 256 inb_S1024x512_S64x256_768_256) (loadQ arg3 harg3 x0 832 256 inb_S1024x512_S64x256_832_256) (loadQ arg4 harg4 x1 768 256 inb_S1024x512_S64x256_768_256) (loadQ arg4 harg4 x1 832 256 inb_S1024x512_S64x256_832_256) (loadV arg5 harg5 x2 768 512 inb_S1024x1024_S64x512_768_512) (loadV arg5 harg5 x2 832 512 inb_S1024x1024_S64x512_832_512) from rfl).trans ?_
  rw [v13 c arg3 harg3 arg4 harg4 arg5 harg5 arg6 harg6 arg7 harg7 arg8 harg8 arg10 harg10 x0 x1 x2 x3 x4 x5]
  simp only [readQ, readV, gateL_eq, slice_cut]
  rfl

/-- The state pair 7 of head 0 starts from. -/
theorem v14 : sq (kernelRun0_A.sl.v1700 c arg4 harg4 arg5 harg5 arg6 harg6 arg7 harg7 arg8 harg8 arg10 x1 x2 x3 x4 x5) = stt x1 x2 (k0_pay2 x3 x4 x5) 0 (headOf k0_pay1 0) 7 :=
  (congrArg sq (((View.readCov_skip _ _ _ _ _ (by decide +kernel)).trans (View.readCov_cons_toLoadRect _ _ _ _)).trans (s12 c arg3 harg3 arg4 harg4 arg5 harg5 arg6 harg6 arg7 harg7 arg8 harg8 arg10 harg10 x0 x1 x2 x3 x4 x5))).trans (squeeze_unsqueeze _)

/-- The state pair 7 of head 0 leaves. -/
theorem s14 : (k0_pay364 (kernelRun0_A.sl.r_271 c arg4 harg4 arg5 harg5 arg6 harg6 arg7 harg7 arg8 harg8 arg10 x1 x2 x3 x4 x5) (kernelRun0_A.sl.r_272 c arg4 harg4 arg6 harg6 arg7 harg7 arg8 harg8 x1 x3 x4 x5) (kernelRun0_A.sl.r_273 c arg5 harg5 x2) kernelRun0_A.sl.cst_528 : FVec F S1x256x512 .f32) = usq (stt x1 x2 (k0_pay2 x3 x4 x5) 0 (headOf k0_pay1 0) 8) := by
  refine (show _ = usq (next (sq (kernelRun0_A.sl.v1700 c arg4 harg4 arg5 harg5 arg6 harg6 arg7 harg7 arg8 harg8 arg10 x1 x2 x3 x4 x5)) (cum (extractStridedSlice S64x256 ![896, 0] (gateL arg6 harg6 arg7 harg7 arg8 harg8 x3 x4 x5) slices_S1024x512_o896_0_S64x256)) (cum (extractStridedSlice S64x256 ![960, 0] (gateL arg6 harg6 arg7 harg7 arg8 harg8 x3 x4 x5) slices_S1024x512_o960_0_S64x256)) (loadQ arg4 harg4 x1 896 0 inb_S1024x512_S64x256_896_0) (loadQ arg4 harg4 x1 960 0 inb_S1024x512_S64x256_960_0) (loadV arg5 harg5 x2 896 0 inb_S1024x1024_S64x512_896_0) (loadV arg5 harg5 x2 960 0 inb_S1024x1024_S64x512_960_0)) from rfl).trans ?_
  rw [v14 c arg3 harg3 arg4 harg4 arg5 harg5 arg6 harg6 arg7 harg7 arg8 harg8 arg10 harg10 x0 x1 x2 x3 x4 x5]
  simp only [readQ, readV, gateL_eq, slice_cut]
  rfl

/-- What pair 7 of head 0 stores for its first chunk. -/
theorem a14 : (k0_pay365 (kernelRun0_A.sl.r_260 c arg3 harg3 arg4 harg4 arg5 harg5 arg6 harg6 arg7 harg7 arg8 harg8 x0 x1 x2 x3 x4 x5) (kernelRun0_A.sl.r_270 c arg3 harg3 arg4 harg4 arg5 harg5 arg6 harg6 arg7 harg7 arg8 harg8 arg10 x0 x1 x2 x3 x4 x5) : FVec F S64x512 .bf16) = oA x0 x1 x2 (k0_pay2 x3 x4 x5) 0 (headOf k0_pay1 0) 7 := by
  refine (show _ = outA (sq (kernelRun0_A.sl.v1700 c arg4 harg4 arg5 harg5 arg6 harg6 arg7 harg7 arg8 harg8 arg10 x1 x2 x3 x4 x5)) (cum (extractStridedSlice S64x256 ![896, 0] (gateL arg6 harg6 arg7 harg7 arg8 harg8 x3 x4 x5) slices_S1024x512_o896_0_S64x256)) (cum (extractStridedSlice S64x256 ![960, 0] (gateL arg6 harg6 arg7 harg7 arg8 harg8 x3 x4 x5) slices_S1024x512_o960_0_S64x256)) (loadQ arg3 harg3 x0 896 0 inb_S1024x512_S64x256_896_0) (loadQ arg3 harg3 x0 960 0 inb_S1024x512_S64x256_960_0) (loadQ arg4 harg4 x1 896 0 inb_S1024x512_S64x256_896_0) (loadV arg5 harg5 x2 896 0 inb_S1024x1024_S64x512_896_0) from rfl).trans ?_
  rw [v14 c arg3 harg3 arg4 harg4 arg5 harg5 arg6 harg6 arg7 harg7 arg8 harg8 arg10 harg10 x0 x1 x2 x3 x4 x5]
  simp only [readQ, readV, gateL_eq, slice_cut]
  rfl

/-- What pair 7 of head 0 stores for its second chunk. -/
theorem b14 : (k0_pay366 (kernelRun0_A.sl.r_269 c arg3 harg3 arg4 harg4 arg5 harg5 arg6 harg6 arg7 harg7 arg8 harg8 x0 x1 x2 x3 x4 x5) (kernelRun0_A.sl.r_270 c arg3 harg3 arg4 harg4 arg5 harg5 arg6 harg6 arg7 harg7 arg8 harg8 arg10 x0 x1 x2 x3 x4 x5) : FVec F S64x512 .bf16) = oB x0 x1 x2 (k0_pay2 x3 x4 x5) 0 (headOf k0_pay1 0) 7 := by
  refine (show _ = outB (sq (kernelRun0_A.sl.v1700 c arg4 harg4 arg5 harg5 arg6 harg6 arg7 harg7 arg8 harg8 arg10 x1 x2 x3 x4 x5)) (cum (extractStridedSlice S64x256 ![896, 0] (gateL arg6 harg6 arg7 harg7 arg8 harg8 x3 x4 x5) slices_S1024x512_o896_0_S64x256)) (cum (extractStridedSlice S64x256 ![960, 0] (gateL arg6 harg6 arg7 harg7 arg8 harg8 x3 x4 x5) slices_S1024x512_o960_0_S64x256)) (loadQ arg3 harg3 x0 896 0 inb_S1024x512_S64x256_896_0) (loadQ arg3 harg3 x0 960 0 inb_S1024x512_S64x256_960_0) (loadQ arg4 harg4 x1 896 0 inb_S1024x512_S64x256_896_0) (loadQ arg4 harg4 x1 960 0 inb_S1024x512_S64x256_960_0) (loadV arg5 harg5 x2 896 0 inb_S1024x1024_S64x512_896_0) (loadV arg5 harg5 x2 960 0 inb_S1024x1024_S64x512_960_0) from rfl).trans ?_
  rw [v14 c arg3 harg3 arg4 harg4 arg5 harg5 arg6 harg6 arg7 harg7 arg8 harg8 arg10 harg10 x0 x1 x2 x3 x4 x5]
  simp only [readQ, readV, gateL_eq, slice_cut]
  rfl

/-- The state pair 7 of head 1 starts from. -/
theorem v15 : sq (kernelRun0_A.sl.v1819 c arg4 harg4 arg5 harg5 arg6 harg6 arg7 harg7 arg8 harg8 arg10 x1 x2 x3 x4 x5) = stt x1 x2 (k0_pay2 x3 x4 x5) 1 (headOf k0_pay1 1) 7 :=
  (congrArg sq (((View.readCov_skip _ _ _ _ _ (by decide +kernel)).trans (View.readCov_cons_toLoadRect _ _ _ _)).trans (s13 c arg3 harg3 arg4 harg4 arg5 harg5 arg6 harg6 arg7 harg7 arg8 harg8 arg10 harg10 x0 x1 x2 x3 x4 x5))).trans (squeeze_unsqueeze _)

/-- The state pair 7 of head 1 leaves. -/
theorem s15 : (k0_pay387 (kernelRun0_A.sl.r_274 c arg4 harg4 arg5 harg5 arg6 harg6 arg7 harg7 arg8 harg8 arg10 x1 x2 x3 x4 x5) (kernelRun0_A.sl.r_276 c arg6 harg6 arg7 harg7 arg8 harg8 x3 x4 x5) (kernelRun0_A.sl.r_279 c arg5 harg5 x2) (kernelRun0_A.sl.r_284 c arg4 harg4 arg6 harg6 arg7 harg7 arg8 harg8 x1 x3 x4 x5) (kernelRun0_A.sl.r_286 c arg6 harg6 arg7 harg7 arg8 harg8 x3 x4 x5) (kernelRun0_A.sl.r_287 c arg6 harg6 arg7 harg7 arg8 harg8 x3 x4 x5) (kernelRun0_A.sl.r_289 c arg4 harg4 x1) (kernelRun0_A.sl.r_290 c arg5 harg5 x2) : FVec F S1x256x512 .f32) = usq (stt x1 x2 (k0_pay2 x3 x4 x5) 1 (headOf k0_pay1 1) 8) := by
  refine (show _ = usq (next (sq (kernelRun0_A.sl.v1819 c arg4 harg4 arg5 harg5 arg6 harg6 arg7 harg7 arg8 harg8 arg10 x1 x2 x3 x4 x5)) (cum (extractStridedSlice S64x256 ![896, 256] (gateL arg6 harg6 arg7 harg7 arg8 harg8 x3 x4 x5) slices_S1024x512_o896_256_S64x256)) (cum (extractStridedSlice S64x256 ![960, 256] (gateL arg6 harg6 arg7 harg7 arg8 harg8 x3 x4 x5) slices_S1024x512_o960_256_S64x256)) (loadQ arg4 harg4 x1 896 256 inb_S1024x512_S64x256_896_256) (loadQ arg4 harg4 x1 960 256 inb_S1024x512_S64x256_960_256) (loadV arg5 harg5 x2 896 512 inb_S1024x1024_S64x512_896_512) (loadV arg5 harg5 x2 960 512 inb_S1024x1024_S64x512_960_512)) from rfl).trans ?_
  rw [v15 c arg3 harg3 arg4 harg4 arg5 harg5 arg6 harg6 arg7 harg7 arg8 harg8 arg10 harg10 x0 x1 x2 x3 x4 x5]
  simp only [readQ, readV, gateL_eq, slice_cut]
  rfl

/-- What pair 7 of head 1 stores for its first chunk. -/
theorem a15 : (k0_pay388 (kernelRun0_A.sl.r_274 c arg4 harg4 arg5 harg5 arg6 harg6 arg7 harg7 arg8 harg8 arg10 x1 x2 x3 x4 x5) (kernelRun0_A.sl.r_276 c arg6 harg6 arg7 harg7 arg8 harg8 x3 x4 x5) (kernelRun0_A.sl.r_282 c arg3 harg3 arg4 harg4 arg5 harg5 arg6 harg6 arg7 harg7 arg8 harg8 x0 x1 x2 x3 x4 x5) (kernelRun0_A.sl.r_283 c arg3 harg3 arg6 harg6 arg7 harg7 arg8 harg8 x0 x3 x4 x5) (kernelRun0_A.sl.r_288 c arg3 harg3 x0) (kernelRun0_A.sl.r_292 c arg6 harg6 arg7 harg7 arg8 harg8 x3 x4 x5) : FVec F S64x512 .bf16) = oA x0 x1 x2 (k0_pay2 x3 x4 x5) 1 (headOf k0_pay1 1) 7 := by
  refine (show _ = outA (sq (kernelRun0_A.sl.v1819 c arg4 harg4 arg5 harg5 arg6 harg6 arg7 harg7 arg8 harg8 arg10 x1 x2 x3 x4 x5)) (cum (extractStridedSlice S64x256 ![896, 256] (gateL arg6 harg6 arg7 harg7 arg8 harg8 x3 x4 x5) slices_S1024x512_o896_256_S64x256)) (cum (extractStridedSlice S64x256 ![960, 256] (gateL arg6 harg6 arg7 harg7 arg8 harg8 x3 x4 x5) slices_S1024x512_o960_256_S64x256)) (loadQ arg3 harg3 x0 896 256 inb_S1024x512_S64x256_896_256) (loadQ arg3 harg3 x0 960 256 inb_S1024x512_S64x256_960_256) (loadQ arg4 harg4 x1 896 256 inb_S1024x512_S64x256_896_256) (loadV arg5 harg5 x2 896 512 inb_S1024x1024_S64x512_896_512) from rfl).trans ?_
  rw [v15 c arg3 harg3 arg4 harg4 arg5 harg5 arg6 harg6 arg7 harg7 arg8 harg8 arg10 harg10 x0 x1 x2 x3 x4 x5]
  simp only [readQ, readV, gateL_eq, slice_cut]
  rfl

/-- What pair 7 of head 1 stores for its second chunk. -/
theorem b15 : (kernelRun0_A.sl.r_293 c arg3 harg3 arg4 harg4 arg5 harg5 arg6 harg6 arg7 harg7 arg8 harg8 arg10 x0 x1 x2 x3 x4 x5 : FVec F S64x512 .bf16) = oB x0 x1 x2 (k0_pay2 x3 x4 x5) 1 (headOf k0_pay1 1) 7 := by
  refine (show _ = outB (sq (kernelRun0_A.sl.v1819 c arg4 harg4 arg5 harg5 arg6 harg6 arg7 harg7 arg8 harg8 arg10 x1 x2 x3 x4 x5)) (cum (extractStridedSlice S64x256 ![896, 256] (gateL arg6 harg6 arg7 harg7 arg8 harg8 x3 x4 x5) slices_S1024x512_o896_256_S64x256)) (cum (extractStridedSlice S64x256 ![960, 256] (gateL arg6 harg6 arg7 harg7 arg8 harg8 x3 x4 x5) slices_S1024x512_o960_256_S64x256)) (loadQ arg3 harg3 x0 896 256 inb_S1024x512_S64x256_896_256) (loadQ arg3 harg3 x0 960 256 inb_S1024x512_S64x256_960_256) (loadQ arg4 harg4 x1 896 256 inb_S1024x512_S64x256_896_256) (loadQ arg4 harg4 x1 960 256 inb_S1024x512_S64x256_960_256) (loadV arg5 harg5 x2 896 512 inb_S1024x1024_S64x512_896_512) (loadV arg5 harg5 x2 960 512 inb_S1024x1024_S64x512_960_512) from rfl).trans ?_
  rw [v15 c arg3 harg3 arg4 harg4 arg5 harg5 arg6 harg6 arg7 harg7 arg8 harg8 arg10 harg10 x0 x1 x2 x3 x4 x5]
  simp only [readQ, readV, gateL_eq, slice_cut]
  rfl

end Cert.KernelIdeal.Gla.CaseA

end
-- ==== Proof.Gla.CaseB.lean ====
/- Case B of the kernel's body: every value it stores is the pair step of the head it belongs to. -/
module

public import proofs.«01_k».proof.Proof.Gla.Cut

@[expose] public section

set_option maxRecDepth 16384

noncomputable section

namespace Cert.KernelIdeal.Gla.CaseB

open Cert.KernelIdeal Cert.KernelIdeal.Gen Idealize.ShloMosaic Idealize.ShloMosaic.TcCoe Idealize.SL.Sem

variable {F : FTy → Type} [FloatOps F] [Named F]
variable (c : Dev nD) (arg3 : Memref sig .tc .vmem S1024x512 .bf16) (harg3 : arg3.IsWhole) (arg4 : Memref sig .tc .vmem S1024x512 .bf16) (harg4 : arg4.IsWhole) (arg5 : Memref sig .tc .vmem S1024x1024 .bf16) (harg5 : arg5.IsWhole) (arg6 : Memref sig .tc .vmem S1024x128 .bf16) (harg6 : arg6.IsWhole) (arg7 : Memref sig .tc .vmem S128x512 .bf16) (harg7 : arg7.IsWhole) (arg8 : Memref sig .tc .vmem S1x512 .f32) (harg8 : arg8.IsWhole) (arg10 : Memref sig .tc .vmem S2x256x512 .f32) (harg10 : arg10.IsWhole)
variable (x0 : Vec F S1024x512 .bf16) (x1 : Vec F S1024x512 .bf16) (x2 : Vec F S1024x1024 .bf16) (x3 : Vec F S1024x128 .bf16) (x4 : Vec F S128x512 .bf16) (x5 : Vec F S1x512 .f32) (xs0 : Vec F S2x256x512 .f32)

include c arg3 harg3 arg4 harg4 arg5 harg5 arg6 harg6 arg7 harg7 arg8 harg8 arg10 harg10 x0 x1 x2 x3 x4 x5 xs0

/-- The state pair 0 of head 0 starts from. -/
theorem v0 : sq (loadS arg10 harg10 xs0 0 inb_S2x256x512_S1x256x512_0_0_0) = stt x1 x2 (k0_pay2 x3 x4 x5) 0 (headOf xs0 0) 0 :=
  readS _ _ _ _ _

/-- The state pair 0 of head 0 leaves. -/
theorem s0 : (k0_pay28 (kernelRun0_B.sl.r_1 c arg10 harg10 xs0) (kernelRun0_B.sl.r_5 c arg5 harg5 x2) (kernelRun0_B.sl.r_14 c arg5 harg5 x2) (kernelRun0_B.sl.r_15 c arg4 harg4 arg6 harg6 arg7 harg7 arg8 harg8 x1 x3 x4 x5) (kernelRun0_B.sl.r_16 c arg4 harg4 arg6 harg6 arg7 harg7 arg8 harg8 x1 x3 x4 x5) (kernelRun0_B.sl.r_19 c arg6 harg6 arg7 harg7 arg8 harg8 x3 x4 x5) : FVec F S1x256x512 .f32) = usq (stt x1 x2 (k0_pay2 x3 x4 x5) 0 (headOf xs0 0) 1) := by
  refine (show _ = usq (next (sq (loadS arg10 harg10 xs0 0 inb_S2x256x512_S1x256x512_0_0_0)) (cum (extractStridedSlice S64x256 ![0, 0] (gateL arg6 harg6 arg7 harg7 arg8 harg8 x3 x4 x5) slices_S1024x512_o0_0_S64x256)) (cum (extractStridedSlice S64x256 ![64, 0] (gateL arg6 harg6 arg7 harg7 arg8 harg8 x3 x4 x5) slices_S1024x512_o64_0_S64x256)) (loadQ arg4 harg4 x1 0 0 inb_S1024x512_S64x256_0_0) (loadQ arg4 harg4 x1 64 0 inb_S1024x512_S64x256_64_0) (loadV arg5 harg5 x2 0 0 inb_S1024x1024_S64x512_0_0) (loadV arg5 harg5 x2 64 0 inb_S1024x1024_S64x512_64_0)) from rfl).trans ?_
  rw [v0 c arg3 harg3 arg4 harg4 arg5 harg5 arg6 harg6 arg7 harg7 arg8 harg8 arg10 harg10 x0 x1 x2 x3 x4 x5 xs0]
  simp only [readQ, readV, gateL_eq, slice_cut]
  rfl

/-- What pair 0 of head 0 stores for its first chunk. -/
theorem a0 : (k0_pay29 (kernelRun0_B.sl.r_6 c arg3 harg3 arg4 harg4 arg5 harg5 arg6 harg6 arg7 harg7 arg8 harg8 x0 x1 x2 x3 x4 x5) (kernelRun0_B.sl.r_18 c arg3 harg3 arg6 harg6 arg7 harg7 arg8 harg8 arg10 harg10 x0 x3 x4 x5 xs0) : FVec F S64x512 .bf16) = oA x0 x1 x2 (k0_pay2 x3 x4 x5) 0 (headOf xs0 0) 0 := by
  refine (show _ = outA (sq (loadS arg10 harg10 xs0 0 inb_S2x256x512_S1x256x512_0_0_0)) (cum (extractStridedSlice S64x256 ![0, 0] (gateL arg6 harg6 arg7 harg7 arg8 harg8 x3 x4 x5) slices_S1024x512_o0_0_S64x256)) (cum (extractStridedSlice S64x256 ![64, 0] (gateL arg6 harg6 arg7 harg7 arg8 harg8 x3 x4 x5) slices_S1024x512_o64_0_S64x256)) (loadQ arg3 harg3 x0 0 0 inb_S1024x512_S64x256_0_0) (loadQ arg3 harg3 x0 64 0 inb_S1024x512_S64x256_64_0) (loadQ arg4 harg4 x1 0 0 inb_S1024x512_S64x256_0_0) (loadV arg5 harg5 x2 0 0 inb_S1024x1024_S64x512_0_0) from rfl).trans ?_
  rw [v0 c arg3 harg3 arg4 harg4 arg5 harg5 arg6 harg6 arg7 harg7 arg8 harg8 arg10 harg10 x0 x1 x2 x3 x4 x5 xs0]
  simp only [readQ, readV, gateL_eq, slice_cut]
  rfl

/-- What pair 0 of head 0 stores for its second chunk. -/
theorem b0 : (k0_pay30 (kernelRun0_B.sl.r_17 c arg3 harg3 arg4 harg4 arg5 harg5 arg6 harg6 arg7 harg7 arg8 harg8 x0 x1 x2 x3 x4 x5) (kernelRun0_B.sl.r_18 c arg3 harg3 arg6 harg6 arg7 harg7 arg8 harg8 arg10 harg10 x0 x3 x4 x5 xs0) : FVec F S64x512 .bf16) = oB x0 x1 x2 (k0_pay2 x3 x4 x5) 0 (headOf xs0 0) 0 := by
  refine (show _ = outB (sq (loadS arg10 harg10 xs0 0 inb_S2x256x512_S1x256x512_0_0_0)) (cum (extractStridedSlice S64x256 ![0, 0] (gateL arg6 harg6 arg7 harg7 arg8 harg8 x3 x4 x5) slices_S1024x512_o0_0_S64x256)) (cum (extractStridedSlice S64x256 ![64, 0] (gateL arg6 harg6 arg7 harg7 arg8 harg8 x3 x4 x5) slices_S1024x512_o64_0_S64x256)) (loadQ arg3 harg3 x0 0 0 inb_S1024x512_S64x256_0_0) (loadQ arg3 harg3 x0 64 0 inb_S1024x512_S64x256_64_0) (loadQ arg4 harg4 x1 0 0 inb_S1024x512_S64x256_0_0) (loadQ arg4 harg4 x1 64 0 inb_S1024x512_S64x256_64_0) (loadV arg5 harg5 x2 0 0 inb_S1024x1024_S64x512_0_0) (loadV arg5 harg5 x2 64 0 inb_S1024x1024_S64x512_64_0) from rfl).trans ?_
  rw [v0 c arg3 harg3 arg4 harg4 arg5 harg5 arg6 harg6 arg7 harg7 arg8 harg8 arg10 harg10 x0 x1 x2 x3 x4 x5 xs0]
  simp only [readQ, readV, gateL_eq, slice_cut]
  rfl

/-- The state pair 0 of head 1 starts from. -/
theorem v1 : sq (kernelRun0_B.sl.v153 c arg10 harg10 xs0) = stt x1 x2 (k0_pay2 x3 x4 x5) 1 (headOf xs0 1) 0 :=
  (congrArg sq (show (kernelRun0_B.sl.v153 c arg10 harg10 xs0) = loadS arg10 harg10 xs0 1 inb_S2x256x512_S1x256x512_1_0_0 from rfl)).trans (readS _ _ _ _ _)

/-- The state pair 0 of head 1 leaves. -/
theorem s1 : (k0_pay51 (kernelRun0_B.sl.r_20 c arg10 harg10 xs0) (kernelRun0_B.sl.r_23 c arg6 harg6 arg7 harg7 arg8 harg8 x3 x4 x5) (kernelRun0_B.sl.r_26 c arg5 harg5 x2) (kernelRun0_B.sl.r_29 c arg4 harg4 arg6 harg6 arg7 harg7 arg8 harg8 x1 x3 x4 x5) (kernelRun0_B.sl.r_31 c arg6 harg6 arg7 harg7 arg8 harg8 x3 x4 x5) (kernelRun0_B.sl.r_32 c arg6 harg6 arg7 harg7 arg8 harg8 x3 x4 x5) (kernelRun0_B.sl.r_34 c arg4 harg4 x1) (kernelRun0_B.sl.r_35 c arg5 harg5 x2) : FVec F S1x256x512 .f32) = usq (stt x1 x2 (k0_pay2 x3 x4 x5) 1 (headOf xs0 1) 1) := by
  refine (show _ = usq (next (sq (kernelRun0_B.sl.v153 c arg10 harg10 xs0)) (cum (extractStridedSlice S64x256 ![0, 256] (gateL arg6 harg6 arg7 harg7 arg8 harg8 x3 x4 x5) slices_S1024x512_o0_256_S64x256)) (cum (extractStridedSlice S64x256 ![64, 256] (gateL arg6 harg6 arg7 harg7 arg8 harg8 x3 x4 x5) slices_S1024x512_o64_256_S64x256)) (loadQ arg4 harg4 x1 0 256 inb_S1024x512_S64x256_0_256) (loadQ arg4 harg4 x1 64 256 inb_S1024x512_S64x256_64_256) (loadV arg5 harg5 x2 0 512 inb_S1024x1024_S64x512_0_512) (loadV arg5 harg5 x2 64 512 inb_S1024x1024_S64x512_64_512)) from rfl).trans ?_
  rw [v1 c arg3 harg3 arg4 harg4 arg5 harg5 arg6 harg6 arg7 harg7 arg8 harg8 arg10 harg10 x0 x1 x2 x3 x4 x5 xs0]
  simp only [readQ, readV, gateL_eq, slice_cut]
  rfl

/-- What pair 0 of head 1 stores for its first chunk. -/
theorem a1 : (kernelRun0_B.sl.r_40 c arg3 harg3 arg4 harg4 arg5 harg5 arg6 harg6 arg7 harg7 arg8 harg8 arg10 harg10 x0 x1 x2 x3 x4 x5 xs0 : FVec F S64x512 .bf16) = oA x0 x1 x2 (k0_pay2 x3 x4 x5) 1 (headOf xs0 1) 0 := by
  refine (show _ = outA (sq (kernelRun0_B.sl.v153 c arg10 harg10 xs0)) (cum (extractStridedSlice S64x256 ![0, 256] (gateL arg6 harg6 arg7 harg7 arg8 harg8 x3 x4 x5) slices_S1024x512_o0_256_S64x256)) (cum (extractStridedSlice S64x256 ![64, 256] (gateL arg6 harg6 arg7 harg7 arg8 harg8 x3 x4 x5) slices_S1024x512_o64_256_S64x256)) (loadQ arg3 harg3 x0 0 256 inb_S1024x512_S64x256_0_256) (loadQ arg3 harg3 x0 64 256 inb_S1024x512_S64x256_64_256) (loadQ arg4 harg4 x1 0 256 inb_S1024x512_S64x256_0_256) (loadV arg5 harg5 x2 0 512 inb_S1024x1024_S64x512_0_512) from rfl).trans ?_
  rw [v1 c arg3 harg3 arg4 harg4 arg5 harg5 arg6 harg6 arg7 harg7 arg8 harg8 arg10 harg10 x0 x1 x2 x3 x4 x5 xs0]
  simp only [readQ, readV, gateL_eq, slice_cut]
  rfl

/-- What pair 0 of head 1 stores for its second chunk. -/
theorem b1 : (k0_pay53 (kernelRun0_B.sl.r_38 c arg3 harg3 arg4 harg4 arg5 harg5 arg6 harg6 arg7 harg7 arg8 harg8 x0 x1 x2 x3 x4 x5) (kernelRun0_B.sl.r_39 c arg3 harg3 arg6 harg6 arg7 harg7 arg8 harg8 arg10 harg10 x0 x3 x4 x5 xs0) : FVec F S64x512 .bf16) = oB x0 x1 x2 (k0_pay2 x3 x4 x5) 1 (headOf xs0 1) 0 := by
  refine (show _ = outB (sq (kernelRun0_B.sl.v153 c arg10 harg10 xs0)) (cum (extractStridedSlice S64x256 ![0, 256] (gateL arg6 harg6 arg7 harg7 arg8 harg8 x3 x4 x5) slices_S1024x512_o0_256_S64x256)) (cum (extractStridedSlice S64x256 ![64, 256] (gateL arg6 harg6 arg7 harg7 arg8 harg8 x3 x4 x5) slices_S1024x512_o64_256_S64x256)) (loadQ arg3 harg3 x0 0 256 inb_S1024x512_S64x256_0_256) (loadQ arg3 harg3 x0 64 256 inb_S1024x512_S64x256_64_256) (loadQ arg4 harg4 x1 0 256 inb_S1024x512_S64x256_0_256) (loadQ arg4 harg4 x1 64 256 inb_S1024x512_S64x256_64_256) (loadV arg5 harg5 x2 0 512 inb_S1024x1024_S64x512_0_512) (loadV arg5 harg5 x2 64 512 inb_S1024x1024_S64x512_64_512) from rfl).trans ?_
  rw [v1 c arg3 harg3 arg4 harg4 arg5 harg5 arg6 harg6 arg7 harg7 arg8 harg8 arg10 harg10 x0 x1 x2 x3 x4 x5 xs0]
  simp only [readQ, readV, gateL_eq, slice_cut]
  rfl

/-- The state pair 1 of head 0 starts from. -/
theorem v2 : sq (kernelRun0_B.sl.v272 c arg4 harg4 arg5 harg5 arg6 harg6 arg7 harg7 arg8 harg8 arg10 harg10 x1 x2 x3 x4 x5 xs0) = stt x1 x2 (k0_pay2 x3 x4 x5) 0 (headOf xs0 0) 1 :=
  (congrArg sq (((View.readCov_skip _ _ _ _ _ (by decide +kernel)).trans (View.readCov_cons_toLoadRect _ _ _ _)).trans (s0 c arg3 harg3 arg4 harg4 arg5 harg5 arg6 harg6 arg7 harg7 arg8 harg8 arg10 harg10 x0 x1 x2 x3 x4 x5 xs0))).trans (squeeze_unsqueeze _)

/-- The state pair 1 of head 0 leaves. -/
theorem s2 : (k0_pay76 (kernelRun0_B.sl.r_41 c arg4 harg4 arg5 harg5 arg6 harg6 arg7 harg7 arg8 harg8 arg10 harg10 x1 x2 x3 x4 x5 xs0) (kernelRun0_B.sl.r_44 c arg5 harg5 x2) (kernelRun0_B.sl.r_49 c arg5 harg5 x2) (kernelRun0_B.sl.r_52 c arg4 harg4 arg6 harg6 arg7 harg7 arg8 harg8 x1 x3 x4 x5) (kernelRun0_B.sl.r_53 c arg6 harg6 arg7 harg7 arg8 harg8 x3 x4 x5) (kernelRun0_B.sl.r_55 c arg4 harg4 arg6 harg6 arg7 harg7 arg8 harg8 x1 x3 x4 x5) : FVec F S1x256x512 .f32) = usq (stt x1 x2 (k0_pay2 x3 x4 x5) 0 (headOf xs0 0) 2) := by
  refine (show _ = usq (next (sq (kernelRun0_B.sl.v272 c arg4 harg4 arg5 harg5 arg6 harg6 arg7 harg7 arg8 harg8 arg10 harg10 x1 x2 x3 x4 x5 xs0)) (cum (extractStridedSlice S64x256 ![128, 0] (gateL arg6 harg6 arg7 harg7 arg8 harg8 x3 x4 x5) slices_S1024x512_o128_0_S64x256)) (cum (extractStridedSlice S64x256 ![192, 0] (gateL arg6 harg6 arg7 harg7 arg8 harg8 x3 x4 x5) slices_S1024x512_o192_0_S64x256)) (loadQ arg4 harg4 x1 128 0 inb_S1024x512_S64x256_128_0) (loadQ arg4 harg4 x1 192 0 inb_S1024x512_S64x256_192_0) (loadV arg5 harg5 x2 128 0 inb_S1024x1024_S64x512_128_0) (loadV arg5 harg5 x2 192 0 inb_S1024x1024_S64x512_192_0)) from rfl).trans ?_
  rw [v2 c arg3 harg3 arg4 harg4 arg5 harg5 arg6 harg6 arg7 harg7 arg8 harg8 arg10 harg10 x0 x1 x2 x3 x4 x5 xs0]
  simp only [readQ, readV, gateL_eq, slice_cut]
  rfl

/-- What pair 1 of head 0 stores for its first chunk. -/
theorem a2 : (k0_pay77 (kernelRun0_B.sl.r_41 c arg4 harg4 arg5 harg5 arg6 harg6 arg7 harg7 arg8 harg8 arg10 harg10 x1 x2 x3 x4 x5 xs0) (kernelRun0_B.sl.r_45 c arg3 harg3 arg4 harg4 arg5 harg5 arg6 harg6 arg7 harg7 arg8 harg8 x0 x1 x2 x3 x4 x5) (kernelRun0_B.sl.r_51 c arg3 harg3 arg6 harg6 arg7 harg7 arg8 harg8 x0 x3 x4 x5) (kernelRun0_B.sl.r_54 c arg3 harg3 arg6 harg6 arg7 harg7 arg8 harg8 x0 x3 x4 x5) (kernelRun0_B.sl.r_56 c arg6 harg6 arg7 harg7 arg8 harg8 x3 x4 x5) : FVec F S64x512 .bf16) = oA x0 x1 x2 (k0_pay2 x3 x4 x5) 0 (headOf xs0 0) 1 := by
  refine (show _ = outA (sq (kernelRun0_B.sl.v272 c arg4 harg4 arg5 harg5 arg6 harg6 arg7 harg7 arg8 harg8 arg10 harg10 x1 x2 x3 x4 x5 xs0)) (cum (extractStridedSlice S64x256 ![128, 0] (gateL arg6 harg6 arg7 harg7 arg8 harg8 x3 x4 x5) slices_S1024x512_o128_0_S64x256)) (cum (extractStridedSlice S64x256 ![192, 0] (gateL arg6 harg6 arg7 harg7 arg8 harg8 x3 x4 x5) slices_S1024x512_o192_0_S64x256)) (loadQ arg3 harg3 x0 128 0 inb_S1024x512_S64x256_128_0) (loadQ arg3 harg3 x0 192 0 inb_S1024x512_S64x256_192_0) (loadQ arg4 harg4 x1 128 0 inb_S1024x512_S64x256_128_0) (loadV arg5 harg5 x2 128 0 inb_S1024x1024_S64x512_128_0) from rfl).trans ?_
  rw [v2 c arg3 harg3 arg4 harg4 arg5 harg5 arg6 harg6 arg7 harg7 arg8 harg8 arg10 harg10 x0 x1 x2 x3 x4 x5 xs0]
  simp only [readQ, readV, gateL_eq, slice_cut]
  rfl

/-- What pair 1 of head 0 stores for its second chunk. -/
theorem b2 : (k0_pay78 (kernelRun0_B.sl.r_41 c arg4 harg4 arg5 harg5 arg6 harg6 arg7 harg7 arg8 harg8 arg10 harg10 x1 x2 x3 x4 x5 xs0) (kernelRun0_B.sl.r_44 c arg5 harg5 x2) (kernelRun0_B.sl.r_48 c arg4 harg4 arg6 harg6 arg7 harg7 arg8 harg8 x1 x3 x4 x5) (kernelRun0_B.sl.r_50 c arg3 harg3 arg4 harg4 arg5 harg5 arg6 harg6 arg7 harg7 arg8 harg8 x0 x1 x2 x3 x4 x5) (kernelRun0_B.sl.r_51 c arg3 harg3 arg6 harg6 arg7 harg7 arg8 harg8 x0 x3 x4 x5) (kernelRun0_B.sl.r_54 c arg3 harg3 arg6 harg6 arg7 harg7 arg8 harg8 x0 x3 x4 x5) (kernelRun0_B.sl.r_56 c arg6 harg6 arg7 harg7 arg8 harg8 x3 x4 x5) : FVec F S64x512 .bf16) = oB x0 x1 x2 (k0_pay2 x3 x4 x5) 0 (headOf xs0 0) 1 := by
  refine (show _ = outB (sq (kernelRun0_B.sl.v272 c arg4 harg4 arg5 harg5 arg6 harg6 arg7 harg7 arg8 harg8 arg10 harg10 x1 x2 x3 x4 x5 xs0)) (cum (extractStridedSlice S64x256 ![128, 0] (gateL arg6 harg6 arg7 harg7 arg8 harg8 x3 x4 x5) slices_S1024x512_o128_0_S64x256)) (cum (extractStridedSlice S64x256 ![192, 0] (gateL arg6 harg6 arg7 harg7 arg8 harg8 x3 x4 x5) slices_S1024x512_o192_0_S64x256)) (loadQ arg3 harg3 x0 128 0 inb_S1024x512_S64x256_128_0) (loadQ arg3 harg3 x0 192 0 inb_S1024x512_S64x256_192_0) (loadQ arg4 harg4 x1 128 0 inb_S1024x512_S64x256_128_0) (loadQ arg4 harg4 x1 192 0 inb_S1024x512_S64x256_192_0) (loadV arg5 harg5 x2 128 0 inb_S1024x1024_S64x512_128_0) (loadV arg5 harg5 x2 192 0 inb_S1024x1024_S64x512_192_0) from rfl).trans ?_
  rw [v2 c arg3 harg3 arg4 harg4 arg5 harg5 arg6 harg6 arg7 harg7 arg8 harg8 arg10 harg10 x0 x1 x2 x3 x4 x5 xs0]
  simp only [readQ, readV, gateL_eq, slice_cut]
  rfl

/-- The state pair 1 of head 1 starts from. -/
theorem v3 : sq (kernelRun0_B.sl.v391 c arg4 harg4 arg5 harg5 arg6 harg6 arg7 harg7 arg8 harg8 arg10 harg10 x1 x2 x3 x4 x5 xs0) = stt x1 x2 (k0_pay2 x3 x4 x5) 1 (headOf xs0 1) 1 :=
  (congrArg sq (((View.readCov_skip _ _ _ _ _ (by decide +kernel)).trans (View.readCov_cons_toLoadRect _ _ _ _)).trans (s1 c arg3 harg3 arg4 harg4 arg5 harg5 arg6 harg6 arg7 harg7 arg8 harg8 arg10 harg10 x0 x1 x2 x3 x4 x5 xs0))).trans (squeeze_unsqueeze _)

/-- The state pair 1 of head 1 leaves. -/
theorem s3 : (k0_pay99 (kernelRun0_B.sl.r_60 c arg5 harg5 x2) (kernelRun0_B.sl.r_69 c arg5 harg5 x2) (kernelRun0_B.sl.r_72 c arg4 harg4 arg5 harg5 arg6 harg6 arg7 harg7 arg8 harg8 arg10 harg10 x1 x2 x3 x4 x5 xs0) (kernelRun0_B.sl.r_73 c arg4 harg4 arg6 harg6 arg7 harg7 arg8 harg8 x1 x3 x4 x5) : FVec F S1x256x512 .f32) = usq (stt x1 x2 (k0_pay2 x3 x4 x5) 1 (headOf xs0 1) 2) := by
  refine (show _ = usq (next (sq (kernelRun0_B.sl.v391 c arg4 harg4 arg5 harg5 arg6 harg6 arg7 harg7 arg8 harg8 arg10 harg10 x1 x2 x3 x4 x5 xs0)) (cum (extractStridedSlice S64x256 ![128, 256] (gateL arg6 harg6 arg7 harg7 arg8 harg8 x3 x4 x5) slices_S1024x512_o128_256_S64x256)) (cum (extractStridedSlice S64x256 ![192, 256] (gateL arg6 harg6 arg7 harg7 arg8 harg8 x3 x4 x5) slices_S1024x512_o192_256_S64x256)) (loadQ arg4 harg4 x1 128 256 inb_S1024x512_S64x256_128_256) (loadQ arg4 harg4 x1 192 256 inb_S1024x512_S64x256_192_256) (loadV arg5 harg5 x2 128 512 inb_S1024x1024_S64x512_128_512) (loadV arg5 harg5 x2 192 512 inb_S1024x1024_S64x512_192_512)) from rfl).trans ?_
  rw [v3 c arg3 harg3 arg4 harg4 arg5 harg5 arg6 harg6 arg7 harg7 arg8 harg8 arg10 harg10 x0 x1 x2 x3 x4 x5 xs0]
  simp only [readQ, readV, gateL_eq, slice_cut]
  rfl

/-- What pair 1 of head 1 stores for its first chunk. -/
theorem a3 : (k0_pay100 (kernelRun0_B.sl.r_61 c arg3 harg3 arg4 harg4 arg5 harg5 arg6 harg6 arg7 harg7 arg8 harg8 x0 x1 x2 x3 x4 x5) (kernelRun0_B.sl.r_71 c arg3 harg3 arg4 harg4 arg5 harg5 arg6 harg6 arg7 harg7 arg8 harg8 arg10 harg10 x0 x1 x2 x3 x4 x5 xs0) : FVec F S64x512 .bf16) = oA x0 x1 x2 (k0_pay2 x3 x4 x5) 1 (headOf xs0 1) 1 := by
  refine (show _ = outA (sq (kernelRun0_B.sl.v391 c arg4 harg4 arg5 harg5 arg6 harg6 arg7 harg7 arg8 harg8 arg10 harg10 x1 x2 x3 x4 x5 xs0)) (cum (extractStridedSlice S64x256 ![128, 256] (gateL arg6 harg6 arg7 harg7 arg8 harg8 x3 x4 x5) slices_S1024x512_o128_256_S64x256)) (cum (extractStridedSlice S64x256 ![192, 256] (gateL arg6 harg6 arg7 harg7 arg8 harg8 x3 x4 x5) slices_S1024x512_o192_256_S64x256)) (loadQ arg3 harg3 x0 128 256 inb_S1024x512_S64x256_128_256) (loadQ arg3 harg3 x0 192 256 inb_S1024x512_S64x256_192_256) (loadQ arg4 harg4 x1 128 256 inb_S1024x512_S64x256_128_256) (loadV arg5 harg5 x2 128 512 inb_S1024x1024_S64x512_128_512) from rfl).trans ?_
  rw [v3 c arg3 harg3 arg4 harg4 arg5 harg5 arg6 harg6 arg7 harg7 arg8 harg8 arg10 harg10 x0 x1 x2 x3 x4 x5 xs0]
  simp only [readQ, readV, gateL_eq, slice_cut]
  rfl

/-- What pair 1 of head 1 stores for its second chunk. -/
theorem b3 : (k0_pay101 (kernelRun0_B.sl.r_70 c arg3 harg3 arg4 harg4 arg5 harg5 arg6 harg6 arg7 harg7 arg8 harg8 x0 x1 x2 x3 x4 x5) (kernelRun0_B.sl.r_71 c arg3 harg3 arg4 harg4 arg5 harg5 arg6 harg6 arg7 harg7 arg8 harg8 arg10 harg10 x0 x1 x2 x3 x4 x5 xs0) : FVec F S64x512 .bf16) = oB x0 x1 x2 (k0_pay2 x3 x4 x5) 1 (headOf xs0 1) 1 := by
  refine (show _ = outB (sq (kernelRun0_B.sl.v391 c arg4 harg4 arg5 harg5 arg6 harg6 arg7 harg7 arg8 harg8 arg10 harg10 x1 x2 x3 x4 x5 xs0)) (cum (extractStridedSlice S64x256 ![128, 256] (gateL arg6 harg6 arg7 harg7 arg8 harg8 x3 x4 x5) slices_S1024x512_o128_256_S64x256)) (cum (extractStridedSlice S64x256 ![192, 256] (gateL arg6 harg6 arg7 harg7 arg8 harg8 x3 x4 x5) slices_S1024x512_o192_256_S64x256)) (loadQ arg3 harg3 x0 128 256 inb_S1024x512_S64x256_128_256) (loadQ arg3 harg3 x0 192 256 inb_S1024x512_S64x256_192_256) (loadQ arg4 harg4 x1 128 256 inb_S1024x512_S64x256_128_256) (loadQ arg4 harg4 x1 192 256 inb_S1024x512_S64x256_192_256) (loadV arg5 harg5 x2 128 512 inb_S1024x1024_S64x512_128_512) (loadV arg5 harg5 x2 192 512 inb_S1024x1024_S64x512_192_512) from rfl).trans ?_
  rw [v3 c arg3 harg3 arg4 harg4 arg5 harg5 arg6 harg6 arg7 harg7 arg8 harg8 arg10 harg10 x0 x1 x2 x3 x4 x5 xs0]
  simp only [readQ, readV, gateL_eq, slice_cut]
  rfl

/-- The state pair 2 of head 0 starts from. -/
theorem v4 : sq (kernelRun0_B.sl.v510 c arg4 harg4 arg5 harg5 arg6 harg6 arg7 harg7 arg8 harg8 arg10 harg10 x1 x2 x3 x4 x5 xs0) = stt x1 x2 (k0_pay2 x3 x4 x5) 0 (headOf xs0 0) 2 :=
  (congrArg sq (((View.readCov_skip _ _ _ _ _ (by decide +kernel)).trans (View.readCov_cons_toLoadRect _ _ _ _)).trans (s2 c arg3 harg3 arg4 harg4 arg5 harg5 arg6 harg6 arg7 harg7 arg8 harg8 arg10 harg10 x0 x1 x2 x3 x4 x5 xs0))).trans (squeeze_unsqueeze _)

/-- The state pair 2 of head 0 leaves. -/
theorem s4 : (k0_pay121 (kernelRun0_B.sl.r_74 c arg4 harg4 arg5 harg5 arg6 harg6 arg7 harg7 arg8 harg8 arg10 harg10 x1 x2 x3 x4 x5 xs0) (kernelRun0_B.sl.r_76 c arg6 harg6 arg7 harg7 arg8 harg8 x3 x4 x5) (kernelRun0_B.sl.r_79 c arg5 harg5 x2) (kernelRun0_B.sl.r_84 c arg4 harg4 arg6 harg6 arg7 harg7 arg8 harg8 x1 x3 x4 x5) (kernelRun0_B.sl.r_86 c arg6 harg6 arg7 harg7 arg8 harg8 x3 x4 x5) (kernelRun0_B.sl.r_87 c arg6 harg6 arg7 harg7 arg8 harg8 x3 x4 x5) (kernelRun0_B.sl.r_89 c arg4 harg4 x1) (kernelRun0_B.sl.r_90 c arg5 harg5 x2) : FVec F S1x256x512 .f32) = usq (stt x1 x2 (k0_pay2 x3 x4 x5) 0 (headOf xs0 0) 3) := by
  refine (show _ = usq (next (sq (kernelRun0_B.sl.v510 c arg4 harg4 arg5 harg5 arg6 harg6 arg7 harg7 arg8 harg8 arg10 harg10 x1 x2 x3 x4 x5 xs0)) (cum (extractStridedSlice S64x256 ![256, 0] (gateL arg6 harg6 arg7 harg7 arg8 harg8 x3 x4 x5) slices_S1024x512_o256_0_S64x256)) (cum (extractStridedSlice S64x256 ![320, 0] (gateL arg6 harg6 arg7 harg7 arg8 harg8 x3 x4 x5) slices_S1024x512_o320_0_S64x256)) (loadQ arg4 harg4 x1 256 0 inb_S1024x512_S64x256_256_0) (loadQ arg4 harg4 x1 320 0 inb_S1024x512_S64x256_320_0) (loadV arg5 harg5 x2 256 0 inb_S1024x1024_S64x512_256_0) (loadV arg5 harg5 x2 320 0 inb_S1024x1024_S64x512_320_0)) from rfl).trans ?_
  rw [v4 c arg3 harg3 arg4 harg4 arg5 harg5 arg6 harg6 arg7 harg7 arg8 harg8 arg10 harg10 x0 x1 x2 x3 x4 x5 xs0]
  simp only [readQ, readV, gateL_eq, slice_cut]
  rfl

/-- What pair 2 of head 0 stores for its first chunk. -/
theorem a4 : (k0_pay122 (kernelRun0_B.sl.r_74 c arg4 harg4 arg5 harg5 arg6 harg6 arg7 harg7 arg8 harg8 arg10 harg10 x1 x2 x3 x4 x5 xs0) (kernelRun0_B.sl.r_76 c arg6 harg6 arg7 harg7 arg8 harg8 x3 x4 x5) (kernelRun0_B.sl.r_82 c arg3 harg3 arg4 harg4 arg5 harg5 arg6 harg6 arg7 harg7 arg8 harg8 x0 x1 x2 x3 x4 x5) (kernelRun0_B.sl.r_83 c arg3 harg3 arg6 harg6 arg7 harg7 arg8 harg8 x0 x3 x4 x5) (kernelRun0_B.sl.r_86 c arg6 harg6 arg7 harg7 arg8 harg8 x3 x4 x5) (kernelRun0_B.sl.r_88 c arg3 harg3 x0) : FVec F S64x512 .bf16) = oA x0 x1 x2 (k0_pay2 x3 x4 x5) 0 (headOf xs0 0) 2 := by
  refine (show _ = outA (sq (kernelRun0_B.sl.v510 c arg4 harg4 arg5 harg5 arg6 harg6 arg7 harg7 arg8 harg8 arg10 harg10 x1 x2 x3 x4 x5 xs0)) (cum (extractStridedSlice S64x256 ![256, 0] (gateL arg6 harg6 arg7 harg7 arg8 harg8 x3 x4 x5) slices_S1024x512_o256_0_S64x256)) (cum (extractStridedSlice S64x256 ![320, 0] (gateL arg6 harg6 arg7 harg7 arg8 harg8 x3 x4 x5) slices_S1024x512_o320_0_S64x256)) (loadQ arg3 harg3 x0 256 0 inb_S1024x512_S64x256_256_0) (loadQ arg3 harg3 x0 320 0 inb_S1024x512_S64x256_320_0) (loadQ arg4 harg4 x1 256 0 inb_S1024x512_S64x256_256_0) (loadV arg5 harg5 x2 256 0 inb_S1024x1024_S64x512_256_0) from rfl).trans ?_
  rw [v4 c arg3 harg3 arg4 harg4 arg5 harg5 arg6 harg6 arg7 harg7 arg8 harg8 arg10 harg10 x0 x1 x2 x3 x4 x5 xs0]
  simp only [readQ, readV, gateL_eq, slice_cut]
  rfl

/-- What pair 2 of head 0 stores for its second chunk. -/
theorem b4 : (kernelRun0_B.sl.r_92 c arg3 harg3 arg4 harg4 arg5 harg5 arg6 harg6 arg7 harg7 arg8 harg8 arg10 harg10 x0 x1 x2 x3 x4 x5 xs0 : FVec F S64x512 .bf16) = oB x0 x1 x2 (k0_pay2 x3 x4 x5) 0 (headOf xs0 0) 2 := by
  refine (show _ = outB (sq (kernelRun0_B.sl.v510 c arg4 harg4 arg5 harg5 arg6 harg6 arg7 harg7 arg8 harg8 arg10 harg10 x1 x2 x3 x4 x5 xs0)) (cum (extractStridedSlice S64x256 ![256, 0] (gateL arg6 harg6 arg7 harg7 arg8 harg8 x3 x4 x5) slices_S1024x512_o256_0_S64x256)) (cum (extractStridedSlice S64x256 ![320, 0] (gateL arg6 harg6 arg7 harg7 arg8 harg8 x3 x4 x5) slices_S1024x512_o320_0_S64x256)) (loadQ arg3 harg3 x0 256 0 inb_S1024x512_S64x256_256_0) (loadQ arg3 harg3 x0 320 0 inb_S1024x512_S64x256_320_0) (loadQ arg4 harg4 x1 256 0 inb_S1024x512_S64x256_256_0) (loadQ arg4 harg4 x1 320 0 inb_S1024x512_S64x256_320_0) (loadV arg5 harg5 x2 256 0 inb_S1024x1024_S64x512_256_0) (loadV arg5 harg5 x2 320 0 inb_S1024x1024_S64x512_320_0) from rfl).trans ?_
  rw [v4 c arg3 harg3 arg4 harg4 arg5 harg5 arg6 harg6 arg7 harg7 arg8 harg8 arg10 harg10 x0 x1 x2 x3 x4 x5 xs0]
  simp only [readQ, readV, gateL_eq, slice_cut]
  rfl

/-- The state pair 2 of head 1 starts from. -/
theorem v5 : sq (kernelRun0_B.sl.v629 c arg4 harg4 arg5 harg5 arg6 harg6 arg7 harg7 arg8 harg8 arg10 harg10 x1 x2 x3 x4 x5 xs0) = stt x1 x2 (k0_pay2 x3 x4 x5) 1 (headOf xs0 1) 2 :=
  (congrArg sq (((View.readCov_skip _ _ _ _ _ (by decide +kernel)).trans (View.readCov_cons_toLoadRect _ _ _ _)).trans (s3 c arg3 harg3 arg4 harg4 arg5 harg5 arg6 harg6 arg7 harg7 arg8 harg8 arg10 harg10 x0 x1 x2 x3 x4 x5 xs0))).trans (squeeze_unsqueeze _)

/-- The state pair 2 of head 1 leaves. -/
theorem s5 : (k0_pay149 (kernelRun0_B.sl.r_93 c arg4 harg4 arg5 harg5 arg6 harg6 arg7 harg7 arg8 harg8 arg10 harg10 x1 x2 x3 x4 x5 xs0) (kernelRun0_B.sl.r_95 c arg5 harg5 x2) (kernelRun0_B.sl.r_103 c arg5 harg5 x2) (kernelRun0_B.sl.r_105 c arg4 harg4 arg6 harg6 arg7 harg7 arg8 harg8 x1 x3 x4 x5) (kernelRun0_B.sl.r_106 c arg6 harg6 arg7 harg7 arg8 harg8 x3 x4 x5) (kernelRun0_B.sl.r_108 c arg4 harg4 arg6 harg6 arg7 harg7 arg8 harg8 x1 x3 x4 x5) : FVec F S1x256x512 .f32) = usq (stt x1 x2 (k0_pay2 x3 x4 x5) 1 (headOf xs0 1) 3) := by
  refine (show _ = usq (next (sq (kernelRun0_B.sl.v629 c arg4 harg4 arg5 harg5 arg6 harg6 arg7 harg7 arg8 harg8 arg10 harg10 x1 x2 x3 x4 x5 xs0)) (cum (extractStridedSlice S64x256 ![256, 256] (gateL arg6 harg6 arg7 harg7 arg8 harg8 x3 x4 x5) slices_S1024x512_o256_256_S64x256)) (cum (extractStridedSlice S64x256 ![320, 256] (gateL arg6 harg6 arg7 harg7 arg8 harg8 x3 x4 x5) slices_S1024x512_o320_256_S64x256)) (loadQ arg4 harg4 x1 256 256 inb_S1024x512_S64x256_256_256) (loadQ arg4 harg4 x1 320 256 inb_S1024x512_S64x256_320_256) (loadV arg5 harg5 x2 256 512 inb_S1024x1024_S64x512_256_512) (loadV arg5 harg5 x2 320 512 inb_S1024x1024_S64x512_320_512)) from rfl).trans ?_
  rw [v5 c arg3 harg3 arg4 harg4 arg5 harg5 arg6 harg6 arg7 harg7 arg8 harg8 arg10 harg10 x0 x1 x2 x3 x4 x5 xs0]
  simp only [readQ, readV, gateL_eq, slice_cut]
  rfl

/-- What pair 2 of head 1 stores for its first chunk. -/
theorem a5 : (k0_pay150 (kernelRun0_B.sl.r_93 c arg4 harg4 arg5 harg5 arg6 harg6 arg7 harg7 arg8 harg8 arg10 harg10 x1 x2 x3 x4 x5 xs0) (kernelRun0_B.sl.r_96 c arg3 harg3 arg4 harg4 arg5 harg5 arg6 harg6 arg7 harg7 arg8 harg8 x0 x1 x2 x3 x4 x5) (kernelRun0_B.sl.r_107 c arg3 harg3 arg6 harg6 arg7 harg7 arg8 harg8 x0 x3 x4 x5) (kernelRun0_B.sl.r_109 c arg3 harg3 arg6 harg6 arg7 harg7 arg8 harg8 x0 x3 x4 x5) : FVec F S64x512 .bf16) = oA x0 x1 x2 (k0_pay2 x3 x4 x5) 1 (headOf xs0 1) 2 := by
  refine (show _ = outA (sq (kernelRun0_B.sl.v629 c arg4 harg4 arg5 harg5 arg6 harg6 arg7 harg7 arg8 harg8 arg10 harg10 x1 x2 x3 x4 x5 xs0)) (cum (extractStridedSlice S64x256 ![256, 256] (gateL arg6 harg6 arg7 harg7 arg8 harg8 x3 x4 x5) slices_S1024x512_o256_256_S64x256)) (cum (extractStridedSlice S64x256 ![320, 256] (gateL arg6 harg6 arg7 harg7 arg8 harg8 x3 x4 x5) slices_S1024x512_o320_256_S64x256)) (loadQ arg3 harg3 x0 256 256 inb_S1024x512_S64x256_256_256) (loadQ arg3 harg3 x0 320 256 inb_S1024x512_S64x256_320_256) (loadQ arg4 harg4 x1 256 256 inb_S1024x512_S64x256_256_256) (loadV arg5 harg5 x2 256 512 inb_S1024x1024_S64x512_256_512) from rfl).trans ?_
  rw [v5 c arg3 harg3 arg4 harg4 arg5 harg5 arg6 harg6 arg7 harg7 arg8 harg8 arg10 harg10 x0 x1 x2 x3 x4 x5 xs0]
  simp only [readQ, readV, gateL_eq, slice_cut]
  rfl

/-- What pair 2 of head 1 stores for its second chunk. -/
theorem b5 : (k0_pay151 (kernelRun0_B.sl.r_93 c arg4 harg4 arg5 harg5 arg6 harg6 arg7 harg7 arg8 harg8 arg10 harg10 x1 x2 x3 x4 x5 xs0) (kernelRun0_B.sl.r_95 c arg5 harg5 x2) (kernelRun0_B.sl.r_104 c arg3 harg3 arg4 harg4 arg5 harg5 arg6 harg6 arg7 harg7 arg8 harg8 x0 x1 x2 x3 x4 x5) (kernelRun0_B.sl.r_107 c arg3 harg3 arg6 harg6 arg7 harg7 arg8 harg8 x0 x3 x4 x5) (kernelRun0_B.sl.r_109 c arg3 harg3 arg6 harg6 arg7 harg7 arg8 harg8 x0 x3 x4 x5) (kernelRun0_B.sl.r_110 c arg3 harg3 arg4 harg4 arg6 harg6 arg7 harg7 arg8 harg8 x0 x1 x3 x4 x5) : FVec F S64x512 .bf16) = oB x0 x1 x2 (k0_pay2 x3 x4 x5) 1 (headOf xs0 1) 2 := by
  refine (show _ = outB (sq (kernelRun0_B.sl.v629 c arg4 harg4 arg5 harg5 arg6 harg6 arg7 harg7 arg8 harg8 arg10 harg10 x1 x2 x3 x4 x5 xs0)) (cum (extractStridedSlice S64x256 ![256, 256] (gateL arg6 harg6 arg7 harg7 arg8 harg8 x3 x4 x5) slices_S1024x512_o256_256_S64x256)) (cum (extractStridedSlice S64x256 ![320, 256] (gateL arg6 harg6 arg7 harg7 arg8 harg8 x3 x4 x5) slices_S1024x512_o320_256_S64x256)) (loadQ arg3 harg3 x0 256 256 inb_S1024x512_S64x256_256_256) (loadQ arg3 harg3 x0 320 256 inb_S1024x512_S64x256_320_256) (loadQ arg4 harg4 x1 256 256 inb_S1024x512_S64x256_256_256) (loadQ arg4 harg4 x1 320 256 inb_S1024x512_S64x256_320_256) (loadV arg5 harg5 x2 256 512 inb_S1024x1024_S64x512_256_512) (loadV arg5 harg5 x2 320 512 inb_S1024x1024_S64x512_320_512) from rfl).trans ?_
  rw [v5 c arg3 harg3 arg4 harg4 arg5 harg5 arg6 harg6 arg7 harg7 arg8 harg8 arg10 harg10 x0 x1 x2 x3 x4 x5 xs0]
  simp only [readQ, readV, gateL_eq, slice_cut]
  rfl

/-- The state pair 3 of head 0 starts from. -/
theorem v6 : sq (kernelRun0_B.sl.v748 c arg4 harg4 arg5 harg5 arg6 harg6 arg7 harg7 arg8 harg8 arg10 harg10 x1 x2 x3 x4 x5 xs0) = stt x1 x2 (k0_pay2 x3 x4 x5) 0 (headOf xs0 0) 3 :=
  (congrArg sq (((View.readCov_skip _ _ _ _ _ (by decide +kernel)).trans (View.readCov_cons_toLoadRect _ _ _ _)).trans (s4 c arg3 harg3 arg4 harg4 arg5 harg5 arg6 harg6 arg7 harg7 arg8 harg8 arg10 harg10 x0 x1 x2 x3 x4 x5 xs0))).trans (squeeze_unsqueeze _)

/-- The state pair 3 of head 0 leaves. -/
theorem s6 : (k0_pay173 (kernelRun0_B.sl.r_130 c arg4 harg4 arg5 harg5 arg6 harg6 arg7 harg7 arg8 harg8 arg10 harg10 x1 x2 x3 x4 x5 xs0) : FVec F S1x256x512 .f32) = usq (stt x1 x2 (k0_pay2 x3 x4 x5) 0 (headOf xs0 0) 4) := by
  refine (show _ = usq (next (sq (kernelRun0_B.sl.v748 c arg4 harg4 arg5 harg5 arg6 harg6 arg7 harg7 arg8 harg8 arg10 harg10 x1 x2 x3 x4 x5 xs0)) (cum (extractStridedSlice S64x256 ![384, 0] (gateL arg6 harg6 arg7 harg7 arg8 harg8 x3 x4 x5) slices_S1024x512_o384_0_S64x256)) (cum (extractStridedSlice S64x256 ![448, 0] (gateL arg6 harg6 arg7 harg7 arg8 harg8 x3 x4 x5) slices_S1024x512_o448_0_S64x256)) (loadQ arg4 harg4 x1 384 0 inb_S1024x512_S64x256_384_0) (loadQ arg4 harg4 x1 448 0 inb_S1024x512_S64x256_448_0) (loadV arg5 harg5 x2 384 0 inb_S1024x1024_S64x512_384_0) (loadV arg5 harg5 x2 448 0 inb_S1024x1024_S64x512_448_0)) from rfl).trans ?_
  rw [v6 c arg3 harg3 arg4 harg4 arg5 harg5 arg6 harg6 arg7 harg7 arg8 harg8 arg10 harg10 x0 x1 x2 x3 x4 x5 xs0]
  simp only [readQ, readV, gateL_eq, slice_cut]
  rfl

/-- What pair 3 of head 0 stores for its first chunk. -/
theorem a6 : (k0_pay174 (kernelRun0_B.sl.r_117 c arg3 harg3 arg4 harg4 arg5 harg5 arg6 harg6 arg7 harg7 arg8 harg8 x0 x1 x2 x3 x4 x5) (kernelRun0_B.sl.r_129 c arg3 harg3 arg4 harg4 arg5 harg5 arg6 harg6 arg7 harg7 arg8 harg8 arg10 harg10 x0 x1 x2 x3 x4 x5 xs0) : FVec F S64x512 .bf16) = oA x0 x1 x2 (k0_pay2 x3 x4 x5) 0 (headOf xs0 0) 3 := by
  refine (show _ = outA (sq (kernelRun0_B.sl.v748 c arg4 harg4 arg5 harg5 arg6 harg6 arg7 harg7 arg8 harg8 arg10 harg10 x1 x2 x3 x4 x5 xs0)) (cum (extractStridedSlice S64x256 ![384, 0] (gateL arg6 harg6 arg7 harg7 arg8 harg8 x3 x4 x5) slices_S1024x512_o384_0_S64x256)) (cum (extractStridedSlice S64x256 ![448, 0] (gateL arg6 harg6 arg7 harg7 arg8 harg8 x3 x4 x5) slices_S1024x512_o448_0_S64x256)) (loadQ arg3 harg3 x0 384 0 inb_S1024x512_S64x256_384_0) (loadQ arg3 harg3 x0 448 0 inb_S1024x512_S64x256_448_0) (loadQ arg4 harg4 x1 384 0 inb_S1024x512_S64x256_384_0) (loadV arg5 harg5 x2 384 0 inb_S1024x1024_S64x512_384_0) from rfl).trans ?_
  rw [v6 c arg3 harg3 arg4 harg4 arg5 harg5 arg6 harg6 arg7 harg7 arg8 harg8 arg10 harg10 x0 x1 x2 x3 x4 x5 xs0]
  simp only [readQ, readV, gateL_eq, slice_cut]
  rfl

/-- What pair 3 of head 0 stores for its second chunk. -/
theorem b6 : (k0_pay175 (kernelRun0_B.sl.r_128 c arg3 harg3 arg4 harg4 arg5 harg5 arg6 harg6 arg7 harg7 arg8 harg8 x0 x1 x2 x3 x4 x5) (kernelRun0_B.sl.r_129 c arg3 harg3 arg4 harg4 arg5 harg5 arg6 harg6 arg7 harg7 arg8 harg8 arg10 harg10 x0 x1 x2 x3 x4 x5 xs0) : FVec F S64x512 .bf16) = oB x0 x1 x2 (k0_pay2 x3 x4 x5) 0 (headOf xs0 0) 3 := by
  refine (show _ = outB (sq (kernelRun0_B.sl.v748 c arg4 harg4 arg5 harg5 arg6 harg6 arg7 harg7 arg8 harg8 arg10 harg10 x1 x2 x3 x4 x5 xs0)) (cum (extractStridedSlice S64x256 ![384, 0] (gateL arg6 harg6 arg7 harg7 arg8 harg8 x3 x4 x5) slices_S1024x512_o384_0_S64x256)) (cum (extractStridedSlice S64x256 ![448, 0] (gateL arg6 harg6 arg7 harg7 arg8 harg8 x3 x4 x5) slices_S1024x512_o448_0_S64x256)) (loadQ arg3 harg3 x0 384 0 inb_S1024x512_S64x256_384_0) (loadQ arg3 harg3 x0 448 0 inb_S1024x512_S64x256_448_0) (loadQ arg4 harg4 x1 384 0 inb_S1024x512_S64x256_384_0) (loadQ arg4 harg4 x1 448 0 inb_S1024x512_S64x256_448_0) (loadV arg5 harg5 x2 384 0 inb_S1024x1024_S64x512_384_0) (loadV arg5 harg5 x2 448 0 inb_S1024x1024_S64x512_448_0) from rfl).trans ?_
  rw [v6 c arg3 harg3 arg4 harg4 arg5 harg5 arg6 harg6 arg7 harg7 arg8 harg8 arg10 harg10 x0 x1 x2 x3 x4 x5 xs0]
  simp only [readQ, readV, gateL_eq, slice_cut]
  rfl

/-- The state pair 3 of head 1 starts from. -/
theorem v7 : sq (kernelRun0_B.sl.v867 c arg4 harg4 arg5 harg5 arg6 harg6 arg7 harg7 arg8 harg8 arg10 harg10 x1 x2 x3 x4 x5 xs0) = stt x1 x2 (k0_pay2 x3 x4 x5) 1 (headOf xs0 1) 3 :=
  (congrArg sq (((View.readCov_skip _ _ _ _ _ (by decide +kernel)).trans (View.readCov_cons_toLoadRect _ _ _ _)).trans (s5 c arg3 harg3 arg4 harg4 arg5 harg5 arg6 harg6 arg7 harg7 arg8 harg8 arg10 harg10 x0 x1 x2 x3 x4 x5 xs0))).trans (squeeze_unsqueeze _)

/-- The state pair 3 of head 1 leaves. -/
theorem s7 : (k0_pay194 (kernelRun0_B.sl.r_131 c arg4 harg4 arg5 harg5 arg6 harg6 arg7 harg7 arg8 harg8 arg10 harg10 x1 x2 x3 x4 x5 xs0) (kernelRun0_B.sl.r_133 c arg6 harg6 arg7 harg7 arg8 harg8 x3 x4 x5) (kernelRun0_B.sl.r_136 c arg5 harg5 x2) (kernelRun0_B.sl.r_140 c arg4 harg4 arg6 harg6 arg7 harg7 arg8 harg8 x1 x3 x4 x5) (kernelRun0_B.sl.r_142 c arg6 harg6 arg7 harg7 arg8 harg8 x3 x4 x5) (kernelRun0_B.sl.r_143 c arg4 harg4 x1) (kernelRun0_B.sl.r_144 c arg5 harg5 x2) (kernelRun0_B.sl.r_147 c arg6 harg6 arg7 harg7 arg8 harg8 x3 x4 x5) : FVec F S1x256x512 .f32) = usq (stt x1 x2 (k0_pay2 x3 x4 x5) 1 (headOf xs0 1) 4) := by
  refine (show _ = usq (next (sq (kernelRun0_B.sl.v867 c arg4 harg4 arg5 harg5 arg6 harg6 arg7 harg7 arg8 harg8 arg10 harg10 x1 x2 x3 x4 x5 xs0)) (cum (extractStridedSlice S64x256 ![384, 256] (gateL arg6 harg6 arg7 harg7 arg8 harg8 x3 x4 x5) slices_S1024x512_o384_256_S64x256)) (cum (extractStridedSlice S64x256 ![448, 256] (gateL arg6 harg6 arg7 harg7 arg8 harg8 x3 x4 x5) slices_S1024x512_o448_256_S64x256)) (loadQ arg4 harg4 x1 384 256 inb_S1024x512_S64x256_384_256) (loadQ arg4 harg4 x1 448 256 inb_S1024x512_S64x256_448_256) (loadV arg5 harg5 x2 384 512 inb_S1024x1024_S64x512_384_512) (loadV arg5 harg5 x2 448 512 inb_S1024x1024_S64x512_448_512)) from rfl).trans ?_
  rw [v7 c arg3 harg3 arg4 harg4 arg5 harg5 arg6 harg6 arg7 harg7 arg8 harg8 arg10 harg10 x0 x1 x2 x3 x4 x5 xs0]
  simp only [readQ, readV, gateL_eq, slice_cut]
  rfl

/-- What pair 3 of head 1 stores for its first chunk. -/
theorem a7 : (k0_pay195 (kernelRun0_B.sl.r_131 c arg4 harg4 arg5 harg5 arg6 harg6 arg7 harg7 arg8 harg8 arg10 harg10 x1 x2 x3 x4 x5 xs0) (kernelRun0_B.sl.r_133 c arg6 harg6 arg7 harg7 arg8 harg8 x3 x4 x5) (kernelRun0_B.sl.r_138 c arg3 harg3 arg4 harg4 arg5 harg5 arg6 harg6 arg7 harg7 arg8 harg8 x0 x1 x2 x3 x4 x5) (kernelRun0_B.sl.r_139 c arg3 harg3 arg6 harg6 arg7 harg7 arg8 harg8 x0 x3 x4 x5) (kernelRun0_B.sl.r_146 c arg3 harg3 arg6 harg6 arg7 harg7 arg8 harg8 x0 x3 x4 x5) : FVec F S64x512 .bf16) = oA x0 x1 x2 (k0_pay2 x3 x4 x5) 1 (headOf xs0 1) 3 := by
  refine (show _ = outA (sq (kernelRun0_B.sl.v867 c arg4 harg4 arg5 harg5 arg6 harg6 arg7 harg7 arg8 harg8 arg10 harg10 x1 x2 x3 x4 x5 xs0)) (cum (extractStridedSlice S64x256 ![384, 256] (gateL arg6 harg6 arg7 harg7 arg8 harg8 x3 x4 x5) slices_S1024x512_o384_256_S64x256)) (cum (extractStridedSlice S64x256 ![448, 256] (gateL arg6 harg6 arg7 harg7 arg8 harg8 x3 x4 x5) slices_S1024x512_o448_256_S64x256)) (loadQ arg3 harg3 x0 384 256 inb_S1024x512_S64x256_384_256) (loadQ arg3 harg3 x0 448 256 inb_S1024x512_S64x256_448_256) (loadQ arg4 harg4 x1 384 256 inb_S1024x512_S64x256_384_256) (loadV arg5 harg5 x2 384 512 inb_S1024x1024_S64x512_384_512) from rfl).trans ?_
  rw [v7 c arg3 harg3 arg4 harg4 arg5 harg5 arg6 harg6 arg7 harg7 arg8 harg8 arg10 harg10 x0 x1 x2 x3 x4 x5 xs0]
  simp only [readQ, readV, gateL_eq, slice_cut]
  rfl

/-- What pair 3 of head 1 stores for its second chunk. -/
theorem b7 : (k0_pay196 (kernelRun0_B.sl.r_131 c arg4 harg4 arg5 harg5 arg6 harg6 arg7 harg7 arg8 harg8 arg10 harg10 x1 x2 x3 x4 x5 xs0) (kernelRun0_B.sl.r_133 c arg6 harg6 arg7 harg7 arg8 harg8 x3 x4 x5) (kernelRun0_B.sl.r_136 c arg5 harg5 x2) (kernelRun0_B.sl.r_139 c arg3 harg3 arg6 harg6 arg7 harg7 arg8 harg8 x0 x3 x4 x5) (kernelRun0_B.sl.r_141 c arg4 harg4 arg6 harg6 arg7 harg7 arg8 harg8 x1 x3 x4 x5) (kernelRun0_B.sl.r_145 c arg3 harg3 arg4 harg4 arg5 harg5 arg6 harg6 arg7 harg7 arg8 harg8 x0 x1 x2 x3 x4 x5) (kernelRun0_B.sl.r_146 c arg3 harg3 arg6 harg6 arg7 harg7 arg8 harg8 x0 x3 x4 x5) : FVec F S64x512 .bf16) = oB x0 x1 x2 (k0_pay2 x3 x4 x5) 1 (headOf xs0 1) 3 := by
  refine (show _ = outB (sq (kernelRun0_B.sl.v867 c arg4 harg4 arg5 harg5 arg6 harg6 arg7 harg7 arg8 harg8 arg10 harg10 x1 x2 x3 x4 x5 xs0)) (cum (extractStridedSlice S64x256 ![384, 256] (gateL arg6 harg6 arg7 harg7 arg8 harg8 x3 x4 x5) slices_S1024x512_o384_256_S64x256)) (cum (extractStridedSlice S64x256 ![448, 256] (gateL arg6 harg6 arg7 harg7 arg8 harg8 x3 x4 x5) slices_S1024x512_o448_256_S64x256)) (loadQ arg3 harg3 x0 384 256 inb_S1024x512_S64x256_384_256) (loadQ arg3 harg3 x0 448 256 inb_S1024x512_S64x256_448_256) (loadQ arg4 harg4 x1 384 256 inb_S1024x512_S64x256_384_256) (loadQ arg4 harg4 x1 448 256 inb_S1024x512_S64x256_448_256) (loadV arg5 harg5 x2 384 512 inb_S1024x1024_S64x512_384_512) (loadV arg5 harg5 x2 448 512 inb_S1024x1024_S64x512_448_512) from rfl).trans ?_
  rw [v7 c arg3 harg3 arg4 harg4 arg5 harg5 arg6 harg6 arg7 harg7 arg8 harg8 arg10 harg10 x0 x1 x2 x3 x4 x5 xs0]
  simp only [readQ, readV, gateL_eq, slice_cut]
  rfl

/-- The state pair 4 of head 0 starts from. -/
theorem v8 : sq (kernelRun0_B.sl.v986 c arg4 harg4 arg5 harg5 arg6 harg6 arg7 harg7 arg8 harg8 arg10 harg10 x1 x2 x3 x4 x5 xs0) = stt x1 x2 (k0_pay2 x3 x4 x5) 0 (headOf xs0 0) 4 :=
  (congrArg sq (((View.readCov_skip _ _ _ _ _ (by decide +kernel)).trans (View.readCov_cons_toLoadRect _ _ _ _)).trans (s6 c arg3 harg3 arg4 harg4 arg5 harg5 arg6 harg6 arg7 harg7 arg8 harg8 arg10 harg10 x0 x1 x2 x3 x4 x5 xs0))).trans (squeeze_unsqueeze _)

/-- The state pair 4 of head 0 leaves. -/
theorem s8 : (k0_pay219 (kernelRun0_B.sl.r_148 c arg4 harg4 arg5 harg5 arg6 harg6 arg7 harg7 arg8 harg8 arg10 harg10 x1 x2 x3 x4 x5 xs0) (kernelRun0_B.sl.r_150 c arg5 harg5 x2) (kernelRun0_B.sl.r_157 c arg5 harg5 x2) (kernelRun0_B.sl.r_158 c arg4 harg4 arg6 harg6 arg7 harg7 arg8 harg8 x1 x3 x4 x5) (kernelRun0_B.sl.r_159 c arg6 harg6 arg7 harg7 arg8 harg8 x3 x4 x5) (kernelRun0_B.sl.r_160 c arg4 harg4 arg6 harg6 arg7 harg7 arg8 harg8 x1 x3 x4 x5) : FVec F S1x256x512 .f32) = usq (stt x1 x2 (k0_pay2 x3 x4 x5) 0 (headOf xs0 0) 5) := by
  refine (show _ = usq (next (sq (kernelRun0_B.sl.v986 c arg4 harg4 arg5 harg5 arg6 harg6 arg7 harg7 arg8 harg8 arg10 harg10 x1 x2 x3 x4 x5 xs0)) (cum (extractStridedSlice S64x256 ![512, 0] (gateL arg6 harg6 arg7 harg7 arg8 harg8 x3 x4 x5) slices_S1024x512_o512_0_S64x256)) (cum (extractStridedSlice S64x256 ![576, 0] (gateL arg6 harg6 arg7 harg7 arg8 harg8 x3 x4 x5) slices_S1024x512_o576_0_S64x256)) (loadQ arg4 harg4 x1 512 0 inb_S1024x512_S64x256_512_0) (loadQ arg4 harg4 x1 576 0 inb_S1024x512_S64x256_576_0) (loadV arg5 harg5 x2 512 0 inb_S1024x1024_S64x512_512_0) (loadV arg5 harg5 x2 576 0 inb_S1024x1024_S64x512_576_0)) from rfl).trans ?_
  rw [v8 c arg3 harg3 arg4 harg4 arg5 harg5 arg6 harg6 arg7 harg7 arg8 harg8 arg10 harg10 x0 x1 x2 x3 x4 x5 xs0]
  simp only [readQ, readV, gateL_eq, slice_cut]
  rfl

/-- What pair 4 of head 0 stores for its first chunk. -/
theorem a8 : (k0_pay220 (kernelRun0_B.sl.r_151 c arg3 harg3 arg4 harg4 arg5 harg5 arg6 harg6 arg7 harg7 arg8 harg8 x0 x1 x2 x3 x4 x5) (kernelRun0_B.sl.r_162 c arg3 harg3 arg6 harg6 arg7 harg7 arg8 harg8 x0 x3 x4 x5) (kernelRun0_B.sl.r_163 c arg4 harg4 arg5 harg5 arg6 harg6 arg7 harg7 arg8 harg8 arg10 harg10 x1 x2 x3 x4 x5 xs0) : FVec F S64x512 .bf16) = oA x0 x1 x2 (k0_pay2 x3 x4 x5) 0 (headOf xs0 0) 4 := by
  refine (show _ = outA (sq (kernelRun0_B.sl.v986 c arg4 harg4 arg5 harg5 arg6 harg6 arg7 harg7 arg8 harg8 arg10 harg10 x1 x2 x3 x4 x5 xs0)) (cum (extractStridedSlice S64x256 ![512, 0] (gateL arg6 harg6 arg7 harg7 arg8 harg8 x3 x4 x5) slices_S1024x512_o512_0_S64x256)) (cum (extractStridedSlice S64x256 ![576, 0] (gateL arg6 harg6 arg7 harg7 arg8 harg8 x3 x4 x5) slices_S1024x512_o576_0_S64x256)) (loadQ arg3 harg3 x0 512 0 inb_S1024x512_S64x256_512_0) (loadQ arg3 harg3 x0 576 0 inb_S1024x512_S64x256_576_0) (loadQ arg4 harg4 x1 512 0 inb_S1024x512_S64x256_512_0) (loadV arg5 harg5 x2 512 0 inb_S1024x1024_S64x512_512_0) from rfl).trans ?_
  rw [v8 c arg3 harg3 arg4 harg4 arg5 harg5 arg6 harg6 arg7 harg7 arg8 harg8 arg10 harg10 x0 x1 x2 x3 x4 x5 xs0]
  simp only [readQ, readV, gateL_eq, slice_cut]
  rfl

/-- What pair 4 of head 0 stores for its second chunk. -/
theorem b8 : (k0_pay221 (kernelRun0_B.sl.r_161 c arg3 harg3 arg4 harg4 arg5 harg5 arg6 harg6 arg7 harg7 arg8 harg8 x0 x1 x2 x3 x4 x5) (kernelRun0_B.sl.r_162 c arg3 harg3 arg6 harg6 arg7 harg7 arg8 harg8 x0 x3 x4 x5) (kernelRun0_B.sl.r_163 c arg4 harg4 arg5 harg5 arg6 harg6 arg7 harg7 arg8 harg8 arg10 harg10 x1 x2 x3 x4 x5 xs0) : FVec F S64x512 .bf16) = oB x0 x1 x2 (k0_pay2 x3 x4 x5) 0 (headOf xs0 0) 4 := by
  refine (show _ = outB (sq (kernelRun0_B.sl.v986 c arg4 harg4 arg5 harg5 arg6 harg6 arg7 harg7 arg8 harg8 arg10 harg10 x1 x2 x3 x4 x5 xs0)) (cum (extractStridedSlice S64x256 ![512, 0] (gateL arg6 harg6 arg7 harg7 arg8 harg8 x3 x4 x5) slices_S1024x512_o512_0_S64x256)) (cum (extractStridedSlice S64x256 ![576, 0] (gateL arg6 harg6 arg7 harg7 arg8 harg8 x3 x4 x5) slices_S1024x512_o576_0_S64x256)) (loadQ arg3 harg3 x0 512 0 inb_S1024x512_S64x256_512_0) (loadQ arg3 harg3 x0 576 0 inb_S1024x512_S64x256_576_0) (loadQ arg4 harg4 x1 512 0 inb_S1024x512_S64x256_512_0) (loadQ arg4 harg4 x1 576 0 inb_S1024x512_S64x256_576_0) (loadV arg5 harg5 x2 512 0 inb_S1024x1024_S64x512_512_0) (loadV arg5 harg5 x2 576 0 inb_S1024x1024_S64x512_576_0) from rfl).trans ?_
  rw [v8 c arg3 harg3 arg4 harg4 arg5 harg5 arg6 harg6 arg7 harg7 arg8 harg8 arg10 harg10 x0 x1 x2 x3 x4 x5 xs0]
  simp only [readQ, readV, gateL_eq, slice_cut]
  rfl

/-- The state pair 4 of head 1 starts from. -/
theorem v9 : sq (kernelRun0_B.sl.v1105 c arg4 harg4 arg5 harg5 arg6 harg6 arg7 harg7 arg8 harg8 arg10 harg10 x1 x2 x3 x4 x5 xs0) = stt x1 x2 (k0_pay2 x3 x4 x5) 1 (headOf xs0 1) 4 :=
  (congrArg sq (((View.readCov_skip _ _ _ _ _ (by decide +kernel)).trans (View.readCov_cons_toLoadRect _ _ _ _)).trans (s7 c arg3 harg3 arg4 harg4 arg5 harg5 arg6 harg6 arg7 harg7 arg8 harg8 arg10 harg10 x0 x1 x2 x3 x4 x5 xs0))).trans (squeeze_unsqueeze _)

/-- The state pair 4 of head 1 leaves. -/
theorem s9 : (k0_pay242 (kernelRun0_B.sl.r_164 c arg4 harg4 arg5 harg5 arg6 harg6 arg7 harg7 arg8 harg8 arg10 harg10 x1 x2 x3 x4 x5 xs0) (kernelRun0_B.sl.r_167 c arg6 harg6 arg7 harg7 arg8 harg8 x3 x4 x5) (kernelRun0_B.sl.r_170 c arg5 harg5 x2) (kernelRun0_B.sl.r_173 c arg4 harg4 arg6 harg6 arg7 harg7 arg8 harg8 x1 x3 x4 x5) (kernelRun0_B.sl.r_175 c arg6 harg6 arg7 harg7 arg8 harg8 x3 x4 x5) (kernelRun0_B.sl.r_176 c arg6 harg6 arg7 harg7 arg8 harg8 x3 x4 x5) (kernelRun0_B.sl.r_178 c arg4 harg4 x1) (kernelRun0_B.sl.r_179 c arg5 harg5 x2) : FVec F S1x256x512 .f32) = usq (stt x1 x2 (k0_pay2 x3 x4 x5) 1 (headOf xs0 1) 5) := by
  refine (show _ = usq (next (sq (kernelRun0_B.sl.v1105 c arg4 harg4 arg5 harg5 arg6 harg6 arg7 harg7 arg8 harg8 arg10 harg10 x1 x2 x3 x4 x5 xs0)) (cum (extractStridedSlice S64x256 ![512, 256] (gateL arg6 harg6 arg7 harg7 arg8 harg8 x3 x4 x5) slices_S1024x512_o512_256_S64x256)) (cum (extractStridedSlice S64x256 ![576, 256] (gateL arg6 harg6 arg7 harg7 arg8 harg8 x3 x4 x5) slices_S1024x512_o576_256_S64x256)) (loadQ arg4 harg4 x1 512 256 inb_S1024x512_S64x256_512_256) (loadQ arg4 harg4 x1 576 256 inb_S1024x512_S64x256_576_256) (loadV arg5 harg5 x2 512 512 inb_S1024x1024_S64x512_512_512) (loadV arg5 harg5 x2 576 512 inb_S1024x1024_S64x512_576_512)) from rfl).trans ?_
  rw [v9 c arg3 harg3 arg4 harg4 arg5 harg5 arg6 harg6 arg7 harg7 arg8 harg8 arg10 harg10 x0 x1 x2 x3 x4 x5 xs0]
  simp only [readQ, readV, gateL_eq, slice_cut]
  rfl

/-- What pair 4 of head 1 stores for its first chunk. -/
theorem a9 : (k0_pay244 (kernelRun0_B.sl.r_171 c arg3 harg3 arg4 harg4 arg5 harg5 arg6 harg6 arg7 harg7 arg8 harg8 x0 x1 x2 x3 x4 x5) (kernelRun0_B.sl.r_184 c arg3 harg3 arg4 harg4 arg5 harg5 arg6 harg6 arg7 harg7 arg8 harg8 arg10 harg10 x0 x1 x2 x3 x4 x5 xs0) : FVec F S64x512 .bf16) = oA x0 x1 x2 (k0_pay2 x3 x4 x5) 1 (headOf xs0 1) 4 := by
  refine (show _ = outA (sq (kernelRun0_B.sl.v1105 c arg4 harg4 arg5 harg5 arg6 harg6 arg7 harg7 arg8 harg8 arg10 harg10 x1 x2 x3 x4 x5 xs0)) (cum (extractStridedSlice S64x256 ![512, 256] (gateL arg6 harg6 arg7 harg7 arg8 harg8 x3 x4 x5) slices_S1024x512_o512_256_S64x256)) (cum (extractStridedSlice S64x256 ![576, 256] (gateL arg6 harg6 arg7 harg7 arg8 harg8 x3 x4 x5) slices_S1024x512_o576_256_S64x256)) (loadQ arg3 harg3 x0 512 256 inb_S1024x512_S64x256_512_256) (loadQ arg3 harg3 x0 576 256 inb_S1024x512_S64x256_576_256) (loadQ arg4 harg4 x1 512 256 inb_S1024x512_S64x256_512_256) (loadV arg5 harg5 x2 512 512 inb_S1024x1024_S64x512_512_512) from rfl).trans ?_
  rw [v9 c arg3 harg3 arg4 harg4 arg5 harg5 arg6 harg6 arg7 harg7 arg8 harg8 arg10 harg10 x0 x1 x2 x3 x4 x5 xs0]
  simp only [readQ, readV, gateL_eq, slice_cut]
  rfl

/-- What pair 4 of head 1 stores for its second chunk. -/
theorem b9 : (k0_pay245 (kernelRun0_B.sl.r_182 c arg3 harg3 arg4 harg4 arg5 harg5 arg6 harg6 arg7 harg7 arg8 harg8 x0 x1 x2 x3 x4 x5) (kernelRun0_B.sl.r_183 c arg3 harg3 arg4 harg4 arg5 harg5 arg6 harg6 arg7 harg7 arg8 harg8 arg10 harg10 x0 x1 x2 x3 x4 x5 xs0) : FVec F S64x512 .bf16) = oB x0 x1 x2 (k0_pay2 x3 x4 x5) 1 (headOf xs0 1) 4 := by
  refine (show _ = outB (sq (kernelRun0_B.sl.v1105 c arg4 harg4 arg5 harg5 arg6 harg6 arg7 harg7 arg8 harg8 arg10 harg10 x1 x2 x3 x4 x5 xs0)) (cum (extractStridedSlice S64x256 ![512, 256] (gateL arg6 harg6 arg7 harg7 arg8 harg8 x3 x4 x5) slices_S1024x512_o512_256_S64x256)) (cum (extractStridedSlice S64x256 ![576, 256] (gateL arg6 harg6 arg7 harg7 arg8 harg8 x3 x4 x5) slices_S1024x512_o576_256_S64x256)) (loadQ arg3 harg3 x0 512 256 inb_S1024x512_S64x256_512_256) (loadQ arg3 harg3 x0 576 256 inb_S1024x512_S64x256_576_256) (loadQ arg4 harg4 x1 512 256 inb_S1024x512_S64x256_512_256) (loadQ arg4 harg4 x1 576 256 inb_S1024x512_S64x256_576_256) (loadV arg5 harg5 x2 512 512 inb_S1024x1024_S64x512_512_512) (loadV arg5 harg5 x2 576 512 inb_S1024x1024_S64x512_576_512) from rfl).trans ?_
  rw [v9 c arg3 harg3 arg4 harg4 arg5 harg5 arg6 harg6 arg7 harg7 arg8 harg8 arg10 harg10 x0 x1 x2 x3 x4 x5 xs0]
  simp only [readQ, readV, gateL_eq, slice_cut]
  rfl

/-- The state pair 5 of head 0 starts from. -/
theorem v10 : sq (kernelRun0_B.sl.v1224 c arg4 harg4 arg5 harg5 arg6 harg6 arg7 harg7 arg8 harg8 arg10 harg10 x1 x2 x3 x4 x5 xs0) = stt x1 x2 (k0_pay2 x3 x4 x5) 0 (headOf xs0 0) 5 :=
  (congrArg sq (((View.readCov_skip _ _ _ _ _ (by decide +kernel)).trans (View.readCov_cons_toLoadRect _ _ _ _)).trans (s8 c arg3 harg3 arg4 harg4 arg5 harg5 arg6 harg6 arg7 harg7 arg8 harg8 arg10 harg10 x0 x1 x2 x3 x4 x5 xs0))).trans (squeeze_unsqueeze _)

/-- The state pair 5 of head 0 leaves. -/
theorem s10 : (k0_pay265 (kernelRun0_B.sl.r_185 c arg4 harg4 arg5 harg5 arg6 harg6 arg7 harg7 arg8 harg8 arg10 harg10 x1 x2 x3 x4 x5 xs0) (kernelRun0_B.sl.r_190 c arg5 harg5 x2) (kernelRun0_B.sl.r_192 c arg4 harg4 arg6 harg6 arg7 harg7 arg8 harg8 x1 x3 x4 x5) (kernelRun0_B.sl.r_194 c arg5 harg5 x2) (kernelRun0_B.sl.r_197 c arg4 harg4 arg6 harg6 arg7 harg7 arg8 harg8 x1 x3 x4 x5) (kernelRun0_B.sl.r_198 c arg6 harg6 arg7 harg7 arg8 harg8 x3 x4 x5) (kernelRun0_B.sl.r_200 c arg6 harg6 arg7 harg7 arg8 harg8 x3 x4 x5) : FVec F S1x256x512 .f32) = usq (stt x1 x2 (k0_pay2 x3 x4 x5) 0 (headOf xs0 0) 6) := by
  refine (show _ = usq (next (sq (kernelRun0_B.sl.v1224 c arg4 harg4 arg5 harg5 arg6 harg6 arg7 harg7 arg8 harg8 arg10 harg10 x1 x2 x3 x4 x5 xs0)) (cum (extractStridedSlice S64x256 ![640, 0] (gateL arg6 harg6 arg7 harg7 arg8 harg8 x3 x4 x5) slices_S1024x512_o640_0_S64x256)) (cum (extractStridedSlice S64x256 ![704, 0] (gateL arg6 harg6 arg7 harg7 arg8 harg8 x3 x4 x5) slices_S1024x512_o704_0_S64x256)) (loadQ arg4 harg4 x1 640 0 inb_S1024x512_S64x256_640_0) (loadQ arg4 harg4 x1 704 0 inb_S1024x512_S64x256_704_0) (loadV arg5 harg5 x2 640 0 inb_S1024x1024_S64x512_640_0) (loadV arg5 harg5 x2 704 0 inb_S1024x1024_S64x512_704_0)) from rfl).trans ?_
  rw [v10 c arg3 harg3 arg4 harg4 arg5 harg5 arg6 harg6 arg7 harg7 arg8 harg8 arg10 harg10 x0 x1 x2 x3 x4 x5 xs0]
  simp only [readQ, readV, gateL_eq, slice_cut]
  rfl

/-- What pair 5 of head 0 stores for its first chunk. -/
theorem a10 : (k0_pay266 (kernelRun0_B.sl.r_185 c arg4 harg4 arg5 harg5 arg6 harg6 arg7 harg7 arg8 harg8 arg10 harg10 x1 x2 x3 x4 x5 xs0) (kernelRun0_B.sl.r_187 c arg6 harg6 arg7 harg7 arg8 harg8 x3 x4 x5) (kernelRun0_B.sl.r_191 c arg3 harg3 arg4 harg4 arg5 harg5 arg6 harg6 arg7 harg7 arg8 harg8 x0 x1 x2 x3 x4 x5) (kernelRun0_B.sl.r_196 c arg3 harg3 arg6 harg6 arg7 harg7 arg8 harg8 x0 x3 x4 x5) (kernelRun0_B.sl.r_199 c arg3 harg3 arg6 harg6 arg7 harg7 arg8 harg8 x0 x3 x4 x5) : FVec F S64x512 .bf16) = oA x0 x1 x2 (k0_pay2 x3 x4 x5) 0 (headOf xs0 0) 5 := by
  refine (show _ = outA (sq (kernelRun0_B.sl.v1224 c arg4 harg4 arg5 harg5 arg6 harg6 arg7 harg7 arg8 harg8 arg10 harg10 x1 x2 x3 x4 x5 xs0)) (cum (extractStridedSlice S64x256 ![640, 0] (gateL arg6 harg6 arg7 harg7 arg8 harg8 x3 x4 x5) slices_S1024x512_o640_0_S64x256)) (cum (extractStridedSlice S64x256 ![704, 0] (gateL arg6 harg6 arg7 harg7 arg8 harg8 x3 x4 x5) slices_S1024x512_o704_0_S64x256)) (loadQ arg3 harg3 x0 640 0 inb_S1024x512_S64x256_640_0) (loadQ arg3 harg3 x0 704 0 inb_S1024x512_S64x256_704_0) (loadQ arg4 harg4 x1 640 0 inb_S1024x512_S64x256_640_0) (loadV arg5 harg5 x2 640 0 inb_S1024x1024_S64x512_640_0) from rfl).trans ?_
  rw [v10 c arg3 harg3 arg4 harg4 arg5 harg5 arg6 harg6 arg7 harg7 arg8 harg8 arg10 harg10 x0 x1 x2 x3 x4 x5 xs0]
  simp only [readQ, readV, gateL_eq, slice_cut]
  rfl

/-- What pair 5 of head 0 stores for its second chunk. -/
theorem b10 : (k0_pay267 (kernelRun0_B.sl.r_185 c arg4 harg4 arg5 harg5 arg6 harg6 arg7 harg7 arg8 harg8 arg10 harg10 x1 x2 x3 x4 x5 xs0) (kernelRun0_B.sl.r_187 c arg6 harg6 arg7 harg7 arg8 harg8 x3 x4 x5) (kernelRun0_B.sl.r_190 c arg5 harg5 x2) (kernelRun0_B.sl.r_193 c arg4 harg4 arg6 harg6 arg7 harg7 arg8 harg8 x1 x3 x4 x5) (kernelRun0_B.sl.r_195 c arg3 harg3 arg4 harg4 arg5 harg5 arg6 harg6 arg7 harg7 arg8 harg8 x0 x1 x2 x3 x4 x5) (kernelRun0_B.sl.r_196 c arg3 harg3 arg6 harg6 arg7 harg7 arg8 harg8 x0 x3 x4 x5) (kernelRun0_B.sl.r_199 c arg3 harg3 arg6 harg6 arg7 harg7 arg8 harg8 x0 x3 x4 x5) : FVec F S64x512 .bf16) = oB x0 x1 x2 (k0_pay2 x3 x4 x5) 0 (headOf xs0 0) 5 := by
  refine (show _ = outB (sq (kernelRun0_B.sl.v1224 c arg4 harg4 arg5 harg5 arg6 harg6 arg7 harg7 arg8 harg8 arg10 harg10 x1 x2 x3 x4 x5 xs0)) (cum (extractStridedSlice S64x256 ![640, 0] (gateL arg6 harg6 arg7 harg7 arg8 harg8 x3 x4 x5) slices_S1024x512_o640_0_S64x256)) (cum (extractStridedSlice S64x256 ![704, 0] (gateL arg6 harg6 arg7 harg7 arg8 harg8 x3 x4 x5) slices_S1024x512_o704_0_S64x256)) (loadQ arg3 harg3 x0 640 0 inb_S1024x512_S64x256_640_0) (loadQ arg3 harg3 x0 704 0 inb_S1024x512_S64x256_704_0) (loadQ arg4 harg4 x1 640 0 inb_S1024x512_S64x256_640_0) (loadQ arg4 harg4 x1 704 0 inb_S1024x512_S64x256_704_0) (loadV arg5 harg5 x2 640 0 inb_S1024x1024_S64x512_640_0) (loadV arg5 harg5 x2 704 0 inb_S1024x1024_S64x512_704_0) from rfl).trans ?_
  rw [v10 c arg3 harg3 arg4 harg4 arg5 harg5 arg6 harg6 arg7 harg7 arg8 harg8 arg10 harg10 x0 x1 x2 x3 x4 x5 xs0]
  simp only [readQ, readV, gateL_eq, slice_cut]
  rfl

/-- The state pair 5 of head 1 starts from. -/
theorem v11 : sq (kernelRun0_B.sl.v1343 c arg4 harg4 arg5 harg5 arg6 harg6 arg7 harg7 arg8 harg8 arg10 harg10 x1 x2 x3 x4 x5 xs0) = stt x1 x2 (k0_pay2 x3 x4 x5) 1 (headOf xs0 1) 5 :=
  (congrArg sq (((View.readCov_skip _ _ _ _ _ (by decide +kernel)).trans (View.readCov_cons_toLoadRect _ _ _ _)).trans (s9 c arg3 harg3 arg4 harg4 arg5 harg5 arg6 harg6 arg7 harg7 arg8 harg8 arg10 harg10 x0 x1 x2 x3 x4 x5 xs0))).trans (squeeze_unsqueeze _)

/-- The state pair 5 of head 1 leaves. -/
theorem s11 : (k0_pay293 (kernelRun0_B.sl.r_201 c arg4 harg4 arg5 harg5 arg6 harg6 arg7 harg7 arg8 harg8 arg10 harg10 x1 x2 x3 x4 x5 xs0) (kernelRun0_B.sl.r_205 c arg5 harg5 x2) (kernelRun0_B.sl.r_214 c arg5 harg5 x2) (kernelRun0_B.sl.r_215 c arg4 harg4 arg6 harg6 arg7 harg7 arg8 harg8 x1 x3 x4 x5) (kernelRun0_B.sl.r_216 c arg4 harg4 arg6 harg6 arg7 harg7 arg8 harg8 x1 x3 x4 x5) (kernelRun0_B.sl.r_219 c arg6 harg6 arg7 harg7 arg8 harg8 x3 x4 x5) : FVec F S1x256x512 .f32) = usq (stt x1 x2 (k0_pay2 x3 x4 x5) 1 (headOf xs0 1) 6) := by
  refine (show _ = usq (next (sq (kernelRun0_B.sl.v1343 c arg4 harg4 arg5 harg5 arg6 harg6 arg7 harg7 arg8 harg8 arg10 harg10 x1 x2 x3 x4 x5 xs0)) (cum (extractStridedSlice S64x256 ![640, 256] (gateL arg6 harg6 arg7 harg7 arg8 harg8 x3 x4 x5) slices_S1024x512_o640_256_S64x256)) (cum (extractStridedSlice S64x256 ![704, 256] (gateL arg6 harg6 arg7 harg7 arg8 harg8 x3 x4 x5) slices_S1024x512_o704_256_S64x256)) (loadQ arg4 harg4 x1 640 256 inb_S1024x512_S64x256_640_256) (loadQ arg4 harg4 x1 704 256 inb_S1024x512_S64x256_704_256) (loadV arg5 harg5 x2 640 512 inb_S1024x1024_S64x512_640_512) (loadV arg5 harg5 x2 704 512 inb_S1024x1024_S64x512_704_512)) from rfl).trans ?_
  rw [v11 c arg3 harg3 arg4 harg4 arg5 harg5 arg6 harg6 arg7 harg7 arg8 harg8 arg10 harg10 x0 x1 x2 x3 x4 x5 xs0]
  simp only [readQ, readV, gateL_eq, slice_cut]
  rfl

/-- What pair 5 of head 1 stores for its first chunk. -/
theorem a11 : (k0_pay294 (kernelRun0_B.sl.r_206 c arg3 harg3 arg4 harg4 arg5 harg5 arg6 harg6 arg7 harg7 arg8 harg8 x0 x1 x2 x3 x4 x5) (kernelRun0_B.sl.r_218 c arg3 harg3 arg4 harg4 arg5 harg5 arg6 harg6 arg7 harg7 arg8 harg8 arg10 harg10 x0 x1 x2 x3 x4 x5 xs0) : FVec F S64x512 .bf16) = oA x0 x1 x2 (k0_pay2 x3 x4 x5) 1 (headOf xs0 1) 5 := by
  refine (show _ = outA (sq (kernelRun0_B.sl.v1343 c arg4 harg4 arg5 harg5 arg6 harg6 arg7 harg7 arg8 harg8 arg10 harg10 x1 x2 x3 x4 x5 xs0)) (cum (extractStridedSlice S64x256 ![640, 256] (gateL arg6 harg6 arg7 harg7 arg8 harg8 x3 x4 x5) slices_S1024x512_o640_256_S64x256)) (cum (extractStridedSlice S64x256 ![704, 256] (gateL arg6 harg6 arg7 harg7 arg8 harg8 x3 x4 x5) slices_S1024x512_o704_256_S64x256)) (loadQ arg3 harg3 x0 640 256 inb_S1024x512_S64x256_640_256) (loadQ arg3 harg3 x0 704 256 inb_S1024x512_S64x256_704_256) (loadQ arg4 harg4 x1 640 256 inb_S1024x512_S64x256_640_256) (loadV arg5 harg5 x2 640 512 inb_S1024x1024_S64x512_640_512) from rfl).trans ?_
  rw [v11 c arg3 harg3 arg4 harg4 arg5 harg5 arg6 harg6 arg7 harg7 arg8 harg8 arg10 harg10 x0 x1 x2 x3 x4 x5 xs0]
  simp only [readQ, readV, gateL_eq, slice_cut]
  rfl

/-- What pair 5 of head 1 stores for its second chunk. -/
theorem b11 : (k0_pay295 (kernelRun0_B.sl.r_217 c arg3 harg3 arg4 harg4 arg5 harg5 arg6 harg6 arg7 harg7 arg8 harg8 x0 x1 x2 x3 x4 x5) (kernelRun0_B.sl.r_218 c arg3 harg3 arg4 harg4 arg5 harg5 arg6 harg6 arg7 harg7 arg8 harg8 arg10 harg10 x0 x1 x2 x3 x4 x5 xs0) : FVec F S64x512 .bf16) = oB x0 x1 x2 (k0_pay2 x3 x4 x5) 1 (headOf xs0 1) 5 := by
  refine (show _ = outB (sq (kernelRun0_B.sl.v1343 c arg4 harg4 arg5 harg5 arg6 harg6 arg7 harg7 arg8 harg8 arg10 harg10 x1 x2 x3 x4 x5 xs0)) (cum (extractStridedSlice S64x256 ![640, 256] (gateL arg6 harg6 arg7 harg7 arg8 harg8 x3 x4 x5) slices_S1024x512_o640_256_S64x256)) (cum (extractStridedSlice S64x256 ![704, 256] (gateL arg6 harg6 arg7 harg7 arg8 harg8 x3 x4 x5) slices_S1024x512_o704_256_S64x256)) (loadQ arg3 harg3 x0 640 256 inb_S1024x512_S64x256_640_256) (loadQ arg3 harg3 x0 704 256 inb_S1024x512_S64x256_704_256) (loadQ arg4 harg4 x1 640 256 inb_S1024x512_S64x256_640_256) (loadQ arg4 harg4 x1 704 256 inb_S1024x512_S64x256_704_256) (loadV arg5 harg5 x2 640 512 inb_S1024x1024_S64x512_640_512) (loadV arg5 harg5 x2 704 512 inb_S1024x1024_S64x512_704_512) from rfl).trans ?_
  rw [v11 c arg3 harg3 arg4 harg4 arg5 harg5 arg6 harg6 arg7 harg7 arg8 harg8 arg10 harg10 x0 x1 x2 x3 x4 x5 xs0]
  simp only [readQ, readV, gateL_eq, slice_cut]
  rfl

/-- The state pair 6 of head 0 starts from. -/
theorem v12 : sq (kernelRun0_B.sl.v1462 c arg4 harg4 arg5 harg5 arg6 harg6 arg7 harg7 arg8 harg8 arg10 harg10 x1 x2 x3 x4 x5 xs0) = stt x1 x2 (k0_pay2 x3 x4 x5) 0 (headOf xs0 0) 6 :=
  (congrArg sq (((View.readCov_skip _ _ _ _ _ (by decide +kernel)).trans (View.readCov_cons_toLoadRect _ _ _ _)).trans (s10 c arg3 harg3 arg4 harg4 arg5 harg5 arg6 harg6 arg7 harg7 arg8 harg8 arg10 harg10 x0 x1 x2 x3 x4 x5 xs0))).trans (squeeze_unsqueeze _)

/-- The state pair 6 of head 0 leaves. -/
theorem s12 : (k0_pay315 (kernelRun0_B.sl.r_220 c arg4 harg4 arg5 harg5 arg6 harg6 arg7 harg7 arg8 harg8 arg10 harg10 x1 x2 x3 x4 x5 xs0) (kernelRun0_B.sl.r_223 c arg6 harg6 arg7 harg7 arg8 harg8 x3 x4 x5) (kernelRun0_B.sl.r_226 c arg5 harg5 x2) (kernelRun0_B.sl.r_230 c arg4 harg4 arg6 harg6 arg7 harg7 arg8 harg8 x1 x3 x4 x5) (kernelRun0_B.sl.r_232 c arg6 harg6 arg7 harg7 arg8 harg8 x3 x4 x5) (kernelRun0_B.sl.r_233 c arg6 harg6 arg7 harg7 arg8 harg8 x3 x4 x5) (kernelRun0_B.sl.r_235 c arg4 harg4 x1) (kernelRun0_B.sl.r_236 c arg5 harg5 x2) : FVec F S1x256x512 .f32) = usq (stt x1 x2 (k0_pay2 x3 x4 x5) 0 (headOf xs0 0) 7) := by
  refine (show _ = usq (next (sq (kernelRun0_B.sl.v1462 c arg4 harg4 arg5 harg5 arg6 harg6 arg7 harg7 arg8 harg8 arg10 harg10 x1 x2 x3 x4 x5 xs0)) (cum (extractStridedSlice S64x256 ![768, 0] (gateL arg6 harg6 arg7 harg7 arg8 harg8 x3 x4 x5) slices_S1024x512_o768_0_S64x256)) (cum (extractStridedSlice S64x256 ![832, 0] (gateL arg6 harg6 arg7 harg7 arg8 harg8 x3 x4 x5) slices_S1024x512_o832_0_S64x256)) (loadQ arg4 harg4 x1 768 0 inb_S1024x512_S64x256_768_0) (loadQ arg4 harg4 x1 832 0 inb_S1024x512_S64x256_832_0) (loadV arg5 harg5 x2 768 0 inb_S1024x1024_S64x512_768_0) (loadV arg5 harg5 x2 832 0 inb_S1024x1024_S64x512_832_0)) from rfl).trans ?_
  rw [v12 c arg3 harg3 arg4 harg4 arg5 harg5 arg6 harg6 arg7 harg7 arg8 harg8 arg10 harg10 x0 x1 x2 x3 x4 x5 xs0]
  simp only [readQ, readV, gateL_eq, slice_cut]
  rfl

/-- What pair 6 of head 0 stores for its first chunk. -/
theorem a12 : (k0_pay316 (kernelRun0_B.sl.r_220 c arg4 harg4 arg5 harg5 arg6 harg6 arg7 harg7 arg8 harg8 arg10 harg10 x1 x2 x3 x4 x5 xs0) (kernelRun0_B.sl.r_223 c arg6 harg6 arg7 harg7 arg8 harg8 x3 x4 x5) (kernelRun0_B.sl.r_228 c arg3 harg3 arg4 harg4 arg5 harg5 arg6 harg6 arg7 harg7 arg8 harg8 x0 x1 x2 x3 x4 x5) (kernelRun0_B.sl.r_229 c arg3 harg3 arg6 harg6 arg7 harg7 arg8 harg8 x0 x3 x4 x5) (kernelRun0_B.sl.r_232 c arg6 harg6 arg7 harg7 arg8 harg8 x3 x4 x5) (kernelRun0_B.sl.r_234 c arg3 harg3 x0) : FVec F S64x512 .bf16) = oA x0 x1 x2 (k0_pay2 x3 x4 x5) 0 (headOf xs0 0) 6 := by
  refine (show _ = outA (sq (kernelRun0_B.sl.v1462 c arg4 harg4 arg5 harg5 arg6 harg6 arg7 harg7 arg8 harg8 arg10 harg10 x1 x2 x3 x4 x5 xs0)) (cum (extractStridedSlice S64x256 ![768, 0] (gateL arg6 harg6 arg7 harg7 arg8 harg8 x3 x4 x5) slices_S1024x512_o768_0_S64x256)) (cum (extractStridedSlice S64x256 ![832, 0] (gateL arg6 harg6 arg7 harg7 arg8 harg8 x3 x4 x5) slices_S1024x512_o832_0_S64x256)) (loadQ arg3 harg3 x0 768 0 inb_S1024x512_S64x256_768_0) (loadQ arg3 harg3 x0 832 0 inb_S1024x512_S64x256_832_0) (loadQ arg4 harg4 x1 768 0 inb_S1024x512_S64x256_768_0) (loadV arg5 harg5 x2 768 0 inb_S1024x1024_S64x512_768_0) from rfl).trans ?_
  rw [v12 c arg3 harg3 arg4 harg4 arg5 harg5 arg6 harg6 arg7 harg7 arg8 harg8 arg10 harg10 x0 x1 x2 x3 x4 x5 xs0]
  simp only [readQ, readV, gateL_eq, slice_cut]
  rfl

/-- What pair 6 of head 0 stores for its second chunk. -/
theorem b12 : (k0_pay317 (kernelRun0_B.sl.r_238 c arg3 harg3 arg4 harg4 arg5 harg5 arg6 harg6 arg7 harg7 arg8 harg8 x0 x1 x2 x3 x4 x5) (kernelRun0_B.sl.r_239 c arg3 harg3 arg4 harg4 arg5 harg5 arg6 harg6 arg7 harg7 arg8 harg8 arg10 harg10 x0 x1 x2 x3 x4 x5 xs0) : FVec F S64x512 .bf16) = oB x0 x1 x2 (k0_pay2 x3 x4 x5) 0 (headOf xs0 0) 6 := by
  refine (show _ = outB (sq (kernelRun0_B.sl.v1462 c arg4 harg4 arg5 harg5 arg6 harg6 arg7 harg7 arg8 harg8 arg10 harg10 x1 x2 x3 x4 x5 xs0)) (cum (extractStridedSlice S64x256 ![768, 0] (gateL arg6 harg6 arg7 harg7 arg8 harg8 x3 x4 x5) slices_S1024x512_o768_0_S64x256)) (cum (extractStridedSlice S64x256 ![832, 0] (gateL arg6 harg6 arg7 harg7 arg8 harg8 x3 x4 x5) slices_S1024x512_o832_0_S64x256)) (loadQ arg3 harg3 x0 768 0 inb_S1024x512_S64x256_768_0) (loadQ arg3 harg3 x0 832 0 inb_S1024x512_S64x256_832_0) (loadQ arg4 harg4 x1 768 0 inb_S1024x512_S64x256_768_0) (loadQ arg4 harg4 x1 832 0 inb_S1024x512_S64x256_832_0) (loadV arg5 harg5 x2 768 0 inb_S1024x1024_S64x512_768_0) (loadV arg5 harg5 x2 832 0 inb_S1024x1024_S64x512_832_0) from rfl).trans ?_
  rw [v12 c arg3 harg3 arg4 harg4 arg5 harg5 arg6 harg6 arg7 harg7 arg8 harg8 arg10 harg10 x0 x1 x2 x3 x4 x5 xs0]
  simp only [readQ, readV, gateL_eq, slice_cut]
  rfl

/-- The state pair 6 of head 1 starts from. -/
theorem v13 : sq (kernelRun0_B.sl.v1581 c arg4 harg4 arg5 harg5 arg6 harg6 arg7 harg7 arg8 harg8 arg10 harg10 x1 x2 x3 x4 x5 xs0) = stt x1 x2 (k0_pay2 x3 x4 x5) 1 (headOf xs0 1) 6 :=
  (congrArg sq (((View.readCov_skip _ _ _ _ _ (by decide +kernel)).trans (View.readCov_cons_toLoadRect _ _ _ _)).trans (s11 c arg3 harg3 arg4 harg4 arg5 harg5 arg6 harg6 arg7 harg7 arg8 harg8 arg10 harg10 x0 x1 x2 x3 x4 x5 xs0))).trans (squeeze_unsqueeze _)

/-- The state pair 6 of head 1 leaves. -/
theorem s13 : (k0_pay339 (kernelRun0_B.sl.r_240 c arg4 harg4 arg5 harg5 arg6 harg6 arg7 harg7 arg8 harg8 arg10 harg10 x1 x2 x3 x4 x5 xs0) (kernelRun0_B.sl.r_242 c arg5 harg5 x2) (kernelRun0_B.sl.r_247 c arg5 harg5 x2) (kernelRun0_B.sl.r_250 c arg4 harg4 arg6 harg6 arg7 harg7 arg8 harg8 x1 x3 x4 x5) (kernelRun0_B.sl.r_251 c arg6 harg6 arg7 harg7 arg8 harg8 x3 x4 x5) (kernelRun0_B.sl.r_253 c arg4 harg4 arg6 harg6 arg7 harg7 arg8 harg8 x1 x3 x4 x5) : FVec F S1x256x512 .f32) = usq (stt x1 x2 (k0_pay2 x3 x4 x5) 1 (headOf xs0 1) 7) := by
  refine (show _ = usq (next (sq (kernelRun0_B.sl.v1581 c arg4 harg4 arg5 harg5 arg6 harg6 arg7 harg7 arg8 harg8 arg10 harg10 x1 x2 x3 x4 x5 xs0)) (cum (extractStridedSlice S64x256 ![768, 256] (gateL arg6 harg6 arg7 harg7 arg8 harg8 x3 x4 x5) slices_S1024x512_o768_256_S64x256)) (cum (extractStridedSlice S64x256 ![832, 256] (gateL arg6 harg6 arg7 harg7 arg8 harg8 x3 x4 x5) slices_S1024x512_o832_256_S64x256)) (loadQ arg4 harg4 x1 768 256 inb_S1024x512_S64x256_768_256) (loadQ arg4 harg4 x1 832 256 inb_S1024x512_S64x256_832_256) (loadV arg5 harg5 x2 768 512 inb_S1024x1024_S64x512_768_512) (loadV arg5 harg5 x2 832 512 inb_S1024x1024_S64x512_832_512)) from rfl).trans ?_
  rw [v13 c arg3 harg3 arg4 harg4 arg5 harg5 arg6 harg6 arg7 harg7 arg8 harg8 arg10 harg10 x0 x1 x2 x3 x4 x5 xs0]
  simp only [readQ, readV, gateL_eq, slice_cut]
  rfl

/-- What pair 6 of head 1 stores for its first chunk. -/
theorem a13 : (k0_pay340 (kernelRun0_B.sl.r_240 c arg4 harg4 arg5 harg5 arg6 harg6 arg7 harg7 arg8 harg8 arg10 harg10 x1 x2 x3 x4 x5 xs0) (kernelRun0_B.sl.r_243 c arg3 harg3 arg4 harg4 arg5 harg5 arg6 harg6 arg7 harg7 arg8 harg8 x0 x1 x2 x3 x4 x5) (kernelRun0_B.sl.r_252 c arg3 harg3 arg6 harg6 arg7 harg7 arg8 harg8 x0 x3 x4 x5) (kernelRun0_B.sl.r_254 c arg3 harg3 arg6 harg6 arg7 harg7 arg8 harg8 x0 x3 x4 x5) : FVec F S64x512 .bf16) = oA x0 x1 x2 (k0_pay2 x3 x4 x5) 1 (headOf xs0 1) 6 := by
  refine (show _ = outA (sq (kernelRun0_B.sl.v1581 c arg4 harg4 arg5 harg5 arg6 harg6 arg7 harg7 arg8 harg8 arg10 harg10 x1 x2 x3 x4 x5 xs0)) (cum (extractStridedSlice S64x256 ![768, 256] (gateL arg6 harg6 arg7 harg7 arg8 harg8 x3 x4 x5) slices_S1024x512_o768_256_S64x256)) (cum (extractStridedSlice S64x256 ![832, 256] (gateL arg6 harg6 arg7 harg7 arg8 harg8 x3 x4 x5) slices_S1024x512_o832_256_S64x256)) (loadQ arg3 harg3 x0 768 256 inb_S1024x512_S64x256_768_256) (loadQ arg3 harg3 x0 832 256 inb_S1024x512_S64x256_832_256) (loadQ arg4 harg4 x1 768 256 inb_S1024x512_S64x256_768_256) (loadV arg5 harg5 x2 768 512 inb_S1024x1024_S64x512_768_512) from rfl).trans ?_
  rw [v13 c arg3 harg3 arg4 harg4 arg5 harg5 arg6 harg6 arg7 harg7 arg8 harg8 arg10 harg10 x0 x1 x2 x3 x4 x5 xs0]
  simp only [readQ, readV, gateL_eq, slice_cut]
  rfl

/-- What pair 6 of head 1 stores for its second chunk. -/
theorem b13 : (k0_pay341 (kernelRun0_B.sl.r_240 c arg4 harg4 arg5 harg5 arg6 harg6 arg7 harg7 arg8 harg8 arg10 harg10 x1 x2 x3 x4 x5 xs0) (kernelRun0_B.sl.r_242 c arg5 harg5 x2) (kernelRun0_B.sl.r_246 c arg4 harg4 arg6 harg6 arg7 harg7 arg8 harg8 x1 x3 x4 x5) (kernelRun0_B.sl.r_248 c arg3 harg3 arg4 harg4 arg5 harg5 arg6 harg6 arg7 harg7 arg8 harg8 x0 x1 x2 x3 x4 x5) (kernelRun0_B.sl.r_249 c arg3 harg3 arg6 harg6 arg7 harg7 arg8 harg8 x0 x3 x4 x5) (kernelRun0_B.sl.r_252 c arg3 harg3 arg6 harg6 arg7 harg7 arg8 harg8 x0 x3 x4 x5) (kernelRun0_B.sl.r_254 c arg3 harg3 arg6 harg6 arg7 harg7 arg8 harg8 x0 x3 x4 x5) : FVec F S64x512 .bf16) = oB x0 x1 x2 (k0_pay2 x3 x4 x5) 1 (headOf xs0 1) 6 := by
  refine (show _ = outB (sq (kernelRun0_B.sl.v1581 c arg4 harg4 arg5 harg5 arg6 harg6 arg7 harg7 arg8 harg8 arg10 harg10 x1 x2 x3 x4 x5 xs0)) (cum (extractStridedSlice S64x256 ![768, 256] (gateL arg6 harg6 arg7 harg7 arg8 harg8 x3 x4 x5) slices_S1024x512_o768_256_S64x256)) (cum (extractStridedSlice S64x256 ![832, 256] (gateL arg6 harg6 arg7 harg7 arg8 harg8 x3 x4 x5) slices_S1024x512_o832_256_S64x256)) (loadQ arg3 harg3 x0 768 256 inb_S1024x512_S64x256_768_256) (loadQ arg3 harg3 x0 832 256 inb_S1024x512_S64x256_832_256) (loadQ arg4 harg4 x1 768 256 inb_S1024x512_S64x256_768_256) (loadQ arg4 harg4 x1 832 256 inb_S1024x512_S64x256_832_256) (loadV arg5 harg5 x2 768 512 inb_S1024x1024_S64x512_768_512) (loadV arg5 harg5 x2 832 512 inb_S1024x1024_S64x512_832_512) from rfl).trans ?_
  rw [v13 c arg3 harg3 arg4 harg4 arg5 harg5 arg6 harg6 arg7 harg7 arg8 harg8 arg10 harg10 x0 x1 x2 x3 x4 x5 xs0]
  simp only [readQ, readV, gateL_eq, slice_cut]
  rfl

/-- The state pair 7 of head 0 starts from. -/
theorem v14 : sq (kernelRun0_B.sl.v1700 c arg4 harg4 arg5 harg5 arg6 harg6 arg7 harg7 arg8 harg8 arg10 harg10 x1 x2 x3 x4 x5 xs0) = stt x1 x2 (k0_pay2 x3 x4 x5) 0 (headOf xs0 0) 7 :=
  (congrArg sq (((View.readCov_skip _ _ _ _ _ (by decide +kernel)).trans (View.readCov_cons_toLoadRect _ _ _ _)).trans (s12 c arg3 harg3 arg4 harg4 arg5 harg5 arg6 harg6 arg7 harg7 arg8 harg8 arg10 harg10 x0 x1 x2 x3 x4 x5 xs0))).trans (squeeze_unsqueeze _)

/-- The state pair 7 of head 0 leaves. -/
theorem s14 : (k0_pay364 (kernelRun0_B.sl.r_271 c arg4 harg4 arg5 harg5 arg6 harg6 arg7 harg7 arg8 harg8 arg10 harg10 x1 x2 x3 x4 x5 xs0) (kernelRun0_B.sl.r_272 c arg4 harg4 arg6 harg6 arg7 harg7 arg8 harg8 x1 x3 x4 x5) (kernelRun0_B.sl.r_273 c arg5 harg5 x2) kernelRun0_B.sl.cst_528 : FVec F S1x256x512 .f32) = usq (stt x1 x2 (k0_pay2 x3 x4 x5) 0 (headOf xs0 0) 8) := by
  refine (show _ = usq (next (sq (kernelRun0_B.sl.v1700 c arg4 harg4 arg5 harg5 arg6 harg6 arg7 harg7 arg8 harg8 arg10 harg10 x1 x2 x3 x4 x5 xs0)) (cum (extractStridedSlice S64x256 ![896, 0] (gateL arg6 harg6 arg7 harg7 arg8 harg8 x3 x4 x5) slices_S1024x512_o896_0_S64x256)) (cum (extractStridedSlice S64x256 ![960, 0] (gateL arg6 harg6 arg7 harg7 arg8 harg8 x3 x4 x5) slices_S1024x512_o960_0_S64x256)) (loadQ arg4 harg4 x1 896 0 inb_S1024x512_S64x256_896_0) (loadQ arg4 harg4 x1 960 0 inb_S1024x512_S64x256_960_0) (loadV arg5 harg5 x2 896 0 inb_S1024x1024_S64x512_896_0) (loadV arg5 harg5 x2 960 0 inb_S1024x1024_S64x512_960_0)) from rfl).trans ?_
  rw [v14 c arg3 harg3 arg4 harg4 arg5 harg5 arg6 harg6 arg7 harg7 arg8 harg8 arg10 harg10 x0 x1 x2 x3 x4 x5 xs0]
  simp only [readQ, readV, gateL_eq, slice_cut]
  rfl

/-- What pair 7 of head 0 stores for its first chunk. -/
theorem a14 : (k0_pay365 (kernelRun0_B.sl.r_260 c arg3 harg3 arg4 harg4 arg5 harg5 arg6 harg6 arg7 harg7 arg8 harg8 x0 x1 x2 x3 x4 x5) (kernelRun0_B.sl.r_270 c arg3 harg3 arg4 harg4 arg5 harg5 arg6 harg6 arg7 harg7 arg8 harg8 arg10 harg10 x0 x1 x2 x3 x4 x5 xs0) : FVec F S64x512 .bf16) = oA x0 x1 x2 (k0_pay2 x3 x4 x5) 0 (headOf xs0 0) 7 := by
  refine (show _ = outA (sq (kernelRun0_B.sl.v1700 c arg4 harg4 arg5 harg5 arg6 harg6 arg7 harg7 arg8 harg8 arg10 harg10 x1 x2 x3 x4 x5 xs0)) (cum (extractStridedSlice S64x256 ![896, 0] (gateL arg6 harg6 arg7 harg7 arg8 harg8 x3 x4 x5) slices_S1024x512_o896_0_S64x256)) (cum (extractStridedSlice S64x256 ![960, 0] (gateL arg6 harg6 arg7 harg7 arg8 harg8 x3 x4 x5) slices_S1024x512_o960_0_S64x256)) (loadQ arg3 harg3 x0 896 0 inb_S1024x512_S64x256_896_0) (loadQ arg3 harg3 x0 960 0 inb_S1024x512_S64x256_960_0) (loadQ arg4 harg4 x1 896 0 inb_S1024x512_S64x256_896_0) (loadV arg5 harg5 x2 896 0 inb_S1024x1024_S64x512_896_0) from rfl).trans ?_
  rw [v14 c arg3 harg3 arg4 harg4 arg5 harg5 arg6 harg6 arg7 harg7 arg8 harg8 arg10 harg10 x0 x1 x2 x3 x4 x5 xs0]
  simp only [readQ, readV, gateL_eq, slice_cut]
  rfl

/-- What pair 7 of head 0 stores for its second chunk. -/
theorem b14 : (k0_pay366 (kernelRun0_B.sl.r_269 c arg3 harg3 arg4 harg4 arg5 harg5 arg6 harg6 arg7 harg7 arg8 harg8 x0 x1 x2 x3 x4 x5) (kernelRun0_B.sl.r_270 c arg3 harg3 arg4 harg4 arg5 harg5 arg6 harg6 arg7 harg7 arg8 harg8 arg10 harg10 x0 x1 x2 x3 x4 x5 xs0) : FVec F S64x512 .bf16) = oB x0 x1 x2 (k0_pay2 x3 x4 x5) 0 (headOf xs0 0) 7 := by
  refine (show _ = outB (sq (kernelRun0_B.sl.v1700 c arg4 harg4 arg5 harg5 arg6 harg6 arg7 harg7 arg8 harg8 arg10 harg10 x1 x2 x3 x4 x5 xs0)) (cum (extractStridedSlice S64x256 ![896, 0] (gateL arg6 harg6 arg7 harg7 arg8 harg8 x3 x4 x5) slices_S1024x512_o896_0_S64x256)) (cum (extractStridedSlice S64x256 ![960, 0] (gateL arg6 harg6 arg7 harg7 arg8 harg8 x3 x4 x5) slices_S1024x512_o960_0_S64x256)) (loadQ arg3 harg3 x0 896 0 inb_S1024x512_S64x256_896_0) (loadQ arg3 harg3 x0 960 0 inb_S1024x512_S64x256_960_0) (loadQ arg4 harg4 x1 896 0 inb_S1024x512_S64x256_896_0) (loadQ arg4 harg4 x1 960 0 inb_S1024x512_S64x256_960_0) (loadV arg5 harg5 x2 896 0 inb_S1024x1024_S64x512_896_0) (loadV arg5 harg5 x2 960 0 inb_S1024x1024_S64x512_960_0) from rfl).trans ?_
  rw [v14 c arg3 harg3 arg4 harg4 arg5 harg5 arg6 harg6 arg7 harg7 arg8 harg8 arg10 harg10 x0 x1 x2 x3 x4 x5 xs0]
  simp only [readQ, readV, gateL_eq, slice_cut]
  rfl

/-- The state pair 7 of head 1 starts from. -/
theorem v15 : sq (kernelRun0_B.sl.v1819 c arg4 harg4 arg5 harg5 arg6 harg6 arg7 harg7 arg8 harg8 arg10 harg10 x1 x2 x3 x4 x5 xs0) = stt x1 x2 (k0_pay2 x3 x4 x5) 1 (headOf xs0 1) 7 :=
  (congrArg sq (((View.readCov_skip _ _ _ _ _ (by decide +kernel)).trans (View.readCov_cons_toLoadRect _ _ _ _)).trans (s13 c arg3 harg3 arg4 harg4 arg5 harg5 arg6 harg6 arg7 harg7 arg8 harg8 arg10 harg10 x0 x1 x2 x3 x4 x5 xs0))).trans (squeeze_unsqueeze _)

/-- The state pair 7 of head 1 leaves. -/
theorem s15 : (k0_pay387 (kernelRun0_B.sl.r_274 c arg4 harg4 arg5 harg5 arg6 harg6 arg7 harg7 arg8 harg8 arg10 harg10 x1 x2 x3 x4 x5 xs0) (kernelRun0_B.sl.r_276 c arg6 harg6 arg7 harg7 arg8 harg8 x3 x4 x5) (kernelRun0_B.sl.r_279 c arg5 harg5 x2) (kernelRun0_B.sl.r_284 c arg4 harg4 arg6 harg6 arg7 harg7 arg8 harg8 x1 x3 x4 x5) (kernelRun0_B.sl.r_286 c arg6 harg6 arg7 harg7 arg8 harg8 x3 x4 x5) (kernelRun0_B.sl.r_287 c arg6 harg6 arg7 harg7 arg8 harg8 x3 x4 x5) (kernelRun0_B.sl.r_289 c arg4 harg4 x1) (kernelRun0_B.sl.r_290 c arg5 harg5 x2) : FVec F S1x256x512 .f32) = usq (stt x1 x2 (k0_pay2 x3 x4 x5) 1 (headOf xs0 1) 8) := by
  refine (show _ = usq (next (sq (kernelRun0_B.sl.v1819 c arg4 harg4 arg5 harg5 arg6 harg6 arg7 harg7 arg8 harg8 arg10 harg10 x1 x2 x3 x4 x5 xs0)) (cum (extractStridedSlice S64x256 ![896, 256] (gateL arg6 harg6 arg7 harg7 arg8 harg8 x3 x4 x5) slices_S1024x512_o896_256_S64x256)) (cum (extractStridedSlice S64x256 ![960, 256] (gateL arg6 harg6 arg7 harg7 arg8 harg8 x3 x4 x5) slices_S1024x512_o960_256_S64x256)) (loadQ arg4 harg4 x1 896 256 inb_S1024x512_S64x256_896_256) (loadQ arg4 harg4 x1 960 256 inb_S1024x512_S64x256_960_256) (loadV arg5 harg5 x2 896 512 inb_S1024x1024_S64x512_896_512) (loadV arg5 harg5 x2 960 512 inb_S1024x1024_S64x512_960_512)) from rfl).trans ?_
  rw [v15 c arg3 harg3 arg4 harg4 arg5 harg5 arg6 harg6 arg7 harg7 arg8 harg8 arg10 harg10 x0 x1 x2 x3 x4 x5 xs0]
  simp only [readQ, readV, gateL_eq, slice_cut]
  rfl

/-- What pair 7 of head 1 stores for its first chunk. -/
theorem a15 : (k0_pay388 (kernelRun0_B.sl.r_274 c arg4 harg4 arg5 harg5 arg6 harg6 arg7 harg7 arg8 harg8 arg10 harg10 x1 x2 x3 x4 x5 xs0) (kernelRun0_B.sl.r_276 c arg6 harg6 arg7 harg7 arg8 harg8 x3 x4 x5) (kernelRun0_B.sl.r_282 c arg3 harg3 arg4 harg4 arg5 harg5 arg6 harg6 arg7 harg7 arg8 harg8 x0 x1 x2 x3 x4 x5) (kernelRun0_B.sl.r_283 c arg3 harg3 arg6 harg6 arg7 harg7 arg8 harg8 x0 x3 x4 x5) (kernelRun0_B.sl.r_288 c arg3 harg3 x0) (kernelRun0_B.sl.r_292 c arg6 harg6 arg7 harg7 arg8 harg8 x3 x4 x5) : FVec F S64x512 .bf16) = oA x0 x1 x2 (k0_pay2 x3 x4 x5) 1 (headOf xs0 1) 7 := by
  refine (show _ = outA (sq (kernelRun0_B.sl.v1819 c arg4 harg4 arg5 harg5 arg6 harg6 arg7 harg7 arg8 harg8 arg10 harg10 x1 x2 x3 x4 x5 xs0)) (cum (extractStridedSlice S64x256 ![896, 256] (gateL arg6 harg6 arg7 harg7 arg8 harg8 x3 x4 x5) slices_S1024x512_o896_256_S64x256)) (cum (extractStridedSlice S64x256 ![960, 256] (gateL arg6 harg6 arg7 harg7 arg8 harg8 x3 x4 x5) slices_S1024x512_o960_256_S64x256)) (loadQ arg3 harg3 x0 896 256 inb_S1024x512_S64x256_896_256) (loadQ arg3 harg3 x0 960 256 inb_S1024x512_S64x256_960_256) (loadQ arg4 harg4 x1 896 256 inb_S1024x512_S64x256_896_256) (loadV arg5 harg5 x2 896 512 inb_S1024x1024_S64x512_896_512) from rfl).trans ?_
  rw [v15 c arg3 harg3 arg4 harg4 arg5 harg5 arg6 harg6 arg7 harg7 arg8 harg8 arg10 harg10 x0 x1 x2 x3 x4 x5 xs0]
  simp only [readQ, readV, gateL_eq, slice_cut]
  rfl

/-- What pair 7 of head 1 stores for its second chunk. -/
theorem b15 : (kernelRun0_B.sl.r_293 c arg3 harg3 arg4 harg4 arg5 harg5 arg6 harg6 arg7 harg7 arg8 harg8 arg10 harg10 x0 x1 x2 x3 x4 x5 xs0 : FVec F S64x512 .bf16) = oB x0 x1 x2 (k0_pay2 x3 x4 x5) 1 (headOf xs0 1) 7 := by
  refine (show _ = outB (sq (kernelRun0_B.sl.v1819 c arg4 harg4 arg5 harg5 arg6 harg6 arg7 harg7 arg8 harg8 arg10 harg10 x1 x2 x3 x4 x5 xs0)) (cum (extractStridedSlice S64x256 ![896, 256] (gateL arg6 harg6 arg7 harg7 arg8 harg8 x3 x4 x5) slices_S1024x512_o896_256_S64x256)) (cum (extractStridedSlice S64x256 ![960, 256] (gateL arg6 harg6 arg7 harg7 arg8 harg8 x3 x4 x5) slices_S1024x512_o960_256_S64x256)) (loadQ arg3 harg3 x0 896 256 inb_S1024x512_S64x256_896_256) (loadQ arg3 harg3 x0 960 256 inb_S1024x512_S64x256_960_256) (loadQ arg4 harg4 x1 896 256 inb_S1024x512_S64x256_896_256) (loadQ arg4 harg4 x1 960 256 inb_S1024x512_S64x256_960_256) (loadV arg5 harg5 x2 896 512 inb_S1024x1024_S64x512_896_512) (loadV arg5 harg5 x2 960 512 inb_S1024x1024_S64x512_960_512) from rfl).trans ?_
  rw [v15 c arg3 harg3 arg4 harg4 arg5 harg5 arg6 harg6 arg7 harg7 arg8 harg8 arg10 harg10 x0 x1 x2 x3 x4 x5 xs0]
  simp only [readQ, readV, gateL_eq, slice_cut]
  rfl

end Cert.KernelIdeal.Gla.CaseB

end
-- ==== Proof.Gla.Block.lean ====
/- What a grid point leaves: its output block and its scratch, as one function each. -/
module

public import proofs.«01_k».proof.Proof.Gla.CaseA
public import proofs.«01_k».proof.Proof.Gla.CaseB
public import proofs.«01_k».proof.Proof.Gen.KernelIdeal.Value

@[expose] public section

set_option maxRecDepth 16384

noncomputable section

namespace Cert.KernelIdeal.Gla

open Cert.KernelIdeal Cert.KernelIdeal.Gen Idealize.ShloMosaic Idealize.ShloMosaic.TcCoe Idealize.SL.Sem

variable {F : FTy → Type} [FloatOps F] [Named F]

/-- The output block of a grid point whose heads start from the states `S`. -/
def outBlk (x0 x1 : Vec F S1024x512 .bf16) (x2 : Vec F S1024x1024 .bf16) (g : FVec F S1024x512 .f32) (S : ℕ → FVec F S256x512 .f32) :
    Vec F S1024x1024 .bf16 :=
  fun i => if (i 0).val % 128 < 64 then
      oA x0 x1 x2 g ((i 1).val / 512) (S ((i 1).val / 512)) ((i 0).val / 128) (ix2 (Fin.ofNat 64 (i 0).val) (Fin.ofNat 512 (i 1).val))
    else oB x0 x1 x2 g ((i 1).val / 512) (S ((i 1).val / 512)) ((i 0).val / 128) (ix2 (Fin.ofNat 64 (i 0).val) (Fin.ofNat 512 (i 1).val))

/-- The scratch a grid point leaves. -/
def scrBlk (x1 : Vec F S1024x512 .bf16) (x2 : Vec F S1024x1024 .bf16) (g : FVec F S1024x512 .f32) (S : ℕ → FVec F S256x512 .f32) :
    Vec F S2x256x512 .f32 :=
  fun i => stt x1 x2 g (i 0).val (S (i 0).val) 8 (ix2 (i 1) (i 2))

/-- A first chunk's output is its part of the block. -/
theorem pieceA (x0 x1 : Vec F S1024x512 .bf16) (x2 : Vec F S1024x1024 .bf16) (g : FVec F S1024x512 .f32) (S : ℕ → FVec F S256x512 .f32)
    (h c : ℕ) (inb : ∀ a, (![128 * c, 512 * h] : Fin 2 → ℕ) a + S64x512.size a ≤ S1024x1024.size a) (x : S64x512.Idx) :
    oA x0 x1 x2 g h (S h) c x = outBlk x0 x1 x2 g S ((Rect.unit (s := S1024x1024) ![128 * c, 512 * h] S64x512.size inb).emb x) := by
  have e0 : ((Rect.unit (s := S1024x1024) ![128 * c, 512 * h] S64x512.size inb).emb x 0).val = 128 * c + 1 * (x 0).val := rfl
  have e1 : ((Rect.unit (s := S1024x1024) ![128 * c, 512 * h] S64x512.size inb).emb x 1).val = 512 * h + 1 * (x 1).val := rfl
  have x0' : (x 0).val < 64 := (x 0).isLt
  have x1' : (x 1).val < 512 := (x 1).isLt
  unfold outBlk
  rw [e0, e1, if_pos (by omega), show (512 * h + 1 * (x 1).val) / 512 = h by omega, show (128 * c + 1 * (x 0).val) / 128 = c by omega]
  congr 1
  funext a
  match a with
  | ⟨0, _⟩ => exact Fin.ext (by show (x 0).val = (128 * c + 1 * (x 0).val) % 64; omega)
  | ⟨1, _⟩ => exact Fin.ext (by show (x 1).val = (512 * h + 1 * (x 1).val) % 512; omega)

/-- A second chunk's output is its part of the block. -/
theorem pieceB (x0 x1 : Vec F S1024x512 .bf16) (x2 : Vec F S1024x1024 .bf16) (g : FVec F S1024x512 .f32) (S : ℕ → FVec F S256x512 .f32)
    (h c : ℕ) (inb : ∀ a, (![128 * c + 64, 512 * h] : Fin 2 → ℕ) a + S64x512.size a ≤ S1024x1024.size a) (x : S64x512.Idx) :
    oB x0 x1 x2 g h (S h) c x = outBlk x0 x1 x2 g S ((Rect.unit (s := S1024x1024) ![128 * c + 64, 512 * h] S64x512.size inb).emb x) := by
  have e0 : ((Rect.unit (s := S1024x1024) ![128 * c + 64, 512 * h] S64x512.size inb).emb x 0).val = 128 * c + 64 + 1 * (x 0).val := rfl
  have e1 : ((Rect.unit (s := S1024x1024) ![128 * c + 64, 512 * h] S64x512.size inb).emb x 1).val = 512 * h + 1 * (x 1).val := rfl
  have x0' : (x 0).val < 64 := (x 0).isLt
  have x1' : (x 1).val < 512 := (x 1).isLt
  unfold outBlk
  rw [e0, e1, if_neg (by omega), show (512 * h + 1 * (x 1).val) / 512 = h by omega, show (128 * c + 64 + 1 * (x 0).val) / 128 = c by omega]
  congr 1
  funext a
  match a with
  | ⟨0, _⟩ => exact Fin.ext (by show (x 0).val = (128 * c + 64 + 1 * (x 0).val) % 64; omega)
  | ⟨1, _⟩ => exact Fin.ext (by show (x 1).val = (512 * h + 1 * (x 1).val) % 512; omega)

/-- A head's last state is its part of the scratch. -/
theorem pieceS (x1 : Vec F S1024x512 .bf16) (x2 : Vec F S1024x1024 .bf16) (g : FVec F S1024x512 .f32) (S : ℕ → FVec F S256x512 .f32)
    (h : ℕ) (inb : ∀ a, (![h, 0, 0] : Fin 3 → ℕ) a + S1x256x512.size a ≤ S2x256x512.size a) (x : S1x256x512.Idx) :
    usq (stt x1 x2 g h (S h) 8) x = scrBlk x1 x2 g S ((Rect.unit (s := S2x256x512) ![h, 0, 0] S1x256x512.size inb).emb x) := by
  have e0 : ((Rect.unit (s := S2x256x512) ![h, 0, 0] S1x256x512.size inb).emb x 0).val = h + 1 * (x 0).val := rfl
  have x0' : (x 0).val < 1 := (x 0).isLt
  unfold scrBlk
  rw [e0, show h + 1 * (x 0).val = h by omega]
  refine (unsqueeze _ _ x).trans (congrArg (stt x1 x2 g h (S h) 8) (funext fun a => ?_))
  match a with
  | ⟨0, _⟩ => exact Fin.ext (by show (x 1).val = 0 + 1 * (x 1).val; omega)
  | ⟨1, _⟩ => exact Fin.ext (by show (x 2).val = 0 + 1 * (x 2).val; omega)

/-- Two last stores that cover the buffer decide what it holds. -/
theorem lastTwo (p0 p1 : S1x256x512.Idx → Elt F .f32) (H : S2x256x512.Idx → Elt F .f32) (L : List (View.Piece (Elt F) S2x256x512 .f32))
    (i0 : ∀ a, (![0, 0, 0] : Fin 3 → ℕ) a + S1x256x512.size a ≤ S2x256x512.size a)
    (i1 : ∀ a, (![1, 0, 0] : Fin 3 → ℕ) a + S1x256x512.size a ≤ S2x256x512.size a)
    (h1 : ∀ x, p1 x = H ((Rect.unit (s := S2x256x512) ![1, 0, 0] S1x256x512.size i1).emb x))
    (h0 : ∀ x, p0 x = H ((Rect.unit (s := S2x256x512) ![0, 0, 0] S1x256x512.size i0).emb x)) :
    View.canon (⟨Rect.unit (s := S2x256x512) ![1, 0, 0] S1x256x512.size i1, p1⟩ :: ⟨Rect.unit (s := S2x256x512) ![0, 0, 0] S1x256x512.size i0, p0⟩ :: L) = H := by
  funext y
  refine View.canon_append_of_piecesOf (s := S2x256x512) H L [⟨Rect.unit (s := S2x256x512) ![1, 0, 0] S1x256x512.size i1, p1⟩, ⟨Rect.unit (s := S2x256x512) ![0, 0, 0] S1x256x512.size i0, p0⟩] ⟨h1, h0, trivial⟩ y ?_
  exact View.cover_of_tiledL [⟨Rect.unit (s := S2x256x512) ![1, 0, 0] S1x256x512.size i1, p1⟩, ⟨Rect.unit (s := S2x256x512) ![0, 0, 0] S1x256x512.size i0, p0⟩] S1x256x512.size (by rfl) y

/-- Every store of case A into the output block is its part of one block. -/
theorem piecesA (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1024 .bf16) (harg5 : arg5.IsWhole) (arg6 : Memref sig .tc .vmem S1024x128 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1024x1024 .bf16) (harg9 : arg9.IsWhole) (arg10 : Memref sig .tc .vmem S2x256x512 .f32) (harg10 : arg10.IsWhole) (hc0 : cond0_0 i)
    (x0 : Vec F S1024x512 .bf16) (x1 : Vec F S1024x512 .bf16) (x2 : Vec F S1024x1024 .bf16) (x3 : Vec F S1024x128 .bf16) (x4 : Vec F S128x512 .bf16) (x5 : Vec F S1x512 .f32) :
    View.PiecesOf (outBlk x0 x1 x2 (k0_pay2 x3 x4 x5) (headOf k0_pay1)) (kernelRun0_A c i arg3 harg3 arg4 harg4 arg5 harg5 arg6 harg6 arg7 harg7 arg8 harg8 arg9 harg9 arg10 harg10 hc0 x0 x1 x2 x3 x4 x5).1 :=
  ⟨fun x => (congrFun (CaseA.b15 c arg3 harg3 arg4 harg4 arg5 harg5 arg6 harg6 arg7 harg7 arg8 harg8 arg10 harg10 x0 x1 x2 x3 x4 x5) x).trans (pieceB x0 x1 x2 (k0_pay2 x3 x4 x5) (headOf k0_pay1) 1 7 inb_S1024x1024_S64x512_960_512 x),
   fun x => (congrFun (CaseA.a15 c arg3 harg3 arg4 harg4 arg5 harg5 arg6 harg6 arg7 harg7 arg8 harg8 arg10 harg10 x0 x1 x2 x3 x4 x5) x).trans (pieceA x0 x1 x2 (k0_pay2 x3 x4 x5) (headOf k0_pay1) 1 7 inb_S1024x1024_S64x512_896_512 x),
   fun x => (congrFun (CaseA.b14 c arg3 harg3 arg4 harg4 arg5 harg5 arg6 harg6 arg7 harg7 arg8 harg8 arg10 harg10 x0 x1 x2 x3 x4 x5) x).trans (pieceB x0 x1 x2 (k0_pay2 x3 x4 x5) (headOf k0_pay1) 0 7 inb_S1024x1024_S64x512_960_0 x),
   fun x => (congrFun (CaseA.a14 c arg3 harg3 arg4 harg4 arg5 harg5 arg6 harg6 arg7 harg7 arg8 harg8 arg10 harg10 x0 x1 x2 x3 x4 x5) x).trans (pieceA x0 x1 x2 (k0_pay2 x3 x4 x5) (headOf k0_pay1) 0 7 inb_S1024x1024_S64x512_896_0 x),
   fun x => (congrFun (CaseA.b13 c arg3 harg3 arg4 harg4 arg5 harg5 arg6 harg6 arg7 harg7 arg8 harg8 arg10 harg10 x0 x1 x2 x3 x4 x5) x).trans (pieceB x0 x1 x2 (k0_pay2 x3 x4 x5) (headOf k0_pay1) 1 6 inb_S1024x1024_S64x512_832_512 x),
   fun x => (congrFun (CaseA.a13 c arg3 harg3 arg4 harg4 arg5 harg5 arg6 harg6 arg7 harg7 arg8 harg8 arg10 harg10 x0 x1 x2 x3 x4 x5) x).trans (pieceA x0 x1 x2 (k0_pay2 x3 x4 x5) (headOf k0_pay1) 1 6 inb_S1024x1024_S64x512_768_512 x),
   fun x => (congrFun (CaseA.b12 c arg3 harg3 arg4 harg4 arg5 harg5 arg6 harg6 arg7 harg7 arg8 harg8 arg10 harg10 x0 x1 x2 x3 x4 x5) x).trans (pieceB x0 x1 x2 (k0_pay2 x3 x4 x5) (headOf k0_pay1) 0 6 inb_S1024x1024_S64x512_832_0 x),
   fun x => (congrFun (CaseA.a12 c arg3 harg3 arg4 harg4 arg5 harg5 arg6 harg6 arg7 harg7 arg8 harg8 arg10 harg10 x0 x1 x2 x3 x4 x5) x).trans (pieceA x0 x1 x2 (k0_pay2 x3 x4 x5) (headOf k0_pay1) 0 6 inb_S1024x1024_S64x512_768_0 x),
   fun x => (congrFun (CaseA.b11 c arg3 harg3 arg4 harg4 arg5 harg5 arg6 harg6 arg7 harg7 arg8 harg8 arg10 harg10 x0 x1 x2 x3 x4 x5) x).trans (pieceB x0 x1 x2 (k0_pay2 x3 x4 x5) (headOf k0_pay1) 1 5 inb_S1024x1024_S64x512_704_512 x),
   fun x => (congrFun (CaseA.a11 c arg3 harg3 arg4 harg4 arg5 harg5 arg6 harg6 arg7 harg7 arg8 harg8 arg10 harg10 x0 x1 x2 x3 x4 x5) x).trans (pieceA x0 x1 x2 (k0_pay2 x3 x4 x5) (headOf k0_pay1) 1 5 inb_S1024x1024_S64x512_640_512 x),
   fun x => (congrFun (CaseA.b10 c arg3 harg3 arg4 harg4 arg5 harg5 arg6 harg6 arg7 harg7 arg8 harg8 arg10 harg10 x0 x1 x2 x3 x4 x5) x).trans (pieceB x0 x1 x2 (k0_pay2 x3 x4 x5) (headOf k0_pay1) 0 5 inb_S1024x1024_S64x512_704_0 x),
   fun x => (congrFun (CaseA.a10 c arg3 harg3 arg4 harg4 arg5 harg5 arg6 harg6 arg7 harg7 arg8 harg8 arg10 harg10 x0 x1 x2 x3 x4 x5) x).trans (pieceA x0 x1 x2 (k0_pay2 x3 x4 x5) (headOf k0_pay1) 0 5 inb_S1024x1024_S64x512_640_0 x),
   fun x => (congrFun (CaseA.b9 c arg3 harg3 arg4 harg4 arg5 harg5 arg6 harg6 arg7 harg7 arg8 harg8 arg10 harg10 x0 x1 x2 x3 x4 x5) x).trans (pieceB x0 x1 x2 (k0_pay2 x3 x4 x5) (headOf k0_pay1) 1 4 inb_S1024x1024_S64x512_576_512 x),
   fun x => (congrFun (CaseA.a9 c arg3 harg3 arg4 harg4 arg5 harg5 arg6 harg6 arg7 harg7 arg8 harg8 arg10 harg10 x0 x1 x2 x3 x4 x5) x).trans (pieceA x0 x1 x2 (k0_pay2 x3 x4 x5) (headOf k0_pay1) 1 4 inb_S1024x1024_S64x512_512_512 x),
   fun x => (congrFun (CaseA.b8 c arg3 harg3 arg4 harg4 arg5 harg5 arg6 harg6 arg7 harg7 arg8 harg8 arg10 harg10 x0 x1 x2 x3 x4 x5) x).trans (pieceB x0 x1 x2 (k0_pay2 x3 x4 x5) (headOf k0_pay1) 0 4 inb_S1024x1024_S64x512_576_0 x),
   fun x => (congrFun (CaseA.a8 c arg3 harg3 arg4 harg4 arg5 harg5 arg6 harg6 arg7 harg7 arg8 harg8 arg10 harg10 x0 x1 x2 x3 x4 x5) x).trans (pieceA x0 x1 x2 (k0_pay2 x3 x4 x5) (headOf k0_pay1) 0 4 inb_S1024x1024_S64x512_512_0 x),
   fun x => (congrFun (CaseA.b7 c arg3 harg3 arg4 harg4 arg5 harg5 arg6 harg6 arg7 harg7 arg8 harg8 arg10 harg10 x0 x1 x2 x3 x4 x5) x).trans (pieceB x0 x1 x2 (k0_pay2 x3 x4 x5) (headOf k0_pay1) 1 3 inb_S1024x1024_S64x512_448_512 x),
   fun x => (congrFun (CaseA.a7 c arg3 harg3 arg4 harg4 arg5 harg5 arg6 harg6 arg7 harg7 arg8 harg8 arg10 harg10 x0 x1 x2 x3 x4 x5) x).trans (pieceA x0 x1 x2 (k0_pay2 x3 x4 x5) (headOf k0_pay1) 1 3 inb_S1024x1024_S64x512_384_512 x),
   fun x => (congrFun (CaseA.b6 c arg3 harg3 arg4 harg4 arg5 harg5 arg6 harg6 arg7 harg7 arg8 harg8 arg10 harg10 x0 x1 x2 x3 x4 x5) x).trans (pieceB x0 x1 x2 (k0_pay2 x3 x4 x5) (headOf k0_pay1) 0 3 inb_S1024x1024_S64x512_448_0 x),
   fun x => (congrFun (CaseA.a6 c arg3 harg3 arg4 harg4 arg5 harg5 arg6 harg6 arg7 harg7 arg8 harg8 arg10 harg10 x0 x1 x2 x3 x4 x5) x).trans (pieceA x0 x1 x2 (k0_pay2 x3 x4 x5) (headOf k0_pay1) 0 3 inb_S1024x1024_S64x512_384_0 x),
   fun x => (congrFun (CaseA.b5 c arg3 harg3 arg4 harg4 arg5 harg5 arg6 harg6 arg7 harg7 arg8 harg8 arg10 harg10 x0 x1 x2 x3 x4 x5) x).trans (pieceB x0 x1 x2 (k0_pay2 x3 x4 x5) (headOf k0_pay1) 1 2 inb_S1024x1024_S64x512_320_512 x),
   fun x => (congrFun (CaseA.a5 c arg3 harg3 arg4 harg4 arg5 harg5 arg6 harg6 arg7 harg7 arg8 harg8 arg10 harg10 x0 x1 x2 x3 x4 x5) x).trans (pieceA x0 x1 x2 (k0_pay2 x3 x4 x5) (headOf k0_pay1) 1 2 inb_S1024x1024_S64x512_256_512 x),
   fun x => (congrFun (CaseA.b4 c arg3 harg3 arg4 harg4 arg5 harg5 arg6 harg6 arg7 harg7 arg8 harg8 arg10 harg10 x0 x1 x2 x3 x4 x5) x).trans (pieceB x0 x1 x2 (k0_pay2 x3 x4 x5) (headOf k0_pay1) 0 2 inb_S1024x1024_S64x512_320_0 x),
   fun x => (congrFun (CaseA.a4 c arg3 harg3 arg4 harg4 arg5 harg5 arg6 harg6 arg7 harg7 arg8 harg8 arg10 harg10 x0 x1 x2 x3 x4 x5) x).trans (pieceA x0 x1 x2 (k0_pay2 x3 x4 x5) (headOf k0_pay1) 0 2 inb_S1024x1024_S64x512_256_0 x),
   fun x => (congrFun (CaseA.b3 c arg3 harg3 arg4 harg4 arg5 harg5 arg6 harg6 arg7 harg7 arg8 harg8 arg10 harg10 x0 x1 x2 x3 x4 x5) x).trans (pieceB x0 x1 x2 (k0_pay2 x3 x4 x5) (headOf k0_pay1) 1 1 inb_S1024x1024_S64x512_192_512 x),
   fun x => (congrFun (CaseA.a3 c arg3 harg3 arg4 harg4 arg5 harg5 arg6 harg6 arg7 harg7 arg8 harg8 arg10 harg10 x0 x1 x2 x3 x4 x5) x).trans (pieceA x0 x1 x2 (k0_pay2 x3 x4 x5) (headOf k0_pay1) 1 1 inb_S1024x1024_S64x512_128_512 x),
   fun x => (congrFun (CaseA.b2 c arg3 harg3 arg4 harg4 arg5 harg5 arg6 harg6 arg7 harg7 arg8 harg8 arg10 harg10 x0 x1 x2 x3 x4 x5) x).trans (pieceB x0 x1 x2 (k0_pay2 x3 x4 x5) (headOf k0_pay1) 0 1 inb_S1024x1024_S64x512_192_0 x),
   fun x => (congrFun (CaseA.a2 c arg3 harg3 arg4 harg4 arg5 harg5 arg6 harg6 arg7 harg7 arg8 harg8 arg10 harg10 x0 x1 x2 x3 x4 x5) x).trans (pieceA x0 x1 x2 (k0_pay2 x3 x4 x5) (headOf k0_pay1) 0 1 inb_S1024x1024_S64x512_128_0 x),
   fun x => (congrFun (CaseA.b1 c arg3 harg3 arg4 harg4 arg5 harg5 arg6 harg6 arg7 harg7 arg8 harg8 arg10 harg10 x0 x1 x2 x3 x4 x5) x).trans (pieceB x0 x1 x2 (k0_pay2 x3 x4 x5) (headOf k0_pay1) 1 0 inb_S1024x1024_S64x512_64_512 x),
   fun x => (congrFun (CaseA.a1 c arg3 harg3 arg4 harg4 arg5 harg5 arg6 harg6 arg7 harg7 arg8 harg8 arg10 harg10 x0 x1 x2 x3 x4 x5) x).trans (pieceA x0 x1 x2 (k0_pay2 x3 x4 x5) (headOf k0_pay1) 1 0 inb_S1024x1024_S64x512_0_512 x),
   fun x => (congrFun (CaseA.b0 c arg3 harg3 arg4 harg4 arg5 harg5 arg6 harg6 arg7 harg7 arg8 harg8 arg10 harg10 x0 x1 x2 x3 x4 x5) x).trans (pieceB x0 x1 x2 (k0_pay2 x3 x4 x5) (headOf k0_pay1) 0 0 inb_S1024x1024_S64x512_64_0 x),
   fun x => (congrFun (CaseA.a0 c arg3 harg3 arg4 harg4 arg5 harg5 arg6 harg6 arg7 harg7 arg8 harg8 arg10 harg10 x0 x1 x2 x3 x4 x5) x).trans (pieceA x0 x1 x2 (k0_pay2 x3 x4 x5) (headOf k0_pay1) 0 0 inb_S1024x1024_S64x512_0_0 x),
   trivial⟩

/-- The output block of a grid point in case A. -/
theorem left6_A (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1024 .bf16) (harg5 : arg5.IsWhole) (arg6 : Memref sig .tc .vmem S1024x128 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1024x1024 .bf16) (harg9 : arg9.IsWhole) (arg10 : Memref sig .tc .vmem S2x256x512 .f32) (harg10 : arg10.IsWhole) (hc0 : cond0_0 i)
    (x0 : Vec F S1024x512 .bf16) (x1 : Vec F S1024x512 .bf16) (x2 : Vec F S1024x1024 .bf16) (x3 : Vec F S1024x128 .bf16) (x4 : Vec F S128x512 .bf16) (x5 : Vec F S1x512 .f32) :
    out0_A_6 c i arg3 harg3 arg4 harg4 arg5 harg5 arg6 harg6 arg7 harg7 arg8 harg8 arg9 harg9 arg10 harg10 hc0 x0 x1 x2 x3 x4 x5 = outBlk x0 x1 x2 (k0_pay2 x3 x4 x5) (headOf k0_pay1) := by
  unfold out0_A_6
  rw [View.read_writes_eq_canon _ _ _ (cover0_A_6 c i arg3 harg3 arg4 harg4 arg5 harg5 arg6 harg6 arg7 harg7 arg8 harg8 arg9 harg9 arg10 harg10 hc0 x0 x1 x2 x3 x4 x5)]
  funext y
  exact View.canon_apply_of_pieces _ _ (piecesA c i arg3 harg3 arg4 harg4 arg5 harg5 arg6 harg6 arg7 harg7 arg8 harg8 arg9 harg9 arg10 harg10 hc0 x0 x1 x2 x3 x4 x5).mem y (cover0_A_6 c i arg3 harg3 arg4 harg4 arg5 harg5 arg6 harg6 arg7 harg7 arg8 harg8 arg9 harg9 arg10 harg10 hc0 x0 x1 x2 x3 x4 x5 y)

/-- The scratch a grid point in case A leaves. -/
theorem leftS_A (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1024 .bf16) (harg5 : arg5.IsWhole) (arg6 : Memref sig .tc .vmem S1024x128 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1024x1024 .bf16) (harg9 : arg9.IsWhole) (arg10 : Memref sig .tc .vmem S2x256x512 .f32) (harg10 : arg10.IsWhole) (hc0 : cond0_0 i)
    (x0 : Vec F S1024x512 .bf16) (x1 : Vec F S1024x512 .bf16) (x2 : Vec F S1024x1024 .bf16) (x3 : Vec F S1024x128 .bf16) (x4 : Vec F S128x512 .bf16) (x5 : Vec F S1x512 .f32) :
    sout0_A_0 c i arg3 harg3 arg4 harg4 arg5 harg5 arg6 harg6 arg7 harg7 arg8 harg8 arg9 harg9 arg10 harg10 hc0 x0 x1 x2 x3 x4 x5 = scrBlk x1 x2 (k0_pay2 x3 x4 x5) (headOf k0_pay1) := by
  unfold sout0_A_0
  rw [View.read_writes_eq_canon _ _ _ (scover0_A_0 c i arg3 harg3 arg4 harg4 arg5 harg5 arg6 harg6 arg7 harg7 arg8 harg8 arg9 harg9 arg10 harg10 hc0 x0 x1 x2 x3 x4 x5)]
  exact lastTwo _ _ _ _ inb_S2x256x512_S1x256x512_0_0_0 inb_S2x256x512_S1x256x512_1_0_0
    (fun x => (congrFun (CaseA.s15 c arg3 harg3 arg4 harg4 arg5 harg5 arg6 harg6 arg7 harg7 arg8 harg8 arg10 harg10 x0 x1 x2 x3 x4 x5) x).trans (pieceS x1 x2 (k0_pay2 x3 x4 x5) (headOf k0_pay1) 1 inb_S2x256x512_S1x256x512_1_0_0 x))
    (fun x => (congrFun (CaseA.s14 c arg3 harg3 arg4 harg4 arg5 harg5 arg6 harg6 arg7 harg7 arg8 harg8 arg10 harg10 x0 x1 x2 x3 x4 x5) x).trans (pieceS x1 x2 (k0_pay2 x3 x4 x5) (headOf k0_pay1) 0 inb_S2x256x512_S1x256x512_0_0_0 x))

/-- Every store of case B into the output block is its part of one block. -/
theorem piecesB (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1024 .bf16) (harg5 : arg5.IsWhole) (arg6 : Memref sig .tc .vmem S1024x128 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1024x1024 .bf16) (harg9 : arg9.IsWhole) (arg10 : Memref sig .tc .vmem S2x256x512 .f32) (harg10 : arg10.IsWhole) (hc0 : ¬cond0_0 i)
    (x0 : Vec F S1024x512 .bf16) (x1 : Vec F S1024x512 .bf16) (x2 : Vec F S1024x1024 .bf16) (x3 : Vec F S1024x128 .bf16) (x4 : Vec F S128x512 .bf16) (x5 : Vec F S1x512 .f32) (xs0 : Vec F S2x256x512 .f32) :
    View.PiecesOf (outBlk x0 x1 x2 (k0_pay2 x3 x4 x5) (headOf xs0)) (kernelRun0_B c i arg3 harg3 arg4 harg4 arg5 harg5 arg6 harg6 arg7 harg7 arg8 harg8 arg9 harg9 arg10 harg10 hc0 x0 x1 x2 x3 x4 x5 xs0).1 :=
  ⟨fun x => (congrFun (CaseB.b15 c arg3 harg3 arg4 harg4 arg5 harg5 arg6 harg6 arg7 harg7 arg8 harg8 arg10 harg10 x0 x1 x2 x3 x4 x5 xs0) x).trans (pieceB x0 x1 x2 (k0_pay2 x3 x4 x5) (headOf xs0) 1 7 inb_S1024x1024_S64x512_960_512 x),
   fun x => (congrFun (CaseB.a15 c arg3 harg3 arg4 harg4 arg5 harg5 arg6 harg6 arg7 harg7 arg8 harg8 arg10 harg10 x0 x1 x2 x3 x4 x5 xs0) x).trans (pieceA x0 x1 x2 (k0_pay2 x3 x4 x5) (headOf xs0) 1 7 inb_S1024x1024_S64x512_896_512 x),
   fun x => (congrFun (CaseB.b14 c arg3 harg3 arg4 harg4 arg5 harg5 arg6 harg6 arg7 harg7 arg8 harg8 arg10 harg10 x0 x1 x2 x3 x4 x5 xs0) x).trans (pieceB x0 x1 x2 (k0_pay2 x3 x4 x5) (headOf xs0) 0 7 inb_S1024x1024_S64x512_960_0 x),
   fun x => (congrFun (CaseB.a14 c arg3 harg3 arg4 harg4 arg5 harg5 arg6 harg6 arg7 harg7 arg8 harg8 arg10 harg10 x0 x1 x2 x3 x4 x5 xs0) x).trans (pieceA x0 x1 x2 (k0_pay2 x3 x4 x5) (headOf xs0) 0 7 inb_S1024x1024_S64x512_896_0 x),
   fun x => (congrFun (CaseB.b13 c arg3 harg3 arg4 harg4 arg5 harg5 arg6 harg6 arg7 harg7 arg8 harg8 arg10 harg10 x0 x1 x2 x3 x4 x5 xs0) x).trans (pieceB x0 x1 x2 (k0_pay2 x3 x4 x5) (headOf xs0) 1 6 inb_S1024x1024_S64x512_832_512 x),
   fun x => (congrFun (CaseB.a13 c arg3 harg3 arg4 harg4 arg5 harg5 arg6 harg6 arg7 harg7 arg8 harg8 arg10 harg10 x0 x1 x2 x3 x4 x5 xs0) x).trans (pieceA x0 x1 x2 (k0_pay2 x3 x4 x5) (headOf xs0) 1 6 inb_S1024x1024_S64x512_768_512 x),
   fun x => (congrFun (CaseB.b12 c arg3 harg3 arg4 harg4 arg5 harg5 arg6 harg6 arg7 harg7 arg8 harg8 arg10 harg10 x0 x1 x2 x3 x4 x5 xs0) x).trans (pieceB x0 x1 x2 (k0_pay2 x3 x4 x5) (headOf xs0) 0 6 inb_S1024x1024_S64x512_832_0 x),
   fun x => (congrFun (CaseB.a12 c arg3 harg3 arg4 harg4 arg5 harg5 arg6 harg6 arg7 harg7 arg8 harg8 arg10 harg10 x0 x1 x2 x3 x4 x5 xs0) x).trans (pieceA x0 x1 x2 (k0_pay2 x3 x4 x5) (headOf xs0) 0 6 inb_S1024x1024_S64x512_768_0 x),
   fun x => (congrFun (CaseB.b11 c arg3 harg3 arg4 harg4 arg5 harg5 arg6 harg6 arg7 harg7 arg8 harg8 arg10 harg10 x0 x1 x2 x3 x4 x5 xs0) x).trans (pieceB x0 x1 x2 (k0_pay2 x3 x4 x5) (headOf xs0) 1 5 inb_S1024x1024_S64x512_704_512 x),
   fun x => (congrFun (CaseB.a11 c arg3 harg3 arg4 harg4 arg5 harg5 arg6 harg6 arg7 harg7 arg8 harg8 arg10 harg10 x0 x1 x2 x3 x4 x5 xs0) x).trans (pieceA x0 x1 x2 (k0_pay2 x3 x4 x5) (headOf xs0) 1 5 inb_S1024x1024_S64x512_640_512 x),
   fun x => (congrFun (CaseB.b10 c arg3 harg3 arg4 harg4 arg5 harg5 arg6 harg6 arg7 harg7 arg8 harg8 arg10 harg10 x0 x1 x2 x3 x4 x5 xs0) x).trans (pieceB x0 x1 x2 (k0_pay2 x3 x4 x5) (headOf xs0) 0 5 inb_S1024x1024_S64x512_704_0 x),
   fun x => (congrFun (CaseB.a10 c arg3 harg3 arg4 harg4 arg5 harg5 arg6 harg6 arg7 harg7 arg8 harg8 arg10 harg10 x0 x1 x2 x3 x4 x5 xs0) x).trans (pieceA x0 x1 x2 (k0_pay2 x3 x4 x5) (headOf xs0) 0 5 inb_S1024x1024_S64x512_640_0 x),
   fun x => (congrFun (CaseB.b9 c arg3 harg3 arg4 harg4 arg5 harg5 arg6 harg6 arg7 harg7 arg8 harg8 arg10 harg10 x0 x1 x2 x3 x4 x5 xs0) x).trans (pieceB x0 x1 x2 (k0_pay2 x3 x4 x5) (headOf xs0) 1 4 inb_S1024x1024_S64x512_576_512 x),
   fun x => (congrFun (CaseB.a9 c arg3 harg3 arg4 harg4 arg5 harg5 arg6 harg6 arg7 harg7 arg8 harg8 arg10 harg10 x0 x1 x2 x3 x4 x5 xs0) x).trans (pieceA x0 x1 x2 (k0_pay2 x3 x4 x5) (headOf xs0) 1 4 inb_S1024x1024_S64x512_512_512 x),
   fun x => (congrFun (CaseB.b8 c arg3 harg3 arg4 harg4 arg5 harg5 arg6 harg6 arg7 harg7 arg8 harg8 arg10 harg10 x0 x1 x2 x3 x4 x5 xs0) x).trans (pieceB x0 x1 x2 (k0_pay2 x3 x4 x5) (headOf xs0) 0 4 inb_S1024x1024_S64x512_576_0 x),
   fun x => (congrFun (CaseB.a8 c arg3 harg3 arg4 harg4 arg5 harg5 arg6 harg6 arg7 harg7 arg8 harg8 arg10 harg10 x0 x1 x2 x3 x4 x5 xs0) x).trans (pieceA x0 x1 x2 (k0_pay2 x3 x4 x5) (headOf xs0) 0 4 inb_S1024x1024_S64x512_512_0 x),
   fun x => (congrFun (CaseB.b7 c arg3 harg3 arg4 harg4 arg5 harg5 arg6 harg6 arg7 harg7 arg8 harg8 arg10 harg10 x0 x1 x2 x3 x4 x5 xs0) x).trans (pieceB x0 x1 x2 (k0_pay2 x3 x4 x5) (headOf xs0) 1 3 inb_S1024x1024_S64x512_448_512 x),
   fun x => (congrFun (CaseB.a7 c arg3 harg3 arg4 harg4 arg5 harg5 arg6 harg6 arg7 harg7 arg8 harg8 arg10 harg10 x0 x1 x2 x3 x4 x5 xs0) x).trans (pieceA x0 x1 x2 (k0_pay2 x3 x4 x5) (headOf xs0) 1 3 inb_S1024x1024_S64x512_384_512 x),
   fun x => (congrFun (CaseB.b6 c arg3 harg3 arg4 harg4 arg5 harg5 arg6 harg6 arg7 harg7 arg8 harg8 arg10 harg10 x0 x1 x2 x3 x4 x5 xs0) x).trans (pieceB x0 x1 x2 (k0_pay2 x3 x4 x5) (headOf xs0) 0 3 inb_S1024x1024_S64x512_448_0 x),
   fun x => (congrFun (CaseB.a6 c arg3 harg3 arg4 harg4 arg5 harg5 arg6 harg6 arg7 harg7 arg8 harg8 arg10 harg10 x0 x1 x2 x3 x4 x5 xs0) x).trans (pieceA x0 x1 x2 (k0_pay2 x3 x4 x5) (headOf xs0) 0 3 inb_S1024x1024_S64x512_384_0 x),
   fun x => (congrFun (CaseB.b5 c arg3 harg3 arg4 harg4 arg5 harg5 arg6 harg6 arg7 harg7 arg8 harg8 arg10 harg10 x0 x1 x2 x3 x4 x5 xs0) x).trans (pieceB x0 x1 x2 (k0_pay2 x3 x4 x5) (headOf xs0) 1 2 inb_S1024x1024_S64x512_320_512 x),
   fun x => (congrFun (CaseB.a5 c arg3 harg3 arg4 harg4 arg5 harg5 arg6 harg6 arg7 harg7 arg8 harg8 arg10 harg10 x0 x1 x2 x3 x4 x5 xs0) x).trans (pieceA x0 x1 x2 (k0_pay2 x3 x4 x5) (headOf xs0) 1 2 inb_S1024x1024_S64x512_256_512 x),
   fun x => (congrFun (CaseB.b4 c arg3 harg3 arg4 harg4 arg5 harg5 arg6 harg6 arg7 harg7 arg8 harg8 arg10 harg10 x0 x1 x2 x3 x4 x5 xs0) x).trans (pieceB x0 x1 x2 (k0_pay2 x3 x4 x5) (headOf xs0) 0 2 inb_S1024x1024_S64x512_320_0 x),
   fun x => (congrFun (CaseB.a4 c arg3 harg3 arg4 harg4 arg5 harg5 arg6 harg6 arg7 harg7 arg8 harg8 arg10 harg10 x0 x1 x2 x3 x4 x5 xs0) x).trans (pieceA x0 x1 x2 (k0_pay2 x3 x4 x5) (headOf xs0) 0 2 inb_S1024x1024_S64x512_256_0 x),
   fun x => (congrFun (CaseB.b3 c arg3 harg3 arg4 harg4 arg5 harg5 arg6 harg6 arg7 harg7 arg8 harg8 arg10 harg10 x0 x1 x2 x3 x4 x5 xs0) x).trans (pieceB x0 x1 x2 (k0_pay2 x3 x4 x5) (headOf xs0) 1 1 inb_S1024x1024_S64x512_192_512 x),
   fun x => (congrFun (CaseB.a3 c arg3 harg3 arg4 harg4 arg5 harg5 arg6 harg6 arg7 harg7 arg8 harg8 arg10 harg10 x0 x1 x2 x3 x4 x5 xs0) x).trans (pieceA x0 x1 x2 (k0_pay2 x3 x4 x5) (headOf xs0) 1 1 inb_S1024x1024_S64x512_128_512 x),
   fun x => (congrFun (CaseB.b2 c arg3 harg3 arg4 harg4 arg5 harg5 arg6 harg6 arg7 harg7 arg8 harg8 arg10 harg10 x0 x1 x2 x3 x4 x5 xs0) x).trans (pieceB x0 x1 x2 (k0_pay2 x3 x4 x5) (headOf xs0) 0 1 inb_S1024x1024_S64x512_192_0 x),
   fun x => (congrFun (CaseB.a2 c arg3 harg3 arg4 harg4 arg5 harg5 arg6 harg6 arg7 harg7 arg8 harg8 arg10 harg10 x0 x1 x2 x3 x4 x5 xs0) x).trans (pieceA x0 x1 x2 (k0_pay2 x3 x4 x5) (headOf xs0) 0 1 inb_S1024x1024_S64x512_128_0 x),
   fun x => (congrFun (CaseB.b1 c arg3 harg3 arg4 harg4 arg5 harg5 arg6 harg6 arg7 harg7 arg8 harg8 arg10 harg10 x0 x1 x2 x3 x4 x5 xs0) x).trans (pieceB x0 x1 x2 (k0_pay2 x3 x4 x5) (headOf xs0) 1 0 inb_S1024x1024_S64x512_64_512 x),
   fun x => (congrFun (CaseB.a1 c arg3 harg3 arg4 harg4 arg5 harg5 arg6 harg6 arg7 harg7 arg8 harg8 arg10 harg10 x0 x1 x2 x3 x4 x5 xs0) x).trans (pieceA x0 x1 x2 (k0_pay2 x3 x4 x5) (headOf xs0) 1 0 inb_S1024x1024_S64x512_0_512 x),
   fun x => (congrFun (CaseB.b0 c arg3 harg3 arg4 harg4 arg5 harg5 arg6 harg6 arg7 harg7 arg8 harg8 arg10 harg10 x0 x1 x2 x3 x4 x5 xs0) x).trans (pieceB x0 x1 x2 (k0_pay2 x3 x4 x5) (headOf xs0) 0 0 inb_S1024x1024_S64x512_64_0 x),
   fun x => (congrFun (CaseB.a0 c arg3 harg3 arg4 harg4 arg5 harg5 arg6 harg6 arg7 harg7 arg8 harg8 arg10 harg10 x0 x1 x2 x3 x4 x5 xs0) x).trans (pieceA x0 x1 x2 (k0_pay2 x3 x4 x5) (headOf xs0) 0 0 inb_S1024x1024_S64x512_0_0 x),
   trivial⟩

/-- The output block of a grid point in case B. -/
theorem left6_B (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1024 .bf16) (harg5 : arg5.IsWhole) (arg6 : Memref sig .tc .vmem S1024x128 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1024x1024 .bf16) (harg9 : arg9.IsWhole) (arg10 : Memref sig .tc .vmem S2x256x512 .f32) (harg10 : arg10.IsWhole) (hc0 : ¬cond0_0 i)
    (x0 : Vec F S1024x512 .bf16) (x1 : Vec F S1024x512 .bf16) (x2 : Vec F S1024x1024 .bf16) (x3 : Vec F S1024x128 .bf16) (x4 : Vec F S128x512 .bf16) (x5 : Vec F S1x512 .f32) (xs0 : Vec F S2x256x512 .f32) :
    out0_B_6 c i arg3 harg3 arg4 harg4 arg5 harg5 arg6 harg6 arg7 harg7 arg8 harg8 arg9 harg9 arg10 harg10 hc0 x0 x1 x2 x3 x4 x5 xs0 = outBlk x0 x1 x2 (k0_pay2 x3 x4 x5) (headOf xs0) := by
  unfold out0_B_6
  rw [View.read_writes_eq_canon _ _ _ (cover0_B_6 c i arg3 harg3 arg4 harg4 arg5 harg5 arg6 harg6 arg7 harg7 arg8 harg8 arg9 harg9 arg10 harg10 hc0 x0 x1 x2 x3 x4 x5 xs0)]
  funext y
  exact View.canon_apply_of_pieces _ _ (piecesB c i arg3 harg3 arg4 harg4 arg5 harg5 arg6 harg6 arg7 harg7 arg8 harg8 arg9 harg9 arg10 harg10 hc0 x0 x1 x2 x3 x4 x5 xs0).mem y (cover0_B_6 c i arg3 harg3 arg4 harg4 arg5 harg5 arg6 harg6 arg7 harg7 arg8 harg8 arg9 harg9 arg10 harg10 hc0 x0 x1 x2 x3 x4 x5 xs0 y)

/-- The scratch a grid point in case B leaves. -/
theorem leftS_B (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1024 .bf16) (harg5 : arg5.IsWhole) (arg6 : Memref sig .tc .vmem S1024x128 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1024x1024 .bf16) (harg9 : arg9.IsWhole) (arg10 : Memref sig .tc .vmem S2x256x512 .f32) (harg10 : arg10.IsWhole) (hc0 : ¬cond0_0 i)
    (x0 : Vec F S1024x512 .bf16) (x1 : Vec F S1024x512 .bf16) (x2 : Vec F S1024x1024 .bf16) (x3 : Vec F S1024x128 .bf16) (x4 : Vec F S128x512 .bf16) (x5 : Vec F S1x512 .f32) (xs0 : Vec F S2x256x512 .f32) :
    sout0_B_0 c i arg3 harg3 arg4 harg4 arg5 harg5 arg6 harg6 arg7 harg7 arg8 harg8 arg9 harg9 arg10 harg10 hc0 x0 x1 x2 x3 x4 x5 xs0 = scrBlk x1 x2 (k0_pay2 x3 x4 x5) (headOf xs0) := by
  unfold sout0_B_0
  rw [View.read_writes_eq_canon _ _ _ (scover0_B_0 c i arg3 harg3 arg4 harg4 arg5 harg5 arg6 harg6 arg7 harg7 arg8 harg8 arg9 harg9 arg10 harg10 hc0 x0 x1 x2 x3 x4 x5 xs0)]
  exact lastTwo _ _ _ _ inb_S2x256x512_S1x256x512_0_0_0 inb_S2x256x512_S1x256x512_1_0_0
    (fun x => (congrFun (CaseB.s15 c arg3 harg3 arg4 harg4 arg5 harg5 arg6 harg6 arg7 harg7 arg8 harg8 arg10 harg10 x0 x1 x2 x3 x4 x5 xs0) x).trans (pieceS x1 x2 (k0_pay2 x3 x4 x5) (headOf xs0) 1 inb_S2x256x512_S1x256x512_1_0_0 x))
    (fun x => (congrFun (CaseB.s14 c arg3 harg3 arg4 harg4 arg5 harg5 arg6 harg6 arg7 harg7 arg8 harg8 arg10 harg10 x0 x1 x2 x3 x4 x5 xs0) x).trans (pieceS x1 x2 (k0_pay2 x3 x4 x5) (headOf xs0) 0 inb_S2x256x512_S1x256x512_0_0_0 x))

end Cert.KernelIdeal.Gla

end
-- ==== Proof.Gla.Lift.lean ====
/- The kernel's pair step at real blocks is the real recurrence. -/
module

public import proofs.«01_k».proof.Proof.Gla.Cut
public import proofs.«01_k».proof.Proof.Gla.Data

@[expose] public section

set_option maxRecDepth 16384

noncomputable section

namespace Cert.KernelIdeal.Gla

open Cert.KernelIdeal Cert.KernelIdeal.Gen Idealize.ShloMosaic Idealize.ShloMosaic.TcCoe Idealize.SL.Sem Cert.Gla

/-- A matrix of extended reals is the given matrix of reals. -/
def Is {n m : ℕ} (X : (⟨2, ![n, m]⟩ : Shape).Idx → EReal) (x : Fin n → Fin m → ℝ) : Prop := ∀ i j, X (ix2 i j) = ((x i j : ℝ) : EReal)

/-- A sum of reals read as extended reals. -/
theorem sum_coe {ι : Type} (s : Finset ι) (f : ι → ℝ) : ∑ i ∈ s, ((f i : ℝ) : EReal) = ((∑ i ∈ s, f i : ℝ) : EReal) := by
  induction s using Finset.cons_induction with
  | empty => rfl
  | cons a s h ih => rw [Finset.sum_cons, Finset.sum_cons, ih, EReal.coe_add]

/-- A power of two at a logarithm to the base two is the exponential. -/
theorem exp2_div (y : ℝ) : FloatOps.exp2 (φ := .f32) (F := Ideal) (((y / Real.log 2 : ℝ) : EReal)) = ((Real.exp y : ℝ) : EReal) := by
  show ((Real.rpow 2 (y / Real.log 2) : ℝ) : EReal) = _
  rw [Real.rpow_eq_pow, Real.rpow_def_of_pos (by norm_num), mul_div_cancel₀ _ (Real.log_pos (by norm_num)).ne']

/-- The scale of the queries. -/
theorem lit16 : Ideal.ofBits FTy.f32 0x3D800000#32 = ((1 / 16 : ℝ) : EReal) := by
  simp [Ideal.ofBits, Ideal.ieee, -EReal.coe_mul]; norm_num

/-- The causal comparison of two rows of a chunk. -/
theorem causal (x l : Fin 64) : IntOp.cmpi CmpIPredicate.sle (BitVec.ofNat 32 x.val) (BitVec.ofNat 32 l.val) = if x ≤ l then 1#1 else 0#1 := by
  revert x l; decide +kernel

/-- The causal mask as a number. -/
theorem causal_num (x l : Fin 64) : FloatOps.sitofp (F := Ideal) FTy.f32 (BitVec.setWidth 32 (IntOp.cmpi CmpIPredicate.sle (BitVec.ofNat 32 x.val) (BitVec.ofNat 32 l.val)))
    = ((if x ≤ l then 1 else 0 : ℝ) : EReal) := by
  rw [causal]
  split_ifs
  · show (((BitVec.setWidth 32 1#1).toInt : ℝ) : EReal) = _; norm_num
  · show (((BitVec.setWidth 32 0#1).toInt : ℝ) : EReal) = _; norm_num

/-- The cumulative decay of a chunk, in logarithms to the base two. -/
theorem cum_is {G : FVec Ideal S64x256 .f32} {g : Fin 64 → Fin 256 → ℝ} (hG : Is G fun l d => g l d / Real.log 2) :
    Is (cum G) fun l d => cumR g l d / Real.log 2 := by
  intro l d
  have h := hG
  unfold Is at h
  pointwise [cum, k0_pay4, k0_pay3]
  simp only [causal_num, h, ← EReal.coe_sub, ← EReal.coe_mul, sum_coe, ← EReal.coe_add]
  congr 1
  simp only [sub_self, mul_zero, Finset.sum_const_zero, add_zero, cumR, Finset.sum_div, ite_mul, one_mul, zero_mul]
  exact Finset.sum_congr rfl fun m _ => by split_ifs <;> simp

section pair

variable {B0 B1 : FVec Ideal S64x256 .f32} {Q0 Q1 K0 K1 : Vec Ideal S64x256 .bf16} {V0 V1 : Vec Ideal S64x512 .bf16} {S : FVec Ideal S256x512 .f32}
variable {q k b : ℕ → Fin 64 → Fin 256 → ℝ} {v : ℕ → Fin 64 → Fin 512 → ℝ} {n : ℕ}

/-- The queries of a chunk, decayed from its start. -/
theorem qloc_is (hB : Is B0 fun l d => b n l d / Real.log 2) (hQ : Is Q0 fun l d => 16 * q n l d) :
    Is (qloc B0 Q0) fun l d => q n l d * Real.exp (b n l d) := by
  intro l d
  unfold Is at hB hQ
  pointwise [qloc, qf]
  simp only [hB, hQ, exp2_div, lit16, ← EReal.coe_mul]
  congr 2; ring

/-- The keys of a chunk, decayed to its end. -/
theorem kloc_is (hB : Is B0 fun l d => b n l d / Real.log 2) (hK : Is K0 (k n)) :
    Is (kloc B0 K0) fun l d => k n l d * Real.exp (b n 63 d - b n l d) := by
  intro l d
  unfold Is at hB hK
  pointwise [kloc, kf, rep, last]
  simp only [hB, hK, ← EReal.coe_sub, ← sub_div, exp2_div, ← EReal.coe_mul]

/-- What a chunk reads from itself. -/
theorem intra_is (hB : Is B0 fun l d => b n l d / Real.log 2) (hQ : Is Q0 fun l d => 16 * q n l d) (hK : Is K0 (k n)) (hV : Is V0 (v n)) :
    Is (intra B0 Q0 K0 V0) (intraR (q n) (k n) (b n) (v n)) := by
  intro l e
  unfold Is at hB hQ hK hV
  pointwise [intra, qf, kf, rep, mid, k0_pay3]
  simp only [hB, hK, hQ, hV, lit16, ← EReal.coe_sub, ← sub_div, exp2_div, ← EReal.coe_mul, sum_coe, causal]
  unfold intraR
  rw [← sum_coe]
  refine Finset.sum_congr rfl fun m _ => ?_
  split_ifs
  · refine Eq.trans (b := ((_ : ℝ) : EReal)) rfl (congrArg (fun z : ℝ => ((z * v n m e : ℝ) : EReal)) (Finset.sum_congr rfl fun d _ => ?_))
    ring
  · rw [zero_mul]; rfl

/-- What the second chunk reads from the first. -/
theorem cross_is (hB0 : Is B0 fun l d => b n l d / Real.log 2) (hB1 : Is B1 fun l d => b (n + 1) l d / Real.log 2)
    (hQ : Is Q1 fun l d => 16 * q (n + 1) l d) (hK : Is K0 (k n)) (hV : Is V0 (v n)) :
    Is (cross B0 B1 Q1 K0 V0) fun l e =>
      ∑ m : Fin 64, (∑ d : Fin 256, q (n + 1) l d * Real.exp (b (n + 1) l d) * (k n m d * Real.exp (b n 63 d - b n m d))) * v n m e := by
  intro l e
  have hq := qloc_is hB1 hQ
  have hk := kloc_is hB0 hK
  unfold Is at hq hk hV
  pointwise [cross]
  simp only [hq, hk, hV, ← EReal.coe_mul, sum_coe]

/-- The state after a pair of chunks. -/
theorem next_is (hS : Is S (state k b v n)) (hB0 : Is B0 fun l d => b n l d / Real.log 2) (hB1 : Is B1 fun l d => b (n + 1) l d / Real.log 2)
    (hK0 : Is K0 (k n)) (hK1 : Is K1 (k (n + 1))) (hV0 : Is V0 (v n)) (hV1 : Is V1 (v (n + 1))) :
    Is (next S B0 B1 K0 K1 V0 V1) (state k b v (n + 2)) := by
  intro d e
  have hk0 := kloc_is hB0 hK0
  have hk1 := kloc_is hB1 hK1
  unfold Is at hS hB0 hB1 hk0 hk1 hV0 hV1
  pointwise [next, rep, last, tot]
  simp only [hS, hB0, hB1, hk0, hk1, hV0, hV1, ← EReal.coe_add, ← EReal.coe_sub, ← add_div, ← sub_div, exp2_div, ← EReal.coe_mul, sum_coe]
  exact congrArg _ (state_two k b v n d e)

/-- The output of the first chunk of a pair. -/
theorem outA_is (hS : Is S (state k b v n)) (hB0 : Is B0 fun l d => b n l d / Real.log 2)
    (hQ0 : Is Q0 fun l d => 16 * q n l d) (hK0 : Is K0 (k n)) (hV0 : Is V0 (v n)) :
    Is (outA S B0 B1 Q0 Q1 K0 V0) (row q k b v n) := by
  intro l e
  have hi := intra_is hB0 hQ0 hK0 hV0
  have hq := qloc_is hB0 hQ0
  unfold Is at hS hi hq
  pointwise [outA, inter]
  simp only [hS, hi, hq, ← EReal.coe_add, ← EReal.coe_mul, sum_coe]
  rfl

/-- The output of the second chunk of a pair. -/
theorem outB_is (hS : Is S (state k b v n)) (hB0 : Is B0 fun l d => b n l d / Real.log 2) (hB1 : Is B1 fun l d => b (n + 1) l d / Real.log 2)
    (hQ1 : Is Q1 fun l d => 16 * q (n + 1) l d) (hK0 : Is K0 (k n)) (hK1 : Is K1 (k (n + 1))) (hV0 : Is V0 (v n)) (hV1 : Is V1 (v (n + 1))) :
    Is (outB S B0 B1 Q0 Q1 K0 K1 V0 V1) (row q k b v (n + 1)) := by
  intro l e
  have hi := intra_is hB1 hQ1 hK1 hV1
  have hc := cross_is hB0 hB1 hQ1 hK0 hV0
  have hq := qloc_is hB1 hQ1
  unfold Is at hS hB0 hi hc hq
  pointwise [outB, inter, rep, last]
  simp only [hS, hB0, hi, hc, hq, exp2_div, ← EReal.coe_add, ← EReal.coe_mul, sum_coe]
  exact congrArg _ (row_two q k b v n l e)

end pair

end Cert.KernelIdeal.Gla

end
-- ==== Proof.Gla.Whole.lean ====
/- The kernel's result array is the real recurrence's. -/
module

public import proofs.«01_k».proof.Proof.Gla.Block
public import proofs.«01_k».proof.Proof.Gla.Lift
public import Idealize.ShloMosaic.Lib.Pipeline.ValueKit
public import Idealize.ShloMosaic.Lib.Claim

@[expose] public section

set_option maxRecDepth 16384

noncomputable section

namespace Cert.KernelIdeal.Gla

open Cert.KernelIdeal Cert.KernelIdeal.Gen Idealize.ShloMosaic Idealize.ShloMosaic.TcCoe Idealize.SL.Sem Cert.Gla

/-- The kernel's constant: the reciprocal of the logarithm of two. -/
theorem log2e : (Named.named κ "log2e" 0x3FB8AA3B#32 : Ideal .f32) = (((Real.log 2)⁻¹ : ℝ) : EReal) :=
  IdealRules.named_const.ideal_named_scalar _ _ _ _ rfl

/-- The logarithm of a positive real. -/
theorem log_coe (y : ℝ) (h : 0 < y) : Ideal.log ((y : ℝ) : EReal) = ((Real.log y : ℝ) : EReal) := by
  show (if y ≤ 0 then _ else _) = _
  rw [if_neg (not_le.mpr h)]

/-- The smaller of two reals. -/
theorem min_coe (x y : ℝ) : min ((x : ℝ) : EReal) ((y : ℝ) : EReal) = ((min x y : ℝ) : EReal) := (EReal.coe_strictMono.monotone.map_min).symm

/-- The gate over a logarithm to the base two. -/
theorem gate_real (z : ℝ) : (min (z * (Real.log 2)⁻¹) 0 - Real.log (1 + Real.exp (min z (-z))) * (Real.log 2)⁻¹) * (1 / 16) = gR z / Real.log 2 := by
  have h2 : 0 < Real.log 2 := Real.log_pos (by norm_num)
  have e : min (z * (Real.log 2)⁻¹) 0 = -max (-z) 0 * (Real.log 2)⁻¹ := by
    rw [← min_neg_neg, neg_neg, neg_zero]
    rcases le_total z 0 with h | h
    · rw [min_eq_left h, min_eq_left (mul_nonpos_of_nonpos_of_nonneg h (inv_nonneg.mpr h2.le))]
    · rw [min_eq_right h, min_eq_right (mul_nonneg h (inv_nonneg.mpr h2.le)), zero_mul]
  rw [e, gR, show min z (-z) = -|z| by rw [abs, ← min_neg_neg]; simp [min_comm]]
  field_simp
  ring

/-- The gate of a block. -/
theorem gate_is {X3 : Vec Ideal S1024x128 .bf16} {X4 : Vec Ideal S128x512 .bf16} {X5 : Vec Ideal S1x512 .f32} {a : Fin 1024 → Fin 128 → ℝ}
    {w : Fin 128 → Fin 512 → ℝ} {b : Fin 512 → ℝ} (h3 : Is X3 a) (h4 : Is X4 w) (h5 : ∀ d, X5 (ix2 0 d) = ((b d : ℝ) : EReal)) :
    Is (k0_pay2 X3 X4 X5) fun r d => gR (∑ j, a r j * w j d + b d) / Real.log 2 := by
  intro r d
  unfold Is at h3 h4
  pointwise [k0_pay2]
  simp only [h3, h4, h5, log2e, lit16, ← EReal.coe_mul, sum_coe, ← EReal.coe_add]
  generalize ∑ j, a r j * w j d + b d = z
  rw [show (0 : EReal) - ((z * (Real.log 2)⁻¹ : ℝ) : EReal) = ((-z * (Real.log 2)⁻¹ : ℝ) : EReal) by rw [← EReal.coe_zero, ← EReal.coe_sub]; congr 1; ring,
    ← EReal.coe_zero, min_coe, min_coe,
    show min (z * (Real.log 2)⁻¹) (-z * (Real.log 2)⁻¹) = min z (-z) / Real.log 2 by
      rw [div_eq_mul_inv, min_mul_of_nonneg _ _ (inv_nonneg.mpr (Real.log_pos (by norm_num)).le)],
    exp2_div, ← EReal.coe_one, ← EReal.coe_add, log_coe _ (by positivity), ← EReal.coe_mul, ← EReal.coe_sub, ← EReal.coe_mul, gate_real]

section block

variable {X : (⟨2, ![32768, 6144]⟩ : Shape).Idx → EReal} {A : (⟨2, ![32768, 128]⟩ : Shape).Idx → EReal}
variable {W : (⟨2, ![16, 1024]⟩ : Shape).Idx → EReal} {B : (⟨1, ![1024]⟩ : Shape).Idx → EReal}
variable {x0 x1 : Vec Ideal S1024x512 .bf16} {x2 : Vec Ideal S1024x1024 .bf16} {g : FVec Ideal S1024x512 .f32} {S : ℕ → FVec Ideal S256x512 .f32}
variable {β hg s : ℕ}

/-- A chunk of the gate, summed. -/
theorem cum_cut (hgt : ∀ r e, g (ix2 r e) = ((gR (gateZ A W B (16384 * β + 1024 * s + r.val) (512 * hg + e.val)) / Real.log 2 : ℝ) : EReal))
    (h : ℕ) (h2 : h < 2) (r n : ℕ) (hr : r + 64 ≤ 1024) (hn : 64 * n = 1024 * s + r) :
    Is (cum (cut g r (256 * h))) fun l d => bM A W B β (2 * hg + h) n l d / Real.log 2 :=
  cum_is fun l d => by
    have l0 := l.isLt; have d0 := d.isLt
    rw [cut_apply g r (256 * h) l d (by omega) (by omega), hgt,
      show 16384 * β + 1024 * s + (⟨r + l.val, by omega⟩ : Fin 1024).val = 16384 * β + 64 * n + l.val by simp only []; omega,
      show 512 * hg + (⟨256 * h + d.val, by omega⟩ : Fin 512).val = 256 * (2 * hg + h) + d.val by simp only []; omega]

/-- A chunk of the queries. -/
theorem q_cut (hq : ∀ r e, x0 (ix2 r e) = ((re2 X (16384 * β + 1024 * s + r.val) (512 * hg + e.val) : ℝ) : EReal))
    (h : ℕ) (h2 : h < 2) (r n : ℕ) (hr : r + 64 ≤ 1024) (hn : 64 * n = 1024 * s + r) :
    Is (cut x0 r (256 * h) : Vec Ideal S64x256 .bf16) fun l d => 16 * qM X β (2 * hg + h) n l d := fun l d => by
  have l0 := l.isLt; have d0 := d.isLt
  rw [cut_apply x0 r (256 * h) l d (by omega) (by omega), hq,
    show 16384 * β + 1024 * s + (⟨r + l.val, by omega⟩ : Fin 1024).val = 16384 * β + 64 * n + l.val by simp only []; omega,
    show 512 * hg + (⟨256 * h + d.val, by omega⟩ : Fin 512).val = 256 * (2 * hg + h) + d.val by simp only []; omega]
  refine congrArg _ ?_
  show _ = 16 * (re2 X _ _ / 16)
  ring

/-- A chunk of the keys. -/
theorem k_cut (hk : ∀ r e, x1 (ix2 r e) = ((re2 X (16384 * β + 1024 * s + r.val) (1024 + 512 * hg + e.val) : ℝ) : EReal))
    (h : ℕ) (h2 : h < 2) (r n : ℕ) (hr : r + 64 ≤ 1024) (hn : 64 * n = 1024 * s + r) :
    Is (cut x1 r (256 * h) : Vec Ideal S64x256 .bf16) (kM X β (2 * hg + h) n) := fun l d => by
  have l0 := l.isLt; have d0 := d.isLt
  rw [cut_apply x1 r (256 * h) l d (by omega) (by omega), hk,
    show 16384 * β + 1024 * s + (⟨r + l.val, by omega⟩ : Fin 1024).val = 16384 * β + 64 * n + l.val by simp only []; omega,
    show 1024 + 512 * hg + (⟨256 * h + d.val, by omega⟩ : Fin 512).val = 1024 + 256 * (2 * hg + h) + d.val by simp only []; omega]
  rfl

/-- A chunk of the values. -/
theorem v_cut (hv : ∀ r e, x2 (ix2 r e) = ((re2 X (16384 * β + 1024 * s + r.val) (2048 + 1024 * hg + e.val) : ℝ) : EReal))
    (h : ℕ) (h2 : h < 2) (r n : ℕ) (hr : r + 64 ≤ 1024) (hn : 64 * n = 1024 * s + r) :
    Is (cut x2 r (512 * h) : Vec Ideal S64x512 .bf16) (vM X β (2 * hg + h) n) := fun l d => by
  have l0 := l.isLt; have d0 := d.isLt
  rw [cut_apply x2 r (512 * h) l d (by omega) (by omega), hv,
    show 16384 * β + 1024 * s + (⟨r + l.val, by omega⟩ : Fin 1024).val = 16384 * β + 64 * n + l.val by simp only []; omega,
    show 2048 + 1024 * hg + (⟨512 * h + d.val, by omega⟩ : Fin 1024).val = 2048 + 512 * (2 * hg + h) + d.val by simp only []; omega]
  rfl

/-- A head's state, pair by pair through the block. -/
theorem stt_is (hk : ∀ r e, x1 (ix2 r e) = ((re2 X (16384 * β + 1024 * s + r.val) (1024 + 512 * hg + e.val) : ℝ) : EReal))
    (hv : ∀ r e, x2 (ix2 r e) = ((re2 X (16384 * β + 1024 * s + r.val) (2048 + 1024 * hg + e.val) : ℝ) : EReal))
    (hgt : ∀ r e, g (ix2 r e) = ((gR (gateZ A W B (16384 * β + 1024 * s + r.val) (512 * hg + e.val)) / Real.log 2 : ℝ) : EReal))
    (h : ℕ) (h2 : h < 2) (hS : Is (S h) (stM X A W B β (2 * hg + h) (16 * s))) :
    ∀ c, c ≤ 8 → Is (stt x1 x2 g h (S h) c) (stM X A W B β (2 * hg + h) (16 * s + 2 * c))
  | 0, _ => hS
  | c + 1, hc => by
    have ih := stt_is hk hv hgt h h2 hS c (by omega)
    exact next_is ih (cum_cut hgt h h2 (128 * c) (16 * s + 2 * c) (by omega) (by omega)) (cum_cut hgt h h2 (128 * c + 64) (16 * s + 2 * c + 1) (by omega) (by omega))
      (k_cut hk h h2 (128 * c) (16 * s + 2 * c) (by omega) (by omega)) (k_cut hk h h2 (128 * c + 64) (16 * s + 2 * c + 1) (by omega) (by omega))
      (v_cut hv h h2 (128 * c) (16 * s + 2 * c) (by omega) (by omega)) (v_cut hv h h2 (128 * c + 64) (16 * s + 2 * c + 1) (by omega) (by omega))

/-- What a grid point stores, row by row. -/
theorem outBlk_is (hq : ∀ r e, x0 (ix2 r e) = ((re2 X (16384 * β + 1024 * s + r.val) (512 * hg + e.val) : ℝ) : EReal))
    (hk : ∀ r e, x1 (ix2 r e) = ((re2 X (16384 * β + 1024 * s + r.val) (1024 + 512 * hg + e.val) : ℝ) : EReal))
    (hv : ∀ r e, x2 (ix2 r e) = ((re2 X (16384 * β + 1024 * s + r.val) (2048 + 1024 * hg + e.val) : ℝ) : EReal))
    (hgt : ∀ r e, g (ix2 r e) = ((gR (gateZ A W B (16384 * β + 1024 * s + r.val) (512 * hg + e.val)) / Real.log 2 : ℝ) : EReal))
    (hs : s < 16) (hS : ∀ h, h < 2 → Is (S h) (stM X A W B β (2 * hg + h) (16 * s))) (i : S1024x1024.Idx) (R C : ℕ)
    (hR : R = 16384 * β + 1024 * s + (i 0).val) (hC : C = 1024 * hg + (i 1).val) :
    outBlk x0 x1 x2 g S i = ((result X A W B R C : ℝ) : EReal) := by
  have i0 : (i 0).val < 1024 := (i 0).isLt
  have i1 : (i 1).val < 1024 := (i 1).isLt
  obtain ⟨h, hh⟩ : ∃ h, h = (i 1).val / 512 := ⟨_, rfl⟩
  obtain ⟨c, hc⟩ : ∃ c, c = (i 0).val / 128 := ⟨_, rfl⟩
  have h2 : h < 2 := by omega
  have hst := stt_is hk hv hgt h h2 (hS h h2) c (by omega)
  have e1 : (Fin.ofNat 512 C : Fin 512) = Fin.ofNat 512 (i 1).val := Fin.ext (by show C % 512 = (i 1).val % 512; omega)
  have e0 : (Fin.ofNat 64 R : Fin 64) = Fin.ofNat 64 (i 0).val := Fin.ext (by show R % 64 = (i 0).val % 64; omega)
  have eβ : R / 16384 = β := by omega
  have eh : C / 512 = 2 * hg + h := by omega
  unfold outBlk result
  rw [e0, e1, eβ, eh, ← hh, ← hc]
  split_ifs with hlt
  · rw [show R % 16384 / 64 = 16 * s + 2 * c by omega]
    exact outA_is hst (cum_cut hgt h h2 (128 * c) (16 * s + 2 * c) (by omega) (by omega))
      (q_cut hq h h2 (128 * c) (16 * s + 2 * c) (by omega) (by omega)) (k_cut hk h h2 (128 * c) (16 * s + 2 * c) (by omega) (by omega))
      (v_cut hv h h2 (128 * c) (16 * s + 2 * c) (by omega) (by omega)) _ _
  · rw [show R % 16384 / 64 = 16 * s + 2 * c + 1 by omega]
    exact outB_is hst (cum_cut hgt h h2 (128 * c) (16 * s + 2 * c) (by omega) (by omega)) (cum_cut hgt h h2 (128 * c + 64) (16 * s + 2 * c + 1) (by omega) (by omega))
      (q_cut hq h h2 (128 * c + 64) (16 * s + 2 * c + 1) (by omega) (by omega))
      (k_cut hk h h2 (128 * c) (16 * s + 2 * c) (by omega) (by omega)) (k_cut hk h h2 (128 * c + 64) (16 * s + 2 * c + 1) (by omega) (by omega))
      (v_cut hv h h2 (128 * c) (16 * s + 2 * c) (by omega) (by omega)) (v_cut hv h h2 (128 * c + 64) (16 * s + 2 * c + 1) (by omega) (by omega)) _ _

/-- What a grid point leaves in its scratch. -/
theorem scrBlk_is (hk : ∀ r e, x1 (ix2 r e) = ((re2 X (16384 * β + 1024 * s + r.val) (1024 + 512 * hg + e.val) : ℝ) : EReal))
    (hv : ∀ r e, x2 (ix2 r e) = ((re2 X (16384 * β + 1024 * s + r.val) (2048 + 1024 * hg + e.val) : ℝ) : EReal))
    (hgt : ∀ r e, g (ix2 r e) = ((gR (gateZ A W B (16384 * β + 1024 * s + r.val) (512 * hg + e.val)) / Real.log 2 : ℝ) : EReal))
    (hS : ∀ h, h < 2 → Is (S h) (stM X A W B β (2 * hg + h) (16 * s))) (h : ℕ) (h2 : h < 2) :
    Is (headOf (scrBlk x1 x2 g S) h) (stM X A W B β (2 * hg + h) (16 * (s + 1))) := by
  intro d e
  have := stt_is hk hv hgt h h2 (hS h h2) 8 le_rfl d e
  rw [show 16 * (s + 1) = 16 * s + 2 * 8 by omega, ← this]
  show stt x1 x2 g (h % 2) (S (h % 2)) 8 _ = _
  rw [Nat.mod_eq_of_lt h2]
  rfl

end block

end Cert.KernelIdeal.Gla

end
-- ==== Proof.Gla.Reads.lean ====
/- What the blocks of a grid point hold: entries of the arguments, and of the arrays the host prepares. -/
module

public import proofs.«01_k».proof.Proof.Gla.Whole

@[expose] public section

set_option maxRecDepth 16384

noncomputable section

namespace Cert.KernelIdeal.Gla

open Cert.KernelIdeal Cert.KernelIdeal.Gen Idealize.ShloMosaic Idealize.ShloMosaic.TcCoe Idealize.SL.Sem Cert.Gla
open Idealize.ShloMosaic.Pipeline (Dat)

variable (m : (ℓ : Loc nD τ sig) → Buf (Elt Ideal) ℓ)

/-- The place of every block of a grid point. -/
theorem idx : ∀ t : Fin cfg0.N, win0_0.index t = ![t.val / 32 * 16 + t.val % 16, t.val / 16 % 2] ∧
    win0_1.index t = ![t.val / 32 * 16 + t.val % 16, 2 + t.val / 16 % 2] ∧
    win0_2.index t = ![t.val / 32 * 16 + t.val % 16, 2 + t.val / 16 % 2] ∧ win0_3.index t = ![t.val / 32 * 16 + t.val % 16, 0] ∧
    win0_4.index t = ![0, t.val / 16 % 2] ∧ win0_5.index t = ![0, t.val / 16 % 2] ∧
    win0_6.index t = ![t.val / 32 * 16 + t.val % 16, t.val / 16 % 2] :=
  (by decide +kernel : ∀ t : Fin grid0.N, _)

/-- The gate weights as the kernel receives them: rounded, and padded with zero rows. -/
theorem weight (c : Dev nD) : (show FVec Ideal S128x1024 .bf16 from V m c main_v1) =
    pad S128x1024 ![0, 0] ![112, 0] ![0, 0] (truncf .bf16 (m ((c : Thread nD τ).loc main_arg2)) bitsLt_bf16_f32)
      (sitofp .bf16 (constantI S_ 32 0#32)) pads_S16x1024_S128x1024_01120_000 h_S_ := by
  show StableHlo.after _ _ _ = _
  simp only [List.flatten_cons, List.flatten_nil, List.append_nil, List.cons_append, List.nil_append, hostOps0, hostOps0_1, hostOps0_2]
  after_results
  rfl

/-- The padded gate weight in its first 16 rows is the argument. -/
theorem weight_lo (c : Dev nD) (r : Fin 128) (r' : Fin 16) (j : Fin 1024) (h : r.val = r'.val) :
    (show FVec Ideal S128x1024 .bf16 from V m c main_v1) (ix2 r j) = (m ((c : Thread nD τ).loc main_arg2)) (ix2 r' j) := by
  rw [weight]
  pointwise
  rw [dif_pos]
  · exact congrArg _ (congrArg (fun x => ix2 x j) (Fin.ext h))
  · intro a
    fin_cases a
    · exact ⟨Nat.zero_le _, Nat.mod_one _, by show (r.val - 0) / 1 < 16; omega⟩
    · exact ⟨Nat.zero_le _, Nat.mod_one _, by show (j.val - 0) / 1 < 1024; omega⟩

/-- The padded gate weight after row 16 is zero. -/
theorem weight_hi (c : Dev nD) (r : Fin 128) (j : Fin 1024) (h : 16 ≤ r.val) :
    (show FVec Ideal S128x1024 .bf16 from V m c main_v1) (ix2 r j) = 0 := by
  rw [weight]
  pointwise
  rw [dif_neg]
  · show (((0#32 : BitVec 32).toInt : ℝ) : EReal) = 0
    simp
  · intro hp
    have hp : (r.val - 0) / 1 < 16 := (hp 0).2.2
    omega

/-- The gate bias as the kernel receives it is the argument. -/
theorem bias (c : Dev nD) (j : Fin 1024) :
    (show FVec Ideal S1x1024 .f32 from V m c main_v2) (ix2 0 j) = (m ((c : Thread nD τ).loc main_arg3)) (ix1 j) := by
  show StableHlo.after _ _ _ _ = _
  simp only [List.flatten_cons, List.flatten_nil, List.append_nil, List.cons_append, List.nil_append, hostOps0, hostOps0_1, hostOps0_2]
  after_results
  pointwise

section reads
variable (c : Dev nD) (t : Fin cfg0.N)

/-- The query block of a point, read from the projections. -/
theorem x0_eq (r : Fin 1024) (e : Fin 512) (i : Fin 32768) (j : Fin 6144)
    (hi : i.val = 16384 * (t.val / 32) + 1024 * (t.val % 16) + r.val) (hj : j.val = 512 * (t.val / 16 % 2) + e.val) :
    (show FVec Ideal S1024x512 .bf16 from iblk m c 0 t) (ix2 r e) = (m ((c : Thread nD τ).loc main_arg0)) (ix2 i j) := by
  blk_ext [iblk, V, idx t]

/-- The key block of a point, read from the projections. -/
theorem x1_eq (r : Fin 1024) (e : Fin 512) (i : Fin 32768) (j : Fin 6144)
    (hi : i.val = 16384 * (t.val / 32) + 1024 * (t.val % 16) + r.val) (hj : j.val = 1024 + 512 * (t.val / 16 % 2) + e.val) :
    (show FVec Ideal S1024x512 .bf16 from iblk m c 1 t) (ix2 r e) = (m ((c : Thread nD τ).loc main_arg0)) (ix2 i j) := by
  blk_ext [iblk, V, idx t]

/-- The value block of a point, read from the projections. -/
theorem x2_eq (r : Fin 1024) (e : Fin 1024) (i : Fin 32768) (j : Fin 6144)
    (hi : i.val = 16384 * (t.val / 32) + 1024 * (t.val % 16) + r.val) (hj : j.val = 2048 + 1024 * (t.val / 16 % 2) + e.val) :
    (show FVec Ideal S1024x1024 .bf16 from iblk m c 2 t) (ix2 r e) = (m ((c : Thread nD τ).loc main_arg0)) (ix2 i j) := by
  blk_ext [iblk, V, idx t]

/-- The gate input block of a point, read from the gate inputs. -/
theorem x3_eq (r : Fin 1024) (e : Fin 128) (i : Fin 32768)
    (hi : i.val = 16384 * (t.val / 32) + 1024 * (t.val % 16) + r.val) :
    (show FVec Ideal S1024x128 .bf16 from iblk m c 3 t) (ix2 r e) = (m ((c : Thread nD τ).loc main_arg1)) (ix2 i e) := by
  blk_ext [iblk, V, idx t]

/-- The gate weight block of a point, read from the padded gate weight. -/
theorem x4_eq (r : Fin 128) (e : Fin 512) (j : Fin 1024) (hj : j.val = 512 * (t.val / 16 % 2) + e.val) :
    (show FVec Ideal S128x512 .bf16 from iblk m c 4 t) (ix2 r e) = (show FVec Ideal S128x1024 .bf16 from V m c main_v1) (ix2 r j) := by
  blk_ext [iblk, idx t]

/-- The gate bias block of a point, read from the gate bias. -/
theorem x5_eq (e : Fin 512) (j : Fin 1024) (hj : j.val = 512 * (t.val / 16 % 2) + e.val) :
    (show FVec Ideal S1x512 .f32 from iblk m c 5 t) (ix2 0 e) = (show FVec Ideal S1x1024 .f32 from V m c main_v2) (ix2 0 j) := by
  blk_ext [iblk, idx t]

end reads

end Cert.KernelIdeal.Gla

end
-- ==== Proof.Gla.Final.lean ====
/- What the kernel leaves over the real numbers: the whole result array. -/
module

public import proofs.«01_k».proof.Proof.Gla.Reads

@[expose] public section

set_option maxRecDepth 16384

noncomputable section

namespace Cert.KernelIdeal.Gla

open Cert.KernelIdeal Cert.KernelIdeal.Gen Idealize.ShloMosaic Idealize.ShloMosaic.TcCoe Idealize.SL.Sem Cert.Gla
open Idealize.ShloMosaic.Pipeline (Dat)

variable (m : (ℓ : Loc nD τ sig) → Buf (Elt Ideal) ℓ) (c : Dev nD)

/-- The four arguments on a device. -/
abbrev aX : FVec Ideal S32768x6144 .bf16 := m ((c : Thread nD τ).loc main_arg0)
abbrev aA : FVec Ideal S32768x128 .bf16 := m ((c : Thread nD τ).loc main_arg1)
abbrev aW : FVec Ideal S16x1024 .f32 := m ((c : Thread nD τ).loc main_arg2)
abbrev aB : FVec Ideal S1024 .f32 := m ((c : Thread nD τ).loc main_arg3)

/-- Every argument entry on a device is a real number. -/
structure Real' : Prop where
  x : Fin' (aX m c)
  a : Fin' (aA m c)
  w : Fin' (aW m c)
  b : Fin' (aB m c)

variable {m c} (H : Real' m c) (t : Fin cfg0.N)
include H

/-- The queries of a point's block are the queries of its rows and heads. -/
theorem pt_q (r : Fin 1024) (e : Fin 512) : (show FVec Ideal S1024x512 .bf16 from iblk m c 0 t) (ix2 r e) =
    ((re2 (aX m c) (16384 * (t.val / 32) + 1024 * (t.val % 16) + r.val) (512 * (t.val / 16 % 2) + e.val) : ℝ) : EReal) := by
  have ht : t.val < 64 := lt_of_lt_of_eq t.isLt N_0
  have hr := r.isLt
  have he := e.isLt
  rw [x0_eq m c t r e ⟨16384 * (t.val / 32) + 1024 * (t.val % 16) + r.val, by omega⟩ ⟨512 * (t.val / 16 % 2) + e.val, by omega⟩ rfl rfl]
  exact re2_eq H.x _ _ _ _ rfl rfl

/-- The keys of a point's block. -/
theorem pt_k (r : Fin 1024) (e : Fin 512) : (show FVec Ideal S1024x512 .bf16 from iblk m c 1 t) (ix2 r e) =
    ((re2 (aX m c) (16384 * (t.val / 32) + 1024 * (t.val % 16) + r.val) (1024 + 512 * (t.val / 16 % 2) + e.val) : ℝ) : EReal) := by
  have ht : t.val < 64 := lt_of_lt_of_eq t.isLt N_0
  have hr := r.isLt
  have he := e.isLt
  rw [x1_eq m c t r e ⟨16384 * (t.val / 32) + 1024 * (t.val % 16) + r.val, by omega⟩ ⟨1024 + 512 * (t.val / 16 % 2) + e.val, by omega⟩ rfl rfl]
  exact re2_eq H.x _ _ _ _ rfl rfl

/-- The values of a point's block. -/
theorem pt_v (r : Fin 1024) (e : Fin 1024) : (show FVec Ideal S1024x1024 .bf16 from iblk m c 2 t) (ix2 r e) =
    ((re2 (aX m c) (16384 * (t.val / 32) + 1024 * (t.val % 16) + r.val) (2048 + 1024 * (t.val / 16 % 2) + e.val) : ℝ) : EReal) := by
  have ht : t.val < 64 := lt_of_lt_of_eq t.isLt N_0
  have hr := r.isLt
  have he := e.isLt
  rw [x2_eq m c t r e ⟨16384 * (t.val / 32) + 1024 * (t.val % 16) + r.val, by omega⟩ ⟨2048 + 1024 * (t.val / 16 % 2) + e.val, by omega⟩ rfl rfl]
  exact re2_eq H.x _ _ _ _ rfl rfl

/-- The gate inputs of a point's block. -/
theorem pt_a (r : Fin 1024) (e : Fin 128) : (show FVec Ideal S1024x128 .bf16 from iblk m c 3 t) (ix2 r e) =
    ((re2 (aA m c) (16384 * (t.val / 32) + 1024 * (t.val % 16) + r.val) e.val : ℝ) : EReal) := by
  have ht : t.val < 64 := lt_of_lt_of_eq t.isLt N_0
  have hr := r.isLt
  rw [x3_eq m c t r e ⟨16384 * (t.val / 32) + 1024 * (t.val % 16) + r.val, by omega⟩ rfl]
  exact re2_eq H.a _ _ _ _ rfl rfl

/-- The gate weights of a point's block: padded with zeros after row 16. -/
theorem pt_w (j : Fin 128) (e : Fin 512) : (show FVec Ideal S128x512 .bf16 from iblk m c 4 t) (ix2 j e) =
    (((if j.val < 16 then re2 (aW m c) j.val (512 * (t.val / 16 % 2) + e.val) else 0) : ℝ) : EReal) := by
  have he := e.isLt
  rw [x4_eq m c t j e ⟨512 * (t.val / 16 % 2) + e.val, by omega⟩ rfl]
  split_ifs with h
  · rw [weight_lo m c j ⟨j.val, h⟩ _ rfl]
    exact re2_eq H.w _ _ _ _ rfl rfl
  · rw [weight_hi m c j _ (by omega)]
    exact EReal.coe_zero.symm

/-- The gate biases of a point's block. -/
theorem pt_b (e : Fin 512) : (show FVec Ideal S1x512 .f32 from iblk m c 5 t) (ix2 0 e) =
    ((re1 (aB m c) (512 * (t.val / 16 % 2) + e.val) : ℝ) : EReal) := by
  have he := e.isLt
  rw [x5_eq m c t e ⟨512 * (t.val / 16 % 2) + e.val, by omega⟩ rfl, bias]
  exact re1_eq H.b _ _ rfl

/-- The gate at a grid point. -/
theorem pt_g (r : Fin 1024) (e : Fin 512) :
    (k0_pay2 (iblk m c 3 t) (iblk m c 4 t) (iblk m c 5 t) : FVec Ideal S1024x512 .f32) (ix2 r e) =
      ((gR (gateZ (aA m c) (aW m c) (aB m c) (16384 * (t.val / 32) + 1024 * (t.val % 16) + r.val) (512 * (t.val / 16 % 2) + e.val)) / Real.log 2 : ℝ) : EReal) := by
  refine (gate_is (a := fun r j => _) (w := fun j d => _) (b := fun d => _) (pt_a H t) (pt_w H t) (pt_b H t) r e).trans ?_
  refine congrArg (fun z : ℝ => ((gR z / Real.log 2 : ℝ) : EReal)) ?_
  unfold gateZ
  refine congrArg (· + _) ?_
  rw [show (∑ j : Fin 128, re2 (aA m c) (16384 * (t.val / 32) + 1024 * (t.val % 16) + r.val) j.val *
      (if j.val < 16 then re2 (aW m c) j.val (512 * (t.val / 16 % 2) + e.val) else 0)) = _ from Fin.sum_univ_add (a := 16) (b := 112) _]
  simp

/-- The state starts at zero. -/
theorem start_is (β h n : ℕ) (hn : n = 0) (k : ℕ) : Is (headOf (F := Ideal) (k0_pay1 (F := Ideal)) k) (stM (aX m c) (aA m c) (aW m c) (aB m c) β h n) := by
  subst hn
  intro d e
  refine Eq.trans (b := (0 : EReal)) ?_ EReal.coe_zero.symm
  show Ideal.ofBits .f32 0x00000000#32 = 0
  simp [Ideal.ofBits, Ideal.ieee]

/-- The scratch after a grid point holds the two heads' states at the end of its rows. -/
theorem scratch_is (n : ℕ) (hn : n < cfg0.N) (h : ℕ) (h2 : h < 2) : Is (headOf (outsAt0 m c n hn).2 h)
    (stM (aX m c) (aA m c) (aW m c) (aB m c) (n / 32) (2 * (n / 16 % 2) + h) (16 * (n % 16 + 1))) := by
  induction n generalizing h with
  | zero =>
    rw [outsAt0_A m c ⟨0, hn⟩ rfl]
    dsimp only
    rw [leftS_A]
    exact scrBlk_is (pt_k H ⟨0, hn⟩) (pt_v H ⟨0, hn⟩) (pt_g H ⟨0, hn⟩) (fun h _ => start_is H _ _ _ rfl h) h h2
  | succ n ih =>
    by_cases h0 : (n + 1) % 16 = 0
    · rw [outsAt0_A m c ⟨n + 1, hn⟩ h0]
      dsimp only
      rw [leftS_A]
      exact scrBlk_is (pt_k H ⟨n + 1, hn⟩) (pt_v H ⟨n + 1, hn⟩) (pt_g H ⟨n + 1, hn⟩) (fun h _ => start_is H _ _ _ (by show 16 * ((n + 1) % 16) = 0; omega) h) h h2
    · rw [outsAt0_B m c ⟨n + 1, hn⟩ h0]
      dsimp only
      rw [leftS_B]
      refine scrBlk_is (pt_k H ⟨n + 1, hn⟩) (pt_v H ⟨n + 1, hn⟩) (pt_g H ⟨n + 1, hn⟩) (fun h h2 => ?_) h h2
      have := ih (by omega) h h2
      rw [show n / 32 = (n + 1) / 32 by omega, show n / 16 % 2 = (n + 1) / 16 % 2 by omega, show n % 16 + 1 = (n + 1) % 16 by omega] at this
      exact this

/-- The output block of a grid point is its part of the result. -/
theorem block_is (i : S1024x1024.Idx) (R C : ℕ) (hR : R = 16384 * (t.val / 32) + 1024 * (t.val % 16) + (i 0).val)
    (hC : C = 1024 * (t.val / 16 % 2) + (i 1).val) : (show FVec Ideal S1024x1024 .bf16 from (outsAt0 m c t.val t.isLt).1) i =
      ((result (aX m c) (aA m c) (aW m c) (aB m c) R C : ℝ) : EReal) := by
  by_cases h0 : t.val % 16 = 0
  · rw [outsAt0_A m c t h0]
    dsimp only
    rw [left6_A]
    exact outBlk_is (pt_q H t) (pt_k H t) (pt_v H t) (pt_g H t) (Nat.mod_lt _ (by norm_num)) (fun h _ => start_is H _ _ _ (by omega) h) i R C hR hC
  · rw [outsAt0_B m c t h0]
    dsimp only
    rw [left6_B]
    refine outBlk_is (pt_q H t) (pt_k H t) (pt_v H t) (pt_g H t) (Nat.mod_lt _ (by norm_num)) (fun h h2 => ?_) i R C hR hC
    have := scratch_is H (t.val - 1) (Nat.lt_of_le_of_lt (Nat.sub_le _ _) t.isLt) h h2
    rw [show (t.val - 1) / 32 = t.val / 32 by omega, show (t.val - 1) / 16 % 2 = t.val / 16 % 2 by omega, show (t.val - 1) % 16 + 1 = t.val % 16 by omega] at this
    exact this

/-- The result array once every block is written. -/
theorem final : (dats m 0 c).arrAt 6 cfg0.N = fun i => ((result (aX m c) (aA m c) (aW m c) (aB m c) (i 0).val (i 1).val : ℝ) : EReal) := by
  refine (dats m 0 c).arrAt_eq_of_covers 6 _ (by decide +kernel) fun t hf y => ?_
  rw [after0_6]
  refine block_is H t y _ _ ?_ ?_
  · show win0_6.index t 0 * 1024 + 1 * (y 0).val = _
    rw [(idx t).2.2.2.2.2.2]
    show (t.val / 32 * 16 + t.val % 16) * 1024 + 1 * (y 0).val = _
    omega
  · show win0_6.index t 1 * 1024 + 1 * (y 1).val = _
    rw [(idx t).2.2.2.2.2.2]
    show (t.val / 16 % 2) * 1024 + 1 * (y 1).val = _
    omega

end Cert.KernelIdeal.Gla

end
-- ==== Proof.Gla.Loop.lean ====
/- The reference's loop: what its run leaves is the result made from the state after 256 trips. -/
module

public import proofs.«01_k».proof.Proof.Gen.ReferenceIdeal.Run
public import proofs.«01_k».proof.Proof.Gen.ReferenceIdeal.Step

@[expose] public section

set_option maxRecDepth 65536

noncomputable section

namespace Cert.ReferenceIdeal.Gla

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]

/-- The loop's buffers hold a state, and its counter the trip's number. -/
def Carries (V : Valuation τ sig (Elt F)) (s : Step.State F) (n : ℕ) : Prop :=
  V (Proc.devRef .tc main_v53_5) = constantI S_ 32 (BitVec.ofNat 32 n) ∧
  s = ⟨V (Proc.devRef .tc main_v53_6), V (Proc.devRef .tc main_v53_7), V (Proc.devRef .tc main_v53_0), V (Proc.devRef .tc main_v53_1),
    V (Proc.devRef .tc main_v53_2), V (Proc.devRef .tc main_v53_3), V (Proc.devRef .tc main_v53_4)⟩

/-- One trip takes the state to the next. -/
theorem carries_next {V : Valuation τ sig (Elt F)} {s : Step.State F} {n : ℕ} (h : Carries V s n) : Carries (STEP V) (Step.step n s) (n + 1) := by
  obtain ⟨hn, rfl⟩ := h
  refine ⟨?_, ?_⟩
  · rw [STEP_main_v53_5]
    unfold step_main_v53_5
    rw [hn]
    funext i
    show BitVec.ofNat 32 n + 1#32 = BitVec.ofNat 32 (n + 1)
    rw [BitVec.ofNat_add]
  · rw [STEP_main_v53_6, STEP_main_v53_7, STEP_main_v53_0, STEP_main_v53_1, STEP_main_v53_2, STEP_main_v53_3, STEP_main_v53_4]
    unfold step_main_v53_6 step_main_v53_7
    rw [hn]
    rfl

/-- The state the loop starts from on a device. -/
abbrev begin' (m : (ℓ : Loc nD τ sig) → Buf (Elt F) ℓ) (c : Dev nD) : Step.State F :=
  Step.init (m ((c.tc : Thread nD τ).loc main_arg0)) (m ((c.tc : Thread nD τ).loc main_arg1)) (m ((c.tc : Thread nD τ).loc main_arg2)) (m ((c.tc : Thread nD τ).loc main_arg3))

/-- The state before trip `n` on a device. -/
def trips (s : Step.State F) : ℕ → Step.State F
  | 0 => s
  | n + 1 => Step.step n (trips s n)

set_option maxHeartbeats 700000 in
/-- The scan's memory before the first step holds the initial state. -/
theorem carries_begin (m : (ℓ : Loc nD τ sig) → Buf (Elt F) ℓ) (c : Dev nD) : Carries (entryContents preI m c) (begin' m c) 0 := by
  refine ⟨?_, ?_⟩
  · simp only [entryContents, afterL_cons, afterL_nil]
    after_reads_simp
    rfl
  · simp only [entryContents, afterL_cons, afterL_nil]
    after_reads_simp
    rfl

/-- The scan's memory after `n` steps holds the state after `n` steps. -/
theorem carries_trips (m : (ℓ : Loc nD τ sig) → Buf (Elt F) ℓ) (c : Dev nD) : ∀ n, Carries (STEP^[n] (entryContents preI m c)) (trips (begin' m c) n) n
  | 0 => carries_begin m c
  | n + 1 => by
    rw [Function.iterate_succ_apply']
    exact carries_next (carries_trips m c n)

/-- The result read from the memory is the one of the state. -/
theorem carries_end {V : Valuation τ sig (Elt F)} {s : Step.State F} {n : ℕ} (h : Carries V s n) : out_main_v56 V = Step.R_main_v56 s := by
  obtain ⟨-, rfl⟩ := h
  unfold out_main_v56 Step.R_main_v56
  rfl

/-- Every run of the reference ends with its result made from the state after 256 trips, its arguments kept. -/
theorem run_trips (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v56) = Step.R_main_v56 (trips (begin' m c) 256)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (carries_end (carries_trips m c 256)), (h c).2⟩) (Value.run m ρ)

end Cert.ReferenceIdeal.Gla

end
-- ==== Proof.Gla.Setup.lean ====
/- What the reference computes before its loop, over the real numbers. -/
module

public import proofs.«01_k».proof.Proof.Gla.Whole
public import proofs.«01_k».proof.Proof.Gla.Loop

@[expose] public section

set_option maxRecDepth 16384

noncomputable section

namespace Cert.ReferenceIdeal.Gla

open Cert.ReferenceIdeal Cert.ReferenceIdeal.Gen Cert.ReferenceIdeal.Step Idealize.ShloMosaic Idealize.ShloMosaic.TcCoe Idealize.SL.Sem Cert.Gla
open Cert.KernelIdeal.Gla (sum_coe lit16 log_coe)

/-- The larger of two reals. -/
theorem max_coe (x y : ℝ) : max ((x : ℝ) : EReal) ((y : ℝ) : EReal) = ((max x y : ℝ) : EReal) := (EReal.coe_strictMono.monotone.map_max).symm

/-- The exponential of a real. -/
theorem exp_coe (x : ℝ) : Ideal.exp ((x : ℝ) : EReal) = ((Real.exp x : ℝ) : EReal) := rfl

/-- The divisor of the gate. -/
theorem div16 (x : ℝ) : Ideal.div ((x : ℝ) : EReal) (Ideal.ofBits .f32 0x41800000#32) = ((x / 16 : ℝ) : EReal) := by
  rw [show Ideal.ofBits .f32 0x41800000#32 = ((16 : ℝ) : EReal) by simp [Ideal.ofBits, Ideal.ieee, -EReal.coe_mul]; norm_num]
  unfold Ideal.div
  rw [if_neg (by rw [← EReal.coe_zero]; exact EReal.coe_ne_coe_iff.mpr (by norm_num)), ← EReal.coe_inv, ← EReal.coe_mul, div_eq_mul_inv]

/-- A window of the 64 rows of a chunk that ends at a row: the rows up to it. -/
theorem window (f : Fin 64 → EReal) (l : Fin 64) : (∑ w : Fin 64, if h : 63 ≤ l.val + w.val ∧ l.val + w.val - 63 < 64 then f ⟨l.val + w.val - 63, h.2⟩ else 0)
    = ∑ m : Fin 64, if m ≤ l then f m else 0 := by
  refine Fintype.sum_equiv (Equiv.addRight (l + 1)) _ _ fun w => ?_
  have hl := l.isLt
  have hw := w.isLt
  have e : ((Equiv.addRight (l + 1)) w).val = (w.val + (l.val + 1) % 64) % 64 := by
    show (w + (l + 1)).val = _
    rw [Fin.val_add, Fin.val_add]
    rfl
  by_cases h : 63 ≤ l.val + w.val
  · rw [dif_pos ⟨h, by omega⟩, if_pos (Fin.le_def.mpr (by omega))]
    exact congrArg f (Fin.ext (by rw [e]; show l.val + w.val - 63 = _; omega))
  · rw [dif_neg (fun h' => h h'.1), if_neg (fun h' => by have := Fin.le_def.mp h'; omega)]

/-- Adding up a list of numbers one by one. -/
theorem foldl_add {N : ℕ} (f : Fin N → EReal) (v : EReal) : (List.finRange N).foldl (fun r k => r + f k) v = v + ∑ k, f k := by
  rw [Fin.sum_univ_def]
  generalize List.finRange N = l
  induction l generalizing v with
  | nil => simp
  | cons a l ih => rw [List.foldl_cons, ih, List.map_cons, List.sum_cons, add_assoc]

/-- The positions of a window one wide but along the chunk. -/
def line : Fin 64 ≃ (⟨5, ![1, 1, 1, 64, 1]⟩ : Shape).Idx where
  toFun w := ix5 0 0 0 w 0
  invFun i := i 3
  left_inv _ := rfl
  right_inv i := by
    conv_rhs => rw [eq_ix5 i]
    rw [Fin.fin_one_eq_zero (i 0 : Fin 1), Fin.fin_one_eq_zero (i 1 : Fin 1), Fin.fin_one_eq_zero (i 2 : Fin 1), Fin.fin_one_eq_zero (i 4 : Fin 1)]

/-- The running sum down a chunk. -/
theorem running (x : FVec Ideal S256x2x4x64x256 .f32) (z : FVec Ideal S_ .f32) (hz : ∀ i, z i = 0) (n : Fin 256) (β : Fin 2) (h : Fin 4) (l : Fin 64) (d : Fin 256) :
    Host.reduceWindowAdd ![1, 1, 1, 64, 1] ![1, 1, 1, 1, 1] ![0, 0, 0, 63, 0] ![0, 0, 0, 0, 0] x z reduceWindows_S256x2x4x64x256_S256x2x4x64x256_w1s1p0_0_w1s1p0_0_w1s1p0_0_w64s1p63_0_w1s1p0_0 h_S_ (ix5 n β h l d)
      = ∑ m : Fin 64, if m ≤ l then x (ix5 n β h m d) else 0 := by
  unfold Host.reduceWindowAdd
  show Ideal.hostReduceWindowAdd ![1, 1, 1, 64, 1] ![1, 1, 1, 1, 1] ![0, 0, 0, 63, 0] ![0, 0, 0, 0, 0]
    reduceWindows_S256x2x4x64x256_S256x2x4x64x256_w1s1p0_0_w1s1p0_0_w1s1p0_0_w64s1p63_0_w1s1p0_0 x (z _) (ix5 n β h l d) = _
  rw [hz, ← window]
  unfold Ideal.hostReduceWindowAdd Host.reduceWindow
  dsimp only
  rw [foldl_add, zero_add]
  refine (Fintype.sum_equiv (line.trans (Shape.rowMajor ⟨5, ![1, 1, 1, 64, 1]⟩)) _ _ fun w => ?_).symm
  have hw : (Shape.rowMajor ⟨5, ![1, 1, 1, 64, 1]⟩).symm ((line.trans (Shape.rowMajor ⟨5, ![1, 1, 1, 64, 1]⟩)) w) = ix5 0 0 0 w 0 :=
    Equiv.symm_apply_apply (Shape.rowMajor ⟨5, ![1, 1, 1, 64, 1]⟩) (ix5 0 0 0 w 0)
  simp only [hw]
  have hn := n.isLt
  have hβ := β.isLt
  have hh := h.isLt
  have hd := d.isLt
  by_cases hc : 63 ≤ l.val + w.val ∧ l.val + w.val - 63 < 64
  · rw [dif_pos hc, dif_pos]
    · refine congrArg x (funext fun a => Fin.ext ?_)
      fin_cases a
      · show n.val = n.val * 1 + 0 - 0; omega
      · show β.val = β.val * 1 + 0 - 0; omega
      · show h.val = h.val * 1 + 0 - 0; omega
      · show l.val + w.val - 63 = l.val * 1 + w.val - 63; omega
      · show d.val = d.val * 1 + 0 - 0; omega
    · intro a
      fin_cases a
      · show 0 ≤ n.val * 1 + 0 ∧ n.val * 1 + 0 - 0 < 256; omega
      · show 0 ≤ β.val * 1 + 0 ∧ β.val * 1 + 0 - 0 < 2; omega
      · show 0 ≤ h.val * 1 + 0 ∧ h.val * 1 + 0 - 0 < 4; omega
      · show 63 ≤ l.val * 1 + w.val ∧ l.val * 1 + w.val - 63 < 64; omega
      · show 0 ≤ d.val * 1 + 0 ∧ d.val * 1 + 0 - 0 < 256; omega
  · rw [dif_neg hc, dif_neg]
    intro ha
    have h3 : 63 ≤ l.val * 1 + w.val ∧ l.val * 1 + w.val - 63 < 64 := ha 3
    omega

variable {X : FVec Ideal S32768x6144 .bf16} {A : FVec Ideal S32768x128 .bf16} {W : FVec Ideal S16x1024 .f32} {B : FVec Ideal S1024 .f32}

/-- The gate. -/
theorem gate_eq (hA : Fin' A) (hW : Fin' W) (hB : Fin' B) (r : Fin 32768) (c : Fin 1024) :
    A_main_v13 (F := Ideal) X A W B (ix2 r c) = ((gR (gateZ A W B r.val c.val) : ℝ) : EReal) := by
  have ha : ∀ (x : Fin 16) (hx : x.val < 128), A (ix2 r ⟨x.val, hx⟩) = ((re2 A r.val x.val : ℝ) : EReal) := fun x hx => re2_eq hA _ _ _ _ rfl rfl
  have hw : ∀ x : Fin 16, W (ix2 x c) = ((re2 W x.val c.val : ℝ) : EReal) := fun x => re2_eq hW _ _ _ _ rfl rfl
  have hb : B (ix1 c) = ((re1 B c.val : ℝ) : EReal) := re1_eq hB _ _ rfl
  pointwise [A_main_v13, A_main_v11, A_main_v10, A_main_call0_v11, A_main_call0_v10, A_main_call0_v9, A_main_call0_v8, A_main_call0_v7, A_main_call0_v6,
    A_main_call0_v4, A_main_call0_v3, A_main_call0_v1, A_main_v9, A_main_v8, A_main_v7, A_main_v6, A_main_v5, A_main_v4, A_main_v3, K_main_v12, K_main_cst,
    K_main_call0_v5, K_main_call0_v2, K_main_call0_v0, K_main_call0_cst]
  simp only [ha, hw, hb, ← EReal.coe_mul, sum_coe, ← EReal.coe_add]
  rw [show (∑ i : Fin 16, re2 A r.val i.val * re2 W i.val c.val) + re1 B c.val = gateZ A W B r.val c.val from rfl]
  generalize gateZ A W B r.val c.val = z
  rw [if_neg (fun h => h rfl), show FloatOps.absf (φ := .f32) (F := Ideal) (-((z : ℝ) : EReal)) = ((|z| : ℝ) : EReal) by
    show max (-((z : ℝ) : EReal)) (- -((z : ℝ) : EReal)) = _
    rw [← EReal.coe_neg, ← EReal.coe_neg, max_coe, neg_neg, abs, max_comm]]
  rw [← EReal.coe_neg, ← EReal.coe_neg, exp_coe, ← EReal.coe_zero, max_coe]
  unfold Ideal.log1p
  rw [← EReal.coe_one, ← EReal.coe_add, log_coe _ (by positivity), ← EReal.coe_add, ← EReal.coe_neg, div16]
  rfl

section chunk

variable (n : Fin 256) (β : Fin 2) (h : Fin 4) (l : Fin 64)

theorem q_eq (hX : Fin' X) (d : Fin 256) : A_main_v18 (F := Ideal) X A W B (ix5 n β h l d) = ((qM X β.val h.val n.val l d : ℝ) : EReal) := by
  pointwise [A_main_v18, A_main_v16, A_main_v15, A_main_v14, A_main_v0, K_main_v17, K_main_cst_0]
  rw [lit16, re2_eq hX _ _ (16384 * β.val + 64 * n.val + l.val) (256 * h.val + d.val) (by dsimp only; omega) (by dsimp only; omega), ← EReal.coe_mul, mul_one_div]
  rfl

theorem k_eq (hX : Fin' X) (d : Fin 256) : A_main_v21 (F := Ideal) X A W B (ix5 n β h l d) = ((kM X β.val h.val n.val l d : ℝ) : EReal) := by
  pointwise [A_main_v21, A_main_v20, A_main_v19, A_main_v1]
  exact re2_eq hX _ _ (16384 * β.val + 64 * n.val + l.val) (1024 + 256 * h.val + d.val) (by dsimp only; omega) (by dsimp only; omega)

theorem v_eq (hX : Fin' X) (e : Fin 512) : A_main_v24 (F := Ideal) X A W B (ix5 n β h l e) = ((vM X β.val h.val n.val l e : ℝ) : EReal) := by
  pointwise [A_main_v24, A_main_v23, A_main_v22, A_main_v2]
  exact re2_eq hX _ _ (16384 * β.val + 64 * n.val + l.val) (2048 + 512 * h.val + e.val) (by dsimp only; omega) (by dsimp only; omega)

theorem b_eq (hA : Fin' A) (hW : Fin' W) (hB : Fin' B) (d : Fin 256) :
    A_main_v27 (F := Ideal) X A W B (ix5 n β h l d) = ((bM A W B β.val h.val n.val l d : ℝ) : EReal) := by
  unfold A_main_v27
  rw [running _ _ (fun i => by pointwise [K_main_call1_call0_v0, K_main_call1_call0_cst])]
  have hx : ∀ m : Fin 64, A_main_v26 (F := Ideal) X A W B (ix5 n β h m d) = ((gR (gateZ A W B (16384 * β.val + 64 * n.val + m.val) (256 * h.val + d.val)) : ℝ) : EReal) := by
    intro m
    pointwise [A_main_v26, A_main_v25]
    rw [gate_eq hA hW hB]
    dsimp only
    rw [show β.val * 16384 + n.val * 64 + m.val = 16384 * β.val + 64 * n.val + m.val by omega, show h.val * 256 + d.val = 256 * h.val + d.val by omega]
  simp only [hx]
  unfold bM cumR
  rw [← sum_coe]
  exact Finset.sum_congr rfl fun m _ => by split_ifs <;> simp

end chunk

end Cert.ReferenceIdeal.Gla

end
-- ==== Proof.Gla.Ref.lean ====
/- What the reference leaves over the real numbers: the same result array. -/
module

public import proofs.«01_k».proof.Proof.Gla.Setup
public import Idealize.ShloMosaic.Lib.DynamicIndex

@[expose] public section

set_option maxRecDepth 16384

noncomputable section

namespace Cert.ReferenceIdeal.Gla

open Cert.ReferenceIdeal Cert.ReferenceIdeal.Gen Cert.ReferenceIdeal.Step Idealize.ShloMosaic Idealize.ShloMosaic.TcCoe Idealize.SL.Sem Cert.Gla
open Cert.KernelIdeal.Gla (sum_coe)

/-- Every argument entry is a real number. -/
structure AllReal (X : FVec Ideal S32768x6144 .bf16) (A : FVec Ideal S32768x128 .bf16) (W : FVec Ideal S16x1024 .f32) (B : FVec Ideal S1024 .f32) : Prop where
  x : Fin' X
  a : Fin' A
  w : Fin' W
  b : Fin' B

/-- The causal mask. -/
theorem mask (i j : Fin 64) : IntOp.cmpi CmpIPredicate.sge (IntOp.addi (BitVec.ofNat 32 i.val) 0#32) (BitVec.ofNat 32 j.val) = if j ≤ i then 1#1 else 0#1 := by
  revert i j; decide +kernel

variable {X : FVec Ideal S32768x6144 .bf16} {A : FVec Ideal S32768x128 .bf16} {W : FVec Ideal S16x1024 .f32} {B : FVec Ideal S1024 .f32}
variable (H : AllReal X A W B) (n : Fin 256) (β : Fin 2) (h : Fin 4) (l : Fin 64)
include H

theorem score_eq (m : Fin 64) : A_main_v41 (F := Ideal) X A W B (ix5 n β h l m) = (((if m ≤ l then ∑ d : Fin 256,
      qM X β.val h.val n.val l d * Real.exp (bM A W B β.val h.val n.val l d - bM A W B β.val h.val n.val 32 d)
        * (kM X β.val h.val n.val m d * Real.exp (bM A W B β.val h.val n.val 32 d - bM A W B β.val h.val n.val m d)) else 0) : ℝ) : EReal) := by
  have hq := fun l d => q_eq (A := A) (W := W) (B := B) n β h l H.x d
  have hk := fun l d => k_eq (A := A) (W := W) (B := B) n β h l H.x d
  have hb := fun l d => b_eq (X := X) n β h l H.a H.w H.b d
  pointwise [A_main_v41, A_main_v38, A_main_v37, A_main_v36, A_main_v35, A_main_v34, A_main_v33, A_main_v32, A_main_v31, A_main_v30, A_main_v28,
    K_main_call3_v1, K_main_call3_v2, K_main_call3_v0, K_main_cst_1, K_main_v40, K_main_v39, K_main_c, K_main_call2_v5, K_main_call2_c_0, K_main_call2_v4,
    K_main_call2_v3, K_main_call2_v2, K_main_call2_v1, K_main_call2_v0, K_main_call2_c]
  rw [mask]
  simp only [hq, hk, hb, exp_coe, ← EReal.coe_mul, ← EReal.coe_sub, sum_coe]
  split_ifs
  · exact Eq.trans (b := ((_ : ℝ) : EReal)) rfl rfl
  · refine Eq.trans (b := (0 : EReal)) ?_ EReal.coe_zero.symm
    show Ideal.ofBits .f32 0x00000000#32 = 0
    simp [Ideal.ofBits, Ideal.ieee]

theorem intra_eq (e : Fin 512) : A_main_v42 (F := Ideal) X A W B (ix5 n β h l e) =
    ((intraR (qM X β.val h.val n.val) (kM X β.val h.val n.val) (bM A W B β.val h.val n.val) (vM X β.val h.val n.val) l e : ℝ) : EReal) := by
  have hs := fun l m => score_eq H n β h l m
  have hv := fun l e => v_eq (A := A) (W := W) (B := B) n β h l H.x e
  pointwise [A_main_v42]
  simp only [hs, hv, ← EReal.coe_mul, sum_coe]
  rfl

theorem qd_eq (d : Fin 256) : A_main_v44 (F := Ideal) X A W B (ix5 n β h l d) =
    ((qM X β.val h.val n.val l d * Real.exp (bM A W B β.val h.val n.val l d) : ℝ) : EReal) := by
  have hq := q_eq (A := A) (W := W) (B := B) n β h l H.x d
  have hb := b_eq (X := X) n β h l H.a H.w H.b d
  pointwise [A_main_v44, A_main_v43]
  simp only [hq, hb, exp_coe, ← EReal.coe_mul]

theorem kd_eq (d : Fin 256) : A_main_v48 (F := Ideal) X A W B (ix5 n β h l d) =
    ((kM X β.val h.val n.val l d * Real.exp (bM A W B β.val h.val n.val 63 d - bM A W B β.val h.val n.val l d) : ℝ) : EReal) := by
  have hk := k_eq (A := A) (W := W) (B := B) n β h l H.x d
  have hb := fun l => b_eq (X := X) n β h l H.a H.w H.b d
  pointwise [A_main_v48, A_main_v47, A_main_v46, A_main_v45, A_main_v29]
  simp only [hk, hb, exp_coe, ← EReal.coe_mul, ← EReal.coe_sub]

omit l in
theorem decay_eq (d : Fin 256) : A_main_v50 (F := Ideal) X A W B (ix4 n β h d) = ((Real.exp (bM A W B β.val h.val n.val 63 d) : ℝ) : EReal) := by
  have hb := fun l => b_eq (X := X) n β h l H.a H.w H.b d
  pointwise [A_main_v50, A_main_v49, A_main_v29]
  simp only [hb, exp_coe]

omit H
variable (s : State Ideal)

/-- A chunk cut out of an array of chunks. -/
theorem chunk_of {K : ℕ} (x : (⟨5, ![256, 2, 4, 64, K]⟩ : Shape).Idx → EReal) (st : Fin 5 → ℤ) (hs : (⟨5, ![256, 2, 4, 64, K]⟩ : Shape).Slices (fun _ => 0) ⟨5, ![1, 2, 4, 64, K]⟩)
    (h0 : st = fun a => ((![n.val, 0, 0, 0, 0] : Fin 5 → ℕ) a : ℤ)) (e : Fin K) :
    Host.dynamicSlice ⟨5, ![1, 2, 4, 64, K]⟩ x st hs (ix5 0 β h l e) = x (ix5 n β h l e) := by
  have hn := n.isLt
  rw [Host.dynamicSlice_eq_extractStridedSlice _ x st ![n.val, 0, 0, 0, 0] hs ⟨rfl, fun a => by
    fin_cases a
    · show n.val + 1 ≤ 256; omega
    · exact le_rfl
    · exact le_rfl
    · exact le_rfl
    · show 0 + K ≤ K; omega⟩ (fun a => congrFun h0 a)]
  refine congrArg x (funext fun a => Fin.ext ?_)
  fin_cases a
  · rfl
  · show 0 + β.val = β.val; omega
  · show 0 + h.val = h.val; omega
  · show 0 + l.val = l.val; omega
  · show 0 + e.val = e.val; omega

/-- The start of the chunk of a trip. -/
theorem start_of : (fun k => (((![(constantI S_ 32 (BitVec.ofNat 32 n.val) : S_.Idx → BitVec 32), constantI S_ 32 0#32, constantI S_ 32 0#32, constantI S_ 32 0#32, constantI S_ 32 0#32] :
    Fin 5 → (S_.Idx → BitVec 32))) k (Shape.Idx.first h_S_)).toInt) = fun a => ((![n.val, 0, 0, 0, 0] : Fin 5 → ℕ) a : ℤ) := by
  have hn := n.isLt
  funext a
  fin_cases a
  · exact toInt_ofNat_of_lt (by omega)
  all_goals rfl

theorem b4_eq (d : Fin 256) : b4 n.val s (ix5 0 β h l d) = s.main_v53_0 (ix5 n β h l d) := chunk_of n β h l _ _ _ (start_of n) d
theorem b10_eq (d : Fin 256) : b10 n.val s (ix5 0 β h l d) = s.main_v53_1 (ix5 n β h l d) := chunk_of n β h l _ _ _ (start_of n) d
theorem b16_eq (e : Fin 512) : b16 n.val s (ix5 0 β h l e) = s.main_v53_2 (ix5 n β h l e) := chunk_of n β h l _ _ _ (start_of n) e
theorem b27_eq (e : Fin 512) : b27 n.val s (ix5 0 β h l e) = s.main_v53_4 (ix5 n β h l e) := chunk_of n β h l _ _ _ (start_of n) e

omit l in
/-- The decay of a chunk cut out of the array of decays. -/
theorem decay_of (x : FVec Ideal S256x2x4x256 .f32) (st : Fin 4 → ℤ) (hs : S256x2x4x256.Slices (fun _ => 0) S1x2x4x256)
    (h0 : st = fun a => ((![n.val, 0, 0, 0] : Fin 4 → ℕ) a : ℤ)) (d : Fin 256) :
    Host.dynamicSlice S1x2x4x256 x st hs (ix4 0 β h d) = x (ix4 n β h d) := by
  have hn := n.isLt
  rw [Host.dynamicSlice_eq_extractStridedSlice _ x st ![n.val, 0, 0, 0] hs ⟨rfl, fun a => by
    fin_cases a
    · show n.val + 1 ≤ 256; omega
    all_goals exact le_rfl⟩ (fun a => congrFun h0 a)]
  refine congrArg x (funext fun a => Fin.ext ?_)
  fin_cases a
  · rfl
  · show 0 + β.val = β.val; omega
  · show 0 + h.val = h.val; omega
  · show 0 + d.val = d.val; omega

omit l in
theorem b21_eq (d : Fin 256) : b21 n.val s (ix4 0 β h d) = s.main_v53_3 (ix4 n β h d) := by
  have hn := n.isLt
  refine decay_of n β h s.main_v53_3 _ _ ?_ d
  funext a
  fin_cases a
  · exact toInt_ofNat_of_lt (by omega)
  all_goals rfl

/-- A chunk written into an array of chunks: the chunk there, the others as they were. -/
theorem chunk_in (x : FVec Ideal S256x2x4x64x512 .f32) (u : FVec Ideal S1x2x4x64x512 .f32) (st : Fin 5 → ℤ) (hs : S256x2x4x64x512.Slices (fun _ => 0) S1x2x4x64x512)
    (h0 : st = fun a => ((![n.val, 0, 0, 0, 0] : Fin 5 → ℕ) a : ℤ)) (n' : Fin 256) (e : Fin 512) :
    Host.dynamicUpdateSlice x u st hs (ix5 n' β h l e) = if n' = n then u (ix5 0 β h l e) else x (ix5 n' β h l e) := by
  have hn := n.isLt
  rw [Host.dynamicUpdateSlice_eq_updateSlice x u st hs ![n.val, 0, 0, 0, 0] (fun a => by
    rw [h0]
    fin_cases a
    · show (min (max (n.val : ℤ) 0) ((255 : ℕ) : ℤ)).toNat = n.val; omega
    all_goals rfl) ⟨rfl, fun a => by
    fin_cases a
    · show n.val + 1 ≤ 256; omega
    all_goals exact le_rfl⟩]
  unfold updateSlice
  by_cases hc : n' = n
  · subst hc
    rw [dif_pos, if_pos rfl]
    · refine congrArg u (funext fun a => Fin.ext ?_)
      fin_cases a
      · show n'.val - n'.val = 0; omega
      all_goals rfl
    · intro a
      fin_cases a
      · show n'.val ≤ n'.val ∧ n'.val < n'.val + 1; omega
      · exact ⟨Nat.zero_le _, by show β.val < 0 + 2; omega⟩
      · exact ⟨Nat.zero_le _, by show h.val < 0 + 4; omega⟩
      · exact ⟨Nat.zero_le _, by show l.val < 0 + 64; omega⟩
      · exact ⟨Nat.zero_le _, by show e.val < 0 + 512; omega⟩
  · rw [dif_neg, if_neg hc]
    intro ha
    have h1 : n.val ≤ n'.val ∧ n'.val < n.val + 1 := ha 0
    exact hc (Fin.ext (by omega))

/-- The output array after a trip. -/
theorem b41_eq (n' : Fin 256) (e : Fin 512) : b41 n.val s (ix5 n' β h l e) = if n' = n then b30 n.val s (ix4 β h l e) else s.main_v53_7 (ix5 n' β h l e) := by
  refine (chunk_in n β h l s.main_v53_7 (b36 n.val s) _ _ (start_of n) n' e).trans ?_
  pointwise [b36]

/-- The output rows a trip writes. -/
theorem b30_eq (e : Fin 512) : b30 n.val s (ix4 β h l e) = s.main_v53_4 (ix5 n β h l e) + ∑ d : Fin 256, s.main_v53_0 (ix5 n β h l d) * s.main_v53_6 (ix4 β h d e) := by
  have h4 := fun d => b4_eq n β h l s d
  have h27 := b27_eq n β h l s e
  pointwise [b30, b29, b28, b5]
  simp only [h4, h27]

/-- The state a trip leaves. -/
theorem b35_eq (d : Fin 256) (e : Fin 512) : b35 n.val s (ix4 β h d e) = s.main_v53_3 (ix4 n β h d) * s.main_v53_6 (ix4 β h d e) +
    ∑ l : Fin 64, s.main_v53_1 (ix5 n β h l d) * s.main_v53_2 (ix5 n β h l e) := by
  have h10 := fun l => b10_eq n β h l s d
  have h16 := fun l => b16_eq n β h l s e
  have h21 := b21_eq n β h s d
  pointwise [b35, b34, b33, b32, b31, b22, b17, b11]
  simp only [h10, h16, h21]

/-- Trips keep what they only read. -/
theorem trips_keep (k : ℕ) : (trips s k).main_v53_0 = s.main_v53_0 ∧ (trips s k).main_v53_1 = s.main_v53_1 ∧ (trips s k).main_v53_2 = s.main_v53_2 ∧
    (trips s k).main_v53_3 = s.main_v53_3 ∧ (trips s k).main_v53_4 = s.main_v53_4 := by
  induction k with
  | zero => exact ⟨rfl, rfl, rfl, rfl, rfl⟩
  | succ k ih => exact ih

include H

/-- The state before a trip, and the outputs of the trips before. -/
theorem trips_eq (k : ℕ) (hk : k ≤ 256) :
    (∀ β h d e, (trips (init (F := Ideal) X A W B) k).main_v53_6 (ix4 β h d e) = ((stM X A W B β.val h.val k d e : ℝ) : EReal)) ∧
    (∀ n β h l e, n.val < k → (trips (init (F := Ideal) X A W B) k).main_v53_7 (ix5 n β h l e) = ((rowM X A W B β.val h.val n.val l e : ℝ) : EReal)) := by
  induction k with
  | zero =>
    refine ⟨fun β h d e => ?_, fun n β h l e hn => absurd hn (Nat.not_lt_zero _)⟩
    refine Eq.trans (b := (0 : EReal)) ?_ EReal.coe_zero.symm
    show Ideal.ofBits .f32 0x00000000#32 = 0
    simp [Ideal.ofBits, Ideal.ieee]
  | succ k ih =>
    obtain ⟨i6, i7⟩ := ih (by omega)
    obtain ⟨k0, k1, k2, k3, k4⟩ := trips_keep (init (F := Ideal) X A W B) k
    obtain ⟨n, rfl⟩ : ∃ n : Fin 256, n.val = k := ⟨⟨k, by omega⟩, rfl⟩
    refine ⟨fun β h d e => ?_, fun n' β h l e hn => ?_⟩
    · show b35 n.val (trips _ n.val) (ix4 β h d e) = _
      rw [b35_eq, k1, k2, k3]
      simp only [i6]
      show A_main_v50 (F := Ideal) X A W B (ix4 n β h d) * _ + ∑ l : Fin 64, A_main_v48 (F := Ideal) X A W B (ix5 n β h l d) * A_main_v24 (F := Ideal) X A W B (ix5 n β h l e) = _
      have hd := decay_eq H n β h d
      have hk := fun l => kd_eq H n β h l d
      have hv := fun l => v_eq (A := A) (W := W) (B := B) n β h l H.x e
      simp only [hd, hk, hv, ← EReal.coe_mul, sum_coe, ← EReal.coe_add]
      rfl
    · show b41 n.val (trips _ n.val) (ix5 n' β h l e) = _
      rw [b41_eq]
      split_ifs with hc
      · subst hc
        rw [b30_eq, k4, k0]
        simp only [i6]
        show A_main_v42 (F := Ideal) X A W B (ix5 n' β h l e) + ∑ d : Fin 256, A_main_v44 (F := Ideal) X A W B (ix5 n' β h l d) * _ = _
        have hi := intra_eq H n' β h l e
        have hq := fun d => qd_eq H n' β h l d
        simp only [hi, hq, ← EReal.coe_mul, sum_coe, ← EReal.coe_add]
        rfl
      · refine i7 n' β h l e ?_
        have : n'.val ≠ n.val := fun h => hc (Fin.ext h)
        omega

omit n β h l in
/-- The result of the reference. -/
theorem result_eq : R_main_v56 (trips (init (F := Ideal) X A W B) 256) = fun i => ((result X A W B (i 0).val (i 1).val : ℝ) : EReal) := by
  funext i
  idx_vars i
  pointwise [R_main_v56]
  rw [(trips_eq H 256 le_rfl).2 _ _ _ _ _ (Fin.isLt _)]
  unfold result
  exact congrArg (fun k : ℕ => ((rowM X A W B (i0.val / 16384) (i1.val / 512) k (Fin.ofNat 64 i0.val) (Fin.ofNat 512 i1.val) : ℝ) : EReal))
    (show i0.val / 64 % 256 = i0.val % 16384 / 64 by omega)

end Cert.ReferenceIdeal.Gla

end
-- ==== Proof.Gla.Pair.lean ====
/- The gated linear attention: the kernel and the reference end with one array. -/
module

public import proofs.«01_k».proof.Defs
public import proofs.«01_k».proof.Proof.Gla.Finite
public import proofs.«01_k».proof.Proof.Gla.Final
public import proofs.«01_k».proof.Proof.Gla.Loop
public import proofs.«01_k».proof.Proof.Gla.Ref

@[expose] public section

set_option maxRecDepth 16384

noncomputable section

open Idealize.ShloMosaic Idealize.SL.Sem

namespace Cert.ReferenceIdeal.Gla

attribute [local instance] Gen.facts

/-- The reference terminates, keeps its arguments, and ends with every semaphore at zero: it has none. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2, funext fun x => by obtain ⟨_, (x | x)⟩ := x <;> exact x.elim0⟩) (run_trips m ρ)

/-- The array the reference ends with, its arguments named by equations. -/
theorem result_of {m : (ℓ : Loc nD τ sig) → Buf (Elt Ideal) ℓ} {c : Dev nD} (X A W B)
    (hX : m ((c.tc : Thread nD τ).loc main_arg0) = X) (hA : m ((c.tc : Thread nD τ).loc main_arg1) = A)
    (hW : m ((c.tc : Thread nD τ).loc main_arg2) = W) (hB : m ((c.tc : Thread nD τ).loc main_arg3) = B) (H : AllReal X A W B) :
    Step.R_main_v56 (trips (begin' m c) 256) = fun i => ((Cert.Gla.result X A W B (i 0).val (i 1).val : ℝ) : EReal) := by
  subst hX hA hW hB
  exact result_eq H

end Cert.ReferenceIdeal.Gla

namespace Cert.Gla

attribute [local instance] Cert.KernelIdeal.Gen.facts Cert.ReferenceIdeal.Gen.facts Cert.Pre_finite.facts

/-- From real arguments the kernel and the reference end with equal results, and keep their arguments. -/
theorem agree : Cert.algebraic_KernelIdeal_ReferenceIdeal_pre_finite := by
  intro m g m' g' hpre harg
  have hreal := fun c => Cert.Pre_finite.reals (hpre c)
  refine ⟨_, Cert.KernelIdeal.Value.run_blocks m g, ?_⟩
  refine (θ_run _ _ _).mono (fun r h c => ⟨(h c).1.trans ?_, (h c).2⟩) (Cert.ReferenceIdeal.Gla.run_trips m' g')
  obtain ⟨h0, h1, h2, h3⟩ := harg c
  obtain ⟨hx, ha, hw, hb⟩ := hreal c
  exact (Cert.ReferenceIdeal.Gla.result_of _ _ _ _ h0 h1 h2 h3 ⟨hx, ha, hw, hb⟩).trans (Cert.KernelIdeal.Gla.final ⟨hx, ha, hw, hb⟩).symm

end Cert.Gla

end
-- ==== Proof.Row.lean ====
/- What the programs share: the row norm, and reads of a part of a block. -/
module

public import Idealize.ShloMosaic.Lib.Pointwise
public import Idealize.ShloMosaic.Lib.Pipeline.ValueKit
public import Idealize.ShloMosaic.Lib.Pipeline.ReadBack

@[expose] public section

noncomputable section

namespace Cert.Row

open Idealize.ShloMosaic

/-- A row divided by the root of its mean square, times a weight per column. -/
def rms (x g : Fin 2048 → EReal) (e : Fin 2048) : EReal :=
  x e * Ideal.rsqrt (Ideal.div (∑ k, x k * x k) (Ideal.ofBits .f32 1157627904#32) + Ideal.ofBits .f32 897988541#32) * g e

/-- Column `k` of head `h`. -/
def col (h : Fin 4) (k : Fin 512) : Fin 2048 := ⟨h.val * 512 + k.val, by omega⟩

/-- An entry of a rectangle of a matrix is the matrix's entry, moved by the rectangle's corner. -/
theorem ld_at {φ : EltTy} {n m a b : ℕ} (x : Vec Ideal ⟨2, ![n, m]⟩ φ) (o p : ℕ)
    (inb : ∀ q, (![o, p] : Fin 2 → ℕ) q + (![a, b] : Fin 2 → ℕ) q ≤ (⟨2, ![n, m]⟩ : Shape).size q)
    (i : Fin a) (j : Fin b) (r : Fin n) (k : Fin m) (hr : r.val = o + i.val) (hk : k.val = p + j.val) :
    View.ld x (Rect.unit (s := ⟨2, ![n, m]⟩) ![o, p] ![a, b] inb) (ix2 i j) = x (ix2 r k) := by
  rw [View.ld_unit]
  refine extractStridedSlice_apply _ x _ _ (ix2 r k) fun q => ?_
  match q with
  | ⟨0, _⟩ => exact hr
  | ⟨1, _⟩ => exact hk

/-- An entry of a rectangle of an array of one layer is the array's entry, moved by the rectangle's corner. -/
theorem ld_at3 {φ : EltTy} {n m a b : ℕ} (x : Vec Ideal ⟨3, ![1, n, m]⟩ φ) (o p : ℕ)
    (inb : ∀ q, (![0, o, p] : Fin 3 → ℕ) q + (![1, a, b] : Fin 3 → ℕ) q ≤ (⟨3, ![1, n, m]⟩ : Shape).size q)
    (i : Fin a) (j : Fin b) (r : Fin n) (k : Fin m) (hr : r.val = o + i.val) (hk : k.val = p + j.val) :
    View.ld x (Rect.unit (s := ⟨3, ![1, n, m]⟩) ![0, o, p] ![1, a, b] inb) (ix3 0 i j) = x (ix3 0 r k) := by
  rw [View.ld_unit]
  refine extractStridedSlice_apply _ x _ _ (ix3 0 r k) fun q => ?_
  match q with
  | ⟨0, _⟩ => rfl
  | ⟨1, _⟩ => exact hr
  | ⟨2, _⟩ => exact hk

end Cert.Row

end
-- ==== Proof.Cross.Soft.lean ====
/- Softmax over the extended reals: dividing after the weighted sum or before it. -/
module

public import proofs.«01_k».proof.Proof.Row

@[expose] public section

set_option maxRecDepth 16384

noncomputable section

namespace Cert.Cross

open Idealize.ShloMosaic Cert.Row

/-- A real number. -/
def IsR (x : EReal) : Prop := ∃ r : ℝ, x = (r : EReal)

/-- A product of real numbers is one. -/
theorem IsR.mul {x y : EReal} (hx : IsR x) (hy : IsR y) : IsR (x * y) := by
  obtain ⟨a, rfl⟩ := hx; obtain ⟨b, rfl⟩ := hy
  exact ⟨a * b, (EReal.coe_mul a b).symm⟩

/-- A sum of real numbers is one. -/
theorem isR_sum {n : ℕ} (f : Fin n → EReal) (h : ∀ i, IsR (f i)) : IsR (∑ i, f i) := by
  choose r hr using h
  refine ⟨∑ i, r i, ?_⟩
  rw [Finset.sum_congr rfl fun i _ => hr i]
  exact (map_sum (⟨⟨fun x : ℝ => (x : EReal), rfl⟩, EReal.coe_add⟩ : ℝ →+ EReal) r Finset.univ).symm

/-- The number of columns. -/
theorem count_eq : Ideal.ofBits .f32 1157627904#32 = ((2048 : ℝ) : EReal) := by
  simp [Ideal.ofBits, Ideal.ieee]; norm_num; rw [← EReal.coe_mul]; norm_num

/-- The norm's small constant is positive. -/
theorem eps_pos : ∃ r : ℝ, 0 < r ∧ Ideal.ofBits .f32 897988541#32 = (r : EReal) := by
  refine ⟨8796093 * (1 / 8796093022208), by positivity, ?_⟩
  simp [Ideal.ofBits, Ideal.ieee]; norm_num

/-- The scale of the scores is a real number. -/
theorem scale_real : IsR (Ideal.ofBits .f32 1026884851#32) := by
  simp only [Ideal.ofBits, Ideal.ieee]
  norm_num
  exact IsR.mul ⟨_, rfl⟩ ⟨_, rfl⟩

/-- The least number. -/
theorem least_eq : Ideal.ofBits .f32 4286578688#32 = ⊥ := by
  simp [Ideal.ofBits, Ideal.ieee]

/-- A square is not negative. -/
theorem sq_nonneg (x : EReal) : 0 ≤ x * x := by
  induction x using EReal.rec with
  | coe r => rw [← EReal.coe_mul]; exact EReal.coe_nonneg.2 (mul_self_nonneg r)
  | bot => simp
  | top => simp

/-- A normed row is real, whatever the row, when the weights are: an infinite row is normed to zero. -/
theorem rms_real (x g : Fin 2048 → EReal) (hg : ∀ k, IsR (g k)) (e : Fin 2048) : IsR (rms x g e) := by
  obtain ⟨ε, hε, he⟩ := eps_pos
  have h0 : 0 ≤ ∑ k, x k * x k := Finset.sum_nonneg fun k _ => sq_nonneg (x k)
  have h2 : ((2048 : ℝ) : EReal) ≠ 0 := by norm_num
  unfold rms
  rw [he, count_eq, Ideal.div, if_neg h2, ← EReal.coe_inv]
  by_cases ht : ∑ k, x k * x k = ⊤
  · rw [ht, EReal.top_mul_coe_of_pos (by norm_num), EReal.top_add_coe]
    refine ⟨0, ?_⟩
    show x e * 0 * g e = _
    simp
  · have hx : ∀ k, IsR (x k) := fun k => by
      have hk : x k * x k ≠ ⊤ := fun h => ht (top_le_iff.1 (h ▸ Finset.single_le_sum (f := fun k => x k * x k) (fun k _ => sq_nonneg (x k)) (Finset.mem_univ k)))
      generalize x k = y at hk
      induction y using EReal.rec with
      | coe r => exact ⟨r, rfl⟩
      | bot => exact absurd (by simp) hk
      | top => exact absurd (by simp) hk
    obtain ⟨s, hs⟩ := isR_sum _ fun k => (hx k).mul (hx k)
    rw [hs] at h0 ⊢
    have hs0 : 0 ≤ s := EReal.coe_nonneg.1 h0
    rw [← EReal.coe_mul, ← EReal.coe_add]
    have hp : 0 < s * (2048 : ℝ)⁻¹ + ε := by positivity
    refine ((hx e).mul ⟨(Real.sqrt (s * (2048 : ℝ)⁻¹ + ε))⁻¹, ?_⟩).mul (hg e)
    show (if s * (2048 : ℝ)⁻¹ + ε < 0 then (⊥ : EReal) else if s * (2048 : ℝ)⁻¹ + ε = 0 then ⊤ else _) = _
    rw [if_neg (not_lt.2 hp.le), if_neg hp.ne']

/-- The greatest of the scores. -/
def top (s : Fin 256 → EReal) : EReal := Finset.fold max (Ideal.ofBits .f32 4286578688#32) s Finset.univ

/-- The greatest score is no smaller than the least number. -/
theorem max_top (s : Fin 256 → EReal) : max (Ideal.ofBits .f32 4286578688#32) (top s) = top s := by
  rw [least_eq]; exact max_eq_right bot_le

/-- The greatest of real scores is real. -/
theorem top_real (s : Fin 256 → EReal) (h : ∀ i, IsR (s i)) : IsR (top s) := by
  have e : top s = Finset.univ.sup s := by unfold top; rw [least_eq]; rfl
  obtain ⟨i, _, hi⟩ := Finset.exists_mem_eq_sup Finset.univ Finset.univ_nonempty s
  rw [e, hi]; exact h i

/-- The weighted sum, divided afterwards. -/
def after (s v : Fin 256 → EReal) : EReal := Ideal.div (∑ i, Ideal.exp (s i - top s) * v i) (∑ i, Ideal.exp (s i - top s))

/-- The sum weighted by the divided exponentials. -/
def before (s v : Fin 256 → EReal) : EReal :=
  ∑ i, v i * Ideal.div (Ideal.exp (s i - max (Ideal.ofBits .f32 4286578688#32) (top s))) (∑ i, Ideal.exp (s i - max (Ideal.ofBits .f32 4286578688#32) (top s)))

/-- A sum times a nonnegative real number. -/
theorem sum_mul_real {n : ℕ} (f : Fin n → EReal) (c : ℝ) (hc : 0 ≤ c) : (∑ i, f i) * (c : EReal) = ∑ i, f i * (c : EReal) := by
  refine Finset.induction_on (Finset.univ : Finset (Fin n)) (by simp) fun a s ha ih => ?_
  rw [Finset.sum_insert ha, Finset.sum_insert ha, ← ih]
  exact EReal.right_distrib_of_nonneg_of_ne_top (EReal.coe_nonneg.2 hc) (EReal.coe_ne_top c) _ _

/-- For real scores both are one number, whatever the values. -/
theorem before_eq (s v : Fin 256 → EReal) (h : ∀ i, IsR (s i)) : before s v = after s v := by
  unfold before after
  simp only [max_top]
  have hp : ∀ i, ∃ r : ℝ, 0 < r ∧ Ideal.exp (s i - top s) = (r : EReal) := fun i => by
    obtain ⟨a, ha⟩ := h i
    obtain ⟨b, hb⟩ := top_real s h
    refine ⟨Real.exp (a - b), Real.exp_pos _, ?_⟩
    rw [ha, hb, ← EReal.coe_sub]; rfl
  choose r hr he using hp
  have hs : ∑ i, Ideal.exp (s i - top s) = ((∑ i, r i : ℝ) : EReal) := by
    rw [Finset.sum_congr rfl fun i _ => he i]
    exact (map_sum (⟨⟨fun x : ℝ => (x : EReal), rfl⟩, EReal.coe_add⟩ : ℝ →+ EReal) r Finset.univ).symm
  have h0 : 0 < ∑ i, r i := Finset.sum_pos (fun i _ => hr i) Finset.univ_nonempty
  have hn : ((∑ i, r i : ℝ) : EReal) ≠ 0 := fun e => h0.ne' (EReal.coe_eq_zero.1 e)
  rw [hs]
  simp only [Ideal.div, if_neg hn]
  rw [← EReal.coe_inv, sum_mul_real _ _ (inv_nonneg.2 h0.le)]
  exact Finset.sum_congr rfl fun i _ => by rw [← mul_assoc, mul_comm (v i)]

end Cert.Cross

end
-- ==== Proof.Cross.Finite.lean ====
/- The precondition of the cross attention: the weights of the scores are real numbers. -/
module

public import proofs.«01_k».proof.Pre_finite3
public import proofs.«01_k».proof.Proof.Gla.Finite
public import proofs.«01_k».proof.Proof.Cross.Soft

@[expose] public section

set_option maxRecDepth 16384

noncomputable section

namespace Cert.Pre_finite3

open Idealize.ShloMosaic Cert.Cross

/-- The shape relations the precondition names. -/
theorem facts : Facts := by
  constructor <;> decide

attribute [local instance] facts

/-- A matrix all of whose entries are below infinity is one of real numbers: the query weight's size. -/
theorem all_q (Y : FVec Ideal S2048x2048 .f32) (j : S_.Idx)
    (e : Host.reduce IntOp.andi (cmpf (F := Ideal) .olt (Host.absf Y) (broadcastInDim S2048x2048 ![] Facts.bcast_S_S2048x2048 (constant S_ .f32 0x7F800000#32))) (constantI S_ 1 1#1)
      Facts.reducesTo_S2048x2048_S_d0_1 Facts.h_S_ j = 1#1) (i : S2048x2048.Idx) : IsR (Y i) :=
  Cert.Pre_finite.all_of _ _ _ _ Y (fun i => rfl) _ e i

/-- The same for the size of the keys. -/
theorem all_k (Y : FVec Ideal S512x2048 .f32) (j : S_.Idx)
    (e : Host.reduce IntOp.andi (cmpf (F := Ideal) .olt (Host.absf Y) (broadcastInDim S512x2048 ![] Facts.bcast_S_S512x2048 (constant S_ .f32 0x7F800000#32))) (constantI S_ 1 1#1)
      Facts.reducesTo_S512x2048_S_d0_1 Facts.h_S_ j = 1#1) (i : S512x2048.Idx) : IsR (Y i) :=
  Cert.Pre_finite.all_of _ _ _ _ Y (fun i => rfl) _ e i

/-- What the precondition says. -/
theorem reals {X : FVec Ideal S32768x2048 .f32} {G : FVec Ideal S2048 .f32} {Q : FVec Ideal S2x2048x2048 .bf16} {K V : FVec Ideal S2x512x2048 .bf16}
    {W : FVec Ideal S2x2048x2048 .bf16} {H : FVec Ideal S2048 .f32}
    (h : fn (F := Ideal) X G Q K V W H = fun _ => 1#1) :
    (∀ k, IsR (G (ix1 k))) ∧ (∀ k j, IsR (Q (ix3 1 k j))) ∧ ∀ l j, IsR (K (ix3 1 l j)) := by
  have h0 := congrFun h (fun i => i.elim0)
  unfold fn fn_part1 at h0
  dsimp only at h0
  obtain ⟨h0, hk⟩ := IntOp.andi_eq_one.1 h0
  obtain ⟨hg, hq⟩ := IntOp.andi_eq_one.1 h0
  refine ⟨fun k => ?_, fun k j => ?_, fun l j => ?_⟩
  · exact Cert.Pre_finite.all_of _ _ _ _ G (fun i => rfl) _ hg (ix1 k)
  · have := all_q _ _ hq (ix2 k j)
    revert this
    pointwise
    exact id
  · have := all_k _ _ hk (ix2 l j)
    revert this
    pointwise
    exact id

end Cert.Pre_finite3

end
-- ==== Proof.Cross.Point.lean ====
/- The cross attention sublayer over the reals: what a grid point's operations leave. -/
module

public import proofs.«01_k».proof.Proof.Gen.Kernel3Ideal.Value
public import proofs.«01_k».proof.Proof.Cross.Soft

@[expose] public section

set_option maxRecDepth 16384

noncomputable section

namespace Cert.Cross

open Idealize.ShloMosaic Cert.Row

/-- A query's scores against the keys. -/
def score (q : Fin 512 → EReal) (k : Fin 256 → Fin 512 → EReal) (i : Fin 256) : EReal := (∑ d, q d * k i d) * Ideal.ofBits .f32 1026884851#32

/-- What one head adds to a row. -/
def part (q : Fin 512 → EReal) (k v : Fin 256 → Fin 512 → EReal) (w : Fin 512 → Fin 2048 → EReal) (e : Fin 2048) : EReal :=
  ∑ d, after (score q k) (fun i => v i d) * w d e

end Cert.Cross

namespace Cert.Kernel3Ideal.Cross

open Cert.Kernel3Ideal Cert.Kernel3Ideal.Gen Idealize.ShloMosaic Idealize.ShloMosaic.TcCoe Idealize.SL.Sem Cert.Row Cert.Cross

section payloads

variable (x : Vec Ideal S512x2048 .f32) (g : Vec Ideal S1x2048 .f32) (wq : Vec Ideal S1x2048x2048 .bf16) (q : FVec Ideal S512x2048 .bf16) (k v k' v' : Vec Ideal S1x256x512 .bf16)
  (w w' : Vec Ideal S1x512x2048 .bf16) (s : FVec Ideal S512x2048 .f32) (a : FVec Ideal S512x512 .bf16) (r : Fin 512)

/-- The queries. -/
theorem q_at (j : Fin 2048) : k0_pay2 x g wq (ix2 r j) = ∑ k, rms (fun k => x (ix2 r k)) (fun k => g (ix2 0 k)) k * wq (ix3 0 k j) := by
  pointwise [k0_pay2]; rfl

/-- A head's part of row `r`, with the head's first query column. -/
abbrev adds (p : ℕ) (hp : p ≤ 1536) (q : FVec Ideal S512x2048 .bf16) (k v : Vec Ideal S1x256x512 .bf16) (w : Vec Ideal S1x512x2048 .bf16) (r : Fin 512) : Fin 2048 → EReal :=
  part (fun d => q (ix2 r ⟨p + d.val, by omega⟩)) (fun i d => k (ix3 0 i d)) (fun i d => v (ix3 0 i d)) fun d e => w (ix3 0 d e)

/-- The last head's rows. -/
theorem last_at (d : Fin 512) : k0_pay11 q k v (ix2 r d)
    = after (score (fun d => q (ix2 r ⟨1536 + d.val, by omega⟩)) fun i d => k (ix3 0 i d)) fun i => v (ix3 0 i d) := by
  pointwise [k0_pay11]; rfl

/-- The norm of the sum of the heads, added to the row. -/
theorem out_row (e : Fin 2048) : k0_pay1 x s a w g (ix2 r e)
    = x (ix2 r e) + rms (fun e => s (ix2 r e) + ∑ d, a (ix2 r d) * w (ix3 0 d e)) (fun k => g (ix2 0 k)) e := by
  pointwise [k0_pay1]; rfl

/-- The third head, added to the first two. -/
theorem third_at (e : Fin 2048) : k0_pay10 s (k0_pay8 q k) (k0_pay9 (F := Ideal)) v w (ix2 r e) = s (ix2 r e) + adds 1024 (by omega) q k v w r e := by
  pointwise [k0_pay10, k0_pay8, k0_pay9]; rfl

/-- The first two heads. -/
theorem two_at (e : Fin 2048) : k0_pay7 (k0_pay2 x g wq) (k0_pay4 x g wq k) (k0_pay5 x g wq k) (k0_pay6 v) (constant S512x512 .f32 0x00000000#32) w k' v' w' (ix2 r e)
    = part (fun d => k0_pay2 x g wq (ix2 r ⟨d.val, by omega⟩)) (fun i d => k (ix3 0 i d)) (fun i d => v (ix3 0 i d)) (fun d e => w (ix3 0 d e)) e
      + adds 512 (by omega) (k0_pay2 x g wq) k' v' w' r e := by
  pointwise [k0_pay7, k0_pay4, k0_pay5, k0_pay6, k0_pay3]
  rfl

end payloads

end Cert.Kernel3Ideal.Cross

end
-- ==== Proof.Cross.Final.lean ====
/- The cross attention sublayer over the reals: the result array. -/
module

public import proofs.«01_k».proof.Proof.Gen.Kernel3Ideal.Value
public import proofs.«01_k».proof.Proof.Cross.Point

@[expose] public section

set_option maxRecDepth 16384

noncomputable section

namespace Cert.Cross

open Idealize.ShloMosaic Cert.Row

/-- The four heads' rows times the output weight. -/
def mixed (q : Fin 2048 → EReal) (k v : Fin 256 → Fin 2048 → EReal) (w : Fin 2048 → Fin 2048 → EReal) (e : Fin 2048) : EReal :=
  ∑ h : Fin 4, part (fun d => q (col h d)) (fun i d => k i (col h d)) (fun i d => v i (col h d)) (fun d => w (col h d)) e

/-- The memory's row `i` of the sequence that row `n` belongs to. -/
def mrow (n : Fin 32768) (i : Fin 256) : Fin 512 := ⟨n.val / 16384 * 256 + i.val, by omega⟩

/-- The query row `n` in layer `l`. -/
def query (l : Fin 2) (X : (⟨2, ![32768, 2048]⟩ : Shape).Idx → EReal) (G : (⟨1, ![2048]⟩ : Shape).Idx → EReal) (Q : (⟨3, ![2, 2048, 2048]⟩ : Shape).Idx → EReal)
    (n : Fin 32768) (j : Fin 2048) : EReal := ∑ k, rms (fun k => X (ix2 n k)) (fun k => G (ix1 k)) k * Q (ix3 l k j)

/-- Row `n` of layer `l`'s result at column `e`. -/
def result (l : Fin 2) (X : (⟨2, ![32768, 2048]⟩ : Shape).Idx → EReal) (G : (⟨1, ![2048]⟩ : Shape).Idx → EReal) (Q : (⟨3, ![2, 2048, 2048]⟩ : Shape).Idx → EReal)
    (K V : (⟨3, ![2, 512, 2048]⟩ : Shape).Idx → EReal) (W : (⟨3, ![2, 2048, 2048]⟩ : Shape).Idx → EReal) (H : (⟨1, ![2048]⟩ : Shape).Idx → EReal)
    (n : Fin 32768) (e : Fin 2048) : EReal :=
  X (ix2 n e) + rms (mixed (query l X G Q n) (fun i j => K (ix3 l (mrow n i) j)) (fun i j => V (ix3 l (mrow n i) j)) (fun k e => W (ix3 l k e))) (fun k => H (ix1 k)) e

end Cert.Cross

namespace Cert.Kernel3Ideal.Cross

open Cert.Kernel3Ideal Cert.Kernel3Ideal.Gen Idealize.ShloMosaic Idealize.ShloMosaic.TcCoe Idealize.SL.Sem Cert.Row Cert.Cross
open Idealize.ShloMosaic.Pipeline (Dat)

section blocks

variable (x0 : Vec Ideal S512x2048 .f32) (x1 : Vec Ideal S1x2048 .f32) (x2 : Vec Ideal S1x2048x2048 .bf16) (x3 x4 : Vec Ideal S1x256x2048 .bf16)
  (x5 : Vec Ideal S1x2048x2048 .bf16) (x6 : Vec Ideal S1x2048 .f32) (r : Fin 512)

/-- The query row of a point. -/
abbrev qrow (j : Fin 2048) : EReal := ∑ k, rms (fun k => x0 (ix2 r k)) (fun k => x1 (ix2 0 k)) k * x2 (ix3 0 k j)

/-- The queries, read from the blocks. -/
theorem q_eq (j : Fin 2048) : k0_pay2 (View.ld x0 r0_0) (View.ld x1 r0_1) (View.ld x2 r0_2) (ix2 r j) = qrow x0 x1 x2 r j := by
  refine (q_at _ _ _ r j).trans ?_
  refine Finset.sum_congr rfl fun k _ => congrArg₂ (· * ·) (congrArg₂ (fun x g => rms x g k) (funext fun k => ?_) (funext fun k => ?_)) ?_
  · exact ld_at x0 _ _ _ _ _ r k (by omega) (by omega)
  · exact ld_at x1 _ _ _ _ _ 0 k (by rfl) (by omega)
  · exact ld_at3 x2 _ _ _ _ _ k j (by omega) (by omega)

/-- One head's keys or values, read from a block. -/
theorem kv_eq (x : Vec Ideal S1x256x2048 .bf16) (h : Fin 4) (p : ℕ) (hp : p = h.val * 512)
    (inb : ∀ a, (![0, 0, p] : Fin 3 → ℕ) a + S1x256x512.size a ≤ S1x256x2048.size a) :
    (fun (i : Fin 256) (d : Fin 512) => View.ld x (Rect.unit (s := S1x256x2048) ![0, 0, p] S1x256x512.size inb) (ix3 0 i d)) = fun i d => x (ix3 0 i (col h d)) :=
  funext fun i => funext fun d => ld_at3 x _ _ _ _ _ i (col h d) (by omega) (by show h.val * 512 + d.val = _; omega)

/-- One head's rows of the output weight, read from the block. -/
theorem wo_eq (x : Vec Ideal S1x2048x2048 .bf16) (h : Fin 4) (p : ℕ) (hp : p = h.val * 512)
    (inb : ∀ a, (![0, p, 0] : Fin 3 → ℕ) a + S1x512x2048.size a ≤ S1x2048x2048.size a) :
    (fun (d : Fin 512) (e : Fin 2048) => View.ld x (Rect.unit (s := S1x2048x2048) ![0, p, 0] S1x512x2048.size inb) (ix3 0 d e)) = fun d e => x (ix3 0 (col h d) e) :=
  funext fun d => funext fun e => ld_at3 x _ _ _ _ _ (col h d) e (by show h.val * 512 + d.val = _; omega) (by omega)

/-- One head's queries, read from the blocks. -/
theorem qh_eq (h : Fin 4) (f : Fin 512 → Fin 2048) (hf : ∀ d, (f d).val = h.val * 512 + d.val) :
    (fun d => k0_pay2 (View.ld x0 r0_0) (View.ld x1 r0_1) (View.ld x2 r0_2) (ix2 r (f d))) = fun d => qrow x0 x1 x2 r (col h d) :=
  funext fun d => (q_eq x0 x1 x2 r (f d)).trans (congrArg (qrow x0 x1 x2 r) (Fin.ext (hf d)))

/-- The result's block at a row and a column. -/
theorem out_at (e : Fin 2048) : out0_7 x0 x1 x2 x3 x4 x5 x6 (ix2 r e)
    = x0 (ix2 r e) + rms (mixed (qrow x0 x1 x2 r) (fun i j => x3 (ix3 0 i j)) (fun i j => x4 (ix3 0 i j)) (fun k e => x5 (ix3 0 k e))) (fun k => x6 (ix2 0 k)) e := by
  unfold_out out0_7
  canon_tiles y h
  idx_vars y
  obtain rfl : e = y1 := Fin.ext h1
  obtain rfl : r = y0 := Fin.ext h0
  refine (out_row _ _ _ _ _ _ _).trans ?_
  refine congrArg₂ (· + ·) (ld_at x0 _ _ _ _ _ r e (by omega) (by omega)) (congrArg₂ (fun x g => rms x g e) (funext fun e => ?_) (funext fun k => ?_))
  · refine Eq.trans ?_ (Fin.sum_univ_four _).symm
    refine congrArg₂ (· + ·) ?_ ?_
    · refine (third_at _ _ _ _ _ _ _).trans (congrArg₂ (· + ·) ((two_at _ _ _ _ _ _ _ _ _ _ _).trans (congrArg₂ (· + ·) ?_ ?_)) ?_)
      · exact congrFun (congr (congr (congr (congrArg part (qh_eq x0 x1 x2 r 0 _ fun d => by show d.val = 0 * 512 + d.val; omega)) (kv_eq x3 0 0 rfl _)) (kv_eq x4 0 0 rfl _)) (wo_eq x5 0 0 rfl _)) e
      · exact congrFun (congr (congr (congr (congrArg part (qh_eq x0 x1 x2 r 1 _ fun d => rfl)) (kv_eq x3 1 512 rfl _)) (kv_eq x4 1 512 rfl _)) (wo_eq x5 1 512 rfl _)) e
      · exact congrFun (congr (congr (congr (congrArg part (qh_eq x0 x1 x2 r 2 _ fun d => rfl)) (kv_eq x3 2 1024 rfl _)) (kv_eq x4 2 1024 rfl _)) (wo_eq x5 2 1024 rfl _)) e
    · refine (Finset.sum_congr rfl fun d _ => congrArg₂ (· * ·) (last_at _ _ _ _ d) rfl).trans ?_
      exact congrFun (congr (congr (congr (congrArg part (qh_eq x0 x1 x2 r 3 _ fun d => rfl)) (kv_eq x3 3 1536 rfl _)) (kv_eq x4 3 1536 rfl _)) (wo_eq x5 3 1536 rfl _)) e
  · exact ld_at x6 _ _ _ _ _ 0 k (by rfl) (by omega)

end blocks

variable (m : (ℓ : Loc nD τ sig) → Buf (Elt Ideal) ℓ) (c : Dev nD)

/-- The rows. -/
abbrev aX : FVec Ideal S32768x2048 .f32 := m ((c : Thread nD τ).loc main_arg0)
/-- The first norm's weights. -/
abbrev aG : FVec Ideal S2048 .f32 := m ((c : Thread nD τ).loc main_arg1)
/-- The query weights of both layers. -/
abbrev aQ : FVec Ideal S2x2048x2048 .bf16 := m ((c : Thread nD τ).loc main_arg2)
/-- The memory's keys of both layers. -/
abbrev aK : FVec Ideal S2x512x2048 .bf16 := m ((c : Thread nD τ).loc main_arg3)
/-- The memory's values of both layers. -/
abbrev aV : FVec Ideal S2x512x2048 .bf16 := m ((c : Thread nD τ).loc main_arg4)
/-- The output weights of both layers. -/
abbrev aW : FVec Ideal S2x2048x2048 .bf16 := m ((c : Thread nD τ).loc main_arg5)
/-- The last norm's weights. -/
abbrev aH : FVec Ideal S2048 .f32 := m ((c : Thread nD τ).loc main_arg6)

/-- The place of every block of a grid point. -/
theorem idx : ∀ t : Fin cfg0.N, win0_0.index t = ![t.val, 0] ∧ win0_1.index t = ![0, 0] ∧ win0_2.index t = ![1, 0, 0] ∧
    win0_3.index t = ![1, t.val / 32, 0] ∧ win0_4.index t = ![1, t.val / 32, 0] ∧ win0_5.index t = ![1, 0, 0] ∧ win0_6.index t = ![0, 0] ∧ win0_7.index t = ![t.val, 0] :=
  (by decide +kernel : ∀ t : Fin grid0.N, _)

/-- The first norm's weights as the kernel receives them. -/
theorem pre_g (k : Fin 2048) : (show FVec Ideal S1x2048 .f32 from V m c main_v0) (ix2 0 k) = aG m c (ix1 k) := by
  show StableHlo.after _ _ _ _ = _
  simp only [List.flatten_cons, List.flatten_nil, List.append_nil, List.cons_append, List.nil_append, hostOps0]
  after_results
  pointwise

/-- The last norm's weights as the kernel receives them. -/
theorem pre_h (k : Fin 2048) : (show FVec Ideal S1x2048 .f32 from V m c main_v1) (ix2 0 k) = aH m c (ix1 k) := by
  show StableHlo.after _ _ _ _ = _
  simp only [List.flatten_cons, List.flatten_nil, List.append_nil, List.cons_append, List.nil_append, hostOps0]
  after_results
  pointwise

section reads
variable (t : Fin cfg0.N)

/-- The rows at a point. -/
theorem x_eq (r : Fin 512) (n : Fin 32768) (h : n.val = t.val * 512 + r.val) (k : Fin 2048) :
    (show FVec Ideal S512x2048 .f32 from iblk m c 0 t) (ix2 r k) = (m ((c : Thread nD τ).loc main_arg0)) (ix2 n k) := by
  blk_ext [iblk, V, idx t]

/-- The first norm's weights at a point. -/
theorem g_eq (k : Fin 2048) : (show FVec Ideal S1x2048 .f32 from iblk m c 1 t) (ix2 0 k) = aG m c (ix1 k) := by
  refine Eq.trans ?_ (pre_g m c k)
  show (show FVec Ideal S1x2048 .f32 from iblk m c 1 t) (ix2 0 k) = (show FVec Ideal S1x2048 .f32 from V m c main_v0) (ix2 0 k)
  blk_ext [iblk, idx t]

/-- The layer's query weight at a point. -/
theorem wq_eq (k j : Fin 2048) : (show FVec Ideal S1x2048x2048 .bf16 from iblk m c 2 t) (ix3 0 k j) = (m ((c : Thread nD τ).loc main_arg2)) (ix3 1 k j) := by
  blk_ext [iblk, V, idx t]

/-- The layer's keys at a point. -/
theorem k_eq (i : Fin 256) (l : Fin 512) (h : l.val = t.val / 32 * 256 + i.val) (j : Fin 2048) :
    (show FVec Ideal S1x256x2048 .bf16 from iblk m c 3 t) (ix3 0 i j) = (m ((c : Thread nD τ).loc main_arg3)) (ix3 1 l j) := by
  blk_ext [iblk, V, idx t]

/-- The layer's values at a point. -/
theorem v_eq (i : Fin 256) (l : Fin 512) (h : l.val = t.val / 32 * 256 + i.val) (j : Fin 2048) :
    (show FVec Ideal S1x256x2048 .bf16 from iblk m c 4 t) (ix3 0 i j) = (m ((c : Thread nD τ).loc main_arg4)) (ix3 1 l j) := by
  blk_ext [iblk, V, idx t]

/-- The layer's output weight at a point. -/
theorem w_eq (k j : Fin 2048) : (show FVec Ideal S1x2048x2048 .bf16 from iblk m c 5 t) (ix3 0 k j) = (m ((c : Thread nD τ).loc main_arg5)) (ix3 1 k j) := by
  blk_ext [iblk, V, idx t]

/-- The last norm's weights at a point. -/
theorem h_eq (k : Fin 2048) : (show FVec Ideal S1x2048 .f32 from iblk m c 6 t) (ix2 0 k) = aH m c (ix1 k) := by
  refine Eq.trans ?_ (pre_h m c k)
  show (show FVec Ideal S1x2048 .f32 from iblk m c 6 t) (ix2 0 k) = (show FVec Ideal S1x2048 .f32 from V m c main_v1) (ix2 0 k)
  blk_ext [iblk, idx t]

end reads

/-- The memory row of a point's row. -/
theorem mrow_val (t : Fin cfg0.N) (r : Fin 512) (n : Fin 32768) (h : n.val = t.val * 512 + r.val) (i : Fin 256) : (mrow n i).val = t.val / 32 * 256 + i.val := by
  show n.val / 16384 * 256 + i.val = _
  omega

/-- A point's block of the result. -/
theorem block_is (t : Fin cfg0.N) (r : Fin 512) (n : Fin 32768) (h : n.val = t.val * 512 + r.val) (e : Fin 2048) :
    out0_7 (iblk m c 0 t) (iblk m c 1 t) (iblk m c 2 t) (iblk m c 3 t) (iblk m c 4 t) (iblk m c 5 t) (iblk m c 6 t) (ix2 r e)
      = result 1 (aX m c) (aG m c) (aQ m c) (aK m c) (aV m c) (aW m c) (aH m c) n e := by
  refine (out_at _ _ _ _ _ _ _ r e).trans ?_
  refine congrArg₂ (· + ·) (x_eq m c t r n h e) (congrArg₂ (fun x g => rms x g e) ?_ (funext fun k => h_eq m c t k))
  refine congr (congr (congr (congrArg mixed (funext fun j => ?_)) (funext fun i => funext fun j => k_eq m c t i _ (mrow_val t r n h i) j))
    (funext fun i => funext fun j => v_eq m c t i _ (mrow_val t r n h i) j)) (funext fun k => funext fun e => w_eq m c t k e)
  exact Finset.sum_congr rfl fun k _ => congrArg₂ (· * ·) (congrArg₂ (fun x g => rms x g k) (funext fun k => x_eq m c t r n h k) (funext fun k => g_eq m c t k)) (wq_eq m c t k j)

/-- The result array once every block is written. -/
theorem final : (dats m 0 c).arrAt 7 cfg0.N = fun i => result 1 (aX m c) (aG m c) (aQ m c) (aK m c) (aV m c) (aW m c) (aH m c) (i 0) (i 1) := by
  refine (dats m 0 c).arrAt_eq_of_covers 7 _ (by decide +kernel) fun t hf y => ?_
  rw [after0_7]
  have e : y = ix2 (y 0) (y 1) := by funext a; fin_cases a <;> rfl
  have h0 : (((cfg0.win 7).blk t).view.emb y 0).val = t.val * 512 + (y 0).val := by
    show win0_7.index t 0 * 512 + 1 * (y 0).val = _
    rw [(idx t).2.2.2.2.2.2.2]
    show t.val * 512 + 1 * (y 0).val = _
    omega
  have h1 : (((cfg0.win 7).blk t).view.emb y 1) = y 1 := by
    refine Fin.ext ?_
    show win0_7.index t 1 * 2048 + 1 * (y 1).val = _
    rw [(idx t).2.2.2.2.2.2.2]
    show 0 * 2048 + 1 * (y 1).val = _
    omega
  rw [h1]
  refine Eq.trans ?_ (block_is m c t (y 0) _ h0 (y 1))
  generalize out0_7 (iblk m c 0 t) (iblk m c 1 t) (iblk m c 2 t) (iblk m c 3 t) (iblk m c 4 t) (iblk m c 5 t) (iblk m c 6 t) = f
  exact congrArg f e

end Cert.Kernel3Ideal.Cross

end
-- ==== Proof.Cross.Ref.lean ====
/- The cross attention sublayer over the reals: what the reference returns. -/
module

public import proofs.«01_k».proof.Proof.Gen.Reference3Ideal.Run
public import proofs.«01_k».proof.Proof.Cross.Final

@[expose] public section

set_option maxRecDepth 16384

noncomputable section

open Idealize.ShloMosaic Idealize.SL.Sem

namespace Cert.Cross

open Cert.Row

/-- The head of a column. -/
def head (l : Fin 2048) : Fin 4 := ⟨l.val / 512, by omega⟩

/-- The heads' rows times the output weight, one product over all columns, the exponentials divided first. -/
def flat (q : Fin 4 → Fin 512 → EReal) (k v : Fin 256 → Fin 2048 → EReal) (w : Fin 2048 → Fin 2048 → EReal) (e : Fin 2048) : EReal :=
  ∑ l, before (score (q (head l)) fun i d => k i (col (head l) d)) (fun i => v i l) * w l e

/-- For real queries and keys it is the sum over the heads. -/
theorem flat_eq (q : Fin 2048 → EReal) (k v : Fin 256 → Fin 2048 → EReal) (w : Fin 2048 → Fin 2048 → EReal) (hq : ∀ j, IsR (q j)) (hk : ∀ i j, IsR (k i j)) :
    flat (fun h d => q (col h d)) k v w = mixed q k v w := by
  funext e
  refine Eq.symm (Fin.sum_mul_add_congr fun h d hl => ?_)
  have e1 : head ⟨h.val * 512 + d.val, hl⟩ = h := Fin.ext (by show (h.val * 512 + d.val) / 512 = h.val; omega)
  rw [e1, before_eq]
  · rfl
  · exact fun i => (isR_sum _ fun d => (hq _).mul (hk _ _)).mul scale_real

end Cert.Cross

namespace Cert.Reference3Ideal.Cross

open Cert.Reference3Ideal Cert.Reference3Ideal.Gen Idealize.ShloMosaic.TcCoe Cert.Row Cert.Cross

attribute [local instance] Gen.facts
open Facts

/-- The reference's queries, by head. -/
def refQ (X : FVec Ideal S32768x2048 .f32) (G : FVec Ideal S2048 .f32) (WQ : FVec Ideal S2x2048x2048 .bf16) : FVec Ideal S2x16384x4x512 .f32 :=
  shapeCast _ (Host.dotGeneral dot_S32768x2048_S2048x2048_S32768x2048_1_0_0_1_n_n none (mulf (mulf X (broadcastInDim S32768x2048 ![0, 1] bcast_S32768x1_S32768x2048_0_1 (Host.rsqrt (addf (Host.divf (broadcastInDim S32768x1 ![0] bcast_S32768_S32768x1_0 (Host.reduceAdd (mulf X X) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 G))) (extf .f32 (shapeCast _ (extractStridedSlice S1x2048x2048 ![1, 0, 0] WQ slices_S2x2048x2048_S1x2048x2048_1_0_0) shapeCasts_S1x2048x2048_S2048x2048) bitsLt_bf16_f32)) shapeCasts_S32768x2048_S2x16384x4x512

/-- The reference's scores. -/
def refS (Q : FVec Ideal S2x16384x4x512 .f32) (K : FVec Ideal S2x512x2048 .bf16) : FVec Ideal S2x4x16384x256 .f32 :=
  mulf (Host.dotGeneral dot_S2x16384x4x512_S2x256x4x512_S2x4x16384x256_3_3_1_1_02_02 none Q (shapeCast _ (extf .f32 (shapeCast _ (extractStridedSlice S1x512x2048 ![1, 0, 0] K slices_S2x512x2048_S1x512x2048_1_0_0) shapeCasts_S1x512x2048_S512x2048) bitsLt_bf16_f32) shapeCasts_S512x2048_S2x256x4x512)) (broadcastInDim S2x4x16384x256 ![] bcast_S_S2x4x16384x256 (constant S_ .f32 0x3D3504F3#32))

/-- The reference's exponentials. -/
def refE (S : FVec Ideal S2x4x16384x256 .f32) : FVec Ideal S2x4x16384x256 .f32 :=
  Host.exp (subf S (broadcastInDim S2x4x16384x256 ![0, 1, 2, 3] bcast_S2x4x16384x1_S2x4x16384x256_0_1_2_3 (broadcastInDim S2x4x16384x1 ![0, 1, 2] bcast_S2x4x16384_S2x4x16384x1_0_1_2 (maximumf (broadcastInDim S2x4x16384 ![] bcast_S_S2x4x16384 (constant S_ .f32 0xFF800000#32)) (Host.reduce FloatOps.maximumf S (constant S_ .f32 0xFF800000#32) reducesTo_S2x4x16384x256_S2x4x16384_d3 h_S_)))))

/-- The reference's divided exponentials. -/
def refP (E : FVec Ideal S2x4x16384x256 .f32) : FVec Ideal S2x4x16384x256 .f32 :=
  Host.divf E (broadcastInDim S2x4x16384x256 ![0, 1, 2, 3] bcast_S2x4x16384x1_S2x4x16384x256_0_1_2_3 (broadcastInDim S2x4x16384x1 ![0, 1, 2] bcast_S2x4x16384_S2x4x16384x1_0_1_2 (Host.reduceAdd E (constant S_ .f32 0x00000000#32) reducesTo_S2x4x16384x256_S2x4x16384_d3 h_S_)))

/-- The heads' rows in the reference. -/
def refO (P : FVec Ideal S2x4x16384x256 .f32) (V : FVec Ideal S2x512x2048 .bf16) : FVec Ideal S32768x2048 .f32 :=
  shapeCast _ (transpose S2x16384x4x512 [0, 3, 1, 2] (Host.dotGeneral dot_S2x256x4x512_S2x4x16384x256_S2x4x512x16384_1_3_3_2_02_01 none (shapeCast _ (extf .f32 (shapeCast _ (extractStridedSlice S1x512x2048 ![1, 0, 0] V slices_S2x512x2048_S1x512x2048_1_0_0) shapeCasts_S1x512x2048_S512x2048) bitsLt_bf16_f32) shapeCasts_S512x2048_S2x256x4x512) P) transposes_S2x4x512x16384_S2x16384x4x512_0_3_1_2) shapeCasts_S2x16384x4x512_S32768x2048

/-- The rows times the output weight in the reference. -/
def refY (O : FVec Ideal S32768x2048 .f32) (W : FVec Ideal S2x2048x2048 .bf16) : FVec Ideal S32768x2048 .f32 :=
  Host.dotGeneral dot_S32768x2048_S2048x2048_S32768x2048_1_0_0_1_n_n none O (extf .f32 (shapeCast _ (extractStridedSlice S1x2048x2048 ![1, 0, 0] W slices_S2x2048x2048_S1x2048x2048_1_0_0) shapeCasts_S1x2048x2048_S2048x2048) bitsLt_bf16_f32)

/-- The reference's result. -/
def refOut (X Y : FVec Ideal S32768x2048 .f32) (H : FVec Ideal S2048 .f32) : FVec Ideal S32768x2048 .f32 :=
  addf X (mulf (mulf Y (broadcastInDim S32768x2048 ![0, 1] bcast_S32768x1_S32768x2048_0_1 (Host.rsqrt (addf (Host.divf (broadcastInDim S32768x1 ![0] bcast_S32768_S32768x1_0 (Host.reduceAdd (mulf Y Y) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 H)))

/-- The queries, entry by entry. -/
theorem refQ_at (X : FVec Ideal S32768x2048 .f32) (G : FVec Ideal S2048 .f32) (WQ : FVec Ideal S2x2048x2048 .bf16) (n : Fin 32768) (h : Fin 4) (d : Fin 512) :
    refQ X G WQ (ix4 ⟨n.val / 16384, by omega⟩ ⟨n.val % 16384, by omega⟩ h d) = query 1 X G WQ n (col h d) := by
  pointwise [refQ]
  rfl

/-- The scores, entry by entry. -/
theorem refS_at (Q : FVec Ideal S2x16384x4x512 .f32) (K : FVec Ideal S2x512x2048 .bf16) (b : Fin 2) (t : Fin 16384) (h : Fin 4) (i : Fin 256) :
    refS Q K (ix4 b h t i) = score (fun d => Q (ix4 b t h d)) (fun i d => K (ix3 1 ⟨b.val * 256 + i.val, by omega⟩ (col h d))) i := by
  pointwise [refS]
  rfl

/-- The greatest score of a row. -/
theorem most_at (S : FVec Ideal S2x4x16384x256 .f32) (b : Fin 2) (t : Fin 16384) (h : Fin 4) :
    Host.reduce FloatOps.maximumf S (constant S_ .f32 0xFF800000#32) reducesTo_S2x4x16384x256_S2x4x16384_d3 h_S_ (ix3 b h t) = top fun i => S (ix4 b h t i) := by
  pointwise
  rfl

/-- The exponentials below given bounds, entry by entry. -/
theorem exp_at (S : FVec Ideal S2x4x16384x256 .f32) (M : FVec Ideal S2x4x16384 .f32) (b : Fin 2) (t : Fin 16384) (h : Fin 4) (i : Fin 256) :
    (Host.exp (subf S (broadcastInDim S2x4x16384x256 ![0, 1, 2, 3] bcast_S2x4x16384x1_S2x4x16384x256_0_1_2_3 (broadcastInDim S2x4x16384x1 ![0, 1, 2] bcast_S2x4x16384_S2x4x16384x1_0_1_2
      (maximumf (broadcastInDim S2x4x16384 ![] bcast_S_S2x4x16384 (constant S_ .f32 0xFF800000#32)) M)))) : FVec Ideal S2x4x16384x256 .f32) (ix4 b h t i)
    = Ideal.exp (S (ix4 b h t i) - max (Ideal.ofBits .f32 4286578688#32) (M (ix3 b h t))) := by
  pointwise

/-- The exponentials, entry by entry. -/
theorem refE_at (S : FVec Ideal S2x4x16384x256 .f32) (b : Fin 2) (t : Fin 16384) (h : Fin 4) (i : Fin 256) :
    refE S (ix4 b h t i) = Ideal.exp (S (ix4 b h t i) - max (Ideal.ofBits .f32 4286578688#32) (top fun i => S (ix4 b h t i))) := by
  exact (exp_at S _ b t h i).trans (congrArg (fun x => Ideal.exp (S (ix4 b h t i) - max (Ideal.ofBits .f32 4286578688#32) x)) (most_at S b t h))

/-- The divided exponentials, entry by entry. -/
theorem refP_at (E : FVec Ideal S2x4x16384x256 .f32) (b : Fin 2) (t : Fin 16384) (h : Fin 4) (i : Fin 256) :
    refP E (ix4 b h t i) = Ideal.div (E (ix4 b h t i)) (∑ j, E (ix4 b h t j)) := by
  pointwise [refP]

/-- The heads' rows, entry by entry. -/
theorem refO_at (P : FVec Ideal S2x4x16384x256 .f32) (V : FVec Ideal S2x512x2048 .bf16) (n : Fin 32768) (l : Fin 2048) :
    refO P V (ix2 n l) = ∑ i, V (ix3 1 (mrow n i) l) * P (ix4 ⟨n.val / 16384, by omega⟩ (head l) ⟨n.val % 16384, by omega⟩ i) := by
  pointwise [refO]
  rfl

/-- The product with the output weight, entry by entry. -/
theorem refY_at (O : FVec Ideal S32768x2048 .f32) (W : FVec Ideal S2x2048x2048 .bf16) (n : Fin 32768) (e : Fin 2048) :
    refY O W (ix2 n e) = ∑ l, O (ix2 n l) * W (ix3 1 l e) := by
  pointwise [refY]

/-- The result, entry by entry. -/
theorem refOut_at (X Y : FVec Ideal S32768x2048 .f32) (H : FVec Ideal S2048 .f32) (n : Fin 32768) (e : Fin 2048) :
    refOut X Y H (ix2 n e) = X (ix2 n e) + rms (fun e => Y (ix2 n e)) (fun k => H (ix1 k)) e := by
  pointwise [refOut]
  rfl

/-- The whole reference, entry by entry. -/
theorem ref_at (X : FVec Ideal S32768x2048 .f32) (G : FVec Ideal S2048 .f32) (WQ : FVec Ideal S2x2048x2048 .bf16) (K V : FVec Ideal S2x512x2048 .bf16)
    (W : FVec Ideal S2x2048x2048 .bf16) (H : FVec Ideal S2048 .f32) (n : Fin 32768) (e : Fin 2048) :
    refOut X (refY (refO (refP (refE (refS (refQ X G WQ) K))) V) W) H (ix2 n e)
    = X (ix2 n e) + rms (flat (fun h d => query 1 X G WQ n (col h d)) (fun i j => K (ix3 1 (mrow n i) j)) (fun i j => V (ix3 1 (mrow n i) j)) (fun k e => W (ix3 1 k e)))
      (fun k => H (ix1 k)) e := by
  refine (refOut_at X _ H n e).trans (congrArg (fun y => X (ix2 n e) + rms y (fun k => H (ix1 k)) e) (funext fun e => ?_))
  refine (refY_at _ W n e).trans (Finset.sum_congr rfl fun l _ => congrArg (· * W (ix3 1 l e)) ?_)
  refine (refO_at _ V n l).trans (Finset.sum_congr rfl fun i _ => congrArg (V (ix3 1 (mrow n i) l) * ·) ?_)
  refine (refP_at _ _ _ _ i).trans ?_
  simp only [refE_at]
  have hs : (fun i => refS (refQ X G WQ) K (ix4 ⟨n.val / 16384, by omega⟩ (head l) ⟨n.val % 16384, by omega⟩ i))
      = score (fun d => query 1 X G WQ n (col (head l) d)) fun i d => K (ix3 1 (mrow n i) (col (head l) d)) := funext fun i => by
    refine (refS_at _ K _ _ (head l) i).trans ?_
    exact congrArg (fun q => score q (fun i d => K (ix3 1 (mrow n i) (col (head l) d))) i) (funext fun d => refQ_at X G WQ n (head l) d)
  rw [hs]
  simp only [fun i => congrFun hs i]

variable (m : (ℓ : Loc nD τ sig) → Buf (Elt Ideal) ℓ) (ρ : Dev nD → PrngReg)

/-- What the reference returns. -/
theorem res_eq (c : Dev nD) : Value.res_main_v60 m c
    = refOut (m ((c.tc : Thread nD τ).loc main_arg0)) (refY (refO (refP (refE (refS (refQ (m ((c.tc : Thread nD τ).loc main_arg0)) (m ((c.tc : Thread nD τ).loc main_arg1))
      (m ((c.tc : Thread nD τ).loc main_arg2))) (m ((c.tc : Thread nD τ).loc main_arg3))))) (m ((c.tc : Thread nD τ).loc main_arg4))) (m ((c.tc : Thread nD τ).loc main_arg5)))
      (m ((c.tc : Thread nD τ).loc main_arg6)) := by
  unfold Value.res_main_v60 refOut refY refO refP refE refS refQ
  rfl

end Cert.Reference3Ideal.Cross

end
-- ==== Proof.Cross.Pair.lean ====
/- The cross attention sublayer: the kernel and the reference end with the same array. -/
module

public import proofs.«01_k».proof.Defs
public import proofs.«01_k».proof.Proof.Cross.Finite
public import proofs.«01_k».proof.Proof.Cross.Ref

@[expose] public section

set_option maxRecDepth 16384

noncomputable section

open Idealize.ShloMosaic Idealize.SL.Sem

namespace Cert.Cross

open Cert.Row

/-- The reference's entry is the kernel's when the first norm's weights, the query weight and the keys are real. -/
theorem ref_eq (l : Fin 2) (X : (⟨2, ![32768, 2048]⟩ : Shape).Idx → EReal) (G : (⟨1, ![2048]⟩ : Shape).Idx → EReal) (Q : (⟨3, ![2, 2048, 2048]⟩ : Shape).Idx → EReal)
    (K V : (⟨3, ![2, 512, 2048]⟩ : Shape).Idx → EReal) (W : (⟨3, ![2, 2048, 2048]⟩ : Shape).Idx → EReal) (H : (⟨1, ![2048]⟩ : Shape).Idx → EReal)
    (hG : ∀ k, IsR (G (ix1 k))) (hQ : ∀ k j, IsR (Q (ix3 l k j))) (hK : ∀ i j, IsR (K (ix3 l i j))) (n : Fin 32768) (e : Fin 2048) :
    X (ix2 n e) + rms (flat (fun h d => query l X G Q n (col h d)) (fun i j => K (ix3 l (mrow n i) j)) (fun i j => V (ix3 l (mrow n i) j)) (fun k e => W (ix3 l k e)))
      (fun k => H (ix1 k)) e = result l X G Q K V W H n e := by
  rw [flat_eq]
  · rfl
  · exact fun j => isR_sum _ fun k => (rms_real _ _ hG k).mul (hQ k j)
  · exact fun i j => hK _ j

end Cert.Cross

namespace Cert.Reference3Ideal.Cross

open Cert.Reference3Ideal Cert.Reference3Ideal.Gen Idealize.ShloMosaic.TcCoe Cert.Row Cert.Cross

attribute [local instance] Gen.facts

variable (m : (ℓ : Loc nD τ sig) → Buf (Elt Ideal) ℓ) (ρ : Dev nD → PrngReg)

/-- The reference terminates, keeps its arguments, and ends with every semaphore at zero: it has none. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run defs _ _).mono (fun r h => ⟨fun c => (h c).2, funext fun x => by obtain ⟨_, (x | x)⟩ := x <;> exact x.elim0⟩) (Value.run m ρ)

/-- What the reference returns, from arguments named by equations. -/
theorem res_is (c : Dev nD) (X : FVec Ideal S32768x2048 .f32) (G : FVec Ideal S2048 .f32) (WQ : FVec Ideal S2x2048x2048 .bf16) (K V : FVec Ideal S2x512x2048 .bf16)
    (W : FVec Ideal S2x2048x2048 .bf16) (H : FVec Ideal S2048 .f32)
    (hX : m ((c.tc : Thread nD τ).loc main_arg0) = X) (hG : m ((c.tc : Thread nD τ).loc main_arg1) = G) (hWQ : m ((c.tc : Thread nD τ).loc main_arg2) = WQ)
    (hK : m ((c.tc : Thread nD τ).loc main_arg3) = K) (hV : m ((c.tc : Thread nD τ).loc main_arg4) = V) (hW : m ((c.tc : Thread nD τ).loc main_arg5) = W)
    (hH : m ((c.tc : Thread nD τ).loc main_arg6) = H)
    (rG : ∀ k, IsR (G (ix1 k))) (rQ : ∀ k j, IsR (WQ (ix3 1 k j))) (rK : ∀ l j, IsR (K (ix3 1 l j))) :
    Value.res_main_v60 m c = fun i => result 1 X G WQ K V W H (i 0) (i 1) := by
  rw [res_eq, hX, hG, hWQ, hK, hV, hW, hH]
  funext i
  obtain ⟨n, e, rfl⟩ : ∃ (n : Fin 32768) (e : Fin 2048), i = ix2 n e := ⟨i 0, i 1, by funext a; fin_cases a <;> rfl⟩
  exact (ref_at X G WQ K V W H n e).trans (ref_eq 1 X G WQ K V W H rG rQ rK n e)

end Cert.Reference3Ideal.Cross

namespace Cert.Cross

attribute [local instance] Cert.Kernel3Ideal.Gen.facts Cert.Reference3Ideal.Gen.facts Cert.Pre_finite3.facts

/-- From real weights of the scores the kernel and the reference end with equal results, and keep their arguments. -/
theorem agree : Cert.algebraic_Kernel3Ideal_Reference3Ideal_pre_finite3 := by
  intro m g m' g' hpre harg
  refine ⟨_, Cert.Kernel3Ideal.Value.run_blocks m g, ?_⟩
  refine (θ_run _ _ _).mono (fun r h c => ⟨(h c).1.trans ?_, (h c).2⟩) (Cert.Reference3Ideal.Value.run m' g')
  obtain ⟨h0, h1, h2, h3, h4, h5, h6⟩ := harg c
  obtain ⟨rG, rQ, rK⟩ := Cert.Pre_finite3.reals (hpre c)
  refine Eq.trans ?_ (Cert.Kernel3Ideal.Cross.final m c).symm
  exact Cert.Reference3Ideal.Cross.res_is m' c _ _ _ _ _ _ _ h0 h1 h2 h3 h4 h5 h6 rG rQ rK

end Cert.Cross

end
-- ==== Proof.Norm.Final.lean ====
/- The norm and the projections over the reals: what a grid point leaves, and the two result arrays. -/
module

public import proofs.«01_k».proof.Proof.Gen.Kernel4Ideal.Value
public import proofs.«01_k».proof.Proof.Row

@[expose] public section

set_option maxRecDepth 16384

noncomputable section

namespace Cert.Norm

open Idealize.ShloMosaic Cert.Row

/-- The normed row `n` times column `j` of a weight. -/
def result {w : ℕ} (X : (⟨2, ![32768, 2048]⟩ : Shape).Idx → EReal) (G : (⟨1, ![2048]⟩ : Shape).Idx → EReal) (W : (⟨2, ![2048, w]⟩ : Shape).Idx → EReal)
    (n : Fin 32768) (j : Fin w) : EReal :=
  ∑ k, rms (fun k => X (ix2 n k)) (fun k => G (ix1 k)) k * W (ix2 k j)

end Cert.Norm

namespace Cert.Kernel4Ideal.Norm

open Cert.Kernel4Ideal Cert.Kernel4Ideal.Gen Idealize.ShloMosaic Idealize.ShloMosaic.TcCoe Idealize.SL.Sem Cert.Row Cert.Norm
open Idealize.ShloMosaic.Pipeline (Dat)

section payloads

variable (x : Vec Ideal S256x2048 .f32) (g : Vec Ideal S1x2048 .f32) (w : Vec Ideal S2048x6144 .bf16) (a : Vec Ideal S2048x128 .bf16) (r : Fin 256)

/-- The normed rows. -/
theorem norm_at (e : Fin 2048) : k0_pay4 x g (ix2 r e) = rms (fun k => x (ix2 r k)) (fun k => g (ix2 0 k)) e := by
  pointwise [k0_pay4]; rfl

/-- The normed rows times the weight. -/
theorem proj_at (j : Fin 6144) : k0_pay5 x g w (ix2 r j) = ∑ k, rms (fun k => x (ix2 r k)) (fun k => g (ix2 0 k)) k * w (ix2 k j) := by
  simp only [← norm_at]; pointwise [k0_pay5]

/-- The normed rows times the narrow weight. -/
theorem side_at (j : Fin 128) : k0_pay6 x g a (ix2 r j) = ∑ k, rms (fun k => x (ix2 r k)) (fun k => g (ix2 0 k)) k * a (ix2 k j) := by
  simp only [← norm_at]; pointwise [k0_pay6]

/-- The wide product as the lower half spells it. -/
theorem proj_at' (j : Fin 6144) : k0_pay2 x (k0_pay7 g) (k0_pay8 x) k0_pay9 w (ix2 r j) = ∑ k, rms (fun k => x (ix2 r k)) (fun k => g (ix2 0 k)) k * w (ix2 k j) :=
  proj_at x g w r j

/-- The narrow product as the lower half spells it. -/
theorem side_at' (j : Fin 128) : k0_pay3 x (k0_pay7 g) (k0_pay8 x) k0_pay9 a (ix2 r j) = ∑ k, rms (fun k => x (ix2 r k)) (fun k => g (ix2 0 k)) k * a (ix2 k j) :=
  side_at x g a r j

end payloads

section blocks

variable (x : Vec Ideal S512x2048 .f32) (g : Vec Ideal S1x2048 .f32) (w : Vec Ideal S2048x6144 .bf16) (a : Vec Ideal S2048x128 .bf16) (r : Fin 512)

/-- The rows a half of a block reads, and the weights. -/
theorem sums_eq {b : ℕ} (z : Vec Ideal ⟨2, ![2048, b]⟩ .bf16) (o : ℕ) (inb : ∀ a, (![o, 0] : Fin 2 → ℕ) a + S256x2048.size a ≤ S512x2048.size a)
    (inb1 : ∀ a, (![0, 0] : Fin 2 → ℕ) a + S1x2048.size a ≤ S1x2048.size a)
    (inb2 : ∀ a, (![0, 0] : Fin 2 → ℕ) a + (⟨2, ![2048, b]⟩ : Shape).size a ≤ (⟨2, ![2048, b]⟩ : Shape).size a) (i : Fin 256) (h : r.val = o + i.val) (j : Fin b) :
    ∑ k, rms (fun k => View.ld x (Rect.unit (s := S512x2048) ![o, 0] S256x2048.size inb) (ix2 i k)) (fun k => View.ld g (Rect.unit (s := S1x2048) ![0, 0] S1x2048.size inb1) (ix2 0 k)) k
      * View.ld z (Rect.unit (s := ⟨2, ![2048, b]⟩) ![0, 0] (⟨2, ![2048, b]⟩ : Shape).size inb2) (ix2 k j)
    = ∑ k, rms (fun k => x (ix2 r k)) (fun k => g (ix2 0 k)) k * z (ix2 k j) := by
  refine Finset.sum_congr rfl fun k _ => congrArg₂ (· * ·) (congrArg₂ (fun x g => rms x g k) (funext fun k => ?_) (funext fun k => ?_)) ?_
  · exact ld_at x _ _ _ _ _ r k (by omega) (by omega)
  · exact ld_at g _ _ _ _ _ 0 k (by rfl) (by omega)
  · exact ld_at z _ _ _ _ _ k j (by omega) (by omega)

/-- The wide result's block at a row and a column. -/
theorem out_at (j : Fin 6144) : out0_4 x g w a (ix2 r j) = ∑ k, rms (fun k => x (ix2 r k)) (fun k => g (ix2 0 k)) k * w (ix2 k j) := by
  unfold_out out0_4
  canon_tiles y h
  · idx_vars y
    obtain rfl : j = y1 := Fin.ext h1
    exact (proj_at' _ _ _ _ _).trans (sums_eq x g r w _ _ _ _ _ h0 j)
  · idx_vars y
    obtain rfl : j = y1 := Fin.ext h1
    exact (proj_at _ _ _ _ _).trans (sums_eq x g r w _ _ _ _ _ (h0.trans (Nat.zero_add _).symm) j)

/-- The narrow result's block at a row and a column. -/
theorem side_out_at (j : Fin 128) : out0_5 x g w a (ix2 r j) = ∑ k, rms (fun k => x (ix2 r k)) (fun k => g (ix2 0 k)) k * a (ix2 k j) := by
  unfold_out out0_5
  canon_tiles y h
  · idx_vars y
    obtain rfl : j = y1 := Fin.ext h1
    exact (side_at' _ _ _ _ _).trans (sums_eq x g r a _ _ _ _ _ h0 j)
  · idx_vars y
    obtain rfl : j = y1 := Fin.ext h1
    exact (side_at _ _ _ _ _).trans (sums_eq x g r a _ _ _ _ _ (h0.trans (Nat.zero_add _).symm) j)

end blocks

variable (m : (ℓ : Loc nD τ sig) → Buf (Elt Ideal) ℓ) (c : Dev nD)

/-- The rows. -/
abbrev aX : FVec Ideal S32768x2048 .f32 := m ((c : Thread nD τ).loc main_arg0)
/-- The norm's weights. -/
abbrev aG : FVec Ideal S2048 .f32 := m ((c : Thread nD τ).loc main_arg1)
/-- The wide weight. -/
abbrev aW : FVec Ideal S2048x6144 .bf16 := m ((c : Thread nD τ).loc main_arg2)
/-- The narrow weight. -/
abbrev aA : FVec Ideal S2048x128 .bf16 := m ((c : Thread nD τ).loc main_arg3)

/-- The place of every block of a grid point. -/
theorem idx : ∀ t : Fin cfg0.N, win0_0.index t = ![t.val, 0] ∧ win0_1.index t = ![0, 0] ∧ win0_2.index t = ![0, 0] ∧
    win0_3.index t = ![0, 0] ∧ win0_4.index t = ![t.val, 0] ∧ win0_5.index t = ![t.val, 0] :=
  (by decide +kernel : ∀ t : Fin grid0.N, _)

/-- The norm's weights as the kernel receives them. -/
theorem pre_eq (k : Fin 2048) : (show FVec Ideal S1x2048 .f32 from V m c main_v0) (ix2 0 k) = aG m c (ix1 k) := by
  show StableHlo.after _ _ _ _ = _
  simp only [List.flatten_cons, List.flatten_nil, List.append_nil, List.cons_append, List.nil_append, hostOps0]
  after_results
  pointwise

section reads
variable (t : Fin cfg0.N)

/-- The rows of a point's input block. -/
theorem x_eq (r : Fin 512) (n : Fin 32768) (h : n.val = t.val * 512 + r.val) (k : Fin 2048) :
    (show FVec Ideal S512x2048 .f32 from iblk m c 0 t) (ix2 r k) = (m ((c : Thread nD τ).loc main_arg0)) (ix2 n k) := by
  blk_ext [iblk, V, idx t]

/-- The norm's weights at a point. -/
theorem g_eq (k : Fin 2048) : (show FVec Ideal S1x2048 .f32 from iblk m c 1 t) (ix2 0 k) = aG m c (ix1 k) := by
  refine Eq.trans ?_ (pre_eq m c k)
  show (show FVec Ideal S1x2048 .f32 from iblk m c 1 t) (ix2 0 k) = (show FVec Ideal S1x2048 .f32 from V m c main_v0) (ix2 0 k)
  blk_ext [iblk, idx t]

/-- The wide weight at a point. -/
theorem w_eq (k : Fin 2048) (j : Fin 6144) : (show FVec Ideal S2048x6144 .bf16 from iblk m c 2 t) (ix2 k j) = (m ((c : Thread nD τ).loc main_arg2)) (ix2 k j) := by
  blk_ext [iblk, V, idx t]

/-- The narrow weight at a point. -/
theorem a_eq (k : Fin 2048) (j : Fin 128) : (show FVec Ideal S2048x128 .bf16 from iblk m c 3 t) (ix2 k j) = (m ((c : Thread nD τ).loc main_arg3)) (ix2 k j) := by
  blk_ext [iblk, V, idx t]

end reads

/-- A point's block of the wide result. -/
theorem block_is (t : Fin cfg0.N) (r : Fin 512) (n : Fin 32768) (h : n.val = t.val * 512 + r.val) (j : Fin 6144) :
    out0_4 (iblk m c 0 t) (iblk m c 1 t) (iblk m c 2 t) (iblk m c 3 t) (ix2 r j) = result (aX m c) (aG m c) (aW m c) n j := by
  refine (out_at _ _ _ _ r j).trans ?_
  exact Finset.sum_congr rfl fun k _ => congrArg₂ (· * ·) (congrArg₂ (fun x g => rms x g k) (funext fun k => x_eq m c t r n h k) (funext fun k => g_eq m c t k)) (w_eq m c t k j)

/-- The wide result array once every block is written. -/
theorem final : (dats m 0 c).arrAt 4 cfg0.N = fun i => result (aX m c) (aG m c) (aW m c) (i 0) (i 1) := by
  refine (dats m 0 c).arrAt_eq_of_covers 4 _ (by decide +kernel) fun t hf y => ?_
  rw [after0_4]
  have e : y = ix2 (y 0) (y 1) := by funext a; fin_cases a <;> rfl
  have h0 : (((cfg0.win 4).blk t).view.emb y 0).val = t.val * 512 + (y 0).val := by
    show win0_4.index t 0 * 512 + 1 * (y 0).val = _
    rw [(idx t).2.2.2.2.1]
    show t.val * 512 + 1 * (y 0).val = _
    omega
  have h1 : (((cfg0.win 4).blk t).view.emb y 1) = y 1 := by
    refine Fin.ext ?_
    show win0_4.index t 1 * 6144 + 1 * (y 1).val = _
    rw [(idx t).2.2.2.2.1]
    show 0 * 6144 + 1 * (y 1).val = _
    omega
  rw [h1]
  refine Eq.trans ?_ (block_is m c t (y 0) _ h0 (y 1))
  generalize out0_4 (iblk m c 0 t) (iblk m c 1 t) (iblk m c 2 t) (iblk m c 3 t) = f
  exact congrArg f e

/-- A point's block of the narrow result. -/
theorem side_block_is (t : Fin cfg0.N) (r : Fin 512) (n : Fin 32768) (h : n.val = t.val * 512 + r.val) (j : Fin 128) :
    out0_5 (iblk m c 0 t) (iblk m c 1 t) (iblk m c 2 t) (iblk m c 3 t) (ix2 r j) = result (aX m c) (aG m c) (aA m c) n j := by
  refine (side_out_at _ _ _ _ r j).trans ?_
  exact Finset.sum_congr rfl fun k _ => congrArg₂ (· * ·) (congrArg₂ (fun x g => rms x g k) (funext fun k => x_eq m c t r n h k) (funext fun k => g_eq m c t k)) (a_eq m c t k j)

/-- The narrow result array once every block is written. -/
theorem side_final : (dats m 0 c).arrAt 5 cfg0.N = fun i => result (aX m c) (aG m c) (aA m c) (i 0) (i 1) := by
  refine (dats m 0 c).arrAt_eq_of_covers 5 _ (by decide +kernel) fun t hf y => ?_
  rw [after0_5]
  have e : y = ix2 (y 0) (y 1) := by funext a; fin_cases a <;> rfl
  have h0 : (((cfg0.win 5).blk t).view.emb y 0).val = t.val * 512 + (y 0).val := by
    show win0_5.index t 0 * 512 + 1 * (y 0).val = _
    rw [(idx t).2.2.2.2.2]
    show t.val * 512 + 1 * (y 0).val = _
    omega
  have h1 : (((cfg0.win 5).blk t).view.emb y 1) = y 1 := by
    refine Fin.ext ?_
    show win0_5.index t 1 * 128 + 1 * (y 1).val = _
    rw [(idx t).2.2.2.2.2]
    show 0 * 128 + 1 * (y 1).val = _
    omega
  rw [h1]
  refine Eq.trans ?_ (side_block_is m c t (y 0) _ h0 (y 1))
  generalize out0_5 (iblk m c 0 t) (iblk m c 1 t) (iblk m c 2 t) (iblk m c 3 t) = f
  exact congrArg f e

end Cert.Kernel4Ideal.Norm

end
-- ==== Proof.Norm.Pair.lean ====
/- The norm and the projections: the kernel and the reference end with the same arrays. -/
module

public import proofs.«01_k».proof.Defs
public import proofs.«01_k».proof.Proof.Gen.Reference4Ideal.Run
public import proofs.«01_k».proof.Proof.Norm.Final

@[expose] public section

set_option maxRecDepth 16384

noncomputable section

open Idealize.ShloMosaic Idealize.SL.Sem

namespace Cert.Reference4Ideal.Norm

open Cert.Reference4Ideal Cert.Reference4Ideal.Gen Idealize.ShloMosaic.TcCoe Cert.Row Cert.Norm

attribute [local instance] Gen.facts

variable (m : (ℓ : Loc nD τ sig) → Buf (Elt Ideal) ℓ) (ρ : Dev nD → PrngReg)

/-- The reference ends with the two products of the normed rows, its arguments kept. -/
theorem run : θ_run (defs (F := Ideal)) (onTc (τ := τ) (main (F := Ideal))) ⟨m, fun _ => 0, ρ⟩ fun r => ∀ c : Dev nD,
      r.2.mem ((c.tc : Thread nD τ).loc main_v15) = (fun i => result (m ((c.tc : Thread nD τ).loc main_arg0)) (m ((c.tc : Thread nD τ).loc main_arg1)) (m ((c.tc : Thread nD τ).loc main_arg2)) (i 0) (i 1))
      ∧ r.2.mem ((c.tc : Thread nD τ).loc main_v18) = (fun i => result (m ((c.tc : Thread nD τ).loc main_arg0)) (m ((c.tc : Thread nD τ).loc main_arg1)) (m ((c.tc : Thread nD τ).loc main_arg3)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2⟩) (Value.run m ρ)
  · generalize m ((c.tc : Thread nD τ).loc main_arg0) = X, m ((c.tc : Thread nD τ).loc main_arg1) = G, m ((c.tc : Thread nD τ).loc main_arg2) = W
    funext i
    obtain ⟨n, j, rfl⟩ : ∃ (n : Fin 32768) (j : Fin 6144), i = ix2 n j := ⟨i 0, i 1, by funext a; fin_cases a <;> rfl⟩
    pointwise
    rfl
  · generalize m ((c.tc : Thread nD τ).loc main_arg0) = X, m ((c.tc : Thread nD τ).loc main_arg1) = G, m ((c.tc : Thread nD τ).loc main_arg3) = W
    funext i
    obtain ⟨n, j, rfl⟩ : ∃ (n : Fin 32768) (j : Fin 128), i = ix2 n j := ⟨i 0, i 1, by funext a; fin_cases a <;> rfl⟩
    pointwise
    rfl

/-- The reference terminates, keeps its arguments, and ends with every semaphore at zero: it has none. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2.2, funext fun x => by obtain ⟨_, (x | x)⟩ := x <;> exact x.elim0⟩) (Value.run m ρ)

end Cert.Reference4Ideal.Norm

namespace Cert.Norm

attribute [local instance] Cert.Kernel4Ideal.Gen.facts Cert.Reference4Ideal.Gen.facts

/-- Equal arguments, equal results. -/
theorem result_congr {w : ℕ} {X X' : (⟨2, ![32768, 2048]⟩ : Shape).Idx → EReal} {G G' : (⟨1, ![2048]⟩ : Shape).Idx → EReal} {W W' : (⟨2, ![2048, w]⟩ : Shape).Idx → EReal}
    (hX : X = X') (hG : G = G') (hW : W = W') : result X G W = result X' G' W' := by
  subst hX hG hW; rfl

/-- From any arguments the kernel and the reference end with equal results, and keep their arguments. -/
theorem agree : Cert.algebraic_Kernel4Ideal_Reference4Ideal := by
  intro m g m' g' _ harg
  refine ⟨_, _, Cert.Kernel4Ideal.Value.run_blocks m g, ?_⟩
  refine (θ_run _ _ _).mono (fun r h c => ⟨(h c).1.trans ?_, (h c).2.1.trans ?_, (h c).2.2⟩) (Cert.Reference4Ideal.Norm.run m' g')
  all_goals obtain ⟨h0, h1, h2, h3⟩ := harg c
  · refine Eq.trans ?_ (Cert.Kernel4Ideal.Norm.final m c).symm
    exact funext fun i => congrFun (congrFun (result_congr h0 h1 h2) _) _
  · refine Eq.trans ?_ (Cert.Kernel4Ideal.Norm.side_final m c).symm
    exact funext fun i => congrFun (congrFun (result_congr h0 h1 h3) _) _

end Cert.Norm

end
-- ==== Proof.Mix.Point.lean ====
/- The gated output projection of the odd layer, over the reals: what a grid point leaves in its block. -/
module

public import proofs.«01_k».proof.Proof.Gen.Kernel5Ideal.Value
public import proofs.«01_k».proof.Proof.Row

@[expose] public section

set_option maxRecDepth 16384

noncomputable section

namespace Cert.Mix

open Idealize.ShloMosaic Cert.Row

/-- A head's row divided by the root of its mean square, times a weight per column, times the gate's product with its logistic. -/
def gated (o r g : Fin 512 → EReal) (d : Fin 512) : EReal :=
  o d * Ideal.rsqrt (Ideal.div (∑ k, o k * o k) (Ideal.ofBits .f32 1140850688#32) + Ideal.ofBits .f32 897988541#32) * g d * (r d * Ideal.logistic (r d))

/-- What one head adds to a row. -/
def part (o r g : Fin 512 → EReal) (w : Fin 512 → Fin 2048 → EReal) (e : Fin 2048) : EReal := ∑ d, gated o r g d * w d e

end Cert.Mix

namespace Cert.Kernel5Ideal.Mix

open Cert.Kernel5Ideal Cert.Kernel5Ideal.Gen Idealize.ShloMosaic Idealize.ShloMosaic.TcCoe Idealize.SL.Sem Cert.Row Cert.Mix

section payloads

variable (o o' o'' : Vec Ideal S256x512 .bf16) (n : Vec Ideal S1x512 .f32) (r r' r'' : Vec Ideal S256x512 .bf16) (w w' w'' : Vec Ideal S512x2048 .bf16)
  (s : FVec Ideal S256x2048 .f32) (x : Vec Ideal S256x2048 .f32) (g : Vec Ideal S1x2048 .f32) (i : Fin 256) (e : Fin 2048)

/-- What a head's columns add to row `i`. -/
abbrev adds (o r : Vec Ideal S256x512 .bf16) (n : Vec Ideal S1x512 .f32) (w : Vec Ideal S512x2048 .bf16) (i : Fin 256) : Fin 2048 → EReal :=
  part (fun k => o (ix2 i k)) (fun k => r (ix2 i k)) (fun k => n (ix2 0 k)) fun k e => w (ix2 k e)

/-- The first head. -/
theorem first_at : k0_pay2 o n r w (ix2 i e) = adds o r n w i e := by
  pointwise [k0_pay2]; rfl

/-- The second and the third head, added to the first. -/
theorem three_at : k0_pay4 (k0_pay2 o n r w) (k0_pay3 o' n) r' w' o'' n r'' w'' (ix2 i e)
    = adds o r n w i e + adds o' r' n w' i e + adds o'' r'' n w'' i e := by
  rw [← first_at]; pointwise [k0_pay4, k0_pay3]; rfl

/-- The last head, and the norm of the sum added to the row. -/
theorem last_at : k0_pay8 s (k0_pay5 o) (k0_pay6 n) (k0_pay7 o) r w x g (ix2 i e)
    = x (ix2 i e) + rms (fun e => s (ix2 i e) + adds o r n w i e) (fun k => g (ix2 0 k)) e := by
  pointwise [k0_pay8, k0_pay5, k0_pay6, k0_pay7]; rfl

/-- The last head as the lower half spells it. -/
theorem last_at' : k0_pay1 s (k0_pay14 o) (k0_pay15 n) (k0_pay16 o) r w x g (ix2 i e)
    = x (ix2 i e) + rms (fun e => s (ix2 i e) + adds o r n w i e) (fun k => g (ix2 0 k)) e := last_at o n r w s x g i e

/-- Three heads as the lower half spells them. -/
theorem three_at' : k0_pay13 (k0_pay10 (k0_pay9 o) n r w) (k0_pay11 o' n) (k0_pay12 r') w' o'' n r'' w'' (ix2 i e)
    = adds o r n w i e + adds o' r' n w' i e + adds o'' r'' n w'' i e := three_at o o' o'' n r r' r'' w w' w'' i e

end payloads

end Cert.Kernel5Ideal.Mix

end
-- ==== Proof.Mix.Final.lean ====
/- The gated output projection of the odd layer, over the reals: the result array. -/
module

public import proofs.«01_k».proof.Proof.Mix.Point

@[expose] public section

set_option maxRecDepth 16384

noncomputable section

namespace Cert.Mix

open Idealize.ShloMosaic Cert.Row

/-- The gate's column `j` in the projections. -/
def gcol (j : Fin 2048) : Fin 6144 := ⟨4096 + j.val, by omega⟩

/-- The four heads' gated rows times the weight. -/
def mixed (o r : Fin 2048 → EReal) (g : Fin 512 → EReal) (w : Fin 2048 → Fin 2048 → EReal) (e : Fin 2048) : EReal :=
  ∑ h : Fin 4, part (fun k => o (col h k)) (fun k => r (col h k)) g (fun k => w (col h k)) e

/-- Row `n` of the result at column `e`. -/
def result (O : (⟨2, ![32768, 2048]⟩ : Shape).Idx → EReal) (P : (⟨2, ![32768, 6144]⟩ : Shape).Idx → EReal) (N : (⟨1, ![512]⟩ : Shape).Idx → EReal)
    (W : (⟨2, ![2048, 2048]⟩ : Shape).Idx → EReal) (G : (⟨1, ![2048]⟩ : Shape).Idx → EReal) (X : (⟨2, ![32768, 2048]⟩ : Shape).Idx → EReal)
    (n : Fin 32768) (e : Fin 2048) : EReal :=
  X (ix2 n e) + rms (mixed (fun k => O (ix2 n k)) (fun k => P (ix2 n (gcol k))) (fun k => N (ix1 k)) (fun k e => W (ix2 k e))) (fun k => G (ix1 k)) e

end Cert.Mix

namespace Cert.Kernel5Ideal.Mix

open Cert.Kernel5Ideal Cert.Kernel5Ideal.Gen Idealize.ShloMosaic Idealize.ShloMosaic.TcCoe Idealize.SL.Sem Cert.Row Cert.Mix
open Idealize.ShloMosaic.Pipeline (Dat)

section blocks

variable (x0 x1 : Vec Ideal S512x2048 .bf16) (x2 : Vec Ideal S1x512 .f32) (x3 : Vec Ideal S2048x2048 .bf16) (x4 : Vec Ideal S1x2048 .f32) (x5 : Vec Ideal S512x2048 .f32) (r : Fin 512)

/-- One head's part, read from the blocks. -/
theorem adds_eq (h : Fin 4) (o p : ℕ) (hp : p = h.val * 512) (inb : ∀ a, (![o, p] : Fin 2 → ℕ) a + S256x512.size a ≤ S512x2048.size a)
    (inb1 : ∀ a, (![0, 0] : Fin 2 → ℕ) a + S1x512.size a ≤ S1x512.size a)
    (inb2 : ∀ a, (![p, 0] : Fin 2 → ℕ) a + S512x2048.size a ≤ S2048x2048.size a) (i : Fin 256) (hr : r.val = o + i.val) (e : Fin 2048) :
    adds (View.ld x0 (Rect.unit (s := S512x2048) ![o, p] S256x512.size inb)) (View.ld x1 (Rect.unit (s := S512x2048) ![o, p] S256x512.size inb))
      (View.ld x2 (Rect.unit (s := S1x512) ![0, 0] S1x512.size inb1)) (View.ld x3 (Rect.unit (s := S2048x2048) ![p, 0] S512x2048.size inb2)) i e
    = part (fun k => x0 (ix2 r (col h k))) (fun k => x1 (ix2 r (col h k))) (fun k => x2 (ix2 0 k)) (fun k e => x3 (ix2 (col h k) e)) e := by
  have e0 : (fun k => View.ld x0 (Rect.unit (s := S512x2048) ![o, p] S256x512.size inb) (ix2 i k)) = fun k => x0 (ix2 r (col h k)) :=
    funext fun k => ld_at x0 _ _ _ _ _ r (col h k) hr (by show h.val * 512 + k.val = _; omega)
  have e1 : (fun k => View.ld x1 (Rect.unit (s := S512x2048) ![o, p] S256x512.size inb) (ix2 i k)) = fun k => x1 (ix2 r (col h k)) :=
    funext fun k => ld_at x1 _ _ _ _ _ r (col h k) hr (by show h.val * 512 + k.val = _; omega)
  have e2 : (fun k => View.ld x2 (Rect.unit (s := S1x512) ![0, 0] S1x512.size inb1) (ix2 0 k)) = fun k => x2 (ix2 0 k) :=
    funext fun k => ld_at x2 _ _ _ _ _ 0 k (by rfl) (by omega)
  have e3 : (fun k e => View.ld x3 (Rect.unit (s := S2048x2048) ![p, 0] S512x2048.size inb2) (ix2 k e)) = fun k e => x3 (ix2 (col h k) e) :=
    funext fun k => funext fun e => ld_at x3 _ _ _ _ _ (col h k) e (by show h.val * 512 + k.val = _; omega) (by omega)
  exact congr (congr (congr (congr (congrArg part e0) e1) e2) e3) rfl

/-- The result's block at a row and a column. -/
theorem out_at (e : Fin 2048) : out0_6 x0 x1 x2 x3 x4 x5 (ix2 r e)
    = x5 (ix2 r e) + rms (mixed (fun k => x0 (ix2 r k)) (fun k => x1 (ix2 r k)) (fun k => x2 (ix2 0 k)) (fun k e => x3 (ix2 k e))) (fun k => x4 (ix2 0 k)) e := by
  unfold out0_6
  canon_tiles y h
  · idx_vars y
    obtain rfl : e = y1 := Fin.ext h1
    refine (last_at' _ _ _ _ _ _ _ _ _).trans ?_
    refine congrArg₂ (· + ·) (ld_at x5 _ _ _ _ _ r e (by omega) (by omega)) (congrArg₂ (fun x g => rms x g e) (funext fun e => ?_) (funext fun k => ?_))
    · refine Eq.trans ?_ (Fin.sum_univ_four _).symm
      refine congrArg₂ (· + ·) ?_ ?_
      · refine (three_at' _ _ _ _ _ _ _ _ _ _ _ _).trans ?_
        refine congrArg₂ (· + ·) (congrArg₂ (· + ·) ?_ ?_) ?_
        · exact adds_eq x0 x1 x2 x3 r 0 256 0 rfl _ _ _ _ (by omega) e
        · exact adds_eq x0 x1 x2 x3 r 1 256 512 rfl _ _ _ _ (by omega) e
        · exact adds_eq x0 x1 x2 x3 r 2 256 1024 rfl _ _ _ _ (by omega) e
      · exact adds_eq x0 x1 x2 x3 r 3 256 1536 rfl _ _ _ _ (by omega) e
    · exact ld_at x4 _ _ _ _ _ 0 k (by rfl) (by omega)
  · idx_vars y
    obtain rfl : e = y1 := Fin.ext h1
    refine (last_at _ _ _ _ _ _ _ _ _).trans ?_
    refine congrArg₂ (· + ·) (ld_at x5 _ _ _ _ _ r e (by omega) (by omega)) (congrArg₂ (fun x g => rms x g e) (funext fun e => ?_) (funext fun k => ?_))
    · refine Eq.trans ?_ (Fin.sum_univ_four _).symm
      refine congrArg₂ (· + ·) ?_ ?_
      · refine (three_at _ _ _ _ _ _ _ _ _ _ _ _).trans ?_
        refine congrArg₂ (· + ·) (congrArg₂ (· + ·) ?_ ?_) ?_
        · exact adds_eq x0 x1 x2 x3 r 0 0 0 rfl _ _ _ _ (by omega) e
        · exact adds_eq x0 x1 x2 x3 r 1 0 512 rfl _ _ _ _ (by omega) e
        · exact adds_eq x0 x1 x2 x3 r 2 0 1024 rfl _ _ _ _ (by omega) e
      · exact adds_eq x0 x1 x2 x3 r 3 0 1536 rfl _ _ _ _ (by omega) e
    · exact ld_at x4 _ _ _ _ _ 0 k (by rfl) (by omega)

end blocks

variable (m : (ℓ : Loc nD τ sig) → Buf (Elt Ideal) ℓ) (c : Dev nD)

/-- The attention's rows. -/
abbrev aO : FVec Ideal S32768x2048 .bf16 := m ((c : Thread nD τ).loc main_arg0)
/-- The projections, whose last columns gate. -/
abbrev aP : FVec Ideal S32768x6144 .bf16 := m ((c : Thread nD τ).loc main_arg1)
/-- The head norm's weights. -/
abbrev aN : FVec Ideal S512 .f32 := m ((c : Thread nD τ).loc main_arg2)
/-- The output weight. -/
abbrev aW : FVec Ideal S2048x2048 .bf16 := m ((c : Thread nD τ).loc main_arg3)
/-- The last norm's weights. -/
abbrev aG : FVec Ideal S2048 .f32 := m ((c : Thread nD τ).loc main_arg4)
/-- The rows added to. -/
abbrev aX : FVec Ideal S32768x2048 .f32 := m ((c : Thread nD τ).loc main_arg5)

/-- The place of every block of a grid point. -/
theorem idx : ∀ t : Fin cfg0.N, win0_0.index t = ![t.val, 0] ∧ win0_1.index t = ![t.val, 2] ∧ win0_2.index t = ![0, 0] ∧
    win0_3.index t = ![0, 0] ∧ win0_4.index t = ![0, 0] ∧ win0_5.index t = ![t.val, 0] ∧ win0_6.index t = ![t.val, 0] :=
  (by decide +kernel : ∀ t : Fin grid0.N, _)

/-- The head norm's weights as the kernel receives them. -/
theorem pre_n (k : Fin 512) : (show FVec Ideal S1x512 .f32 from V m c main_v0) (ix2 0 k) = aN m c (ix1 k) := by
  show StableHlo.after _ _ _ _ = _
  simp only [List.flatten_cons, List.flatten_nil, List.append_nil, List.cons_append, List.nil_append, hostOps0]
  after_results
  pointwise

/-- The last norm's weights as the kernel receives them. -/
theorem pre_g (k : Fin 2048) : (show FVec Ideal S1x2048 .f32 from V m c main_v1) (ix2 0 k) = aG m c (ix1 k) := by
  show StableHlo.after _ _ _ _ = _
  simp only [List.flatten_cons, List.flatten_nil, List.append_nil, List.cons_append, List.nil_append, hostOps0]
  after_results
  pointwise

section reads
variable (t : Fin cfg0.N)

/-- The attention's rows at a point. -/
theorem o_eq (r : Fin 512) (n : Fin 32768) (h : n.val = t.val * 512 + r.val) (k : Fin 2048) :
    (show FVec Ideal S512x2048 .bf16 from iblk m c 0 t) (ix2 r k) = (m ((c : Thread nD τ).loc main_arg0)) (ix2 n k) := by
  blk_ext [iblk, V, idx t]

/-- The gate's columns of a point's rows. -/
theorem p_eq (r : Fin 512) (n : Fin 32768) (h : n.val = t.val * 512 + r.val) (k : Fin 2048) (j : Fin 6144) (hj : j.val = 4096 + k.val) :
    (show FVec Ideal S512x2048 .bf16 from iblk m c 1 t) (ix2 r k) = (m ((c : Thread nD τ).loc main_arg1)) (ix2 n j) := by
  blk_ext [iblk, V, idx t]

/-- The head norm's weights at a point. -/
theorem n_eq (k : Fin 512) : (show FVec Ideal S1x512 .f32 from iblk m c 2 t) (ix2 0 k) = aN m c (ix1 k) := by
  refine Eq.trans ?_ (pre_n m c k)
  show (show FVec Ideal S1x512 .f32 from iblk m c 2 t) (ix2 0 k) = (show FVec Ideal S1x512 .f32 from V m c main_v0) (ix2 0 k)
  blk_ext [iblk, idx t]

/-- The output weight at a point. -/
theorem w_eq (k j : Fin 2048) : (show FVec Ideal S2048x2048 .bf16 from iblk m c 3 t) (ix2 k j) = (m ((c : Thread nD τ).loc main_arg3)) (ix2 k j) := by
  blk_ext [iblk, V, idx t]

/-- The last norm's weights at a point. -/
theorem g_eq (k : Fin 2048) : (show FVec Ideal S1x2048 .f32 from iblk m c 4 t) (ix2 0 k) = aG m c (ix1 k) := by
  refine Eq.trans ?_ (pre_g m c k)
  show (show FVec Ideal S1x2048 .f32 from iblk m c 4 t) (ix2 0 k) = (show FVec Ideal S1x2048 .f32 from V m c main_v1) (ix2 0 k)
  blk_ext [iblk, idx t]

/-- The rows added to, at a point. -/
theorem x_eq (r : Fin 512) (n : Fin 32768) (h : n.val = t.val * 512 + r.val) (k : Fin 2048) :
    (show FVec Ideal S512x2048 .f32 from iblk m c 5 t) (ix2 r k) = (m ((c : Thread nD τ).loc main_arg5)) (ix2 n k) := by
  blk_ext [iblk, V, idx t]

end reads

/-- A point's block of the result. -/
theorem block_is (t : Fin cfg0.N) (r : Fin 512) (n : Fin 32768) (h : n.val = t.val * 512 + r.val) (e : Fin 2048) :
    out0_6 (iblk m c 0 t) (iblk m c 1 t) (iblk m c 2 t) (iblk m c 3 t) (iblk m c 4 t) (iblk m c 5 t) (ix2 r e)
      = result (aO m c) (aP m c) (aN m c) (aW m c) (aG m c) (aX m c) n e := by
  refine (out_at _ _ _ _ _ _ r e).trans ?_
  refine congrArg₂ (· + ·) (x_eq m c t r n h e) (congrArg₂ (fun x g => rms x g e) ?_ (funext fun k => g_eq m c t k))
  exact congr (congr (congr (congrArg mixed (funext fun k => o_eq m c t r n h k)) (funext fun k => p_eq m c t r n h k (gcol k) rfl)) (funext fun k => n_eq m c t k))
    (funext fun k => funext fun e => w_eq m c t k e)

/-- The result array once every block is written. -/
theorem final : (dats m 0 c).arrAt 6 cfg0.N = fun i => result (aO m c) (aP m c) (aN m c) (aW m c) (aG m c) (aX m c) (i 0) (i 1) := by
  refine (dats m 0 c).arrAt_eq_of_covers 6 _ (by decide +kernel) fun t hf y => ?_
  rw [after0_6]
  have e : y = ix2 (y 0) (y 1) := by funext a; fin_cases a <;> rfl
  have h0 : (((cfg0.win 6).blk t).view.emb y 0).val = t.val * 512 + (y 0).val := by
    show win0_6.index t 0 * 512 + 1 * (y 0).val = _
    rw [(idx t).2.2.2.2.2.2]
    show t.val * 512 + 1 * (y 0).val = _
    omega
  have h1 : (((cfg0.win 6).blk t).view.emb y 1) = y 1 := by
    refine Fin.ext ?_
    show win0_6.index t 1 * 2048 + 1 * (y 1).val = _
    rw [(idx t).2.2.2.2.2.2]
    show 0 * 2048 + 1 * (y 1).val = _
    omega
  rw [h1]
  refine Eq.trans ?_ (block_is m c t (y 0) _ h0 (y 1))
  generalize out0_6 (iblk m c 0 t) (iblk m c 1 t) (iblk m c 2 t) (iblk m c 3 t) (iblk m c 4 t) (iblk m c 5 t) = f
  exact congrArg f e

end Cert.Kernel5Ideal.Mix

end
-- ==== Proof.Mix.Pair.lean ====
/- The gated output projection of the odd layer: the kernel and the reference end with the same array. -/
module

public import proofs.«01_k».proof.Defs
public import proofs.«01_k».proof.Proof.Gen.Reference5Ideal.Run
public import proofs.«01_k».proof.Proof.Mix.Final

@[expose] public section

set_option maxRecDepth 16384

noncomputable section

open Idealize.ShloMosaic Idealize.SL.Sem

namespace Cert.Mix

open Cert.Row

/-- The four heads' products are one product over all columns. -/
theorem mixed_eq (o r : Fin 2048 → EReal) (g : Fin 512 → EReal) (w : Fin 2048 → Fin 2048 → EReal) (e : Fin 2048) :
    mixed o r g w e = ∑ l : Fin 2048, o l * Ideal.rsqrt (Ideal.div (∑ k : Fin 512, o ⟨l.val / 512 * 512 + k.val, by omega⟩ * o ⟨l.val / 512 * 512 + k.val, by omega⟩)
      (Ideal.ofBits .f32 1140850688#32) + Ideal.ofBits .f32 897988541#32) * g ⟨l.val % 512, by omega⟩ * (r l * Ideal.div 1 (1 + Ideal.exp (-r l))) * w l e := by
  refine Fin.sum_mul_add_congr fun h k hl => ?_
  have e1 : (⟨(h.val * 512 + k.val) % 512, by omega⟩ : Fin 512) = k := Fin.ext (by show (h.val * 512 + k.val) % 512 = k.val; omega)
  have e2 : ∀ x : Fin 512, (⟨(h.val * 512 + k.val) / 512 * 512 + x.val, by omega⟩ : Fin 2048) = col h x :=
    fun x => Fin.ext (by show (h.val * 512 + k.val) / 512 * 512 + x.val = h.val * 512 + x.val; omega)
  simp only [e1, e2]
  rfl

end Cert.Mix

namespace Cert.Reference5Ideal.Mix

open Cert.Reference5Ideal Cert.Reference5Ideal.Gen Idealize.ShloMosaic.TcCoe Cert.Row Cert.Mix

attribute [local instance] Gen.facts

variable (m : (ℓ : Loc nD τ sig) → Buf (Elt Ideal) ℓ) (ρ : Dev nD → PrngReg)

/-- What the reference returns, entry by entry. -/
theorem res_eq (c : Dev nD) (n : Fin 32768) (e : Fin 2048) : Value.res_main_v36 m c (ix2 n e)
    = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) n e := by
  unfold Value.res_main_v36
  generalize m ((c.tc : Thread nD τ).loc main_arg0) = O, m ((c.tc : Thread nD τ).loc main_arg1) = P, m ((c.tc : Thread nD τ).loc main_arg2) = N,
    m ((c.tc : Thread nD τ).loc main_arg3) = W, m ((c.tc : Thread nD τ).loc main_arg4) = G, m ((c.tc : Thread nD τ).loc main_arg5) = X
  simp only [result, mixed_eq, rms]
  pointwise
  rfl

/-- The reference ends with the gated projection added to the rows, its arguments kept. -/
theorem run : θ_run (defs (F := Ideal)) (onTc (τ := τ) (main (F := Ideal))) ⟨m, fun _ => 0, ρ⟩ fun r => ∀ c : Dev nD,
      r.2.mem ((c.tc : Thread nD τ).loc main_v36) = (fun i => result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2⟩) (Value.run m ρ)
  funext i
  obtain ⟨n, e, rfl⟩ : ∃ (n : Fin 32768) (e : Fin 2048), i = ix2 n e := ⟨i 0, i 1, by funext a; fin_cases a <;> rfl⟩
  exact res_eq m c n e

/-- The reference terminates, keeps its arguments, and ends with every semaphore at zero: it has none. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => (h c).2, funext fun x => by obtain ⟨_, (x | x)⟩ := x <;> exact x.elim0⟩) (Value.run m ρ)

end Cert.Reference5Ideal.Mix

namespace Cert.Mix

attribute [local instance] Cert.Kernel5Ideal.Gen.facts Cert.Reference5Ideal.Gen.facts

/-- Equal arguments, equal results. -/
theorem result_congr {O O' : (⟨2, ![32768, 2048]⟩ : Shape).Idx → EReal} {P P' : (⟨2, ![32768, 6144]⟩ : Shape).Idx → EReal} {N N' : (⟨1, ![512]⟩ : Shape).Idx → EReal}
    {W W' : (⟨2, ![2048, 2048]⟩ : Shape).Idx → EReal} {G G' : (⟨1, ![2048]⟩ : Shape).Idx → EReal} {X X' : (⟨2, ![32768, 2048]⟩ : Shape).Idx → EReal}
    (hO : O = O') (hP : P = P') (hN : N = N') (hW : W = W') (hG : G = G') (hX : X = X') : result O P N W G X = result O' P' N' W' G' X' := by
  subst hO hP hN hW hG hX; rfl

/-- From any arguments the kernel and the reference end with equal results, and keep their arguments. -/
theorem agree : Cert.algebraic_Kernel5Ideal_Reference5Ideal := by
  intro m g m' g' _ harg
  refine ⟨_, Cert.Kernel5Ideal.Value.run_blocks m g, ?_⟩
  refine (θ_run _ _ _).mono (fun r h c => ⟨(h c).1.trans ?_, (h c).2⟩) (Cert.Reference5Ideal.Mix.run m' g')
  obtain ⟨h0, h1, h2, h3, h4, h5⟩ := harg c
  refine Eq.trans ?_ (Cert.Kernel5Ideal.Mix.final m c).symm
  exact funext fun i => congrFun (congrFun (result_congr h0 h1 h2 h3 h4 h5) _) _

end Cert.Mix

end
-- ==== Proof.Even.Final.lean ====
/- The even layer's norm and projection over the reals, and the weights cast beside it: the four result arrays. -/
module

public import proofs.«01_k».proof.Proof.Gen.Kernel6Ideal.Value
public import proofs.«01_k».proof.Proof.Norm.Final

@[expose] public section

set_option maxRecDepth 16384

noncomputable section

namespace Cert.Kernel6Ideal.Even

open Cert.Kernel6Ideal Cert.Kernel6Ideal.Gen Idealize.ShloMosaic Idealize.ShloMosaic.TcCoe Idealize.SL.Sem Cert.Row Cert.Norm
open Idealize.ShloMosaic.Pipeline (Dat)

section payloads

variable (x : Vec Ideal S256x2048 .f32) (g : Vec Ideal S1x2048 .f32) (w : Vec Ideal S2048x4096 .bf16) (r : Fin 256)

/-- The normed rows. -/
theorem norm_at (e : Fin 2048) : k0_pay6 x g (ix2 r e) = rms (fun k => x (ix2 r k)) (fun k => g (ix2 0 k)) e := by
  pointwise [k0_pay6]; rfl

/-- The normed rows times the weight. -/
theorem proj_at (j : Fin 4096) : k0_pay7 (k0_pay6 x g) w (ix2 r j) = ∑ k, rms (fun k => x (ix2 r k)) (fun k => g (ix2 0 k)) k * w (ix2 k j) := by
  simp only [← norm_at]; pointwise [k0_pay7]

/-- The same as the first quarter of a block spells it. -/
theorem first_at (j : Fin 4096) : k0_pay5 x g w (ix2 r j) = ∑ k, rms (fun k => x (ix2 r k)) (fun k => g (ix2 0 k)) k * w (ix2 k j) :=
  proj_at x g w r j

/-- The same as the third quarter spells it. -/
theorem third_at (j : Fin 4096) : k0_pay8 x g w (ix2 r j) = ∑ k, rms (fun k => x (ix2 r k)) (fun k => g (ix2 0 k)) k * w (ix2 k j) :=
  proj_at x g w r j

/-- The same as the last quarter spells it. -/
theorem last_at (j : Fin 4096) : k0_pay1 (k0_pay9 g) (k0_pay10 x) w (ix2 r j) = ∑ k, rms (fun k => x (ix2 r k)) (fun k => g (ix2 0 k)) k * w (ix2 k j) :=
  proj_at x g w r j

end payloads

section blocks

variable (x : Vec Ideal S1024x2048 .f32) (g : Vec Ideal S1x2048 .f32) (w : Vec Ideal S2048x4096 .bf16) (q o : Vec Ideal S1x128x2048 .f32) (u : Vec Ideal S1x64x2048 .f32)

/-- The rows that a quarter of a block reads, and the weights. -/
theorem sums_eq (r : Fin 1024) (p : ℕ) (inb : ∀ a, (![p, 0] : Fin 2 → ℕ) a + S256x2048.size a ≤ S1024x2048.size a)
    (inb1 : ∀ a, (![0, 0] : Fin 2 → ℕ) a + S1x2048.size a ≤ S1x2048.size a)
    (inb2 : ∀ a, (![0, 0] : Fin 2 → ℕ) a + S2048x4096.size a ≤ S2048x4096.size a) (i : Fin 256) (h : r.val = p + i.val) (j : Fin 4096) :
    ∑ k, rms (fun k => View.ld x (Rect.unit (s := S1024x2048) ![p, 0] S256x2048.size inb) (ix2 i k)) (fun k => View.ld g (Rect.unit (s := S1x2048) ![0, 0] S1x2048.size inb1) (ix2 0 k)) k
      * View.ld w (Rect.unit (s := S2048x4096) ![0, 0] S2048x4096.size inb2) (ix2 k j)
    = ∑ k, rms (fun k => x (ix2 r k)) (fun k => g (ix2 0 k)) k * w (ix2 k j) := by
  refine Finset.sum_congr rfl fun k _ => congrArg₂ (· * ·) (congrArg₂ (fun x g => rms x g k) (funext fun k => ?_) (funext fun k => ?_)) ?_
  · exact ld_at x _ _ _ _ _ r k (by omega) (by omega)
  · exact ld_at g _ _ _ _ _ 0 k (by rfl) (by omega)
  · exact ld_at w _ _ _ _ _ k j (by omega) (by omega)

/-- The projection's block at a row and a column. -/
theorem out_at (r : Fin 1024) (j : Fin 4096) : out0_6 x g w q o u (ix2 r j) = ∑ k, rms (fun k => x (ix2 r k)) (fun k => g (ix2 0 k)) k * w (ix2 k j) := by
  unfold out0_6
  canon_tiles y h
  · idx_vars y
    obtain rfl : j = y1 := Fin.ext h1
    exact (last_at _ _ _ _ _).trans (sums_eq x g w r _ _ _ _ _ h0 j)
  · idx_vars y
    obtain rfl : j = y1 := Fin.ext h1
    exact (third_at _ _ _ _ _).trans (sums_eq x g w r _ _ _ _ _ h0 j)
  · idx_vars y
    obtain rfl : j = y1 := Fin.ext h1
    exact (proj_at _ _ _ _ _).trans (sums_eq x g w r _ _ _ _ _ h0 j)
  · idx_vars y
    obtain rfl : j = y1 := Fin.ext h1
    exact (first_at _ _ _ _ _).trans (sums_eq x g w r _ _ _ _ _ (h0.trans (Nat.zero_add _).symm) j)

/-- A cast block of the query weights is the block. -/
theorem q_out_at (i : Fin 128) (j : Fin 2048) : out0_7 x g w q o u (ix3 0 i j) = q (ix3 0 i j) := by
  unfold out0_7
  rw [Value.canon7_eq]
  show View.ld q r0_10 (Value.ix7_0 (ix3 0 i j)) = _
  rw [show Value.ix7_0 (ix3 0 i j) = ix3 0 i j by funext a; fin_cases a <;> rfl]
  exact ld_at3 q 0 0 _ i j i j (by omega) (by omega)

/-- A cast block of the output weights is the block. -/
theorem o_out_at (i : Fin 128) (j : Fin 2048) : out0_8 x g w q o u (ix3 0 i j) = o (ix3 0 i j) := by
  unfold out0_8
  rw [Value.canon8_eq]
  show View.ld o r0_10 (Value.ix8_0 (ix3 0 i j)) = _
  rw [show Value.ix8_0 (ix3 0 i j) = ix3 0 i j by funext a; fin_cases a <;> rfl]
  exact ld_at3 o 0 0 _ i j i j (by omega) (by omega)

/-- A cast block of the mixer's output weight is the block. -/
theorem u_out_at (i : Fin 64) (j : Fin 2048) : out0_9 x g w q o u (ix3 0 i j) = u (ix3 0 i j) := by
  unfold out0_9
  rw [Value.canon9_eq]
  show View.ld u r0_11 (Value.ix9_0 (ix3 0 i j)) = _
  rw [show Value.ix9_0 (ix3 0 i j) = ix3 0 i j by funext a; fin_cases a <;> rfl]
  exact ld_at3 u 0 0 _ i j i j (by omega) (by omega)

end blocks

variable (m : (ℓ : Loc nD τ sig) → Buf (Elt Ideal) ℓ) (c : Dev nD)

/-- The rows. -/
abbrev aX : FVec Ideal S32768x2048 .f32 := m ((c : Thread nD τ).loc main_arg0)
/-- The norm's weights. -/
abbrev aG : FVec Ideal S2048 .f32 := m ((c : Thread nD τ).loc main_arg1)
/-- The projection's weight. -/
abbrev aW : FVec Ideal S2048x4096 .bf16 := m ((c : Thread nD τ).loc main_arg2)

/-- The place of every block of a grid point. -/
theorem idx : ∀ t : Fin cfg0.N, win0_0.index t = ![t.val, 0] ∧ win0_1.index t = ![0, 0] ∧ win0_2.index t = ![0, 0] ∧
    win0_3.index t = ![t.val / 16, t.val % 16, 0] ∧ win0_4.index t = ![t.val / 16, t.val % 16, 0] ∧ win0_5.index t = ![0, t.val, 0] ∧
    win0_6.index t = ![t.val, 0] ∧ win0_7.index t = ![t.val / 16, t.val % 16, 0] ∧ win0_8.index t = ![t.val / 16, t.val % 16, 0] ∧ win0_9.index t = ![0, t.val, 0] :=
  (by decide +kernel : ∀ t : Fin grid0.N, _)

/-- The norm's weights as the kernel receives them. -/
theorem pre_eq (k : Fin 2048) : (show FVec Ideal S1x2048 .f32 from V m c main_v0) (ix2 0 k) = aG m c (ix1 k) := by
  show StableHlo.after _ _ _ _ = _
  simp only [List.flatten_cons, List.flatten_nil, List.append_nil, List.cons_append, List.nil_append, hostOps0]
  after_results
  pointwise

section reads
variable (t : Fin cfg0.N)

/-- The rows of a point's input block. -/
theorem x_eq (r : Fin 1024) (n : Fin 32768) (h : n.val = t.val * 1024 + r.val) (k : Fin 2048) :
    (show FVec Ideal S1024x2048 .f32 from iblk m c 0 t) (ix2 r k) = (m ((c : Thread nD τ).loc main_arg0)) (ix2 n k) := by
  blk_ext [iblk, V, idx t]

/-- The norm's weights at a point. -/
theorem g_eq (k : Fin 2048) : (show FVec Ideal S1x2048 .f32 from iblk m c 1 t) (ix2 0 k) = aG m c (ix1 k) := by
  refine Eq.trans ?_ (pre_eq m c k)
  show (show FVec Ideal S1x2048 .f32 from iblk m c 1 t) (ix2 0 k) = (show FVec Ideal S1x2048 .f32 from V m c main_v0) (ix2 0 k)
  blk_ext [iblk, idx t]

/-- The projection's weight at a point. -/
theorem w_eq (k : Fin 2048) (j : Fin 4096) : (show FVec Ideal S2048x4096 .bf16 from iblk m c 2 t) (ix2 k j) = (m ((c : Thread nD τ).loc main_arg2)) (ix2 k j) := by
  blk_ext [iblk, V, idx t]

/-- The part of the query weights that a point casts. -/
theorem q_eq (i : Fin 128) (j : Fin 2048) (l : Fin 2) (n : Fin 2048) (hl : l.val = t.val / 16) (hn : n.val = t.val % 16 * 128 + i.val) :
    (show FVec Ideal S1x128x2048 .f32 from iblk m c 3 t) (ix3 0 i j) = (m ((c : Thread nD τ).loc main_arg3)) (ix3 l n j) := by
  blk_ext [iblk, V, idx t]

/-- The part of the output weights that a point casts. -/
theorem o_eq (i : Fin 128) (j : Fin 2048) (l : Fin 2) (n : Fin 2048) (hl : l.val = t.val / 16) (hn : n.val = t.val % 16 * 128 + i.val) :
    (show FVec Ideal S1x128x2048 .f32 from iblk m c 4 t) (ix3 0 i j) = (m ((c : Thread nD τ).loc main_arg4)) (ix3 l n j) := by
  blk_ext [iblk, V, idx t]

/-- The part of the mixer's output weight that a point casts. -/
theorem u_eq (i : Fin 64) (j : Fin 2048) (l : Fin 1) (n : Fin 2048) (hn : n.val = t.val * 64 + i.val) :
    (show FVec Ideal S1x64x2048 .f32 from iblk m c 5 t) (ix3 0 i j) = (m ((c : Thread nD τ).loc main_arg5)) (ix3 l n j) := by
  blk_ext [iblk, V, idx t]

end reads

/-- A point's block of the projection. -/
theorem block_is (t : Fin cfg0.N) (r : Fin 1024) (n : Fin 32768) (h : n.val = t.val * 1024 + r.val) (j : Fin 4096) :
    out0_6 (iblk m c 0 t) (iblk m c 1 t) (iblk m c 2 t) (iblk m c 3 t) (iblk m c 4 t) (iblk m c 5 t) (ix2 r j) = result (aX m c) (aG m c) (aW m c) n j := by
  refine (out_at _ _ _ _ _ _ r j).trans ?_
  exact Finset.sum_congr rfl fun k _ => congrArg₂ (· * ·) (congrArg₂ (fun x g => rms x g k) (funext fun k => x_eq m c t r n h k) (funext fun k => g_eq m c t k)) (w_eq m c t k j)

/-- The projection once every block is written. -/
theorem final : (dats m 0 c).arrAt 6 cfg0.N = fun i => result (aX m c) (aG m c) (aW m c) (i 0) (i 1) := by
  refine (dats m 0 c).arrAt_eq_of_covers 6 _ (by decide +kernel) fun t hf y => ?_
  rw [after0_6]
  have e : y = ix2 (y 0) (y 1) := by funext a; fin_cases a <;> rfl
  have h0 : (((cfg0.win 6).blk t).view.emb y 0).val = t.val * 1024 + (y 0).val := by
    show win0_6.index t 0 * 1024 + 1 * (y 0).val = _
    rw [(idx t).2.2.2.2.2.2.1]
    show t.val * 1024 + 1 * (y 0).val = _
    omega
  have h1 : (((cfg0.win 6).blk t).view.emb y 1) = y 1 := by
    refine Fin.ext ?_
    show win0_6.index t 1 * 4096 + 1 * (y 1).val = _
    rw [(idx t).2.2.2.2.2.2.1]
    show 0 * 4096 + 1 * (y 1).val = _
    omega
  rw [h1]
  refine Eq.trans ?_ (block_is m c t (y 0) _ h0 (y 1))
  generalize out0_6 (iblk m c 0 t) (iblk m c 1 t) (iblk m c 2 t) (iblk m c 3 t) (iblk m c 4 t) (iblk m c 5 t) = f
  exact congrArg f e

/-- A point's cast block of the query weights. -/
theorem q_block_is (t : Fin cfg0.N) (i : Fin 128) (j : Fin 2048) (l : Fin 2) (n : Fin 2048) (hl : l.val = t.val / 16) (hn : n.val = t.val % 16 * 128 + i.val) :
    out0_7 (iblk m c 0 t) (iblk m c 1 t) (iblk m c 2 t) (iblk m c 3 t) (iblk m c 4 t) (iblk m c 5 t) (ix3 0 i j) = (m ((c : Thread nD τ).loc main_arg3)) (ix3 l n j) :=
  (q_out_at (iblk m c 0 t) (iblk m c 1 t) (iblk m c 2 t) (iblk m c 3 t) (iblk m c 4 t) (iblk m c 5 t) i j).trans (q_eq m c t i j l n hl hn)

/-- The array of the query weights once every block is cast. -/
theorem q_final : (dats m 0 c).arrAt 7 cfg0.N = fun i => m ((c : Thread nD τ).loc main_arg3) i := by
  refine (dats m 0 c).arrAt_eq_of_covers 7 _ (by decide +kernel) fun t hf y => ?_
  rw [after0_7]
  have e : y = ix3 0 (y 1) (y 2) := by funext a; fin_cases a <;> [exact Subsingleton.elim (α := Fin 1) _ _; rfl; rfl]
  have z : (y 0).val = 0 := by have := (y 0).isLt; show (y 0).val = 0; exact Nat.lt_one_iff.1 this
  have h0 : (((cfg0.win 7).blk t).view.emb y 0).val = t.val / 16 := by
    show win0_7.index t 0 * 1 + 1 * (y 0).val = _
    rw [(idx t).2.2.2.2.2.2.2.1, z]
    show t.val / 16 * 1 + 1 * 0 = _
    omega
  have h1 : (((cfg0.win 7).blk t).view.emb y 1).val = t.val % 16 * 128 + (y 1).val := by
    show win0_7.index t 1 * 128 + 1 * (y 1).val = _
    rw [(idx t).2.2.2.2.2.2.2.1]
    show t.val % 16 * 128 + 1 * (y 1).val = _
    omega
  have h2 : (((cfg0.win 7).blk t).view.emb y 2) = y 2 := by
    refine Fin.ext ?_
    show win0_7.index t 2 * 2048 + 1 * (y 2).val = _
    rw [(idx t).2.2.2.2.2.2.2.1]
    show 0 * 2048 + 1 * (y 2).val = _
    omega
  have e' : ((cfg0.win 7).blk t).view.emb y = ix3 (((cfg0.win 7).blk t).view.emb y 0) (((cfg0.win 7).blk t).view.emb y 1) (y 2) := by
    funext a; fin_cases a <;> [rfl; rfl; exact h2]
  rw [e']
  refine Eq.trans ?_ (q_block_is m c t (y 1) (y 2) (((cfg0.win 7).blk t).view.emb y 0) (((cfg0.win 7).blk t).view.emb y 1) h0 h1)
  generalize out0_7 (iblk m c 0 t) (iblk m c 1 t) (iblk m c 2 t) (iblk m c 3 t) (iblk m c 4 t) (iblk m c 5 t) = f
  exact congrArg f e

/-- A point's cast block of the output weights. -/
theorem o_block_is (t : Fin cfg0.N) (i : Fin 128) (j : Fin 2048) (l : Fin 2) (n : Fin 2048) (hl : l.val = t.val / 16) (hn : n.val = t.val % 16 * 128 + i.val) :
    out0_8 (iblk m c 0 t) (iblk m c 1 t) (iblk m c 2 t) (iblk m c 3 t) (iblk m c 4 t) (iblk m c 5 t) (ix3 0 i j) = (m ((c : Thread nD τ).loc main_arg4)) (ix3 l n j) :=
  (o_out_at (iblk m c 0 t) (iblk m c 1 t) (iblk m c 2 t) (iblk m c 3 t) (iblk m c 4 t) (iblk m c 5 t) i j).trans (o_eq m c t i j l n hl hn)

/-- The array of the output weights once every block is cast. -/
theorem o_final : (dats m 0 c).arrAt 8 cfg0.N = fun i => m ((c : Thread nD τ).loc main_arg4) i := by
  refine (dats m 0 c).arrAt_eq_of_covers 8 _ (by decide +kernel) fun t hf y => ?_
  rw [after0_8]
  have e : y = ix3 0 (y 1) (y 2) := by funext a; fin_cases a <;> [exact Subsingleton.elim (α := Fin 1) _ _; rfl; rfl]
  have z : (y 0).val = 0 := by have := (y 0).isLt; show (y 0).val = 0; exact Nat.lt_one_iff.1 this
  have h0 : (((cfg0.win 8).blk t).view.emb y 0).val = t.val / 16 := by
    show win0_8.index t 0 * 1 + 1 * (y 0).val = _
    rw [(idx t).2.2.2.2.2.2.2.2.1, z]
    show t.val / 16 * 1 + 1 * 0 = _
    omega
  have h1 : (((cfg0.win 8).blk t).view.emb y 1).val = t.val % 16 * 128 + (y 1).val := by
    show win0_8.index t 1 * 128 + 1 * (y 1).val = _
    rw [(idx t).2.2.2.2.2.2.2.2.1]
    show t.val % 16 * 128 + 1 * (y 1).val = _
    omega
  have h2 : (((cfg0.win 8).blk t).view.emb y 2) = y 2 := by
    refine Fin.ext ?_
    show win0_8.index t 2 * 2048 + 1 * (y 2).val = _
    rw [(idx t).2.2.2.2.2.2.2.2.1]
    show 0 * 2048 + 1 * (y 2).val = _
    omega
  have e' : ((cfg0.win 8).blk t).view.emb y = ix3 (((cfg0.win 8).blk t).view.emb y 0) (((cfg0.win 8).blk t).view.emb y 1) (y 2) := by
    funext a; fin_cases a <;> [rfl; rfl; exact h2]
  rw [e']
  refine Eq.trans ?_ (o_block_is m c t (y 1) (y 2) (((cfg0.win 8).blk t).view.emb y 0) (((cfg0.win 8).blk t).view.emb y 1) h0 h1)
  generalize out0_8 (iblk m c 0 t) (iblk m c 1 t) (iblk m c 2 t) (iblk m c 3 t) (iblk m c 4 t) (iblk m c 5 t) = f
  exact congrArg f e

/-- A point's cast block of the mixer's output weight. -/
theorem u_block_is (t : Fin cfg0.N) (i : Fin 64) (j : Fin 2048) (l : Fin 1) (n : Fin 2048) (hn : n.val = t.val * 64 + i.val) :
    out0_9 (iblk m c 0 t) (iblk m c 1 t) (iblk m c 2 t) (iblk m c 3 t) (iblk m c 4 t) (iblk m c 5 t) (ix3 0 i j) = (m ((c : Thread nD τ).loc main_arg5)) (ix3 l n j) :=
  (u_out_at (iblk m c 0 t) (iblk m c 1 t) (iblk m c 2 t) (iblk m c 3 t) (iblk m c 4 t) (iblk m c 5 t) i j).trans (u_eq m c t i j l n hn)

/-- The array of the mixer's output weight once every block is cast. -/
theorem u_final : (dats m 0 c).arrAt 9 cfg0.N = fun i => m ((c : Thread nD τ).loc main_arg5) i := by
  refine (dats m 0 c).arrAt_eq_of_covers 9 _ (by decide +kernel) fun t hf y => ?_
  rw [after0_9]
  have e : y = ix3 0 (y 1) (y 2) := by funext a; fin_cases a <;> [exact Subsingleton.elim (α := Fin 1) _ _; rfl; rfl]
  have h1 : (((cfg0.win 9).blk t).view.emb y 1).val = t.val * 64 + (y 1).val := by
    show win0_9.index t 1 * 64 + 1 * (y 1).val = _
    rw [(idx t).2.2.2.2.2.2.2.2.2]
    show t.val * 64 + 1 * (y 1).val = _
    omega
  have h2 : (((cfg0.win 9).blk t).view.emb y 2) = y 2 := by
    refine Fin.ext ?_
    show win0_9.index t 2 * 2048 + 1 * (y 2).val = _
    rw [(idx t).2.2.2.2.2.2.2.2.2]
    show 0 * 2048 + 1 * (y 2).val = _
    omega
  have e' : ((cfg0.win 9).blk t).view.emb y = ix3 (((cfg0.win 9).blk t).view.emb y 0) (((cfg0.win 9).blk t).view.emb y 1) (y 2) := by
    funext a; fin_cases a <;> [rfl; rfl; exact h2]
  rw [e']
  refine Eq.trans ?_ (u_block_is m c t (y 1) (y 2) (((cfg0.win 9).blk t).view.emb y 0) (((cfg0.win 9).blk t).view.emb y 1) h1)
  generalize out0_9 (iblk m c 0 t) (iblk m c 1 t) (iblk m c 2 t) (iblk m c 3 t) (iblk m c 4 t) (iblk m c 5 t) = f
  exact congrArg f e

end Cert.Kernel6Ideal.Even

end
-- ==== Proof.Even.Pair.lean ====
/- The even layer's norm and projection with the casts beside it: the kernel and the reference end with the same arrays. -/
module

public import proofs.«01_k».proof.Defs
public import proofs.«01_k».proof.Proof.Gen.Reference6Ideal.Run
public import proofs.«01_k».proof.Proof.Norm.Pair
public import proofs.«01_k».proof.Proof.Even.Final

@[expose] public section

set_option maxRecDepth 16384

noncomputable section

open Idealize.ShloMosaic Idealize.SL.Sem

namespace Cert.Reference6Ideal.Even

open Cert.Reference6Ideal Cert.Reference6Ideal.Gen Idealize.ShloMosaic.TcCoe Cert.Row Cert.Norm

attribute [local instance] Gen.facts

variable (m : (ℓ : Loc nD τ sig) → Buf (Elt Ideal) ℓ) (ρ : Dev nD → PrngReg)

/-- The reference ends with the product of the normed rows and with the three weights, its arguments kept. -/
theorem run : θ_run (defs (F := Ideal)) (onTc (τ := τ) (main (F := Ideal))) ⟨m, fun _ => 0, ρ⟩ fun r => ∀ c : Dev nD,
      r.2.mem ((c.tc : Thread nD τ).loc main_v15) = (fun i => result (m ((c.tc : Thread nD τ).loc main_arg0)) (m ((c.tc : Thread nD τ).loc main_arg1)) (m ((c.tc : Thread nD τ).loc main_arg2)) (i 0) (i 1))
      ∧ r.2.mem ((c.tc : Thread nD τ).loc main_v16) = (fun i => m ((c.tc : Thread nD τ).loc main_arg3) i)
      ∧ r.2.mem ((c.tc : Thread nD τ).loc main_v17) = (fun i => m ((c.tc : Thread nD τ).loc main_arg4) i)
      ∧ r.2.mem ((c.tc : Thread nD τ).loc main_v18) = (fun i => m ((c.tc : Thread nD τ).loc main_arg5) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2.1.trans ?_, (h c).2.2.1.trans ?_, (h c).2.2.2.1.trans ?_, (h c).2.2.2.2⟩) (Value.run m ρ)
  · generalize m ((c.tc : Thread nD τ).loc main_arg0) = X, m ((c.tc : Thread nD τ).loc main_arg1) = G, m ((c.tc : Thread nD τ).loc main_arg2) = W
    funext i
    obtain ⟨n, j, rfl⟩ : ∃ (n : Fin 32768) (j : Fin 4096), i = ix2 n j := ⟨i 0, i 1, by funext a; fin_cases a <;> rfl⟩
    pointwise
    rfl
  · rfl
  · rfl
  · rfl

/-- The reference terminates, keeps its arguments, and ends with every semaphore at zero: it has none. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => (h c).2.2.2.2, funext fun x => by obtain ⟨_, (x | x)⟩ := x <;> exact x.elim0⟩) (Value.run m ρ)

end Cert.Reference6Ideal.Even

namespace Cert.Even

attribute [local instance] Cert.Kernel6Ideal.Gen.facts Cert.Reference6Ideal.Gen.facts

/-- From any arguments the kernel and the reference end with equal results, and keep their arguments. -/
theorem agree : Cert.algebraic_Kernel6Ideal_Reference6Ideal := by
  intro m g m' g' _ harg
  refine ⟨_, _, _, _, Cert.Kernel6Ideal.Value.run_blocks m g, ?_⟩
  refine (θ_run _ _ _).mono (fun r h c => ⟨(h c).1.trans ?_, (h c).2.1.trans ?_, (h c).2.2.1.trans ?_, (h c).2.2.2.1.trans ?_, (h c).2.2.2.2⟩) (Cert.Reference6Ideal.Even.run m' g')
  all_goals obtain ⟨h0, h1, h2, h3, h4, h5⟩ := harg c
  · refine Eq.trans ?_ (Cert.Kernel6Ideal.Even.final m c).symm
    exact funext fun i => congrFun (congrFun (Cert.Norm.result_congr h0 h1 h2) _) _
  · exact Eq.trans (funext fun i => congrFun h3 i) (Cert.Kernel6Ideal.Even.q_final m c).symm
  · exact Eq.trans (funext fun i => congrFun h4 i) (Cert.Kernel6Ideal.Even.o_final m c).symm
  · exact Eq.trans (funext fun i => congrFun h5 i) (Cert.Kernel6Ideal.Even.u_final m c).symm

end Cert.Even

end
-- ==== Proof.Cross0.Finite.lean ====
/- The precondition of layer 0's cross attention: the weights of the scores are real numbers. -/
module

public import proofs.«01_k».proof.Pre_finite7
public import proofs.«01_k».proof.Proof.Gla.Finite
public import proofs.«01_k».proof.Proof.Cross.Soft

@[expose] public section

set_option maxRecDepth 16384

noncomputable section

namespace Cert.Pre_finite7

open Idealize.ShloMosaic Cert.Cross

/-- The shape relations the precondition names. -/
theorem facts : Facts := by
  constructor <;> decide

attribute [local instance] facts

/-- A matrix all of whose entries are below infinity is one of real numbers: the query weight's size. -/
theorem all_q (Y : FVec Ideal S2048x2048 .f32) (j : S_.Idx)
    (e : Host.reduce IntOp.andi (cmpf (F := Ideal) .olt (Host.absf Y) (broadcastInDim S2048x2048 ![] Facts.bcast_S_S2048x2048 (constant S_ .f32 0x7F800000#32))) (constantI S_ 1 1#1)
      Facts.reducesTo_S2048x2048_S_d0_1 Facts.h_S_ j = 1#1) (i : S2048x2048.Idx) : IsR (Y i) :=
  Cert.Pre_finite.all_of _ _ _ _ Y (fun i => rfl) _ e i

/-- The same for the size of the keys. -/
theorem all_k (Y : FVec Ideal S512x2048 .f32) (j : S_.Idx)
    (e : Host.reduce IntOp.andi (cmpf (F := Ideal) .olt (Host.absf Y) (broadcastInDim S512x2048 ![] Facts.bcast_S_S512x2048 (constant S_ .f32 0x7F800000#32))) (constantI S_ 1 1#1)
      Facts.reducesTo_S512x2048_S_d0_1 Facts.h_S_ j = 1#1) (i : S512x2048.Idx) : IsR (Y i) :=
  Cert.Pre_finite.all_of _ _ _ _ Y (fun i => rfl) _ e i

/-- What the precondition says. -/
theorem reals {X : FVec Ideal S32768x2048 .f32} {G : FVec Ideal S2048 .f32} {Q : FVec Ideal S2x2048x2048 .bf16} {K V : FVec Ideal S2x512x2048 .bf16}
    {W : FVec Ideal S2x2048x2048 .bf16} {H : FVec Ideal S2048 .f32} {A B : FVec Ideal S2x2048x5632 .f32} {D : FVec Ideal S2x5632x2048 .f32} {I : FVec Ideal S1x2048x6160 .f32}
    {U : FVec Ideal S1x2048x2048 .f32}
    (h : fn (F := Ideal) X G Q K V W H A B D I U = fun _ => 1#1) :
    (∀ k, IsR (G (ix1 k))) ∧ (∀ k j, IsR (Q (ix3 0 k j))) ∧ ∀ l j, IsR (K (ix3 0 l j)) := by
  have h0 := congrFun h (fun i => i.elim0)
  unfold fn fn_part1 at h0
  dsimp only at h0
  obtain ⟨h0, hk⟩ := IntOp.andi_eq_one.1 h0
  obtain ⟨hg, hq⟩ := IntOp.andi_eq_one.1 h0
  refine ⟨fun k => ?_, fun k j => ?_, fun l j => ?_⟩
  · exact Cert.Pre_finite.all_of _ _ _ _ G (fun i => rfl) _ hg (ix1 k)
  · have := all_q _ _ hq (ix2 k j)
    revert this
    pointwise
    exact id
  · have := all_k _ _ hk (ix2 l j)
    revert this
    pointwise
    exact id

end Cert.Pre_finite7

end
-- ==== Proof.Cross0.Point.lean ====
/- Layer 0's cross attention sublayer over the reals: what a grid point's operations leave. -/
module

public import proofs.«01_k».proof.Proof.Gen.Kernel7Ideal.Value
public import proofs.«01_k».proof.Proof.Cross.Point

@[expose] public section

set_option maxRecDepth 16384

noncomputable section

namespace Cert.Kernel7Ideal.Cross0

open Cert.Kernel7Ideal Cert.Kernel7Ideal.Gen Idealize.ShloMosaic Idealize.ShloMosaic.TcCoe Idealize.SL.Sem Cert.Row Cert.Cross

section payloads

variable (x : Vec Ideal S512x2048 .f32) (g : Vec Ideal S1x2048 .f32) (wq : Vec Ideal S1x2048x2048 .bf16) (q : FVec Ideal S512x2048 .bf16) (k v k' v' : Vec Ideal S1x256x512 .bf16)
  (w w' : Vec Ideal S1x512x2048 .bf16) (s : FVec Ideal S512x2048 .f32) (a : FVec Ideal S512x512 .bf16) (r : Fin 512)

/-- The queries. -/
theorem q_at (j : Fin 2048) : k0_pay5 x g wq (ix2 r j) = ∑ k, rms (fun k => x (ix2 r k)) (fun k => g (ix2 0 k)) k * wq (ix3 0 k j) := by
  pointwise [k0_pay5]; rfl

/-- A head's part of row `r`, with the head's first query column. -/
abbrev adds (p : ℕ) (hp : p ≤ 1536) (q : FVec Ideal S512x2048 .bf16) (k v : Vec Ideal S1x256x512 .bf16) (w : Vec Ideal S1x512x2048 .bf16) (r : Fin 512) : Fin 2048 → EReal :=
  part (fun d => q (ix2 r ⟨p + d.val, by omega⟩)) (fun i d => k (ix3 0 i d)) (fun i d => v (ix3 0 i d)) fun d e => w (ix3 0 d e)

/-- The last head's rows. -/
theorem last_at (d : Fin 512) : k0_pay14 q k v (ix2 r d)
    = after (score (fun d => q (ix2 r ⟨1536 + d.val, by omega⟩)) fun i d => k (ix3 0 i d)) fun i => v (ix3 0 i d) := by
  pointwise [k0_pay14]; rfl

/-- The norm of the sum of the heads, added to the row. -/
theorem out_row (e : Fin 2048) : k0_pay15 x s a w g (ix2 r e)
    = x (ix2 r e) + rms (fun e => s (ix2 r e) + ∑ d, a (ix2 r d) * w (ix3 0 d e)) (fun k => g (ix2 0 k)) e := by
  pointwise [k0_pay15]; rfl

/-- The third head, added to the first two. -/
theorem third_at (e : Fin 2048) : k0_pay13 s (k0_pay11 q k) (k0_pay12 (F := Ideal)) v w (ix2 r e) = s (ix2 r e) + adds 1024 (by omega) q k v w r e := by
  pointwise [k0_pay13, k0_pay11, k0_pay12]; rfl

/-- The first two heads. -/
theorem two_at (e : Fin 2048) : k0_pay10 (k0_pay5 x g wq) (k0_pay7 x g wq k) (k0_pay8 x g wq k) (k0_pay9 v) (constant S512x512 .f32 0x00000000#32) w k' v' w' (ix2 r e)
    = part (fun d => k0_pay5 x g wq (ix2 r ⟨d.val, by omega⟩)) (fun i d => k (ix3 0 i d)) (fun i d => v (ix3 0 i d)) (fun d e => w (ix3 0 d e)) e
      + adds 512 (by omega) (k0_pay5 x g wq) k' v' w' r e := by
  pointwise [k0_pay10, k0_pay7, k0_pay8, k0_pay9, k0_pay6]
  rfl

end payloads

end Cert.Kernel7Ideal.Cross0

end
-- ==== Proof.Cross0.Block.lean ====
/- Layer 0's cross attention and the weights prepared beside it, over the reals: the six result arrays. -/
module

public import proofs.«01_k».proof.Proof.Cross0.Point
public import proofs.«01_k».proof.Proof.Cross.Final

@[expose] public section

set_option maxRecDepth 16384

noncomputable section

namespace Cert.Cross

open Idealize.ShloMosaic

/-- The packed gate and up weights: per hidden block 512 columns of the one, then 512 of the other. -/
def pack {n r : ℕ} (A B : (⟨3, ![n, r, 5632]⟩ : Shape).Idx → EReal) (l : Fin n) (f : Fin 11) (k : Fin r) (j : Fin 1024) : EReal :=
  if h : j.val < 512 then A (ix3 l k ⟨f.val * 512 + j.val, by omega⟩) else B (ix3 l k ⟨f.val * 512 + (j.val - 512), by omega⟩)

/-- The columns before the last 16. -/
def first {n r : ℕ} (A : (⟨3, ![n, r, 6160]⟩ : Shape).Idx → EReal) (l : Fin n) (k : Fin r) (j : Fin 6144) : EReal := A (ix3 l k ⟨j.val, by omega⟩)

/-- The last 16 columns, followed by zeros. -/
def tail {n r : ℕ} (A : (⟨3, ![n, r, 6160]⟩ : Shape).Idx → EReal) (l : Fin n) (k : Fin r) (j : Fin 128) : EReal :=
  if h : j.val < 16 then A (ix3 l k ⟨6144 + j.val, by omega⟩) else 0

end Cert.Cross

namespace Cert.Kernel7Ideal.Cross0

open Cert.Kernel7Ideal Cert.Kernel7Ideal.Gen Idealize.ShloMosaic Idealize.ShloMosaic.TcCoe Idealize.SL.Sem Cert.Row Cert.Cross
open Idealize.ShloMosaic.Pipeline (Dat)

section pieces

variable (x3 x4 : Vec Ideal S1x256x2048 .bf16) (x5 : Vec Ideal S1x2048x2048 .bf16) (x0 : Vec Ideal S512x2048 .f32) (x1 : Vec Ideal S1x2048 .f32) (x2 : Vec Ideal S1x2048x2048 .bf16)
  (r : Fin 512)

/-- The query row of a point. -/
abbrev qrow (j : Fin 2048) : EReal := ∑ k, rms (fun k => x0 (ix2 r k)) (fun k => x1 (ix2 0 k)) k * x2 (ix3 0 k j)

/-- One head's keys or values, read from a block. -/
theorem kv_eq (x : Vec Ideal S1x256x2048 .bf16) (h : Fin 4) (p : ℕ) (hp : p = h.val * 512)
    (inb : ∀ a, (![0, 0, p] : Fin 3 → ℕ) a + S1x256x512.size a ≤ S1x256x2048.size a) :
    (fun (i : Fin 256) (d : Fin 512) => View.ld x (Rect.unit (s := S1x256x2048) ![0, 0, p] S1x256x512.size inb) (ix3 0 i d)) = fun i d => x (ix3 0 i (col h d)) :=
  funext fun i => funext fun d => ld_at3 x _ _ _ _ _ i (col h d) (by omega) (by show h.val * 512 + d.val = _; omega)

/-- One head's rows of the output weight, read from the block. -/
theorem wo_eq (x : Vec Ideal S1x2048x2048 .bf16) (h : Fin 4) (p : ℕ) (hp : p = h.val * 512)
    (inb : ∀ a, (![0, p, 0] : Fin 3 → ℕ) a + S1x512x2048.size a ≤ S1x2048x2048.size a) :
    (fun (d : Fin 512) (e : Fin 2048) => View.ld x (Rect.unit (s := S1x2048x2048) ![0, p, 0] S1x512x2048.size inb) (ix3 0 d e)) = fun d e => x (ix3 0 (col h d) e) :=
  funext fun d => funext fun e => ld_at3 x _ _ _ _ _ (col h d) e (by show h.val * 512 + d.val = _; omega) (by omega)

/-- One head's queries, read from the blocks. -/
theorem qh_eq (h : Fin 4) (f : Fin 512 → Fin 2048) (hf : ∀ d, (f d).val = h.val * 512 + d.val) :
    (fun d => k0_pay5 x0 x1 x2 (ix2 r (f d))) = fun d => qrow x0 x1 x2 r (col h d) :=
  funext fun d => (q_at x0 x1 x2 r (f d)).trans (congrArg (qrow x0 x1 x2 r) (Fin.ext (hf d)))

/-- A cast block of 64 rows and 512 columns. -/
theorem cast_at (v : Vec Ideal S1x64x512 .f32) (a b : Fin 1) (i : Fin 64) (j : Fin 512) : k0_pay16 v (ix4 a b i j) = v (ix3 0 i j) := by
  obtain rfl : a = 0 := Subsingleton.elim _ _
  obtain rfl : b = 0 := Subsingleton.elim _ _
  pointwise [k0_pay16]

/-- A cast block of the down weight. -/
theorem down_at (v : Vec Ideal S1x176x2048 .f32) (i : Fin 176) (j : Fin 2048) : k0_pay40 v (ix3 0 i j) = v (ix3 0 i j) := by
  pointwise [k0_pay40]

/-- A cast block of the input weight's first columns. -/
theorem main_at (v : Vec Ideal S1x32x6144 .f32) (i : Fin 32) (j : Fin 6144) : k0_pay1 (k0_pay41 v) (ix3 0 i j) = v (ix3 0 i j) := by
  pointwise [k0_pay1, k0_pay41]

/-- A cast block of the input weight's last columns. -/
theorem rest_at (v : Vec Ideal S1x32x16 .f32) (i : Fin 32) (j : Fin 16) : k0_pay3 v (ix3 0 i j) = v (ix3 0 i j) := by
  pointwise [k0_pay3]

/-- The zeros beside them. -/
theorem zero_at (i : Fin 32) (j : Fin 128) : k0_pay2 (F := Ideal) (ix3 0 i j) = 0 := by
  pointwise [k0_pay2]

/-- A cast block of the output weight. -/
theorem outw_at (v : Vec Ideal S1x32x2048 .f32) (i : Fin 32) (j : Fin 2048) : k0_pay4 v (ix3 0 i j) = v (ix3 0 i j) := by
  pointwise [k0_pay4]

end pieces

variable (m : (ℓ : Loc nD τ sig) → Buf (Elt Ideal) ℓ) (c : Dev nD)

/-- The rows. -/
abbrev aX : FVec Ideal S32768x2048 .f32 := m ((c : Thread nD τ).loc main_arg0)
/-- The first norm's weights. -/
abbrev aG : FVec Ideal S2048 .f32 := m ((c : Thread nD τ).loc main_arg1)
/-- The query weights of both layers. -/
abbrev aQ : FVec Ideal S2x2048x2048 .bf16 := m ((c : Thread nD τ).loc main_arg2)
/-- The memory's keys of both layers. -/
abbrev aK : FVec Ideal S2x512x2048 .bf16 := m ((c : Thread nD τ).loc main_arg3)
/-- The memory's values of both layers. -/
abbrev aV : FVec Ideal S2x512x2048 .bf16 := m ((c : Thread nD τ).loc main_arg4)
/-- The output weights of both layers. -/
abbrev aW : FVec Ideal S2x2048x2048 .bf16 := m ((c : Thread nD τ).loc main_arg5)
/-- The last norm's weights. -/
abbrev aH : FVec Ideal S2048 .f32 := m ((c : Thread nD τ).loc main_arg6)
/-- The gate weights of both layers. -/
abbrev aA : FVec Ideal S2x2048x5632 .f32 := m ((c : Thread nD τ).loc main_arg7)
/-- The up weights of both layers. -/
abbrev aB : FVec Ideal S2x2048x5632 .f32 := m ((c : Thread nD τ).loc main_arg8)
/-- The odd layer's input weight. -/
abbrev aI : FVec Ideal S1x2048x6160 .f32 := m ((c : Thread nD τ).loc main_arg10)

/-- The place of every block of a grid point. -/
theorem idx : ∀ t : Fin cfg0.N, win0_0.index t = ![t.val, 0] ∧ win0_1.index t = ![0, 0] ∧ win0_2.index t = ![0, 0, 0] ∧
    win0_3.index t = ![0, t.val / 32, 0] ∧ win0_4.index t = ![0, t.val / 32, 0] ∧ win0_5.index t = ![0, 0, 0] ∧ win0_6.index t = ![0, 0] ∧
    win0_7.index t = ![t.val / 32, t.val % 32, 0] ∧ win0_8.index t = ![t.val / 32, t.val % 32, 0] ∧ win0_9.index t = ![t.val / 32, t.val % 32, 0] ∧
    win0_10.index t = ![0, t.val, 0] ∧ win0_11.index t = ![0, t.val, 0] :=
  (by decide +kernel : ∀ t : Fin grid0.N, _)

/-- The place of every result's block of a grid point. -/
theorem odx : ∀ t : Fin cfg0.N, win0_12.index t = ![t.val, 0] ∧ win0_13.index t = ![t.val / 32, 0, t.val % 32, 0] ∧ win0_14.index t = ![t.val / 32, t.val % 32, 0] ∧
    win0_15.index t = ![0, t.val, 0] ∧ win0_16.index t = ![0, t.val, 0] ∧ win0_17.index t = ![0, t.val, 0] :=
  (by decide +kernel : ∀ t : Fin grid0.N, _)

/-- The first norm's weights as the kernel receives them. -/
theorem pre_g (k : Fin 2048) : (show FVec Ideal S1x2048 .f32 from V m c main_v0) (ix2 0 k) = aG m c (ix1 k) := by
  show StableHlo.after _ _ _ _ = _
  simp only [List.flatten_cons, List.flatten_nil, List.append_nil, List.cons_append, List.nil_append, hostOps0]
  after_results
  pointwise

/-- The last norm's weights as the kernel receives them. -/
theorem pre_h (k : Fin 2048) : (show FVec Ideal S1x2048 .f32 from V m c main_v1) (ix2 0 k) = aH m c (ix1 k) := by
  show StableHlo.after _ _ _ _ = _
  simp only [List.flatten_cons, List.flatten_nil, List.append_nil, List.cons_append, List.nil_append, hostOps0]
  after_results
  pointwise

section reads
variable (t : Fin cfg0.N)

/-- The rows at a point. -/
theorem x_eq (r : Fin 512) (n : Fin 32768) (h : n.val = t.val * 512 + r.val) (k : Fin 2048) :
    (show FVec Ideal S512x2048 .f32 from iblk m c 0 t) (ix2 r k) = (m ((c : Thread nD τ).loc main_arg0)) (ix2 n k) := by
  blk_ext [iblk, V, idx t]

/-- The first norm's weights at a point. -/
theorem g_eq (k : Fin 2048) : (show FVec Ideal S1x2048 .f32 from iblk m c 1 t) (ix2 0 k) = aG m c (ix1 k) := by
  refine Eq.trans ?_ (pre_g m c k)
  show (show FVec Ideal S1x2048 .f32 from iblk m c 1 t) (ix2 0 k) = (show FVec Ideal S1x2048 .f32 from V m c main_v0) (ix2 0 k)
  blk_ext [iblk, idx t]

/-- The layer's query weight at a point. -/
theorem wq_eq (k j : Fin 2048) : (show FVec Ideal S1x2048x2048 .bf16 from iblk m c 2 t) (ix3 0 k j) = (m ((c : Thread nD τ).loc main_arg2)) (ix3 0 k j) := by
  blk_ext [iblk, V, idx t]

/-- The layer's keys at a point. -/
theorem k_eq (i : Fin 256) (l : Fin 512) (h : l.val = t.val / 32 * 256 + i.val) (j : Fin 2048) :
    (show FVec Ideal S1x256x2048 .bf16 from iblk m c 3 t) (ix3 0 i j) = (m ((c : Thread nD τ).loc main_arg3)) (ix3 0 l j) := by
  blk_ext [iblk, V, idx t]

/-- The layer's values at a point. -/
theorem v_eq (i : Fin 256) (l : Fin 512) (h : l.val = t.val / 32 * 256 + i.val) (j : Fin 2048) :
    (show FVec Ideal S1x256x2048 .bf16 from iblk m c 4 t) (ix3 0 i j) = (m ((c : Thread nD τ).loc main_arg4)) (ix3 0 l j) := by
  blk_ext [iblk, V, idx t]

/-- The layer's output weight at a point. -/
theorem w_eq (k j : Fin 2048) : (show FVec Ideal S1x2048x2048 .bf16 from iblk m c 5 t) (ix3 0 k j) = (m ((c : Thread nD τ).loc main_arg5)) (ix3 0 k j) := by
  blk_ext [iblk, V, idx t]

/-- The last norm's weights at a point. -/
theorem h_eq (k : Fin 2048) : (show FVec Ideal S1x2048 .f32 from iblk m c 6 t) (ix2 0 k) = aH m c (ix1 k) := by
  refine Eq.trans ?_ (pre_h m c k)
  show (show FVec Ideal S1x2048 .f32 from iblk m c 6 t) (ix2 0 k) = (show FVec Ideal S1x2048 .f32 from V m c main_v1) (ix2 0 k)
  blk_ext [iblk, idx t]

/-- The part of the gate weights that a point casts. -/
theorem a_eq (i : Fin 64) (j : Fin 5632) (l : Fin 2) (n : Fin 2048) (hl : l.val = t.val / 32) (hn : n.val = t.val % 32 * 64 + i.val) :
    (show FVec Ideal S1x64x5632 .f32 from iblk m c 7 t) (ix3 0 i j) = (m ((c : Thread nD τ).loc main_arg7)) (ix3 l n j) := by
  blk_ext [iblk, V, idx t]

/-- The part of the up weights that a point casts. -/
theorem b_eq (i : Fin 64) (j : Fin 5632) (l : Fin 2) (n : Fin 2048) (hl : l.val = t.val / 32) (hn : n.val = t.val % 32 * 64 + i.val) :
    (show FVec Ideal S1x64x5632 .f32 from iblk m c 8 t) (ix3 0 i j) = (m ((c : Thread nD τ).loc main_arg8)) (ix3 l n j) := by
  blk_ext [iblk, V, idx t]

/-- The part of the down weights that a point casts. -/
theorem d_eq (i : Fin 176) (j : Fin 2048) (l : Fin 2) (n : Fin 5632) (hl : l.val = t.val / 32) (hn : n.val = t.val % 32 * 176 + i.val) :
    (show FVec Ideal S1x176x2048 .f32 from iblk m c 9 t) (ix3 0 i j) = (m ((c : Thread nD τ).loc main_arg9)) (ix3 l n j) := by
  blk_ext [iblk, V, idx t]

/-- The part of the input weight that a point casts. -/
theorem i_eq (i : Fin 32) (j : Fin 6160) (l : Fin 1) (n : Fin 2048) (hn : n.val = t.val * 32 + i.val) :
    (show FVec Ideal S1x32x6160 .f32 from iblk m c 10 t) (ix3 0 i j) = (m ((c : Thread nD τ).loc main_arg10)) (ix3 l n j) := by
  blk_ext [iblk, V, idx t]

/-- The part of the output weight that a point casts. -/
theorem u_eq (i : Fin 32) (j : Fin 2048) (l : Fin 1) (n : Fin 2048) (hn : n.val = t.val * 32 + i.val) :
    (show FVec Ideal S1x32x2048 .f32 from iblk m c 11 t) (ix3 0 i j) = (m ((c : Thread nD τ).loc main_arg11)) (ix3 l n j) := by
  blk_ext [iblk, V, idx t]

end reads

section outs
variable (t : Fin cfg0.N)

/-- A point's block of the result, from its input blocks. -/
theorem out_at (r : Fin 512) (e : Fin 2048) : (outsAt0 m c t).1 (ix2 r e)
    = (show FVec Ideal S512x2048 .f32 from iblk m c 0 t) (ix2 r e)
      + rms (mixed (qrow (iblk m c 0 t) (iblk m c 1 t) (iblk m c 2 t) r) (fun i j => (show FVec Ideal S1x256x2048 .bf16 from iblk m c 3 t) (ix3 0 i j))
          (fun i j => (show FVec Ideal S1x256x2048 .bf16 from iblk m c 4 t) (ix3 0 i j)) (fun k e => (show FVec Ideal S1x2048x2048 .bf16 from iblk m c 5 t) (ix3 0 k e)))
        (fun k => (show FVec Ideal S1x2048 .f32 from iblk m c 6 t) (ix2 0 k)) e := by
  unfold outsAt0
  frame_out
  generalize iblk m c 0 t = x0, iblk m c 1 t = x1, iblk m c 2 t = x2, iblk m c 3 t = x3, iblk m c 4 t = x4, iblk m c 5 t = x5, iblk m c 6 t = x6
  refine (out_row _ _ _ _ _ _ _).trans ?_
  refine congrArg₂ (· + ·) rfl (congrArg (fun x => rms x _ e) (funext fun e => ?_))
  refine Eq.trans ?_ (Fin.sum_univ_four _).symm
  refine congrArg₂ (· + ·) ?_ ?_
  · refine (third_at _ _ _ _ _ _ _).trans (congrArg₂ (· + ·) ((two_at _ _ _ _ _ _ _ _ _ _ _).trans (congrArg₂ (· + ·) ?_ ?_)) ?_)
    · exact congrFun (congr (congr (congr (congrArg part (qh_eq x0 x1 x2 r 0 _ fun d => by show d.val = 0 * 512 + d.val; omega)) (kv_eq x3 0 0 rfl _)) (kv_eq x4 0 0 rfl _)) (wo_eq x5 0 0 rfl _)) e
    · exact congrFun (congr (congr (congr (congrArg part (qh_eq x0 x1 x2 r 1 _ fun d => rfl)) (kv_eq x3 1 512 rfl _)) (kv_eq x4 1 512 rfl _)) (wo_eq x5 1 512 rfl _)) e
    · exact congrFun (congr (congr (congr (congrArg part (qh_eq x0 x1 x2 r 2 _ fun d => rfl)) (kv_eq x3 2 1024 rfl _)) (kv_eq x4 2 1024 rfl _)) (wo_eq x5 2 1024 rfl _)) e
  · refine (Finset.sum_congr rfl fun d _ => congrArg₂ (· * ·) (last_at _ _ _ _ d) rfl).trans ?_
    exact congrFun (congr (congr (congr (congrArg part (qh_eq x0 x1 x2 r 3 _ fun d => rfl)) (kv_eq x3 3 1536 rfl _)) (kv_eq x4 3 1536 rfl _)) (wo_eq x5 3 1536 rfl _)) e

/-- A point's block of the packed weights, from its input blocks. -/
theorem pack_at (f : Fin 11) (r : Fin 64) (e : Fin 1024) : (outsAt0 m c t).2.1 (ix4 0 f r e)
    = pack (n := 1) (r := 64) (show FVec Ideal S1x64x5632 .f32 from iblk m c 7 t) (show FVec Ideal S1x64x5632 .f32 from iblk m c 8 t) 0 f r e := by
  unfold outsAt0 pack
  frame_out
  generalize iblk m c 7 t = x7, iblk m c 8 t = x8
  canon_tiles y h
  all_goals
    idx_vars y
    first
      | rw [dif_neg (by omega)]
        exact (cast_at _ _ _ _ _).trans (ld_at3 _ _ _ _ _ _ _ _ (by omega) (by show f.val * 512 + (e.val - 512) = _; omega))
      | rw [dif_pos (by omega)]
        exact (cast_at _ _ _ _ _).trans (ld_at3 _ _ _ _ _ _ _ _ (by omega) (by show f.val * 512 + e.val = _; omega))

/-- A point's block of the down weights, from its input block. -/
theorem d_at (r : Fin 176) (e : Fin 2048) : (outsAt0 m c t).2.2.1 (ix3 0 r e) = (show FVec Ideal S1x176x2048 .f32 from iblk m c 9 t) (ix3 0 r e) := by
  unfold outsAt0
  frame_out
  exact down_at _ r e

/-- A point's block of the input weight's first columns, from its input block. -/
theorem i_at (r : Fin 32) (e : Fin 6144) : (outsAt0 m c t).2.2.2.1 (ix3 0 r e) = (show FVec Ideal S1x32x6160 .f32 from iblk m c 10 t) (ix3 0 r ⟨e.val, by omega⟩) := by
  unfold outsAt0
  frame_out
  exact (main_at _ r e).trans (ld_at3 _ _ _ _ _ _ _ _ (by omega) (by show e.val = _; omega))

/-- A point's block of the input weight's last columns, from its input block. -/
theorem tail_at (r : Fin 32) (e : Fin 128) : (outsAt0 m c t).2.2.2.2.1 (ix3 0 r e) = tail (n := 1) (r := 32) (show FVec Ideal S1x32x6160 .f32 from iblk m c 10 t) 0 r e := by
  unfold outsAt0 tail
  frame_out
  generalize iblk m c 10 t = x10
  by_cases h : e.val < 16
  · rw [dif_pos h]
    have e' : ix3 0 r e = (Rect.unit (s := S1x32x128) ![0, 0, 0] S1x32x16.size inb_S1x32x128_S1x32x16_0_0_0).emb (ix3 (0 : Fin 1) r (⟨e.val, h⟩ : Fin 16)) := by
      funext a; refine Fin.ext ?_; fin_cases a
      · rfl
      · show r.val = 0 + 1 * r.val; omega
      · show e.val = 0 + 1 * e.val; omega
    rw [e']
    refine (View.canon_cons_emb _ _ _ _).trans ((rest_at _ r _).trans (ld_at3 _ _ _ _ _ _ _ _ (by omega) rfl))
  · rw [dif_neg h]
    refine (View.canon_cons_of_not_mem _ _ fun hm => h ?_).trans ?_
    · have hm' : ix3 0 r e ∈ (Rect.unit (s := S1x32x128) ![0, 0, 0] S1x32x16.size inb_S1x32x128_S1x32x16_0_0_0).set := hm
      exact (Rect.mem_set_unit.1 hm' 2).2
    · exact (congrFun (View.canon_cons_unit_lit _ _ _ (by decide)) _).trans (zero_at r e)

/-- A point's block of the output weight, from its input block. -/
theorem u_at (r : Fin 32) (e : Fin 2048) : (outsAt0 m c t).2.2.2.2.2 (ix3 0 r e) = (show FVec Ideal S1x32x2048 .f32 from iblk m c 11 t) (ix3 0 r e) := by
  unfold outsAt0
  frame_out
  exact outw_at _ r e

end outs

end Cert.Kernel7Ideal.Cross0

end
-- ==== Proof.Cross0.Final.lean ====
/- Layer 0's cross attention and the weights prepared beside it, over the reals: the six result arrays. -/
module

public import proofs.«01_k».proof.Proof.Cross0.Block

@[expose] public section

set_option maxRecDepth 16384

noncomputable section

namespace Cert.Kernel7Ideal.Cross0

open Cert.Kernel7Ideal Cert.Kernel7Ideal.Gen Idealize.ShloMosaic Idealize.ShloMosaic.TcCoe Idealize.SL.Sem Cert.Row Cert.Cross
open Idealize.ShloMosaic.Pipeline (Dat)

variable (m : (ℓ : Loc nD τ sig) → Buf (Elt Ideal) ℓ) (c : Dev nD)

/-- The memory row of a point's row. -/
theorem mrow_val (t : Fin cfg0.N) (r : Fin 512) (n : Fin 32768) (h : n.val = t.val * 512 + r.val) (i : Fin 256) : (mrow n i).val = t.val / 32 * 256 + i.val := by
  show n.val / 16384 * 256 + i.val = _
  omega

/-- A point's block of the result. -/
theorem block_is (t : Fin cfg0.N) (r : Fin 512) (n : Fin 32768) (h : n.val = t.val * 512 + r.val) (e : Fin 2048) :
    (outsAt0 m c t).1 (ix2 r e)
      = result 0 (aX m c) (aG m c) (aQ m c) (aK m c) (aV m c) (aW m c) (aH m c) n e := by
  refine (out_at m c t r e).trans ?_
  refine congrArg₂ (· + ·) (x_eq m c t r n h e) (congrArg₂ (fun x g => rms x g e) ?_ (funext fun k => h_eq m c t k))
  refine congr (congr (congr (congrArg mixed (funext fun j => ?_)) (funext fun i => funext fun j => k_eq m c t i _ (mrow_val t r n h i) j))
    (funext fun i => funext fun j => v_eq m c t i _ (mrow_val t r n h i) j)) (funext fun k => funext fun e => w_eq m c t k e)
  exact Finset.sum_congr rfl fun k _ => congrArg₂ (· * ·) (congrArg₂ (fun x g => rms x g k) (funext fun k => x_eq m c t r n h k) (funext fun k => g_eq m c t k)) (wq_eq m c t k j)

/-- The result array once every block is written. -/
theorem final : (dats m 0 c).arrAt 12 cfg0.N = fun i => result 0 (aX m c) (aG m c) (aQ m c) (aK m c) (aV m c) (aW m c) (aH m c) (i 0) (i 1) := by
  refine (dats m 0 c).arrAt_eq_of_covers 12 _ (by decide +kernel) fun t hf y => ?_
  rw [after0_12]
  have e : y = ix2 (y 0) (y 1) := by funext a; fin_cases a <;> rfl
  have h0 : (((cfg0.win 12).blk t).view.emb y 0).val = t.val * 512 + (y 0).val := by
    show win0_12.index t 0 * 512 + 1 * (y 0).val = _
    rw [(odx t).1]
    show t.val * 512 + 1 * (y 0).val = _
    omega
  have h1 : (((cfg0.win 12).blk t).view.emb y 1) = y 1 := by
    refine Fin.ext ?_
    show win0_12.index t 1 * 2048 + 1 * (y 1).val = _
    rw [(odx t).1]
    show 0 * 2048 + 1 * (y 1).val = _
    omega
  rw [h1]
  refine Eq.trans ?_ (block_is m c t (y 0) _ h0 (y 1))
  generalize (outsAt0 m c t).1 = f
  exact congrArg f e

/-- A point's block of the packed weights. -/
theorem pack_is (t : Fin cfg0.N) (f : Fin 11) (i : Fin 64) (j : Fin 1024) (l : Fin 2) (n : Fin 2048) (hl : l.val = t.val / 32) (hn : n.val = t.val % 32 * 64 + i.val) :
    (outsAt0 m c t).2.1 (ix4 0 f i j) = pack (aA m c) (aB m c) l f n j := by
  refine (pack_at m c t f i j).trans ?_
  unfold pack
  by_cases h : j.val < 512
  · rw [dif_pos h, dif_pos h]
    exact a_eq m c t i _ l n hl hn
  · rw [dif_neg h, dif_neg h]
    exact b_eq m c t i _ l n hl hn

/-- The array of the packed weights once every block is written. -/
theorem pack_final : (dats m 0 c).arrAt 13 cfg0.N = fun i => pack (aA m c) (aB m c) (i 0) (i 1) (i 2) (i 3) := by
  refine (dats m 0 c).arrAt_eq_of_covers 13 _ (by decide +kernel) fun t hf y => ?_
  rw [after0_13]
  have e : y = ix4 0 (y 1) (y 2) (y 3) := by funext a; fin_cases a <;> [exact Subsingleton.elim (α := Fin 1) _ _; rfl; rfl; rfl]
  have z : (y 0).val = 0 := by have := (y 0).isLt; show (y 0).val = 0; exact Nat.lt_one_iff.1 this
  have h0 : (((cfg0.win 13).blk t).view.emb y 0).val = t.val / 32 := by
    show win0_13.index t 0 * 1 + 1 * (y 0).val = _
    rw [(odx t).2.1, z]
    show t.val / 32 * 1 + 1 * 0 = _
    omega
  have h1 : (((cfg0.win 13).blk t).view.emb y 1) = y 1 := by
    refine Fin.ext ?_
    show win0_13.index t 1 * 11 + 1 * (y 1).val = _
    rw [(odx t).2.1]
    show 0 * 11 + 1 * (y 1).val = _
    omega
  have h2 : (((cfg0.win 13).blk t).view.emb y 2).val = t.val % 32 * 64 + (y 2).val := by
    show win0_13.index t 2 * 64 + 1 * (y 2).val = _
    rw [(odx t).2.1]
    show t.val % 32 * 64 + 1 * (y 2).val = _
    omega
  have h3 : (((cfg0.win 13).blk t).view.emb y 3) = y 3 := by
    refine Fin.ext ?_
    show win0_13.index t 3 * 1024 + 1 * (y 3).val = _
    rw [(odx t).2.1]
    show 0 * 1024 + 1 * (y 3).val = _
    omega
  rw [h1, h3]
  refine Eq.trans ?_ (pack_is m c t (y 1) (y 2) (y 3) (((cfg0.win 13).blk t).view.emb y 0) (((cfg0.win 13).blk t).view.emb y 2) h0 h2)
  generalize (outsAt0 m c t).2.1 = f
  exact congrArg f e

/-- A point's block of the down weights. -/
theorem d_is (t : Fin cfg0.N) (i : Fin 176) (j : Fin 2048) (l : Fin 2) (n : Fin 5632) (hl : l.val = t.val / 32) (hn : n.val = t.val % 32 * 176 + i.val) :
    (outsAt0 m c t).2.2.1 (ix3 0 i j) = (m ((c : Thread nD τ).loc main_arg9)) (ix3 l n j) :=
  (d_at m c t i j).trans (d_eq m c t i j l n hl hn)

/-- The array of the down weights once every block is written. -/
theorem d_final : (dats m 0 c).arrAt 14 cfg0.N = fun i => m ((c : Thread nD τ).loc main_arg9) i := by
  refine (dats m 0 c).arrAt_eq_of_covers 14 _ (by decide +kernel) fun t hf y => ?_
  rw [after0_14]
  have e : y = ix3 0 (y 1) (y 2) := by funext a; fin_cases a <;> [exact Subsingleton.elim (α := Fin 1) _ _; rfl; rfl]
  have z : (y 0).val = 0 := by have := (y 0).isLt; show (y 0).val = 0; exact Nat.lt_one_iff.1 this
  have h0 : (((cfg0.win 14).blk t).view.emb y 0).val = t.val / 32 := by
    show win0_14.index t 0 * 1 + 1 * (y 0).val = _
    rw [(odx t).2.2.1, z]
    show t.val / 32 * 1 + 1 * 0 = _
    omega
  have h1 : (((cfg0.win 14).blk t).view.emb y 1).val = t.val % 32 * 176 + (y 1).val := by
    show win0_14.index t 1 * 176 + 1 * (y 1).val = _
    rw [(odx t).2.2.1]
    show t.val % 32 * 176 + 1 * (y 1).val = _
    omega
  have h2 : (((cfg0.win 14).blk t).view.emb y 2) = y 2 := by
    refine Fin.ext ?_
    show win0_14.index t 2 * 2048 + 1 * (y 2).val = _
    rw [(odx t).2.2.1]
    show 0 * 2048 + 1 * (y 2).val = _
    omega
  have e' : ((cfg0.win 14).blk t).view.emb y = ix3 (((cfg0.win 14).blk t).view.emb y 0) (((cfg0.win 14).blk t).view.emb y 1) (y 2) := by
    funext a; fin_cases a <;> [rfl; rfl; exact h2]
  rw [e']
  refine Eq.trans ?_ (d_is m c t (y 1) (y 2) (((cfg0.win 14).blk t).view.emb y 0) (((cfg0.win 14).blk t).view.emb y 1) h0 h1)
  generalize (outsAt0 m c t).2.2.1 = f
  exact congrArg f e

/-- A point's block of the input weight's first columns. -/
theorem i_is (t : Fin cfg0.N) (i : Fin 32) (j : Fin 6144) (l : Fin 1) (n : Fin 2048) (hn : n.val = t.val * 32 + i.val) :
    (outsAt0 m c t).2.2.2.1 (ix3 0 i j) = first (aI m c) l n j :=
  (i_at m c t i j).trans (i_eq m c t i _ l n hn)

/-- The array of the input weight's first columns once every block is written. -/
theorem i_final : (dats m 0 c).arrAt 15 cfg0.N = fun i => first (aI m c) (i 0) (i 1) (i 2) := by
  refine (dats m 0 c).arrAt_eq_of_covers 15 _ (by decide +kernel) fun t hf y => ?_
  rw [after0_15]
  have e : y = ix3 0 (y 1) (y 2) := by funext a; fin_cases a <;> [exact Subsingleton.elim (α := Fin 1) _ _; rfl; rfl]
  have h1 : (((cfg0.win 15).blk t).view.emb y 1).val = t.val * 32 + (y 1).val := by
    show win0_15.index t 1 * 32 + 1 * (y 1).val = _
    rw [(odx t).2.2.2.1]
    show t.val * 32 + 1 * (y 1).val = _
    omega
  have h2 : (((cfg0.win 15).blk t).view.emb y 2) = y 2 := by
    refine Fin.ext ?_
    show win0_15.index t 2 * 6144 + 1 * (y 2).val = _
    rw [(odx t).2.2.2.1]
    show 0 * 6144 + 1 * (y 2).val = _
    omega
  rw [h2]
  refine Eq.trans ?_ (i_is m c t (y 1) (y 2) (((cfg0.win 15).blk t).view.emb y 0) (((cfg0.win 15).blk t).view.emb y 1) h1)
  generalize (outsAt0 m c t).2.2.2.1 = f
  exact congrArg f e

/-- A point's block of the input weight's last columns. -/
theorem tail_is (t : Fin cfg0.N) (i : Fin 32) (j : Fin 128) (l : Fin 1) (n : Fin 2048) (hn : n.val = t.val * 32 + i.val) :
    (outsAt0 m c t).2.2.2.2.1 (ix3 0 i j) = tail (aI m c) l n j := by
  refine (tail_at m c t i j).trans ?_
  unfold tail
  by_cases h : j.val < 16
  · rw [dif_pos h, dif_pos h]
    exact i_eq m c t i _ l n hn
  · rw [dif_neg h, dif_neg h]

/-- The array of the input weight's last columns once every block is written. -/
theorem tail_final : (dats m 0 c).arrAt 16 cfg0.N = fun i => tail (aI m c) (i 0) (i 1) (i 2) := by
  refine (dats m 0 c).arrAt_eq_of_covers 16 _ (by decide +kernel) fun t hf y => ?_
  rw [after0_16]
  have e : y = ix3 0 (y 1) (y 2) := by funext a; fin_cases a <;> [exact Subsingleton.elim (α := Fin 1) _ _; rfl; rfl]
  have h1 : (((cfg0.win 16).blk t).view.emb y 1).val = t.val * 32 + (y 1).val := by
    show win0_16.index t 1 * 32 + 1 * (y 1).val = _
    rw [(odx t).2.2.2.2.1]
    show t.val * 32 + 1 * (y 1).val = _
    omega
  have h2 : (((cfg0.win 16).blk t).view.emb y 2) = y 2 := by
    refine Fin.ext ?_
    show win0_16.index t 2 * 128 + 1 * (y 2).val = _
    rw [(odx t).2.2.2.2.1]
    show 0 * 128 + 1 * (y 2).val = _
    omega
  rw [h2]
  refine Eq.trans ?_ (tail_is m c t (y 1) (y 2) (((cfg0.win 16).blk t).view.emb y 0) (((cfg0.win 16).blk t).view.emb y 1) h1)
  generalize (outsAt0 m c t).2.2.2.2.1 = f
  exact congrArg f e

/-- A point's block of the output weight. -/
theorem u_is (t : Fin cfg0.N) (i : Fin 32) (j : Fin 2048) (l : Fin 1) (n : Fin 2048) (hn : n.val = t.val * 32 + i.val) :
    (outsAt0 m c t).2.2.2.2.2 (ix3 0 i j) = (m ((c : Thread nD τ).loc main_arg11)) (ix3 l n j) :=
  (u_at m c t i j).trans (u_eq m c t i j l n hn)

/-- The array of the output weight once every block is written. -/
theorem u_final : (dats m 0 c).arrAt 17 cfg0.N = fun i => m ((c : Thread nD τ).loc main_arg11) i := by
  refine (dats m 0 c).arrAt_eq_of_covers 17 _ (by decide +kernel) fun t hf y => ?_
  rw [after0_17]
  have e : y = ix3 0 (y 1) (y 2) := by funext a; fin_cases a <;> [exact Subsingleton.elim (α := Fin 1) _ _; rfl; rfl]
  have h1 : (((cfg0.win 17).blk t).view.emb y 1).val = t.val * 32 + (y 1).val := by
    show win0_17.index t 1 * 32 + 1 * (y 1).val = _
    rw [(odx t).2.2.2.2.2]
    show t.val * 32 + 1 * (y 1).val = _
    omega
  have h2 : (((cfg0.win 17).blk t).view.emb y 2) = y 2 := by
    refine Fin.ext ?_
    show win0_17.index t 2 * 2048 + 1 * (y 2).val = _
    rw [(odx t).2.2.2.2.2]
    show 0 * 2048 + 1 * (y 2).val = _
    omega
  have e' : ((cfg0.win 17).blk t).view.emb y = ix3 (((cfg0.win 17).blk t).view.emb y 0) (((cfg0.win 17).blk t).view.emb y 1) (y 2) := by
    funext a; fin_cases a <;> [rfl; rfl; exact h2]
  rw [e']
  refine Eq.trans ?_ (u_is m c t (y 1) (y 2) (((cfg0.win 17).blk t).view.emb y 0) (((cfg0.win 17).blk t).view.emb y 1) h1)
  generalize (outsAt0 m c t).2.2.2.2.2 = f
  exact congrArg f e

end Cert.Kernel7Ideal.Cross0

end
-- ==== Proof.Cross0.Ref.lean ====
/- Layer 0's cross attention and the weights prepared beside it, over the reals: what the reference returns. -/
module

public import proofs.«01_k».proof.Proof.Gen.Reference7Ideal.Run
public import proofs.«01_k».proof.Proof.Cross0.Final
public import proofs.«01_k».proof.Proof.Cross.Ref

@[expose] public section

set_option maxRecDepth 16384

noncomputable section

open Idealize.ShloMosaic Idealize.SL.Sem

namespace Cert.Reference7Ideal.Cross0

open Cert.Reference7Ideal Cert.Reference7Ideal.Gen Idealize.ShloMosaic.TcCoe Cert.Row Cert.Cross

attribute [local instance] Gen.facts
open Facts

/-- The reference's queries, by head. -/
def refQ (X : FVec Ideal S32768x2048 .f32) (G : FVec Ideal S2048 .f32) (WQ : FVec Ideal S2x2048x2048 .bf16) : FVec Ideal S2x16384x4x512 .f32 :=
  shapeCast _ (Host.dotGeneral dot_S32768x2048_S2048x2048_S32768x2048_1_0_0_1_n_n none (mulf (mulf X (broadcastInDim S32768x2048 ![0, 1] bcast_S32768x1_S32768x2048_0_1 (Host.rsqrt (addf (Host.divf (broadcastInDim S32768x1 ![0] bcast_S32768_S32768x1_0 (Host.reduceAdd (mulf X X) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 G))) (extf .f32 (shapeCast _ (extractStridedSlice S1x2048x2048 ![0, 0, 0] WQ slices_S2x2048x2048_S1x2048x2048_0_0_0) shapeCasts_S1x2048x2048_S2048x2048) bitsLt_bf16_f32)) shapeCasts_S32768x2048_S2x16384x4x512

/-- The reference's scores. -/
def refS (Q : FVec Ideal S2x16384x4x512 .f32) (K : FVec Ideal S2x512x2048 .bf16) : FVec Ideal S2x4x16384x256 .f32 :=
  mulf (Host.dotGeneral dot_S2x16384x4x512_S2x256x4x512_S2x4x16384x256_3_3_1_1_02_02 none Q (shapeCast _ (extf .f32 (shapeCast _ (extractStridedSlice S1x512x2048 ![0, 0, 0] K slices_S2x512x2048_S1x512x2048_0_0_0) shapeCasts_S1x512x2048_S512x2048) bitsLt_bf16_f32) shapeCasts_S512x2048_S2x256x4x512)) (broadcastInDim S2x4x16384x256 ![] bcast_S_S2x4x16384x256 (constant S_ .f32 0x3D3504F3#32))

/-- The reference's exponentials. -/
def refE (S : FVec Ideal S2x4x16384x256 .f32) : FVec Ideal S2x4x16384x256 .f32 :=
  Host.exp (subf S (broadcastInDim S2x4x16384x256 ![0, 1, 2, 3] bcast_S2x4x16384x1_S2x4x16384x256_0_1_2_3 (broadcastInDim S2x4x16384x1 ![0, 1, 2] bcast_S2x4x16384_S2x4x16384x1_0_1_2 (maximumf (broadcastInDim S2x4x16384 ![] bcast_S_S2x4x16384 (constant S_ .f32 0xFF800000#32)) (Host.reduce FloatOps.maximumf S (constant S_ .f32 0xFF800000#32) reducesTo_S2x4x16384x256_S2x4x16384_d3 h_S_)))))

/-- The reference's divided exponentials. -/
def refP (E : FVec Ideal S2x4x16384x256 .f32) : FVec Ideal S2x4x16384x256 .f32 :=
  Host.divf E (broadcastInDim S2x4x16384x256 ![0, 1, 2, 3] bcast_S2x4x16384x1_S2x4x16384x256_0_1_2_3 (broadcastInDim S2x4x16384x1 ![0, 1, 2] bcast_S2x4x16384_S2x4x16384x1_0_1_2 (Host.reduceAdd E (constant S_ .f32 0x00000000#32) reducesTo_S2x4x16384x256_S2x4x16384_d3 h_S_)))

/-- The heads' rows in the reference. -/
def refO (P : FVec Ideal S2x4x16384x256 .f32) (V : FVec Ideal S2x512x2048 .bf16) : FVec Ideal S32768x2048 .f32 :=
  shapeCast _ (transpose S2x16384x4x512 [0, 3, 1, 2] (Host.dotGeneral dot_S2x256x4x512_S2x4x16384x256_S2x4x512x16384_1_3_3_2_02_01 none (shapeCast _ (extf .f32 (shapeCast _ (extractStridedSlice S1x512x2048 ![0, 0, 0] V slices_S2x512x2048_S1x512x2048_0_0_0) shapeCasts_S1x512x2048_S512x2048) bitsLt_bf16_f32) shapeCasts_S512x2048_S2x256x4x512) P) transposes_S2x4x512x16384_S2x16384x4x512_0_3_1_2) shapeCasts_S2x16384x4x512_S32768x2048

/-- The rows times the output weight in the reference. -/
def refY (O : FVec Ideal S32768x2048 .f32) (W : FVec Ideal S2x2048x2048 .bf16) : FVec Ideal S32768x2048 .f32 :=
  Host.dotGeneral dot_S32768x2048_S2048x2048_S32768x2048_1_0_0_1_n_n none O (extf .f32 (shapeCast _ (extractStridedSlice S1x2048x2048 ![0, 0, 0] W slices_S2x2048x2048_S1x2048x2048_0_0_0) shapeCasts_S1x2048x2048_S2048x2048) bitsLt_bf16_f32)

/-- The reference's result. -/
def refOut (X Y : FVec Ideal S32768x2048 .f32) (H : FVec Ideal S2048 .f32) : FVec Ideal S32768x2048 .f32 :=
  addf X (mulf (mulf Y (broadcastInDim S32768x2048 ![0, 1] bcast_S32768x1_S32768x2048_0_1 (Host.rsqrt (addf (Host.divf (broadcastInDim S32768x1 ![0] bcast_S32768_S32768x1_0 (Host.reduceAdd (mulf Y Y) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 H)))

/-- The queries, entry by entry. -/
theorem refQ_at (X : FVec Ideal S32768x2048 .f32) (G : FVec Ideal S2048 .f32) (WQ : FVec Ideal S2x2048x2048 .bf16) (n : Fin 32768) (h : Fin 4) (d : Fin 512) :
    refQ X G WQ (ix4 ⟨n.val / 16384, by omega⟩ ⟨n.val % 16384, by omega⟩ h d) = query 0 X G WQ n (col h d) := by
  pointwise [refQ]
  rfl

/-- The scores, entry by entry. -/
theorem refS_at (Q : FVec Ideal S2x16384x4x512 .f32) (K : FVec Ideal S2x512x2048 .bf16) (b : Fin 2) (t : Fin 16384) (h : Fin 4) (i : Fin 256) :
    refS Q K (ix4 b h t i) = score (fun d => Q (ix4 b t h d)) (fun i d => K (ix3 0 ⟨b.val * 256 + i.val, by omega⟩ (col h d))) i := by
  pointwise [refS]
  rfl

/-- The greatest score of a row. -/
theorem most_at (S : FVec Ideal S2x4x16384x256 .f32) (b : Fin 2) (t : Fin 16384) (h : Fin 4) :
    Host.reduce FloatOps.maximumf S (constant S_ .f32 0xFF800000#32) reducesTo_S2x4x16384x256_S2x4x16384_d3 h_S_ (ix3 b h t) = top fun i => S (ix4 b h t i) := by
  pointwise
  rfl

/-- The exponentials below given bounds, entry by entry. -/
theorem exp_at (S : FVec Ideal S2x4x16384x256 .f32) (M : FVec Ideal S2x4x16384 .f32) (b : Fin 2) (t : Fin 16384) (h : Fin 4) (i : Fin 256) :
    (Host.exp (subf S (broadcastInDim S2x4x16384x256 ![0, 1, 2, 3] bcast_S2x4x16384x1_S2x4x16384x256_0_1_2_3 (broadcastInDim S2x4x16384x1 ![0, 1, 2] bcast_S2x4x16384_S2x4x16384x1_0_1_2
      (maximumf (broadcastInDim S2x4x16384 ![] bcast_S_S2x4x16384 (constant S_ .f32 0xFF800000#32)) M)))) : FVec Ideal S2x4x16384x256 .f32) (ix4 b h t i)
    = Ideal.exp (S (ix4 b h t i) - max (Ideal.ofBits .f32 4286578688#32) (M (ix3 b h t))) := by
  pointwise

/-- The exponentials, entry by entry. -/
theorem refE_at (S : FVec Ideal S2x4x16384x256 .f32) (b : Fin 2) (t : Fin 16384) (h : Fin 4) (i : Fin 256) :
    refE S (ix4 b h t i) = Ideal.exp (S (ix4 b h t i) - max (Ideal.ofBits .f32 4286578688#32) (top fun i => S (ix4 b h t i))) := by
  exact (exp_at S _ b t h i).trans (congrArg (fun x => Ideal.exp (S (ix4 b h t i) - max (Ideal.ofBits .f32 4286578688#32) x)) (most_at S b t h))

/-- The divided exponentials, entry by entry. -/
theorem refP_at (E : FVec Ideal S2x4x16384x256 .f32) (b : Fin 2) (t : Fin 16384) (h : Fin 4) (i : Fin 256) :
    refP E (ix4 b h t i) = Ideal.div (E (ix4 b h t i)) (∑ j, E (ix4 b h t j)) := by
  pointwise [refP]

/-- The heads' rows, entry by entry. -/
theorem refO_at (P : FVec Ideal S2x4x16384x256 .f32) (V : FVec Ideal S2x512x2048 .bf16) (n : Fin 32768) (l : Fin 2048) :
    refO P V (ix2 n l) = ∑ i, V (ix3 0 (mrow n i) l) * P (ix4 ⟨n.val / 16384, by omega⟩ (head l) ⟨n.val % 16384, by omega⟩ i) := by
  pointwise [refO]
  rfl

/-- The product with the output weight, entry by entry. -/
theorem refY_at (O : FVec Ideal S32768x2048 .f32) (W : FVec Ideal S2x2048x2048 .bf16) (n : Fin 32768) (e : Fin 2048) :
    refY O W (ix2 n e) = ∑ l, O (ix2 n l) * W (ix3 0 l e) := by
  pointwise [refY]

/-- The result, entry by entry. -/
theorem refOut_at (X Y : FVec Ideal S32768x2048 .f32) (H : FVec Ideal S2048 .f32) (n : Fin 32768) (e : Fin 2048) :
    refOut X Y H (ix2 n e) = X (ix2 n e) + rms (fun e => Y (ix2 n e)) (fun k => H (ix1 k)) e := by
  pointwise [refOut]
  rfl

/-- The whole reference, entry by entry. -/
theorem ref_at (X : FVec Ideal S32768x2048 .f32) (G : FVec Ideal S2048 .f32) (WQ : FVec Ideal S2x2048x2048 .bf16) (K V : FVec Ideal S2x512x2048 .bf16)
    (W : FVec Ideal S2x2048x2048 .bf16) (H : FVec Ideal S2048 .f32) (n : Fin 32768) (e : Fin 2048) :
    refOut X (refY (refO (refP (refE (refS (refQ X G WQ) K))) V) W) H (ix2 n e)
    = X (ix2 n e) + rms (flat (fun h d => query 0 X G WQ n (col h d)) (fun i j => K (ix3 0 (mrow n i) j)) (fun i j => V (ix3 0 (mrow n i) j)) (fun k e => W (ix3 0 k e)))
      (fun k => H (ix1 k)) e := by
  refine (refOut_at X _ H n e).trans (congrArg (fun y => X (ix2 n e) + rms y (fun k => H (ix1 k)) e) (funext fun e => ?_))
  refine (refY_at _ W n e).trans (Finset.sum_congr rfl fun l _ => congrArg (· * W (ix3 0 l e)) ?_)
  refine (refO_at _ V n l).trans (Finset.sum_congr rfl fun i _ => congrArg (V (ix3 0 (mrow n i) l) * ·) ?_)
  refine (refP_at _ _ _ _ i).trans ?_
  simp only [refE_at]
  have hs : (fun i => refS (refQ X G WQ) K (ix4 ⟨n.val / 16384, by omega⟩ (head l) ⟨n.val % 16384, by omega⟩ i))
      = score (fun d => query 0 X G WQ n (col (head l) d)) fun i d => K (ix3 0 (mrow n i) (col (head l) d)) := funext fun i => by
    refine (refS_at _ K _ _ (head l) i).trans ?_
    exact congrArg (fun q => score q (fun i d => K (ix3 0 (mrow n i) (col (head l) d))) i) (funext fun d => refQ_at X G WQ n (head l) d)
  rw [hs]
  simp only [fun i => congrFun hs i]

/-- The packed weights in the reference, entry by entry. -/
theorem pack_at (A B : FVec Ideal S2x2048x5632 .f32) (l : Fin 2) (f : Fin 11) (k : Fin 2048) (j : Fin 1024) :
    concatenate S2x11x2048x1024 3 [⟨S2x11x2048x512, (transpose S2x11x2048x512 [0, 2, 1, 3] (shapeCast _ (truncf .bf16 A bitsLt_bf16_f32) shapeCasts_S2x2048x5632_S2x2048x11x512) transposes_S2x2048x11x512_S2x11x2048x512_0_2_1_3)⟩, ⟨S2x11x2048x512, (transpose S2x11x2048x512 [0, 2, 1, 3] (shapeCast _ (truncf .bf16 B bitsLt_bf16_f32) shapeCasts_S2x2048x5632_S2x2048x11x512) transposes_S2x2048x11x512_S2x11x2048x512_0_2_1_3)⟩] concatenates_S2x11x2048x512_S2x11x2048x512_S2x11x2048x1024_d3 (ix4 l f k j)
    = pack A B l f k j := by
  pointwise
  rfl

/-- The input weight's first columns in the reference, entry by entry. -/
theorem main_at (A : FVec Ideal S1x2048x6160 .f32) (l : Fin 1) (k : Fin 2048) (j : Fin 6144) :
    (extractStridedSlice S1x2048x6144 ![0, 0, 0] (truncf .bf16 A bitsLt_bf16_f32) slices_S1x2048x6160_S1x2048x6144_0_0_0) (ix3 l k j) = first A l k j := by
  obtain rfl : l = 0 := Subsingleton.elim _ _
  pointwise
  rfl

/-- The input weight's last columns in the reference, entry by entry. -/
theorem tail_at (A : FVec Ideal S1x2048x6160 .f32) (l : Fin 1) (k : Fin 2048) (j : Fin 128) :
    (pad S1x2048x128 ![0, 0, 0] ![0, 0, 112] ![0, 0, 0] (extractStridedSlice S1x2048x16 ![0, 0, 6144] (truncf .bf16 A bitsLt_bf16_f32) slices_S1x2048x6160_S1x2048x16_0_0_6144) (sitofp .bf16 (constantI S_ 32 0#32)) pads_S1x2048x16_S1x2048x128_000_000_01120 h_S_) (ix3 l k j)
    = tail A l k j := by
  obtain rfl : l = 0 := Subsingleton.elim _ _
  have z : FloatOps.sitofp (F := Ideal) .bf16 0#32 = 0 := by
    show (((0#32 : BitVec 32).toInt : ℝ) : EReal) = 0
    simp
  pointwise
  rw [z]
  rfl

variable (m : (ℓ : Loc nD τ sig) → Buf (Elt Ideal) ℓ) (ρ : Dev nD → PrngReg)

/-- What the reference returns. -/
theorem res_eq (c : Dev nD) : Value.res_main_v60 m c
    = refOut (m ((c.tc : Thread nD τ).loc main_arg0)) (refY (refO (refP (refE (refS (refQ (m ((c.tc : Thread nD τ).loc main_arg0)) (m ((c.tc : Thread nD τ).loc main_arg1))
      (m ((c.tc : Thread nD τ).loc main_arg2))) (m ((c.tc : Thread nD τ).loc main_arg3))))) (m ((c.tc : Thread nD τ).loc main_arg4))) (m ((c.tc : Thread nD τ).loc main_arg5)))
      (m ((c.tc : Thread nD τ).loc main_arg6)) := by
  unfold Value.res_main_v60 refOut refY refO refP refE refS refQ
  rfl

end Cert.Reference7Ideal.Cross0

end
-- ==== Proof.Cross0.Pair.lean ====
/- Layer 0's cross attention and the weights prepared beside it: the kernel and the reference end with the same arrays. -/
module

public import proofs.«01_k».proof.Defs
public import proofs.«01_k».proof.Proof.Cross0.Finite
public import proofs.«01_k».proof.Proof.Cross0.Ref
public import proofs.«01_k».proof.Proof.Cross.Pair

@[expose] public section

set_option maxRecDepth 16384

noncomputable section

open Idealize.ShloMosaic Idealize.SL.Sem

namespace Cert.Reference7Ideal.Cross0

open Cert.Reference7Ideal Cert.Reference7Ideal.Gen Idealize.ShloMosaic.TcCoe Cert.Row Cert.Cross

attribute [local instance] Gen.facts
open Facts

variable (m : (ℓ : Loc nD τ sig) → Buf (Elt Ideal) ℓ) (ρ : Dev nD → PrngReg)

/-- The reference terminates, keeps its arguments, and ends with every semaphore at zero: it has none. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0 :=
  (θ_run defs _ _).mono (fun r h => ⟨fun c => (h c).2.2.2.2.2.2, funext fun x => by obtain ⟨_, (x | x)⟩ := x <;> exact x.elim0⟩) (Value.run m ρ)

/-- What the reference returns, from arguments named by equations. -/
theorem res_is (c : Dev nD) (X : FVec Ideal S32768x2048 .f32) (G : FVec Ideal S2048 .f32) (WQ : FVec Ideal S2x2048x2048 .bf16) (K V : FVec Ideal S2x512x2048 .bf16)
    (W : FVec Ideal S2x2048x2048 .bf16) (H : FVec Ideal S2048 .f32)
    (hX : m ((c.tc : Thread nD τ).loc main_arg0) = X) (hG : m ((c.tc : Thread nD τ).loc main_arg1) = G) (hWQ : m ((c.tc : Thread nD τ).loc main_arg2) = WQ)
    (hK : m ((c.tc : Thread nD τ).loc main_arg3) = K) (hV : m ((c.tc : Thread nD τ).loc main_arg4) = V) (hW : m ((c.tc : Thread nD τ).loc main_arg5) = W)
    (hH : m ((c.tc : Thread nD τ).loc main_arg6) = H)
    (rG : ∀ k, IsR (G (ix1 k))) (rQ : ∀ k j, IsR (WQ (ix3 0 k j))) (rK : ∀ l j, IsR (K (ix3 0 l j))) :
    Value.res_main_v60 m c = fun i => result 0 X G WQ K V W H (i 0) (i 1) := by
  rw [res_eq, hX, hG, hWQ, hK, hV, hW, hH]
  funext i
  obtain ⟨n, e, rfl⟩ : ∃ (n : Fin 32768) (e : Fin 2048), i = ix2 n e := ⟨i 0, i 1, by funext a; fin_cases a <;> rfl⟩
  exact (ref_at X G WQ K V W H n e).trans (ref_eq 0 X G WQ K V W H rG rQ rK n e)

/-- The packed weights the reference returns, from arguments named by equations. -/
theorem pack_is (c : Dev nD) (A B : FVec Ideal S2x2048x5632 .f32) (hA : m ((c.tc : Thread nD τ).loc main_arg7) = A) (hB : m ((c.tc : Thread nD τ).loc main_arg8) = B) :
    (concatenate S2x11x2048x1024 3 [⟨S2x11x2048x512, (transpose S2x11x2048x512 [0, 2, 1, 3] (shapeCast _ (truncf .bf16 (m ((c.tc : Thread nD τ).loc main_arg7)) bitsLt_bf16_f32) shapeCasts_S2x2048x5632_S2x2048x11x512) transposes_S2x2048x11x512_S2x11x2048x512_0_2_1_3)⟩, ⟨S2x11x2048x512, (transpose S2x11x2048x512 [0, 2, 1, 3] (shapeCast _ (truncf .bf16 (m ((c.tc : Thread nD τ).loc main_arg8)) bitsLt_bf16_f32) shapeCasts_S2x2048x5632_S2x2048x11x512) transposes_S2x2048x11x512_S2x11x2048x512_0_2_1_3)⟩] concatenates_S2x11x2048x512_S2x11x2048x512_S2x11x2048x1024_d3 : FVec Ideal S2x11x2048x1024 .bf16)
    = fun i => pack A B (i 0) (i 1) (i 2) (i 3) := by
  rw [hA, hB]
  funext i
  obtain ⟨l, f, k, j, rfl⟩ : ∃ (l : Fin 2) (f : Fin 11) (k : Fin 2048) (j : Fin 1024), i = ix4 l f k j := ⟨i 0, i 1, i 2, i 3, by funext a; fin_cases a <;> rfl⟩
  exact pack_at A B l f k j

/-- The input weight's first columns the reference returns, from an argument named by an equation. -/
theorem main_is (c : Dev nD) (A : FVec Ideal S1x2048x6160 .f32) (hA : m ((c.tc : Thread nD τ).loc main_arg10) = A) :
    (extractStridedSlice S1x2048x6144 ![0, 0, 0] (truncf .bf16 (m ((c.tc : Thread nD τ).loc main_arg10)) bitsLt_bf16_f32) slices_S1x2048x6160_S1x2048x6144_0_0_0 : FVec Ideal S1x2048x6144 .bf16)
    = fun i => first A (i 0) (i 1) (i 2) := by
  rw [hA]
  funext i
  obtain ⟨l, k, j, rfl⟩ : ∃ (l : Fin 1) (k : Fin 2048) (j : Fin 6144), i = ix3 l k j := ⟨i 0, i 1, i 2, by funext a; fin_cases a <;> rfl⟩
  exact main_at A l k j

/-- The input weight's last columns the reference returns, from an argument named by an equation. -/
theorem tail_is (c : Dev nD) (A : FVec Ideal S1x2048x6160 .f32) (hA : m ((c.tc : Thread nD τ).loc main_arg10) = A) :
    (pad S1x2048x128 ![0, 0, 0] ![0, 0, 112] ![0, 0, 0] (extractStridedSlice S1x2048x16 ![0, 0, 6144] (truncf .bf16 (m ((c.tc : Thread nD τ).loc main_arg10)) bitsLt_bf16_f32) slices_S1x2048x6160_S1x2048x16_0_0_6144) (sitofp .bf16 (constantI S_ 32 0#32)) pads_S1x2048x16_S1x2048x128_000_000_01120 h_S_ : FVec Ideal S1x2048x128 .bf16)
    = fun i => tail A (i 0) (i 1) (i 2) := by
  rw [hA]
  funext i
  obtain ⟨l, k, j, rfl⟩ : ∃ (l : Fin 1) (k : Fin 2048) (j : Fin 128), i = ix3 l k j := ⟨i 0, i 1, i 2, by funext a; fin_cases a <;> rfl⟩
  exact tail_at A l k j

end Cert.Reference7Ideal.Cross0

namespace Cert.Cross0

attribute [local instance] Cert.Kernel7Ideal.Gen.facts Cert.Reference7Ideal.Gen.facts Cert.Pre_finite7.facts

/-- From real weights of the scores the kernel and the reference end with equal results, and keep their arguments. -/
theorem agree : Cert.algebraic_Kernel7Ideal_Reference7Ideal_pre_finite7 := by
  intro m g m' g' hpre harg
  refine ⟨_, _, _, _, _, _, Cert.Kernel7Ideal.Value.run_blocks m g, ?_⟩
  refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
    (Cert.Reference7Ideal.Value.run m' g')
  all_goals obtain ⟨h0, h1, h2, h3, h4, h5, h6, h7, h8, h9, h10, h11⟩ := harg c
  · obtain ⟨rG, rQ, rK⟩ := Cert.Pre_finite7.reals (hpre c)
    refine Eq.trans ?_ (Cert.Kernel7Ideal.Cross0.final m c).symm
    exact Cert.Reference7Ideal.Cross0.res_is m' c _ _ _ _ _ _ _ h0 h1 h2 h3 h4 h5 h6 rG rQ rK
  · exact (Cert.Reference7Ideal.Cross0.pack_is m' c _ _ h7 h8).trans (Cert.Kernel7Ideal.Cross0.pack_final m c).symm
  · exact Eq.trans (funext fun i => congrFun h9 i) (Cert.Kernel7Ideal.Cross0.d_final m c).symm
  · exact (Cert.Reference7Ideal.Cross0.main_is m' c _ h10).trans (Cert.Kernel7Ideal.Cross0.i_final m c).symm
  · exact (Cert.Reference7Ideal.Cross0.tail_is m' c _ h10).trans (Cert.Kernel7Ideal.Cross0.tail_final m c).symm
  · exact Eq.trans (funext fun i => congrFun h11 i) (Cert.Kernel7Ideal.Cross0.u_final m c).symm

end Cert.Cross0

end
-- ==== Proof.Ffn.Model.lean ====
/- The feed-forward part of a layer as functions of its arrays: the hidden units, the result. -/
module

public import proofs.«01_k».proof.Proof.Row

@[expose] public section

noncomputable section

namespace Cert.Ffn

open Idealize.ShloMosaic Cert.Row

/-- One hidden unit: the gate's product with its logistic, times the other product. -/
def hid (h wg wu : Fin 2048 → EReal) : EReal :=
  (∑ k, h k * wg k) * Ideal.logistic (∑ k, h k * wg k) * ∑ k, h k * wu k

/-- What the hidden units of one block of 512 add to a row. -/
def part (h : Fin 2048 → EReal) (w : Fin 2048 → Fin 1024 → EReal) (d : Fin 512 → Fin 2048 → EReal) (e : Fin 2048) : EReal :=
  ∑ x : Fin 512, hid h (fun k => w k ⟨x.val, by omega⟩) (fun k => w k ⟨512 + x.val, by omega⟩) * d x e

/-- The weights of the gates and the other products, packed by blocks of hidden units. -/
abbrev WIdx : Shape := ⟨4, ![2, 11, 2048, 1024]⟩
/-- The weights back from the hidden units. -/
abbrev DIdx : Shape := ⟨3, ![2, 5632, 2048]⟩
/-- The rows. -/
abbrev XIdx : Shape := ⟨2, ![32768, 2048]⟩

variable (X : XIdx.Idx → EReal) (G : (⟨1, ![2048]⟩ : Shape).Idx → EReal) (W : WIdx.Idx → EReal) (D : DIdx.Idx → EReal) (P : (⟨1, ![2048]⟩ : Shape).Idx → EReal)

/-- The normed row `n`. -/
def normed (n : Fin 32768) : Fin 2048 → EReal := rms (fun k => X (ix2 n k)) fun k => G (ix1 k)

/-- What block `f` of the hidden units adds to the row `h`. -/
def block (h : Fin 2048 → EReal) (f : Fin 11) : Fin 2048 → EReal :=
  part h (fun k l => W (ix4 0 f k l)) fun x e => D (ix3 0 ⟨f.val * 512 + x.val, by omega⟩ e)

/-- The result: the row plus the norm of what all hidden units add. -/
def result (n : Fin 32768) (e : Fin 2048) : EReal :=
  X (ix2 n e) + rms (fun e => ∑ f : Fin 11, block W D (normed X G n) f e) (fun k => P (ix1 k)) e

end Cert.Ffn

end
-- ==== Proof.Ffn.Point.lean ====
/- One grid point of the feed-forward kernel, over the reals: what it leaves in the result's block and in the scratch. -/
module

public import proofs.«01_k».proof.Proof.Gen.Kernel2Ideal.Value
public import proofs.«01_k».proof.Proof.Ffn.Model
public import Idealize.ShloMosaic.Lib.Pipeline.ReadBack

@[expose] public section

set_option maxRecDepth 16384

noncomputable section

namespace Cert.Kernel2Ideal.Ffn

open Cert.Kernel2Ideal Cert.Kernel2Ideal.Gen Idealize.ShloMosaic Idealize.ShloMosaic.TcCoe Idealize.SL.Sem Cert.Row Cert.Ffn

section payloads

variable (x : Vec Ideal S512x2048 .f32) (g : Vec Ideal S1x2048 .f32) (h : Vec Ideal S512x2048 .bf16) (w : Vec Ideal S1x1x2048x1024 .bf16)
  (d : Vec Ideal S1x512x2048 .bf16) (o : Vec Ideal S512x2048 .f32) (r : Fin 512) (e : Fin 2048)

/-- The normed rows. -/
theorem norm_at : k0_pay6 x g (ix2 r e) = rms (fun k => x (ix2 r k)) (fun k => g (ix2 0 k)) e := by
  pointwise [k0_pay6]; rfl

/-- The normed rows as the upper half stores them. -/
theorem keep_at : k0_pay7 x g (ix2 r e) = rms (fun k => x (ix2 r k)) (fun k => g (ix2 0 k)) e := by
  refine Eq.trans ?_ (norm_at x g r e); pointwise [k0_pay7]

/-- The normed rows as the lower half stores them. -/
theorem keep_at' : k0_pay2 x g (ix2 r e) = rms (fun k => x (ix2 r k)) (fun k => g (ix2 0 k)) e := keep_at x g r e

/-- What a block of hidden units adds. -/
theorem part_at : k0_pay10 h w d (ix2 r e) = part (fun k => h (ix2 r k)) (fun k l => w (ix4 0 0 k l)) (fun k l => d (ix3 0 k l)) e := by
  pointwise [k0_pay10]; rfl

/-- The first block's part, from the rows. -/
theorem start_at : k0_pay8 x g w d (ix2 r e)
    = part (rms (fun k => x (ix2 r k)) fun k => g (ix2 0 k)) (fun k l => w (ix4 0 0 k l)) (fun k l => d (ix3 0 k l)) e := by
  refine Eq.trans (b := k0_pay10 (k0_pay6 x g) w d (ix2 r e)) rfl ((part_at _ w d r e).trans ?_)
  exact congrArg (fun h => part h _ _ e) (funext fun k => norm_at x g r k)

/-- The first block's part, from the rows of the lower half. -/
theorem start_at' : k0_pay3 x g w d (ix2 r e)
    = part (rms (fun k => x (ix2 r k)) fun k => g (ix2 0 k)) (fun k l => w (ix4 0 0 k l)) (fun k l => d (ix3 0 k l)) e := start_at x g w d r e

/-- A later block's part, added to what is there. -/
theorem add_at : k0_pay9 h w d o (ix2 r e)
    = o (ix2 r e) + part (fun k => h (ix2 r k)) (fun k l => w (ix4 0 0 k l)) (fun k l => d (ix3 0 k l)) e := by
  rw [← part_at]; pointwise [k0_pay9]; pointwise [k0_pay10]

/-- The lower half's addition. -/
theorem add_at' : k0_pay4 (k0_pay10 h w d) o (ix2 r e)
    = o (ix2 r e) + part (fun k => h (ix2 r k)) (fun k l => w (ix4 0 0 k l)) (fun k l => d (ix3 0 k l)) e := add_at h w d o r e

/-- The last block: the rows plus the norm of the whole sum. -/
theorem last_at : k0_pay11 h w d o x g (ix2 r e)
    = x (ix2 r e) + rms (fun e => o (ix2 r e) + part (fun k => h (ix2 r k)) (fun k l => w (ix4 0 0 k l)) (fun k l => d (ix3 0 k l)) e) (fun k => g (ix2 0 k)) e := by
  refine Eq.trans (b := x (ix2 r e) + k0_pay6 (k0_pay9 h w d o) g (ix2 r e)) ?_
    (congrArg (x (ix2 r e) + ·) ((norm_at _ g r e).trans (congrArg (fun y => rms y _ e) (funext fun k => add_at h w d o r k))))
  pointwise [k0_pay11, k0_pay6, k0_pay9]

/-- The last block in the lower half. -/
theorem last_at' : k0_pay5 h w d o x g (ix2 r e)
    = x (ix2 r e) + rms (fun e => o (ix2 r e) + part (fun k => h (ix2 r k)) (fun k l => w (ix4 0 0 k l)) (fun k l => d (ix3 0 k l)) e) (fun k => g (ix2 0 k)) e :=
  last_at x g h w d o r e

end payloads

variable (m : (ℓ : Loc nD τ sig) → Buf (Elt Ideal) ℓ) (c : Dev nD) (t : Fin cfg0.N)

/-- Row `r` of the point's input block. -/
abbrev xrow (r : Fin 1024) : Fin 2048 → EReal := fun k => (show FVec Ideal S1024x2048 .f32 from iblk m c 0 t) (ix2 r k)
/-- The first norm's weights. -/
abbrev gpre : Fin 2048 → EReal := fun k => (show FVec Ideal S1x2048 .f32 from iblk m c 1 t) (ix2 0 k)
/-- The second norm's weights. -/
abbrev gpost : Fin 2048 → EReal := fun k => (show FVec Ideal S1x2048 .f32 from iblk m c 4 t) (ix2 0 k)
/-- What the point's block of hidden units adds to the row `h`. -/
abbrev adds (h : Fin 2048 → EReal) : Fin 2048 → EReal :=
  part h (fun k l => (show FVec Ideal S1x1x2048x1024 .bf16 from iblk m c 2 t) (ix4 0 0 k l)) fun k l => (show FVec Ideal S1x512x2048 .bf16 from iblk m c 3 t) (ix3 0 k l)

/-- A row of a half of a block. -/
theorem half_at {φ : EltTy} (x : Vec Ideal S1024x2048 φ) (o : ℕ) (inb : ∀ a, (![o, 0] : Fin 2 → ℕ) a + (![512, 2048] : Fin 2 → ℕ) a ≤ S1024x2048.size a)
    (a : Fin 512) (k : Fin 2048) (r : Fin 1024) (h : r.val = o + a.val) :
    View.ld x (Rect.unit (s := S1024x2048) ![o, 0] ![512, 2048] inb) (ix2 a k) = x (ix2 r k) := by
  rw [View.ld_unit]
  refine (extractStridedSlice_apply _ x _ _ (ix2 r k) fun q => ?_)
  match q with
  | ⟨0, _⟩ => exact h
  | ⟨1, _⟩ => exact (Nat.zero_add _).symm

/-- The first point of a run leaves the normed rows in the scratch. -/
theorem first_scratch (h0 : t.val % 11 = 0) (r : Fin 1024) (e : Fin 2048) :
    (outsAt0 m c t.val t.isLt).2 (ix2 r e) = rms (xrow m c t r) (gpre m c t) e := by
  rw [outsAt0_A m c t h0 (by omega) (by omega)]
  frame_out
  canon_tiles x h
  all_goals
    idx_vars x
    obtain rfl : e = x1 := Fin.ext h1
    first | refine (keep_at' _ _ _ _).trans ?_ | refine (keep_at _ _ _ _).trans ?_
    exact congrArg (fun h => rms h _ e) (funext fun k => half_at _ _ _ _ _ r (by omega))

/-- The first point of a run leaves its own part in the result's block. -/
theorem first_out (h0 : t.val % 11 = 0) (r : Fin 1024) (e : Fin 2048) :
    (outsAt0 m c t.val t.isLt).1 (ix2 r e) = adds m c t (rms (xrow m c t r) (gpre m c t)) e := by
  rw [outsAt0_A m c t h0 (by omega) (by omega)]
  frame_out
  canon_tiles x h
  all_goals
    idx_vars x
    obtain rfl : e = x1 := Fin.ext h1
    first | refine (start_at' _ _ _ _ _ _).trans ?_ | refine (start_at _ _ _ _ _ _).trans ?_
    exact congrArg (fun h => part (rms h _) _ _ e) (funext fun k => half_at _ _ _ _ _ r (by omega))

/-- A row of a half of the scratch. -/
theorem held_at (x : Vec Ideal S1024x2048 .bf16) (o : ℕ) (inb : ∀ a, (![o, 0] : Fin 2 → ℕ) a + (![512, 2048] : Fin 2 → ℕ) a ≤ S1024x2048.size a)
    (a : Fin 512) (k : Fin 2048) (r : Fin 1024) (h : r.val = o + a.val) :
    View.ld (View.read (Elt Ideal) (View.whole cc0_scratch0) ((Memref.isWhole_whole cc0_scratch0).unread x)) (Rect.unit (s := S1024x2048) ![o, 0] ![512, 2048] inb) (ix2 a k) = x (ix2 r k) :=
  (half_at _ o inb a k r h).trans (congrFun (Memref.IsWhole.read_unread _ x) _)

/-- What the point before left in the result's block. -/
abbrev before : FVec Ideal S1024x2048 .f32 := (outsAt0 m c (t.val - 1) (Nat.lt_of_le_of_lt (Nat.sub_le _ _) t.isLt)).1
/-- What the point before left in the scratch. -/
abbrev kept : FVec Ideal S1024x2048 .bf16 := (outsAt0 m c (t.val - 1) (Nat.lt_of_le_of_lt (Nat.sub_le _ _) t.isLt)).2

/-- The later points keep the scratch. -/
theorem later_scratch (h1 : 1 ≤ t.val % 11 ∧ t.val % 11 ≤ 9) : (outsAt0 m c t.val t.isLt).2 = kept m c t := by
  rw [outsAt0_B m c t (by omega) h1 (by omega)]
  unfold sout0_B_0
  rfl

/-- The later points add their part. -/
theorem later_out (h1 : 1 ≤ t.val % 11 ∧ t.val % 11 ≤ 9) (r : Fin 1024) (e : Fin 2048) :
    (outsAt0 m c t.val t.isLt).1 (ix2 r e) = before m c t (ix2 r e) + adds m c t (fun k => kept m c t (ix2 r k)) e := by
  rw [outsAt0_B m c t (by omega) h1 (by omega)]
  frame_out
  canon_tiles x h
  all_goals
    idx_vars x
    obtain rfl : e = x1 := Fin.ext ‹_›
    first | refine (add_at' _ _ _ _ _ _).trans ?_ | refine (add_at _ _ _ _ _ _).trans ?_
    exact congrArg₂ (fun a h => a + part h _ _ e) (half_at _ _ _ _ _ r (by omega)) (funext fun k => held_at _ _ _ _ _ r (by omega))

/-- The last point writes the rows plus the norm of the whole sum. -/
theorem last_out (h2 : t.val % 11 = 10) (r : Fin 1024) (e : Fin 2048) :
    (outsAt0 m c t.val t.isLt).1 (ix2 r e)
      = xrow m c t r e + rms (fun e => before m c t (ix2 r e) + adds m c t (fun k => kept m c t (ix2 r k)) e) (gpost m c t) e := by
  rw [outsAt0_C m c t (by omega) (by omega) h2]
  frame_out
  canon_tiles x h
  all_goals
    idx_vars x
    obtain rfl : e = x1 := Fin.ext ‹_›
    first | refine (last_at' _ _ _ _ _ _ _ _).trans ?_ | refine (last_at _ _ _ _ _ _ _ _).trans ?_
    refine congrArg₂ (fun a y => a + rms y _ e) (half_at _ _ _ _ _ r (by omega)) (funext fun e => ?_)
    exact congrArg₂ (fun a h => a + part h _ _ e) (half_at _ _ _ _ _ r (by omega)) (funext fun k => held_at _ _ _ _ _ r (by omega))

end Cert.Kernel2Ideal.Ffn

end
-- ==== Proof.Ffn.Final.lean ====
/- The feed-forward kernel over the reals: the blocks as parts of the arguments, the runs of eleven points, the result's array. -/
module

public import proofs.«01_k».proof.Proof.Ffn.Point

@[expose] public section

set_option maxRecDepth 16384

noncomputable section

namespace Cert.Kernel2Ideal.Ffn

open Cert.Kernel2Ideal Cert.Kernel2Ideal.Gen Idealize.ShloMosaic Idealize.ShloMosaic.TcCoe Idealize.SL.Sem Cert.Row Cert.Ffn
open Idealize.ShloMosaic.Pipeline (Dat)

variable (m : (ℓ : Loc nD τ sig) → Buf (Elt Ideal) ℓ) (c : Dev nD)

/-- The rows. -/
abbrev aX : FVec Ideal S32768x2048 .f32 := m ((c : Thread nD τ).loc main_arg0)
/-- The first norm's weights. -/
abbrev aG : FVec Ideal S2048 .f32 := m ((c : Thread nD τ).loc main_arg1)
/-- The packed weights of the hidden units. -/
abbrev aW : FVec Ideal S2x11x2048x1024 .bf16 := m ((c : Thread nD τ).loc main_arg2)
/-- The weights back. -/
abbrev aD : FVec Ideal S2x5632x2048 .bf16 := m ((c : Thread nD τ).loc main_arg3)
/-- The second norm's weights. -/
abbrev aP : FVec Ideal S2048 .f32 := m ((c : Thread nD τ).loc main_arg4)

/-- The place of every block of a grid point. -/
theorem idx : ∀ t : Fin cfg0.N, win0_0.index t = ![t.val / 11, 0] ∧ win0_1.index t = ![0, 0] ∧ win0_2.index t = ![0, t.val % 11, 0, 0] ∧
    win0_3.index t = ![0, t.val % 11, 0] ∧ win0_4.index t = ![0, 0] ∧ win0_5.index t = ![t.val / 11, 0] :=
  (by decide +kernel : ∀ t : Fin grid0.N, _)

/-- The first norm's weights as the kernel receives them. -/
theorem pre_eq (k : Fin 2048) : (show FVec Ideal S1x2048 .f32 from V m c main_v0) (ix2 0 k) = aG m c (ix1 k) := by
  show StableHlo.after _ _ _ _ = _
  simp only [List.flatten_cons, List.flatten_nil, List.append_nil, List.cons_append, List.nil_append, hostOps0]
  after_results
  pointwise

/-- The second norm's weights as the kernel receives them. -/
theorem post_eq (k : Fin 2048) : (show FVec Ideal S1x2048 .f32 from V m c main_v1) (ix2 0 k) = aP m c (ix1 k) := by
  show StableHlo.after _ _ _ _ = _
  simp only [List.flatten_cons, List.flatten_nil, List.append_nil, List.cons_append, List.nil_append, hostOps0]
  after_results
  pointwise

section reads
variable (t : Fin cfg0.N)

/-- The rows of a point's input block. -/
theorem xrow_eq (r : Fin 1024) (n : Fin 32768) (h : n.val = t.val / 11 * 1024 + r.val) : xrow m c t r = fun k => aX m c (ix2 n k) := by
  funext k
  show (show FVec Ideal S1024x2048 .f32 from iblk m c 0 t) (ix2 r k) = (m ((c : Thread nD τ).loc main_arg0)) (ix2 n k)
  blk_ext [iblk, V, idx t]

/-- The first norm's weights at a point. -/
theorem gpre_eq : gpre m c t = fun k => aG m c (ix1 k) := by
  funext k
  refine Eq.trans ?_ (pre_eq m c k)
  show (show FVec Ideal S1x2048 .f32 from iblk m c 1 t) (ix2 0 k) = (show FVec Ideal S1x2048 .f32 from V m c main_v0) (ix2 0 k)
  blk_ext [iblk, idx t]

/-- The second norm's weights at a point. -/
theorem gpost_eq : gpost m c t = fun k => aP m c (ix1 k) := by
  funext k
  refine Eq.trans ?_ (post_eq m c k)
  show (show FVec Ideal S1x2048 .f32 from iblk m c 4 t) (ix2 0 k) = (show FVec Ideal S1x2048 .f32 from V m c main_v1) (ix2 0 k)
  blk_ext [iblk, idx t]

/-- The packed weights at a point. -/
theorem w_eq (f : Fin 11) (h : t.val % 11 = f.val) (k : Fin 2048) (l : Fin 1024) :
    (show FVec Ideal S1x1x2048x1024 .bf16 from iblk m c 2 t) (ix4 0 0 k l) = (m ((c : Thread nD τ).loc main_arg2)) (ix4 0 f k l) := by
  blk_ext [iblk, V, idx t]

/-- The weights back at a point. -/
theorem d_eq (f : Fin 11) (h : t.val % 11 = f.val) (x : Fin 512) (e : Fin 2048) :
    (show FVec Ideal S1x512x2048 .bf16 from iblk m c 3 t) (ix3 0 x e) = (m ((c : Thread nD τ).loc main_arg3)) (ix3 0 ⟨f.val * 512 + x.val, by omega⟩ e) := by
  blk_ext [iblk, V, idx t]

/-- What a point adds is the block of hidden units of its number in the run. -/
theorem adds_eq (f : Fin 11) (h : t.val % 11 = f.val) (y : Fin 2048 → EReal) : adds m c t y = block (aW m c) (aD m c) y f := by
  unfold adds block
  simp only [w_eq m c t f h, d_eq m c t f h]

end reads

/-- In a run's first ten points the scratch holds the normed rows, and the result's block the sum of the parts so far. -/
theorem run_is (i : ℕ) (r : Fin 1024) (n : Fin 32768) (h : n.val = i * 1024 + r.val) : ∀ (k : ℕ) (hk : k ≤ 9) (hN : 11 * i + k < cfg0.N) (e : Fin 2048),
    (outsAt0 m c (11 * i + k) hN).2 (ix2 r e) = normed (aX m c) (aG m c) n e ∧
    (outsAt0 m c (11 * i + k) hN).1 (ix2 r e) = ∑ f ∈ Finset.range (k + 1), block (aW m c) (aD m c) (normed (aX m c) (aG m c) n) (Fin.ofNat 11 f) e
  | 0, _, hN, e => by
    have h0 : (⟨11 * i + 0, hN⟩ : Fin cfg0.N).val % 11 = 0 := by show (11 * i + 0) % 11 = 0; omega
    have hx := xrow_eq m c ⟨11 * i + 0, hN⟩ r n (by show _ = (11 * i + 0) / 11 * 1024 + _; omega)
    refine ⟨(first_scratch m c ⟨11 * i + 0, hN⟩ h0 r e).trans ?_, (first_out m c ⟨11 * i + 0, hN⟩ h0 r e).trans ?_⟩
    · rw [hx, gpre_eq]; rfl
    · rw [hx, gpre_eq, adds_eq m c _ 0 h0, Finset.sum_range_one]; rfl
  | k + 1, hk, hN, e => by
    have ih := run_is i r n h k (by omega) (by omega)
    have h1 : 1 ≤ (⟨11 * i + (k + 1), hN⟩ : Fin cfg0.N).val % 11 ∧ (⟨11 * i + (k + 1), hN⟩ : Fin cfg0.N).val % 11 ≤ 9 := by
      show 1 ≤ (11 * i + (k + 1)) % 11 ∧ (11 * i + (k + 1)) % 11 ≤ 9; omega
    have hs : kept m c ⟨11 * i + (k + 1), hN⟩ = (outsAt0 m c (11 * i + k) (by omega)).2 := rfl
    have ho : before m c ⟨11 * i + (k + 1), hN⟩ = (outsAt0 m c (11 * i + k) (by omega)).1 := rfl
    refine ⟨(congrFun ((later_scratch m c ⟨11 * i + (k + 1), hN⟩ h1).trans hs) _).trans (ih e).1, (later_out m c ⟨11 * i + (k + 1), hN⟩ h1 r e).trans ?_⟩
    rw [ho, hs, (ih e).2, funext fun e => (ih e).1, adds_eq m c _ (Fin.ofNat 11 (k + 1)) (by show (11 * i + (k + 1)) % 11 = (k + 1) % 11; omega),
      ← Finset.sum_range_succ]

/-- The sum of a run's first ten parts and its last one is the sum of all. -/
theorem sum_blocks (F : Fin 11 → EReal) : ∑ f ∈ Finset.range (9 + 1), F (Fin.ofNat 11 f) + F 10 = ∑ f, F f := by
  rw [Fin.sum_univ_castSucc, Finset.sum_range]
  exact congrArg₂ (· + ·) (Finset.sum_congr rfl fun f _ => congrArg F (Fin.ext (Nat.mod_eq_of_lt (by omega)))) rfl

/-- The last point of a run writes its rows of the result. -/
theorem block_is (t : Fin cfg0.N) (h2 : t.val % 11 = 10) (r : Fin 1024) (n : Fin 32768) (h : n.val = t.val / 11 * 1024 + r.val) (e : Fin 2048) :
    (outsAt0 m c t.val t.isLt).1 (ix2 r e) = result (aX m c) (aG m c) (aW m c) (aD m c) (aP m c) n e := by
  have hN : 11 * (t.val / 11) + 9 < cfg0.N := by have := t.isLt; omega
  have hv : t.val - 1 = 11 * (t.val / 11) + 9 := by omega
  have ih := run_is m c (t.val / 11) r n h 9 le_rfl hN
  have hs : kept m c t = (outsAt0 m c (11 * (t.val / 11) + 9) hN).2 := by unfold kept; congr 2
  have ho : before m c t = (outsAt0 m c (11 * (t.val / 11) + 9) hN).1 := by unfold before; congr 2
  rw [last_out m c t h2 r e, hs, ho, xrow_eq m c t r n h, gpost_eq, adds_eq m c t 10 h2, funext fun e => (ih e).1]
  unfold result
  refine congrArg (fun y => aX m c (ix2 n e) + rms y _ e) (funext fun e => ?_)
  rw [(ih e).2]
  exact sum_blocks fun f => block (aW m c) (aD m c) (normed (aX m c) (aG m c) n) f e

/-- The result array once every block is written. -/
theorem final : (dats m 0 c).arrAt 5 cfg0.N = fun i => result (aX m c) (aG m c) (aW m c) (aD m c) (aP m c) (i 0) (i 1) := by
  refine (dats m 0 c).arrAt_eq_of_covers 5 _ (by decide +kernel) fun t hf y => ?_
  rw [after0_5]
  have e : y = ix2 (y 0) (y 1) := by funext a; fin_cases a <;> rfl
  have h0 : (((cfg0.win 5).blk t).view.emb y 0).val = t.val / 11 * 1024 + (y 0).val := by
    show win0_5.index t 0 * 1024 + 1 * (y 0).val = _
    rw [(idx t).2.2.2.2.2]
    show (t.val / 11) * 1024 + 1 * (y 0).val = _
    omega
  have h1 : (((cfg0.win 5).blk t).view.emb y 1) = y 1 := by
    refine Fin.ext ?_
    show win0_5.index t 1 * 2048 + 1 * (y 1).val = _
    rw [(idx t).2.2.2.2.2]
    show 0 * 2048 + 1 * (y 1).val = _
    omega
  rw [h1]
  refine Eq.trans ?_ (block_is m c t ((flush0_5 t).mp hf) (y 0) _ h0 (y 1))
  exact congrArg (outsAt0 m c t.val t.isLt).1 e

end Cert.Kernel2Ideal.Ffn

end
-- ==== Proof.Ffn.Ref.lean ====
/- The feed-forward reference over the reals: its result is the array of `Ffn.result`. -/
module

public import proofs.«01_k».proof.Proof.Gen.Reference2Ideal.Run
public import proofs.«01_k».proof.Proof.Ffn.Model

@[expose] public section

set_option maxRecDepth 16384

noncomputable section

namespace Cert.Reference2Ideal.Ffn

open Cert.Reference2Ideal Cert.Reference2Ideal.Gen Idealize.ShloMosaic Idealize.ShloMosaic.TcCoe Idealize.SL.Sem Cert.Row Cert.Ffn

attribute [local instance] Gen.facts

variable (m : (ℓ : Loc nD τ sig) → Buf (Elt Ideal) ℓ) (c : Dev nD)

/-- All hidden units at once add what their eleven blocks add. -/
theorem units (W : WIdx.Idx → EReal) (D : DIdx.Idx → EReal) (h : Fin 2048 → EReal) (e : Fin 2048) :
    ∑ l : Fin 5632, hid h (fun k => W (ix4 0 ⟨l.val / 512, by omega⟩ k ⟨l.val % 512, by omega⟩))
      (fun k => W (ix4 0 ⟨l.val / 512, by omega⟩ k ⟨512 + l.val % 512, by omega⟩)) * D (ix3 0 l e) = ∑ f : Fin 11, block W D h f e := by
  refine Eq.symm (Fin.sum_mul_add_congr fun f x hl => ?_)
  have h1 : (f.val * 512 + x.val) / 512 = f.val := by omega
  have h2 : (f.val * 512 + x.val) % 512 = x.val := by omega
  simp only [h1, h2]

/-- The reference's result at a row and a column. -/
theorem res_at (X : FVec Ideal S32768x2048 .f32) (G : FVec Ideal S2048 .f32) (W : FVec Ideal S2x11x2048x1024 .bf16)
    (D : FVec Ideal S2x5632x2048 .bf16) (P : FVec Ideal S2048 .f32)
    (hX : m ((c.tc : Thread nD τ).loc main_arg0) = X) (hG : m ((c.tc : Thread nD τ).loc main_arg1) = G)
    (hW : m ((c.tc : Thread nD τ).loc main_arg2) = W) (hD : m ((c.tc : Thread nD τ).loc main_arg3) = D)
    (hP : m ((c.tc : Thread nD τ).loc main_arg4) = P) (n : Fin 32768) (e : Fin 2048) :
    (show FVec Ideal S32768x2048 .f32 from Value.res_main_v43 m c) (ix2 n e) = result X G W D P n e := by
  unfold Value.res_main_v43
  rw [hX, hG, hW, hD, hP]
  pointwise
  exact congrArg (fun y => X (ix2 n e) + rms y (fun k => P (ix1 k)) e) (funext fun e => units W D (normed X G n) e)

/-- The reference's result, its arguments named by equations. -/
theorem res_eq (X : FVec Ideal S32768x2048 .f32) (G : FVec Ideal S2048 .f32) (W : FVec Ideal S2x11x2048x1024 .bf16)
    (D : FVec Ideal S2x5632x2048 .bf16) (P : FVec Ideal S2048 .f32)
    (hX : m ((c.tc : Thread nD τ).loc main_arg0) = X) (hG : m ((c.tc : Thread nD τ).loc main_arg1) = G)
    (hW : m ((c.tc : Thread nD τ).loc main_arg2) = W) (hD : m ((c.tc : Thread nD τ).loc main_arg3) = D)
    (hP : m ((c.tc : Thread nD τ).loc main_arg4) = P) :
    Value.res_main_v43 m c = fun i => result X G W D P (i 0) (i 1) := by
  funext i
  have e : i = ix2 (i 0) (i 1) := by funext a; fin_cases a <;> rfl
  exact (congrArg (Value.res_main_v43 m c) e).trans (res_at m c X G W D P hX hG hW hD hP (i 0) (i 1))

/-- The reference terminates, keeps its arguments, and ends with every semaphore at zero: it has none. -/
theorem frame (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2, funext fun x => by obtain ⟨_, (x | x)⟩ := x <;> exact x.elim0⟩) (Value.run m ρ)

end Cert.Reference2Ideal.Ffn

end
-- ==== Proof.Ffn.Pair.lean ====
/- The feed-forward sublayer: the kernel and the reference end with one array. -/
module

public import proofs.«01_k».proof.Defs
public import proofs.«01_k».proof.Proof.Ffn.Final
public import proofs.«01_k».proof.Proof.Ffn.Ref

@[expose] public section

set_option maxRecDepth 16384

noncomputable section

open Idealize.ShloMosaic Idealize.SL.Sem

namespace Cert.Ffn

attribute [local instance] Cert.Kernel2Ideal.Gen.facts Cert.Reference2Ideal.Gen.facts

/-- From any arguments the kernel and the reference end with equal results, and keep their arguments. -/
theorem agree : Cert.algebraic_Kernel2Ideal_Reference2Ideal := by
  intro m g m' g' _ harg
  refine ⟨_, Cert.Kernel2Ideal.Value.run_blocks m g, ?_⟩
  refine (θ_run _ _ _).mono (fun r h c => ⟨(h c).1.trans ?_, (h c).2⟩) (Cert.Reference2Ideal.Value.run m' g')
  obtain ⟨h0, h1, h2, h3, h4⟩ := harg c
  exact (Cert.Reference2Ideal.Ffn.res_eq m' c _ _ _ _ _ h0 h1 h2 h3 h4).trans (Cert.Kernel2Ideal.Ffn.final m c).symm

end Cert.Ffn

end
-- ==== Proof.Pool.Point.lean ====
/- The even layer's output sublayer, over the reals: what a grid point leaves in its block. -/
module

public import proofs.«01_k».proof.Proof.Gen.Kernel8Ideal.Value
public import proofs.«01_k».proof.Proof.Row

@[expose] public section

set_option maxRecDepth 16384

noncomputable section

namespace Cert.Pool

open Idealize.ShloMosaic Cert.Row

/-- What one group of pooled columns adds to a row. -/
def part (p : Fin 256 → EReal) (a : Fin 256 → Fin 256 → EReal) (b : Fin 256 → EReal) (w : Fin 256 → Fin 2048 → EReal) (e : Fin 2048) : EReal :=
  ∑ d, (∑ k, p k * a k d) * b d * w d e

/-- How many rows a window that ends at position `s` holds. -/
def count (s : BitVec 32) (w : BitVec 32) : EReal := FloatOps.sitofp (F := Ideal) .f32 (IntOp.minsi (s + 1#32) w)

/-- The mean of the last `w` rows less the last one; `f l` is the row `l` before it. -/
def pool (f : ℕ → EReal) (s : BitVec 32) (w : ℕ) : EReal := Ideal.div (∑ l : Fin w, f l.val) (count s (BitVec.ofNat 32 w)) - f 0

/-- The groups' windows. -/
def wins : Fin 4 → ℕ := ![2, 4, 8, 16]

/-- Column `k` of group `g`. -/
def col4 (g : Fin 4) (k : Fin 256) : Fin 1024 := ⟨g.val * 256 + k.val, by omega⟩

/-- Row `k` of the output weight's upper half. -/
def lo (k : Fin 1024) : Fin 2048 := ⟨k.val, by omega⟩

/-- Row `k` of the output weight's lower half. -/
def hi (k : Fin 1024) : Fin 2048 := ⟨1024 + k.val, by omega⟩

/-- The attention's columns and the four groups' columns times the output weight. -/
def mixed (o : Fin 1024 → EReal) (p : Fin 4 → Fin 256 → EReal) (a : Fin 4 → Fin 256 → Fin 256 → EReal) (b : Fin 1024 → EReal) (w : Fin 2048 → Fin 2048 → EReal)
    (e : Fin 2048) : EReal :=
  ∑ k, o k * w (lo k) e + ∑ g : Fin 4, part (p g) (a g) (fun k => b (col4 g k)) (fun k => w (hi (col4 g k))) e

/-- The entry `l` rows before row `n` in column `c` of the pooled columns, zero before the sequence's first row. -/
def back (P : (⟨2, ![32768, 4096]⟩ : Shape).Idx → EReal) (n : Fin 32768) (c : Fin 1024) (l : ℕ) : EReal :=
  if l ≤ n.val % 16384 then P (ix2 ⟨n.val - l, by omega⟩ ⟨3072 + c.val, by omega⟩) else 0

/-- Row `n` of the result at column `e`. -/
def result (O : (⟨2, ![32768, 1024]⟩ : Shape).Idx → EReal) (P : (⟨2, ![32768, 4096]⟩ : Shape).Idx → EReal) (A : (⟨3, ![4, 256, 256]⟩ : Shape).Idx → EReal)
    (B : (⟨1, ![1024]⟩ : Shape).Idx → EReal) (W : (⟨2, ![2048, 2048]⟩ : Shape).Idx → EReal) (G : (⟨1, ![2048]⟩ : Shape).Idx → EReal)
    (X : (⟨2, ![32768, 2048]⟩ : Shape).Idx → EReal) (n : Fin 32768) (e : Fin 2048) : EReal :=
  X (ix2 n e) + rms (mixed (fun k => O (ix2 n k)) (fun g k => pool (back P n (col4 g k)) (BitVec.ofNat 32 (n.val % 16384)) (wins g)) (fun g k d => A (ix3 g k d))
    (fun k => B (ix1 k)) (fun k e => W (ix2 k e))) (fun k => G (ix1 k)) e

end Cert.Pool

namespace Cert.Kernel8Ideal.Pool

open Cert.Kernel8Ideal Cert.Kernel8Ideal.Gen Idealize.ShloMosaic Idealize.ShloMosaic.TcCoe Idealize.SL.Sem Cert.Row Cert.Pool

/-- The rows before a sub-block above its own. -/
def cat (h : FVec Ideal S16x256 .f32) (u : FVec Ideal S512x256 .bf16) : FVec Ideal S528x256 .f32 :=
  concatenate S528x256 0 [⟨S16x256, h⟩, ⟨S512x256, extf .f32 u bitsLt_bf16_f32⟩] concatenates_S16x256_S512x256_S528x256_d0

/-- Sums of two rows. -/
def t2 (v : FVec Ideal S528x256 .f32) : FVec Ideal S527x256 .f32 :=
  addf (extractStridedSlice S527x256 ![1, 0] v slices_S528x256_o1_0_S527x256) (extractStridedSlice S527x256 ![0, 0] v slices_S528x256_o0_0_S527x256)
/-- Sums of four rows. -/
def t4 (v : FVec Ideal S528x256 .f32) : FVec Ideal S525x256 .f32 :=
  addf (extractStridedSlice S525x256 ![2, 0] (t2 v) slices_S527x256_o2_0_S525x256) (extractStridedSlice S525x256 ![0, 0] (t2 v) slices_S527x256_o0_0_S525x256)
/-- Sums of eight rows. -/
def t8 (v : FVec Ideal S528x256 .f32) : FVec Ideal S521x256 .f32 :=
  addf (extractStridedSlice S521x256 ![4, 0] (t4 v) slices_S525x256_o4_0_S521x256) (extractStridedSlice S521x256 ![0, 0] (t4 v) slices_S525x256_o0_0_S521x256)
/-- Sums of sixteen rows. -/
def t16 (v : FVec Ideal S528x256 .f32) : FVec Ideal S513x256 .f32 :=
  addf (extractStridedSlice S513x256 ![8, 0] (t8 v) slices_S521x256_o8_0_S513x256) (extractStridedSlice S513x256 ![0, 0] (t8 v) slices_S521x256_o0_0_S513x256)
/-- The windows of two rows that end in the sub-block. -/
def w2 (v : FVec Ideal S528x256 .f32) : FVec Ideal S512x256 .f32 := extractStridedSlice S512x256 ![15, 0] (t2 v) slices_S527x256_o15_0_S512x256
/-- The windows of four rows that end in the sub-block. -/
def w4 (v : FVec Ideal S528x256 .f32) : FVec Ideal S512x256 .f32 := extractStridedSlice S512x256 ![13, 0] (t4 v) slices_S525x256_o13_0_S512x256
/-- The windows of eight rows that end in the sub-block. -/
def w8 (v : FVec Ideal S528x256 .f32) : FVec Ideal S512x256 .f32 := extractStridedSlice S512x256 ![9, 0] (t8 v) slices_S521x256_o9_0_S512x256
/-- The windows of sixteen rows that end in the sub-block. -/
def w16 (v : FVec Ideal S528x256 .f32) : FVec Ideal S512x256 .f32 := extractStridedSlice S512x256 ![1, 0] (t16 v) slices_S513x256_o1_0_S512x256

/-- The windows' sums divided by their lengths, less the rows. -/
def mean (s : FVec Ideal S512x256 .f32) (p : IVec S512x1 32) (w : BitVec 32) (u : FVec Ideal S512x256 .bf16) : FVec Ideal S512x256 .bf16 :=
  truncf .bf16 (subf (divf s (broadcastTo S512x256 (sitofp .f32 (minsi (addi p (broadcast S512x1 1#32)) (broadcast S512x1 w))) broadcasts_S512x1_S512x256))
    (extf .f32 u bitsLt_bf16_f32)) bitsLt_bf16_f32

/-- A group's product with its weight, scaled, times its rows of the output weight, added. -/
def mix (y : FVec Ideal S512x2048 .f32) (p : FVec Ideal S512x256 .bf16) (a : FVec Ideal S1x256x256 .bf16) (b : FVec Ideal S1x256 .f32) (w : FVec Ideal S256x2048 .bf16) :
    FVec Ideal S512x2048 .f32 :=
  addf y (matmul dot_S512x256_S256x2048_S512x2048_1_0_0_1_n_n none (truncf .bf16 (mulf
    (matmul dot_S512x256_S256x256_S512x256_1_0_0_1_n_n none p (shapeCast S256x256 a shapeCasts_S1x256x256_S256x256) (constant S512x256 .f32 0x00000000#32))
    (broadcastTo S512x256 (shapeCast S1x256 b shapeCasts_S1x256_S1x256) broadcasts_S1x256_S512x256)) bitsLt_bf16_f32) w (constant S512x2048 .f32 0x00000000#32))

section payloads

variable (i : grid0.Coords) (h : Vec Ideal S16x1024 .bf16) (v5 : FVec Ideal S16x1024 .f32) (q : IVec S512x1 32) (y : FVec Ideal S512x2048 .f32)
  (u u' : Vec Ideal S512x256 .bf16) (a a' : Vec Ideal S1x256x256 .bf16) (b b' : Vec Ideal S1x256 .f32) (w w' : Vec Ideal S256x2048 .bf16)
  (x : Vec Ideal S512x2048 .f32) (g : Vec Ideal S1x2048 .f32) (o : Vec Ideal S512x1024 .bf16) (w0 : Vec Ideal S1024x2048 .bf16) (v0 : BitVec 32)

/-- The first two groups of the upper half. -/
theorem pay7_eq : k0_pay7 v5 q y (k0_pay5 i h u a) (k0_pay6 b) w u' a' b' w'
    = mix (mix y (mean (w2 (cat (extractStridedSlice S16x256 ![0, 0] (k0_pay2 i h) slices_S16x1024_o0_0_S16x256) u)) (k0_pay3 i) 2#32 u) a b w)
      (mean (w4 (cat (extractStridedSlice S16x256 ![0, 256] v5 slices_S16x1024_o0_256_S16x256) u')) q 4#32 u') a' b' w' := rfl

/-- The third group of the upper half. -/
theorem pay12_eq : k0_pay12 q y (k0_pay8 u) (k0_pay10 v5 u) (k0_pay11 v5 u) a b w
    = mix y (mean (w8 (cat (extractStridedSlice S16x256 ![0, 512] v5 slices_S16x1024_o0_512_S16x256) u)) q 8#32 u) a b w := rfl

/-- The first group of the lower half. -/
theorem pay19_eq : k0_pay19 v0 v5 o w0 u a b w
    = mix (k0_pay4 o w0) (mean (w2 (cat (extractStridedSlice S16x256 ![0, 0] v5 slices_S16x1024_o0_0_S16x256) u)) (k0_pay18 v0) 2#32 u) a b w := rfl

/-- The second group of the lower half. -/
theorem pay21_eq : k0_pay21 v5 q y (k0_pay20 u) a b w
    = mix y (mean (w4 (cat (extractStridedSlice S16x256 ![0, 256] v5 slices_S16x1024_o0_256_S16x256) u)) q 4#32 u) a b w := rfl

/-- The third group of the lower half. -/
theorem pay25_eq : k0_pay25 y (k0_pay22 u) (k0_pay23 v5 u) (k0_pay24 q) 8#32 a b w
    = mix y (mean (w8 (cat (extractStridedSlice S16x256 ![0, 512] v5 slices_S16x1024_o0_512_S16x256) u)) q 8#32 u) a b w := rfl

/-- The pooled columns of the last group. -/
theorem pay26_eq : k0_pay26 v5 q u = mean (w16 (cat (extractStridedSlice S16x256 ![0, 768] v5 slices_S16x1024_o0_768_S16x256) u)) q 16#32 u := rfl

/-- The last group of the upper half, and the norm, spelt as in the lower half. -/
theorem pay16_eq : k0_pay16 q y (k0_pay13 u) (k0_pay14 v5 u) k0_pay15 a b w x g = k0_pay1 y (k0_pay26 v5 q u) a b w x g := rfl

variable (r : Fin 512) (e : Fin 2048) (p : FVec Ideal S512x256 .bf16) (s : FVec Ideal S512x256 .f32) (c : BitVec 32) (j : Fin 256) (v : FVec Ideal S528x256 .f32)

/-- What a group's columns add to row `r`. -/
abbrev adds (p : FVec Ideal S512x256 .bf16) (a : Vec Ideal S1x256x256 .bf16) (b : Vec Ideal S1x256 .f32) (w : Vec Ideal S256x2048 .bf16) (r : Fin 512) : Fin 2048 → EReal :=
  part (fun k => p (ix2 r k)) (fun k d => a (ix3 0 k d)) (fun d => b (ix2 0 d)) fun d e => w (ix2 d e)

/-- An entry of a group's sum. -/
theorem mix_at : mix y p a b w (ix2 r e) = y (ix2 r e) + adds p a b w r e := by
  pointwise [mix]; rfl

/-- An entry of the attention's product. -/
theorem pay4_at : k0_pay4 o w0 (ix2 r e) = ∑ k : Fin 1024, o (ix2 r k) * w0 (ix2 k e) := by
  pointwise [k0_pay4]

/-- The last group, and the norm of the sum added to the row. -/
theorem last_at : k0_pay1 y p a b w x g (ix2 r e) = x (ix2 r e) + rms (fun e => y (ix2 r e) + adds p a b w r e) (fun k => g (ix2 0 k)) e := by
  pointwise [k0_pay1]; rfl

/-- An entry of the pooled columns. -/
theorem mean_at : mean s q c u (ix2 r j) = Ideal.div (s (ix2 r j)) (count (q (ix2 r 0)) c) - u (ix2 r j) := by
  pointwise [mean]; rfl

/-- A row above `r` in the rows with those before them. -/
abbrev up (r : Fin 512) (l : ℕ) : Fin 528 := ⟨16 + r.val - l, by omega⟩

theorem w2_at : w2 v (ix2 r j) = ∑ l : Fin 2, v (ix2 (up r l.val) j) := by
  rw [Fin.sum_univ_two]
  pointwise [w2, t2]
  refine congrArg₂ (· + ·) (congrArg v (congrArg (ix2 · j) (Fin.ext ?_))) (congrArg v (congrArg (ix2 · j) (Fin.ext ?_)))
  all_goals dsimp only; omega

theorem w4_at : w4 v (ix2 r j) = ∑ l : Fin 4, v (ix2 (up r l.val) j) := by
  rw [Fin.sum_univ_four]
  pointwise [w4, t4, t2]
  simp only [← add_assoc]
  repeat' refine congrArg₂ (· + ·) ?_ ?_
  all_goals refine congrArg v (congrArg (ix2 · j) (Fin.ext ?_))
  all_goals dsimp only; omega

theorem w8_at : w8 v (ix2 r j) = ∑ l : Fin 8, v (ix2 (up r l.val) j) := by
  rw [Fin.sum_univ_eight]
  pointwise [w8, t8, t4, t2]
  simp only [← add_assoc]
  repeat' refine congrArg₂ (· + ·) ?_ ?_
  all_goals refine congrArg v (congrArg (ix2 · j) (Fin.ext ?_))
  all_goals dsimp only; omega

theorem w16_at : w16 v (ix2 r j) = ∑ l : Fin 16, v (ix2 (up r l.val) j) := by
  rw [Fin.sum_univ_eq_sum_range (fun l => v (ix2 (up r l) j)) 16]
  simp only [Finset.sum_range_succ, Finset.sum_range_zero, zero_add]
  pointwise [w16, t16, t8, t4, t2]
  simp only [← add_assoc]
  repeat' refine congrArg₂ (· + ·) ?_ ?_
  all_goals refine congrArg v (congrArg (ix2 · j) (Fin.ext ?_))
  all_goals dsimp only; omega

/-- An entry of the rows with those before them. -/
theorem cat_at (f : FVec Ideal S16x256 .f32) (l : ℕ) (hl : l < 16) : cat f u (ix2 (up r l) j)
    = if h : l ≤ r.val then u (ix2 ⟨r.val - l, by omega⟩ j) else f (ix2 ⟨(16 + r.val - l) % 16, by omega⟩ j) := by
  unfold cat
  split
  · pointwise
    rw [dif_neg (by omega)]
    exact congrArg u (congrArg (ix2 · j) (Fin.ext (by dsimp only; omega)))
  · pointwise
    rw [dif_pos (by omega)]
    exact congrArg f (congrArg (ix2 · j) (Fin.ext (by dsimp only; omega)))

/-- A grid point's place in its sequence. -/
theorem rem_eq : ∀ n : Fin 32, Scalar.remsi (BitVec.ofNat 32 n.val) 16#32 = BitVec.ofNat 32 (n.val % 16) := by decide

/-- Whether a grid point is not the first of its sequence. -/
theorem pos_eq : ∀ n : Fin 32, Scalar.cmpi .sgt (BitVec.ofNat 32 (n.val % 16)) 0#32 = if n.val % 16 = 0 then 0#1 else 1#1 := by decide

/-- The position of a row of the upper half. -/
theorem pay3_at : k0_pay3 i (ix2 r 0) = BitVec.ofNat 32 ((i 0).val % 16 * 1024 + r.val) := by
  pointwise [k0_pay3]
  obtain ⟨n, hn⟩ : ∃ n : Fin 32, (i 0).val = n.val := ⟨i 0, rfl⟩
  rw [hn, rem_eq]
  show BitVec.ofNat 32 _ * BitVec.ofNat 32 1024 + BitVec.ofNat 32 0 + BitVec.ofNat 32 _ = _
  simp only [BitVec.ofNat_add, BitVec.ofNat_mul, BitVec.ofNat_eq_ofNat, BitVec.add_zero]

/-- The position of a row of the lower half. -/
theorem pay18_at : k0_pay18 (Scalar.remsi (BitVec.ofNat 32 (i 0).val) 16#32) (ix2 r 0) = BitVec.ofNat 32 ((i 0).val % 16 * 1024 + (512 + r.val)) := by
  pointwise [k0_pay18]
  obtain ⟨n, hn⟩ : ∃ n : Fin 32, (i 0).val = n.val := ⟨i 0, rfl⟩
  rw [hn, rem_eq]
  show BitVec.ofNat 32 _ * BitVec.ofNat 32 1024 + BitVec.ofNat 32 512 + BitVec.ofNat 32 _ = _
  simp only [BitVec.ofNat_add, BitVec.ofNat_mul, BitVec.ofNat_eq_ofNat, BitVec.add_assoc]

/-- The rows before a block, zero before the first block of a sequence. -/
theorem pay2_at (k : Fin 16) (d : Fin 1024) : k0_pay2 i h (ix2 k d) = if (i 0).val % 16 = 0 then 0 else h (ix2 k d) := by
  pointwise [k0_pay2]
  obtain ⟨n, hn⟩ : ∃ n : Fin 32, (i 0).val = n.val := ⟨i 0, rfl⟩
  rw [hn, rem_eq, pos_eq]
  split <;> rfl

end payloads

section blocks

variable (i : grid0.Coords) (x0 x1 : Vec Ideal S1024x1024 .bf16) (x2 : Vec Ideal S16x1024 .bf16) (x3 : Vec Ideal S4x256x256 .bf16) (x4 : Vec Ideal S1x1024 .f32)
  (x5 : Vec Ideal S2048x2048 .bf16) (x6 : Vec Ideal S1x2048 .f32) (x7 : Vec Ideal S1024x2048 .f32) (v5 : FVec Ideal S16x1024 .f32)

/-- The entry `l` rows before row `R` of a block, or of the rows before the block. -/
def bk (R : Fin 1024) (c : Fin 1024) (l : ℕ) : EReal :=
  if l ≤ R.val then x1 (ix2 ⟨R.val - l, by omega⟩ c) else v5 (ix2 ⟨(16 + R.val - l) % 16, by omega⟩ c)

/-- An entry of the columns of a group in the rows before. -/
theorem slice_at (p : ℕ) (hs : S16x1024.Slices ![0, p] S16x256) (k : Fin 16) (j : Fin 256) (c : Fin 1024) (hc : c.val = p + j.val) :
    extractStridedSlice S16x256 ![0, p] v5 hs (ix2 k j) = v5 (ix2 k c) := by
  refine extractStridedSlice_apply _ v5 _ _ (ix2 k c) fun q => ?_
  match q with
  | ⟨0, _⟩ => show k.val = 0 + k.val; omega
  | ⟨1, _⟩ => exact hc

/-- An entry of one group's weight. -/
theorem ld_layer (p : ℕ) (inb : ∀ q, (![p, 0, 0] : Fin 3 → ℕ) q + S1x256x256.size q ≤ S4x256x256.size q) (g : Fin 4) (hg : g.val = p) (k d : Fin 256) :
    View.ld x3 (Rect.unit (s := S4x256x256) ![p, 0, 0] S1x256x256.size inb) (ix3 0 k d) = x3 (ix3 g k d) := by
  rw [View.ld_unit]
  refine extractStridedSlice_apply _ x3 _ _ (ix3 g k d) fun q => ?_
  match q with
  | ⟨0, _⟩ => exact hg
  | ⟨1, _⟩ => show k.val = 0 + k.val; omega
  | ⟨2, _⟩ => show d.val = 0 + d.val; omega

/-- A row of a group of the upper half, or one before it. -/
theorem cat_up (p : ℕ) (hs : S16x1024.Slices ![0, p] S16x256) (inb : ∀ a, (![0, p] : Fin 2 → ℕ) a + S512x256.size a ≤ S1024x1024.size a)
    (r : Fin 512) (R : Fin 1024) (hR : R.val = 0 + r.val) (j : Fin 256) (c : Fin 1024) (hc : c.val = p + j.val) (l : ℕ) (hl : l < 16) :
    cat (extractStridedSlice S16x256 ![0, p] v5 hs) (View.ld x1 (Rect.unit (s := S1024x1024) ![0, p] S512x256.size inb)) (ix2 (up r l) j) = bk x1 v5 R c l := by
  rw [cat_at _ _ _ _ _ hl, bk]
  by_cases h : l ≤ r.val
  · rw [dif_pos h, if_pos (by omega)]
    exact ld_at x1 _ _ _ _ _ _ _ (by show R.val - l = 0 + (r.val - l); omega) hc
  · rw [dif_neg h, if_neg (by omega), slice_at v5 p hs _ j c hc]
    exact congrArg v5 (congrArg (ix2 · c) (Fin.ext (by dsimp only; omega)))

/-- A row of a group of the lower half, or one before it. -/
theorem cat_lo (p : ℕ) (hs : S16x1024.Slices ![0, p] S16x256) (inb : ∀ a, (![512, p] : Fin 2 → ℕ) a + S512x256.size a ≤ S1024x1024.size a)
    (r : Fin 512) (R : Fin 1024) (hR : R.val = 512 + r.val) (j : Fin 256) (c : Fin 1024) (hc : c.val = p + j.val) (l : ℕ) (hl : l < 16) :
    cat (extractStridedSlice S16x256 ![0, p] (k0_pay17 (View.ld x1 r0_21)) hs) (View.ld x1 (Rect.unit (s := S1024x1024) ![512, p] S512x256.size inb)) (ix2 (up r l) j)
      = bk x1 v5 R c l := by
  rw [cat_at _ _ _ _ _ hl, bk, if_pos (by omega)]
  by_cases h : l ≤ r.val
  · rw [dif_pos h]
    exact ld_at x1 _ _ _ _ _ _ _ (by show R.val - l = 512 + (r.val - l); omega) hc
  · rw [dif_neg h, slice_at _ p hs _ j c hc]
    exact ld_at x1 _ _ _ _ _ _ _ (by show R.val - l = 496 + (16 + r.val - l) % 16; omega) (by omega)

/-- What a group adds to a row, read from the blocks. -/
theorem adds_eq (g : Fin 4) (p p' : ℕ) (hp : p = g.val * 256) (hp' : p' = 1024 + g.val * 256) (k0 : ℕ) (hk : g.val = k0) (u : Vec Ideal S512x256 .bf16) (f : FVec Ideal S16x256 .f32)
    (inb3 : ∀ q, (![k0, 0, 0] : Fin 3 → ℕ) q + S1x256x256.size q ≤ S4x256x256.size q)
    (inb4 : ∀ a, (![0, p] : Fin 2 → ℕ) a + S1x256.size a ≤ S1x1024.size a)
    (inb5 : ∀ a, (![p', 0] : Fin 2 → ℕ) a + S256x2048.size a ≤ S2048x2048.size a)
    (r : Fin 512) (R : Fin 1024) (q : IVec S512x1 32) (S : BitVec 32) (hq : q (ix2 r 0) = S) (s : FVec Ideal S512x256 .f32) (c : BitVec 32) (hc : c = BitVec.ofNat 32 (wins g))
    (hw : wins g ≤ 16) (hs : ∀ j, s (ix2 r j) = ∑ l : Fin (wins g), cat f u (ix2 (up r l.val) j))
    (hcat : ∀ j l, l < 16 → cat f u (ix2 (up r l) j) = bk x1 v5 R (col4 g j) l) (hu : ∀ j, u (ix2 r j) = x1 (ix2 R (col4 g j))) (e : Fin 2048) :
    adds (mean s q c u) (View.ld x3 (Rect.unit (s := S4x256x256) ![k0, 0, 0] S1x256x256.size inb3)) (View.ld x4 (Rect.unit (s := S1x1024) ![0, p] S1x256.size inb4))
      (View.ld x5 (Rect.unit (s := S2048x2048) ![p', 0] S256x2048.size inb5)) r e
    = part (fun k => pool (bk x1 v5 R (col4 g k)) S (wins g)) (fun k d => x3 (ix3 g k d)) (fun k => x4 (ix2 0 (col4 g k))) (fun k e => x5 (ix2 (hi (col4 g k)) e)) e := by
  have e0 : (fun k => mean s q c u (ix2 r k)) = fun k => pool (bk x1 v5 R (col4 g k)) S (wins g) := by
    funext k
    rw [mean_at, hs, hq, hc, hu]
    unfold Cert.Pool.pool
    refine congrArg₂ (· - ·) (congrArg (Ideal.div · _) (Finset.sum_congr rfl fun l _ => hcat k l.val (by omega))) ?_
    rw [bk, if_pos (by omega)]
    rfl
  have e1 : (fun k d => View.ld x3 (Rect.unit (s := S4x256x256) ![k0, 0, 0] S1x256x256.size inb3) (ix3 0 k d)) = fun k d => x3 (ix3 g k d) :=
    funext fun k => funext fun d => ld_layer x3 k0 inb3 g hk k d
  have e2 : (fun k => View.ld x4 (Rect.unit (s := S1x1024) ![0, p] S1x256.size inb4) (ix2 0 k)) = fun k => x4 (ix2 0 (col4 g k)) :=
    funext fun k => ld_at x4 _ _ _ _ _ 0 _ (by rfl) (by show g.val * 256 + k.val = _; omega)
  have e3 : (fun k e => View.ld x5 (Rect.unit (s := S2048x2048) ![p', 0] S256x2048.size inb5) (ix2 k e)) = fun k e => x5 (ix2 (hi (col4 g k)) e) :=
    funext fun k => funext fun e => ld_at x5 _ _ _ _ _ _ e (by show 1024 + (g.val * 256 + k.val) = _; omega) (by omega)
  exact congr (congr (congr (congr (congrArg part e0) e1) e2) e3) rfl

/-- The attention's product, read from the blocks. -/
theorem dot_eq (o : ℕ) (inb0 : ∀ a, (![o, 0] : Fin 2 → ℕ) a + S512x1024.size a ≤ S1024x1024.size a) (inb5 : ∀ a, (![0, 0] : Fin 2 → ℕ) a + S1024x2048.size a ≤ S2048x2048.size a)
    (r : Fin 512) (R : Fin 1024) (hR : R.val = o + r.val) (e : Fin 2048) :
    k0_pay4 (View.ld x0 (Rect.unit (s := S1024x1024) ![o, 0] S512x1024.size inb0)) (View.ld x5 (Rect.unit (s := S2048x2048) ![0, 0] S1024x2048.size inb5)) (ix2 r e)
      = ∑ k : Fin 1024, x0 (ix2 R k) * x5 (ix2 (lo k) e) := by
  rw [pay4_at]
  exact Finset.sum_congr rfl fun k _ => congrArg₂ (· * ·) (ld_at x0 _ _ _ _ _ _ _ hR (by omega)) (ld_at x5 _ _ _ _ _ _ _ (by show k.val = 0 + k.val; omega) (by omega))

/-- The rows before the block. -/
abbrev before : FVec Ideal S16x1024 .f32 := k0_pay2 i (View.ld x2 r0_0)

/-- The result's block at a row and a column. -/
theorem out_at (R : Fin 1024) (e : Fin 2048) : out0_8 i x0 x1 x2 x3 x4 x5 x6 x7 (ix2 R e)
    = x7 (ix2 R e) + rms (mixed (fun k => x0 (ix2 R k)) (fun g k => pool (bk x1 (before i x2) R (col4 g k)) (BitVec.ofNat 32 ((i 0).val % 16 * 1024 + R.val)) (wins g))
        (fun g k d => x3 (ix3 g k d)) (fun k => x4 (ix2 0 k)) (fun k e => x5 (ix2 k e))) (fun k => x6 (ix2 0 k)) e := by
  unfold out0_8
  canon_tiles y h
  · idx_vars y
    obtain rfl : e = y1 := Fin.ext h1
    unfold k0_pay29 k0_pay30
    rw [pay19_eq, pay21_eq, pay25_eq, pay26_eq]
    have hq : k0_pay18 (Scalar.remsi (BitVec.ofNat 32 (i 0).val) 16#32) (ix2 y0 0) = BitVec.ofNat 32 ((i 0).val % 16 * 1024 + R.val) :=
      (pay18_at i y0).trans (congrArg (BitVec.ofNat 32) (by omega))
    refine (last_at _ _ _ _ _ _ _ _ _).trans ?_
    refine congrArg₂ (· + ·) (ld_at x7 _ _ _ _ _ R e (by omega) (by omega)) (congrArg₂ (fun x g => rms x g e) (funext fun e => ?_) (funext fun k => ?_))
    · rw [mix_at, mix_at, mix_at]
      unfold mixed
      rw [Fin.sum_univ_four, ← add_assoc, ← add_assoc, ← add_assoc]
      refine congrArg₂ (· + ·) (congrArg₂ (· + ·) (congrArg₂ (· + ·) (congrArg₂ (· + ·) ?_ ?_) ?_) ?_) ?_
      · exact dot_eq x0 x5 512 _ _ _ R (by omega) e
      · exact adds_eq x1 x3 x4 x5 (before i x2) 0 0 1024 rfl rfl 0 rfl _ _ _ _ _ _ R _ _ hq _ _ rfl (by decide) (fun j => w2_at _ _ _) (fun j l hl => cat_lo x1 (before i x2) 0 _ _ _ R (by omega) j _ (by show 0 * 256 + j.val = _; omega) l hl) (fun j => ld_at x1 _ _ _ _ _ R _ (by omega) (by show 0 * 256 + j.val = _; omega)) e
      · exact adds_eq x1 x3 x4 x5 (before i x2) 1 256 1280 rfl rfl 1 rfl _ _ _ _ _ _ R _ _ hq _ _ rfl (by decide) (fun j => w4_at _ _ _) (fun j l hl => cat_lo x1 (before i x2) 256 _ _ _ R (by omega) j _ (by show 1 * 256 + j.val = _; omega) l hl) (fun j => ld_at x1 _ _ _ _ _ R _ (by omega) (by show 1 * 256 + j.val = _; omega)) e
      · exact adds_eq x1 x3 x4 x5 (before i x2) 2 512 1536 rfl rfl 2 rfl _ _ _ _ _ _ R _ _ hq _ _ rfl (by decide) (fun j => w8_at _ _ _) (fun j l hl => cat_lo x1 (before i x2) 512 _ _ _ R (by omega) j _ (by show 2 * 256 + j.val = _; omega) l hl) (fun j => ld_at x1 _ _ _ _ _ R _ (by omega) (by show 2 * 256 + j.val = _; omega)) e
      · exact adds_eq x1 x3 x4 x5 (before i x2) 3 768 1792 rfl rfl 3 rfl _ _ _ _ _ _ R _ _ hq _ _ rfl (by decide) (fun j => w16_at _ _ _) (fun j l hl => cat_lo x1 (before i x2) 768 _ _ _ R (by omega) j _ (by show 3 * 256 + j.val = _; omega) l hl) (fun j => ld_at x1 _ _ _ _ _ R _ (by omega) (by show 3 * 256 + j.val = _; omega)) e
    · exact ld_at x6 _ _ _ _ _ 0 k (by rfl) (by omega)
  · idx_vars y
    obtain rfl : e = y1 := Fin.ext h1
    unfold k0_pay28 k0_pay27
    rw [pay7_eq, pay12_eq, pay16_eq, pay26_eq]
    have hq : k0_pay3 i (ix2 y0 0) = BitVec.ofNat 32 ((i 0).val % 16 * 1024 + R.val) :=
      (pay3_at i y0).trans (congrArg (BitVec.ofNat 32) (by omega))
    refine (last_at _ _ _ _ _ _ _ _ _).trans ?_
    refine congrArg₂ (· + ·) (ld_at x7 _ _ _ _ _ R e (by omega) (by omega)) (congrArg₂ (fun x g => rms x g e) (funext fun e => ?_) (funext fun k => ?_))
    · rw [mix_at, mix_at, mix_at]
      unfold mixed
      rw [Fin.sum_univ_four, ← add_assoc, ← add_assoc, ← add_assoc]
      refine congrArg₂ (· + ·) (congrArg₂ (· + ·) (congrArg₂ (· + ·) (congrArg₂ (· + ·) ?_ ?_) ?_) ?_) ?_
      · exact dot_eq x0 x5 0 _ _ _ R (by omega) e
      · exact adds_eq x1 x3 x4 x5 (before i x2) 0 0 1024 rfl rfl 0 rfl _ _ _ _ _ _ R _ _ hq _ _ rfl (by decide) (fun j => w2_at _ _ _) (fun j l hl => cat_up x1 (before i x2) 0 _ _ _ R (by omega) j _ (by show 0 * 256 + j.val = _; omega) l hl) (fun j => ld_at x1 _ _ _ _ _ R _ (by omega) (by show 0 * 256 + j.val = _; omega)) e
      · exact adds_eq x1 x3 x4 x5 (before i x2) 1 256 1280 rfl rfl 1 rfl _ _ _ _ _ _ R _ _ hq _ _ rfl (by decide) (fun j => w4_at _ _ _) (fun j l hl => cat_up x1 (before i x2) 256 _ _ _ R (by omega) j _ (by show 1 * 256 + j.val = _; omega) l hl) (fun j => ld_at x1 _ _ _ _ _ R _ (by omega) (by show 1 * 256 + j.val = _; omega)) e
      · exact adds_eq x1 x3 x4 x5 (before i x2) 2 512 1536 rfl rfl 2 rfl _ _ _ _ _ _ R _ _ hq _ _ rfl (by decide) (fun j => w8_at _ _ _) (fun j l hl => cat_up x1 (before i x2) 512 _ _ _ R (by omega) j _ (by show 2 * 256 + j.val = _; omega) l hl) (fun j => ld_at x1 _ _ _ _ _ R _ (by omega) (by show 2 * 256 + j.val = _; omega)) e
      · exact adds_eq x1 x3 x4 x5 (before i x2) 3 768 1792 rfl rfl 3 rfl _ _ _ _ _ _ R _ _ hq _ _ rfl (by decide) (fun j => w16_at _ _ _) (fun j l hl => cat_up x1 (before i x2) 768 _ _ _ R (by omega) j _ (by show 3 * 256 + j.val = _; omega) l hl) (fun j => ld_at x1 _ _ _ _ _ R _ (by omega) (by show 3 * 256 + j.val = _; omega)) e
    · exact ld_at x6 _ _ _ _ _ 0 k (by rfl) (by omega)

end blocks

end Cert.Kernel8Ideal.Pool

end
-- ==== Proof.Pool.Final.lean ====
/- The even layer's output sublayer, over the reals: the result array. -/
module

public import proofs.«01_k».proof.Proof.Pool.Point

@[expose] public section

set_option maxRecDepth 16384

noncomputable section

namespace Cert.Kernel8Ideal.Pool

open Cert.Kernel8Ideal Cert.Kernel8Ideal.Gen Idealize.ShloMosaic Idealize.ShloMosaic.TcCoe Idealize.SL.Sem Cert.Row Cert.Pool
open Idealize.ShloMosaic.Pipeline (Dat)

variable (m : (ℓ : Loc nD τ sig) → Buf (Elt Ideal) ℓ) (c : Dev nD)

/-- The attention's rows. -/
abbrev aO : FVec Ideal S32768x1024 .bf16 := m ((c : Thread nD τ).loc main_arg0)
/-- The projections, whose last columns are pooled. -/
abbrev aP : FVec Ideal S32768x4096 .bf16 := m ((c : Thread nD τ).loc main_arg1)
/-- The groups' weights. -/
abbrev aA : FVec Ideal S4x256x256 .bf16 := m ((c : Thread nD τ).loc main_arg2)
/-- The scale of the pooled columns. -/
abbrev aB : FVec Ideal S1024 .f32 := m ((c : Thread nD τ).loc main_arg3)
/-- The output weight. -/
abbrev aW : FVec Ideal S2048x2048 .bf16 := m ((c : Thread nD τ).loc main_arg4)
/-- The last norm's weights. -/
abbrev aG : FVec Ideal S2048 .f32 := m ((c : Thread nD τ).loc main_arg5)
/-- The rows added to. -/
abbrev aX : FVec Ideal S32768x2048 .f32 := m ((c : Thread nD τ).loc main_arg6)

/-- The place of every block of a grid point. -/
theorem idx : ∀ t : Fin cfg0.N, win0_0.index t = ![t.val, 0] ∧ win0_1.index t = ![t.val, 3] ∧ win0_2.index t = ![t.val * 64 - 1, 3] ∧
    win0_3.index t = ![0, 0, 0] ∧ win0_4.index t = ![0, 0] ∧ win0_5.index t = ![0, 0] ∧ win0_6.index t = ![0, 0] ∧ win0_7.index t = ![t.val, 0] ∧ win0_8.index t = ![t.val, 0] :=
  (by decide +kernel : ∀ t : Fin grid0.N, _)

/-- A grid point's coordinate is its number. -/
theorem coord : ∀ t : Fin cfg0.N, (grid0.coords t 0).val = t.val := (by decide +kernel : ∀ t : Fin grid0.N, _)

/-- The scale as the kernel receives it. -/
theorem pre_b (k : Fin 1024) : (show FVec Ideal S1x1024 .f32 from V m c main_v0) (ix2 0 k) = aB m c (ix1 k) := by
  show StableHlo.after _ _ _ _ = _
  simp only [List.flatten_cons, List.flatten_nil, List.append_nil, List.cons_append, List.nil_append, hostOps0]
  after_results
  pointwise

/-- The last norm's weights as the kernel receives them. -/
theorem pre_g (k : Fin 2048) : (show FVec Ideal S1x2048 .f32 from V m c main_v1) (ix2 0 k) = aG m c (ix1 k) := by
  show StableHlo.after _ _ _ _ = _
  simp only [List.flatten_cons, List.flatten_nil, List.append_nil, List.cons_append, List.nil_append, hostOps0]
  after_results
  pointwise

section reads
variable (t : Fin cfg0.N)

/-- The attention's rows at a point. -/
theorem o_eq (r : Fin 1024) (n : Fin 32768) (h : n.val = t.val * 1024 + r.val) (k : Fin 1024) :
    (show FVec Ideal S1024x1024 .bf16 from iblk m c 0 t) (ix2 r k) = (m ((c : Thread nD τ).loc main_arg0)) (ix2 n k) := by
  blk_ext [iblk, V, idx t]

/-- The pooled columns of a point's rows. -/
theorem p_eq (r : Fin 1024) (n : Fin 32768) (h : n.val = t.val * 1024 + r.val) (k : Fin 1024) (j : Fin 4096) (hj : j.val = 3072 + k.val) :
    (show FVec Ideal S1024x1024 .bf16 from iblk m c 1 t) (ix2 r k) = (m ((c : Thread nD τ).loc main_arg1)) (ix2 n j) := by
  blk_ext [iblk, V, idx t]

/-- The pooled columns of the rows before a point's. -/
theorem b_eq (r : Fin 16) (n : Fin 32768) (h : n.val = (t.val * 64 - 1) * 16 + r.val) (k : Fin 1024) (j : Fin 4096) (hj : j.val = 3072 + k.val) :
    (show FVec Ideal S16x1024 .bf16 from iblk m c 2 t) (ix2 r k) = (m ((c : Thread nD τ).loc main_arg1)) (ix2 n j) := by
  blk_ext [iblk, V, idx t]

/-- The groups' weights at a point. -/
theorem a_eq (g : Fin 4) (k d : Fin 256) : (show FVec Ideal S4x256x256 .bf16 from iblk m c 3 t) (ix3 g k d) = (m ((c : Thread nD τ).loc main_arg2)) (ix3 g k d) := by
  blk_ext [iblk, V, idx t]

/-- The scale at a point. -/
theorem s_eq (k : Fin 1024) : (show FVec Ideal S1x1024 .f32 from iblk m c 4 t) (ix2 0 k) = aB m c (ix1 k) := by
  refine Eq.trans ?_ (pre_b m c k)
  show (show FVec Ideal S1x1024 .f32 from iblk m c 4 t) (ix2 0 k) = (show FVec Ideal S1x1024 .f32 from V m c main_v0) (ix2 0 k)
  blk_ext [iblk, idx t]

/-- The output weight at a point. -/
theorem w_eq (k j : Fin 2048) : (show FVec Ideal S2048x2048 .bf16 from iblk m c 5 t) (ix2 k j) = (m ((c : Thread nD τ).loc main_arg4)) (ix2 k j) := by
  blk_ext [iblk, V, idx t]

/-- The last norm's weights at a point. -/
theorem g_eq (k : Fin 2048) : (show FVec Ideal S1x2048 .f32 from iblk m c 6 t) (ix2 0 k) = aG m c (ix1 k) := by
  refine Eq.trans ?_ (pre_g m c k)
  show (show FVec Ideal S1x2048 .f32 from iblk m c 6 t) (ix2 0 k) = (show FVec Ideal S1x2048 .f32 from V m c main_v1) (ix2 0 k)
  blk_ext [iblk, idx t]

/-- The rows added to, at a point. -/
theorem x_eq (r : Fin 1024) (n : Fin 32768) (h : n.val = t.val * 1024 + r.val) (k : Fin 2048) :
    (show FVec Ideal S1024x2048 .f32 from iblk m c 7 t) (ix2 r k) = (m ((c : Thread nD τ).loc main_arg6)) (ix2 n k) := by
  blk_ext [iblk, V, idx t]

/-- The rows before a row, read from the blocks. -/
theorem bk_eq (r : Fin 1024) (n : Fin 32768) (h : n.val = t.val * 1024 + r.val) (k : Fin 1024) (l : ℕ) (hl : l < 17) :
    bk (iblk m c 1 t) (before (grid0.coords t) (iblk m c 2 t)) r k l = back (aP m c) n k l := by
  have ht : t.val < 32 := t.isLt
  unfold bk back
  by_cases h1 : l ≤ r.val
  · rw [if_pos h1, if_pos (by omega)]
    exact p_eq m c t _ _ (by show n.val - l = t.val * 1024 + (r.val - l); omega) _ _ rfl
  · rw [if_neg h1, before, pay2_at, coord]
    by_cases h2 : t.val % 16 = 0
    · rw [if_pos h2, if_neg (by omega)]
    · rw [if_neg h2, if_pos (by omega)]
      exact (ld_at (iblk m c 2 t) _ _ _ _ _ ⟨(16 + r.val - l) % 16, by omega⟩ k (by show _ = 0 + _; omega) (by omega)).trans
        (b_eq m c t _ _ (by show n.val - l = (t.val * 64 - 1) * 16 + (16 + r.val - l) % 16; omega) _ _ rfl)

end reads

/-- A point's block of the result. -/
theorem block_is (t : Fin cfg0.N) (r : Fin 1024) (n : Fin 32768) (h : n.val = t.val * 1024 + r.val) (e : Fin 2048) :
    out0_8 (grid0.coords t) (iblk m c 0 t) (iblk m c 1 t) (iblk m c 2 t) (iblk m c 3 t) (iblk m c 4 t) (iblk m c 5 t) (iblk m c 6 t) (iblk m c 7 t) (ix2 r e)
      = result (aO m c) (aP m c) (aA m c) (aB m c) (aW m c) (aG m c) (aX m c) n e := by
  have ht : t.val < 32 := t.isLt
  refine (out_at _ _ _ _ _ _ _ _ _ r e).trans ?_
  refine congrArg₂ (· + ·) (x_eq m c t r n h e) (congrArg₂ (fun x g => rms x g e) ?_ (funext fun k => g_eq m c t k))
  refine congr (congr (congr (congr (congrArg mixed (funext fun k => o_eq m c t r n h k)) (funext fun g => funext fun k => ?_))
    (funext fun g => funext fun k => funext fun d => a_eq m c t g k d)) (funext fun k => s_eq m c t k)) (funext fun k => funext fun e => w_eq m c t k e)
  rw [coord, show t.val % 16 * 1024 + r.val = n.val % 16384 by omega]
  have hw : ∀ g, wins g ≤ 16 := by decide
  unfold Cert.Pool.pool
  exact congrArg₂ (· - ·) (congrArg (Ideal.div · _) (Finset.sum_congr rfl fun l _ => bk_eq m c t r n h _ _ (by have := hw g; omega))) (bk_eq m c t r n h _ _ (by omega))

/-- The result array once every block is written. -/
theorem final : (dats m 0 c).arrAt 8 cfg0.N = fun i => result (aO m c) (aP m c) (aA m c) (aB m c) (aW m c) (aG m c) (aX m c) (i 0) (i 1) := by
  refine (dats m 0 c).arrAt_eq_of_covers 8 _ (by decide +kernel) fun t hf y => ?_
  rw [after0_8]
  have e : y = ix2 (y 0) (y 1) := by funext a; fin_cases a <;> rfl
  have h0 : (((cfg0.win 8).blk t).view.emb y 0).val = t.val * 1024 + (y 0).val := by
    show win0_8.index t 0 * 1024 + 1 * (y 0).val = _
    rw [(idx t).2.2.2.2.2.2.2.2]
    show t.val * 1024 + 1 * (y 0).val = _
    omega
  have h1 : (((cfg0.win 8).blk t).view.emb y 1) = y 1 := by
    refine Fin.ext ?_
    show win0_8.index t 1 * 2048 + 1 * (y 1).val = _
    rw [(idx t).2.2.2.2.2.2.2.2]
    show 0 * 2048 + 1 * (y 1).val = _
    omega
  rw [h1]
  refine Eq.trans ?_ (block_is m c t (y 0) _ h0 (y 1))
  generalize out0_8 (grid0.coords t) (iblk m c 0 t) (iblk m c 1 t) (iblk m c 2 t) (iblk m c 3 t) (iblk m c 4 t) (iblk m c 5 t) (iblk m c 6 t) (iblk m c 7 t) = f
  exact congrArg f e

end Cert.Kernel8Ideal.Pool

end
-- ==== Proof.Pool.Ref.lean ====
/- The even layer's output sublayer, over the reals: what the reference computes. -/
module

public import proofs.«01_k».proof.Proof.Gen.Reference8Ideal.Run
public import proofs.«01_k».proof.Proof.Pool.Final

@[expose] public section

set_option maxRecDepth 16384

noncomputable section

namespace Cert.Reference8Ideal.Pool

open Cert.Reference8Ideal Cert.Reference8Ideal.Gen Idealize.ShloMosaic Idealize.ShloMosaic.TcCoe Idealize.SL.Sem Cert.Row Cert.Pool

attribute [local instance] Gen.facts

variable (O : FVec Ideal S32768x1024 .bf16) (P : FVec Ideal S32768x4096 .bf16) (A : FVec Ideal S4x256x256 .bf16) (B : FVec Ideal S1024 .f32)
  (W : FVec Ideal S2048x2048 .bf16) (G : FVec Ideal S2048 .f32) (X : FVec Ideal S32768x2048 .f32)

/-- The first steps for the group pooled over two rows. -/
def p2 : FVec Ideal S2x16384x256 .f32 :=
  (subf (Host.divf (Host.reduceWindowAdd ![1, 2, 1] ![1, 1, 1] ![0, 1, 0] ![0, 0, 0] (shapeCast _ (extractStridedSlice S2x16384x1x256 ![0, 0, 0, 0] (shapeCast _ (extf .f32 (extractStridedSlice S32768x1024 ![0, 3072] P slices_S32768x4096_S32768x1024_0_3072) bitsLt_bf16_f32) shapeCasts_S32768x1024_S2x16384x4x256) slices_S2x16384x4x256_S2x16384x1x256_0_0_0_0) shapeCasts_S2x16384x1x256_S2x16384x256) (broadcastInDim S_ ![] bcast_S_S_ (constant S_ .f32 0x00000000#32)) reduceWindows_S2x16384x256_S2x16384x256_w1s1p0_0_w2s1p1_0_w1s1p0_0 h_S_) (broadcastInDim S2x16384x256 ![0, 1, 2] bcast_S1x16384x1_S2x16384x256_0_1_2 (broadcastInDim S1x16384x1 ![1] bcast_S16384_S1x16384x1_1 (sitofp .f32 (minsi (addi (iotaInDim S16384 32 0) (broadcastInDim S16384 ![] bcast_S_S16384 (constantI S_ 32 1#32))) (broadcastInDim S16384 ![] bcast_S_S16384 (constantI S_ 32 2#32))))))) (shapeCast _ (extractStridedSlice S2x16384x1x256 ![0, 0, 0, 0] (shapeCast _ (extf .f32 (extractStridedSlice S32768x1024 ![0, 3072] P slices_S32768x4096_S32768x1024_0_3072) bitsLt_bf16_f32) shapeCasts_S32768x1024_S2x16384x4x256) slices_S2x16384x4x256_S2x16384x1x256_0_0_0_0) shapeCasts_S2x16384x1x256_S2x16384x256))

/-- The first steps for the group pooled over four rows. -/
def p4 : FVec Ideal S2x16384x256 .f32 :=
  (subf (Host.divf (Host.reduceWindowAdd ![1, 4, 1] ![1, 1, 1] ![0, 3, 0] ![0, 0, 0] (shapeCast _ (extractStridedSlice S2x16384x1x256 ![0, 0, 1, 0] (shapeCast _ (extf .f32 (extractStridedSlice S32768x1024 ![0, 3072] P slices_S32768x4096_S32768x1024_0_3072) bitsLt_bf16_f32) shapeCasts_S32768x1024_S2x16384x4x256) slices_S2x16384x4x256_S2x16384x1x256_0_0_1_0) shapeCasts_S2x16384x1x256_S2x16384x256) (broadcastInDim S_ ![] bcast_S_S_ (constant S_ .f32 0x00000000#32)) reduceWindows_S2x16384x256_S2x16384x256_w1s1p0_0_w4s1p3_0_w1s1p0_0 h_S_) (broadcastInDim S2x16384x256 ![0, 1, 2] bcast_S1x16384x1_S2x16384x256_0_1_2 (broadcastInDim S1x16384x1 ![1] bcast_S16384_S1x16384x1_1 (sitofp .f32 (minsi (addi (iotaInDim S16384 32 0) (broadcastInDim S16384 ![] bcast_S_S16384 (constantI S_ 32 1#32))) (broadcastInDim S16384 ![] bcast_S_S16384 (constantI S_ 32 4#32))))))) (shapeCast _ (extractStridedSlice S2x16384x1x256 ![0, 0, 1, 0] (shapeCast _ (extf .f32 (extractStridedSlice S32768x1024 ![0, 3072] P slices_S32768x4096_S32768x1024_0_3072) bitsLt_bf16_f32) shapeCasts_S32768x1024_S2x16384x4x256) slices_S2x16384x4x256_S2x16384x1x256_0_0_1_0) shapeCasts_S2x16384x1x256_S2x16384x256))

/-- The first steps for the group pooled over eight rows. -/
def p8 : FVec Ideal S2x16384x256 .f32 :=
  (subf (Host.divf (Host.reduceWindowAdd ![1, 8, 1] ![1, 1, 1] ![0, 7, 0] ![0, 0, 0] (shapeCast _ (extractStridedSlice S2x16384x1x256 ![0, 0, 2, 0] (shapeCast _ (extf .f32 (extractStridedSlice S32768x1024 ![0, 3072] P slices_S32768x4096_S32768x1024_0_3072) bitsLt_bf16_f32) shapeCasts_S32768x1024_S2x16384x4x256) slices_S2x16384x4x256_S2x16384x1x256_0_0_2_0) shapeCasts_S2x16384x1x256_S2x16384x256) (broadcastInDim S_ ![] bcast_S_S_ (constant S_ .f32 0x00000000#32)) reduceWindows_S2x16384x256_S2x16384x256_w1s1p0_0_w8s1p7_0_w1s1p0_0 h_S_) (broadcastInDim S2x16384x256 ![0, 1, 2] bcast_S1x16384x1_S2x16384x256_0_1_2 (broadcastInDim S1x16384x1 ![1] bcast_S16384_S1x16384x1_1 (sitofp .f32 (minsi (addi (iotaInDim S16384 32 0) (broadcastInDim S16384 ![] bcast_S_S16384 (constantI S_ 32 1#32))) (broadcastInDim S16384 ![] bcast_S_S16384 (constantI S_ 32 8#32))))))) (shapeCast _ (extractStridedSlice S2x16384x1x256 ![0, 0, 2, 0] (shapeCast _ (extf .f32 (extractStridedSlice S32768x1024 ![0, 3072] P slices_S32768x4096_S32768x1024_0_3072) bitsLt_bf16_f32) shapeCasts_S32768x1024_S2x16384x4x256) slices_S2x16384x4x256_S2x16384x1x256_0_0_2_0) shapeCasts_S2x16384x1x256_S2x16384x256))

/-- The first steps for the group pooled over sixteen rows. -/
def p16 : FVec Ideal S2x16384x256 .f32 :=
  (subf (Host.divf (Host.reduceWindowAdd ![1, 16, 1] ![1, 1, 1] ![0, 15, 0] ![0, 0, 0] (shapeCast _ (extractStridedSlice S2x16384x1x256 ![0, 0, 3, 0] (shapeCast _ (extf .f32 (extractStridedSlice S32768x1024 ![0, 3072] P slices_S32768x4096_S32768x1024_0_3072) bitsLt_bf16_f32) shapeCasts_S32768x1024_S2x16384x4x256) slices_S2x16384x4x256_S2x16384x1x256_0_0_3_0) shapeCasts_S2x16384x1x256_S2x16384x256) (broadcastInDim S_ ![] bcast_S_S_ (constant S_ .f32 0x00000000#32)) reduceWindows_S2x16384x256_S2x16384x256_w1s1p0_0_w16s1p15_0_w1s1p0_0 h_S_) (broadcastInDim S2x16384x256 ![0, 1, 2] bcast_S1x16384x1_S2x16384x256_0_1_2 (broadcastInDim S1x16384x1 ![1] bcast_S16384_S1x16384x1_1 (sitofp .f32 (minsi (addi (iotaInDim S16384 32 0) (broadcastInDim S16384 ![] bcast_S_S16384 (constantI S_ 32 1#32))) (broadcastInDim S16384 ![] bcast_S_S16384 (constantI S_ 32 16#32))))))) (shapeCast _ (extractStridedSlice S2x16384x1x256 ![0, 0, 3, 0] (shapeCast _ (extf .f32 (extractStridedSlice S32768x1024 ![0, 3072] P slices_S32768x4096_S32768x1024_0_3072) bitsLt_bf16_f32) shapeCasts_S32768x1024_S2x16384x4x256) slices_S2x16384x4x256_S2x16384x1x256_0_0_3_0) shapeCasts_S2x16384x1x256_S2x16384x256))

/-- The groups' products with their weights, scaled. -/
def yR : FVec Ideal S32768x1024 .f32 :=
  (mulf (shapeCast _ (transpose S2x16384x4x256 [2, 3, 0, 1] (Host.dotGeneral dot_S4x256x256_S2x16384x4x256_S4x256x2x16384_1_3_2_01_0_2 none (extf .f32 A bitsLt_bf16_f32) (concatenate S2x16384x4x256 2 [⟨S2x16384x1x256, ((broadcastInDim S2x16384x1x256 ![0, 1, 3] bcast_S2x16384x256_S2x16384x1x256_0_1_3 (p2 P)) : (⟨S2x16384x1x256, .f32⟩ : BufTy).Contents (Elt Ideal))⟩, ⟨S2x16384x1x256, ((broadcastInDim S2x16384x1x256 ![0, 1, 3] bcast_S2x16384x256_S2x16384x1x256_0_1_3 (p4 P)) : (⟨S2x16384x1x256, .f32⟩ : BufTy).Contents (Elt Ideal))⟩, ⟨S2x16384x1x256, ((broadcastInDim S2x16384x1x256 ![0, 1, 3] bcast_S2x16384x256_S2x16384x1x256_0_1_3 (p8 P)) : (⟨S2x16384x1x256, .f32⟩ : BufTy).Contents (Elt Ideal))⟩, ⟨S2x16384x1x256, ((broadcastInDim S2x16384x1x256 ![0, 1, 3] bcast_S2x16384x256_S2x16384x1x256_0_1_3 (p16 P)) : (⟨S2x16384x1x256, .f32⟩ : BufTy).Contents (Elt Ideal))⟩] concatenates_S2x16384x1x256_S2x16384x1x256_S2x16384x1x256_S2x16384x1x256_S2x16384x4x256_d2 : FVec Ideal S2x16384x4x256 .f32)) transposes_S4x256x2x16384_S2x16384x4x256_2_3_0_1) shapeCasts_S2x16384x4x256_S32768x1024) (broadcastInDim S32768x1024 ![0, 1] bcast_S1x1024_S32768x1024_0_1 (broadcastInDim S1x1024 ![1] bcast_S1024_S1x1024_1 B)))

/-- The product with the output weight. -/
def zR : FVec Ideal S32768x2048 .f32 :=
  (Host.dotGeneral dot_S32768x2048_S2048x2048_S32768x2048_1_0_0_1_n_n none (concatenate S32768x2048 1 [⟨S32768x1024, (extf .f32 O bitsLt_bf16_f32)⟩, ⟨S32768x1024, (yR P A B)⟩] concatenates_S32768x1024_S32768x1024_S32768x2048_d1) (extf .f32 W bitsLt_bf16_f32))

/-- The norm added to the rows. -/
def resR : FVec Ideal S32768x2048 .f32 :=
  addf X (mulf (mulf (zR O P A B W) (broadcastInDim S32768x2048 ![0, 1] bcast_S32768x1_S32768x2048_0_1 (Host.rsqrt (addf (Host.divf (broadcastInDim S32768x1 ![0] bcast_S32768_S32768x1_0 (Host.reduceAdd (mulf (zR O P A B W) (zR O P A B W)) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 G)))

/-- The reference's result in these steps. -/
theorem res_steps (m : (ℓ : Loc nD τ sig) → Buf (Elt Ideal) ℓ) (c : Dev nD) : Value.res_main_v85 m c
    = resR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  unfold Value.res_main_v85 resR zR yR p2 p4 p8 p16
  rfl

/-- Adding up a list of numbers one by one. -/
theorem foldl_add {N : ℕ} (f : Fin N → EReal) (v : EReal) : (List.finRange N).foldl (fun r k => r + f k) v = v + ∑ k, f k := by
  rw [Fin.sum_univ_def]
  generalize List.finRange N = l
  induction l generalizing v with
  | nil => simp
  | cons a l ih => rw [List.foldl_cons, ih, List.map_cons, List.sum_cons, add_assoc]

/-- The positions of a window one wide but along the sequence. -/
def line (w : ℕ) : Fin w ≃ (⟨3, ![1, w, 1]⟩ : Shape).Idx where
  toFun k := ix3 0 k 0
  invFun i := i 1
  left_inv _ := rfl
  right_inv i := by
    conv_rhs => rw [eq_ix3 i]
    rw [Fin.fin_one_eq_zero (i 0 : Fin 1), Fin.fin_one_eq_zero (i 2 : Fin 1)]

/-- A window of the rows of a sequence that ends at a row: the sum of the last `w` rows. -/
theorem running (w : ℕ) (x : FVec Ideal S2x16384x256 .f32) (z : FVec Ideal S_ .f32) (hz : ∀ i, z i = 0)
    (hr : S2x16384x256.ReduceWindows (![1, w, 1] : Fin 3 → Nat) ![1, 1, 1] ![0, w - 1, 0] ![0, 0, 0] S2x16384x256) (β : Fin 2) (s : Fin 16384) (d : Fin 256) :
    Host.reduceWindowAdd ![1, w, 1] ![1, 1, 1] ![0, w - 1, 0] ![0, 0, 0] x z hr h_S_ (ix3 β s d)
      = ∑ l : Fin w, if l.val ≤ s.val then x (ix3 β ⟨s.val - l.val, by omega⟩ d) else 0 := by
  unfold Host.reduceWindowAdd
  show Ideal.hostReduceWindowAdd ![1, w, 1] ![1, 1, 1] ![0, w - 1, 0] ![0, 0, 0] hr x (z _) (ix3 β s d) = _
  rw [hz]
  unfold Ideal.hostReduceWindowAdd Host.reduceWindow
  dsimp only
  rw [foldl_add, zero_add]
  refine (Fintype.sum_equiv (Fin.revPerm.trans ((line w).trans (Shape.rowMajor ⟨3, ![1, w, 1]⟩))) _ _ fun l => ?_).symm
  have hw : (Shape.rowMajor ⟨3, ![1, w, 1]⟩).symm ((Fin.revPerm.trans ((line w).trans (Shape.rowMajor ⟨3, ![1, w, 1]⟩))) l) = ix3 0 (Fin.rev l) 0 :=
    Equiv.symm_apply_apply (Shape.rowMajor ⟨3, ![1, w, 1]⟩) (ix3 0 (Fin.rev l) 0)
  simp only [hw]
  have hl := l.isLt
  have hv : (Fin.rev l).val = w - (l.val + 1) := Fin.val_rev l
  have hs := s.isLt
  have hβ := β.isLt
  have hd := d.isLt
  by_cases hc : l.val ≤ s.val
  · rw [if_pos hc, dif_pos]
    · refine congrArg x (funext fun a => Fin.ext ?_)
      fin_cases a
      · show β.val = β.val * 1 + 0 - 0; omega
      · show s.val - l.val = s.val * 1 + (Fin.rev l).val - (w - 1); omega
      · show d.val = d.val * 1 + 0 - 0; omega
    · intro a
      fin_cases a
      · show 0 ≤ β.val * 1 + 0 ∧ β.val * 1 + 0 - 0 < 2; omega
      · show w - 1 ≤ s.val * 1 + (Fin.rev l).val ∧ s.val * 1 + (Fin.rev l).val - (w - 1) < 16384; omega
      · show 0 ≤ d.val * 1 + 0 ∧ d.val * 1 + 0 - 0 < 256; omega
  · rw [if_neg hc, dif_neg]
    intro ha
    have h1 : w - 1 ≤ s.val * 1 + (Fin.rev l).val ∧ s.val * 1 + (Fin.rev l).val - (w - 1) < 16384 := ha 1
    omega

variable (β : Fin 2) (s : Fin 16384) (j : Fin 256) (n : Fin 32768) (hn : n.val = β.val * 16384 + s.val)

/-- The zero a window starts from. -/
theorem zero_at : ∀ i, (broadcastInDim S_ ![] bcast_S_S_ (constant S_ .f32 0x00000000#32) : FVec Ideal S_ .f32) i = 0 := by
  intro i
  pointwise

include hn in
/-- An entry of group 0's pooled columns. -/
theorem p2_at : p2 P (ix3 β s j) = pool (back P n (col4 0 j)) (BitVec.ofNat 32 (n.val % 16384)) (wins 0) := by
  pointwise [p2]
  have hm : n.val % 16384 = s.val := by omega
  rw [hm]
  unfold Cert.Pool.pool
  refine congrArg₂ (· - ·) (congrArg (Ideal.div · _) ((running 2 _ _ zero_at _ β s j).trans (Finset.sum_congr rfl fun l _ => ?_))) ?_
  · unfold back
    rw [hm]
    by_cases hc : l.val ≤ s.val
    rotate_left
    · rw [if_neg hc, if_neg hc]
    rw [if_pos hc, if_pos hc]
    pointwise
    exact congrArg₂ (fun a b => P (ix2 a b)) (Fin.ext (by dsimp only; omega)) (Fin.ext (by show _ = 3072 + (0 * 256 + j.val); dsimp only <;> omega))
  · unfold back
    rw [if_pos (Nat.zero_le _)]
    exact congrArg₂ (fun a b => P (ix2 a b)) (Fin.ext (by dsimp only; omega)) (Fin.ext (by show _ = 3072 + (0 * 256 + j.val); dsimp only <;> omega))

include hn in
/-- An entry of group 1's pooled columns. -/
theorem p4_at : p4 P (ix3 β s j) = pool (back P n (col4 1 j)) (BitVec.ofNat 32 (n.val % 16384)) (wins 1) := by
  pointwise [p4]
  have hm : n.val % 16384 = s.val := by omega
  rw [hm]
  unfold Cert.Pool.pool
  refine congrArg₂ (· - ·) (congrArg (Ideal.div · _) ((running 4 _ _ zero_at _ β s j).trans (Finset.sum_congr rfl fun l _ => ?_))) ?_
  · unfold back
    rw [hm]
    by_cases hc : l.val ≤ s.val
    rotate_left
    · rw [if_neg hc, if_neg hc]
    rw [if_pos hc, if_pos hc]
    pointwise
    exact congrArg₂ (fun a b => P (ix2 a b)) (Fin.ext (by dsimp only; omega)) (Fin.ext (by show _ = 3072 + (1 * 256 + j.val); dsimp only <;> omega))
  · unfold back
    rw [if_pos (Nat.zero_le _)]
    exact congrArg₂ (fun a b => P (ix2 a b)) (Fin.ext (by dsimp only; omega)) (Fin.ext (by show _ = 3072 + (1 * 256 + j.val); dsimp only <;> omega))

include hn in
/-- An entry of group 2's pooled columns. -/
theorem p8_at : p8 P (ix3 β s j) = pool (back P n (col4 2 j)) (BitVec.ofNat 32 (n.val % 16384)) (wins 2) := by
  pointwise [p8]
  have hm : n.val % 16384 = s.val := by omega
  rw [hm]
  unfold Cert.Pool.pool
  refine congrArg₂ (· - ·) (congrArg (Ideal.div · _) ((running 8 _ _ zero_at _ β s j).trans (Finset.sum_congr rfl fun l _ => ?_))) ?_
  · unfold back
    rw [hm]
    by_cases hc : l.val ≤ s.val
    rotate_left
    · rw [if_neg hc, if_neg hc]
    rw [if_pos hc, if_pos hc]
    pointwise
    exact congrArg₂ (fun a b => P (ix2 a b)) (Fin.ext (by dsimp only; omega)) (Fin.ext (by show _ = 3072 + (2 * 256 + j.val); dsimp only <;> omega))
  · unfold back
    rw [if_pos (Nat.zero_le _)]
    exact congrArg₂ (fun a b => P (ix2 a b)) (Fin.ext (by dsimp only; omega)) (Fin.ext (by show _ = 3072 + (2 * 256 + j.val); dsimp only <;> omega))

include hn in
/-- An entry of group 3's pooled columns. -/
theorem p16_at : p16 P (ix3 β s j) = pool (back P n (col4 3 j)) (BitVec.ofNat 32 (n.val % 16384)) (wins 3) := by
  pointwise [p16]
  have hm : n.val % 16384 = s.val := by omega
  rw [hm]
  unfold Cert.Pool.pool
  refine congrArg₂ (· - ·) (congrArg (Ideal.div · _) ((running 16 _ _ zero_at _ β s j).trans (Finset.sum_congr rfl fun l _ => ?_))) ?_
  · unfold back
    rw [hm]
    by_cases hc : l.val ≤ s.val
    rotate_left
    · rw [if_neg hc, if_neg hc]
    rw [if_pos hc, if_pos hc]
    pointwise
    exact congrArg₂ (fun a b => P (ix2 a b)) (Fin.ext (by dsimp only; omega)) (Fin.ext (by show _ = 3072 + (3 * 256 + j.val); dsimp only <;> omega))
  · unfold back
    rw [if_pos (Nat.zero_le _)]
    exact congrArg₂ (fun a b => P (ix2 a b)) (Fin.ext (by dsimp only; omega)) (Fin.ext (by show _ = 3072 + (3 * 256 + j.val); dsimp only <;> omega))

/-- An entry of a group's product, scaled. -/
theorem yR_at (g : Fin 4) (d : Fin 256) : yR P A B (ix2 n (col4 g d))
    = (∑ k, pool (back P n (col4 g k)) (BitVec.ofNat 32 (n.val % 16384)) (wins g) * A (ix3 g k d)) * B (ix1 (col4 g d)) := by
  pointwise [yR]
  have hn : n.val = n.val / 16384 * 16384 + n.val % 16384 := by omega
  have hg : (col4 g d).val / 256 = g.val := by show (g.val * 256 + d.val) / 256 = g.val; omega
  have hd : (col4 g d).val % 256 = d.val := by show (g.val * 256 + d.val) % 256 = d.val; omega
  refine congrArg (· * B (ix1 (col4 g d))) (Finset.sum_congr rfl fun x _ => ?_)
  rw [mul_comm]
  refine congrArg₂ (· * ·) ?_ (congrArg₂ (fun a b => A (ix3 a x b)) (Fin.ext hg) (Fin.ext hd))
  fin_cases g
  · rw [dif_pos (by rw [hg]; decide)]
    exact p2_at P _ _ x n hn
  · rw [dif_neg (by rw [hg]; decide), dif_pos (by rw [hg]; decide)]
    exact p4_at P _ _ x n hn
  · rw [dif_neg (by rw [hg]; decide), dif_neg (by rw [hg]; decide), dif_pos (by rw [hg]; decide)]
    exact p8_at P _ _ x n hn
  · rw [dif_neg (by rw [hg]; decide), dif_neg (by rw [hg]; decide), dif_neg (by rw [hg]; decide)]
    exact p16_at P _ _ x n hn

/-- An entry of the product with the output weight. -/
theorem zR_at (e : Fin 2048) : zR O P A B W (ix2 n e)
    = mixed (fun k => O (ix2 n k)) (fun g k => pool (back P n (col4 g k)) (BitVec.ofNat 32 (n.val % 16384)) (wins g)) (fun g k d => A (ix3 g k d))
      (fun k => B (ix1 k)) (fun k e => W (ix2 k e)) e := by
  pointwise [zR]
  unfold mixed
  refine congrArg₂ (· + ·) rfl (Eq.symm ?_)
  refine Fin.sum_mul_add_congr fun g d hl => ?_
  exact (congrArg (· * W (ix2 (hi (col4 g d)) e)) (yR_at P A B n g d)).symm

/-- An entry of the result. -/
theorem resR_at (e : Fin 2048) : resR O P A B W G X (ix2 n e) = X (ix2 n e) + rms (fun e => zR O P A B W (ix2 n e)) (fun k => G (ix1 k)) e := by
  pointwise [resR]
  rfl

/-- What the reference returns, entry by entry. -/
theorem res_eq (m : (ℓ : Loc nD τ sig) → Buf (Elt Ideal) ℓ) (c : Dev nD) (n : Fin 32768) (e : Fin 2048) : Value.res_main_v85 m c (ix2 n e)
    = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) n e := by
  rw [res_steps, resR_at]
  refine congrArg₂ (· + ·) rfl (congrArg (fun x => rms x _ e) (funext fun e => zR_at _ _ _ _ _ n e))

end Cert.Reference8Ideal.Pool

end
-- ==== Proof.Pool.Pair.lean ====
/- The even layer's output sublayer: the kernel and the reference end with the same array. -/
module

public import proofs.«01_k».proof.Defs
public import proofs.«01_k».proof.Proof.Pool.Ref

@[expose] public section

set_option maxRecDepth 16384

noncomputable section

open Idealize.ShloMosaic Idealize.SL.Sem

namespace Cert.Reference8Ideal.Pool

open Cert.Reference8Ideal Cert.Reference8Ideal.Gen Idealize.ShloMosaic.TcCoe Cert.Row Cert.Pool

attribute [local instance] Gen.facts

variable (m : (ℓ : Loc nD τ sig) → Buf (Elt Ideal) ℓ) (ρ : Dev nD → PrngReg)

/-- The reference ends with the mixed columns' norm added to the rows, its arguments kept. -/
theorem run : θ_run (defs (F := Ideal)) (onTc (τ := τ) (main (F := Ideal))) ⟨m, fun _ => 0, ρ⟩ fun r => ∀ c : Dev nD,
      r.2.mem ((c.tc : Thread nD τ).loc main_v85) = (fun i => result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans ?_, (h c).2⟩) (Value.run m ρ)
  funext i
  obtain ⟨n, e, rfl⟩ : ∃ (n : Fin 32768) (e : Fin 2048), i = ix2 n e := ⟨i 0, i 1, by funext a; fin_cases a <;> rfl⟩
  exact res_eq m c n e

/-- The reference terminates, keeps its arguments, and ends with every semaphore at zero: it has none. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run defs _ _).mono (fun r h => ⟨fun c => (h c).2, funext fun x => by obtain ⟨_, (x | x)⟩ := x <;> exact x.elim0⟩) (Value.run m ρ)

end Cert.Reference8Ideal.Pool

namespace Cert.Pool

attribute [local instance] Cert.Kernel8Ideal.Gen.facts Cert.Reference8Ideal.Gen.facts

/-- Equal arguments, equal results. -/
theorem result_congr {O O' : (⟨2, ![32768, 1024]⟩ : Shape).Idx → EReal} {P P' : (⟨2, ![32768, 4096]⟩ : Shape).Idx → EReal} {A A' : (⟨3, ![4, 256, 256]⟩ : Shape).Idx → EReal}
    {B B' : (⟨1, ![1024]⟩ : Shape).Idx → EReal} {W W' : (⟨2, ![2048, 2048]⟩ : Shape).Idx → EReal} {G G' : (⟨1, ![2048]⟩ : Shape).Idx → EReal}
    {X X' : (⟨2, ![32768, 2048]⟩ : Shape).Idx → EReal}
    (hO : O = O') (hP : P = P') (hA : A = A') (hB : B = B') (hW : W = W') (hG : G = G') (hX : X = X') : result O P A B W G X = result O' P' A' B' W' G' X' := by
  subst hO hP hA hB hW hG hX; rfl

/-- From any arguments the kernel and the reference end with equal results, and keep their arguments. -/
theorem agree : Cert.algebraic_Kernel8Ideal_Reference8Ideal := by
  intro m g m' g' _ harg
  refine ⟨_, Cert.Kernel8Ideal.Value.run_blocks m g, ?_⟩
  refine (θ_run _ _ _).mono (fun r h c => ⟨(h c).1.trans ?_, (h c).2⟩) (Cert.Reference8Ideal.Pool.run m' g')
  obtain ⟨h0, h1, h2, h3, h4, h5, h6⟩ := harg c
  refine Eq.trans ?_ (Cert.Kernel8Ideal.Pool.final m c).symm
  exact funext fun i => congrFun (congrFun (result_congr h0 h1 h2 h3 h4 h5 h6) _) _

end Cert.Pool

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gla.Pair
public import proofs.«01_k».proof.Proof.Cross.Pair
public import proofs.«01_k».proof.Proof.Norm.Pair
public import proofs.«01_k».proof.Proof.Mix.Pair
public import proofs.«01_k».proof.Proof.Even.Pair
public import proofs.«01_k».proof.Proof.Cross0.Pair
public import proofs.«01_k».proof.Proof.Ffn.Pair
public import proofs.«01_k».proof.Proof.Pool.Pair
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Pre_finite.facts, Cert.Pre_finite3.facts, Cert.Pre_finite7.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gla.frame m ρ, fun m ρ _ => Cert.ReferenceIdeal.Gla.frame m ρ,
  fun m ρ _ => Cert.Kernel2.Gen.frame m ρ, fun m ρ _ => Cert.Kernel2Ideal.Gen.frame m ρ, fun m ρ _ => Cert.Reference2Ideal.Ffn.frame m ρ,
  fun m ρ _ => Cert.Kernel3.Gen.frame m ρ, fun m ρ _ => Cert.Kernel3Ideal.Gen.frame m ρ, fun m ρ _ => Cert.Kernel3Ideal.Gen.frame m ρ,
  fun m ρ _ => Cert.Reference3Ideal.Cross.frame m ρ, fun m ρ _ => Cert.Reference3Ideal.Cross.frame m ρ,
  fun m ρ _ => Cert.Kernel4.Gen.frame m ρ, fun m ρ _ => Cert.Kernel4Ideal.Gen.frame m ρ, fun m ρ _ => Cert.Reference4Ideal.Norm.frame m ρ,
  fun m ρ _ => Cert.Kernel5.Gen.frame m ρ, fun m ρ _ => Cert.Kernel5Ideal.Gen.frame m ρ, fun m ρ _ => Cert.Reference5Ideal.Mix.frame m ρ,
  fun m ρ _ => Cert.Kernel6.Gen.frame m ρ, fun m ρ _ => Cert.Kernel6Ideal.Gen.frame m ρ, fun m ρ _ => Cert.Reference6Ideal.Even.frame m ρ,
  fun m ρ _ => Cert.Kernel7.Gen.frame m ρ, fun m ρ _ => Cert.Kernel7Ideal.Gen.frame m ρ, fun m ρ _ => Cert.Kernel7Ideal.Gen.frame m ρ,
  fun m ρ _ => Cert.Reference7Ideal.Cross0.frame m ρ, fun m ρ _ => Cert.Reference7Ideal.Cross0.frame m ρ,
  fun m ρ _ => Cert.Kernel8.Gen.frame m ρ, fun m ρ _ => Cert.Kernel8Ideal.Gen.frame m ρ, fun m ρ _ => Cert.Reference8Ideal.Pool.frame m ρ,
  IdealRules.named_const.statement Cert.KernelIdeal.κ "log2e" .f32 0x3FB8AA3B#32 _ rfl, Cert.Gla.agree, trivial, Cert.Ffn.agree,
  trivial, Cert.Cross.agree, trivial, Cert.Norm.agree, trivial, Cert.Mix.agree, trivial, Cert.Even.agree,
  trivial, Cert.Cross0.agree, trivial, Cert.Pool.agree⟩

end Cert.Proof

end
